-- ==== Defs.lean ====
def Pre_InRnn (m : (ℓ : Loc Cert.InRnn.nD Cert.InRnn.τ Cert.InRnn.sig) → Buf (Elt Bits) ℓ) : Prop :=
  True

def Pre_InRnnIdeal (m : (ℓ : Loc Cert.InRnnIdeal.nD Cert.InRnnIdeal.τ Cert.InRnnIdeal.sig) → Buf (Elt Ideal) ℓ) : Prop :=
  True

def Pre_InRnnRefIdeal (m : (ℓ : Loc Cert.InRnnRefIdeal.nD Cert.InRnnRefIdeal.τ Cert.InRnnRefIdeal.sig) → Buf (Elt Ideal) ℓ) : Prop :=
  True

def Pre_InAttn (m : (ℓ : Loc Cert.InAttn.nD Cert.InAttn.τ Cert.InAttn.sig) → Buf (Elt Bits) ℓ) : Prop :=
  True

def Pre_InAttnIdeal (m : (ℓ : Loc Cert.InAttnIdeal.nD Cert.InAttnIdeal.τ Cert.InAttnIdeal.sig) → Buf (Elt Ideal) ℓ) : Prop :=
  True

def Pre_InAttnRefIdeal (m : (ℓ : Loc Cert.InAttnRefIdeal.nD Cert.InAttnRefIdeal.τ Cert.InAttnRefIdeal.sig) → Buf (Elt Ideal) ℓ) : Prop :=
  True

def Pre_InIdx (m : (ℓ : Loc Cert.InIdx.nD Cert.InIdx.τ Cert.InIdx.sig) → Buf (Elt Bits) ℓ) : Prop :=
  True

def Pre_InIdxIdeal (m : (ℓ : Loc Cert.InIdxIdeal.nD Cert.InIdxIdeal.τ Cert.InIdxIdeal.sig) → Buf (Elt Ideal) ℓ) : Prop :=
  True

def Pre_InIdxRefIdeal (m : (ℓ : Loc Cert.InIdxRefIdeal.nD Cert.InIdxRefIdeal.τ Cert.InIdxRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_Attn (m : (ℓ : Loc Cert.Attn.nD Cert.Attn.τ Cert.Attn.sig) → Buf (Elt Bits) ℓ) : Prop :=
  True

def Pre_Bias (m : (ℓ : Loc Cert.Bias.nD Cert.Bias.τ Cert.Bias.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_FfnResid (m : (ℓ : Loc Cert.FfnResid.nD Cert.FfnResid.τ Cert.FfnResid.sig) → Buf (Elt Bits) ℓ) : Prop :=
  True

def Pre_FfnResidIdeal (m : (ℓ : Loc Cert.FfnResidIdeal.nD Cert.FfnResidIdeal.τ Cert.FfnResidIdeal.sig) → Buf (Elt Ideal) ℓ) : Prop :=
  True

def Pre_FfnResidRefIdeal (m : (ℓ : Loc Cert.FfnResidRefIdeal.nD Cert.FfnResidRefIdeal.τ Cert.FfnResidRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def quiescent_InRnn [hInRnn : Cert.InRnn.Facts] : Prop :=
  ∀ (m : (ℓ : Loc Cert.InRnn.nD Cert.InRnn.τ Cert.InRnn.sig) → Buf (Elt Bits) ℓ) (g : Dev Cert.InRnn.nD → PrngReg), Pre_InRnn m →
    θ_run (Cert.InRnn.defs (F := Bits)) (onTc (τ := Cert.InRnn.τ) (Cert.InRnn.main (F := Bits))) ⟨m, fun _ => 0, g⟩ (fun r => (∀ c : Dev Cert.InRnn.nD,
      r.2.mem ((c.tc : Thread Cert.InRnn.nD Cert.InRnn.τ).loc Cert.InRnn.main_arg0) = m ((c.tc : Thread Cert.InRnn.nD Cert.InRnn.τ).loc Cert.InRnn.main_arg0)
      ∧ r.2.mem ((c.tc : Thread Cert.InRnn.nD Cert.InRnn.τ).loc Cert.InRnn.main_arg1) = m ((c.tc : Thread Cert.InRnn.nD Cert.InRnn.τ).loc Cert.InRnn.main_arg1))
      ∧ r.2.sem = fun _ => 0)

def quiescent_InRnnIdeal [hInRnnIdeal : Cert.InRnnIdeal.Facts] : Prop :=
  ∀ (m : (ℓ : Loc Cert.InRnnIdeal.nD Cert.InRnnIdeal.τ Cert.InRnnIdeal.sig) → Buf (Elt Ideal) ℓ) (g : Dev Cert.InRnnIdeal.nD → PrngReg), Pre_InRnnIdeal m →
    θ_run (Cert.InRnnIdeal.defs (F := Ideal)) (onTc (τ := Cert.InRnnIdeal.τ) (Cert.InRnnIdeal.main (F := Ideal))) ⟨m, fun _ => 0, g⟩ (fun r => (∀ c : Dev Cert.InRnnIdeal.nD,
      r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
      ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ r.2.sem = fun _ => 0)

def quiescent_InRnnRefIdeal [hInRnnRefIdeal : Cert.InRnnRefIdeal.Facts] : Prop :=
  ∀ (m : (ℓ : Loc Cert.InRnnRefIdeal.nD Cert.InRnnRefIdeal.τ Cert.InRnnRefIdeal.sig) → Buf (Elt Ideal) ℓ) (g : Dev Cert.InRnnRefIdeal.nD → PrngReg), Pre_InRnnRefIdeal m →
    θ_run (Cert.InRnnRefIdeal.defs (F := Ideal)) (onTc (τ := Cert.InRnnRefIdeal.τ) (Cert.InRnnRefIdeal.main (F := Ideal))) ⟨m, fun _ => 0, g⟩ (fun r => (∀ c : Dev Cert.InRnnRefIdeal.nD,
      r.2.mem ((c.tc : Thread Cert.InRnnRefIdeal.nD Cert.InRnnRefIdeal.τ).loc Cert.InRnnRefIdeal.main_arg0) = m ((c.tc : Thread Cert.InRnnRefIdeal.nD Cert.InRnnRefIdeal.τ).loc Cert.InRnnRefIdeal.main_arg0)
      ∧ r.2.mem ((c.tc : Thread Cert.InRnnRefIdeal.nD Cert.InRnnRefIdeal.τ).loc Cert.InRnnRefIdeal.main_arg1) = m ((c.tc : Thread Cert.InRnnRefIdeal.nD Cert.InRnnRefIdeal.τ).loc Cert.InRnnRefIdeal.main_arg1))
      ∧ r.2.sem = fun _ => 0)

def quiescent_InAttn [hInAttn : Cert.InAttn.Facts] : Prop :=
  ∀ (m : (ℓ : Loc Cert.InAttn.nD Cert.InAttn.τ Cert.InAttn.sig) → Buf (Elt Bits) ℓ) (g : Dev Cert.InAttn.nD → PrngReg), Pre_InAttn m →
    θ_run (Cert.InAttn.defs (F := Bits)) (onTc (τ := Cert.InAttn.τ) (Cert.InAttn.main (F := Bits))) ⟨m, fun _ => 0, g⟩ (fun r => (∀ c : Dev Cert.InAttn.nD,
      r.2.mem ((c.tc : Thread Cert.InAttn.nD Cert.InAttn.τ).loc Cert.InAttn.main_arg0) = m ((c.tc : Thread Cert.InAttn.nD Cert.InAttn.τ).loc Cert.InAttn.main_arg0)
      ∧ r.2.mem ((c.tc : Thread Cert.InAttn.nD Cert.InAttn.τ).loc Cert.InAttn.main_arg1) = m ((c.tc : Thread Cert.InAttn.nD Cert.InAttn.τ).loc Cert.InAttn.main_arg1))
      ∧ r.2.sem = fun _ => 0)

def quiescent_InAttnIdeal [hInAttnIdeal : Cert.InAttnIdeal.Facts] : Prop :=
  ∀ (m : (ℓ : Loc Cert.InAttnIdeal.nD Cert.InAttnIdeal.τ Cert.InAttnIdeal.sig) → Buf (Elt Ideal) ℓ) (g : Dev Cert.InAttnIdeal.nD → PrngReg), Pre_InAttnIdeal m →
    θ_run (Cert.InAttnIdeal.defs (F := Ideal)) (onTc (τ := Cert.InAttnIdeal.τ) (Cert.InAttnIdeal.main (F := Ideal))) ⟨m, fun _ => 0, g⟩ (fun r => (∀ c : Dev Cert.InAttnIdeal.nD,
      r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
      ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1))
      ∧ r.2.sem = fun _ => 0)

def quiescent_InAttnRefIdeal [hInAttnRefIdeal : Cert.InAttnRefIdeal.Facts] : Prop :=
  ∀ (m : (ℓ : Loc Cert.InAttnRefIdeal.nD Cert.InAttnRefIdeal.τ Cert.InAttnRefIdeal.sig) → Buf (Elt Ideal) ℓ) (g : Dev Cert.InAttnRefIdeal.nD → PrngReg), Pre_InAttnRefIdeal m →
    θ_run (Cert.InAttnRefIdeal.defs (F := Ideal)) (onTc (τ := Cert.InAttnRefIdeal.τ) (Cert.InAttnRefIdeal.main (F := Ideal))) ⟨m, fun _ => 0, g⟩ (fun r => (∀ c : Dev Cert.InAttnRefIdeal.nD,
      r.2.mem ((c.tc : Thread Cert.InAttnRefIdeal.nD Cert.InAttnRefIdeal.τ).loc Cert.InAttnRefIdeal.main_arg0) = m ((c.tc : Thread Cert.InAttnRefIdeal.nD Cert.InAttnRefIdeal.τ).loc Cert.InAttnRefIdeal.main_arg0)
      ∧ r.2.mem ((c.tc : Thread Cert.InAttnRefIdeal.nD Cert.InAttnRefIdeal.τ).loc Cert.InAttnRefIdeal.main_arg1) = m ((c.tc : Thread Cert.InAttnRefIdeal.nD Cert.InAttnRefIdeal.τ).loc Cert.InAttnRefIdeal.main_arg1))
      ∧ r.2.sem = fun _ => 0)

def quiescent_InIdx [hInIdx : Cert.InIdx.Facts] : Prop :=
  ∀ (m : (ℓ : Loc Cert.InIdx.nD Cert.InIdx.τ Cert.InIdx.sig) → Buf (Elt Bits) ℓ) (g : Dev Cert.InIdx.nD → PrngReg), Pre_InIdx m →
    θ_run (Cert.InIdx.defs (F := Bits)) (onTc (τ := Cert.InIdx.τ) (Cert.InIdx.main (F := Bits))) ⟨m, fun _ => 0, g⟩ (fun r => (∀ c : Dev Cert.InIdx.nD,
      r.2.mem ((c.tc : Thread Cert.InIdx.nD Cert.InIdx.τ).loc Cert.InIdx.main_arg0) = m ((c.tc : Thread Cert.InIdx.nD Cert.InIdx.τ).loc Cert.InIdx.main_arg0)
      ∧ r.2.mem ((c.tc : Thread Cert.InIdx.nD Cert.InIdx.τ).loc Cert.InIdx.main_arg1) = m ((c.tc : Thread Cert.InIdx.nD Cert.InIdx.τ).loc Cert.InIdx.main_arg1))
      ∧ r.2.sem = fun _ => 0)

def quiescent_InIdxIdeal [hInIdxIdeal : Cert.InIdxIdeal.Facts] : Prop :=
  ∀ (m : (ℓ : Loc Cert.InIdxIdeal.nD Cert.InIdxIdeal.τ Cert.InIdxIdeal.sig) → Buf (Elt Ideal) ℓ) (g : Dev Cert.InIdxIdeal.nD → PrngReg), Pre_InIdxIdeal m →
    θ_run (Cert.InIdxIdeal.defs (F := Ideal)) (onTc (τ := Cert.InIdxIdeal.τ) (Cert.InIdxIdeal.main (F := Ideal))) ⟨m, fun _ => 0, g⟩ (fun r => (∀ c : Dev Cert.InIdxIdeal.nD,
      r.2.mem ((c.tc : Thread Cert.InIdxIdeal.nD Cert.InIdxIdeal.τ).loc Cert.InIdxIdeal.main_arg0) = m ((c.tc : Thread Cert.InIdxIdeal.nD Cert.InIdxIdeal.τ).loc Cert.InIdxIdeal.main_arg0)
      ∧ r.2.mem ((c.tc : Thread Cert.InIdxIdeal.nD Cert.InIdxIdeal.τ).loc Cert.InIdxIdeal.main_arg1) = m ((c.tc : Thread Cert.InIdxIdeal.nD Cert.InIdxIdeal.τ).loc Cert.InIdxIdeal.main_arg1))
      ∧ r.2.sem = fun _ => 0)

def quiescent_InIdxRefIdeal [hInIdxRefIdeal : Cert.InIdxRefIdeal.Facts] : Prop :=
  ∀ (m : (ℓ : Loc Cert.InIdxRefIdeal.nD Cert.InIdxRefIdeal.τ Cert.InIdxRefIdeal.sig) → Buf (Elt Ideal) ℓ) (g : Dev Cert.InIdxRefIdeal.nD → PrngReg), Pre_InIdxRefIdeal m →
    θ_run (Cert.InIdxRefIdeal.defs (F := Ideal)) (onTc (τ := Cert.InIdxRefIdeal.τ) (Cert.InIdxRefIdeal.main (F := Ideal))) ⟨m, fun _ => 0, g⟩ (fun r => (∀ c : Dev Cert.InIdxRefIdeal.nD,
      r.2.mem ((c.tc : Thread Cert.InIdxRefIdeal.nD Cert.InIdxRefIdeal.τ).loc Cert.InIdxRefIdeal.main_arg0) = m ((c.tc : Thread Cert.InIdxRefIdeal.nD Cert.InIdxRefIdeal.τ).loc Cert.InIdxRefIdeal.main_arg0)
      ∧ r.2.mem ((c.tc : Thread Cert.InIdxRefIdeal.nD Cert.InIdxRefIdeal.τ).loc Cert.InIdxRefIdeal.main_arg1) = m ((c.tc : Thread Cert.InIdxRefIdeal.nD Cert.InIdxRefIdeal.τ).loc Cert.InIdxRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7))
      ∧ r.2.sem = fun _ => 0)

def quiescent_FfnResid [hFfnResid : Cert.FfnResid.Facts] : Prop :=
  ∀ (m : (ℓ : Loc Cert.FfnResid.nD Cert.FfnResid.τ Cert.FfnResid.sig) → Buf (Elt Bits) ℓ) (g : Dev Cert.FfnResid.nD → PrngReg), Pre_FfnResid m →
    θ_run (Cert.FfnResid.defs (F := Bits)) (onTc (τ := Cert.FfnResid.τ) (Cert.FfnResid.main (F := Bits))) ⟨m, fun _ => 0, g⟩ (fun r => (∀ c : Dev Cert.FfnResid.nD,
      r.2.mem ((c.tc : Thread Cert.FfnResid.nD Cert.FfnResid.τ).loc Cert.FfnResid.main_arg0) = m ((c.tc : Thread Cert.FfnResid.nD Cert.FfnResid.τ).loc Cert.FfnResid.main_arg0)
      ∧ r.2.mem ((c.tc : Thread Cert.FfnResid.nD Cert.FfnResid.τ).loc Cert.FfnResid.main_arg1) = m ((c.tc : Thread Cert.FfnResid.nD Cert.FfnResid.τ).loc Cert.FfnResid.main_arg1)
      ∧ r.2.mem ((c.tc : Thread Cert.FfnResid.nD Cert.FfnResid.τ).loc Cert.FfnResid.main_arg2) = m ((c.tc : Thread Cert.FfnResid.nD Cert.FfnResid.τ).loc Cert.FfnResid.main_arg2)
      ∧ r.2.mem ((c.tc : Thread Cert.FfnResid.nD Cert.FfnResid.τ).loc Cert.FfnResid.main_arg3) = m ((c.tc : Thread Cert.FfnResid.nD Cert.FfnResid.τ).loc Cert.FfnResid.main_arg3)
      ∧ r.2.mem ((c.tc : Thread Cert.FfnResid.nD Cert.FfnResid.τ).loc Cert.FfnResid.main_arg4) = m ((c.tc : Thread Cert.FfnResid.nD Cert.FfnResid.τ).loc Cert.FfnResid.main_arg4)
      ∧ r.2.mem ((c.tc : Thread Cert.FfnResid.nD Cert.FfnResid.τ).loc Cert.FfnResid.main_arg5) = m ((c.tc : Thread Cert.FfnResid.nD Cert.FfnResid.τ).loc Cert.FfnResid.main_arg5))
      ∧ r.2.sem = fun _ => 0)

def quiescent_FfnResidIdeal [hFfnResidIdeal : Cert.FfnResidIdeal.Facts] : Prop :=
  ∀ (m : (ℓ : Loc Cert.FfnResidIdeal.nD Cert.FfnResidIdeal.τ Cert.FfnResidIdeal.sig) → Buf (Elt Ideal) ℓ) (g : Dev Cert.FfnResidIdeal.nD → PrngReg), Pre_FfnResidIdeal m →
    θ_run (Cert.FfnResidIdeal.defs (F := Ideal)) (onTc (τ := Cert.FfnResidIdeal.τ) (Cert.FfnResidIdeal.main (F := Ideal))) ⟨m, fun _ => 0, g⟩ (fun r => (∀ c : Dev Cert.FfnResidIdeal.nD,
      r.2.mem ((c.tc : Thread Cert.FfnResidIdeal.nD Cert.FfnResidIdeal.τ).loc Cert.FfnResidIdeal.main_arg0) = m ((c.tc : Thread Cert.FfnResidIdeal.nD Cert.FfnResidIdeal.τ).loc Cert.FfnResidIdeal.main_arg0)
      ∧ r.2.mem ((c.tc : Thread Cert.FfnResidIdeal.nD Cert.FfnResidIdeal.τ).loc Cert.FfnResidIdeal.main_arg1) = m ((c.tc : Thread Cert.FfnResidIdeal.nD Cert.FfnResidIdeal.τ).loc Cert.FfnResidIdeal.main_arg1)
      ∧ r.2.mem ((c.tc : Thread Cert.FfnResidIdeal.nD Cert.FfnResidIdeal.τ).loc Cert.FfnResidIdeal.main_arg2) = m ((c.tc : Thread Cert.FfnResidIdeal.nD Cert.FfnResidIdeal.τ).loc Cert.FfnResidIdeal.main_arg2)
      ∧ r.2.mem ((c.tc : Thread Cert.FfnResidIdeal.nD Cert.FfnResidIdeal.τ).loc Cert.FfnResidIdeal.main_arg3) = m ((c.tc : Thread Cert.FfnResidIdeal.nD Cert.FfnResidIdeal.τ).loc Cert.FfnResidIdeal.main_arg3)
      ∧ r.2.mem ((c.tc : Thread Cert.FfnResidIdeal.nD Cert.FfnResidIdeal.τ).loc Cert.FfnResidIdeal.main_arg4) = m ((c.tc : Thread Cert.FfnResidIdeal.nD Cert.FfnResidIdeal.τ).loc Cert.FfnResidIdeal.main_arg4)
      ∧ r.2.mem ((c.tc : Thread Cert.FfnResidIdeal.nD Cert.FfnResidIdeal.τ).loc Cert.FfnResidIdeal.main_arg5) = m ((c.tc : Thread Cert.FfnResidIdeal.nD Cert.FfnResidIdeal.τ).loc Cert.FfnResidIdeal.main_arg5))
      ∧ r.2.sem = fun _ => 0)

def quiescent_FfnResidRefIdeal [hFfnResidRefIdeal : Cert.FfnResidRefIdeal.Facts] : Prop :=
  ∀ (m : (ℓ : Loc Cert.FfnResidRefIdeal.nD Cert.FfnResidRefIdeal.τ Cert.FfnResidRefIdeal.sig) → Buf (Elt Ideal) ℓ) (g : Dev Cert.FfnResidRefIdeal.nD → PrngReg), Pre_FfnResidRefIdeal m →
    θ_run (Cert.FfnResidRefIdeal.defs (F := Ideal)) (onTc (τ := Cert.FfnResidRefIdeal.τ) (Cert.FfnResidRefIdeal.main (F := Ideal))) ⟨m, fun _ => 0, g⟩ (fun r => (∀ c : Dev Cert.FfnResidRefIdeal.nD,
      r.2.mem ((c.tc : Thread Cert.FfnResidRefIdeal.nD Cert.FfnResidRefIdeal.τ).loc Cert.FfnResidRefIdeal.main_arg0) = m ((c.tc : Thread Cert.FfnResidRefIdeal.nD Cert.FfnResidRefIdeal.τ).loc Cert.FfnResidRefIdeal.main_arg0)
      ∧ r.2.mem ((c.tc : Thread Cert.FfnResidRefIdeal.nD Cert.FfnResidRefIdeal.τ).loc Cert.FfnResidRefIdeal.main_arg1) = m ((c.tc : Thread Cert.FfnResidRefIdeal.nD Cert.FfnResidRefIdeal.τ).loc Cert.FfnResidRefIdeal.main_arg1)
      ∧ r.2.mem ((c.tc : Thread Cert.FfnResidRefIdeal.nD Cert.FfnResidRefIdeal.τ).loc Cert.FfnResidRefIdeal.main_arg2) = m ((c.tc : Thread Cert.FfnResidRefIdeal.nD Cert.FfnResidRefIdeal.τ).loc Cert.FfnResidRefIdeal.main_arg2)
      ∧ r.2.mem ((c.tc : Thread Cert.FfnResidRefIdeal.nD Cert.FfnResidRefIdeal.τ).loc Cert.FfnResidRefIdeal.main_arg3) = m ((c.tc : Thread Cert.FfnResidRefIdeal.nD Cert.FfnResidRefIdeal.τ).loc Cert.FfnResidRefIdeal.main_arg3)
      ∧ r.2.mem ((c.tc : Thread Cert.FfnResidRefIdeal.nD Cert.FfnResidRefIdeal.τ).loc Cert.FfnResidRefIdeal.main_arg4) = m ((c.tc : Thread Cert.FfnResidRefIdeal.nD Cert.FfnResidRefIdeal.τ).loc Cert.FfnResidRefIdeal.main_arg4)
      ∧ r.2.mem ((c.tc : Thread Cert.FfnResidRefIdeal.nD Cert.FfnResidRefIdeal.τ).loc Cert.FfnResidRefIdeal.main_arg5) = m ((c.tc : Thread Cert.FfnResidRefIdeal.nD Cert.FfnResidRefIdeal.τ).loc Cert.FfnResidRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def preserves_InRnn_InRnnIdeal : Prop :=
  True

def algebraic_InRnnIdeal_InRnnRefIdeal [hInRnnIdeal : Cert.InRnnIdeal.Facts] [hInRnnRefIdeal : Cert.InRnnRefIdeal.Facts] : Prop :=
  ∀ (m : (ℓ : Loc Cert.InRnnIdeal.nD Cert.InRnnIdeal.τ Cert.InRnnIdeal.sig) → Buf (Elt Ideal) ℓ) (g : Dev Cert.InRnnIdeal.nD → PrngReg)
    (m' : (ℓ : Loc Cert.InRnnRefIdeal.nD Cert.InRnnRefIdeal.τ Cert.InRnnRefIdeal.sig) → Buf (Elt Ideal) ℓ) (g' : Dev Cert.InRnnRefIdeal.nD → PrngReg), Pre_InRnnIdeal m →
    (∀ c : Dev Cert.InRnnIdeal.nD,
      m' ((c.tc : Thread Cert.InRnnRefIdeal.nD Cert.InRnnRefIdeal.τ).loc Cert.InRnnRefIdeal.main_arg0) = m ((c.tc : Thread Cert.InRnnIdeal.nD Cert.InRnnIdeal.τ).loc Cert.InRnnIdeal.main_arg0)
      ∧ m' ((c.tc : Thread Cert.InRnnRefIdeal.nD Cert.InRnnRefIdeal.τ).loc Cert.InRnnRefIdeal.main_arg1) = m ((c.tc : Thread Cert.InRnnIdeal.nD Cert.InRnnIdeal.τ).loc Cert.InRnnIdeal.main_arg1)) →
    ∃ (v0 : (c : Dev Cert.InRnnIdeal.nD) → Buf (Elt Ideal) ((c.tc : Thread Cert.InRnnIdeal.nD Cert.InRnnIdeal.τ).loc Cert.InRnnIdeal.main_v2)),
      θ_run (Cert.InRnnIdeal.defs (F := Ideal)) (onTc (τ := Cert.InRnnIdeal.τ) (Cert.InRnnIdeal.main (F := Ideal))) ⟨m, fun _ => 0, g⟩ (fun r => ∀ c : Dev Cert.InRnnIdeal.nD,
          r.2.mem ((c.tc : Thread Cert.InRnnIdeal.nD Cert.InRnnIdeal.τ).loc Cert.InRnnIdeal.main_v2) = v0 c
          ∧ r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
          ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ θ_run (Cert.InRnnRefIdeal.defs (F := Ideal)) (onTc (τ := Cert.InRnnRefIdeal.τ) (Cert.InRnnRefIdeal.main (F := Ideal))) ⟨m', fun _ => 0, g'⟩ (fun r => ∀ c : Dev Cert.InRnnRefIdeal.nD,
          r.2.mem ((c.tc : Thread Cert.InRnnRefIdeal.nD Cert.InRnnRefIdeal.τ).loc Cert.InRnnRefIdeal.main_v3) = v0 c
          ∧ r.2.mem ((c.tc : Thread Cert.InRnnRefIdeal.nD Cert.InRnnRefIdeal.τ).loc Cert.InRnnRefIdeal.main_arg0) = m' ((c.tc : Thread Cert.InRnnRefIdeal.nD Cert.InRnnRefIdeal.τ).loc Cert.InRnnRefIdeal.main_arg0)
          ∧ r.2.mem ((c.tc : Thread Cert.InRnnRefIdeal.nD Cert.InRnnRefIdeal.τ).loc Cert.InRnnRefIdeal.main_arg1) = m' ((c.tc : Thread Cert.InRnnRefIdeal.nD Cert.InRnnRefIdeal.τ).loc Cert.InRnnRefIdeal.main_arg1))

def preserves_InAttn_InAttnIdeal : Prop :=
  True

def algebraic_InAttnIdeal_InAttnRefIdeal [hInAttnIdeal : Cert.InAttnIdeal.Facts] [hInAttnRefIdeal : Cert.InAttnRefIdeal.Facts] : Prop :=
  ∀ (m : (ℓ : Loc Cert.InAttnIdeal.nD Cert.InAttnIdeal.τ Cert.InAttnIdeal.sig) → Buf (Elt Ideal) ℓ) (g : Dev Cert.InAttnIdeal.nD → PrngReg)
    (m' : (ℓ : Loc Cert.InAttnRefIdeal.nD Cert.InAttnRefIdeal.τ Cert.InAttnRefIdeal.sig) → Buf (Elt Ideal) ℓ) (g' : Dev Cert.InAttnRefIdeal.nD → PrngReg), Pre_InAttnIdeal m →
    (∀ c : Dev Cert.InAttnIdeal.nD,
      m' ((c.tc : Thread Cert.InAttnRefIdeal.nD Cert.InAttnRefIdeal.τ).loc Cert.InAttnRefIdeal.main_arg0) = m ((c.tc : Thread Cert.InAttnIdeal.nD Cert.InAttnIdeal.τ).loc Cert.InAttnIdeal.main_arg0)
      ∧ m' ((c.tc : Thread Cert.InAttnRefIdeal.nD Cert.InAttnRefIdeal.τ).loc Cert.InAttnRefIdeal.main_arg1) = m ((c.tc : Thread Cert.InAttnIdeal.nD Cert.InAttnIdeal.τ).loc Cert.InAttnIdeal.main_arg1)) →
    ∃ (v0 : (c : Dev Cert.InAttnIdeal.nD) → Buf (Elt Ideal) ((c.tc : Thread Cert.InAttnIdeal.nD Cert.InAttnIdeal.τ).loc Cert.InAttnIdeal.main_v2)),
      θ_run (Cert.InAttnIdeal.defs (F := Ideal)) (onTc (τ := Cert.InAttnIdeal.τ) (Cert.InAttnIdeal.main (F := Ideal))) ⟨m, fun _ => 0, g⟩ (fun r => ∀ c : Dev Cert.InAttnIdeal.nD,
          r.2.mem ((c.tc : Thread Cert.InAttnIdeal.nD Cert.InAttnIdeal.τ).loc Cert.InAttnIdeal.main_v2) = v0 c
          ∧ r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
          ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1))
      ∧ θ_run (Cert.InAttnRefIdeal.defs (F := Ideal)) (onTc (τ := Cert.InAttnRefIdeal.τ) (Cert.InAttnRefIdeal.main (F := Ideal))) ⟨m', fun _ => 0, g'⟩ (fun r => ∀ c : Dev Cert.InAttnRefIdeal.nD,
          r.2.mem ((c.tc : Thread Cert.InAttnRefIdeal.nD Cert.InAttnRefIdeal.τ).loc Cert.InAttnRefIdeal.main_v6) = v0 c
          ∧ r.2.mem ((c.tc : Thread Cert.InAttnRefIdeal.nD Cert.InAttnRefIdeal.τ).loc Cert.InAttnRefIdeal.main_arg0) = m' ((c.tc : Thread Cert.InAttnRefIdeal.nD Cert.InAttnRefIdeal.τ).loc Cert.InAttnRefIdeal.main_arg0)
          ∧ r.2.mem ((c.tc : Thread Cert.InAttnRefIdeal.nD Cert.InAttnRefIdeal.τ).loc Cert.InAttnRefIdeal.main_arg1) = m' ((c.tc : Thread Cert.InAttnRefIdeal.nD Cert.InAttnRefIdeal.τ).loc Cert.InAttnRefIdeal.main_arg1))

def preserves_InIdx_InIdxIdeal : Prop :=
  True

def algebraic_InIdxIdeal_InIdxRefIdeal [hInIdxIdeal : Cert.InIdxIdeal.Facts] [hInIdxRefIdeal : Cert.InIdxRefIdeal.Facts] : Prop :=
  ∀ (m : (ℓ : Loc Cert.InIdxIdeal.nD Cert.InIdxIdeal.τ Cert.InIdxIdeal.sig) → Buf (Elt Ideal) ℓ) (g : Dev Cert.InIdxIdeal.nD → PrngReg)
    (m' : (ℓ : Loc Cert.InIdxRefIdeal.nD Cert.InIdxRefIdeal.τ Cert.InIdxRefIdeal.sig) → Buf (Elt Ideal) ℓ) (g' : Dev Cert.InIdxRefIdeal.nD → PrngReg), Pre_InIdxIdeal m →
    (∀ c : Dev Cert.InIdxIdeal.nD,
      m' ((c.tc : Thread Cert.InIdxRefIdeal.nD Cert.InIdxRefIdeal.τ).loc Cert.InIdxRefIdeal.main_arg0) = m ((c.tc : Thread Cert.InIdxIdeal.nD Cert.InIdxIdeal.τ).loc Cert.InIdxIdeal.main_arg0)
      ∧ m' ((c.tc : Thread Cert.InIdxRefIdeal.nD Cert.InIdxRefIdeal.τ).loc Cert.InIdxRefIdeal.main_arg1) = m ((c.tc : Thread Cert.InIdxIdeal.nD Cert.InIdxIdeal.τ).loc Cert.InIdxIdeal.main_arg1)) →
    ∃ (v0 : (c : Dev Cert.InIdxIdeal.nD) → Buf (Elt Ideal) ((c.tc : Thread Cert.InIdxIdeal.nD Cert.InIdxIdeal.τ).loc Cert.InIdxIdeal.main_v2)),
      θ_run (Cert.InIdxIdeal.defs (F := Ideal)) (onTc (τ := Cert.InIdxIdeal.τ) (Cert.InIdxIdeal.main (F := Ideal))) ⟨m, fun _ => 0, g⟩ (fun r => ∀ c : Dev Cert.InIdxIdeal.nD,
          r.2.mem ((c.tc : Thread Cert.InIdxIdeal.nD Cert.InIdxIdeal.τ).loc Cert.InIdxIdeal.main_v2) = v0 c
          ∧ r.2.mem ((c.tc : Thread Cert.InIdxIdeal.nD Cert.InIdxIdeal.τ).loc Cert.InIdxIdeal.main_arg0) = m ((c.tc : Thread Cert.InIdxIdeal.nD Cert.InIdxIdeal.τ).loc Cert.InIdxIdeal.main_arg0)
          ∧ r.2.mem ((c.tc : Thread Cert.InIdxIdeal.nD Cert.InIdxIdeal.τ).loc Cert.InIdxIdeal.main_arg1) = m ((c.tc : Thread Cert.InIdxIdeal.nD Cert.InIdxIdeal.τ).loc Cert.InIdxIdeal.main_arg1))
      ∧ θ_run (Cert.InIdxRefIdeal.defs (F := Ideal)) (onTc (τ := Cert.InIdxRefIdeal.τ) (Cert.InIdxRefIdeal.main (F := Ideal))) ⟨m', fun _ => 0, g'⟩ (fun r => ∀ c : Dev Cert.InIdxRefIdeal.nD,
          r.2.mem ((c.tc : Thread Cert.InIdxRefIdeal.nD Cert.InIdxRefIdeal.τ).loc Cert.InIdxRefIdeal.main_v3) = v0 c
          ∧ r.2.mem ((c.tc : Thread Cert.InIdxRefIdeal.nD Cert.InIdxRefIdeal.τ).loc Cert.InIdxRefIdeal.main_arg0) = m' ((c.tc : Thread Cert.InIdxRefIdeal.nD Cert.InIdxRefIdeal.τ).loc Cert.InIdxRefIdeal.main_arg0)
          ∧ r.2.mem ((c.tc : Thread Cert.InIdxRefIdeal.nD Cert.InIdxRefIdeal.τ).loc Cert.InIdxRefIdeal.main_arg1) = m' ((c.tc : Thread Cert.InIdxRefIdeal.nD Cert.InIdxRefIdeal.τ).loc Cert.InIdxRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v2)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v2) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v3) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Rglru_RglruIdeal : Prop :=
  IdealRules.named_const.Statement Cert.RglruIdeal.κ "neg_log2e" .f32 0xBFB8AA3B#32 ((-((Real.log 2)⁻¹) : ℝ) : EReal)
  ∧ IdealRules.named_const.Statement Cert.RglruIdeal.κ "c2" .f32 0x3D122279#32 ((80338380498831 / 2251799813685248 : ℝ) : EReal)

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)) →
    ∃ (v0 : (c : Dev Cert.RglruIdeal.nD) → Buf (Elt Ideal) ((c.tc : Thread Cert.RglruIdeal.nD Cert.RglruIdeal.τ).loc Cert.RglruIdeal.main_v20)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v20) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v101) = v0 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7))

def preserves_FfnResid_FfnResidIdeal : Prop :=
  True

def algebraic_FfnResidIdeal_FfnResidRefIdeal [hFfnResidIdeal : Cert.FfnResidIdeal.Facts] [hFfnResidRefIdeal : Cert.FfnResidRefIdeal.Facts] : Prop :=
  ∀ (m : (ℓ : Loc Cert.FfnResidIdeal.nD Cert.FfnResidIdeal.τ Cert.FfnResidIdeal.sig) → Buf (Elt Ideal) ℓ) (g : Dev Cert.FfnResidIdeal.nD → PrngReg)
    (m' : (ℓ : Loc Cert.FfnResidRefIdeal.nD Cert.FfnResidRefIdeal.τ Cert.FfnResidRefIdeal.sig) → Buf (Elt Ideal) ℓ) (g' : Dev Cert.FfnResidRefIdeal.nD → PrngReg), Pre_FfnResidIdeal m →
    (∀ c : Dev Cert.FfnResidIdeal.nD,
      m' ((c.tc : Thread Cert.FfnResidRefIdeal.nD Cert.FfnResidRefIdeal.τ).loc Cert.FfnResidRefIdeal.main_arg0) = m ((c.tc : Thread Cert.FfnResidIdeal.nD Cert.FfnResidIdeal.τ).loc Cert.FfnResidIdeal.main_arg0)
      ∧ m' ((c.tc : Thread Cert.FfnResidRefIdeal.nD Cert.FfnResidRefIdeal.τ).loc Cert.FfnResidRefIdeal.main_arg1) = m ((c.tc : Thread Cert.FfnResidIdeal.nD Cert.FfnResidIdeal.τ).loc Cert.FfnResidIdeal.main_arg1)
      ∧ m' ((c.tc : Thread Cert.FfnResidRefIdeal.nD Cert.FfnResidRefIdeal.τ).loc Cert.FfnResidRefIdeal.main_arg2) = m ((c.tc : Thread Cert.FfnResidIdeal.nD Cert.FfnResidIdeal.τ).loc Cert.FfnResidIdeal.main_arg2)
      ∧ m' ((c.tc : Thread Cert.FfnResidRefIdeal.nD Cert.FfnResidRefIdeal.τ).loc Cert.FfnResidRefIdeal.main_arg3) = m ((c.tc : Thread Cert.FfnResidIdeal.nD Cert.FfnResidIdeal.τ).loc Cert.FfnResidIdeal.main_arg3)
      ∧ m' ((c.tc : Thread Cert.FfnResidRefIdeal.nD Cert.FfnResidRefIdeal.τ).loc Cert.FfnResidRefIdeal.main_arg4) = m ((c.tc : Thread Cert.FfnResidIdeal.nD Cert.FfnResidIdeal.τ).loc Cert.FfnResidIdeal.main_arg4)
      ∧ m' ((c.tc : Thread Cert.FfnResidRefIdeal.nD Cert.FfnResidRefIdeal.τ).loc Cert.FfnResidRefIdeal.main_arg5) = m ((c.tc : Thread Cert.FfnResidIdeal.nD Cert.FfnResidIdeal.τ).loc Cert.FfnResidIdeal.main_arg5)) →
    ∃ (v0 : (c : Dev Cert.FfnResidIdeal.nD) → Buf (Elt Ideal) ((c.tc : Thread Cert.FfnResidIdeal.nD Cert.FfnResidIdeal.τ).loc Cert.FfnResidIdeal.main_v14_0)) (v1 : (c : Dev Cert.FfnResidIdeal.nD) → Buf (Elt Ideal) ((c.tc : Thread Cert.FfnResidIdeal.nD Cert.FfnResidIdeal.τ).loc Cert.FfnResidIdeal.main_v14_1)),
      θ_run (Cert.FfnResidIdeal.defs (F := Ideal)) (onTc (τ := Cert.FfnResidIdeal.τ) (Cert.FfnResidIdeal.main (F := Ideal))) ⟨m, fun _ => 0, g⟩ (fun r => ∀ c : Dev Cert.FfnResidIdeal.nD,
          r.2.mem ((c.tc : Thread Cert.FfnResidIdeal.nD Cert.FfnResidIdeal.τ).loc Cert.FfnResidIdeal.main_v14_0) = v0 c
          ∧ r.2.mem ((c.tc : Thread Cert.FfnResidIdeal.nD Cert.FfnResidIdeal.τ).loc Cert.FfnResidIdeal.main_v14_1) = v1 c
          ∧ r.2.mem ((c.tc : Thread Cert.FfnResidIdeal.nD Cert.FfnResidIdeal.τ).loc Cert.FfnResidIdeal.main_arg0) = m ((c.tc : Thread Cert.FfnResidIdeal.nD Cert.FfnResidIdeal.τ).loc Cert.FfnResidIdeal.main_arg0)
          ∧ r.2.mem ((c.tc : Thread Cert.FfnResidIdeal.nD Cert.FfnResidIdeal.τ).loc Cert.FfnResidIdeal.main_arg1) = m ((c.tc : Thread Cert.FfnResidIdeal.nD Cert.FfnResidIdeal.τ).loc Cert.FfnResidIdeal.main_arg1)
          ∧ r.2.mem ((c.tc : Thread Cert.FfnResidIdeal.nD Cert.FfnResidIdeal.τ).loc Cert.FfnResidIdeal.main_arg2) = m ((c.tc : Thread Cert.FfnResidIdeal.nD Cert.FfnResidIdeal.τ).loc Cert.FfnResidIdeal.main_arg2)
          ∧ r.2.mem ((c.tc : Thread Cert.FfnResidIdeal.nD Cert.FfnResidIdeal.τ).loc Cert.FfnResidIdeal.main_arg3) = m ((c.tc : Thread Cert.FfnResidIdeal.nD Cert.FfnResidIdeal.τ).loc Cert.FfnResidIdeal.main_arg3)
          ∧ r.2.mem ((c.tc : Thread Cert.FfnResidIdeal.nD Cert.FfnResidIdeal.τ).loc Cert.FfnResidIdeal.main_arg4) = m ((c.tc : Thread Cert.FfnResidIdeal.nD Cert.FfnResidIdeal.τ).loc Cert.FfnResidIdeal.main_arg4)
          ∧ r.2.mem ((c.tc : Thread Cert.FfnResidIdeal.nD Cert.FfnResidIdeal.τ).loc Cert.FfnResidIdeal.main_arg5) = m ((c.tc : Thread Cert.FfnResidIdeal.nD Cert.FfnResidIdeal.τ).loc Cert.FfnResidIdeal.main_arg5))
      ∧ θ_run (Cert.FfnResidRefIdeal.defs (F := Ideal)) (onTc (τ := Cert.FfnResidRefIdeal.τ) (Cert.FfnResidRefIdeal.main (F := Ideal))) ⟨m', fun _ => 0, g'⟩ (fun r => ∀ c : Dev Cert.FfnResidRefIdeal.nD,
          r.2.mem ((c.tc : Thread Cert.FfnResidRefIdeal.nD Cert.FfnResidRefIdeal.τ).loc Cert.FfnResidRefIdeal.main_v25) = v0 c
          ∧ r.2.mem ((c.tc : Thread Cert.FfnResidRefIdeal.nD Cert.FfnResidRefIdeal.τ).loc Cert.FfnResidRefIdeal.main_v41) = v1 c
          ∧ r.2.mem ((c.tc : Thread Cert.FfnResidRefIdeal.nD Cert.FfnResidRefIdeal.τ).loc Cert.FfnResidRefIdeal.main_arg0) = m' ((c.tc : Thread Cert.FfnResidRefIdeal.nD Cert.FfnResidRefIdeal.τ).loc Cert.FfnResidRefIdeal.main_arg0)
          ∧ r.2.mem ((c.tc : Thread Cert.FfnResidRefIdeal.nD Cert.FfnResidRefIdeal.τ).loc Cert.FfnResidRefIdeal.main_arg1) = m' ((c.tc : Thread Cert.FfnResidRefIdeal.nD Cert.FfnResidRefIdeal.τ).loc Cert.FfnResidRefIdeal.main_arg1)
          ∧ r.2.mem ((c.tc : Thread Cert.FfnResidRefIdeal.nD Cert.FfnResidRefIdeal.τ).loc Cert.FfnResidRefIdeal.main_arg2) = m' ((c.tc : Thread Cert.FfnResidRefIdeal.nD Cert.FfnResidRefIdeal.τ).loc Cert.FfnResidRefIdeal.main_arg2)
          ∧ r.2.mem ((c.tc : Thread Cert.FfnResidRefIdeal.nD Cert.FfnResidRefIdeal.τ).loc Cert.FfnResidRefIdeal.main_arg3) = m' ((c.tc : Thread Cert.FfnResidRefIdeal.nD Cert.FfnResidRefIdeal.τ).loc Cert.FfnResidRefIdeal.main_arg3)
          ∧ r.2.mem ((c.tc : Thread Cert.FfnResidRefIdeal.nD Cert.FfnResidRefIdeal.τ).loc Cert.FfnResidRefIdeal.main_arg4) = m' ((c.tc : Thread Cert.FfnResidRefIdeal.nD Cert.FfnResidRefIdeal.τ).loc Cert.FfnResidRefIdeal.main_arg4)
          ∧ r.2.mem ((c.tc : Thread Cert.FfnResidRefIdeal.nD Cert.FfnResidRefIdeal.τ).loc Cert.FfnResidRefIdeal.main_arg5) = m' ((c.tc : Thread Cert.FfnResidRefIdeal.nD Cert.FfnResidRefIdeal.τ).loc Cert.FfnResidRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v12)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v12) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v37) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def Claim : Prop :=
  ∃ (hInRnn : Cert.InRnn.Facts) (hInRnnIdeal : Cert.InRnnIdeal.Facts) (hInRnnRefIdeal : Cert.InRnnRefIdeal.Facts) (hInAttn : Cert.InAttn.Facts) (hInAttnIdeal : Cert.InAttnIdeal.Facts) (hInAttnRefIdeal : Cert.InAttnRefIdeal.Facts) (hInIdx : Cert.InIdx.Facts) (hInIdxIdeal : Cert.InIdxIdeal.Facts) (hInIdxRefIdeal : Cert.InIdxRefIdeal.Facts) (hInGates : Cert.InGates.Facts) (hInGatesIdeal : Cert.InGatesIdeal.Facts) (hInGatesRefIdeal : Cert.InGatesRefIdeal.Facts) (hAttn : Cert.Attn.Facts) (hBias : Cert.Bias.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hRglru : Cert.Rglru.Facts) (hRglruIdeal : Cert.RglruIdeal.Facts) (hRglruRefIdeal : Cert.RglruRefIdeal.Facts) (hFfnResid : Cert.FfnResid.Facts) (hFfnResidIdeal : Cert.FfnResidIdeal.Facts) (hFfnResidRefIdeal : Cert.FfnResidRefIdeal.Facts) (hFfnFinal : Cert.FfnFinal.Facts) (hFfnFinalIdeal : Cert.FfnFinalIdeal.Facts) (hFfnFinalRefIdeal : Cert.FfnFinalRefIdeal.Facts),
    quiescent_InRnn (hInRnn := hInRnn)
    ∧ quiescent_InRnnIdeal (hInRnnIdeal := hInRnnIdeal)
    ∧ quiescent_InRnnRefIdeal (hInRnnRefIdeal := hInRnnRefIdeal)
    ∧ quiescent_InAttn (hInAttn := hInAttn)
    ∧ quiescent_InAttnIdeal (hInAttnIdeal := hInAttnIdeal)
    ∧ quiescent_InAttnRefIdeal (hInAttnRefIdeal := hInAttnRefIdeal)
    ∧ quiescent_InIdx (hInIdx := hInIdx)
    ∧ quiescent_InIdxIdeal (hInIdxIdeal := hInIdxIdeal)
    ∧ quiescent_InIdxRefIdeal (hInIdxRefIdeal := hInIdxRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_Attn (hAttn := hAttn)
    ∧ quiescent_Bias (hBias := hBias)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Rglru (hRglru := hRglru)
    ∧ quiescent_RglruIdeal (hRglruIdeal := hRglruIdeal)
    ∧ quiescent_RglruRefIdeal (hRglruRefIdeal := hRglruRefIdeal)
    ∧ quiescent_FfnResid (hFfnResid := hFfnResid)
    ∧ quiescent_FfnResidIdeal (hFfnResidIdeal := hFfnResidIdeal)
    ∧ quiescent_FfnResidRefIdeal (hFfnResidRefIdeal := hFfnResidRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ preserves_InRnn_InRnnIdeal
    ∧ algebraic_InRnnIdeal_InRnnRefIdeal (hInRnnIdeal := hInRnnIdeal) (hInRnnRefIdeal := hInRnnRefIdeal)
    ∧ preserves_InAttn_InAttnIdeal
    ∧ algebraic_InAttnIdeal_InAttnRefIdeal (hInAttnIdeal := hInAttnIdeal) (hInAttnRefIdeal := hInAttnRefIdeal)
    ∧ preserves_InIdx_InIdxIdeal
    ∧ algebraic_InIdxIdeal_InIdxRefIdeal (hInIdxIdeal := hInIdxIdeal) (hInIdxRefIdeal := hInIdxRefIdeal)
    ∧ preserves_InGates_InGatesIdeal
    ∧ algebraic_InGatesIdeal_InGatesRefIdeal (hInGatesIdeal := hInGatesIdeal) (hInGatesRefIdeal := hInGatesRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Rglru_RglruIdeal
    ∧ algebraic_RglruIdeal_RglruRefIdeal (hRglruIdeal := hRglruIdeal) (hRglruRefIdeal := hRglruRefIdeal)
    ∧ preserves_FfnResid_FfnResidIdeal
    ∧ algebraic_FfnResidIdeal_FfnResidRefIdeal (hFfnResidIdeal := hFfnResidIdeal) (hFfnResidRefIdeal := hFfnResidRefIdeal)
    ∧ preserves_FfnFinal_FfnFinalIdeal
    ∧ algebraic_FfnFinalIdeal_FfnFinalRefIdeal (hFfnFinalIdeal := hFfnFinalIdeal) (hFfnFinalRefIdeal := hFfnFinalRefIdeal)
-- ==== InRnn.lean ====
abbrev S16384x2048 : Shape := ⟨2, ![16384, 2048]⟩
abbrev S1x2048x12368 : Shape := ⟨3, ![1, 2048, 12368]⟩
abbrev S2048x12368 : Shape := ⟨2, ![2048, 12368]⟩
abbrev S12368x2048 : Shape := ⟨2, ![12368, 2048]⟩
abbrev S16384x4096 : Shape := ⟨2, ![16384, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S2048x12368, .f32⟩
  | .hbm, ⟨3, _⟩ => ⟨S12368x2048, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRnnRefIdeal.lean ====
abbrev S16384x2048 : Shape := ⟨2, ![16384, 2048]⟩
abbrev S1x2048x12368 : Shape := ⟨3, ![1, 2048, 12368]⟩
abbrev S2048x12368 : Shape := ⟨2, ![2048, 12368]⟩
abbrev S16384x12368 : Shape := ⟨2, ![16384, 12368]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S16384x2048, .f32⟩
  | .hbm, ⟨3, _⟩ => ⟨S2048x12368, .f32⟩
  | .hbm, ⟨4, _⟩ => ⟨S16384x12368, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InAttn.lean ====
abbrev S16384x2048 : Shape := ⟨2, ![16384, 2048]⟩
abbrev S1x2048x12368 : Shape := ⟨3, ![1, 2048, 12368]⟩
abbrev S2048x12368 : Shape := ⟨2, ![2048, 12368]⟩
abbrev S12368x2048 : Shape := ⟨2, ![12368, 2048]⟩
abbrev S32x16384x128 : Shape := ⟨3, ![32, 16384, 128]⟩
abbrev S1024x2048 : Shape := ⟨2, ![1024, 2048]⟩
abbrev S8x1024x128 : Shape := ⟨3, ![8, 1024, 128]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S2048x12368, .f32⟩
  | .hbm, ⟨3, _⟩ => ⟨S12368x2048, .f32⟩
  | .hbm, ⟨4, _⟩ => ⟨S32x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S8x1024x128, .bf16⟩
  | .local _ .vmem, ⟨5, _⟩ => ⟨S8x1024x128, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4096_i32 : BitVec 32 := 4096#32
  let arg0 : BitVec 32 := BitVec.ofNat 32 (i 0).val
  let c1024_i32 : BitVec 32 := 1024#32
  let v0 : BitVec 32 := Scalar.muli arg0 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAttnRefIdeal.lean ====
abbrev S16384x2048 : Shape := ⟨2, ![16384, 2048]⟩
abbrev S1x2048x12368 : Shape := ⟨3, ![1, 2048, 12368]⟩
abbrev S2048x12368 : Shape := ⟨2, ![2048, 12368]⟩
abbrev S16384x12368 : Shape := ⟨2, ![16384, 12368]⟩
abbrev S16384x4096 : Shape := ⟨2, ![16384, 4096]⟩
abbrev S16384x32x128 : Shape := ⟨3, ![16384, 32, 128]⟩
abbrev S32x16384x128 : Shape := ⟨3, ![32, 16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S16384x2048, .f32⟩
  | .hbm, ⟨3, _⟩ => ⟨S2048x12368, .f32⟩
  | .hbm, ⟨4, _⟩ => ⟨S16384x12368, .f32⟩
  | .hbm, ⟨5, _⟩ => ⟨S16384x4096, .f32⟩
  | .hbm, ⟨6, _⟩ => ⟨S16384x4096, .bf16⟩
  | .hbm, ⟨7, _⟩ => ⟨S16384x32x128, .bf16⟩
  | .hbm, ⟨8, _⟩ => ⟨S32x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InIdx.lean ====
abbrev S16384x2048 : Shape := ⟨2, ![16384, 2048]⟩
abbrev S1x2048x12368 : Shape := ⟨3, ![1, 2048, 12368]⟩
abbrev S2048x12368 : Shape := ⟨2, ![2048, 12368]⟩
abbrev S12368x2048 : Shape := ⟨2, ![12368, 2048]⟩
abbrev S16384x128 : Shape := ⟨2, ![16384, 128]⟩
abbrev S1024x2048 : Shape := ⟨2, ![1024, 2048]⟩
abbrev S128x2048 : Shape := ⟨2, ![128, 2048]⟩
abbrev S1024x128 : Shape := ⟨2, ![1024, 128]⟩
abbrev S2048x128 : Shape := ⟨2, ![2048, 128]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S2048x12368, .f32⟩
  | .hbm, ⟨3, _⟩ => ⟨S12368x2048, .f32⟩
  | .hbm, ⟨4, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c8192_i32 : BitVec 32 := 8192#32
  let arg0 : BitVec 32 := BitVec.ofNat 32 (i 0).val
  let c128_i32 : BitVec 32 := 128#32
  let v0 : BitVec 32 := Scalar.muli arg0 c128_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8192_i32 : BitVec 32 := 8192#32
  let v1 : BitVec 32 := Scalar.addi c8192_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InIdxRefIdeal.lean ====
abbrev S16384x2048 : Shape := ⟨2, ![16384, 2048]⟩
abbrev S1x2048x12368 : Shape := ⟨3, ![1, 2048, 12368]⟩
abbrev S2048x12368 : Shape := ⟨2, ![2048, 12368]⟩
abbrev S16384x12368 : Shape := ⟨2, ![16384, 12368]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S16384x2048, .f32⟩
  | .hbm, ⟨3, _⟩ => ⟨S2048x12368, .f32⟩
  | .hbm, ⟨4, _⟩ => ⟨S16384x12368, .f32⟩
  | .hbm, ⟨5, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGates.lean ====
abbrev S16384x2048 : Shape := ⟨2, ![16384, 2048]⟩
abbrev S1x2048x12368 : Shape := ⟨3, ![1, 2048, 12368]⟩
abbrev S2048x12368 : Shape := ⟨2, ![2048, 12368]⟩
abbrev S12368x2048 : Shape := ⟨2, ![12368, 2048]⟩
abbrev S16384x4096 : Shape := ⟨2, ![16384, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S2048x12368, .f32⟩
  | .hbm, ⟨3, _⟩ => ⟨S12368x2048, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c8272_i32 : BitVec 32 := 8272#32
  let arg0 : BitVec 32 := BitVec.ofNat 32 (i 0).val
  let c1024_i32 : BitVec 32 := 1024#32
  let v0 : BitVec 32 := Scalar.muli arg0 c1024_i32
  let v1 : BitVec 32 := Scalar.addi c8272_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8272_i32 : BitVec 32 := 8272#32
  let v1 : BitVec 32 := Scalar.addi c8272_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesRefIdeal.lean ====
abbrev S16384x2048 : Shape := ⟨2, ![16384, 2048]⟩
abbrev S1x2048x12368 : Shape := ⟨3, ![1, 2048, 12368]⟩
abbrev S2048x12368 : Shape := ⟨2, ![2048, 12368]⟩
abbrev S16384x12368 : Shape := ⟨2, ![16384, 12368]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12368, .f32⟩
  | .hbm, ⟨2, _⟩ => ⟨S16384x2048, .f32⟩
  | .hbm, ⟨3, _⟩ => ⟨S2048x12368, .f32⟩
  | .hbm, ⟨4, _⟩ => ⟨S16384x12368, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Attn.lean ====
abbrev S32x16384x128 : Shape := ⟨3, ![32, 16384, 128]⟩
abbrev S16384x128 : Shape := ⟨2, ![16384, 128]⟩
abbrev S16x3x128x128 : Shape := ⟨4, ![16, 3, 128, 128]⟩
abbrev S8x2048x128 : Shape := ⟨3, ![8, 2048, 128]⟩
abbrev S16384x2048 : Shape := ⟨2, ![16384, 2048]⟩
abbrev S16x128x128 : Shape := ⟨3, ![16, 128, 128]⟩
abbrev S4x2048x128 : Shape := ⟨3, ![4, 2048, 128]⟩
abbrev S8x128x128 : Shape := ⟨3, ![8, 128, 128]⟩
abbrev S1x2048x128 : Shape := ⟨3, ![1, 2048, 128]⟩
abbrev S1x128x128 : Shape := ⟨3, ![1, 128, 128]⟩
abbrev S128x2048 : Shape := ⟨2, ![128, 2048]⟩
abbrev S16x16x8x128 : Shape := ⟨4, ![16, 16, 8, 128]⟩
abbrev S4x512x2048 : Shape := ⟨3, ![4, 512, 2048]⟩
abbrev S4x2048x256 : Shape := ⟨3, ![4, 2048, 256]⟩
abbrev S128x128 : Shape := ⟨2, ![128, 128]⟩
abbrev S128x1 : Shape := ⟨2, ![128, 1]⟩
abbrev S128x64 : Shape := ⟨2, ![128, 64]⟩
abbrev S2048x64 : Shape := ⟨2, ![2048, 64]⟩
abbrev S1x512x64 : Shape := ⟨3, ![1, 512, 64]⟩
abbrev S512x64 : Shape := ⟨2, ![512, 64]⟩
abbrev S2048x512 : Shape := ⟨2, ![2048, 512]⟩
abbrev S16x8x128 : Shape := ⟨3, ![16, 8, 128]⟩
abbrev S1x16x8x128 : Shape := ⟨4, ![1, 16, 8, 128]⟩
abbrev S1x128 : Shape := ⟨2, ![1, 128]⟩
abbrev S8x128 : Shape := ⟨2, ![8, 128]⟩
abbrev S1x8x128 : Shape := ⟨3, ![1, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S4x128x128 : Shape := ⟨3, ![4, 128, 128]⟩
abbrev S512x128 : Shape := ⟨2, ![512, 128]⟩
abbrev S1x512x128 : Shape := ⟨3, ![1, 512, 128]⟩
abbrev S512x512 : Shape := ⟨2, ![512, 512]⟩
abbrev S1x1x128x128 : Shape := ⟨4, ![1, 1, 128, 128]⟩
abbrev S1x512x512 : Shape := ⟨3, ![1, 512, 512]⟩
abbrev S1x512x256 : Shape := ⟨3, ![1, 512, 256]⟩
abbrev S512x256 : Shape := ⟨2, ![512, 256]⟩
abbrev S1x1024x128 : Shape := ⟨3, ![1, 1024, 128]⟩
abbrev S1024x128 : Shape := ⟨2, ![1024, 128]⟩
abbrev S512x1024 : Shape := ⟨2, ![512, 1024]⟩
abbrev S1x512x1024 : Shape := ⟨3, ![1, 512, 1024]⟩
abbrev S1x1024x256 : Shape := ⟨3, ![1, 1024, 256]⟩
abbrev S1024x256 : Shape := ⟨2, ![1024, 256]⟩
abbrev S1x1536x128 : Shape := ⟨3, ![1, 1536, 128]⟩
abbrev S1536x128 : Shape := ⟨2, ![1536, 128]⟩
abbrev S512x1536 : Shape := ⟨2, ![512, 1536]⟩
abbrev S1x512x1536 : Shape := ⟨3, ![1, 512, 1536]⟩
abbrev S1x1536x256 : Shape := ⟨3, ![1, 1536, 256]⟩
abbrev S1536x256 : Shape := ⟨2, ![1536, 256]⟩
abbrev S2048x128 : Shape := ⟨2, ![2048, 128]⟩
abbrev S512x2048 : Shape := ⟨2, ![512, 2048]⟩
abbrev S1x512x2048 : Shape := ⟨3, ![1, 512, 2048]⟩
abbrev S1x2048x256 : Shape := ⟨3, ![1, 2048, 256]⟩
abbrev S2048x256 : Shape := ⟨2, ![2048, 256]⟩

abbrev nBuf : Space → Nat
  | .hbm => 5
  | .vmem => 21
  | .smem => 0
  | _ => 0

abbrev bufTy : (tb : Table) → Fin (tcTables nBuf tb) → BufTy
  | .hbm, ⟨0, _⟩ => ⟨S32x16384x128, .bf16⟩
  | .hbm, ⟨1, _⟩ => ⟨S16384x128, .f32⟩
  | .hbm, ⟨2, _⟩ => ⟨S16x3x128x128, .f32⟩
  | .hbm, ⟨3, _⟩ => ⟨S8x2048x128, .f32⟩
  | .hbm, ⟨4, _⟩ => ⟨S16384x2048, .bf16⟩
  | .local _ .vmem, ⟨0, _⟩ => ⟨S16x128x128, .bf16⟩
  | .local _ .vmem, ⟨1, _⟩ => ⟨S16x128x128, .bf16⟩
  | .local _ .vmem, ⟨2, _⟩ => ⟨S4x2048x128, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x2048x128, .bf16⟩
  | .local _ .vmem, ⟨6, _⟩ => ⟨S8x128x128, .bf16⟩
  | .local _ .vmem, ⟨7, _⟩ => ⟨S8x128x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x128x128, .f32⟩
  | .local _ .vmem, ⟨11, _⟩ => ⟨S1x128x128, .f32⟩
  | .local _ .vmem, ⟨12, _⟩ => ⟨S16x3x128x128, .f32⟩
  | .local _ .vmem, ⟨13, _⟩ => ⟨S128x2048, .bf16⟩
  | .local _ .vmem, ⟨14, _⟩ => ⟨S128x2048, .bf16⟩
  | .local _ .vmem, ⟨15, _⟩ => ⟨S16x128x128, .i32⟩
  | .local _ .vmem, ⟨16, _⟩ => ⟨S16x16x8x128, .i32⟩
  | .local _ .vmem, ⟨17, _⟩ => ⟨S16x128x128, .f32⟩
  | .local _ .vmem, ⟨18, _⟩ => ⟨S16x128x128, .f32⟩
  | .local _ .vmem, ⟨19, _⟩ => ⟨S4x512x2048, .bf16⟩
  | .local _ .vmem, ⟨20, _⟩ => ⟨S4x2048x256, .bf16⟩
  | _, _ => ⟨S32x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

def k0_cond2 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg1 : BitVec 32 := BitVec.ofNat 32 (i 1).val
  let c2_i32_435 : BitVec 32 := 2#32
  let v799 : BitVec 1 := Scalar.cmpi .slt arg1 c2_i32_435
  let v800 : BitVec 32 := Scalar.extui v799
  let c0_i32_436 : BitVec 32 := 0#32
  let v801 : BitVec 1 := Scalar.cmpi .ne v800 c0_i32_436
  v801

@[reducible] def k0_t1_loop : Scf.Loop 32 :=
  let c0_i32_1911 : BitVec 32 := 0#32
  let c32_i32 : BitVec 32 := 32#32
  let v2869 : BitVec 32 := Scalar.addi c0_i32_1911 c32_i32
  let c1_i32_1912 : BitVec 32 := 1#32
  ⟨c0_i32_1911, v2869, c1_i32_1912⟩
@[reducible] def k0_t2_loop : Scf.Loop 32 :=
  let c0_i32_1910 : BitVec 32 := 0#32
  let c32_i32 : BitVec 32 := 32#32
  let v2869 : BitVec 32 := Scalar.addi c0_i32_1910 c32_i32
  let c1_i32_1911 : BitVec 32 := 1#32
  ⟨c0_i32_1910, v2869, c1_i32_1911⟩
def k0_off1 (i : grid0.Coords) (c0_i32_492 : BitVec 32) : Fin 4 → Nat :=
  let c0_495 : Index := 0#32
  let c2_i32_494 : BitVec 32 := 2#32
  let c0_i32_493 : BitVec 32 := 0#32
  let arg1 : BitVec 32 := BitVec.ofNat 32 (i 1).val
  let v873 : BitVec 32 := Scalar.subi arg1 c0_i32_492
  let v874 : BitVec 32 := Scalar.maxsi c0_i32_493 v873
  let v875 : BitVec 32 := Scalar.minsi c2_i32_494 v874
  let v876 : Index := Scalar.indexCast v875
  let c0_496 : Index := 0#32
  let c0_497 : Index := 0#32
  ![0, v876.toNat, 0, 0]
def k0_off2 (i : grid0.Coords) (c0_i32_574 : BitVec 32) : Fin 4 → Nat :=
  let c1_577 : Index := 1#32
  let c2_i32_576 : BitVec 32 := 2#32
  let c0_i32_575 : BitVec 32 := 0#32
  let arg1 : BitVec 32 := BitVec.ofNat 32 (i 1).val
  let v992 : BitVec 32 := Scalar.subi arg1 c0_i32_574
  let v993 : BitVec 32 := Scalar.maxsi c0_i32_575 v992
  let v994 : BitVec 32 := Scalar.minsi c2_i32_576 v993
  let v995 : Index := Scalar.indexCast v994
  let c0_578 : Index := 0#32
  let c0_579 : Index := 0#32
  ![1, v995.toNat, 0, 0]
def k0_off3 (i : grid0.Coords) (c0_i32_659 : BitVec 32) : Fin 4 → Nat :=
  let c2_662 : Index := 2#32
  let c2_i32_661 : BitVec 32 := 2#32
  let c0_i32_660 : BitVec 32 := 0#32
  let arg1 : BitVec 32 := BitVec.ofNat 32 (i 1).val
  let v1111 : BitVec 32 := Scalar.subi arg1 c0_i32_659
  let v1112 : BitVec 32 := Scalar.maxsi c0_i32_660 v1111
  let v1113 : BitVec 32 := Scalar.minsi c2_i32_661 v1112
  let v1114 : Index := Scalar.indexCast v1113
  let c0_663 : Index := 0#32
  let c0_664 : Index := 0#32
  ![2, v1114.toNat, 0, 0]
def k0_off4 (i : grid0.Coords) (c0_i32_744 : BitVec 32) : Fin 4 → Nat :=
  let c3_747 : Index := 3#32
  let c2_i32_746 : BitVec 32 := 2#32
  let c0_i32_745 : BitVec 32 := 0#32
  let arg1 : BitVec 32 := BitVec.ofNat 32 (i 1).val
  let v1230 : BitVec 32 := Scalar.subi arg1 c0_i32_744
  let v1231 : BitVec 32 := Scalar.maxsi c0_i32_745 v1230
  let v1232 : BitVec 32 := Scalar.minsi c2_i32_746 v1231
  let v1233 : Index := Scalar.indexCast v1232
  let c0_748 : Index := 0#32
  let c0_749 : Index := 0#32
  ![3, v1233.toNat, 0, 0]
def k0_off5 (i : grid0.Coords) (c0_i32_852 : BitVec 32) : Fin 4 → Nat :=
  let c4_855 : Index := 4#32
  let c2_i32_854 : BitVec 32 := 2#32
  let c0_i32_853 : BitVec 32 := 0#32
  let arg1 : BitVec 32 := BitVec.ofNat 32 (i 1).val
  let v1376 : BitVec 32 := Scalar.subi arg1 c0_i32_852
  let v1377 : BitVec 32 := Scalar.maxsi c0_i32_853 v1376
  let v1378 : BitVec 32 := Scalar.minsi c2_i32_854 v1377
  let v1379 : Index := Scalar.indexCast v1378
  let c0_856 : Index := 0#32
  let c0_857 : Index := 0#32
  ![4, v1379.toNat, 0, 0]
def k0_off6 (i : grid0.Coords) (c0_i32_937 : BitVec 32) : Fin 4 → Nat :=
  let c5_940 : Index := 5#32
  let c2_i32_939 : BitVec 32 := 2#32
  let c0_i32_938 : BitVec 32 := 0#32
  let arg1 : BitVec 32 := BitVec.ofNat 32 (i 1).val
  let v1495 : BitVec 32 := Scalar.subi arg1 c0_i32_937
  let v1496 : BitVec 32 := Scalar.maxsi c0_i32_938 v1495
  let v1497 : BitVec 32 := Scalar.minsi c2_i32_939 v1496
  let v1498 : Index := Scalar.indexCast v1497
  let c0_941 : Index := 0#32
  let c0_942 : Index := 0#32
  ![5, v1498.toNat, 0, 0]
def k0_off7 (i : grid0.Coords) (c0_i32_1022 : BitVec 32) : Fin 4 → Nat :=
  let c6_1025 : Index := 6#32
  let c2_i32_1024 : BitVec 32 := 2#32
  let c0_i32_1023 : BitVec 32 := 0#32
  let arg1 : BitVec 32 := BitVec.ofNat 32 (i 1).val
  let v1614 : BitVec 32 := Scalar.subi arg1 c0_i32_1022
  let v1615 : BitVec 32 := Scalar.maxsi c0_i32_1023 v1614
  let v1616 : BitVec 32 := Scalar.minsi c2_i32_1024 v1615
  let v1617 : Index := Scalar.indexCast v1616
  let c0_1026 : Index := 0#32
  let c0_1027 : Index := 0#32
  ![6, v1617.toNat, 0, 0]
def k0_off8 (i : grid0.Coords) (c0_i32_1107 : BitVec 32) : Fin 4 → Nat :=
  let c7_1110 : Index := 7#32
  let c2_i32_1109 : BitVec 32 := 2#32
  let c0_i32_1108 : BitVec 32 := 0#32
  let arg1 : BitVec 32 := BitVec.ofNat 32 (i 1).val
  let v1733 : BitVec 32 := Scalar.subi arg1 c0_i32_1107
  let v1734 : BitVec 32 := Scalar.maxsi c0_i32_1108 v1733
  let v1735 : BitVec 32 := Scalar.minsi c2_i32_1109 v1734
  let v1736 : Index := Scalar.indexCast v1735
  let c0_1111 : Index := 0#32
  let c0_1112 : Index := 0#32
  ![7, v1736.toNat, 0, 0]
def k0_off9 (i : grid0.Coords) (c0_i32_1211 : BitVec 32) : Fin 4 → Nat :=
  let c8_1214 : Index := 8#32
  let c2_i32_1213 : BitVec 32 := 2#32
  let c0_i32_1212 : BitVec 32 := 0#32
  let arg1 : BitVec 32 := BitVec.ofNat 32 (i 1).val
  let v1879 : BitVec 32 := Scalar.subi arg1 c0_i32_1211
  let v1880 : BitVec 32 := Scalar.maxsi c0_i32_1212 v1879
  let v1881 : BitVec 32 := Scalar.minsi c2_i32_1213 v1880
  let v1882 : Index := Scalar.indexCast v1881
  let c0_1215 : Index := 0#32
  let c0_1216 : Index := 0#32
  ![8, v1882.toNat, 0, 0]
def k0_off10 (i : grid0.Coords) (c0_i32_1296 : BitVec 32) : Fin 4 → Nat :=
  let c9_1299 : Index := 9#32
  let c2_i32_1298 : BitVec 32 := 2#32
  let c0_i32_1297 : BitVec 32 := 0#32
  let arg1 : BitVec 32 := BitVec.ofNat 32 (i 1).val
  let v1998 : BitVec 32 := Scalar.subi arg1 c0_i32_1296
  let v1999 : BitVec 32 := Scalar.maxsi c0_i32_1297 v1998
  let v2000 : BitVec 32 := Scalar.minsi c2_i32_1298 v1999
  let v2001 : Index := Scalar.indexCast v2000
  let c0_1300 : Index := 0#32
  let c0_1301 : Index := 0#32
  ![9, v2001.toNat, 0, 0]
def k0_off11 (i : grid0.Coords) (c0_i32_1381 : BitVec 32) : Fin 4 → Nat :=
  let c10_1384 : Index := 10#32
  let c2_i32_1383 : BitVec 32 := 2#32
  let c0_i32_1382 : BitVec 32 := 0#32
  let arg1 : BitVec 32 := BitVec.ofNat 32 (i 1).val
  let v2117 : BitVec 32 := Scalar.subi arg1 c0_i32_1381
  let v2118 : BitVec 32 := Scalar.maxsi c0_i32_1382 v2117
  let v2119 : BitVec 32 := Scalar.minsi c2_i32_1383 v2118
  let v2120 : Index := Scalar.indexCast v2119
  let c0_1385 : Index := 0#32
  let c0_1386 : Index := 0#32
  ![10, v2120.toNat, 0, 0]
def k0_off12 (i : grid0.Coords) (c0_i32_1466 : BitVec 32) : Fin 4 → Nat :=
  let c11_1469 : Index := 11#32
  let c2_i32_1468 : BitVec 32 := 2#32
  let c0_i32_1467 : BitVec 32 := 0#32
  let arg1 : BitVec 32 := BitVec.ofNat 32 (i 1).val
  let v2236 : BitVec 32 := Scalar.subi arg1 c0_i32_1466
  let v2237 : BitVec 32 := Scalar.maxsi c0_i32_1467 v2236
  let v2238 : BitVec 32 := Scalar.minsi c2_i32_1468 v2237
  let v2239 : Index := Scalar.indexCast v2238
  let c0_1470 : Index := 0#32
  let c0_1471 : Index := 0#32
  ![11, v2239.toNat, 0, 0]
def k0_off13 (i : grid0.Coords) (c0_i32_1562 : BitVec 32) : Fin 4 → Nat :=
  let c12_1565 : Index := 12#32
  let c2_i32_1564 : BitVec 32 := 2#32
  let c0_i32_1563 : BitVec 32 := 0#32
  let arg1 : BitVec 32 := BitVec.ofNat 32 (i 1).val
  let v2375 : BitVec 32 := Scalar.subi arg1 c0_i32_1562
  let v2376 : BitVec 32 := Scalar.maxsi c0_i32_1563 v2375
  let v2377 : BitVec 32 := Scalar.minsi c2_i32_1564 v2376
  let v2378 : Index := Scalar.indexCast v2377
  let c0_1566 : Index := 0#32
  let c0_1567 : Index := 0#32
  ![12, v2378.toNat, 0, 0]
def k0_off14 (i : grid0.Coords) (c0_i32_1647 : BitVec 32) : Fin 4 → Nat :=
  let c13_1650 : Index := 13#32
  let c2_i32_1649 : BitVec 32 := 2#32
  let c0_i32_1648 : BitVec 32 := 0#32
  let arg1 : BitVec 32 := BitVec.ofNat 32 (i 1).val
  let v2494 : BitVec 32 := Scalar.subi arg1 c0_i32_1647
  let v2495 : BitVec 32 := Scalar.maxsi c0_i32_1648 v2494
  let v2496 : BitVec 32 := Scalar.minsi c2_i32_1649 v2495
  let v2497 : Index := Scalar.indexCast v2496
  let c0_1651 : Index := 0#32
  let c0_1652 : Index := 0#32
  ![13, v2497.toNat, 0, 0]
def k0_off15 (i : grid0.Coords) (c0_i32_1732 : BitVec 32) : Fin 4 → Nat :=
  let c14_1735 : Index := 14#32
  let c2_i32_1734 : BitVec 32 := 2#32
  let c0_i32_1733 : BitVec 32 := 0#32
  let arg1 : BitVec 32 := BitVec.ofNat 32 (i 1).val
  let v2613 : BitVec 32 := Scalar.subi arg1 c0_i32_1732
  let v2614 : BitVec 32 := Scalar.maxsi c0_i32_1733 v2613
  let v2615 : BitVec 32 := Scalar.minsi c2_i32_1734 v2614
  let v2616 : Index := Scalar.indexCast v2615
  let c0_1736 : Index := 0#32
  let c0_1737 : Index := 0#32
  ![14, v2616.toNat, 0, 0]
def k0_off16 (i : grid0.Coords) (c0_i32_1817 : BitVec 32) : Fin 4 → Nat :=
  let c15_1820 : Index := 15#32
  let c2_i32_1819 : BitVec 32 := 2#32
  let c0_i32_1818 : BitVec 32 := 0#32
  let arg1 : BitVec 32 := BitVec.ofNat 32 (i 1).val
  let v2732 : BitVec 32 := Scalar.subi arg1 c0_i32_1817
  let v2733 : BitVec 32 := Scalar.maxsi c0_i32_1818 v2732
  let v2734 : BitVec 32 := Scalar.minsi c2_i32_1819 v2733
  let v2735 : Index := Scalar.indexCast v2734
  let c0_1821 : Index := 0#32
  let c0_1822 : Index := 0#32
  ![15, v2735.toNat, 0, 0]
def k0_cond5 (i : grid0.Coords) : BitVec 1 :=
  let arg1 : BitVec 32 := BitVec.ofNat 32 (i 1).val
  let c0_i32_9 : BitVec 32 := 0#32
  let v24 : BitVec 1 := Scalar.cmpi .sgt arg1 c0_i32_9
  let v25 : BitVec 32 := Scalar.extui v24
  let c0_i32_10 : BitVec 32 := 0#32
  let v26 : BitVec 1 := Scalar.cmpi .slt arg1 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi arg1 c4_i32_8
  let c0_i32_13 : BitVec 32 := 0#32
  let v36 : BitVec 1 := Scalar.cmpi .ne v35 c0_i32_13
  let v37 : BitVec 1 := Scalar.andi v34 v36
  let v23 : BitVec 32 := Scalar.divsi arg1 c4_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

def k0_cond6 (i : grid0.Coords) : BitVec 1 :=
  let arg1 : BitVec 32 := BitVec.ofNat 32 (i 1).val
  let c6_i32 : BitVec 32 := 6#32
  let v1331 : BitVec 1 := Scalar.cmpi .slt arg1 c6_i32
  let v1332 : BitVec 32 := Scalar.extui v1331
  let c0_i32_738 : BitVec 32 := 0#32
  let v1333 : BitVec 1 := Scalar.cmpi .ne v1332 c0_i32_738
  v1333

@[reducible] def k0_t3_loop : Scf.Loop 32 :=
  let c0_i32_3012 : BitVec 32 := 0#32
  let c32_i32 : BitVec 32 := 32#32
  let v4621 : BitVec 32 := Scalar.addi c0_i32_3012 c32_i32
  let c1_i32_3013 : BitVec 32 := 1#32
  ⟨c0_i32_3012, v4621, c1_i32_3013⟩
@[reducible] def k0_t4_loop : Scf.Loop 32 :=
  let c0_i32_3011 : BitVec 32 := 0#32
  let c32_i32 : BitVec 32 := 32#32
  let v4621 : BitVec 32 := Scalar.addi c0_i32_3011 c32_i32
  let c1_i32_3012 : BitVec 32 := 1#32
  ⟨c0_i32_3011, v4621, c1_i32_3012⟩
def k0_off17 (i : grid0.Coords) (c3_i32_835 : BitVec 32) : Fin 4 → Nat :=
  let c0_838 : Index := 0#32
  let c2_i32_837 : BitVec 32 := 2#32
  let c0_i32_836 : BitVec 32 := 0#32
  let arg1 : BitVec 32 := BitVec.ofNat 32 (i 1).val
  let v1455 : BitVec 32 := Scalar.subi arg1 c3_i32_835
  let v1456 : BitVec 32 := Scalar.maxsi c0_i32_836 v1455
  let v1457 : BitVec 32 := Scalar.minsi c2_i32_837 v1456
  let v1458 : Index := Scalar.indexCast v1457
  let c0_839 : Index := 0#32
  let c0_840 : Index := 0#32
  ![0, v1458.toNat, 0, 0]
def k0_off18 (i : grid0.Coords) (c3_i32_960 : BitVec 32) : Fin 4 → Nat :=
  let c1_963 : Index := 1#32
  let c2_i32_962 : BitVec 32 := 2#32
  let c0_i32_961 : BitVec 32 := 0#32
  let arg1 : BitVec 32 := BitVec.ofNat 32 (i 1).val
  let v1648 : BitVec 32 := Scalar.subi arg1 c3_i32_960
  let v1649 : BitVec 32 := Scalar.maxsi c0_i32_961 v1648
  let v1650 : BitVec 32 := Scalar.minsi c2_i32_962 v1649
  let v1651 : Index := Scalar.indexCast v1650
  let c0_964 : Index := 0#32
  let c0_965 : Index := 0#32
  ![1, v1651.toNat, 0, 0]
def k0_off19 (i : grid0.Coords) (c3_i32_1093 : BitVec 32) : Fin 4 → Nat :=
  let c2_1096 : Index := 2#32
  let c2_i32_1095 : BitVec 32 := 2#32
  let c0_i32_1094 : BitVec 32 := 0#32
  let arg1 : BitVec 32 := BitVec.ofNat 32 (i 1).val
  let v1841 : BitVec 32 := Scalar.subi arg1 c3_i32_1093
  let v1842 : BitVec 32 := Scalar.maxsi c0_i32_1094 v1841
  let v1843 : BitVec 32 := Scalar.minsi c2_i32_1095 v1842
  let v1844 : Index := Scalar.indexCast v1843
  let c0_1097 : Index := 0#32
  let c0_1098 : Index := 0#32
  ![2, v1844.toNat, 0, 0]
def k0_off20 (i : grid0.Coords) (c3_i32_1226 : BitVec 32) : Fin 4 → Nat :=
  let c3_1229 : Index := 3#32
  let c2_i32_1228 : BitVec 32 := 2#32
  let c0_i32_1227 : BitVec 32 := 0#32
  let arg1 : BitVec 32 := BitVec.ofNat 32 (i 1).val
  let v2034 : BitVec 32 := Scalar.subi arg1 c3_i32_1226
  let v2035 : BitVec 32 := Scalar.maxsi c0_i32_1227 v2034
  let v2036 : BitVec 32 := Scalar.minsi c2_i32_1228 v2035
  let v2037 : Index := Scalar.indexCast v2036
  let c0_1230 : Index := 0#32
  let c0_1231 : Index := 0#32
  ![3, v2037.toNat, 0, 0]
def k0_off21 (i : grid0.Coords) (c3_i32_1382 : BitVec 32) : Fin 4 → Nat :=
  let c4_1385 : Index := 4#32
  let c2_i32_1384 : BitVec 32 := 2#32
  let c0_i32_1383 : BitVec 32 := 0#32
  let arg1 : BitVec 32 := BitVec.ofNat 32 (i 1).val
  let v2254 : BitVec 32 := Scalar.subi arg1 c3_i32_1382
  let v2255 : BitVec 32 := Scalar.maxsi c0_i32_1383 v2254
  let v2256 : BitVec 32 := Scalar.minsi c2_i32_1384 v2255
  let v2257 : Index := Scalar.indexCast v2256
  let c0_1386 : Index := 0#32
  let c0_1387 : Index := 0#32
  ![4, v2257.toNat, 0, 0]
def k0_off22 (i : grid0.Coords) (c3_i32_1515 : BitVec 32) : Fin 4 → Nat :=
  let c5_1518 : Index := 5#32
  let c2_i32_1517 : BitVec 32 := 2#32
  let c0_i32_1516 : BitVec 32 := 0#32
  let arg1 : BitVec 32 := BitVec.ofNat 32 (i 1).val
  let v2447 : BitVec 32 := Scalar.subi arg1 c3_i32_1515
  let v2448 : BitVec 32 := Scalar.maxsi c0_i32_1516 v2447
  let v2449 : BitVec 32 := Scalar.minsi c2_i32_1517 v2448
  let v2450 : Index := Scalar.indexCast v2449
  let c0_1519 : Index := 0#32
  let c0_1520 : Index := 0#32
  ![5, v2450.toNat, 0, 0]
def k0_off23 (i : grid0.Coords) (c3_i32_1648 : BitVec 32) : Fin 4 → Nat :=
  let c6_1651 : Index := 6#32
  let c2_i32_1650 : BitVec 32 := 2#32
  let c0_i32_1649 : BitVec 32 := 0#32
  let arg1 : BitVec 32 := BitVec.ofNat 32 (i 1).val
  let v2640 : BitVec 32 := Scalar.subi arg1 c3_i32_1648
  let v2641 : BitVec 32 := Scalar.maxsi c0_i32_1649 v2640
  let v2642 : BitVec 32 := Scalar.minsi c2_i32_1650 v2641
  let v2643 : Index := Scalar.indexCast v2642
  let c0_1652 : Index := 0#32
  let c0_1653 : Index := 0#32
  ![6, v2643.toNat, 0, 0]
def k0_off24 (i : grid0.Coords) (c3_i32_1781 : BitVec 32) : Fin 4 → Nat :=
  let c7_1784 : Index := 7#32
  let c2_i32_1783 : BitVec 32 := 2#32
  let c0_i32_1782 : BitVec 32 := 0#32
  let arg1 : BitVec 32 := BitVec.ofNat 32 (i 1).val
  let v2833 : BitVec 32 := Scalar.subi arg1 c3_i32_1781
  let v2834 : BitVec 32 := Scalar.maxsi c0_i32_1782 v2833
  let v2835 : BitVec 32 := Scalar.minsi c2_i32_1783 v2834
  let v2836 : Index := Scalar.indexCast v2835
  let c0_1785 : Index := 0#32
  let c0_1786 : Index := 0#32
  ![7, v2836.toNat, 0, 0]
def k0_off25 (i : grid0.Coords) (c3_i32_1937 : BitVec 32) : Fin 4 → Nat :=
  let c8_1940 : Index := 8#32
  let c2_i32_1939 : BitVec 32 := 2#32
  let c0_i32_1938 : BitVec 32 := 0#32
  let arg1 : BitVec 32 := BitVec.ofNat 32 (i 1).val
  let v3053 : BitVec 32 := Scalar.subi arg1 c3_i32_1937
  let v3054 : BitVec 32 := Scalar.maxsi c0_i32_1938 v3053
  let v3055 : BitVec 32 := Scalar.minsi c2_i32_1939 v3054
  let v3056 : Index := Scalar.indexCast v3055
  let c0_1941 : Index := 0#32
  let c0_1942 : Index := 0#32
  ![8, v3056.toNat, 0, 0]
def k0_off26 (i : grid0.Coords) (c3_i32_2070 : BitVec 32) : Fin 4 → Nat :=
  let c9_2073 : Index := 9#32
  let c2_i32_2072 : BitVec 32 := 2#32
  let c0_i32_2071 : BitVec 32 := 0#32
  let arg1 : BitVec 32 := BitVec.ofNat 32 (i 1).val
  let v3246 : BitVec 32 := Scalar.subi arg1 c3_i32_2070
  let v3247 : BitVec 32 := Scalar.maxsi c0_i32_2071 v3246
  let v3248 : BitVec 32 := Scalar.minsi c2_i32_2072 v3247
  let v3249 : Index := Scalar.indexCast v3248
  let c0_2074 : Index := 0#32
  let c0_2075 : Index := 0#32
  ![9, v3249.toNat, 0, 0]
def k0_off27 (i : grid0.Coords) (c3_i32_2203 : BitVec 32) : Fin 4 → Nat :=
  let c10_2206 : Index := 10#32
  let c2_i32_2205 : BitVec 32 := 2#32
  let c0_i32_2204 : BitVec 32 := 0#32
  let arg1 : BitVec 32 := BitVec.ofNat 32 (i 1).val
  let v3439 : BitVec 32 := Scalar.subi arg1 c3_i32_2203
  let v3440 : BitVec 32 := Scalar.maxsi c0_i32_2204 v3439
  let v3441 : BitVec 32 := Scalar.minsi c2_i32_2205 v3440
  let v3442 : Index := Scalar.indexCast v3441
  let c0_2207 : Index := 0#32
  let c0_2208 : Index := 0#32
  ![10, v3442.toNat, 0, 0]
def k0_off28 (i : grid0.Coords) (c3_i32_2336 : BitVec 32) : Fin 4 → Nat :=
  let c11_2339 : Index := 11#32
  let c2_i32_2338 : BitVec 32 := 2#32
  let c0_i32_2337 : BitVec 32 := 0#32
  let arg1 : BitVec 32 := BitVec.ofNat 32 (i 1).val
  let v3632 : BitVec 32 := Scalar.subi arg1 c3_i32_2336
  let v3633 : BitVec 32 := Scalar.maxsi c0_i32_2337 v3632
  let v3634 : BitVec 32 := Scalar.minsi c2_i32_2338 v3633
  let v3635 : Index := Scalar.indexCast v3634
  let c0_2340 : Index := 0#32
  let c0_2341 : Index := 0#32
  ![11, v3635.toNat, 0, 0]
def k0_off29 (i : grid0.Coords) (c3_i32_2480 : BitVec 32) : Fin 4 → Nat :=
  let c12_2483 : Index := 12#32
  let c2_i32_2482 : BitVec 32 := 2#32
  let c0_i32_2481 : BitVec 32 := 0#32
  let arg1 : BitVec 32 := BitVec.ofNat 32 (i 1).val
  let v3845 : BitVec 32 := Scalar.subi arg1 c3_i32_2480
  let v3846 : BitVec 32 := Scalar.maxsi c0_i32_2481 v3845
  let v3847 : BitVec 32 := Scalar.minsi c2_i32_2482 v3846
  let v3848 : Index := Scalar.indexCast v3847
  let c0_2484 : Index := 0#32
  let c0_2485 : Index := 0#32
  ![12, v3848.toNat, 0, 0]
def k0_off30 (i : grid0.Coords) (c3_i32_2613 : BitVec 32) : Fin 4 → Nat :=
  let c13_2616 : Index := 13#32
  let c2_i32_2615 : BitVec 32 := 2#32
  let c0_i32_2614 : BitVec 32 := 0#32
  let arg1 : BitVec 32 := BitVec.ofNat 32 (i 1).val
  let v4038 : BitVec 32 := Scalar.subi arg1 c3_i32_2613
  let v4039 : BitVec 32 := Scalar.maxsi c0_i32_2614 v4038
  let v4040 : BitVec 32 := Scalar.minsi c2_i32_2615 v4039
  let v4041 : Index := Scalar.indexCast v4040
  let c0_2617 : Index := 0#32
  let c0_2618 : Index := 0#32
  ![13, v4041.toNat, 0, 0]
def k0_off31 (i : grid0.Coords) (c3_i32_2746 : BitVec 32) : Fin 4 → Nat :=
  let c14_2749 : Index := 14#32
  let c2_i32_2748 : BitVec 32 := 2#32
  let c0_i32_2747 : BitVec 32 := 0#32
  let arg1 : BitVec 32 := BitVec.ofNat 32 (i 1).val
  let v4231 : BitVec 32 := Scalar.subi arg1 c3_i32_2746
  let v4232 : BitVec 32 := Scalar.maxsi c0_i32_2747 v4231
  let v4233 : BitVec 32 := Scalar.minsi c2_i32_2748 v4232
  let v4234 : Index := Scalar.indexCast v4233
  let c0_2750 : Index := 0#32
  let c0_2751 : Index := 0#32
  ![14, v4234.toNat, 0, 0]
def k0_off32 (i : grid0.Coords) (c3_i32_2879 : BitVec 32) : Fin 4 → Nat :=
  let c15_2882 : Index := 15#32
  let c2_i32_2881 : BitVec 32 := 2#32
  let c0_i32_2880 : BitVec 32 := 0#32
  let arg1 : BitVec 32 := BitVec.ofNat 32 (i 1).val
  let v4424 : BitVec 32 := Scalar.subi arg1 c3_i32_2879
  let v4425 : BitVec 32 := Scalar.maxsi c0_i32_2880 v4424
  let v4426 : BitVec 32 := Scalar.minsi c2_i32_2881 v4425
  let v4427 : Index := Scalar.indexCast v4426
  let c0_2883 : Index := 0#32
  let c0_2884 : Index := 0#32
  ![15, v4427.toNat, 0, 0]
def k0_cond8 (i : grid0.Coords) : BitVec 1 :=
  let arg1 : BitVec 32 := BitVec.ofNat 32 (i 1).val
  let c0_i32_18 : BitVec 32 := 0#32
  let v44 : BitVec 1 := Scalar.cmpi .sgt arg1 c0_i32_18
  let v45 : BitVec 32 := Scalar.extui v44
  let c0_i32_19 : BitVec 32 := 0#32
  let v46 : BitVec 1 := Scalar.cmpi .slt arg1 c0_i32_19
  let v47 : BitVec 32 := Scalar.extui v46
  let v48 : BitVec 32 := Scalar.subi v45 v47
  let c4_i32_17 : BitVec 32 := 4#32
  let c0_i32_20 : BitVec 32 := 0#32
  let v49 : BitVec 1 := Scalar.cmpi .sgt c4_i32_17 c0_i32_20
  let v50 : BitVec 32 := Scalar.extui v49
  let c0_i32_21 : BitVec 32 := 0#32
  let v51 : BitVec 1 := Scalar.cmpi .slt c4_i32_17 c0_i32_21
  let v52 : BitVec 32 := Scalar.extui v51
  let v53 : BitVec 32 := Scalar.subi v50 v52
  let v54 : BitVec 1 := Scalar.cmpi .ne v48 v53
  let v55 : BitVec 32 := Scalar.remsi arg1 c4_i32_17
  let c0_i32_22 : BitVec 32 := 0#32
  let v56 : BitVec 1 := Scalar.cmpi .ne v55 c0_i32_22
  let v57 : BitVec 1 := Scalar.andi v54 v56
  let v43 : BitVec 32 := Scalar.divsi arg1 c4_i32_17
  let c1_i32_23 : BitVec 32 := 1#32
  let v58 : BitVec 32 := Scalar.subi v43 c1_i32_23
  let v59 : BitVec 32 := Scalar.select v57 v58 v43
  let c2_i32 : BitVec 32 := 2#32
  let v60 : BitVec 1 := Scalar.cmpi .eq v59 c2_i32
  let v61 : BitVec 32 := Scalar.extui v60
  let c0_i32_24 : BitVec 32 := 0#32
  let v62 : BitVec 1 := Scalar.cmpi .ne v61 c0_i32_24
  v62

def k0_cond9 (i : grid0.Coords) : BitVec 1 :=
  let arg1 : BitVec 32 := BitVec.ofNat 32 (i 1).val
  let c10_i32 : BitVec 32 := 10#32
  let v1863 : BitVec 1 := Scalar.cmpi .slt arg1 c10_i32
  let v1864 : BitVec 32 := Scalar.extui v1863
  let c0_i32_1041 : BitVec 32 := 0#32
  let v1865 : BitVec 1 := Scalar.cmpi .ne v1864 c0_i32_1041
  v1865

@[reducible] def k0_t5_loop : Scf.Loop 32 :=
  let c0_i32_3922 : BitVec 32 := 0#32
  let c32_i32 : BitVec 32 := 32#32
  let v6149 : BitVec 32 := Scalar.addi c0_i32_3922 c32_i32
  let c1_i32_3923 : BitVec 32 := 1#32
  ⟨c0_i32_3922, v6149, c1_i32_3923⟩
@[reducible] def k0_t6_loop : Scf.Loop 32 :=
  let c0_i32_3921 : BitVec 32 := 0#32
  let c32_i32 : BitVec 32 := 32#32
  let v6149 : BitVec 32 := Scalar.addi c0_i32_3921 c32_i32
  let c1_i32_3922 : BitVec 32 := 1#32
  ⟨c0_i32_3921, v6149, c1_i32_3922⟩
def k0_off33 (i : grid0.Coords) (c7_i32 : BitVec 32) : Fin 4 → Nat :=
  let c0_1184 : Index := 0#32
  let c2_i32_1183 : BitVec 32 := 2#32
  let c0_i32_1182 : BitVec 32 := 0#32
  let arg1 : BitVec 32 := BitVec.ofNat 32 (i 1).val
  let v2043 : BitVec 32 := Scalar.subi arg1 c7_i32
  let v2044 : BitVec 32 := Scalar.maxsi c0_i32_1182 v2043
  let v2045 : BitVec 32 := Scalar.minsi c2_i32_1183 v2044
  let v2046 : Index := Scalar.indexCast v2045
  let c0_1185 : Index := 0#32
  let c0_1186 : Index := 0#32
  ![0, v2046.toNat, 0, 0]
def k0_off34 (i : grid0.Coords) (c7_i32_1338 : BitVec 32) : Fin 4 → Nat :=
  let c1_1341 : Index := 1#32
  let c2_i32_1340 : BitVec 32 := 2#32
  let c0_i32_1339 : BitVec 32 := 0#32
  let arg1 : BitVec 32 := BitVec.ofNat 32 (i 1).val
  let v2296 : BitVec 32 := Scalar.subi arg1 c7_i32_1338
  let v2297 : BitVec 32 := Scalar.maxsi c0_i32_1339 v2296
  let v2298 : BitVec 32 := Scalar.minsi c2_i32_1340 v2297
  let v2299 : Index := Scalar.indexCast v2298
  let c0_1342 : Index := 0#32
  let c0_1343 : Index := 0#32
  ![1, v2299.toNat, 0, 0]
def k0_off35 (i : grid0.Coords) (c7_i32_1507 : BitVec 32) : Fin 4 → Nat :=
  let c2_1510 : Index := 2#32
  let c2_i32_1509 : BitVec 32 := 2#32
  let c0_i32_1508 : BitVec 32 := 0#32
  let arg1 : BitVec 32 := BitVec.ofNat 32 (i 1).val
  let v2549 : BitVec 32 := Scalar.subi arg1 c7_i32_1507
  let v2550 : BitVec 32 := Scalar.maxsi c0_i32_1508 v2549
  let v2551 : BitVec 32 := Scalar.minsi c2_i32_1509 v2550
  let v2552 : Index := Scalar.indexCast v2551
  let c0_1511 : Index := 0#32
  let c0_1512 : Index := 0#32
  ![2, v2552.toNat, 0, 0]
def k0_off36 (i : grid0.Coords) (c7_i32_1676 : BitVec 32) : Fin 4 → Nat :=
  let c3_1679 : Index := 3#32
  let c2_i32_1678 : BitVec 32 := 2#32
  let c0_i32_1677 : BitVec 32 := 0#32
  let arg1 : BitVec 32 := BitVec.ofNat 32 (i 1).val
  let v2802 : BitVec 32 := Scalar.subi arg1 c7_i32_1676
  let v2803 : BitVec 32 := Scalar.maxsi c0_i32_1677 v2802
  let v2804 : BitVec 32 := Scalar.minsi c2_i32_1678 v2803
  let v2805 : Index := Scalar.indexCast v2804
  let c0_1680 : Index := 0#32
  let c0_1681 : Index := 0#32
  ![3, v2805.toNat, 0, 0]
def k0_off37 (i : grid0.Coords) (c7_i32_1868 : BitVec 32) : Fin 4 → Nat :=
  let c4_1871 : Index := 4#32
  let c2_i32_1870 : BitVec 32 := 2#32
  let c0_i32_1869 : BitVec 32 := 0#32
  let arg1 : BitVec 32 := BitVec.ofNat 32 (i 1).val
  let v3082 : BitVec 32 := Scalar.subi arg1 c7_i32_1868
  let v3083 : BitVec 32 := Scalar.maxsi c0_i32_1869 v3082
  let v3084 : BitVec 32 := Scalar.minsi c2_i32_1870 v3083
  let v3085 : Index := Scalar.indexCast v3084
  let c0_1872 : Index := 0#32
  let c0_1873 : Index := 0#32
  ![4, v3085.toNat, 0, 0]
def k0_off38 (i : grid0.Coords) (c7_i32_2037 : BitVec 32) : Fin 4 → Nat :=
  let c5_2040 : Index := 5#32
  let c2_i32_2039 : BitVec 32 := 2#32
  let c0_i32_2038 : BitVec 32 := 0#32
  let arg1 : BitVec 32 := BitVec.ofNat 32 (i 1).val
  let v3335 : BitVec 32 := Scalar.subi arg1 c7_i32_2037
  let v3336 : BitVec 32 := Scalar.maxsi c0_i32_2038 v3335
  let v3337 : BitVec 32 := Scalar.minsi c2_i32_2039 v3336
  let v3338 : Index := Scalar.indexCast v3337
  let c0_2041 : Index := 0#32
  let c0_2042 : Index := 0#32
  ![5, v3338.toNat, 0, 0]
def k0_off39 (i : grid0.Coords) (c7_i32_2206 : BitVec 32) : Fin 4 → Nat :=
  let c6_2209 : Index := 6#32
  let c2_i32_2208 : BitVec 32 := 2#32
  let c0_i32_2207 : BitVec 32 := 0#32
  let arg1 : BitVec 32 := BitVec.ofNat 32 (i 1).val
  let v3588 : BitVec 32 := Scalar.subi arg1 c7_i32_2206
  let v3589 : BitVec 32 := Scalar.maxsi c0_i32_2207 v3588
  let v3590 : BitVec 32 := Scalar.minsi c2_i32_2208 v3589
  let v3591 : Index := Scalar.indexCast v3590
  let c0_2210 : Index := 0#32
  let c0_2211 : Index := 0#32
  ![6, v3591.toNat, 0, 0]
def k0_off40 (i : grid0.Coords) (c7_i32_2375 : BitVec 32) : Fin 4 → Nat :=
  let c7_2378 : Index := 7#32
  let c2_i32_2377 : BitVec 32 := 2#32
  let c0_i32_2376 : BitVec 32 := 0#32
  let arg1 : BitVec 32 := BitVec.ofNat 32 (i 1).val
  let v3841 : BitVec 32 := Scalar.subi arg1 c7_i32_2375
  let v3842 : BitVec 32 := Scalar.maxsi c0_i32_2376 v3841
  let v3843 : BitVec 32 := Scalar.minsi c2_i32_2377 v3842
  let v3844 : Index := Scalar.indexCast v3843
  let c0_2379 : Index := 0#32
  let c0_2380 : Index := 0#32
  ![7, v3844.toNat, 0, 0]
def k0_off41 (i : grid0.Coords) (c7_i32_2567 : BitVec 32) : Fin 4 → Nat :=
  let c8_2570 : Index := 8#32
  let c2_i32_2569 : BitVec 32 := 2#32
  let c0_i32_2568 : BitVec 32 := 0#32
  let arg1 : BitVec 32 := BitVec.ofNat 32 (i 1).val
  let v4121 : BitVec 32 := Scalar.subi arg1 c7_i32_2567
  let v4122 : BitVec 32 := Scalar.maxsi c0_i32_2568 v4121
  let v4123 : BitVec 32 := Scalar.minsi c2_i32_2569 v4122
  let v4124 : Index := Scalar.indexCast v4123
  let c0_2571 : Index := 0#32
  let c0_2572 : Index := 0#32
  ![8, v4124.toNat, 0, 0]
def k0_off42 (i : grid0.Coords) (c7_i32_2736 : BitVec 32) : Fin 4 → Nat :=
  let c9_2739 : Index := 9#32
  let c2_i32_2738 : BitVec 32 := 2#32
  let c0_i32_2737 : BitVec 32 := 0#32
  let arg1 : BitVec 32 := BitVec.ofNat 32 (i 1).val
  let v4374 : BitVec 32 := Scalar.subi arg1 c7_i32_2736
  let v4375 : BitVec 32 := Scalar.maxsi c0_i32_2737 v4374
  let v4376 : BitVec 32 := Scalar.minsi c2_i32_2738 v4375
  let v4377 : Index := Scalar.indexCast v4376
  let c0_2740 : Index := 0#32
  let c0_2741 : Index := 0#32
  ![9, v4377.toNat, 0, 0]
def k0_off43 (i : grid0.Coords) (c7_i32_2905 : BitVec 32) : Fin 4 → Nat :=
  let c10_2908 : Index := 10#32
  let c2_i32_2907 : BitVec 32 := 2#32
  let c0_i32_2906 : BitVec 32 := 0#32
  let arg1 : BitVec 32 := BitVec.ofNat 32 (i 1).val
  let v4627 : BitVec 32 := Scalar.subi arg1 c7_i32_2905
  let v4628 : BitVec 32 := Scalar.maxsi c0_i32_2906 v4627
  let v4629 : BitVec 32 := Scalar.minsi c2_i32_2907 v4628
  let v4630 : Index := Scalar.indexCast v4629
  let c0_2909 : Index := 0#32
  let c0_2910 : Index := 0#32
  ![10, v4630.toNat, 0, 0]
def k0_off44 (i : grid0.Coords) (c7_i32_3074 : BitVec 32) : Fin 4 → Nat :=
  let c11_3077 : Index := 11#32
  let c2_i32_3076 : BitVec 32 := 2#32
  let c0_i32_3075 : BitVec 32 := 0#32
  let arg1 : BitVec 32 := BitVec.ofNat 32 (i 1).val
  let v4880 : BitVec 32 := Scalar.subi arg1 c7_i32_3074
  let v4881 : BitVec 32 := Scalar.maxsi c0_i32_3075 v4880
  let v4882 : BitVec 32 := Scalar.minsi c2_i32_3076 v4881
  let v4883 : Index := Scalar.indexCast v4882
  let c0_3078 : Index := 0#32
  let c0_3079 : Index := 0#32
  ![11, v4883.toNat, 0, 0]
def k0_off45 (i : grid0.Coords) (c7_i32_3258 : BitVec 32) : Fin 4 → Nat :=
  let c12_3261 : Index := 12#32
  let c2_i32_3260 : BitVec 32 := 2#32
  let c0_i32_3259 : BitVec 32 := 0#32
  let arg1 : BitVec 32 := BitVec.ofNat 32 (i 1).val
  let v5153 : BitVec 32 := Scalar.subi arg1 c7_i32_3258
  let v5154 : BitVec 32 := Scalar.maxsi c0_i32_3259 v5153
  let v5155 : BitVec 32 := Scalar.minsi c2_i32_3260 v5154
  let v5156 : Index := Scalar.indexCast v5155
  let c0_3262 : Index := 0#32
  let c0_3263 : Index := 0#32
  ![12, v5156.toNat, 0, 0]
def k0_off46 (i : grid0.Coords) (c7_i32_3427 : BitVec 32) : Fin 4 → Nat :=
  let c13_3430 : Index := 13#32
  let c2_i32_3429 : BitVec 32 := 2#32
  let c0_i32_3428 : BitVec 32 := 0#32
  let arg1 : BitVec 32 := BitVec.ofNat 32 (i 1).val
  let v5406 : BitVec 32 := Scalar.subi arg1 c7_i32_3427
  let v5407 : BitVec 32 := Scalar.maxsi c0_i32_3428 v5406
  let v5408 : BitVec 32 := Scalar.minsi c2_i32_3429 v5407
  let v5409 : Index := Scalar.indexCast v5408
  let c0_3431 : Index := 0#32
  let c0_3432 : Index := 0#32
  ![13, v5409.toNat, 0, 0]
def k0_off47 (i : grid0.Coords) (c7_i32_3596 : BitVec 32) : Fin 4 → Nat :=
  let c14_3599 : Index := 14#32
  let c2_i32_3598 : BitVec 32 := 2#32
  let c0_i32_3597 : BitVec 32 := 0#32
  let arg1 : BitVec 32 := BitVec.ofNat 32 (i 1).val
  let v5659 : BitVec 32 := Scalar.subi arg1 c7_i32_3596
  let v5660 : BitVec 32 := Scalar.maxsi c0_i32_3597 v5659
  let v5661 : BitVec 32 := Scalar.minsi c2_i32_3598 v5660
  let v5662 : Index := Scalar.indexCast v5661
  let c0_3600 : Index := 0#32
  let c0_3601 : Index := 0#32
  ![14, v5662.toNat, 0, 0]
def k0_off48 (i : grid0.Coords) (c7_i32_3765 : BitVec 32) : Fin 4 → Nat :=
  let c15_3768 : Index := 15#32
  let c2_i32_3767 : BitVec 32 := 2#32
  let c0_i32_3766 : BitVec 32 := 0#32
  let arg1 : BitVec 32 := BitVec.ofNat 32 (i 1).val
  let v5912 : BitVec 32 := Scalar.subi arg1 c7_i32_3765
  let v5913 : BitVec 32 := Scalar.maxsi c0_i32_3766 v5912
  let v5914 : BitVec 32 := Scalar.minsi c2_i32_3767 v5913
  let v5915 : Index := Scalar.indexCast v5914
  let c0_3769 : Index := 0#32
  let c0_3770 : Index := 0#32
  ![15, v5915.toNat, 0, 0]
def k0_cond11 (i : grid0.Coords) : BitVec 1 :=
  let arg1 : BitVec 32 := BitVec.ofNat 32 (i 1).val
  let c0_i32_26 : BitVec 32 := 0#32
  let v64 : BitVec 1 := Scalar.cmpi .sgt arg1 c0_i32_26
  let v65 : BitVec 32 := Scalar.extui v64
  let c0_i32_27 : BitVec 32 := 0#32
  let v66 : BitVec 1 := Scalar.cmpi .slt arg1 c0_i32_27
  let v67 : BitVec 32 := Scalar.extui v66
  let v68 : BitVec 32 := Scalar.subi v65 v67
  let c4_i32_25 : BitVec 32 := 4#32
  let c0_i32_28 : BitVec 32 := 0#32
  let v69 : BitVec 1 := Scalar.cmpi .sgt c4_i32_25 c0_i32_28
  let v70 : BitVec 32 := Scalar.extui v69
  let c0_i32_29 : BitVec 32 := 0#32
  let v71 : BitVec 1 := Scalar.cmpi .slt c4_i32_25 c0_i32_29
  let v72 : BitVec 32 := Scalar.extui v71
  let v73 : BitVec 32 := Scalar.subi v70 v72
  let v74 : BitVec 1 := Scalar.cmpi .ne v68 v73
  let v75 : BitVec 32 := Scalar.remsi arg1 c4_i32_25
  let c0_i32_30 : BitVec 32 := 0#32
  let v76 : BitVec 1 := Scalar.cmpi .ne v75 c0_i32_30
  let v77 : BitVec 1 := Scalar.andi v74 v76
  let v63 : BitVec 32 := Scalar.divsi arg1 c4_i32_25
  let c1_i32_31 : BitVec 32 := 1#32
  let v78 : BitVec 32 := Scalar.subi v63 c1_i32_31
  let v79 : BitVec 32 := Scalar.select v77 v78 v63
  let c3_i32 : BitVec 32 := 3#32
  let v80 : BitVec 1 := Scalar.cmpi .eq v79 c3_i32
  let v81 : BitVec 32 := Scalar.extui v80
  let c0_i32_32 : BitVec 32 := 0#32
  let v82 : BitVec 1 := Scalar.cmpi .ne v81 c0_i32_32
  v82

def k0_cond12 (i : grid0.Coords) : BitVec 1 :=
  let arg1 : BitVec 32 := BitVec.ofNat 32 (i 1).val
  let c14_i32 : BitVec 32 := 14#32
  let v2395 : BitVec 1 := Scalar.cmpi .slt arg1 c14_i32
  let v2396 : BitVec 32 := Scalar.extui v2395
  let c0_i32_1344 : BitVec 32 := 0#32
  let v2397 : BitVec 1 := Scalar.cmpi .ne v2396 c0_i32_1344
  v2397

@[reducible] def k0_t7_loop : Scf.Loop 32 :=
  let c0_i32_4834 : BitVec 32 := 0#32
  let c32_i32 : BitVec 32 := 32#32
  let v7677 : BitVec 32 := Scalar.addi c0_i32_4834 c32_i32
  let c1_i32_4835 : BitVec 32 := 1#32
  ⟨c0_i32_4834, v7677, c1_i32_4835⟩
@[reducible] def k0_t8_loop : Scf.Loop 32 :=
  let c0_i32_4833 : BitVec 32 := 0#32
  let c32_i32 : BitVec 32 := 32#32
  let v7677 : BitVec 32 := Scalar.addi c0_i32_4833 c32_i32
  let c1_i32_4834 : BitVec 32 := 1#32
  ⟨c0_i32_4833, v7677, c1_i32_4834⟩
def k0_off49 (i : grid0.Coords) (c11_i32 : BitVec 32) : Fin 4 → Nat :=
  let c0_1531 : Index := 0#32
  let c2_i32_1530 : BitVec 32 := 2#32
  let c0_i32_1529 : BitVec 32 := 0#32
  let arg1 : BitVec 32 := BitVec.ofNat 32 (i 1).val
  let v2631 : BitVec 32 := Scalar.subi arg1 c11_i32
  let v2632 : BitVec 32 := Scalar.maxsi c0_i32_1529 v2631
  let v2633 : BitVec 32 := Scalar.minsi c2_i32_1530 v2632
  let v2634 : Index := Scalar.indexCast v2633
  let c0_1532 : Index := 0#32
  let c0_1533 : Index := 0#32
  ![0, v2634.toNat, 0, 0]
def k0_off50 (i : grid0.Coords) (c11_i32_1718 : BitVec 32) : Fin 4 → Nat :=
  let c1_1721 : Index := 1#32
  let c2_i32_1720 : BitVec 32 := 2#32
  let c0_i32_1719 : BitVec 32 := 0#32
  let arg1 : BitVec 32 := BitVec.ofNat 32 (i 1).val
  let v2944 : BitVec 32 := Scalar.subi arg1 c11_i32_1718
  let v2945 : BitVec 32 := Scalar.maxsi c0_i32_1719 v2944
  let v2946 : BitVec 32 := Scalar.minsi c2_i32_1720 v2945
  let v2947 : Index := Scalar.indexCast v2946
  let c0_1722 : Index := 0#32
  let c0_1723 : Index := 0#32
  ![1, v2947.toNat, 0, 0]
def k0_off51 (i : grid0.Coords) (c11_i32_1923 : BitVec 32) : Fin 4 → Nat :=
  let c2_1926 : Index := 2#32
  let c2_i32_1925 : BitVec 32 := 2#32
  let c0_i32_1924 : BitVec 32 := 0#32
  let arg1 : BitVec 32 := BitVec.ofNat 32 (i 1).val
  let v3257 : BitVec 32 := Scalar.subi arg1 c11_i32_1923
  let v3258 : BitVec 32 := Scalar.maxsi c0_i32_1924 v3257
  let v3259 : BitVec 32 := Scalar.minsi c2_i32_1925 v3258
  let v3260 : Index := Scalar.indexCast v3259
  let c0_1927 : Index := 0#32
  let c0_1928 : Index := 0#32
  ![2, v3260.toNat, 0, 0]
def k0_off52 (i : grid0.Coords) (c11_i32_2128 : BitVec 32) : Fin 4 → Nat :=
  let c3_2131 : Index := 3#32
  let c2_i32_2130 : BitVec 32 := 2#32
  let c0_i32_2129 : BitVec 32 := 0#32
  let arg1 : BitVec 32 := BitVec.ofNat 32 (i 1).val
  let v3570 : BitVec 32 := Scalar.subi arg1 c11_i32_2128
  let v3571 : BitVec 32 := Scalar.maxsi c0_i32_2129 v3570
  let v3572 : BitVec 32 := Scalar.minsi c2_i32_2130 v3571
  let v3573 : Index := Scalar.indexCast v3572
  let c0_2132 : Index := 0#32
  let c0_2133 : Index := 0#32
  ![3, v3573.toNat, 0, 0]
def k0_off53 (i : grid0.Coords) (c11_i32_2356 : BitVec 32) : Fin 4 → Nat :=
  let c4_2359 : Index := 4#32
  let c2_i32_2358 : BitVec 32 := 2#32
  let c0_i32_2357 : BitVec 32 := 0#32
  let arg1 : BitVec 32 := BitVec.ofNat 32 (i 1).val
  let v3910 : BitVec 32 := Scalar.subi arg1 c11_i32_2356
  let v3911 : BitVec 32 := Scalar.maxsi c0_i32_2357 v3910
  let v3912 : BitVec 32 := Scalar.minsi c2_i32_2358 v3911
  let v3913 : Index := Scalar.indexCast v3912
  let c0_2360 : Index := 0#32
  let c0_2361 : Index := 0#32
  ![4, v3913.toNat, 0, 0]
def k0_off54 (i : grid0.Coords) (c11_i32_2561 : BitVec 32) : Fin 4 → Nat :=
  let c5_2564 : Index := 5#32
  let c2_i32_2563 : BitVec 32 := 2#32
  let c0_i32_2562 : BitVec 32 := 0#32
  let arg1 : BitVec 32 := BitVec.ofNat 32 (i 1).val
  let v4223 : BitVec 32 := Scalar.subi arg1 c11_i32_2561
  let v4224 : BitVec 32 := Scalar.maxsi c0_i32_2562 v4223
  let v4225 : BitVec 32 := Scalar.minsi c2_i32_2563 v4224
  let v4226 : Index := Scalar.indexCast v4225
  let c0_2565 : Index := 0#32
  let c0_2566 : Index := 0#32
  ![5, v4226.toNat, 0, 0]
def k0_off55 (i : grid0.Coords) (c11_i32_2766 : BitVec 32) : Fin 4 → Nat :=
  let c6_2769 : Index := 6#32
  let c2_i32_2768 : BitVec 32 := 2#32
  let c0_i32_2767 : BitVec 32 := 0#32
  let arg1 : BitVec 32 := BitVec.ofNat 32 (i 1).val
  let v4536 : BitVec 32 := Scalar.subi arg1 c11_i32_2766
  let v4537 : BitVec 32 := Scalar.maxsi c0_i32_2767 v4536
  let v4538 : BitVec 32 := Scalar.minsi c2_i32_2768 v4537
  let v4539 : Index := Scalar.indexCast v4538
  let c0_2770 : Index := 0#32
  let c0_2771 : Index := 0#32
  ![6, v4539.toNat, 0, 0]
def k0_off56 (i : grid0.Coords) (c11_i32_2971 : BitVec 32) : Fin 4 → Nat :=
  let c7_2974 : Index := 7#32
  let c2_i32_2973 : BitVec 32 := 2#32
  let c0_i32_2972 : BitVec 32 := 0#32
  let arg1 : BitVec 32 := BitVec.ofNat 32 (i 1).val
  let v4849 : BitVec 32 := Scalar.subi arg1 c11_i32_2971
  let v4850 : BitVec 32 := Scalar.maxsi c0_i32_2972 v4849
  let v4851 : BitVec 32 := Scalar.minsi c2_i32_2973 v4850
  let v4852 : Index := Scalar.indexCast v4851
  let c0_2975 : Index := 0#32
  let c0_2976 : Index := 0#32
  ![7, v4852.toNat, 0, 0]
def k0_off57 (i : grid0.Coords) (c11_i32_3199 : BitVec 32) : Fin 4 → Nat :=
  let c8_3202 : Index := 8#32
  let c2_i32_3201 : BitVec 32 := 2#32
  let c0_i32_3200 : BitVec 32 := 0#32
  let arg1 : BitVec 32 := BitVec.ofNat 32 (i 1).val
  let v5189 : BitVec 32 := Scalar.subi arg1 c11_i32_3199
  let v5190 : BitVec 32 := Scalar.maxsi c0_i32_3200 v5189
  let v5191 : BitVec 32 := Scalar.minsi c2_i32_3201 v5190
  let v5192 : Index := Scalar.indexCast v5191
  let c0_3203 : Index := 0#32
  let c0_3204 : Index := 0#32
  ![8, v5192.toNat, 0, 0]
def k0_off58 (i : grid0.Coords) (c11_i32_3404 : BitVec 32) : Fin 4 → Nat :=
  let c9_3407 : Index := 9#32
  let c2_i32_3406 : BitVec 32 := 2#32
  let c0_i32_3405 : BitVec 32 := 0#32
  let arg1 : BitVec 32 := BitVec.ofNat 32 (i 1).val
  let v5502 : BitVec 32 := Scalar.subi arg1 c11_i32_3404
  let v5503 : BitVec 32 := Scalar.maxsi c0_i32_3405 v5502
  let v5504 : BitVec 32 := Scalar.minsi c2_i32_3406 v5503
  let v5505 : Index := Scalar.indexCast v5504
  let c0_3408 : Index := 0#32
  let c0_3409 : Index := 0#32
  ![9, v5505.toNat, 0, 0]
def k0_off59 (i : grid0.Coords) (c11_i32_3609 : BitVec 32) : Fin 4 → Nat :=
  let c10_3612 : Index := 10#32
  let c2_i32_3611 : BitVec 32 := 2#32
  let c0_i32_3610 : BitVec 32 := 0#32
  let arg1 : BitVec 32 := BitVec.ofNat 32 (i 1).val
  let v5815 : BitVec 32 := Scalar.subi arg1 c11_i32_3609
  let v5816 : BitVec 32 := Scalar.maxsi c0_i32_3610 v5815
  let v5817 : BitVec 32 := Scalar.minsi c2_i32_3611 v5816
  let v5818 : Index := Scalar.indexCast v5817
  let c0_3613 : Index := 0#32
  let c0_3614 : Index := 0#32
  ![10, v5818.toNat, 0, 0]
def k0_off60 (i : grid0.Coords) (c11_i32_3814 : BitVec 32) : Fin 4 → Nat :=
  let c11_3817 : Index := 11#32
  let c2_i32_3816 : BitVec 32 := 2#32
  let c0_i32_3815 : BitVec 32 := 0#32
  let arg1 : BitVec 32 := BitVec.ofNat 32 (i 1).val
  let v6128 : BitVec 32 := Scalar.subi arg1 c11_i32_3814
  let v6129 : BitVec 32 := Scalar.maxsi c0_i32_3815 v6128
  let v6130 : BitVec 32 := Scalar.minsi c2_i32_3816 v6129
  let v6131 : Index := Scalar.indexCast v6130
  let c0_3818 : Index := 0#32
  let c0_3819 : Index := 0#32
  ![11, v6131.toNat, 0, 0]
def k0_off61 (i : grid0.Coords) (c11_i32_4034 : BitVec 32) : Fin 4 → Nat :=
  let c12_4037 : Index := 12#32
  let c2_i32_4036 : BitVec 32 := 2#32
  let c0_i32_4035 : BitVec 32 := 0#32
  let arg1 : BitVec 32 := BitVec.ofNat 32 (i 1).val
  let v6461 : BitVec 32 := Scalar.subi arg1 c11_i32_4034
  let v6462 : BitVec 32 := Scalar.maxsi c0_i32_4035 v6461
  let v6463 : BitVec 32 := Scalar.minsi c2_i32_4036 v6462
  let v6464 : Index := Scalar.indexCast v6463
  let c0_4038 : Index := 0#32
  let c0_4039 : Index := 0#32
  ![12, v6464.toNat, 0, 0]
def k0_off62 (i : grid0.Coords) (c11_i32_4239 : BitVec 32) : Fin 4 → Nat :=
  let c13_4242 : Index := 13#32
  let c2_i32_4241 : BitVec 32 := 2#32
  let c0_i32_4240 : BitVec 32 := 0#32
  let arg1 : BitVec 32 := BitVec.ofNat 32 (i 1).val
  let v6774 : BitVec 32 := Scalar.subi arg1 c11_i32_4239
  let v6775 : BitVec 32 := Scalar.maxsi c0_i32_4240 v6774
  let v6776 : BitVec 32 := Scalar.minsi c2_i32_4241 v6775
  let v6777 : Index := Scalar.indexCast v6776
  let c0_4243 : Index := 0#32
  let c0_4244 : Index := 0#32
  ![13, v6777.toNat, 0, 0]
def k0_off63 (i : grid0.Coords) (c11_i32_4444 : BitVec 32) : Fin 4 → Nat :=
  let c14_4447 : Index := 14#32
  let c2_i32_4446 : BitVec 32 := 2#32
  let c0_i32_4445 : BitVec 32 := 0#32
  let arg1 : BitVec 32 := BitVec.ofNat 32 (i 1).val
  let v7087 : BitVec 32 := Scalar.subi arg1 c11_i32_4444
  let v7088 : BitVec 32 := Scalar.maxsi c0_i32_4445 v7087
  let v7089 : BitVec 32 := Scalar.minsi c2_i32_4446 v7088
  let v7090 : Index := Scalar.indexCast v7089
  let c0_4448 : Index := 0#32
  let c0_4449 : Index := 0#32
  ![14, v7090.toNat, 0, 0]
def k0_off64 (i : grid0.Coords) (c11_i32_4649 : BitVec 32) : Fin 4 → Nat :=
  let c15_4652 : Index := 15#32
  let c2_i32_4651 : BitVec 32 := 2#32
  let c0_i32_4650 : BitVec 32 := 0#32
  let arg1 : BitVec 32 := BitVec.ofNat 32 (i 1).val
  let v7400 : BitVec 32 := Scalar.subi arg1 c11_i32_4649
  let v7401 : BitVec 32 := Scalar.maxsi c0_i32_4650 v7400
  let v7402 : BitVec 32 := Scalar.minsi c2_i32_4651 v7401
  let v7403 : Index := Scalar.indexCast v7402
  let c0_4653 : Index := 0#32
  let c0_4654 : Index := 0#32
  ![15, v7403.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Bias.lean ====
abbrev S32x16 : Shape := ⟨2, ![32, 16]⟩
abbrev S16x3x128x128 : Shape := ⟨4, ![16, 3, 128, 128]⟩
abbrev S1x3x128x128 : Shape := ⟨4, ![1, 3, 128, 128]⟩
abbrev S1x1 : Shape := ⟨2, ![1, 1]⟩
abbrev S128x128 : Shape := ⟨2, ![128, 128]⟩
abbrev S1x1x128x128 : Shape := ⟨4, ![1, 1, 128, 128]⟩

abbrev nBuf : Space → Nat
  | .hbm => 2
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S16x3x128x128, .f32⟩
  | .local _ .vmem, ⟨0, _⟩ => ⟨S1x3x128x128, .f32⟩
  | .local _ .vmem, ⟨1, _⟩ => ⟨S1x3x128x128, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c31 : Index := 31#32
  let arg0 : BitVec 32 := BitVec.ofNat 32 (i 0).val
  let v0 : Index := Scalar.indexCast arg0
  ![31, v0.toNat]
def k0_off2 (i : grid0.Coords) : Fin 2 → Nat :=
  let c0 : Index := 0#32
  let arg0 : BitVec 32 := BitVec.ofNat 32 (i 0).val
  let v30 : Index := Scalar.indexCast arg0
  ![0, v30.toNat]
def k0_off3 (i : grid0.Coords) : Fin 2 → Nat :=
  let c1 : Index := 1#32
  let arg0 : BitVec 32 := BitVec.ofNat 32 (i 0).val
  let v36 : Index := Scalar.indexCast arg0
  ![1, v36.toNat]
def k0_off4 (i : grid0.Coords) : Fin 2 → Nat :=
  let c2 : Index := 2#32
  let arg0 : BitVec 32 := BitVec.ofNat 32 (i 0).val
  let v42 : Index := Scalar.indexCast arg0
  ![2, v42.toNat]
def k0_off5 (i : grid0.Coords) : Fin 2 → Nat :=
  let c3 : Index := 3#32
  let arg0 : BitVec 32 := BitVec.ofNat 32 (i 0).val
  let v48 : Index := Scalar.indexCast arg0
  ![3, v48.toNat]
def k0_off6 (i : grid0.Coords) : Fin 2 → Nat :=
  let c4 : Index := 4#32
  let arg0 : BitVec 32 := BitVec.ofNat 32 (i 0).val
  let v54 : Index := Scalar.indexCast arg0
  ![4, v54.toNat]
def k0_off7 (i : grid0.Coords) : Fin 2 → Nat :=
  let c5 : Index := 5#32
  let arg0 : BitVec 32 := BitVec.ofNat 32 (i 0).val
  let v60 : Index := Scalar.indexCast arg0
  ![5, v60.toNat]
def k0_off8 (i : grid0.Coords) : Fin 2 → Nat :=
  let c6 : Index := 6#32
  let arg0 : BitVec 32 := BitVec.ofNat 32 (i 0).val
  let v66 : Index := Scalar.indexCast arg0
  ![6, v66.toNat]
def k0_off9 (i : grid0.Coords) : Fin 2 → Nat :=
  let c7 : Index := 7#32
  let arg0 : BitVec 32 := BitVec.ofNat 32 (i 0).val
  let v72 : Index := Scalar.indexCast arg0
  ![7, v72.toNat]
def k0_off10 (i : grid0.Coords) : Fin 2 → Nat :=
  let c8 : Index := 8#32
  let arg0 : BitVec 32 := BitVec.ofNat 32 (i 0).val
  let v78 : Index := Scalar.indexCast arg0
  ![8, v78.toNat]
def k0_off11 (i : grid0.Coords) : Fin 2 → Nat :=
  let c9 : Index := 9#32
  let arg0 : BitVec 32 := BitVec.ofNat 32 (i 0).val
  let v84 : Index := Scalar.indexCast arg0
  ![9, v84.toNat]
def k0_off12 (i : grid0.Coords) : Fin 2 → Nat :=
  let c10 : Index := 10#32
  let arg0 : BitVec 32 := BitVec.ofNat 32 (i 0).val
  let v90 : Index := Scalar.indexCast arg0
  ![10, v90.toNat]
def k0_off13 (i : grid0.Coords) : Fin 2 → Nat :=
  let c11 : Index := 11#32
  let arg0 : BitVec 32 := BitVec.ofNat 32 (i 0).val
  let v96 : Index := Scalar.indexCast arg0
  ![11, v96.toNat]
def k0_off14 (i : grid0.Coords) : Fin 2 → Nat :=
  let c12 : Index := 12#32
  let arg0 : BitVec 32 := BitVec.ofNat 32 (i 0).val
  let v102 : Index := Scalar.indexCast arg0
  ![12, v102.toNat]
def k0_off15 (i : grid0.Coords) : Fin 2 → Nat :=
  let c13 : Index := 13#32
  let arg0 : BitVec 32 := BitVec.ofNat 32 (i 0).val
  let v108 : Index := Scalar.indexCast arg0
  ![13, v108.toNat]
def k0_off16 (i : grid0.Coords) : Fin 2 → Nat :=
  let c14 : Index := 14#32
  let arg0 : BitVec 32 := BitVec.ofNat 32 (i 0).val
  let v114 : Index := Scalar.indexCast arg0
  ![14, v114.toNat]
def k0_off17 (i : grid0.Coords) : Fin 2 → Nat :=
  let c15 : Index := 15#32
  let arg0 : BitVec 32 := BitVec.ofNat 32 (i 0).val
  let v120 : Index := Scalar.indexCast arg0
  ![15, v120.toNat]
def k0_off18 (i : grid0.Coords) : Fin 2 → Nat :=
  let c16 : Index := 16#32
  let arg0 : BitVec 32 := BitVec.ofNat 32 (i 0).val
  let v126 : Index := Scalar.indexCast arg0
  ![16, v126.toNat]
def k0_off19 (i : grid0.Coords) : Fin 2 → Nat :=
  let c17 : Index := 17#32
  let arg0 : BitVec 32 := BitVec.ofNat 32 (i 0).val
  let v132 : Index := Scalar.indexCast arg0
  ![17, v132.toNat]
def k0_off20 (i : grid0.Coords) : Fin 2 → Nat :=
  let c18 : Index := 18#32
  let arg0 : BitVec 32 := BitVec.ofNat 32 (i 0).val
  let v138 : Index := Scalar.indexCast arg0
  ![18, v138.toNat]
def k0_off21 (i : grid0.Coords) : Fin 2 → Nat :=
  let c19 : Index := 19#32
  let arg0 : BitVec 32 := BitVec.ofNat 32 (i 0).val
  let v144 : Index := Scalar.indexCast arg0
  ![19, v144.toNat]
def k0_off22 (i : grid0.Coords) : Fin 2 → Nat :=
  let c20 : Index := 20#32
  let arg0 : BitVec 32 := BitVec.ofNat 32 (i 0).val
  let v150 : Index := Scalar.indexCast arg0
  ![20, v150.toNat]
def k0_off23 (i : grid0.Coords) : Fin 2 → Nat :=
  let c21 : Index := 21#32
  let arg0 : BitVec 32 := BitVec.ofNat 32 (i 0).val
  let v156 : Index := Scalar.indexCast arg0
  ![21, v156.toNat]
def k0_off24 (i : grid0.Coords) : Fin 2 → Nat :=
  let c22 : Index := 22#32
  let arg0 : BitVec 32 := BitVec.ofNat 32 (i 0).val
  let v162 : Index := Scalar.indexCast arg0
  ![22, v162.toNat]
def k0_off25 (i : grid0.Coords) : Fin 2 → Nat :=
  let c23 : Index := 23#32
  let arg0 : BitVec 32 := BitVec.ofNat 32 (i 0).val
  let v168 : Index := Scalar.indexCast arg0
  ![23, v168.toNat]
def k0_off26 (i : grid0.Coords) : Fin 2 → Nat :=
  let c24 : Index := 24#32
  let arg0 : BitVec 32 := BitVec.ofNat 32 (i 0).val
  let v174 : Index := Scalar.indexCast arg0
  ![24, v174.toNat]
def k0_off27 (i : grid0.Coords) : Fin 2 → Nat :=
  let c25 : Index := 25#32
  let arg0 : BitVec 32 := BitVec.ofNat 32 (i 0).val
  let v180 : Index := Scalar.indexCast arg0
  ![25, v180.toNat]
def k0_off28 (i : grid0.Coords) : Fin 2 → Nat :=
  let c26 : Index := 26#32
  let arg0 : BitVec 32 := BitVec.ofNat 32 (i 0).val
  let v186 : Index := Scalar.indexCast arg0
  ![26, v186.toNat]
def k0_off29 (i : grid0.Coords) : Fin 2 → Nat :=
  let c27 : Index := 27#32
  let arg0 : BitVec 32 := BitVec.ofNat 32 (i 0).val
  let v192 : Index := Scalar.indexCast arg0
  ![27, v192.toNat]
def k0_off30 (i : grid0.Coords) : Fin 2 → Nat :=
  let c28 : Index := 28#32
  let arg0 : BitVec 32 := BitVec.ofNat 32 (i 0).val
  let v198 : Index := Scalar.indexCast arg0
  ![28, v198.toNat]
def k0_off31 (i : grid0.Coords) : Fin 2 → Nat :=
  let c29 : Index := 29#32
  let arg0 : BitVec 32 := BitVec.ofNat 32 (i 0).val
  let v204 : Index := Scalar.indexCast arg0
  ![29, v204.toNat]
def k0_off32 (i : grid0.Coords) : Fin 2 → Nat :=
  let c30 : Index := 30#32
  let arg0 : BitVec 32 := BitVec.ofNat 32 (i 0).val
  let v210 : Index := Scalar.indexCast arg0
  ![30, v210.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Merge.lean ====
abbrev S8x2048x2048 : Shape := ⟨3, ![8, 2048, 2048]⟩
abbrev S16384x2048 : Shape := ⟨2, ![16384, 2048]⟩
abbrev S1x2048x2048 : Shape := ⟨3, ![1, 2048, 2048]⟩
abbrev S16384x4096 : Shape := ⟨2, ![16384, 4096]⟩
abbrev S2048x2048 : Shape := ⟨2, ![2048, 2048]⟩
abbrev S512x2048 : Shape := ⟨2, ![512, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .bf16⟩
  | .hbm, ⟨1, _⟩ => ⟨S16384x2048, .bf16⟩
  | .hbm, ⟨2, _⟩ => ⟨S1x2048x2048, .f32⟩
  | .hbm, ⟨3, _⟩ => ⟨S1x2048x2048, .f32⟩
  | .hbm, ⟨4, _⟩ => ⟨S16384x4096, .f32⟩
  | .hbm, ⟨5, _⟩ => ⟨S16384x2048, .bf16⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8x2048x2048 : Shape := ⟨3, ![8, 2048, 2048]⟩
abbrev S16384x2048 : Shape := ⟨2, ![16384, 2048]⟩
abbrev S1x2048x2048 : Shape := ⟨3, ![1, 2048, 2048]⟩
abbrev S16384x4096 : Shape := ⟨2, ![16384, 4096]⟩
abbrev S_ : Shape := ⟨0, ![]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S16384x2048, .bf16⟩
  | .hbm, ⟨2, _⟩ => ⟨S1x2048x2048, .f32⟩
  | .hbm, ⟨3, _⟩ => ⟨S1x2048x2048, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S2048x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S2048x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Rglru.lean ====
abbrev S16384x4096 : Shape := ⟨2, ![16384, 4096]⟩
abbrev S1x4x2048 : Shape := ⟨3, ![1, 4, 2048]⟩
abbrev S1x2048 : Shape := ⟨2, ![1, 2048]⟩
abbrev S1x16x128x128 : Shape := ⟨4, ![1, 16, 128, 128]⟩
abbrev S16x128x128 : Shape := ⟨3, ![16, 128, 128]⟩
abbrev S16x128x256 : Shape := ⟨3, ![16, 128, 256]⟩
abbrev S_ : Shape := ⟨0, ![]⟩
abbrev S8x2048x4096 : Shape := ⟨3, ![8, 2048, 4096]⟩
abbrev S4x2048 : Shape := ⟨2, ![4, 2048]⟩
abbrev S2048 : Shape := ⟨1, ![2048]⟩
abbrev S8x2048x2048 : Shape := ⟨3, ![8, 2048, 2048]⟩
abbrev S1x512x512 : Shape := ⟨3, ![1, 512, 512]⟩
abbrev S4x512 : Shape := ⟨2, ![4, 512]⟩
abbrev S1x512 : Shape := ⟨2, ![1, 512]⟩
abbrev S4x128x256 : Shape := ⟨3, ![4, 128, 256]⟩
abbrev S8x512 : Shape := ⟨2, ![8, 512]⟩
abbrev S1x8x512 : Shape := ⟨3, ![1, 8, 512]⟩
abbrev S512x512 : Shape := ⟨2, ![512, 512]⟩
abbrev S64x8x512 : Shape := ⟨3, ![64, 8, 512]⟩
abbrev S1x1x512 : Shape := ⟨3, ![1, 1, 512]⟩
abbrev S63x8x512 : Shape := ⟨3, ![63, 8, 512]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩

abbrev nBuf : Space → Nat
  | .hbm => 32
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S1x4x2048, .f32⟩
  | .hbm, ⟨2, _⟩ => ⟨S1x2048, .f32⟩
  | .hbm, ⟨3, _⟩ => ⟨S1x16x128x128, .f32⟩
  | .hbm, ⟨4, _⟩ => ⟨S1x2048, .f32⟩
  | .hbm, ⟨5, _⟩ => ⟨S1x16x128x128, .f32⟩
  | .hbm, ⟨6, _⟩ => ⟨S1x2048, .f32⟩
  | .hbm, ⟨7, _⟩ => ⟨S1x2048, .f32⟩
  | .hbm, ⟨8, _⟩ => ⟨S16x128x128, .f32⟩
  | .hbm, ⟨9, _⟩ => ⟨S16x128x128, .f32⟩
  | .hbm, ⟨10, _⟩ => ⟨S16x128x256, .f32⟩
  | .hbm, ⟨11, _⟩ => ⟨S_, .f32⟩
  | .hbm, ⟨12, _⟩ => ⟨S16x128x256, .f32⟩
  | .hbm, ⟨13, _⟩ => ⟨S16x128x256, .f32⟩
  | .hbm, ⟨14, _⟩ => ⟨S16x128x256, .bf16⟩
  | .hbm, ⟨15, _⟩ => ⟨S8x2048x4096, .f32⟩
  | .hbm, ⟨16, _⟩ => ⟨S4x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S8x2048x2048, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S4x128x256, .bf16⟩
  | .local _ .vmem, ⟨9, _⟩ => ⟨S4x128x256, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512x512, .bf16⟩
  | .local _ .vmem, ⟨17, _⟩ => ⟨S1x512x512, .bf16⟩
  | .local _ .vmem, ⟨18, _⟩ => ⟨S8x512, .f32⟩
  | .local _ .vmem, ⟨19, _⟩ => ⟨S8x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== RglruIdeal.lean ====
variable {F : FTy → Type} [FloatOps F] [Named F]
def κ : String → Option EReal := fun
  | "c2" => some ((80338380498831 / 2251799813685248 : ℝ) : EReal)
  | "neg_log2e" => some ((-((Real.log 2)⁻¹) : ℝ) : EReal)
  | _ => none
-- ==== RglruRefIdeal.lean ====
abbrev S16384x4096 : Shape := ⟨2, ![16384, 4096]⟩
abbrev S1x4x2048 : Shape := ⟨3, ![1, 4, 2048]⟩
abbrev S1x2048 : Shape := ⟨2, ![1, 2048]⟩
abbrev S1x16x128x128 : Shape := ⟨4, ![1, 16, 128, 128]⟩
abbrev S8x2048x4096 : Shape := ⟨3, ![8, 2048, 4096]⟩
abbrev S8x2048x2048 : Shape := ⟨3, ![8, 2048, 2048]⟩
abbrev S4x2048 : Shape := ⟨2, ![4, 2048]⟩
abbrev S2048 : Shape := ⟨1, ![2048]⟩
abbrev S_ : Shape := ⟨0, ![]⟩
abbrev S8x2051x2048 : Shape := ⟨3, ![8, 2051, 2048]⟩
abbrev S1x1x2048 : Shape := ⟨3, ![1, 1, 2048]⟩
abbrev S16x128x128 : Shape := ⟨3, ![16, 128, 128]⟩
abbrev S8x2048x16x128 : Shape := ⟨4, ![8, 2048, 16, 128]⟩
abbrev S16x128x8x2048 : Shape := ⟨4, ![16, 128, 8, 2048]⟩
abbrev S8x2048 : Shape := ⟨2, ![8, 2048]⟩
abbrev S2048x8x2048 : Shape := ⟨3, ![2048, 8, 2048]⟩
abbrev S1x8x2048 : Shape := ⟨3, ![1, 8, 2048]⟩

abbrev nBuf : Space → Nat
  | .hbm => 160
  | .vmem => 0
  | .smem => 0
  | _ => 0

abbrev hbmTy0_0 (i : Nat) : BufTy := match i % 128 with
  | 0 => ⟨S16384x4096, .f32⟩
  | 1 => ⟨S1x4x2048, .f32⟩
  | 2 => ⟨S1x2048, .f32⟩
  | 3 => ⟨S1x16x128x128, .f32⟩
  | 4 => ⟨S1x2048, .f32⟩
  | 5 => ⟨S1x16x128x128, .f32⟩
  | 6 => ⟨S1x2048, .f32⟩
  | 7 => ⟨S1x2048, .f32⟩
  | 8 => ⟨S8x2048x4096, .f32⟩
  | 9 => ⟨S8x2048x2048, .f32⟩
  | 10 => ⟨S8x2048x2048, .f32⟩
  | 11 => ⟨S4x2048, .f32⟩
  | 12 => ⟨S2048, .f32⟩
  | 13 => ⟨S_, .i32⟩
  | 14 => ⟨S_, .f32⟩
  | 15 => ⟨S8x2051x2048, .f32⟩
  | 16 => ⟨S8x2048x2048, .f32⟩
  | 17 => ⟨S1x2048, .f32⟩
  | 18 => ⟨S2048, .f32⟩
  | 19 => ⟨S1x1x2048, .f32⟩
  | 20 => ⟨S8x2048x2048, .f32⟩
  | 21 => ⟨S8x2048x2048, .f32⟩
  | 22 => ⟨S1x1x2048, .f32⟩
  | 23 => ⟨S8x2048x2048, .f32⟩
  | 24 => ⟨S8x2048x2048, .f32⟩
  | 25 => ⟨S8x2048x2048, .f32⟩
  | 26 => ⟨S1x2048, .f32⟩
  | 27 => ⟨S2048, .f32⟩
  | 28 => ⟨S1x1x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S1x2048, .f32⟩
  | 34 => ⟨S2048, .f32⟩
  | 35 => ⟨S1x1x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S1x2048, .f32⟩
  | 41 => ⟨S2048, .f32⟩
  | 42 => ⟨S1x1x2048, .f32⟩
  | 43 => ⟨S8x2048x2048, .f32⟩
  | 44 => ⟨S8x2048x2048, .f32⟩
  | 45 => ⟨S8x2048x2048, .f32⟩
  | 46 => ⟨S16x128x128, .f32⟩
  | 47 => ⟨S2048, .f32⟩
  | 48 => ⟨S16x128x128, .f32⟩
  | 49 => ⟨S2048, .f32⟩
  | 50 => ⟨S2048, .f32⟩
  | 51 => ⟨S8x2048x16x128, .f32⟩
  | 52 => ⟨S16x128x8x2048, .f32⟩
  | 53 => ⟨S8x2048x16x128, .f32⟩
  | 54 => ⟨S8x2048x2048, .f32⟩
  | 55 => ⟨S1x1x2048, .f32⟩
  | 56 => ⟨S8x2048x2048, .f32⟩
  | 57 => ⟨S8x2048x2048, .f32⟩
  | 58 => ⟨S8x2048x2048, .f32⟩
  | 59 => ⟨S8x2048x2048, .f32⟩
  | 60 => ⟨S_, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S16x128x8x2048, .f32⟩
  | 67 => ⟨S8x2048x16x128, .f32⟩
  | 68 => ⟨S8x2048x2048, .f32⟩
  | 69 => ⟨S1x1x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S_, .f32⟩
  | 75 => ⟨S8x2048x2048, .f32⟩
  | 76 => ⟨S8x2048x2048, .f32⟩
  | 77 => ⟨S_, .f32⟩
  | 78 => ⟨S8x2048x2048, .f32⟩
  | 79 => ⟨S8x2048x2048, .f32⟩
  | 80 => ⟨S_, .f32⟩
  | 81 => ⟨S8x2048x2048, .f32⟩
  | 82 => ⟨S8x2048x2048, .f32⟩
  | 83 => ⟨S2048, .f32⟩
  | 84 => ⟨S_, .f32⟩
  | 85 => ⟨S2048, .f32⟩
  | 86 => ⟨S2048, .f32⟩
  | 87 => ⟨S2048, .f32⟩
  | 88 => ⟨S2048, .f32⟩
  | 89 => ⟨S2048, .i1⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S1x1x2048, .f32⟩
  | 99 => ⟨S8x2048x2048, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .f32⟩
  | 105 => ⟨S8x2048x2048, .f32⟩
  | 106 => ⟨S8x2048x2048, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S2048x8x2048, .f32⟩
  | 113 => ⟨S2048x8x2048, .f32⟩
  | 114 => ⟨S_, .f32⟩
  | 115 => ⟨S2048x8x2048, .f32⟩
  | 116 => ⟨S_, .i32⟩
  | 117 => ⟨S2048x8x2048, .f32⟩
  | 118 => ⟨S2048x8x2048, .f32⟩
  | 119 => ⟨S_, .i32⟩
  | 120 => ⟨S8x2048, .f32⟩
  | 121 => ⟨S2048x8x2048, .f32⟩
  | 122 => ⟨S_, .i32⟩
  | 123 => ⟨S_, .i1⟩
  | 124 => ⟨S_, .i32⟩
  | 125 => ⟨S_, .i32⟩
  | 126 => ⟨S1x8x2048, .f32⟩
  | 127 => ⟨S8x2048, .f32⟩
  | _ => ⟨S16384x4096, .f32⟩

abbrev hbmTy0_1 (i : Nat) : BufTy := match i % 128 with
  | 0 => ⟨S_, .i32⟩
  | 1 => ⟨S_, .i32⟩
  | 2 => ⟨S1x8x2048, .f32⟩
  | 3 => ⟨S8x2048, .f32⟩
  | 4 => ⟨S8x2048, .f32⟩
  | 5 => ⟨S8x2048, .f32⟩
  | 6 => ⟨S1x8x2048, .f32⟩
  | 7 => ⟨S_, .i32⟩
  | 8 => ⟨S_, .i32⟩
  | 9 => ⟨S2048x8x2048, .f32⟩
  | 10 => ⟨S_, .i32⟩
  | 11 => ⟨S_, .i32⟩
  | 12 => ⟨S8x2048x2048, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst : Ref sig .tc := ⟨.hbm, 60, rfl⟩
abbrev main_v50 : Ref sig .tc := ⟨.hbm, 61, rfl⟩
abbrev main_v51 : Ref sig .tc := ⟨.hbm, 62, rfl⟩
abbrev main_cst_0 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_1 : Ref sig .tc := ⟨.hbm, 74, rfl⟩
abbrev main_v62 : Ref sig .tc := ⟨.hbm, 75, rfl⟩
abbrev main_v63 : Ref sig .tc := ⟨.hbm, 76, rfl⟩
abbrev main_cst_2 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_5 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_6 : Ref sig .tc := ⟨.hbm, 114, rfl⟩
abbrev main_v84 : Ref sig .tc := ⟨.hbm, 115, rfl⟩
abbrev main_c_7 : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev main_v85_4 : Ref sig .tc := ⟨.hbm, 121, rfl⟩
abbrev main_while0c_c_16 : Ref sig .tc := ⟨.hbm, 122, rfl⟩
abbrev main_while0c_v102 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_v0 : Ref sig .tc := ⟨.hbm, 126, rfl⟩
abbrev main_while0b_v102 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_v0 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_v106 : Ref sig .tc := ⟨.hbm, 137, rfl⟩
abbrev main_while0b_c_16 : Ref sig .tc := ⟨.hbm, 138, rfl⟩
abbrev main_while0b_v107 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_8 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_9 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_10 : Ref sig .tc := ⟨.hbm, 151, rfl⟩
abbrev main_v95 : Ref sig .tc := ⟨.hbm, 152, rfl⟩
abbrev main_v96 : Ref sig .tc := ⟨.hbm, 153, rfl⟩
abbrev main_cst_11 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩

abbrev nD : Nat := 1
abbrev τ : Topo := Topo.v7x

variable {F : FTy → Type} [FloatOps F]

abbrev main_while0_count : Scf.Loop 32 := ⟨0#32, 2048#32, 1#32⟩
-- ==== FfnResid.lean ====
abbrev S8x2048x2048 : Shape := ⟨3, ![8, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S2048x384 : Shape := ⟨2, ![2048, 384]⟩
abbrev S384x2048 : Shape := ⟨2, ![384, 2048]⟩
abbrev S512x2048 : Shape := ⟨2, ![512, 2048]⟩
abbrev S3x2048x512 : Shape := ⟨3, ![3, 2048, 512]⟩
abbrev S3x512x2048 : Shape := ⟨3, ![3, 512, 2048]⟩
abbrev S3x3 : Shape := ⟨2, ![3, 3]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 22
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S1x2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5504, .f32⟩
  | .hbm, ⟨10, _⟩ => ⟨S2048x5504, .bf16⟩
  | .hbm, ⟨11, _⟩ => ⟨S2048x5504, .f32⟩
  | .hbm, ⟨12, _⟩ => ⟨S2048x5504, .bf16⟩
  | .hbm, ⟨13, _⟩ => ⟨S5504x2048, .f32⟩
  | .hbm, ⟨14, _⟩ => ⟨S5504x2048, .bf16⟩
  | .hbm, ⟨15, _⟩ => ⟨S2048, .f32⟩
  | .hbm, ⟨16, _⟩ => ⟨S1x2048, .f32⟩
  | .hbm, ⟨17, _⟩ => ⟨S2048x384, .bf16⟩
  | .hbm, ⟨18, _⟩ => ⟨S2048x384, .bf16⟩
  | .hbm, ⟨19, _⟩ => ⟨S384x2048, .bf16⟩
  | .hbm, ⟨20, _⟩ => ⟨S16384x2048, .f32⟩
  | .hbm, ⟨21, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x384, .bf16⟩
  | .local _ .vmem, ⟨4, _⟩ => ⟨S2048x384, .bf16⟩
  | .local _ .vmem, ⟨5, _⟩ => ⟨S384x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S3x2048x512, .bf16⟩
  | .local _ .vmem, ⟨13, _⟩ => ⟨S3x2048x512, .bf16⟩
  | .local _ .vmem, ⟨14, _⟩ => ⟨S3x512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_7 : BitVec 32 := 0#32
  c0_i32_7
def k0_mult2 : BitVec 32 :=
  let c512_i32 : BitVec 32 := 512#32
  c512_i32
def k0_cond3 (i : grid0.Coords) : BitVec 1 :=
  let arg1 : BitVec 32 := BitVec.ofNat 32 (i 1).val
  let c10_i32 : BitVec 32 := 10#32
  let v8 : BitVec 1 := Scalar.cmpi .slt arg1 c10_i32
  let v9 : BitVec 32 := Scalar.extui v8
  let c0_i32_4 : BitVec 32 := 0#32
  let v10 : BitVec 1 := Scalar.cmpi .ne v9 c0_i32_4
  v10

def k0_mult3 (i : grid0.Coords) : BitVec 32 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  v36
def k0_off1 (i : grid0.Coords) : Fin 2 → Nat :=
  let c0_i32_18 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![0, v25.toNat]
def k0_off2 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_19 : BitVec 32 := 0#32
  let c0_i32_20 : BitVec 32 := 0#32
  ![v25.toNat, 0, 0]
def k0_off3 (i : grid0.Coords) : Fin 2 → Nat :=
  let c0_i32_21 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  let v37 : BitVec 32 := v36
  ![0, v37.toNat]
def k0_off4 (i : grid0.Coords) : Fin 2 → Nat :=
  let c1_i32_22 : BitVec 32 := 1#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![1, v25.toNat]
def k0_off5 (i : grid0.Coords) : Fin 2 → Nat :=
  let c2_i32 : BitVec 32 := 2#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![2, v25.toNat]
def k0_off6 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_26 : BitVec 32 := 0#32
  let c0_i32_27 : BitVec 32 := 0#32
  ![v25.toNat, 0, 0]
def k0_off7 (i : grid0.Coords) : Fin 2 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  let v37 : BitVec 32 := v36
  let c0_i32_28 : BitVec 32 := 0#32
  ![v37.toNat, 0]
def k0_cond4 (i : grid0.Coords) : BitVec 1 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_29 : BitVec 32 := 2#32
  let v53 : BitVec 32 := Scalar.addi v15 c2_i32_29
  let c320_i32 : BitVec 32 := 320#32
  let v54 : BitVec 1 := Scalar.cmpi .slt v53 c320_i32
  let v55 : BitVec 32 := Scalar.extui v54
  let c0_i32_30 : BitVec 32 := 0#32
  let v56 : BitVec 1 := Scalar.cmpi .ne v55 c0_i32_30
  v56

def k0_mult4 (i : grid0.Coords) : BitVec 32 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  v115
def k0_off8 (i : grid0.Coords) : Fin 2 → Nat :=
  let c0_i32_67 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![0, v104.toNat]
def k0_off9 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  let c0_i32_68 : BitVec 32 := 0#32
  let c0_i32_69 : BitVec 32 := 0#32
  ![v104.toNat, 0, 0]
def k0_off10 (i : grid0.Coords) : Fin 2 → Nat :=
  let c0_i32_70 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  let v116 : BitVec 32 := v115
  ![0, v116.toNat]
def k0_off11 (i : grid0.Coords) : Fin 2 → Nat :=
  let c1_i32_71 : BitVec 32 := 1#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![1, v104.toNat]
def k0_off12 (i : grid0.Coords) : Fin 2 → Nat :=
  let c2_i32_75 : BitVec 32 := 2#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![2, v104.toNat]
def k0_off13 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  let c0_i32_76 : BitVec 32 := 0#32
  let c0_i32_77 : BitVec 32 := 0#32
  ![v104.toNat, 0, 0]
def k0_off14 (i : grid0.Coords) : Fin 2 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  let v116 : BitVec 32 := v115
  let c0_i32_78 : BitVec 32 := 0#32
  ![v116.toNat, 0]
def k0_off15 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32_31 : BitVec 32 := 3#32
  let c0_i32_32 : BitVec 32 := 0#32
  let v57 : BitVec 1 := Scalar.cmpi .eq c3_i32_31 c0_i32_32
  let c1_i32_33 : BitVec 32 := 1#32
  let v58 : BitVec 32 := Scalar.select v57 c1_i32_33 c3_i32_31
  let v59 : BitVec 32 := Scalar.remsi v15 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let v67 : Index := Scalar.indexCast v66
  let c0 : Index := 0#32
  let c0_37 : Index := 0#32
  ![v67.toNat, 0, 0]
def k0_off16 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32_31 : BitVec 32 := 3#32
  let c0_i32_32 : BitVec 32 := 0#32
  let v57 : BitVec 1 := Scalar.cmpi .eq c3_i32_31 c0_i32_32
  let c1_i32_33 : BitVec 32 := 1#32
  let v58 : BitVec 32 := Scalar.select v57 c1_i32_33 c3_i32_31
  let v59 : BitVec 32 := Scalar.remsi v15 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let v73 : Index := Scalar.indexCast v66
  let c0_40 : Index := 0#32
  let c0_41 : Index := 0#32
  ![v73.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond5 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnResidRefIdeal.lean ====
abbrev S8x2048x2048 : Shape := ⟨3, ![8, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5504 : Shape := ⟨2, ![2048, 5504]⟩
abbrev S5504x2048 : Shape := ⟨2, ![5504, 2048]⟩
abbrev S8x2048x5504 : Shape := ⟨3, ![8, 2048, 5504]⟩
abbrev S16384x2048 : Shape := ⟨2, ![16384, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S1x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S2048x5504, .f32⟩
  | .hbm, ⟨24, _⟩ => ⟨S2048x5504, .f32⟩
  | .hbm, ⟨25, _⟩ => ⟨S5504x2048, .f32⟩
  | .hbm, ⟨26, _⟩ => ⟨S8x2048x5504, .f32⟩
  | .hbm, ⟨27, _⟩ => ⟨S8x2048x5504, .f32⟩
  | .hbm, ⟨28, _⟩ => ⟨S8x2048x5504, .f32⟩
  | .hbm, ⟨29, _⟩ => ⟨S_, .f32⟩
  | .hbm, ⟨30, _⟩ => ⟨S8x2048x5504, .f32⟩
  | .hbm, ⟨31, _⟩ => ⟨S8x2048x5504, .f32⟩
  | .hbm, ⟨32, _⟩ => ⟨S_, .f32⟩
  | .hbm, ⟨33, _⟩ => ⟨S8x2048x5504, .f32⟩
  | .hbm, ⟨34, _⟩ => ⟨S8x2048x5504, .f32⟩
  | .hbm, ⟨35, _⟩ => ⟨S8x2048x5504, .f32⟩
  | .hbm, ⟨36, _⟩ => ⟨S8x2048x5504, .f32⟩
  | .hbm, ⟨37, _⟩ => ⟨S8x2048x5504, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S16384x2048, .f32⟩
  | .hbm, ⟨44, _⟩ => ⟨S2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S1x1x2048, .f32⟩
  | .hbm, ⟨59, _⟩ => ⟨S8x2048x2048, .f32⟩
  | .hbm, ⟨60, _⟩ => ⟨S8x2048x2048, .f32⟩
  | .hbm, ⟨61, _⟩ => ⟨S16384x2048, .f32⟩
  | .hbm, ⟨62, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== FfnFinal.lean ====
abbrev S16384x2048 : Shape := ⟨2, ![16384, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S2048x5504 : Shape := ⟨2, ![2048, 5504]⟩
abbrev S5504x2048 : Shape := ⟨2, ![5504, 2048]⟩
abbrev S2048x384 : Shape := ⟨2, ![2048, 384]⟩
abbrev S384x2048 : Shape := ⟨2, ![384, 2048]⟩
abbrev S512x2048 : Shape := ⟨2, ![512, 2048]⟩
abbrev S3x2048x512 : Shape := ⟨3, ![3, 2048, 512]⟩
abbrev S3x512x2048 : Shape := ⟨3, ![3, 512, 2048]⟩
abbrev S3x3 : Shape := ⟨2, ![3, 3]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 19
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5504, .f32⟩
  | .hbm, ⟨9, _⟩ => ⟨S2048x5504, .bf16⟩
  | .hbm, ⟨10, _⟩ => ⟨S2048x5504, .f32⟩
  | .hbm, ⟨11, _⟩ => ⟨S2048x5504, .bf16⟩
  | .hbm, ⟨12, _⟩ => ⟨S5504x2048, .f32⟩
  | .hbm, ⟨13, _⟩ => ⟨S5504x2048, .bf16⟩
  | .hbm, ⟨14, _⟩ => ⟨S1x2048, .f32⟩
  | .hbm, ⟨15, _⟩ => ⟨S2048x384, .bf16⟩
  | .hbm, ⟨16, _⟩ => ⟨S2048x384, .bf16⟩
  | .hbm, ⟨17, _⟩ => ⟨S384x2048, .bf16⟩
  | .hbm, ⟨18, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x384, .bf16⟩
  | .local _ .vmem, ⟨4, _⟩ => ⟨S2048x384, .bf16⟩
  | .local _ .vmem, ⟨5, _⟩ => ⟨S384x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S3x2048x512, .bf16⟩
  | .local _ .vmem, ⟨11, _⟩ => ⟨S3x2048x512, .bf16⟩
  | .local _ .vmem, ⟨12, _⟩ => ⟨S3x512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_7 : BitVec 32 := 0#32
  c0_i32_7
def k0_mult2 : BitVec 32 :=
  let c512_i32 : BitVec 32 := 512#32
  c512_i32
def k0_cond3 (i : grid0.Coords) : BitVec 1 :=
  let arg1 : BitVec 32 := BitVec.ofNat 32 (i 1).val
  let c10_i32 : BitVec 32 := 10#32
  let v8 : BitVec 1 := Scalar.cmpi .slt arg1 c10_i32
  let v9 : BitVec 32 := Scalar.extui v8
  let c0_i32_4 : BitVec 32 := 0#32
  let v10 : BitVec 1 := Scalar.cmpi .ne v9 c0_i32_4
  v10

def k0_mult3 (i : grid0.Coords) : BitVec 32 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  v36
def k0_off1 (i : grid0.Coords) : Fin 2 → Nat :=
  let c0_i32_18 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![0, v25.toNat]
def k0_off2 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_19 : BitVec 32 := 0#32
  let c0_i32_20 : BitVec 32 := 0#32
  ![v25.toNat, 0, 0]
def k0_off3 (i : grid0.Coords) : Fin 2 → Nat :=
  let c0_i32_21 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  let v37 : BitVec 32 := v36
  ![0, v37.toNat]
def k0_off4 (i : grid0.Coords) : Fin 2 → Nat :=
  let c1_i32_22 : BitVec 32 := 1#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![1, v25.toNat]
def k0_off5 (i : grid0.Coords) : Fin 2 → Nat :=
  let c2_i32 : BitVec 32 := 2#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  ![2, v25.toNat]
def k0_off6 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32 : BitVec 32 := 3#32
  let c0_i32_8 : BitVec 32 := 0#32
  let v16 : BitVec 1 := Scalar.cmpi .eq c3_i32 c0_i32_8
  let c1_i32 : BitVec 32 := 1#32
  let v17 : BitVec 32 := Scalar.select v16 c1_i32 c3_i32
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_26 : BitVec 32 := 0#32
  let c0_i32_27 : BitVec 32 := 0#32
  ![v25.toNat, 0, 0]
def k0_off7 (i : grid0.Coords) : Fin 2 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c10_i32_12 : BitVec 32 := 10#32
  let c0_i32_13 : BitVec 32 := 0#32
  let v26 : BitVec 1 := Scalar.cmpi .eq c10_i32_12 c0_i32_13
  let c1_i32_14 : BitVec 32 := 1#32
  let v27 : BitVec 32 := Scalar.select v26 c1_i32_14 c10_i32_12
  let v28 : BitVec 32 := Scalar.remsi v15 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  let v37 : BitVec 32 := v36
  let c0_i32_28 : BitVec 32 := 0#32
  ![v37.toNat, 0]
def k0_cond4 (i : grid0.Coords) : BitVec 1 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_29 : BitVec 32 := 2#32
  let v53 : BitVec 32 := Scalar.addi v15 c2_i32_29
  let c320_i32 : BitVec 32 := 320#32
  let v54 : BitVec 1 := Scalar.cmpi .slt v53 c320_i32
  let v55 : BitVec 32 := Scalar.extui v54
  let c0_i32_30 : BitVec 32 := 0#32
  let v56 : BitVec 1 := Scalar.cmpi .ne v55 c0_i32_30
  v56

def k0_mult4 (i : grid0.Coords) : BitVec 32 :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  v115
def k0_off8 (i : grid0.Coords) : Fin 2 → Nat :=
  let c0_i32_67 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![0, v104.toNat]
def k0_off9 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  let c0_i32_68 : BitVec 32 := 0#32
  let c0_i32_69 : BitVec 32 := 0#32
  ![v104.toNat, 0, 0]
def k0_off10 (i : grid0.Coords) : Fin 2 → Nat :=
  let c0_i32_70 : BitVec 32 := 0#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  let v116 : BitVec 32 := v115
  ![0, v116.toNat]
def k0_off11 (i : grid0.Coords) : Fin 2 → Nat :=
  let c1_i32_71 : BitVec 32 := 1#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![1, v104.toNat]
def k0_off12 (i : grid0.Coords) : Fin 2 → Nat :=
  let c2_i32_75 : BitVec 32 := 2#32
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  ![2, v104.toNat]
def k0_off13 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c3_i32_54 : BitVec 32 := 3#32
  let c0_i32_55 : BitVec 32 := 0#32
  let v95 : BitVec 1 := Scalar.cmpi .eq c3_i32_54 c0_i32_55
  let c1_i32_56 : BitVec 32 := 1#32
  let v96 : BitVec 32 := Scalar.select v95 c1_i32_56 c3_i32_54
  let v97 : BitVec 32 := Scalar.remsi v94 v96
  let c0_i32_58 : BitVec 32 := 0#32
  let v99 : BitVec 1 := Scalar.cmpi .slt v97 c0_i32_58
  let c0_i32_59 : BitVec 32 := 0#32
  let v100 : BitVec 1 := Scalar.cmpi .slt v96 c0_i32_59
  let v101 : BitVec 1 := Scalar.xori v99 v100
  let c0_i32_57 : BitVec 32 := 0#32
  let v98 : BitVec 1 := Scalar.cmpi .ne v97 c0_i32_57
  let v102 : BitVec 1 := Scalar.andi v101 v98
  let v103 : BitVec 32 := Scalar.addi v97 v96
  let v104 : BitVec 32 := Scalar.select v102 v103 v97
  let c0_i32_76 : BitVec 32 := 0#32
  let c0_i32_77 : BitVec 32 := 0#32
  ![v104.toNat, 0, 0]
def k0_off14 (i : grid0.Coords) : Fin 2 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c2_i32_53 : BitVec 32 := 2#32
  let v94 : BitVec 32 := Scalar.addi v15 c2_i32_53
  let c10_i32_60 : BitVec 32 := 10#32
  let c0_i32_61 : BitVec 32 := 0#32
  let v105 : BitVec 1 := Scalar.cmpi .eq c10_i32_60 c0_i32_61
  let c1_i32_62 : BitVec 32 := 1#32
  let v106 : BitVec 32 := Scalar.select v105 c1_i32_62 c10_i32_60
  let v107 : BitVec 32 := Scalar.remsi v94 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let c512_i32_66 : BitVec 32 := 512#32
  let v115 : BitVec 32 := Scalar.muli v114 c512_i32_66
  let v116 : BitVec 32 := v115
  let c0_i32_78 : BitVec 32 := 0#32
  ![v116.toNat, 0]
def k0_off15 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32_31 : BitVec 32 := 3#32
  let c0_i32_32 : BitVec 32 := 0#32
  let v57 : BitVec 1 := Scalar.cmpi .eq c3_i32_31 c0_i32_32
  let c1_i32_33 : BitVec 32 := 1#32
  let v58 : BitVec 32 := Scalar.select v57 c1_i32_33 c3_i32_31
  let v59 : BitVec 32 := Scalar.remsi v15 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let v67 : Index := Scalar.indexCast v66
  let c0 : Index := 0#32
  let c0_37 : Index := 0#32
  ![v67.toNat, 0, 0]
def k0_off16 (i : grid0.Coords) : Fin 3 → Nat :=
  let arg0 : BitVec 32 := BitVec.ofNat 32 (i 0).val
  let c10_i32_7 : BitVec 32 := 10#32
  let v14 : BitVec 32 := Scalar.muli arg0 c10_i32_7
  let arg1 : BitVec 32 := BitVec.ofNat 32 (i 1).val
  let v15 : BitVec 32 := Scalar.addi v14 arg1
  let c3_i32_31 : BitVec 32 := 3#32
  let c0_i32_32 : BitVec 32 := 0#32
  let v57 : BitVec 1 := Scalar.cmpi .eq c3_i32_31 c0_i32_32
  let c1_i32_33 : BitVec 32 := 1#32
  let v58 : BitVec 32 := Scalar.select v57 c1_i32_33 c3_i32_31
  let v59 : BitVec 32 := Scalar.remsi v15 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let v73 : Index := Scalar.indexCast v66
  let c0_40 : Index := 0#32
  let c0_41 : Index := 0#32
  ![v73.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond5 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalRefIdeal.lean ====
abbrev S16384x2048 : Shape := ⟨2, ![16384, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5504 : Shape := ⟨2, ![2048, 5504]⟩
abbrev S5504x2048 : Shape := ⟨2, ![5504, 2048]⟩
abbrev S16384x5504 : Shape := ⟨2, ![16384, 5504]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5504, .f32⟩
  | .hbm, ⟨24, _⟩ => ⟨S2048x5504, .f32⟩
  | .hbm, ⟨25, _⟩ => ⟨S5504x2048, .f32⟩
  | .hbm, ⟨26, _⟩ => ⟨S16384x5504, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S_, .f32⟩
  | .hbm, ⟨33, _⟩ => ⟨S16384x5504, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S16384x5504, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.InProj.Common.lean ====
/- What the four input projections share: one entry of the product of the activations with the weights, and the
   reading of the weights' reshape and transpose. -/
module

public import Idealize.ShloMosaic.PureOps.Ideal
public import Idealize.ShloMosaic.Lib.Pipeline.Value
public import Idealize.ShloMosaic.Lib.Pointwise
public import Idealize.ShloMosaic.Lib.Tactic

@[expose] public section

noncomputable section

namespace Cert.InProj

open Idealize.ShloMosaic

/-- Entry `(r, q)` of the product of the activations and the weights. -/
def entry (x : (⟨2, ![16384, 2048]⟩ : Shape).Idx → EReal) (w : (⟨3, ![1, 2048, 12368]⟩ : Shape).Idx → EReal)
    (r : Fin 16384) (q : Fin 12368) : EReal := ∑ k : Fin 2048, x (ix2 r k) * w (ix3 0 k q)

/-- The leading unit axis dropped. -/
theorem drop_apply {α : Type} (w : (⟨3, ![1, 2048, 12368]⟩ : Shape).Idx → α)
    (h : (⟨3, ![1, 2048, 12368]⟩ : Shape).ShapeCasts ⟨2, ![2048, 12368]⟩) (k : Fin 2048) (q : Fin 12368) :
    shapeCast ⟨2, ![2048, 12368]⟩ w h (ix2 k q) = w (ix3 0 k q) := by
  refine (shapeCast_dropUnit_apply ![2048, 12368] w h (ix2 k q)).trans (congrArg w ?_)
  funext a
  match a with
  | ⟨0, _⟩ => rfl
  | ⟨1, _⟩ => rfl
  | ⟨2, _⟩ => rfl

/-- … and the two other axes exchanged. -/
theorem flip_apply {α : Type} (w : (⟨3, ![1, 2048, 12368]⟩ : Shape).Idx → α)
    (h : (⟨3, ![1, 2048, 12368]⟩ : Shape).ShapeCasts ⟨2, ![2048, 12368]⟩)
    (h' : (⟨2, ![2048, 12368]⟩ : Shape).Transposes [1, 0] ⟨2, ![12368, 2048]⟩) (k : Fin 2048) (q : Fin 12368) :
    transpose ⟨2, ![12368, 2048]⟩ [1, 0] (shapeCast ⟨2, ![2048, 12368]⟩ w h) h' (ix2 q k) = w (ix3 0 k q) := by
  rw [transpose_apply _ _ _ _ (ix2 k q) (by intro b; match b with | ⟨0, _⟩ => rfl | ⟨1, _⟩ => rfl), drop_apply]

end Cert.InProj

end
-- ==== Proof.InProj.Rnn.lean ====
/- The first input projection (the recurrent branch's two halves): what the kernel leaves in its result array is, at
   row `r` and column `q`, the sum over `k` of `hn[r, k] * w_in[0, k, q]`, and so does the reference. The weight block
   of a column tile is read through the element-indexed window at the tile's first row tile only, transposed into the
   scratch, and kept there for the other row tiles. -/
module

public import proofs.«01_k».proof.Defs
public import proofs.«01_k».proof.Proof.Gen.InRnnIdeal.Value
public import proofs.«01_k».proof.Proof.Gen.InRnnRefIdeal.Run
public import proofs.«01_k».proof.Proof.InProj.Common
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.InRnnIdeal.Product

open Cert.InRnnIdeal Cert.InRnnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

section
variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S2048x1024 .bf16) (h5 : a5.IsWhole)
  (x : Vec F S1024x2048 .bf16) (w : Vec F S1024x2048 .f32) (s : Vec F S2048x1024 .bf16)

/-- At a column tile's first point the scratch is left holding the transposed weight block. -/
theorem scratch_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- There the result block is the product by that transposed block. -/
theorem result_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S2048x1024) _ hz]
  simp only [View.readAt_eq_ld, h2.read_unread, h3.read_unread, View.ld_unit_zero (S := S1024x2048) hz]

/-- At the tile's other points it is the product by what the scratch holds. -/
theorem result_later (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero hz]
  simp only [View.readAt_eq_ld, h2.read_unread, h5.read_unread, View.ld_unit_zero (S := S1024x2048) hz, View.ld_unit_zero (S := S2048x1024) hz]
end

/-- The element window's offsets at point `t`: the column tile's first row of the transposed weights, and 0. -/
theorem off_facts : ∀ t : Fin cfg0.N, cc0_transform_1 (grid0.coords t) (0 : Fin 2) = 1024 * (t.val / 16)
    ∧ cc0_transform_1 (grid0.coords t) (1 : Fin 2) = 0 :=
  (by decide +kernel : ∀ t : Fin grid0.N, _)

/-- The weight window's block at point `t` (the array's own elements). -/
theorem wblk_apply (c : Dev nD) (t : Fin cfg0.N) (a : Fin 1024) (b : Fin 2048) :
    iblk m c 1 t (ix2 a b) = V m c main_v1 (ix2 ⟨1024 * (t.val / 16) + a.val, by have := t.isLt; have : cfg0.N = 64 := N_0; omega⟩ b) := by
  obtain ⟨e0, e1⟩ := off_facts t
  show V m c main_v1 (((cfg0.win 1).blk t).view.emb _) = _
  congr 1
  funext k; apply Fin.ext
  match k with
  | ⟨0, _⟩ => show cc0_transform_1 (grid0.coords t) (0 : Fin 2) + 1 * a.val = _; rw [e0]; simp
  | ⟨1, _⟩ => show cc0_transform_1 (grid0.coords t) (1 : Fin 2) + 1 * b.val = _; rw [e1]; simp

/-- The blocks of the two input windows at point `t`. -/
def xblk (c : Dev nD) (t : Fin cfg0.N) : Vec F S1024x2048 .bf16 := iblk m c 0 t
def wblk (c : Dev nD) (t : Fin cfg0.N) : Vec F S1024x2048 .f32 := iblk m c 1 t

theorem step_first (c : Dev nD) (t : Fin cfg0.N) (h0 : t.val % 16 = 0) :
    outsAt0 m c t.val t.isLt = (k0_pay2 (xblk m c t) (k0_pay1 (wblk m c t)), k0_pay1 (wblk m c t)) :=
  by rw [outsAt0_A m c t h0, result_first, scratch_first]; rfl

theorem step_later (c : Dev nD) (t : Fin cfg0.N) (h0 : ¬t.val % 16 = 0) (p : t.val - 1 < cfg0.N) :
    outsAt0 m c t.val t.isLt = (k0_pay2 (xblk m c t) (outsAt0 m c (t.val - 1) p).2, (outsAt0 m c (t.val - 1) p).2) :=
  by rw [outsAt0_B m c t h0, result_later]; rfl

theorem wblk_pred (c : Dev nD) (t t' : Fin cfg0.N) (h : t.val / 16 = t'.val / 16) : wblk m c t = wblk m c t' := by
  funext y
  rw [eq_ix2 y]
  refine (wblk_apply m c t _ _).trans (.trans ?_ (wblk_apply m c t' _ _).symm)
  congr 3
  rw [h]

/-- After point `t` the scratch holds the transposed weight block of `t`'s column tile. -/
theorem scratch_after (c : Dev nD) : ∀ (n : ℕ) (h : n < cfg0.N), (outsAt0 m c n h).2 = k0_pay1 (wblk m c ⟨n, h⟩)
  | 0, h => congrArg Prod.snd (step_first m c ⟨0, h⟩ rfl)
  | n + 1, h => by
    by_cases h0 : (n + 1) % 16 = 0
    · exact congrArg Prod.snd (step_first m c ⟨n + 1, h⟩ h0)
    · refine (congrArg Prod.snd (step_later m c ⟨n + 1, h⟩ h0 (Nat.lt_of_succ_lt h))).trans ?_
      refine (scratch_after c n (Nat.lt_of_succ_lt h)).trans ?_
      rw [wblk_pred m c ⟨n, Nat.lt_of_succ_lt h⟩ ⟨n + 1, h⟩ (by show n / 16 = (n + 1) / 16; omega)]

/-- After point `t` the result's block is the product of the row block and the tile's transposed weight block. -/
theorem result_after (c : Dev nD) (t : Fin cfg0.N) :
    (outsAt0 m c t.val t.isLt).1 = k0_pay2 (xblk m c t) (k0_pay1 (wblk m c t)) := by
  by_cases h0 : t.val % 16 = 0
  · exact congrArg Prod.fst (step_first m c t h0)
  · have p : t.val - 1 < cfg0.N := Nat.lt_of_le_of_lt (Nat.sub_le _ _) t.isLt
    refine (congrArg Prod.fst (step_later m c t h0 p)).trans ?_
    show k0_pay2 (xblk m c t) (outsAt0 m c (t.val - 1) p).2 = _
    rw [scratch_after, wblk_pred m c ⟨t.val - 1, p⟩ t (by show (t.val - 1) / 16 = t.val / 16; omega)]

/-- The activations window's offsets at point `t`. -/
theorem row_facts : ∀ t : Fin cfg0.N, win0_0.index t (0 : Fin 2) = t.val % 16 ∧ win0_0.index t (1 : Fin 2) = 0 :=
  (by decide +kernel : ∀ t : Fin grid0.N, _)

/-- The row block at point `t`. -/
theorem xblk_apply (c : Dev nD) (t : Fin cfg0.N) (a : Fin 1024) (b : Fin 2048) :
    xblk m c t (ix2 a b) = m ((c : Thread nD τ).loc main_arg0) (ix2 ⟨1024 * (t.val % 16) + a.val, by omega⟩ b) := by
  obtain ⟨e0, e1⟩ := row_facts t
  show V m c main_arg0 (((cfg0.win 0).blk t).view.emb _) = _
  rw [V_main_arg0]
  congr 1
  funext k; apply Fin.ext
  match k with
  | ⟨0, _⟩ => show win0_0.index t (0 : Fin 2) * 1024 + 1 * a.val = 1024 * (t.val % 16) + a.val; rw [e0]; omega
  | ⟨1, _⟩ => show win0_0.index t (1 : Fin 2) * 2048 + 1 * b.val = b.val; rw [e1]; omega

/-- The transposed weights at entry. -/
theorem V_w (c : Dev nD) : V m c main_v1 = transpose S12368x2048 [1, 0]
    (shapeCast _ (m ((c : Thread nD τ).loc main_arg1)) shapeCasts_S1x2048x12368_S2048x12368) transposes_S2048x12368_S12368x2048_1_0 := by
  unfold V
  after_results <;> rfl

end Cert.InRnnIdeal.Product

namespace Cert.InRnnIdeal.Product

open Cert.InRnnIdeal Cert.InRnnIdeal.Gen Idealize.ShloMosaic Idealize.ShloMosaic.TcCoe Idealize.SL.Sem

variable (m : (ℓ : Loc nD τ sig) → Buf (Elt Ideal) ℓ)

theorem pay_apply (x : Vec Ideal S1024x2048 .bf16) (w : Vec Ideal S1024x2048 .f32) (a : Fin 1024) (b : Fin 1024) :
    k0_pay2 (F := Ideal) x (k0_pay1 w) (ix2 a b) = ∑ k : Fin 2048, (x (ix2 a k) * w (ix2 b k) : EReal) := by
  pointwise [k0_pay1, k0_pay2]

/-- The kernel's result at row `r` and column `q`. -/
theorem G2_apply (c : Dev nD) (r : Fin 16384) (q : Fin 4096) :
    Value.G2 m c (ix2 r q) = InProj.entry (m ((c : Thread nD τ).loc main_arg0)) (m ((c : Thread nD τ).loc main_arg1))
      r ⟨0 + q.val, by omega⟩ := by
  have hp : Value.pt2Of (ix2 r q) < cfg0.N := by
    have : cfg0.N = 64 := N_0
    show 1 * (r.val / 1024 - 0) + 16 * (q.val / 1024 - 0) < _
    omega
  have hv : Value.pt2Of (ix2 r q) = r.val / 1024 + 16 * (q.val / 1024) := by
    show 1 * (r.val / 1024 - 0) + 16 * (q.val / 1024 - 0) = _
    omega
  unfold Value.G2
  rw [dif_pos hp, ← Value.outsAt0_sweep m c (Value.pt2Of (ix2 r q)) hp, result_after m c ⟨_, hp⟩]
  rw [show Value.loc2Of (ix2 r q) = ix2 ⟨r.val % 1024, Nat.mod_lt _ (by decide)⟩ ⟨q.val % 1024, Nat.mod_lt _ (by decide)⟩ from
    funext fun a => match a with | ⟨0, _⟩ => rfl | ⟨1, _⟩ => rfl]
  rw [pay_apply]
  refine Finset.sum_congr (M := EReal) rfl fun k _ => congrArg₂ (· * · : EReal → EReal → EReal) ?_ ?_
  · rw [xblk_apply]
    congr 2
    apply Fin.ext
    show 1024 * (Value.pt2Of (ix2 r q) % 16) + r.val % 1024 = r.val
    rw [hv]; omega
  · refine (wblk_apply ..).trans ?_
    rw [V_w]
    refine (InProj.flip_apply ..).trans ?_
    congr 2
    apply Fin.ext
    show 1024 * (Value.pt2Of (ix2 r q) / 16) + q.val % 1024 = 0 + q.val
    rw [hv]; omega

end Cert.InRnnIdeal.Product

namespace Cert.InRnnRefIdeal.Product

open Cert.InRnnRefIdeal Idealize.ShloMosaic

/-- The reference's result at row `r` and column `q`. -/
theorem ref_apply (x : Vec Ideal S16384x2048 .bf16) (w : Vec Ideal S1x2048x12368 .f32) (r : Fin 16384) (q : Fin 4096) :
    extractStridedSlice S16384x4096 ![0, 0] (Host.dotGeneral (F := Ideal) (φ₁ := .f32) (φ₂ := .f32) dot_S16384x2048_S2048x12368_S16384x12368_1_0_0_1_n_n none (extf .f32 x Gen.bitsLt_bf16_f32) (shapeCast S2048x12368 w Gen.shapeCasts_S1x2048x12368_S2048x12368)) Gen.slices_S16384x12368_S16384x4096_0_0 (ix2 r q)
      = InProj.entry x w r ⟨0 + q.val, by omega⟩ := by
  generalize hw : shapeCast S2048x12368 w Gen.shapeCasts_S1x2048x12368_S2048x12368 = w'
  pointwise
  refine Finset.sum_congr rfl fun k _ => ?_
  rw [← hw, InProj.drop_apply]

end Cert.InRnnRefIdeal.Product

namespace Cert.InRnnIdeal.Product

open Idealize.ShloMosaic Idealize.SL.Sem

/-- The kernel and the reference leave the same array. -/
theorem algebraic : Cert.algebraic_InRnnIdeal_InRnnRefIdeal := by
  intro m g m' g' _ hargs
  refine ⟨fun c => Value.G2 m c, Value.run m g, ?_⟩
  refine (θ_run Cert.InRnnRefIdeal.defs _ _).mono (fun r h c => ?_) (Cert.InRnnRefIdeal.Value.run m' g')
  obtain ⟨h0, h1⟩ := h c
  refine ⟨h0.trans ?_, h1⟩
  obtain ⟨e0, e1⟩ := hargs c
  rw [e0, e1]
  funext i
  rw [eq_ix2 i]
  exact (InRnnRefIdeal.Product.ref_apply _ _ _ _).trans (G2_apply m c _ _).symm

end Cert.InRnnIdeal.Product

end
-- ==== Proof.InProj.Attn.lean ====
/- The second input projection (the attention's queries, keys and values and the indexer's queries): what the kernel leaves in its result array is, at
   head `b`, row `r` and lane `l`, with `q = 4096 + 128 * b + l`, the sum over `k` of `hn[r, k] * w_in[0, k, q]`, and so does the reference. The weight block
   of a column tile is read through the element-indexed window at the tile's first row tile only, transposed into the
   scratch, and kept there for the other row tiles. -/
module

public import proofs.«01_k».proof.Defs
public import proofs.«01_k».proof.Proof.Gen.InAttnIdeal.Value
public import proofs.«01_k».proof.Proof.Gen.InAttnRefIdeal.Run
public import proofs.«01_k».proof.Proof.InProj.Common
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.InAttnIdeal.Product

open Cert.InAttnIdeal Cert.InAttnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

section
variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S8x1024x128 .bf16) (h4 : a4.IsWhole)
  (a5 : Memref sig .tc .vmem S2048x1024 .bf16) (h5 : a5.IsWhole)
  (x : Vec F S1024x2048 .bf16) (w : Vec F S1024x2048 .f32) (s : Vec F S2048x1024 .bf16)

/-- At a column tile's first point the scratch is left holding the transposed weight block. -/
theorem scratch_first (hc : cond0_0 i) : sout0_A_0 c i a2 h2 a3 h3 a4 h4 a5 h5 hc x w = k0_pay4 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- A product block by lane blocks: lane block `b` is columns `128 b` to `128 b + 127`. -/
def lanes (v : FVec F S1024x1024 .f32) : Vec F S8x1024x128 .bf16 := fun y =>
  truncf .bf16 v bitsLt_bf16_f32 (ix2 (y 1) ⟨128 * (y 0).val + (y 2).val, by
    have h0 : (y 0).val < 8 := (y 0).isLt
    have h2 : (y 2).val < 128 := (y 2).isLt
    omega⟩)

/-- Lane block `b` of the product block, as the kernel stores it. -/
theorem lanes_piece (v : FVec F S1024x1024 .f32) (b : ℕ) (hb : b < 8) (off : Fin 2 → Nat) (hoff : off = ![0, 128 * b])
    (hs : S1024x1024.Slices off S1024x128) (hc : S1024x128.ShapeCasts S1x1024x128) (y : S1x1024x128.Idx)
    (hi : ∀ a, ![b, 0, 0] a + S1x1024x128.size a ≤ S8x1024x128.size a) :
    shapeCast S1x1024x128 (truncf .bf16 (extractStridedSlice S1024x128 off v hs) bitsLt_bf16_f32) hc y
      = lanes v ((Rect.unit (s := S8x1024x128) ![b, 0, 0] S1x1024x128.size hi).emb y) := by
  subst hoff
  refine (shapeCast_addUnit_apply ![1024, 128] _ hc y).trans ?_
  unfold lanes
  refine congrArg (fun u : F .f32 => FloatOps.truncf .bf16 bitsLt_bf16_f32 u) ?_
  refine extractStridedSlice_apply _ _ _ _ _ ?_
  intro a
  match a with
  | ⟨0, _⟩ => show 0 + 1 * (y 1).val = 0 + (y 1).val; omega
  | ⟨1, _⟩ =>
    have h0 : (y 0).val < 1 := (y 0).isLt
    show 128 * (b + 1 * (y 0).val) + (0 + 1 * (y 2).val) = 128 * b + (y 2).val; omega

/-- The eight stores, each a lane block of one product block. -/
theorem lane_pieces (v : FVec F S1024x1024 .f32) (pay : Fin 8 → FVec F S1x1024x128 .bf16)
    (hp : ∀ (b : Fin 8) (y : S1x1024x128.Idx) (hi : ∀ a, ![b.val, 0, 0] a + S1x1024x128.size a ≤ S8x1024x128.size a),
      pay b y = lanes v ((Rect.unit (s := S8x1024x128) ![b.val, 0, 0] S1x1024x128.size hi).emb y)) :
    ∀ p ∈ ([⟨Rect.unit ![7, 0, 0] ![1, 1024, 128] inb_S8x1024x128_S1x1024x128_7_0_0, pay 7⟩,
        ⟨Rect.unit ![6, 0, 0] ![1, 1024, 128] inb_S8x1024x128_S1x1024x128_6_0_0, pay 6⟩,
        ⟨Rect.unit ![5, 0, 0] ![1, 1024, 128] inb_S8x1024x128_S1x1024x128_5_0_0, pay 5⟩,
        ⟨Rect.unit ![4, 0, 0] ![1, 1024, 128] inb_S8x1024x128_S1x1024x128_4_0_0, pay 4⟩,
        ⟨Rect.unit ![3, 0, 0] ![1, 1024, 128] inb_S8x1024x128_S1x1024x128_3_0_0, pay 3⟩,
        ⟨Rect.unit ![2, 0, 0] ![1, 1024, 128] inb_S8x1024x128_S1x1024x128_2_0_0, pay 2⟩,
        ⟨Rect.unit ![1, 0, 0] ![1, 1024, 128] inb_S8x1024x128_S1x1024x128_1_0_0, pay 1⟩,
        ⟨Rect.unit ![0, 0, 0] ![1, 1024, 128] inb_S8x1024x128_S1x1024x128_0_0_0, pay 0⟩] : List (View.Piece (Elt F) S8x1024x128 .bf16)),
      ∀ (y : p.1.shape.Idx), p.2 y = lanes v (p.1.emb y) := by
  simp only [List.forall_mem_cons]
  exact ⟨fun y => hp 7 y _, fun y => hp 6 y _, fun y => hp 5 y _, fun y => hp 4 y _, fun y => hp 3 y _, fun y => hp 2 y _,
    fun y => hp 1 y _, fun y => hp 0 y _, fun _ h => absurd h List.not_mem_nil⟩

/-- What each store's payload is. -/
theorem pays (x : Vec F S1024x2048 .bf16) (s : Vec F S2048x1024 .bf16) (b : Fin 8) (y : S1x1024x128.Idx)
    (hi : ∀ a, ![b.val, 0, 0] a + S1x1024x128.size a ≤ S8x1024x128.size a) :
    ![k0_pay6 x s, k0_pay7 x s, k0_pay8 x s, k0_pay9 x s, k0_pay10 x s, k0_pay1 (k0_pay5 x s), k0_pay2 (k0_pay5 x s),
      k0_pay3 (k0_pay5 x s)] b y = lanes (k0_pay5 x s) ((Rect.unit (s := S8x1024x128) ![b.val, 0, 0] S1x1024x128.size hi).emb y) := by
  match b with
  | 0 => exact lanes_piece _ 0 (by decide) _ rfl _ _ y hi
  | 1 => exact lanes_piece _ 1 (by decide) _ rfl _ _ y hi
  | 2 => exact lanes_piece _ 2 (by decide) _ rfl _ _ y hi
  | 3 => exact lanes_piece _ 3 (by decide) _ rfl _ _ y hi
  | 4 => exact lanes_piece _ 4 (by decide) _ rfl _ _ y hi
  | 5 => exact lanes_piece _ 5 (by decide) _ rfl _ _ y hi
  | 6 => exact lanes_piece _ 6 (by decide) _ rfl _ _ y hi
  | 7 => exact lanes_piece _ 7 (by decide) _ rfl _ _ y hi

/-- There the result block is the product by that transposed block. -/
theorem result_first (hc : cond0_0 i) : out0_A_2 c i a2 h2 a3 h3 a4 h4 a5 h5 hc x w = lanes (k0_pay5 x (k0_pay4 w)) := by
  unfold out0_A_2
  funext y
  refine View.read_writes_apply_of_pieces _ _ _ _ ?_ y (cover0_A_2 c i a2 h2 a3 h3 a4 h4 a5 h5 hc x w y)
  unfold kernelRun0_A
  dsimp only
  sl_unfold_words
  simp only [View.readAt_eq_ld, h2.read_unread, h3.read_unread, View.ld_unit_zero (S := S1024x2048) hz, View.readCov_unit_zero (S := S2048x1024) _ hz]
  exact lane_pieces _ _ (pays x (k0_pay4 w))

/-- At the tile's other points it is the product by what the scratch holds. -/
theorem result_later (hc : ¬cond0_0 i) : out0_B_2 c i a2 h2 a3 h3 a4 h4 a5 h5 hc x w s = lanes (k0_pay5 x s) := by
  unfold out0_B_2
  funext y
  refine View.read_writes_apply_of_pieces _ _ _ _ ?_ y (cover0_B_2 c i a2 h2 a3 h3 a4 h4 a5 h5 hc x w s y)
  unfold kernelRun0_B
  dsimp only
  sl_unfold_words
  simp only [View.readAt_eq_ld, h2.read_unread, h5.read_unread, View.ld_unit_zero (S := S1024x2048) hz, View.ld_unit_zero (S := S2048x1024) hz]
  exact lane_pieces _ _ (pays x s)
end

/-- The element window's offsets at point `t`: the column tile's first row of the transposed weights, and 0. -/
theorem off_facts : ∀ t : Fin cfg0.N, cc0_transform_1 (grid0.coords t) (0 : Fin 2) = 4096 + 1024 * (t.val / 16)
    ∧ cc0_transform_1 (grid0.coords t) (1 : Fin 2) = 0 :=
  (by decide +kernel : ∀ t : Fin grid0.N, _)

/-- The weight window's block at point `t` (the array's own elements). -/
theorem wblk_apply (c : Dev nD) (t : Fin cfg0.N) (a : Fin 1024) (b : Fin 2048) :
    iblk m c 1 t (ix2 a b) = V m c main_v1 (ix2 ⟨4096 + 1024 * (t.val / 16) + a.val, by have := t.isLt; have : cfg0.N = 64 := N_0; omega⟩ b) := by
  obtain ⟨e0, e1⟩ := off_facts t
  show V m c main_v1 (((cfg0.win 1).blk t).view.emb _) = _
  congr 1
  funext k; apply Fin.ext
  match k with
  | ⟨0, _⟩ => show cc0_transform_1 (grid0.coords t) (0 : Fin 2) + 1 * a.val = _; rw [e0]; simp
  | ⟨1, _⟩ => show cc0_transform_1 (grid0.coords t) (1 : Fin 2) + 1 * b.val = _; rw [e1]; simp

/-- The blocks of the two input windows at point `t`. -/
def xblk (c : Dev nD) (t : Fin cfg0.N) : Vec F S1024x2048 .bf16 := iblk m c 0 t
def wblk (c : Dev nD) (t : Fin cfg0.N) : Vec F S1024x2048 .f32 := iblk m c 1 t

theorem step_first (c : Dev nD) (t : Fin cfg0.N) (h0 : t.val % 16 = 0) :
    outsAt0 m c t.val t.isLt = (lanes (k0_pay5 (xblk m c t) (k0_pay4 (wblk m c t))), k0_pay4 (wblk m c t)) :=
  by rw [outsAt0_A m c t h0, result_first, scratch_first]; rfl

theorem step_later (c : Dev nD) (t : Fin cfg0.N) (h0 : ¬t.val % 16 = 0) (p : t.val - 1 < cfg0.N) :
    outsAt0 m c t.val t.isLt = (lanes (k0_pay5 (xblk m c t) (outsAt0 m c (t.val - 1) p).2), (outsAt0 m c (t.val - 1) p).2) :=
  by rw [outsAt0_B m c t h0, result_later]; rfl

theorem wblk_pred (c : Dev nD) (t t' : Fin cfg0.N) (h : t.val / 16 = t'.val / 16) : wblk m c t = wblk m c t' := by
  funext y
  rw [eq_ix2 y]
  refine (wblk_apply m c t _ _).trans (.trans ?_ (wblk_apply m c t' _ _).symm)
  congr 3
  rw [h]

/-- After point `t` the scratch holds the transposed weight block of `t`'s column tile. -/
theorem scratch_after (c : Dev nD) : ∀ (n : ℕ) (h : n < cfg0.N), (outsAt0 m c n h).2 = k0_pay4 (wblk m c ⟨n, h⟩)
  | 0, h => congrArg Prod.snd (step_first m c ⟨0, h⟩ rfl)
  | n + 1, h => by
    by_cases h0 : (n + 1) % 16 = 0
    · exact congrArg Prod.snd (step_first m c ⟨n + 1, h⟩ h0)
    · refine (congrArg Prod.snd (step_later m c ⟨n + 1, h⟩ h0 (Nat.lt_of_succ_lt h))).trans ?_
      refine (scratch_after c n (Nat.lt_of_succ_lt h)).trans ?_
      rw [wblk_pred m c ⟨n, Nat.lt_of_succ_lt h⟩ ⟨n + 1, h⟩ (by show n / 16 = (n + 1) / 16; omega)]

/-- After point `t` the result's block is the product of the row block and the tile's transposed weight block. -/
theorem result_after (c : Dev nD) (t : Fin cfg0.N) :
    (outsAt0 m c t.val t.isLt).1 = lanes (k0_pay5 (xblk m c t) (k0_pay4 (wblk m c t))) := by
  by_cases h0 : t.val % 16 = 0
  · exact congrArg Prod.fst (step_first m c t h0)
  · have p : t.val - 1 < cfg0.N := Nat.lt_of_le_of_lt (Nat.sub_le _ _) t.isLt
    refine (congrArg Prod.fst (step_later m c t h0 p)).trans ?_
    show lanes (k0_pay5 (xblk m c t) (outsAt0 m c (t.val - 1) p).2) = _
    rw [scratch_after, wblk_pred m c ⟨t.val - 1, p⟩ t (by show (t.val - 1) / 16 = t.val / 16; omega)]

/-- The activations window's offsets at point `t`. -/
theorem row_facts : ∀ t : Fin cfg0.N, win0_0.index t (0 : Fin 2) = t.val % 16 ∧ win0_0.index t (1 : Fin 2) = 0 :=
  (by decide +kernel : ∀ t : Fin grid0.N, _)

/-- The row block at point `t`. -/
theorem xblk_apply (c : Dev nD) (t : Fin cfg0.N) (a : Fin 1024) (b : Fin 2048) :
    xblk m c t (ix2 a b) = m ((c : Thread nD τ).loc main_arg0) (ix2 ⟨1024 * (t.val % 16) + a.val, by omega⟩ b) := by
  obtain ⟨e0, e1⟩ := row_facts t
  show V m c main_arg0 (((cfg0.win 0).blk t).view.emb _) = _
  rw [V_main_arg0]
  congr 1
  funext k; apply Fin.ext
  match k with
  | ⟨0, _⟩ => show win0_0.index t (0 : Fin 2) * 1024 + 1 * a.val = 1024 * (t.val % 16) + a.val; rw [e0]; omega
  | ⟨1, _⟩ => show win0_0.index t (1 : Fin 2) * 2048 + 1 * b.val = b.val; rw [e1]; omega

/-- The transposed weights at entry. -/
theorem V_w (c : Dev nD) : V m c main_v1 = transpose S12368x2048 [1, 0]
    (shapeCast _ (m ((c : Thread nD τ).loc main_arg1)) shapeCasts_S1x2048x12368_S2048x12368) transposes_S2048x12368_S12368x2048_1_0 := by
  unfold V
  after_results <;> rfl

end Cert.InAttnIdeal.Product

namespace Cert.InAttnIdeal.Product

open Cert.InAttnIdeal Cert.InAttnIdeal.Gen Idealize.ShloMosaic Idealize.ShloMosaic.TcCoe Idealize.SL.Sem

variable (m : (ℓ : Loc nD τ sig) → Buf (Elt Ideal) ℓ)

theorem pay_apply (x : Vec Ideal S1024x2048 .bf16) (w : Vec Ideal S1024x2048 .f32) (a : Fin 1024) (b : Fin 1024) :
    k0_pay5 (F := Ideal) x (k0_pay4 w) (ix2 a b) = ∑ k : Fin 2048, (x (ix2 a k) * w (ix2 b k) : EReal) := by
  pointwise [k0_pay4, k0_pay5]

theorem lanes_apply (v : FVec Ideal S1024x1024 .f32) (b : Fin 8) (a : Fin 1024) (l : Fin 128) :
    lanes (F := Ideal) v (ix3 b a l) = v (ix2 a ⟨128 * b.val + l.val, by omega⟩) := rfl

/-- The kernel's result at head `b`, row `r` and lane `l`. -/
theorem G2_apply (c : Dev nD) (b : Fin 32) (r : Fin 16384) (l : Fin 128) :
    Value.G2 m c (ix3 b r l) = InProj.entry (m ((c : Thread nD τ).loc main_arg0)) (m ((c : Thread nD τ).loc main_arg1))
      r ⟨4096 + (128 * b.val + l.val), by omega⟩ := by
  have hp : Value.pt2Of (ix3 b r l) < cfg0.N := by
    have : cfg0.N = 64 := N_0
    show 16 * (b.val / 8 - 0) + 1 * (r.val / 1024 - 0) + 1 * (l.val / 128 - 0) < _
    omega
  have hv : Value.pt2Of (ix3 b r l) = r.val / 1024 + 16 * (b.val / 8) := by
    show 16 * (b.val / 8 - 0) + 1 * (r.val / 1024 - 0) + 1 * (l.val / 128 - 0) = _
    omega
  unfold Value.G2
  rw [dif_pos hp, ← Value.outsAt0_sweep m c (Value.pt2Of (ix3 b r l)) hp, result_after m c ⟨_, hp⟩]
  rw [show Value.loc2Of (ix3 b r l) = ix3 ⟨b.val % 8, Nat.mod_lt _ (by decide)⟩ ⟨r.val % 1024, Nat.mod_lt _ (by decide)⟩ ⟨l.val % 128, Nat.mod_lt _ (by decide)⟩ from
    funext fun a => match a with | ⟨0, _⟩ => rfl | ⟨1, _⟩ => rfl | ⟨2, _⟩ => rfl]
  rw [lanes_apply, pay_apply]
  refine Finset.sum_congr (M := EReal) rfl fun k _ => congrArg₂ (· * · : EReal → EReal → EReal) ?_ ?_
  · rw [xblk_apply]
    congr 2
    apply Fin.ext
    show 1024 * (Value.pt2Of (ix3 b r l) % 16) + r.val % 1024 = r.val
    rw [hv]; omega
  · refine (wblk_apply ..).trans ?_
    rw [V_w]
    refine (InProj.flip_apply ..).trans ?_
    congr 2
    apply Fin.ext
    show 4096 + 1024 * (Value.pt2Of (ix3 b r l) / 16) + (128 * (b.val % 8) + l.val % 128) = 4096 + (128 * b.val + l.val)
    rw [hv]; omega

end Cert.InAttnIdeal.Product

namespace Cert.InAttnRefIdeal.Product

open Cert.InAttnRefIdeal Idealize.ShloMosaic

/-- The reference's result at head `b`, row `r` and lane `l`. -/
theorem ref_apply (x : Vec Ideal S16384x2048 .bf16) (w : Vec Ideal S1x2048x12368 .f32) (b : Fin 32) (r : Fin 16384) (l : Fin 128) :
    transpose S32x16384x128 [1, 0, 2] (shapeCast S16384x32x128 (truncf .bf16 (extractStridedSlice S16384x4096 ![0, 4096] (Host.dotGeneral (F := Ideal) (φ₁ := .f32) (φ₂ := .f32) dot_S16384x2048_S2048x12368_S16384x12368_1_0_0_1_n_n none (extf .f32 x Gen.bitsLt_bf16_f32) (shapeCast S2048x12368 w Gen.shapeCasts_S1x2048x12368_S2048x12368)) Gen.slices_S16384x12368_S16384x4096_0_4096) Gen.bitsLt_bf16_f32) Gen.shapeCasts_S16384x4096_S16384x32x128) Gen.transposes_S16384x32x128_S32x16384x128_1_0_2 (ix3 b r l)
      = InProj.entry x w r ⟨4096 + (128 * b.val + l.val), by omega⟩ := by
  generalize hw : shapeCast S2048x12368 w Gen.shapeCasts_S1x2048x12368_S2048x12368 = w'
  rw [transpose_apply _ _ _ _ (ix3 r b l) (by intro b; match b with | ⟨0, _⟩ => rfl | ⟨1, _⟩ => rfl | ⟨2, _⟩ => rfl),
    shapeCast_apply _ _ _ (ix2 r ⟨128 * b.val + l.val, by omega⟩ : S16384x4096.Idx) (by
      rw [rowMajor_val2 _ 4096 (show (4096 : ℕ) = 4096 from rfl), rowMajor_val3 _ 4096 128 (show (32 : ℕ) * 128 = 4096 by norm_num) rfl]
      simp only [ix2_0, ix2_1, ix3_0, ix3_1, ix3_2]; omega)]
  pointwise
  refine Finset.sum_congr rfl fun k _ => ?_
  rw [← hw, InProj.drop_apply]

end Cert.InAttnRefIdeal.Product

namespace Cert.InAttnIdeal.Product

open Idealize.ShloMosaic Idealize.SL.Sem

/-- The kernel and the reference leave the same array. -/
theorem algebraic : Cert.algebraic_InAttnIdeal_InAttnRefIdeal := by
  intro m g m' g' _ hargs
  refine ⟨fun c => Value.G2 m c, Value.run m g, ?_⟩
  refine (θ_run Cert.InAttnRefIdeal.defs _ _).mono (fun r h c => ?_) (Cert.InAttnRefIdeal.Value.run m' g')
  obtain ⟨h0, h1⟩ := h c
  refine ⟨h0.trans ?_, h1⟩
  obtain ⟨e0, e1⟩ := hargs c
  rw [e0, e1]
  funext i
  rw [eq_ix3 i]
  exact (InAttnRefIdeal.Product.ref_apply _ _ _ _ _).trans (G2_apply m c _ _ _).symm

end Cert.InAttnIdeal.Product

end
-- ==== Proof.InProj.Idx.lean ====
/- The third input projection (the indexer's key and head weights): what the kernel leaves in its result array is, at
   row `r` and column `q`, the sum over `k` of `hn[r, k] * w_in[0, k, q]`, and so does the reference. The weight block
   of a column tile is read through the element-indexed window at the tile's first row tile only, transposed into the
   scratch, and kept there for the other row tiles. -/
module

public import proofs.«01_k».proof.Defs
public import proofs.«01_k».proof.Proof.Gen.InIdxIdeal.Value
public import proofs.«01_k».proof.Proof.Gen.InIdxRefIdeal.Run
public import proofs.«01_k».proof.Proof.InProj.Common
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.InIdxIdeal.Product

open Cert.InIdxIdeal Cert.InIdxIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

section
variable (c : Dev nD) (i : grid0.Coords) (a2 : Memref sig .tc .vmem S1024x2048 .bf16) (h2 : a2.IsWhole)
  (a3 : Memref sig .tc .vmem S128x2048 .f32) (h3 : a3.IsWhole) (a4 : Memref sig .tc .vmem S1024x128 .f32) (h4 : a4.IsWhole)
  (a5 : Memref sig .tc .vmem S2048x128 .bf16) (h5 : a5.IsWhole)
  (x : Vec F S1024x2048 .bf16) (w : Vec F S128x2048 .f32) (s : Vec F S2048x128 .bf16)

/-- At a column tile's first point the scratch is left holding the transposed weight block. -/
theorem scratch_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz, View.ld_unit_zero (S := S128x2048) hz]

/-- There the result block is the product by that transposed block. -/
theorem result_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S2048x128) _ hz]
  simp only [View.readAt_eq_ld, h2.read_unread, h3.read_unread, View.ld_unit_zero (S := S1024x2048) hz, View.ld_unit_zero (S := S128x2048) hz]

/-- At the tile's other points it is the product by what the scratch holds. -/
theorem result_later (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero hz]
  simp only [View.readAt_eq_ld, h2.read_unread, h5.read_unread, View.ld_unit_zero (S := S1024x2048) hz, View.ld_unit_zero (S := S2048x128) hz]
end

/-- The element window's offsets at point `t`: the column tile's first row of the transposed weights, and 0. -/
theorem off_facts : ∀ t : Fin cfg0.N, cc0_transform_1 (grid0.coords t) (0 : Fin 2) = 8192
    ∧ cc0_transform_1 (grid0.coords t) (1 : Fin 2) = 0 :=
  (by decide +kernel : ∀ t : Fin grid0.N, _)

/-- The weight window's block at point `t` (the array's own elements). -/
theorem wblk_apply (c : Dev nD) (t : Fin cfg0.N) (a : Fin 128) (b : Fin 2048) :
    iblk m c 1 t (ix2 a b) = V m c main_v1 (ix2 ⟨8192 + a.val, by have := t.isLt; have : cfg0.N = 16 := N_0; omega⟩ b) := by
  obtain ⟨e0, e1⟩ := off_facts t
  show V m c main_v1 (((cfg0.win 1).blk t).view.emb _) = _
  congr 1
  funext k; apply Fin.ext
  match k with
  | ⟨0, _⟩ => show cc0_transform_1 (grid0.coords t) (0 : Fin 2) + 1 * a.val = _; rw [e0]; simp
  | ⟨1, _⟩ => show cc0_transform_1 (grid0.coords t) (1 : Fin 2) + 1 * b.val = _; rw [e1]; simp

/-- The blocks of the two input windows at point `t`. -/
def xblk (c : Dev nD) (t : Fin cfg0.N) : Vec F S1024x2048 .bf16 := iblk m c 0 t
def wblk (c : Dev nD) (t : Fin cfg0.N) : Vec F S128x2048 .f32 := iblk m c 1 t

theorem step_first (c : Dev nD) (t : Fin cfg0.N) (h0 : t.val % 16 = 0) :
    outsAt0 m c t.val t.isLt = (k0_pay2 (xblk m c t) (k0_pay1 (wblk m c t)), k0_pay1 (wblk m c t)) :=
  by rw [outsAt0_A m c t h0, result_first, scratch_first]; rfl

theorem step_later (c : Dev nD) (t : Fin cfg0.N) (h0 : ¬t.val % 16 = 0) (p : t.val - 1 < cfg0.N) :
    outsAt0 m c t.val t.isLt = (k0_pay2 (xblk m c t) (outsAt0 m c (t.val - 1) p).2, (outsAt0 m c (t.val - 1) p).2) :=
  by rw [outsAt0_B m c t h0, result_later]; rfl

theorem wblk_pred (c : Dev nD) (t t' : Fin cfg0.N) (h : t.val / 16 = t'.val / 16) : wblk m c t = wblk m c t' := by
  funext y
  rw [eq_ix2 y]
  refine (wblk_apply m c t _ _).trans (.trans ?_ (wblk_apply m c t' _ _).symm)
  rfl

/-- After point `t` the scratch holds the transposed weight block of `t`'s column tile. -/
theorem scratch_after (c : Dev nD) : ∀ (n : ℕ) (h : n < cfg0.N), (outsAt0 m c n h).2 = k0_pay1 (wblk m c ⟨n, h⟩)
  | 0, h => congrArg Prod.snd (step_first m c ⟨0, h⟩ rfl)
  | n + 1, h => by
    by_cases h0 : (n + 1) % 16 = 0
    · exact congrArg Prod.snd (step_first m c ⟨n + 1, h⟩ h0)
    · refine (congrArg Prod.snd (step_later m c ⟨n + 1, h⟩ h0 (Nat.lt_of_succ_lt h))).trans ?_
      refine (scratch_after c n (Nat.lt_of_succ_lt h)).trans ?_
      rw [wblk_pred m c ⟨n, Nat.lt_of_succ_lt h⟩ ⟨n + 1, h⟩ (by show n / 16 = (n + 1) / 16; omega)]

/-- After point `t` the result's block is the product of the row block and the tile's transposed weight block. -/
theorem result_after (c : Dev nD) (t : Fin cfg0.N) :
    (outsAt0 m c t.val t.isLt).1 = k0_pay2 (xblk m c t) (k0_pay1 (wblk m c t)) := by
  by_cases h0 : t.val % 16 = 0
  · exact congrArg Prod.fst (step_first m c t h0)
  · have p : t.val - 1 < cfg0.N := Nat.lt_of_le_of_lt (Nat.sub_le _ _) t.isLt
    refine (congrArg Prod.fst (step_later m c t h0 p)).trans ?_
    show k0_pay2 (xblk m c t) (outsAt0 m c (t.val - 1) p).2 = _
    rw [scratch_after, wblk_pred m c ⟨t.val - 1, p⟩ t (by show (t.val - 1) / 16 = t.val / 16; omega)]

/-- The activations window's offsets at point `t`. -/
theorem row_facts : ∀ t : Fin cfg0.N, win0_0.index t (0 : Fin 2) = t.val % 16 ∧ win0_0.index t (1 : Fin 2) = 0 :=
  (by decide +kernel : ∀ t : Fin grid0.N, _)

/-- The row block at point `t`. -/
theorem xblk_apply (c : Dev nD) (t : Fin cfg0.N) (a : Fin 1024) (b : Fin 2048) :
    xblk m c t (ix2 a b) = m ((c : Thread nD τ).loc main_arg0) (ix2 ⟨1024 * (t.val % 16) + a.val, by omega⟩ b) := by
  obtain ⟨e0, e1⟩ := row_facts t
  show V m c main_arg0 (((cfg0.win 0).blk t).view.emb _) = _
  rw [V_main_arg0]
  congr 1
  funext k; apply Fin.ext
  match k with
  | ⟨0, _⟩ => show win0_0.index t (0 : Fin 2) * 1024 + 1 * a.val = 1024 * (t.val % 16) + a.val; rw [e0]; omega
  | ⟨1, _⟩ => show win0_0.index t (1 : Fin 2) * 2048 + 1 * b.val = b.val; rw [e1]; omega

/-- The transposed weights at entry. -/
theorem V_w (c : Dev nD) : V m c main_v1 = transpose S12368x2048 [1, 0]
    (shapeCast _ (m ((c : Thread nD τ).loc main_arg1)) shapeCasts_S1x2048x12368_S2048x12368) transposes_S2048x12368_S12368x2048_1_0 := by
  unfold V
  after_results <;> rfl

end Cert.InIdxIdeal.Product

namespace Cert.InIdxIdeal.Product

open Cert.InIdxIdeal Cert.InIdxIdeal.Gen Idealize.ShloMosaic Idealize.ShloMosaic.TcCoe Idealize.SL.Sem

variable (m : (ℓ : Loc nD τ sig) → Buf (Elt Ideal) ℓ)

theorem pay_apply (x : Vec Ideal S1024x2048 .bf16) (w : Vec Ideal S128x2048 .f32) (a : Fin 1024) (b : Fin 128) :
    k0_pay2 (F := Ideal) x (k0_pay1 w) (ix2 a b) = ∑ k : Fin 2048, (x (ix2 a k) * w (ix2 b k) : EReal) := by
  pointwise [k0_pay1, k0_pay2]

/-- The kernel's result at row `r` and column `q`. -/
theorem G2_apply (c : Dev nD) (r : Fin 16384) (q : Fin 128) :
    Value.G2 m c (ix2 r q) = InProj.entry (m ((c : Thread nD τ).loc main_arg0)) (m ((c : Thread nD τ).loc main_arg1))
      r ⟨8192 + q.val, by omega⟩ := by
  have hp : Value.pt2Of (ix2 r q) < cfg0.N := by
    have : cfg0.N = 16 := N_0
    show 1 * (r.val / 1024 - 0) + 1 * (q.val / 128 - 0) < _
    omega
  have hv : Value.pt2Of (ix2 r q) = r.val / 1024 := by
    show 1 * (r.val / 1024 - 0) + 1 * (q.val / 128 - 0) = _
    omega
  unfold Value.G2
  rw [dif_pos hp, ← Value.outsAt0_sweep m c (Value.pt2Of (ix2 r q)) hp, result_after m c ⟨_, hp⟩]
  rw [show Value.loc2Of (ix2 r q) = ix2 ⟨r.val % 1024, Nat.mod_lt _ (by decide)⟩ ⟨q.val % 128, Nat.mod_lt _ (by decide)⟩ from
    funext fun a => match a with | ⟨0, _⟩ => rfl | ⟨1, _⟩ => rfl]
  rw [pay_apply]
  refine Finset.sum_congr (M := EReal) rfl fun k _ => congrArg₂ (· * · : EReal → EReal → EReal) ?_ ?_
  · rw [xblk_apply]
    congr 2
    apply Fin.ext
    show 1024 * (Value.pt2Of (ix2 r q) % 16) + r.val % 1024 = r.val
    rw [hv]; omega
  · refine (wblk_apply ..).trans ?_
    rw [V_w]
    refine (InProj.flip_apply ..).trans ?_
    congr 2
    apply Fin.ext
    show 8192 + q.val % 128 = 8192 + q.val
    omega

end Cert.InIdxIdeal.Product

namespace Cert.InIdxRefIdeal.Product

open Cert.InIdxRefIdeal Idealize.ShloMosaic

/-- The reference's result at row `r` and column `q`. -/
theorem ref_apply (x : Vec Ideal S16384x2048 .bf16) (w : Vec Ideal S1x2048x12368 .f32) (r : Fin 16384) (q : Fin 128) :
    extractStridedSlice S16384x128 ![0, 8192] (Host.dotGeneral (F := Ideal) (φ₁ := .f32) (φ₂ := .f32) dot_S16384x2048_S2048x12368_S16384x12368_1_0_0_1_n_n none (extf .f32 x Gen.bitsLt_bf16_f32) (shapeCast S2048x12368 w Gen.shapeCasts_S1x2048x12368_S2048x12368)) Gen.slices_S16384x12368_S16384x128_0_8192 (ix2 r q)
      = InProj.entry x w r ⟨8192 + q.val, by omega⟩ := by
  generalize hw : shapeCast S2048x12368 w Gen.shapeCasts_S1x2048x12368_S2048x12368 = w'
  pointwise
  refine Finset.sum_congr rfl fun k _ => ?_
  rw [← hw, InProj.drop_apply]

end Cert.InIdxRefIdeal.Product

namespace Cert.InIdxIdeal.Product

open Idealize.ShloMosaic Idealize.SL.Sem

/-- The kernel and the reference leave the same array. -/
theorem algebraic : Cert.algebraic_InIdxIdeal_InIdxRefIdeal := by
  intro m g m' g' _ hargs
  refine ⟨fun c => Value.G2 m c, Value.run m g, ?_⟩
  refine (θ_run Cert.InIdxRefIdeal.defs _ _).mono (fun r h c => ?_) (Cert.InIdxRefIdeal.Value.run m' g')
  obtain ⟨h0, h1⟩ := h c
  refine ⟨h0.trans ?_, h1⟩
  obtain ⟨e0, e1⟩ := hargs c
  rw [e0, e1]
  funext i
  rw [eq_ix2 i]
  exact (InIdxRefIdeal.Product.ref_apply _ _ _ _).trans (G2_apply m c _ _).symm

end Cert.InIdxIdeal.Product

end
-- ==== Proof.InProj.Gates.lean ====
/- The last input projection (the two branches' gates): what the kernel leaves in its result array is, at
   row `r` and column `q`, the sum over `k` of `hn[r, k] * w_in[0, k, q]`, and so does the reference. The weight block
   of a column tile is read through the element-indexed window at the tile's first row tile only, transposed into the
   scratch, and kept there for the other row tiles. -/
module

public import proofs.«01_k».proof.Defs
public import proofs.«01_k».proof.Proof.Gen.InGatesIdeal.Value
public import proofs.«01_k».proof.Proof.Gen.InGatesRefIdeal.Run
public import proofs.«01_k».proof.Proof.InProj.Common
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.InGatesIdeal.Product

open Cert.InGatesIdeal Cert.InGatesIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

section
variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1024x1024 .f32) (h4 : a4.IsWhole)
  (a5 : Memref sig .tc .vmem S2048x1024 .bf16) (h5 : a5.IsWhole)
  (x : Vec F S1024x2048 .bf16) (w : Vec F S1024x2048 .f32) (s : Vec F S2048x1024 .bf16)

/-- At a column tile's first point the scratch is left holding the transposed weight block. -/
theorem scratch_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- There the result block is the product by that transposed block. -/
theorem result_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz, View.readCov_unit_zero (S := S2048x1024) _ hz]
  simp only [View.readAt_eq_ld, h2.read_unread, h3.read_unread, View.ld_unit_zero (S := S1024x2048) hz]

/-- At the tile's other points it is the product by what the scratch holds. -/
theorem result_later (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero hz]
  simp only [View.readAt_eq_ld, h2.read_unread, h5.read_unread, View.ld_unit_zero (S := S1024x2048) hz, View.ld_unit_zero (S := S2048x1024) hz]
end

/-- The element window's offsets at point `t`: the column tile's first row of the transposed weights, and 0. -/
theorem off_facts : ∀ t : Fin cfg0.N, cc0_transform_1 (grid0.coords t) (0 : Fin 2) = 8272 + 1024 * (t.val / 16)
    ∧ cc0_transform_1 (grid0.coords t) (1 : Fin 2) = 0 :=
  (by decide +kernel : ∀ t : Fin grid0.N, _)

/-- The weight window's block at point `t` (the array's own elements). -/
theorem wblk_apply (c : Dev nD) (t : Fin cfg0.N) (a : Fin 1024) (b : Fin 2048) :
    iblk m c 1 t (ix2 a b) = V m c main_v1 (ix2 ⟨8272 + 1024 * (t.val / 16) + a.val, by have := t.isLt; have : cfg0.N = 64 := N_0; omega⟩ b) := by
  obtain ⟨e0, e1⟩ := off_facts t
  show V m c main_v1 (((cfg0.win 1).blk t).view.emb _) = _
  congr 1
  funext k; apply Fin.ext
  match k with
  | ⟨0, _⟩ => show cc0_transform_1 (grid0.coords t) (0 : Fin 2) + 1 * a.val = _; rw [e0]; simp
  | ⟨1, _⟩ => show cc0_transform_1 (grid0.coords t) (1 : Fin 2) + 1 * b.val = _; rw [e1]; simp

/-- The blocks of the two input windows at point `t`. -/
def xblk (c : Dev nD) (t : Fin cfg0.N) : Vec F S1024x2048 .bf16 := iblk m c 0 t
def wblk (c : Dev nD) (t : Fin cfg0.N) : Vec F S1024x2048 .f32 := iblk m c 1 t

theorem step_first (c : Dev nD) (t : Fin cfg0.N) (h0 : t.val % 16 = 0) :
    outsAt0 m c t.val t.isLt = (k0_pay2 (xblk m c t) (k0_pay1 (wblk m c t)), k0_pay1 (wblk m c t)) :=
  by rw [outsAt0_A m c t h0, result_first, scratch_first]; rfl

theorem step_later (c : Dev nD) (t : Fin cfg0.N) (h0 : ¬t.val % 16 = 0) (p : t.val - 1 < cfg0.N) :
    outsAt0 m c t.val t.isLt = (k0_pay2 (xblk m c t) (outsAt0 m c (t.val - 1) p).2, (outsAt0 m c (t.val - 1) p).2) :=
  by rw [outsAt0_B m c t h0, result_later]; rfl

theorem wblk_pred (c : Dev nD) (t t' : Fin cfg0.N) (h : t.val / 16 = t'.val / 16) : wblk m c t = wblk m c t' := by
  funext y
  rw [eq_ix2 y]
  refine (wblk_apply m c t _ _).trans (.trans ?_ (wblk_apply m c t' _ _).symm)
  congr 3
  rw [h]

/-- After point `t` the scratch holds the transposed weight block of `t`'s column tile. -/
theorem scratch_after (c : Dev nD) : ∀ (n : ℕ) (h : n < cfg0.N), (outsAt0 m c n h).2 = k0_pay1 (wblk m c ⟨n, h⟩)
  | 0, h => congrArg Prod.snd (step_first m c ⟨0, h⟩ rfl)
  | n + 1, h => by
    by_cases h0 : (n + 1) % 16 = 0
    · exact congrArg Prod.snd (step_first m c ⟨n + 1, h⟩ h0)
    · refine (congrArg Prod.snd (step_later m c ⟨n + 1, h⟩ h0 (Nat.lt_of_succ_lt h))).trans ?_
      refine (scratch_after c n (Nat.lt_of_succ_lt h)).trans ?_
      rw [wblk_pred m c ⟨n, Nat.lt_of_succ_lt h⟩ ⟨n + 1, h⟩ (by show n / 16 = (n + 1) / 16; omega)]

/-- After point `t` the result's block is the product of the row block and the tile's transposed weight block. -/
theorem result_after (c : Dev nD) (t : Fin cfg0.N) :
    (outsAt0 m c t.val t.isLt).1 = k0_pay2 (xblk m c t) (k0_pay1 (wblk m c t)) := by
  by_cases h0 : t.val % 16 = 0
  · exact congrArg Prod.fst (step_first m c t h0)
  · have p : t.val - 1 < cfg0.N := Nat.lt_of_le_of_lt (Nat.sub_le _ _) t.isLt
    refine (congrArg Prod.fst (step_later m c t h0 p)).trans ?_
    show k0_pay2 (xblk m c t) (outsAt0 m c (t.val - 1) p).2 = _
    rw [scratch_after, wblk_pred m c ⟨t.val - 1, p⟩ t (by show (t.val - 1) / 16 = t.val / 16; omega)]

/-- The activations window's offsets at point `t`. -/
theorem row_facts : ∀ t : Fin cfg0.N, win0_0.index t (0 : Fin 2) = t.val % 16 ∧ win0_0.index t (1 : Fin 2) = 0 :=
  (by decide +kernel : ∀ t : Fin grid0.N, _)

/-- The row block at point `t`. -/
theorem xblk_apply (c : Dev nD) (t : Fin cfg0.N) (a : Fin 1024) (b : Fin 2048) :
    xblk m c t (ix2 a b) = m ((c : Thread nD τ).loc main_arg0) (ix2 ⟨1024 * (t.val % 16) + a.val, by omega⟩ b) := by
  obtain ⟨e0, e1⟩ := row_facts t
  show V m c main_arg0 (((cfg0.win 0).blk t).view.emb _) = _
  rw [V_main_arg0]
  congr 1
  funext k; apply Fin.ext
  match k with
  | ⟨0, _⟩ => show win0_0.index t (0 : Fin 2) * 1024 + 1 * a.val = 1024 * (t.val % 16) + a.val; rw [e0]; omega
  | ⟨1, _⟩ => show win0_0.index t (1 : Fin 2) * 2048 + 1 * b.val = b.val; rw [e1]; omega

/-- The transposed weights at entry. -/
theorem V_w (c : Dev nD) : V m c main_v1 = transpose S12368x2048 [1, 0]
    (shapeCast _ (m ((c : Thread nD τ).loc main_arg1)) shapeCasts_S1x2048x12368_S2048x12368) transposes_S2048x12368_S12368x2048_1_0 := by
  unfold V
  after_results <;> rfl

end Cert.InGatesIdeal.Product

namespace Cert.InGatesIdeal.Product

open Cert.InGatesIdeal Cert.InGatesIdeal.Gen Idealize.ShloMosaic Idealize.ShloMosaic.TcCoe Idealize.SL.Sem

variable (m : (ℓ : Loc nD τ sig) → Buf (Elt Ideal) ℓ)

theorem pay_apply (x : Vec Ideal S1024x2048 .bf16) (w : Vec Ideal S1024x2048 .f32) (a : Fin 1024) (b : Fin 1024) :
    k0_pay2 (F := Ideal) x (k0_pay1 w) (ix2 a b) = ∑ k : Fin 2048, (x (ix2 a k) * w (ix2 b k) : EReal) := by
  pointwise [k0_pay1, k0_pay2]

/-- The kernel's result at row `r` and column `q`. -/
theorem G2_apply (c : Dev nD) (r : Fin 16384) (q : Fin 4096) :
    Value.G2 m c (ix2 r q) = InProj.entry (m ((c : Thread nD τ).loc main_arg0)) (m ((c : Thread nD τ).loc main_arg1))
      r ⟨8272 + q.val, by omega⟩ := by
  have hp : Value.pt2Of (ix2 r q) < cfg0.N := by
    have : cfg0.N = 64 := N_0
    show 1 * (r.val / 1024 - 0) + 16 * (q.val / 1024 - 0) < _
    omega
  have hv : Value.pt2Of (ix2 r q) = r.val / 1024 + 16 * (q.val / 1024) := by
    show 1 * (r.val / 1024 - 0) + 16 * (q.val / 1024 - 0) = _
    omega
  unfold Value.G2
  rw [dif_pos hp, ← Value.outsAt0_sweep m c (Value.pt2Of (ix2 r q)) hp, result_after m c ⟨_, hp⟩]
  rw [show Value.loc2Of (ix2 r q) = ix2 ⟨r.val % 1024, Nat.mod_lt _ (by decide)⟩ ⟨q.val % 1024, Nat.mod_lt _ (by decide)⟩ from
    funext fun a => match a with | ⟨0, _⟩ => rfl | ⟨1, _⟩ => rfl]
  rw [pay_apply]
  refine Finset.sum_congr (M := EReal) rfl fun k _ => congrArg₂ (· * · : EReal → EReal → EReal) ?_ ?_
  · rw [xblk_apply]
    congr 2
    apply Fin.ext
    show 1024 * (Value.pt2Of (ix2 r q) % 16) + r.val % 1024 = r.val
    rw [hv]; omega
  · refine (wblk_apply ..).trans ?_
    rw [V_w]
    refine (InProj.flip_apply ..).trans ?_
    congr 2
    apply Fin.ext
    show 8272 + 1024 * (Value.pt2Of (ix2 r q) / 16) + q.val % 1024 = 8272 + q.val
    rw [hv]; omega

end Cert.InGatesIdeal.Product

namespace Cert.InGatesRefIdeal.Product

open Cert.InGatesRefIdeal Idealize.ShloMosaic

/-- The reference's result at row `r` and column `q`. -/
theorem ref_apply (x : Vec Ideal S16384x2048 .bf16) (w : Vec Ideal S1x2048x12368 .f32) (r : Fin 16384) (q : Fin 4096) :
    extractStridedSlice S16384x4096 ![0, 8272] (Host.dotGeneral (F := Ideal) (φ₁ := .f32) (φ₂ := .f32) dot_S16384x2048_S2048x12368_S16384x12368_1_0_0_1_n_n none (extf .f32 x Gen.bitsLt_bf16_f32) (shapeCast S2048x12368 w Gen.shapeCasts_S1x2048x12368_S2048x12368)) Gen.slices_S16384x12368_S16384x4096_0_8272 (ix2 r q)
      = InProj.entry x w r ⟨8272 + q.val, by omega⟩ := by
  generalize hw : shapeCast S2048x12368 w Gen.shapeCasts_S1x2048x12368_S2048x12368 = w'
  pointwise
  refine Finset.sum_congr rfl fun k _ => ?_
  rw [← hw, InProj.drop_apply]

end Cert.InGatesRefIdeal.Product

namespace Cert.InGatesIdeal.Product

open Idealize.ShloMosaic Idealize.SL.Sem

/-- The kernel and the reference leave the same array. -/
theorem algebraic : Cert.algebraic_InGatesIdeal_InGatesRefIdeal := by
  intro m g m' g' _ hargs
  refine ⟨fun c => Value.G2 m c, Value.run m g, ?_⟩
  refine (θ_run Cert.InGatesRefIdeal.defs _ _).mono (fun r h c => ?_) (Cert.InGatesRefIdeal.Value.run m' g')
  obtain ⟨h0, h1⟩ := h c
  refine ⟨h0.trans ?_, h1⟩
  obtain ⟨e0, e1⟩ := hargs c
  rw [e0, e1]
  funext i
  rw [eq_ix2 i]
  exact (InGatesRefIdeal.Product.ref_apply _ _ _ _).trans (G2_apply m c _ _).symm

end Cert.InGatesIdeal.Product

end
-- ==== Proof.Attn.Safe.lean ====
/-
Running without a fault, by one resource that every access finds and gives back.

`Safe I p` says that the program `p`, started with the resource `I`, runs and has `I` again at the end, whatever it
returns. It is closed under everything a kernel body is made of — sequence, branch, counted loop, load, store — so a body
of any length is `Safe` as soon as `I` holds the buffers its loads and stores go through (`Reads`, `Writes`).
-/
module

public import proofs.«01_k».proof.Proof.Gen.Attn.Frame

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The kernel's programs. -/
abbrev Body (F : FTy → Type) (α : Type) : Type 1 := Prog (TpuEff nD τ sig (Elt F) Λ₀ .tc) α

/-- From `I` the program runs, and ends with `I`. -/
def Safe (c : Dev nD) (I : sProp 𝕄) {α : Type} (p : Body F α) : Prop :=
  I ⊢ wp frame (wpE (defs₀ (F := F)) Variants.none (c : Thread nD τ) none) Set.univ p (fun _ => I)

/-- `I` lends the elements of the memref. -/
def Reads (c : Dev nD) (I : sProp 𝕄) {sp : CoreSpace} {s : Shape} {e : EltTy} (m : Memref sig .tc sp s e) : Prop :=
  I ⊢ iprop(∃ f : Buf (Elt F) (m.view.loc (c : Thread nD τ)), (m.view.loc (c : Thread nD τ) ↦[m.view.set]{fullShare} f)
    ∗ ((m.view.loc (c : Thread nD τ) ↦[m.view.set]{fullShare} f) -∗ I))

/-- `I` lends the elements of the memref, and takes them back at any contents. -/
def Writes (c : Dev nD) (I : sProp 𝕄) {sp : CoreSpace} {s : Shape} {e : EltTy} (m : Memref sig .tc sp s e) : Prop :=
  I ⊢ iprop(∃ f : Buf (Elt F) (m.view.loc (c : Thread nD τ)), (m.view.loc (c : Thread nD τ) ↦[m.view.set]{fullShare} f)
    ∗ (∀ g : Buf (Elt F) (m.view.loc (c : Thread nD τ)), (m.view.loc (c : Thread nD τ) ↦[m.view.set]{fullShare} g) -∗ I))

variable {c : Dev nD} {I : sProp (MT nD τ sig Unit (Elt F) ℕ (UR sig nD τ) ℕ)} {α β : Type}

theorem Writes.reads {sp : CoreSpace} {s : Shape} {e : EltTy} {m : Memref sig .tc sp s e} (h : Writes c I m) : Reads c I m := by
  refine (show I ⊢ _ from h).trans ?_
  iintro ⟨%f, H, HI⟩
  iexists f
  isplitl [H]; · iexact H
  iintro H
  iapply HI; iexact H

theorem safe_pure (a : α) : Safe c I (pure a : Body F α) := by
  unfold Safe; rw [wp_pure]; iintro H; imodintro; iexact H

theorem safe_bind {p : Body F α} {k : α → Body F β} (hp : Safe c I p) (hk : ∀ a, Safe c I (k a)) :
    Safe c I (p >>= k) := by
  unfold Safe at *
  rw [wp_bind]
  exact hp.trans (wp_mono _ _ _ hk)

theorem safe_ite {P : Prop} [Decidable P] {p q : Body F α} (hp : Safe c I p) (hq : Safe c I q) :
    Safe c I (if P then p else q) := by
  split <;> assumption

theorem safe_dite {P : Prop} [Decidable P] {p : P → Body F α} {q : ¬ P → Body F α} (hp : ∀ h, Safe c I (p h))
    (hq : ∀ h, Safe c I (q h)) : Safe c I (dite P p q) := by
  split
  · exact hp _
  · exact hq _

theorem safe_for {w : Nat} {σ : Type} {l : Scf.Loop w} {hok : l.OK} {init : σ} {body : Fin l.trips → σ → Body F σ}
    (h : ∀ k a, Safe c I (body k a)) : Safe c I (Scf.Loop.for l hok init body) := by
  unfold Safe at *
  have hI : I ⊢ iprop(I ∗ (∀ _ : σ, I -∗ I)) := by
    iintro H
    isplitl [H]; · iexact H
    iintro %_ H; iexact H
  exact hI.trans (Scf.wp_for _ _ _ l.lb l.ub l.st hok init body (fun _ _ => I) (fun k a => h k a))

theorem safe_load {sp : CoreSpace} {s : Shape} {e : EltTy} {m : Memref sig .tc sp s e} {r : LoadRect s} {hl : m.view.LoadsAt r}
    (h : Reads c I m) : Safe c I (Prog.lift (.load m r hl) : Body F _) := by
  refine (show I ⊢ _ from h).trans ?_
  iintro ⟨%f, H, HI⟩
  iapply (wp_load Variants.none (c : Thread nD τ) none Set.univ (m.view.setOn_subset_set _)) $$ [H]
  · iexact H
  iintro H
  rw [wp_ret]; imodintro
  iapply HI; iexact H

theorem safe_store {sp : CoreSpace} {s : Shape} {e : EltTy} {m : Memref sig .tc sp s e} {r : Rect s}
    {w : r.shape.Idx → Elt F e} {Mk : Finset r.shape.Idx} {hx : (m.access r).Stores Mk}
    {hm : Mk = Finset.univ ∨ ∀ a, r.stride a = 1}
    (h : Writes c I m) : Safe c I (Prog.lift (.store m r w Mk hx hm) : Body F _) := by
  refine (show I ⊢ _ from h).trans ?_
  iintro ⟨%f, H, HI⟩
  iapply (wp_store Variants.none (c : Thread nD τ) none Set.univ (S := m.view.set)
    (((m.access r).setOn_subset_set _).trans (m.view.set_slice_subset r))) $$ [H]
  · iexact H
  iintro H
  rw [wp_ret]; imodintro
  iapply HI; iexact H

end Cert.Attn

end
-- ==== Proof.Attn.Body.lean ====
/-
The body of the attention kernel is `Safe`: whatever branch a grid point takes, however its threshold search and its
conditional go, every load and every store of it goes through a buffer that the resource lends.

One rule is applied per statement, the rule being the one whose program it is; a printed function is opened where it is
called.
-/
module

public import proofs.«01_k».proof.Proof.Attn.Safe

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {I : sProp (MT nD τ sig Unit (Elt F) ℕ (UR sig nD τ) ℕ)}

set_option maxRecDepth 16384
-- one walk over the whole body, some thousand loads and stores: past the default budget
set_option maxHeartbeats 0 in
/-- The body at any grid point, on any memrefs: the seven inputs lent, the output and the six scratches lent and taken
    back at any contents. -/
theorem safe_body
    (i : grid0.Coords)
    (arg2 : Memref sig .tc .vmem S16x128x128 .bf16) (harg2 : arg2.IsWhole)
    (arg3 : Memref sig .tc .vmem S4x2048x128 .bf16) (harg3 : arg3.IsWhole)
    (arg4 : Memref sig .tc .vmem S4x2048x128 .bf16) (harg4 : arg4.IsWhole)
    (arg5 : Memref sig .tc .vmem S8x128x128 .bf16) (harg5 : arg5.IsWhole)
    (arg6 : Memref sig .tc .vmem S1x2048x128 .f32) (harg6 : arg6.IsWhole)
    (arg7 : Memref sig .tc .vmem S1x128x128 .f32) (harg7 : arg7.IsWhole)
    (arg8 : Memref sig .tc .vmem S16x3x128x128 .f32) (harg8 : arg8.IsWhole)
    (arg9 : Memref sig .tc .vmem S128x2048 .bf16) (harg9 : arg9.IsWhole)
    (arg10 : Memref sig .tc .vmem S16x128x128 .i32) (harg10 : arg10.IsWhole)
    (arg11 : Memref sig .tc .vmem S16x16x8x128 .i32) (harg11 : arg11.IsWhole)
    (arg12 : Memref sig .tc .vmem S16x128x128 .f32) (harg12 : arg12.IsWhole)
    (arg13 : Memref sig .tc .vmem S16x128x128 .f32) (harg13 : arg13.IsWhole)
    (arg14 : Memref sig .tc .vmem S4x512x2048 .bf16) (harg14 : arg14.IsWhole)
    (arg15 : Memref sig .tc .vmem S4x2048x256 .bf16) (harg15 : arg15.IsWhole)
    (h2 : Reads c I arg2) (h3 : Reads c I arg3) (h4 : Reads c I arg4) (h5 : Reads c I arg5) (h6 : Reads c I arg6) (h7 : Reads c I arg7) (h8 : Reads c I arg8)
    (h9 : Writes c I arg9) (h10 : Writes c I arg10) (h11 : Writes c I arg11) (h12 : Writes c I arg12) (h13 : Writes c I arg13) (h14 : Writes c I arg14) (h15 : Writes c I arg15) :
    Safe c I (cc0_sparse_attn i arg2 harg2 arg3 harg3 arg4 harg4 arg5 harg5 arg6 harg6 arg7 harg7 arg8 harg8 arg9 harg9 arg10 harg10 arg11 harg11 arg12 harg12 arg13 harg13 arg14 harg14 arg15 harg15) := by
  unfold cc0_sparse_attn
  repeat' first
    | with_reducible exact safe_pure _
    | with_reducible refine safe_bind ?_ (fun _ => ?_)
    | with_reducible exact safe_store (by assumption)
    | with_reducible exact safe_load (by first | assumption | exact Writes.reads (by assumption))
    | with_reducible refine safe_for (fun _ _ => ?_)
    | with_reducible refine safe_ite ?_ ?_
    | with_reducible refine safe_dite (fun _ => ?_) (fun _ => ?_)
    | refine safe_bind ?_ (fun _ => ?_)
    | refine safe_dite (fun _ => ?_) (fun _ => ?_)
    | exact safe_pure _

end Cert.Attn

end
-- ==== Proof.Attn.Launch.lean ====
/-
The attention kernel's frame: at every grid point the body is `Safe` over what the pipeline hands it — the staging
buffers and the call's scratches —, so every execution of the call terminates without a fault, leaves its argument arrays
as they were, and every semaphore counter at zero. Nothing is said of what the body writes.
-/
module

public import proofs.«01_k».proof.Proof.Attn.Body

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Attn.Gen

variable {F : FTy → Type} [BitOps F]

local notation "𝕄" => MT nD τ sig Unit (Elt F) ℕ (UR sig nD τ) ℕ

section Lend

variable {c : Dev nD} {A B : sProp (MT nD τ sig Unit (Elt F) ℕ (UR sig nD τ) ℕ)} {sp : CoreSpace} {s : Shape} {e : EltTy}
  {m : Memref sig .tc sp s e}

theorem Reads.left (h : Reads c A m) : Reads c iprop(A ∗ B) m := by
  unfold Reads at *
  iintro ⟨HA, HB⟩
  ihave H := h $$ [HA]
  · iexact HA
  icases H with ⟨%f, H, HA⟩
  iexists f
  isplitl [H]; · iexact H
  iintro H
  isplitl [HA H]
  · iapply HA; iexact H
  · iexact HB

theorem Reads.right (h : Reads c B m) : Reads c iprop(A ∗ B) m := by
  unfold Reads at *
  iintro ⟨HA, HB⟩
  ihave H := h $$ [HB]
  · iexact HB
  icases H with ⟨%f, H, HB⟩
  iexists f
  isplitl [H]; · iexact H
  iintro H
  isplitl [HA]
  · iexact HA
  · iapply HB; iexact H

theorem Writes.left (h : Writes c A m) : Writes c iprop(A ∗ B) m := by
  unfold Writes at *
  iintro ⟨HA, HB⟩
  ihave H := h $$ [HA]
  · iexact HA
  icases H with ⟨%f, H, HA⟩
  iexists f
  isplitl [H]; · iexact H
  iintro %g H
  isplitl [HA H]
  · iapply HA; iexact H
  · iexact HB

theorem Writes.right (h : Writes c B m) : Writes c iprop(A ∗ B) m := by
  unfold Writes at *
  iintro ⟨HA, HB⟩
  ihave H := h $$ [HB]
  · iexact HB
  icases H with ⟨%f, H, HB⟩
  iexists f
  isplitl [H]; · iexact H
  iintro %g H
  isplitl [HA]
  · iexact HA
  · iapply HB; iexact H

/-- A memref held at known contents lends its elements, -/
theorem reads_owns (X : s.Idx → Elt F e) : Reads c (owns (c : Thread nD τ) m fullShare X) m := by
  unfold Reads owns
  iintro ⟨%f, %hf, H⟩
  iexists f
  isplitl [H]; · iexact H
  iintro H
  iexists f
  isplitr
  · ipureintro; exact hf
  · iexact H

/-- and held at any contents takes them back at any contents; -/
theorem writes_owns : Writes c (iprop(∃ X : s.Idx → Elt F e, owns (c : Thread nD τ) m fullShare X)) m := by
  unfold Writes owns
  iintro ⟨%X, %f, -, H⟩
  iexists f
  isplitl [H]; · iexact H
  iintro %g H
  iexists (m.view.read (Elt F) g)
  iexists g
  isplitr
  · ipureintro; rfl
  · iexact H

end Lend

/-- so does a buffer held whole. -/
theorem writes_whole {c : Dev nD} {cs : CoreSpace} {i : Fin (sig.nNear .tc cs)} {hκ : sig.names .tc cs i = true} :
    Writes c (iprop(∃ f : Buf (Elt F) ((c : Thread nD τ).loc ⟨cs, i, hκ⟩), ((c : Thread nD τ).loc ⟨cs, i, hκ⟩) ↦{fullShare} f))
      (Memref.whole ⟨cs, i, hκ⟩ : Memref sig .tc cs _ _) := by
  have h := writes_owns (F := F) (c := c) (m := (Memref.whole ⟨cs, i, hκ⟩ : Memref sig .tc cs _ _))
  have hX : ∀ X, (owns (c : Thread nD τ) (Memref.whole ⟨cs, i, hκ⟩ : Memref sig .tc cs _ _) fullShare X
      : sProp (MT nD τ sig Unit (Elt F) ℕ (UR sig nD τ) ℕ)) = (((c : Thread nD τ).loc ⟨cs, i, hκ⟩) ↦{fullShare} X) :=
    fun X => owns_whole (c : Thread nD τ) ⟨cs, i, hκ⟩ fullShare X
  simp only [hX] at h
  exact h

/-! ## The frame -/

variable (m : (ℓ : Loc nD τ sig) → Buf (Elt F) ℓ) (ρ : Dev nD → PrngReg)

/-- What the pipeline is told of the call on core `c`: its arrays as the call finds them; the body leaves every input's
    staging buffer as it was, and anything in the output's; the input windows that read one array hold it in shares; nothing owed. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q := Pipeline.shareOf spec0
  owed _ := 0

/-- The row of the body table at a grid point is the body there. -/
theorem body_row (t : Fin cfg0.N) :
    defs₀ (F := F) .tc cfg0.body (cfg0.bodyArgs t (cfg0.slots t)) = bodyAt0 t := by
  unfold defs₀; rw [Defs.onTc_tc]

/-- What the body holds at a point: the scratches and the generator register, what it owes, the inputs' staging buffers
    at what it found there, the output's at anything. -/
def held (c : Dev nD) (t : Fin cfg0.N) (Y : (w : Fin cfg0.W) → (cfg0.win w).block.Idx → Elt F (cfg0.win w).elt) : sProp 𝕄 :=
  iprop((Pipeline.scopedRest (Ix := Unit) (Name := ℕ) (U := UR sig nD τ) (Lvl := ℕ) (Val := Elt F) spec0 c ∗ ∃ r, prngReg c r)
    ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6)
    ∗ ∃ X, owns (c : Thread nD τ) (st0_7 t) fullShare X)

/-- The body is safe over that. -/
theorem safe_point (c : Dev nD) (t : Fin cfg0.N) (Y) : Safe c (held m c t Y) (bodyAt0 t) := by
  unfold held
  rw [scopedRest0_eq]
  unfold bodyAt0
  exact safe_body _ _ _ _ _ _ _ _ _ _ _ _ _ _ _ _ _ _ _ _ _ _ _ _ _ _ _ _ _
    (reads_owns _).left.right.right
    (reads_owns _).left.right.right.right
    (reads_owns _).left.right.right.right.right
    (reads_owns _).left.right.right.right.right.right
    (reads_owns _).left.right.right.right.right.right.right
    (reads_owns _).left.right.right.right.right.right.right.right
    (reads_owns _).left.right.right.right.right.right.right.right.right
    writes_owns.right.right.right.right.right.right.right.right.right
    writes_whole.left.left.left
    writes_whole.left.right.left.left
    writes_whole.left.right.right.left.left
    writes_whole.left.right.right.right.left.left
    writes_whole.left.right.right.right.right.left.left
    writes_whole.right.right.right.right.right.left.left

/-- The pipeline's obligation of the body. -/
theorem body_obligation (c : Dev nD) : (rdat m c).BodyObligation (defs₀ (F := F)) Variants.none () Set.univ := fun t Y _ => by
  rw [bigSep_W0, bigSep_W0, body_row]
  have hΦ : ∀ u, (rdat m c).Φ u = iprop(Pipeline.scopedRest (Ix := Unit) (Name := ℕ) (U := UR sig nD τ) (Lvl := ℕ)
      (Val := Elt F) spec0 c ∗ ∃ r, prngReg c r) := fun _ => rfl
  rw [hΦ, hΦ]
  refine BI.Entails.trans (?_ : _ ⊢ held m c t Y) (BI.Entails.trans (safe_point m c t Y) (wp_mono _ _ _ fun _ => ?_))
  · unfold held
    iintro ⟨HΦ, Ho, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · unfold held
    iintro ⟨HΦ, Ho, H0, H1, H2, H3, H4, H5, H6, ⟨%X, H7⟩⟩
    isplitl [HΦ]; · iexact HΦ
    isplitl [Ho]; · iexact Ho
    isplitl [H0]
    · iexists _; isplitr; swap; · iexact H0
      ipureintro; exact fun _ => rfl
    isplitl [H1]
    · iexists _; isplitr; swap; · iexact H1
      ipureintro; exact fun _ => rfl
    isplitl [H2]
    · iexists _; isplitr; swap; · iexact H2
      ipureintro; exact fun _ => rfl
    isplitl [H3]
    · iexists _; isplitr; swap; · iexact H3
      ipureintro; exact fun _ => rfl
    isplitl [H4]
    · iexists _; isplitr; swap; · iexact H4
      ipureintro; exact fun _ => rfl
    isplitl [H5]
    · iexists _; isplitr; swap; · iexact H5
      ipureintro; exact fun _ => rfl
    isplitl [H6]
    · iexists _; isplitr; swap; · iexact H6
      ipureintro; exact fun _ => rfl
    iexists _; isplitr; swap; · iexact H7
    ipureintro; exact fun h => absurd h (by decide)

set_option backward.isDefEq.respectTransparency.types false in
/-- The launch: every weakly fair execution terminates, the staged inputs' arrays and the buffers outside the call as the
    call found them, every semaphore counter at zero. -/
theorem run : θ_run defs (onTc (τ := τ) (main (F := F))) (s₀ m ρ)
    (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := fun _ _ => rfl) (hin := fun _ => .rfl) (hout := fun _ => .rfl)

/-- The frame of the attention call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 3 rfl).trans (V_main_arg0 m c),
      ((h.1 c).2 main_arg1 (Pipeline.mem_restRefs_of main_arg1 (by decide) (by decide))).trans (V_main_arg1 m c),
      (h.1.arr_in c 6 rfl).trans (V_main_arg2 m c)⟩, h.2⟩) (run m ρ)

end Cert.Attn

end
-- ==== Proof.Scalars.lean ====
/- Facts about extended reals that the calls' values rest on: the constants the programs print, and the sigmoid in its
   two forms, `1 / (1 + exp (-x))` and `(tanh (x / 2) + 1) / 2`. -/
module

public import Idealize.ShloMosaic.PureOps.Ideal
public import Idealize.ShloMosaic.PureOps.Ideal.Laws
public import Idealize.ShloMosaic.Lib.IdealHost
public import Mathlib.Analysis.SpecialFunctions.Trigonometric.DerivHyp

@[expose] public section

noncomputable section

namespace Cert.Scalars

open Idealize.ShloMosaic

theorem half_f32 : Ideal.ofBits .f32 0x3F000000#32 = ((1 / 2 : ℝ) : EReal) := by
  simp [Ideal.ofBits, Ideal.ieee, -EReal.coe_mul]
  norm_num

theorem tanh_half (r : ℝ) : (1 / 2 : ℝ) * (Real.tanh (1 / 2 * r) + 1) = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  have p := Real.exp_pos (1 / 2 * r)
  have q := Real.exp_pos (-(1 / 2 * r))
  generalize Real.exp (1 / 2 * r) = a at *
  generalize Real.exp (-(1 / 2 * r)) = b at *
  have : a + b ≠ 0 := by positivity
  have : 1 + b * b ≠ 0 := by positivity
  field_simp
  nlinarith [h2]

/-- The kernel's sigmoid is the reference's. -/
theorem sigmoid (x : EReal) :
    Ideal.ofBits .f32 0x3F000000#32 * (Ideal.tanh (Ideal.ofBits .f32 0x3F000000#32 * x) + 1) = Ideal.logistic x := by
  rw [half_f32]
  induction x with
  | bot =>
    rw [EReal.coe_mul_bot_of_pos (by norm_num), Ideal.tanh_bot, Ideal.logistic_bot]
    rw [← EReal.coe_one, ← EReal.coe_neg, ← EReal.coe_add]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, Ideal.logistic_coe, ← EReal.coe_one, ← EReal.coe_add, ← EReal.coe_mul, tanh_half]

theorem logistic_eq (x : EReal) : Ideal.div 1 (1 + Ideal.exp (-x)) = Ideal.logistic x := rfl

end Cert.Scalars

end
-- ==== Proof.Merge.lean ====
/- The merge of the two branches: what the kernel leaves in its result array is, at row `r` and column `q`, the
   sigmoid of the recurrent branch's gate times the recurrent branch's projection, plus the same of the attention
   branch; and so is what the reference leaves. -/
module

public import proofs.«01_k».proof.Defs
public import proofs.«01_k».proof.Proof.Gen.MergeIdeal.Value
public import proofs.«01_k».proof.Proof.Gen.MergeRefIdeal.Run
public import proofs.«01_k».proof.Proof.Scalars
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.MergeIdeal.Product

open Cert.MergeIdeal Cert.MergeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store. -/
theorem out_eq (x y : Vec F S512x2048 .bf16) (w v : Vec F S2048x2048 .bf16) (g h : Vec F S512x2048 .f32) :
    out0_6 x y w v g h = k0_pay1 x w y v g h := by
  unfold out0_6 r0_0 r0_1
  rw [View.canon_unit_zero hz]
  simp only [View.ld_unit_zero (S := S512x2048) hz, View.ld_unit_zero (S := S2048x2048) hz]

theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 1
    ∧ win0_6.index t (0 : Fin 2) = t.val ∧ win0_6.index t (1 : Fin 2) = 0 :=
  (by decide +kernel : ∀ t : Fin grid0.N, _)

/-! The input windows' blocks at point `t`. -/

def yrblk (c : Dev nD) (t : Fin cfg0.N) : Vec F S512x2048 .bf16 := iblk m c 0 t

theorem yrblk_apply (c : Dev nD) (t : Fin cfg0.N) (a : Fin 512) (b : Fin 2048) :
    yrblk m c t (ix2 a b) = V m c main_v0 (ix2 ⟨512 * t.val + a.val, by have := t.isLt; have : cfg0.N = 32 := N_0; omega⟩ b) := by
  obtain ⟨e0, e1, -⟩ := index_facts t
  show V m c main_v0 (((cfg0.win 0).blk t).view.emb _) = _
  congr 1
  funext k; apply Fin.ext
  match k with
  | ⟨0, _⟩ => show win0_0.index t (0 : Fin 2) * 512 + 1 * a.val = 512 * t.val + a.val; rw [e0]; omega
  | ⟨1, _⟩ => show win0_0.index t (1 : Fin 2) * 2048 + 1 * b.val = b.val; rw [e1]; omega

def yablk (c : Dev nD) (t : Fin cfg0.N) : Vec F S512x2048 .bf16 := iblk m c 1 t

theorem yablk_apply (c : Dev nD) (t : Fin cfg0.N) (a : Fin 512) (b : Fin 2048) :
    yablk m c t (ix2 a b) = m ((c : Thread nD τ).loc main_arg1) (ix2 ⟨512 * t.val + a.val, by have := t.isLt; have : cfg0.N = 32 := N_0; omega⟩ b) := by
  obtain ⟨-, -, e0, e1, -⟩ := index_facts t
  rw [← V_main_arg1 m c]
  show V m c main_arg1 (((cfg0.win 1).blk t).view.emb _) = _
  congr 1
  funext k; apply Fin.ext
  match k with
  | ⟨0, _⟩ => show win0_1.index t (0 : Fin 2) * 512 + 1 * a.val = 512 * t.val + a.val; rw [e0]; omega
  | ⟨1, _⟩ => show win0_1.index t (1 : Fin 2) * 2048 + 1 * b.val = b.val; rw [e1]; omega

def wrblk (c : Dev nD) (t : Fin cfg0.N) : Vec F S2048x2048 .bf16 := iblk m c 2 t

theorem wrblk_apply (c : Dev nD) (t : Fin cfg0.N) (a : Fin 2048) (b : Fin 2048) :
    wrblk m c t (ix2 a b) = V m c main_v2 (ix2 a b) := by
  obtain ⟨-, -, -, -, e0, e1, -⟩ := index_facts t
  show V m c main_v2 (((cfg0.win 2).blk t).view.emb _) = _
  congr 1
  funext k; apply Fin.ext
  match k with
  | ⟨0, _⟩ => show win0_2.index t (0 : Fin 2) * 2048 + 1 * a.val = a.val; rw [e0]; omega
  | ⟨1, _⟩ => show win0_2.index t (1 : Fin 2) * 2048 + 1 * b.val = b.val; rw [e1]; omega

def wablk (c : Dev nD) (t : Fin cfg0.N) : Vec F S2048x2048 .bf16 := iblk m c 3 t

theorem wablk_apply (c : Dev nD) (t : Fin cfg0.N) (a : Fin 2048) (b : Fin 2048) :
    wablk m c t (ix2 a b) = V m c main_v4 (ix2 a b) := by
  obtain ⟨-, -, -, -, -, -, e0, e1, -⟩ := index_facts t
  show V m c main_v4 (((cfg0.win 3).blk t).view.emb _) = _
  congr 1
  funext k; apply Fin.ext
  match k with
  | ⟨0, _⟩ => show win0_3.index t (0 : Fin 2) * 2048 + 1 * a.val = a.val; rw [e0]; omega
  | ⟨1, _⟩ => show win0_3.index t (1 : Fin 2) * 2048 + 1 * b.val = b.val; rw [e1]; omega

def grblk (c : Dev nD) (t : Fin cfg0.N) : Vec F S512x2048 .f32 := iblk m c 4 t

theorem grblk_apply (c : Dev nD) (t : Fin cfg0.N) (a : Fin 512) (b : Fin 2048) :
    grblk m c t (ix2 a b) = m ((c : Thread nD τ).loc main_arg4) (ix2 ⟨512 * t.val + a.val, by have := t.isLt; have : cfg0.N = 32 := N_0; omega⟩ ⟨b.val, by omega⟩) := by
  obtain ⟨-, -, -, -, -, -, -, -, e0, e1, -⟩ := index_facts t
  rw [← V_main_arg4 m c]
  show V m c main_arg4 (((cfg0.win 4).blk t).view.emb _) = _
  congr 1
  funext k; apply Fin.ext
  match k with
  | ⟨0, _⟩ => show win0_4.index t (0 : Fin 2) * 512 + 1 * a.val = 512 * t.val + a.val; rw [e0]; omega
  | ⟨1, _⟩ => show win0_4.index t (1 : Fin 2) * 2048 + 1 * b.val = b.val; rw [e1]; omega

def gablk (c : Dev nD) (t : Fin cfg0.N) : Vec F S512x2048 .f32 := iblk m c 5 t

theorem gablk_apply (c : Dev nD) (t : Fin cfg0.N) (a : Fin 512) (b : Fin 2048) :
    gablk m c t (ix2 a b) = m ((c : Thread nD τ).loc main_arg4) (ix2 ⟨512 * t.val + a.val, by have := t.isLt; have : cfg0.N = 32 := N_0; omega⟩ ⟨2048 + b.val, by omega⟩) := by
  obtain ⟨-, -, -, -, -, -, -, -, -, -, e0, e1, -⟩ := index_facts t
  rw [← V_main_arg4 m c]
  show V m c main_arg4 (((cfg0.win 5).blk t).view.emb _) = _
  congr 1
  funext k; apply Fin.ext
  match k with
  | ⟨0, _⟩ => show win0_5.index t (0 : Fin 2) * 512 + 1 * a.val = 512 * t.val + a.val; rw [e0]; omega
  | ⟨1, _⟩ => show win0_5.index t (1 : Fin 2) * 2048 + 1 * b.val = 2048 + b.val; rw [e1]; omega

/-- The arrays the host prepares: the recurrent branch's rows, and the two weights rounded to the kernel's type. -/
theorem V_y (c : Dev nD) : V m c main_v0 = shapeCast S16384x2048 (m ((c : Thread nD τ).loc main_arg0)) shapeCasts_S8x2048x2048_S16384x2048 := by
  unfold V
  after_results <;> rfl

theorem V_wr (c : Dev nD) : V m c main_v2 = truncf .bf16
    (shapeCast S2048x2048 (m ((c : Thread nD τ).loc main_arg2)) shapeCasts_S1x2048x2048_S2048x2048) bitsLt_bf16_f32 := by
  unfold V
  after_results <;> rfl

theorem V_wa (c : Dev nD) : V m c main_v4 = truncf .bf16
    (shapeCast S2048x2048 (m ((c : Thread nD τ).loc main_arg3)) shapeCasts_S1x2048x2048_S2048x2048) bitsLt_bf16_f32 := by
  unfold V
  after_results <;> rfl

/-- The result array where point `t` wrote it. -/
theorem final_apply (c : Dev nD) (t : Fin cfg0.N) (a : Fin 512) (b : Fin 2048) :
    (dats m 0 c).arrAt 6 cfg0.N (ix2 ⟨512 * t.val + a.val, by have := t.isLt; have : cfg0.N = 32 := N_0; omega⟩ b)
      = k0_pay1 (yrblk m c t) (wrblk m c t) (yablk m c t) (wablk m c t) (grblk m c t) (gablk m c t) (ix2 a b) := by
  obtain ⟨-, -, -, -, -, -, -, -, -, -, -, -, e0, e1⟩ := index_facts t
  refine .trans ?_ ((congrFun (Value.blocks6 m c t (flush0_6 t)) (ix2 a b)).trans ?_)
  · show _ = (dats m 0 c).arrAt 6 cfg0.N (((cfg0.win 6).blk t).view.emb _)
    congr 1
    funext k; apply Fin.ext
    match k with
    | ⟨0, _⟩ => show 512 * t.val + a.val = win0_6.index t (0 : Fin 2) * 512 + 1 * a.val; rw [e0]; omega
    | ⟨1, _⟩ => show b.val = win0_6.index t (1 : Fin 2) * 2048 + 1 * b.val; rw [e1]; omega
  · rw [Value.flushed6, out_eq]
    rfl

end Cert.MergeIdeal.Product

namespace Cert.MergeIdeal.Product

open Cert.MergeIdeal Cert.MergeIdeal.Gen Idealize.ShloMosaic Idealize.ShloMosaic.TcCoe Idealize.SL.Sem

variable (m : (ℓ : Loc nD τ sig) → Buf (Elt Ideal) ℓ)

/-- The gated sum at row `r` and column `q`. -/
def entry (y : S16384x2048.Idx → EReal) (z : S16384x2048.Idx → EReal) (w v : S1x2048x2048.Idx → EReal) (g : S16384x4096.Idx → EReal)
    (r : Fin 16384) (q : Fin 2048) : EReal :=
  Ideal.logistic (g (ix2 r ⟨q.val, by omega⟩)) * ∑ k : Fin 2048, y (ix2 r k) * w (ix3 0 k q)
    + Ideal.logistic (g (ix2 r ⟨2048 + q.val, by omega⟩)) * ∑ k : Fin 2048, z (ix2 r k) * v (ix3 0 k q)

theorem drop_apply {α : Type} (w : S1x2048x2048.Idx → α) (h : S1x2048x2048.ShapeCasts S2048x2048) (k q : Fin 2048) :
    shapeCast S2048x2048 w h (ix2 k q) = w (ix3 0 k q) := by
  refine (shapeCast_dropUnit_apply ![2048, 2048] w h (ix2 k q)).trans (congrArg w ?_)
  funext a
  match a with
  | ⟨0, _⟩ => rfl
  | ⟨1, _⟩ => rfl
  | ⟨2, _⟩ => rfl

theorem pay_apply (y z : Vec Ideal S512x2048 .bf16) (w v : Vec Ideal S2048x2048 .bf16) (g h : Vec Ideal S512x2048 .f32) (a : Fin 512) (b : Fin 2048) :
    k0_pay1 (F := Ideal) y w z v g h (ix2 a b) = Ideal.logistic (g (ix2 a b)) * ∑ k : Fin 2048, (y (ix2 a k) * w (ix2 k b) : EReal)
      + Ideal.logistic (h (ix2 a b)) * ∑ k : Fin 2048, (z (ix2 a k) * v (ix2 k b) : EReal) := by
  pointwise [k0_pay1]
  rw [Scalars.sigmoid, Scalars.sigmoid]

theorem half_apply (w : Vec Ideal S2048x2048 .f32) (k q : Fin 2048) :
    (truncf .bf16 w bitsLt_bf16_f32 : FVec Ideal S2048x2048 .bf16) (ix2 k q) = w (ix2 k q) := by
  pointwise

/-- The kernel's result at row `r` and column `q`. -/
theorem result_apply (c : Dev nD) (r : Fin 16384) (q : Fin 2048) :
    (dats m 0 c).arrAt 6 cfg0.N (ix2 r q) = entry
      (shapeCast S16384x2048 (m ((c : Thread nD τ).loc main_arg0)) shapeCasts_S8x2048x2048_S16384x2048)
      (m ((c : Thread nD τ).loc main_arg1)) (m ((c : Thread nD τ).loc main_arg2)) (m ((c : Thread nD τ).loc main_arg3))
      (m ((c : Thread nD τ).loc main_arg4)) r q := by
  have hN : cfg0.N = 32 := N_0
  have h := final_apply m c ⟨r.val / 512, by omega⟩ ⟨r.val % 512, by omega⟩ q
  have er : ∀ p, (⟨512 * (r.val / 512) + r.val % 512, p⟩ : Fin 16384) = r := fun _ => Fin.ext (by dsimp only; omega)
  dsimp only at h
  rw [er] at h
  refine h.trans ?_
  rw [pay_apply]
  unfold entry
  refine congrArg₂ (· + · : EReal → EReal → EReal) (congrArg₂ (· * · : EReal → EReal → EReal) ?_ (Finset.sum_congr (M := EReal) rfl fun k _ => congrArg₂ (· * · : EReal → EReal → EReal) ?_ ?_)) (congrArg₂ (· * · : EReal → EReal → EReal) ?_ (Finset.sum_congr (M := EReal) rfl fun k _ => congrArg₂ (· * · : EReal → EReal → EReal) ?_ ?_))
  · rw [grblk_apply]; dsimp only; rw [er]
  · rw [yrblk_apply, V_y]; dsimp only; rw [er]
  · rw [wrblk_apply, V_wr, half_apply, drop_apply]
  · rw [gablk_apply]; dsimp only; rw [er]
  · rw [yablk_apply]; dsimp only; rw [er]
  · rw [wablk_apply, V_wa, half_apply, drop_apply]

end Cert.MergeIdeal.Product

namespace Cert.MergeRefIdeal.Product

open Cert.MergeRefIdeal Cert.MergeRefIdeal.Gen Idealize.ShloMosaic

/-- The reference's result at row `r` and column `q`. -/
theorem ref_apply (y : Vec Ideal S16384x2048 .bf16) (z : Vec Ideal S16384x2048 .bf16) (w v : Vec Ideal S1x2048x2048 .f32)
    (g : Vec Ideal S16384x4096 .f32) (r : Fin 16384) (q : Fin 2048) :
    (truncf .bf16 (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 0] g slices_S16384x4096_S16384x2048_0_0))))) (Host.dotGeneral (F := Ideal) (φ₁ := .f32) (φ₂ := .f32) dot_S16384x2048_S2048x2048_S16384x2048_1_0_0_1_n_n none (extf .f32 y bitsLt_bf16_f32) (shapeCast S2048x2048 w shapeCasts_S1x2048x2048_S2048x2048))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] g slices_S16384x4096_S16384x2048_0_2048))))) (Host.dotGeneral (F := Ideal) (φ₁ := .f32) (φ₂ := .f32) dot_S16384x2048_S2048x2048_S16384x2048_1_0_0_1_n_n none (extf .f32 z bitsLt_bf16_f32) (shapeCast S2048x2048 v shapeCasts_S1x2048x2048_S2048x2048)))) bitsLt_bf16_f32 : FVec Ideal S16384x2048 .bf16) (ix2 r q) = MergeIdeal.Product.entry y z w v g r q := by
  generalize hw : shapeCast S2048x2048 w shapeCasts_S1x2048x2048_S2048x2048 = w'
  generalize hv : shapeCast S2048x2048 v shapeCasts_S1x2048x2048_S2048x2048 = v'
  pointwise
  unfold MergeIdeal.Product.entry
  refine congrArg₂ (· + · : EReal → EReal → EReal) (congrArg₂ (· * · : EReal → EReal → EReal) ?_ (Finset.sum_congr (M := EReal) rfl fun k _ => ?_)) (congrArg₂ (· * · : EReal → EReal → EReal) ?_ (Finset.sum_congr (M := EReal) rfl fun k _ => ?_))
  · rfl
  · rw [← hw, MergeIdeal.Product.drop_apply]
  · rfl
  · rw [← hv, MergeIdeal.Product.drop_apply]

end Cert.MergeRefIdeal.Product

namespace Cert.MergeIdeal.Product

open Idealize.ShloMosaic Idealize.SL.Sem Cert.MergeIdeal.Gen

/-- The kernel and the reference leave the same array. -/
theorem algebraic : Cert.algebraic_MergeIdeal_MergeRefIdeal := by
  intro m g m' g' _ hargs
  refine ⟨fun c => (dats m 0 c).arrAt 6 cfg0.N, Value.run_blocks m g, ?_⟩
  refine (θ_run Cert.MergeRefIdeal.defs _ _).mono (fun r h c => ?_) (Cert.MergeRefIdeal.Value.run m' g')
  obtain ⟨h0, h1⟩ := h c
  refine ⟨h0.trans ?_, h1⟩
  obtain ⟨e0, e1, e2, e3, e4⟩ := hargs c
  rw [e0, e1, e2, e3, e4]
  funext i
  rw [eq_ix2 i]
  exact (MergeRefIdeal.Product.ref_apply _ _ _ _ _ _ _).trans (result_apply m c _ _).symm

end Cert.MergeIdeal.Product

end
-- ==== Proof.OutProj.lean ====
/- The output projection added to the residual: what the kernel leaves in its result array is, at row `r` and
   column `q`, `x[r, q]` plus the sum over `k` of `merged[r, k] * w_out[0, k, q]`, and so does the reference. -/
module

public import proofs.«01_k».proof.Defs
public import proofs.«01_k».proof.Proof.Gen.OutProjIdeal.Value
public import proofs.«01_k».proof.Proof.Gen.OutProjRefIdeal.Run
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.OutProjIdeal.Product

open Cert.OutProjIdeal Cert.OutProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store is the residual block plus the product of the two other blocks. -/
theorem out_eq (x : Vec F S1024x2048 .bf16) (w : Vec F S2048x1024 .bf16) (s : Vec F S1024x1024 .f32) :
    out0_3 x w s = k0_pay1 s x w := by
  unfold out0_3 r0_0 r0_1 r0_2
  rw [View.canon_unit_zero hz, View.ld_unit_zero (S := S1024x2048) hz, View.ld_unit_zero (S := S2048x1024) hz, View.ld_unit_zero (S := S1024x1024) hz]

theorem index_facts : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val % 16 ∧ win0_2.index t (1 : Fin 2) = t.val / 16
    ∧ win0_3.index t (0 : Fin 2) = t.val % 16 ∧ win0_3.index t (1 : Fin 2) = t.val / 16 :=
  (by decide +kernel : ∀ t : Fin grid0.N, _)

/-- The input windows' blocks at point `t`. -/
def xblk (c : Dev nD) (t : Fin cfg0.N) : Vec F S1024x2048 .bf16 := iblk m c 0 t
def wblk (c : Dev nD) (t : Fin cfg0.N) : Vec F S2048x1024 .bf16 := iblk m c 1 t
def rblk (c : Dev nD) (t : Fin cfg0.N) : Vec F S1024x1024 .f32 := iblk m c 2 t

theorem xblk_apply (c : Dev nD) (t : Fin cfg0.N) (a : Fin 1024) (b : Fin 2048) :
    xblk m c t (ix2 a b) = m ((c : Thread nD τ).loc main_arg0) (ix2 ⟨1024 * (t.val % 16) + a.val, by omega⟩ b) := by
  obtain ⟨e0, e1, -⟩ := index_facts t
  rw [← V_main_arg0 m c]
  show V m c main_arg0 (((cfg0.win 0).blk t).view.emb _) = _
  congr 1
  funext k; apply Fin.ext
  match k with
  | ⟨0, _⟩ => show win0_0.index t (0 : Fin 2) * 1024 + 1 * a.val = 1024 * (t.val % 16) + a.val; rw [e0]; omega
  | ⟨1, _⟩ => show win0_0.index t (1 : Fin 2) * 2048 + 1 * b.val = b.val; rw [e1]; omega

theorem wblk_apply (c : Dev nD) (t : Fin cfg0.N) (a : Fin 2048) (b : Fin 1024) :
    wblk m c t (ix2 a b) = V m c main_v1 (ix2 a ⟨1024 * (t.val / 16) + b.val, by have := t.isLt; have : cfg0.N = 32 := N_0; omega⟩) := by
  obtain ⟨-, -, e0, e1, -⟩ := index_facts t
  show V m c main_v1 (((cfg0.win 1).blk t).view.emb _) = _
  congr 1
  funext k; apply Fin.ext
  match k with
  | ⟨0, _⟩ => show win0_1.index t (0 : Fin 2) * 2048 + 1 * a.val = a.val; rw [e0]; omega
  | ⟨1, _⟩ => show win0_1.index t (1 : Fin 2) * 1024 + 1 * b.val = 1024 * (t.val / 16) + b.val; rw [e1]; omega

theorem rblk_apply (c : Dev nD) (t : Fin cfg0.N) (a : Fin 1024) (b : Fin 1024) :
    rblk m c t (ix2 a b) = m ((c : Thread nD τ).loc main_arg2)
      (ix2 ⟨1024 * (t.val % 16) + a.val, by omega⟩ ⟨1024 * (t.val / 16) + b.val, by have := t.isLt; have : cfg0.N = 32 := N_0; omega⟩) := by
  obtain ⟨-, -, -, -, e0, e1, -⟩ := index_facts t
  rw [← V_main_arg2 m c]
  show V m c main_arg2 (((cfg0.win 2).blk t).view.emb _) = _
  congr 1
  funext k; apply Fin.ext
  match k with
  | ⟨0, _⟩ => show win0_2.index t (0 : Fin 2) * 1024 + 1 * a.val = 1024 * (t.val % 16) + a.val; rw [e0]; omega
  | ⟨1, _⟩ => show win0_2.index t (1 : Fin 2) * 1024 + 1 * b.val = 1024 * (t.val / 16) + b.val; rw [e1]; omega

/-- The weights at entry: the leading unit axis dropped, and rounded to the kernel's type. -/
theorem V_w (c : Dev nD) : V m c main_v1 = truncf .bf16
    (shapeCast S2048x2048 (m ((c : Thread nD τ).loc main_arg1)) shapeCasts_S1x2048x2048_S2048x2048) bitsLt_bf16_f32 := by
  unfold V
  after_results <;> rfl

/-- The result array where point `t` wrote it. -/
theorem final_apply (c : Dev nD) (t : Fin cfg0.N) (a : Fin 1024) (b : Fin 1024) :
    (dats m 0 c).arrAt 3 cfg0.N (ix2 ⟨1024 * (t.val % 16) + a.val, by omega⟩ ⟨1024 * (t.val / 16) + b.val, by have := t.isLt; have : cfg0.N = 32 := N_0; omega⟩)
      = k0_pay1 (rblk m c t) (xblk m c t) (wblk m c t) (ix2 a b) := by
  obtain ⟨-, -, -, -, -, -, e0, e1⟩ := index_facts t
  refine .trans ?_ ((congrFun (Value.blocks3 m c t (flush0_3 t)) (ix2 a b)).trans ?_)
  · show _ = (dats m 0 c).arrAt 3 cfg0.N (((cfg0.win 3).blk t).view.emb _)
    congr 1
    funext k; apply Fin.ext
    match k with
    | ⟨0, _⟩ => show 1024 * (t.val % 16) + a.val = win0_3.index t (0 : Fin 2) * 1024 + 1 * a.val; rw [e0]; omega
    | ⟨1, _⟩ => show 1024 * (t.val / 16) + b.val = win0_3.index t (1 : Fin 2) * 1024 + 1 * b.val; rw [e1]; omega
  · rw [Value.flushed3, out_eq]
    rfl

end Cert.OutProjIdeal.Product

namespace Cert.OutProjIdeal.Product

open Cert.OutProjIdeal Cert.OutProjIdeal.Gen Idealize.ShloMosaic Idealize.ShloMosaic.TcCoe Idealize.SL.Sem

variable (m : (ℓ : Loc nD τ sig) → Buf (Elt Ideal) ℓ)

/-- The residual plus entry `(r, q)` of the product. -/
def entry (x : S16384x2048.Idx → EReal) (w : S1x2048x2048.Idx → EReal) (s : S16384x2048.Idx → EReal)
    (r : Fin 16384) (q : Fin 2048) : EReal := s (ix2 r q) + ∑ k : Fin 2048, x (ix2 r k) * w (ix3 0 k q)

theorem drop_apply {α : Type} (w : S1x2048x2048.Idx → α) (h : S1x2048x2048.ShapeCasts S2048x2048) (k q : Fin 2048) :
    shapeCast S2048x2048 w h (ix2 k q) = w (ix3 0 k q) := by
  refine (shapeCast_dropUnit_apply ![2048, 2048] w h (ix2 k q)).trans (congrArg w ?_)
  funext a
  match a with
  | ⟨0, _⟩ => rfl
  | ⟨1, _⟩ => rfl
  | ⟨2, _⟩ => rfl

theorem pay_apply (s : Vec Ideal S1024x1024 .f32) (x : Vec Ideal S1024x2048 .bf16) (w : Vec Ideal S2048x1024 .bf16) (a b : Fin 1024) :
    k0_pay1 (F := Ideal) s x w (ix2 a b) = s (ix2 a b) + ∑ k : Fin 2048, (x (ix2 a k) * w (ix2 k b) : EReal) := by
  pointwise [k0_pay1]

theorem half_apply (w : Vec Ideal S2048x2048 .f32) (k q : Fin 2048) :
    (truncf .bf16 w bitsLt_bf16_f32 : FVec Ideal S2048x2048 .bf16) (ix2 k q) = w (ix2 k q) := by
  pointwise

/-- The kernel's result at row `r` and column `q`. -/
theorem result_apply (c : Dev nD) (r : Fin 16384) (q : Fin 2048) :
    (dats m 0 c).arrAt 3 cfg0.N (ix2 r q) = entry (m ((c : Thread nD τ).loc main_arg0)) (m ((c : Thread nD τ).loc main_arg1))
      (m ((c : Thread nD τ).loc main_arg2)) r q := by
  have hN : cfg0.N = 32 := N_0
  have h := final_apply m c ⟨r.val / 1024 + 16 * (q.val / 1024), by omega⟩ ⟨r.val % 1024, by omega⟩ ⟨q.val % 1024, by omega⟩
  have e : (ix2 r q : S16384x2048.Idx) = ix2 ⟨1024 * ((r.val / 1024 + 16 * (q.val / 1024)) % 16) + r.val % 1024, by omega⟩
      ⟨1024 * ((r.val / 1024 + 16 * (q.val / 1024)) / 16) + q.val % 1024, by omega⟩ := by
    congr 1 <;> (apply Fin.ext; dsimp only; omega)
  rw [e]
  refine h.trans ?_
  rw [pay_apply, rblk_apply]
  unfold entry
  have er : ∀ p, (⟨1024 * ((r.val / 1024 + 16 * (q.val / 1024)) % 16) + r.val % 1024, p⟩ : Fin 16384) = r := fun _ => Fin.ext (by dsimp only; omega)
  have eq' : ∀ p, (⟨1024 * ((r.val / 1024 + 16 * (q.val / 1024)) / 16) + q.val % 1024, p⟩ : Fin 2048) = q := fun _ => Fin.ext (by dsimp only; omega)
  refine congrArg₂ (· + · : EReal → EReal → EReal) ?_ (Finset.sum_congr (M := EReal) rfl fun k _ => congrArg₂ (· * · : EReal → EReal → EReal) ?_ ?_)
  · dsimp only; rw [er, eq']
  · rw [xblk_apply]; dsimp only; rw [er]
  · rw [wblk_apply, V_w, half_apply, drop_apply]; dsimp only; rw [eq']

end Cert.OutProjIdeal.Product

namespace Cert.OutProjRefIdeal.Product

open Cert.OutProjRefIdeal Cert.OutProjRefIdeal.Gen Idealize.ShloMosaic

/-- The reference's result at row `r` and column `q`. -/
theorem ref_apply (x : Vec Ideal S16384x2048 .bf16) (w : Vec Ideal S1x2048x2048 .f32) (s : Vec Ideal S16384x2048 .f32) (r : Fin 16384) (q : Fin 2048) :
    addf s (Host.dotGeneral (F := Ideal) (φ₁ := .f32) (φ₂ := .f32) dot_S16384x2048_S2048x2048_S16384x2048_1_0_0_1_n_n none (extf .f32 x bitsLt_bf16_f32)
      (shapeCast S2048x2048 w shapeCasts_S1x2048x2048_S2048x2048)) (ix2 r q) = OutProjIdeal.Product.entry x w s r q := by
  generalize hw : shapeCast S2048x2048 w shapeCasts_S1x2048x2048_S2048x2048 = w'
  pointwise
  unfold OutProjIdeal.Product.entry
  congr 1
  refine Finset.sum_congr rfl fun k _ => ?_
  rw [← hw, OutProjIdeal.Product.drop_apply]

end Cert.OutProjRefIdeal.Product

namespace Cert.OutProjIdeal.Product

open Idealize.ShloMosaic Idealize.SL.Sem Cert.OutProjIdeal.Gen

/-- The kernel and the reference leave the same array. -/
theorem algebraic : Cert.algebraic_OutProjIdeal_OutProjRefIdeal := by
  intro m g m' g' _ hargs
  refine ⟨fun c => (dats m 0 c).arrAt 3 cfg0.N, Value.run_blocks m g, ?_⟩
  refine (θ_run Cert.OutProjRefIdeal.defs _ _).mono (fun r h c => ?_) (Cert.OutProjRefIdeal.Value.run m' g')
  obtain ⟨h0, h1⟩ := h c
  refine ⟨h0.trans ?_, h1⟩
  obtain ⟨e0, e1, e2⟩ := hargs c
  rw [e0, e1, e2]
  funext i
  rw [eq_ix2 i]
  exact (OutProjRefIdeal.Product.ref_apply _ _ _ _ _).trans (result_apply m c _ _).symm

end Cert.OutProjIdeal.Product

end
-- ==== Proof.Rglru.RefStages.lean ====
/- The reference's stages as functions of its arrays: the padded rows, the convolution, a gate, the sigmoid, the softplus,
   the decay, the added term, one step of the recurrence, and the gated result. -/
module

public import proofs.«01_k».proof.Proof.Gen.RglruRefIdeal
public import Idealize.ShloMosaic.PureOps.Ideal

@[expose] public section

noncomputable section

namespace Cert.RglruRefIdeal.Recur

open Cert.RglruRefIdeal Cert.RglruRefIdeal.Gen Idealize.ShloMosaic Idealize.ShloMosaic.TcCoe Idealize.SL.Sem

variable {F : FTy → Type} [FloatOps F]

/-- The recurrent half of the rows, and the gate's half. -/
def rowsX (p : Vec F S16384x4096 .f32) : Vec F S8x2048x2048 .f32 :=
  extractStridedSlice S8x2048x2048 ![0, 0, 0] (shapeCast S8x2048x4096 p shapeCasts_S16384x4096_S8x2048x4096) slices_S8x2048x4096_S8x2048x2048_0_0_0
def rowsG (p : Vec F S16384x4096 .f32) : Vec F S8x2048x2048 .f32 :=
  extractStridedSlice S8x2048x2048 ![0, 0, 2048] (shapeCast S8x2048x4096 p shapeCasts_S16384x4096_S8x2048x4096) slices_S8x2048x4096_S8x2048x2048_0_0_2048

/-- Three rows of zeros before the first. -/
def padded (x : Vec F S8x2048x2048 .f32) : Vec F S8x2051x2048 .f32 :=
  pad S8x2051x2048 ![0, 3, 0] ![0, 0, 0] ![0, 0, 0] x (sitofp .f32 (constantI S_ 32 0#32)) pads_S8x2048x2048_S8x2051x2048_000_300_000 h_S_

/-- A vector over the channels, at every row. -/
def spread (v : Vec F S2048 .f32) : Vec F S8x2048x2048 .f32 :=
  broadcastInDim S8x2048x2048 ![0, 1, 2] bcast_S1x1x2048_S8x2048x2048_0_1_2 (broadcastInDim S1x1x2048 ![2] bcast_S2048_S1x1x2048_2 v)

def tap0 (w : Vec F S4x2048 .f32) : Vec F S2048 .f32 := shapeCast S2048 (extractStridedSlice S1x2048 ![0, 0] w slices_S4x2048_S1x2048_0_0) shapeCasts_S1x2048_S2048
def tap1 (w : Vec F S4x2048 .f32) : Vec F S2048 .f32 := shapeCast S2048 (extractStridedSlice S1x2048 ![1, 0] w slices_S4x2048_S1x2048_1_0) shapeCasts_S1x2048_S2048
def tap2 (w : Vec F S4x2048 .f32) : Vec F S2048 .f32 := shapeCast S2048 (extractStridedSlice S1x2048 ![2, 0] w slices_S4x2048_S1x2048_2_0) shapeCasts_S1x2048_S2048
def tap3 (w : Vec F S4x2048 .f32) : Vec F S2048 .f32 := shapeCast S2048 (extractStridedSlice S1x2048 ![3, 0] w slices_S4x2048_S1x2048_3_0) shapeCasts_S1x2048_S2048

def convOf (p : Vec F S8x2051x2048 .f32) (w0 w1 w2 w3 cb : Vec F S2048 .f32) : Vec F S8x2048x2048 .f32 :=
  addf (addf (addf (addf (spread cb)
    (mulf (extractStridedSlice S8x2048x2048 ![0, 0, 0] p slices_S8x2051x2048_S8x2048x2048_0_0_0) (spread w0)))
    (mulf (extractStridedSlice S8x2048x2048 ![0, 1, 0] p slices_S8x2051x2048_S8x2048x2048_0_1_0) (spread w1)))
    (mulf (extractStridedSlice S8x2048x2048 ![0, 2, 0] p slices_S8x2051x2048_S8x2048x2048_0_2_0) (spread w2)))
    (mulf (extractStridedSlice S8x2048x2048 ![0, 3, 0] p slices_S8x2051x2048_S8x2048x2048_0_3_0) (spread w3))

def dotOf (w : Vec F S16x128x128 .f32) (xc : Vec F S8x2048x2048 .f32) : Vec F S16x128x8x2048 .f32 :=
  Host.dotGeneral (F := F) (φ₁ := .f32) (φ₂ := .f32) dot_S16x128x128_S8x2048x16x128_S16x128x8x2048_1_3_2_01_0_2 none w (shapeCast S8x2048x16x128 xc shapeCasts_S8x2048x2048_S8x2048x16x128)

def gateOf (w : Vec F S16x128x128 .f32) (b : Vec F S2048 .f32) (xc : Vec F S8x2048x2048 .f32) : Vec F S8x2048x2048 .f32 :=
  addf (shapeCast S8x2048x2048 (transpose S8x2048x16x128 [2, 3, 0, 1] (dotOf w xc) transposes_S16x128x8x2048_S8x2048x16x128_2_3_0_1) shapeCasts_S8x2048x16x128_S8x2048x2048) (spread b)

def every (b : BitVec 32) : Vec F S8x2048x2048 .f32 := broadcastInDim S8x2048x2048 ![] bcast_S_S8x2048x2048 (constant (F := F) S_ .f32 b)

def sigm (z : Vec F S8x2048x2048 .f32) : Vec F S8x2048x2048 .f32 := Host.divf (every 0x3F800000#32) (addf (every 0x3F800000#32) (Host.exp (Host.negf z)))

def zeros : Vec F S2048 .f32 := broadcastInDim S2048 ![] bcast_S_S2048 (constant (F := F) S_ .f32 0x00000000#32)

def softOf (z : Vec F S2048 .f32) : Vec F S2048 .f32 :=
  select (cmpf .une (subf z zeros) (subf z zeros)) (addf z zeros) (addf (maximumf z zeros) (Host.log1p (Host.exp (Host.negf (Host.absf (subf z zeros))))))

/-- The logarithm of the decay, from the gate times `-8` and the softplus. -/
def logOf (e : Vec F S8x2048x2048 .f32) (s : Vec F S2048 .f32) : Vec F S8x2048x2048 .f32 := mulf e (spread s)

def addOf (l i xc : Vec F S8x2048x2048 .f32) : Vec F S8x2048x2048 .f32 :=
  mulf (Host.sqrt (Host.negf (Host.expm1 (mulf (every 0x40000000#32) l)))) (mulf i xc)

/-- The row axis first. -/
def rowsFirst (x : Vec F S8x2048x2048 .f32) : Vec F S2048x8x2048 .f32 := transpose S2048x8x2048 [1, 0, 2] x transposes_S8x2048x2048_S2048x8x2048_1_0_2

def resultOf (h : Vec F S2048x8x2048 .f32) (g : Vec F S8x2048x2048 .f32) : Vec F S8x2048x2048 .bf16 :=
  truncf .bf16 (mulf (transpose S8x2048x2048 [1, 0, 2] h transposes_S2048x8x2048_S8x2048x2048_1_0_2)
    (mulf g (mulf (every 0x3F000000#32) (addf (every 0x3F800000#32) (Host.tanh (mulf (every 0x3F4C422A#32)
      (addf g (mulf (every 0x3D372713#32) (mulf (mulf g g) g))))))))) bitsLt_bf16_f32

/-- Row `k` of an array with the rows first. -/
def rowAt (x : Vec F S2048x8x2048 .f32) (k : BitVec 32) : Vec F S8x2048 .f32 :=
  shapeCast S8x2048 (Host.dynamicSlice S1x8x2048 x (fun a => (((![fun _ => k, constantI S_ 32 0#32, constantI S_ 32 0#32] : Fin 3 → (⟨S_, .i32⟩ : BufTy).Contents (Elt F))) a (Shape.Idx.first h_S_)).toInt) sliceFits_S2048x8x2048_S1x8x2048) shapeCasts_S1x8x2048_S8x2048

def putRow (x : Vec F S2048x8x2048 .f32) (k : BitVec 32) (v : Vec F S8x2048 .f32) : Vec F S2048x8x2048 .f32 :=
  Host.dynamicUpdateSlice x (broadcastInDim S1x8x2048 ![1, 2] bcast_S8x2048_S1x8x2048_1_2 v) (fun a => (((![fun _ => k, constantI S_ 32 0#32, constantI S_ 32 0#32] : Fin 3 → (⟨S_, .i32⟩ : BufTy).Contents (Elt F))) a (Shape.Idx.first h_S_)).toInt) updateFits_S2048x8x2048_S1x8x2048

end Cert.RglruRefIdeal.Recur

end
-- ==== Proof.Rglru.Affine.lean ====
/- The recurrence `h (t+1) = a h t + u` as a sequence, and the doubling steps that compute eight of its terms at once. -/
module

public import Mathlib.Data.EReal.Inv
public import Mathlib.Tactic.IntervalCases

@[expose] public section

noncomputable section

namespace Cert.RglruIdeal.Recur

/-- The sequence whose term `n` is `a n` times the term before plus `u n`; `c` stands before the first term. -/
def scan (a u : ℕ → EReal) (c : EReal) : ℕ → EReal
  | 0 => a 0 * c + u 0
  | n + 1 => a (n + 1) * scan a u c n + u (n + 1)

/-- The sequence from term `n + 1` on is the sequence of the later coefficients started at term `n`. -/
theorem scan_shift (a u : ℕ → EReal) (c : EReal) (n m : ℕ) :
    scan a u c (n + 1 + m) = scan (fun i => a (n + 1 + i)) (fun i => u (n + 1 + i)) (scan a u c n) m := by
  induction m with
  | zero => rfl
  | succ m ih =>
    show a (n + 1 + m + 1) * scan a u c (n + 1 + m) + u (n + 1 + m + 1) = _
    rw [ih]
    rfl

/-- Only the coefficients up to the term matter. -/
theorem scan_congr {a a' u u' : ℕ → EReal} {c c' : EReal} (hc : c = c') (n : ℕ) (ha : ∀ i, i ≤ n → a i = a' i)
    (hu : ∀ i, i ≤ n → u i = u' i) : scan a u c n = scan a' u' c' n := by
  subst hc
  induction n with
  | zero => simp only [scan, ha 0 le_rfl, hu 0 le_rfl]
  | succ n ih =>
    simp only [scan, ha (n + 1) le_rfl, hu (n + 1) le_rfl,
      ih (fun i hi => ha i (by omega)) (fun i hi => hu i (by omega))]

/-- One doubling step on the added terms: row `r` takes the row `d` before it, or 0. -/
def dblU (d : ℕ) (a u : ℕ → EReal) (r : ℕ) : EReal := a r * (if d ≤ r then u (r - d) else 0) + u r

/-- One doubling step on the factors: row `r` takes the row `d` before it, or 1. -/
def dblA (d : ℕ) (a : ℕ → EReal) (r : ℕ) : EReal := a r * (if d ≤ r then a (r - d) else 1)

/-- Factors that are nonnegative reals. -/
def Fin0 (a : ℕ → EReal) : Prop := ∀ r, r < 8 → ∃ α : ℝ, 0 ≤ α ∧ a r = α

theorem dblA_fin0 {d : ℕ} {a : ℕ → EReal} (h : Fin0 a) : Fin0 (dblA d a) := by
  intro r hr
  obtain ⟨α, h0, hα⟩ := h r hr
  by_cases hd : d ≤ r
  · obtain ⟨β, h1, hβ⟩ := h (r - d) (by omega)
    exact ⟨α * β, mul_nonneg h0 h1, by rw [dblA, if_pos hd, hα, hβ, EReal.coe_mul]⟩
  · exact ⟨α, h0, by rw [dblA, if_neg hd, hα, mul_one]⟩

/-- A doubling step composes the row's map with the map `d` rows before, where there is one. -/
theorem dbl_act {d : ℕ} {a u : ℕ → EReal} (h : Fin0 a) (r : ℕ) (hr : r < 8) (c : EReal) :
    dblA d a r * c + dblU d a u r = a r * (if d ≤ r then a (r - d) * c + u (r - d) else c) + u r := by
  obtain ⟨α, h0, hα⟩ := h r hr
  have h0' : (0 : EReal) ≤ (α : EReal) := by exact_mod_cast h0
  rw [dblA, dblU, hα]
  by_cases hd : d ≤ r
  · rw [if_pos hd, if_pos hd, if_pos hd, EReal.left_distrib_of_nonneg_of_ne_top h0' (EReal.coe_ne_top _), ← add_assoc, mul_assoc]
  · rw [if_neg hd, if_neg hd, if_neg hd, mul_one, mul_zero, zero_add]

/-- After the three steps a row's map is the recurrence from the row before the first. -/
theorem dbl_scan {a u : ℕ → EReal} (h : Fin0 a) (c : EReal) (r : ℕ) (hr : r < 8) :
    dblU 4 (dblA 2 (dblA 1 a)) (dblU 2 (dblA 1 a) (dblU 1 a u)) r
        + dblA 4 (dblA 2 (dblA 1 a)) r * c
      = scan a u c r := by
  have h1 := dblA_fin0 (d := 1) h
  have h2 := dblA_fin0 (d := 2) h1
  rw [add_comm, dbl_act h2 r hr c]
  have e2 : ∀ s, s < 8 → ∀ e, dblA 2 (dblA 1 a) s * e + dblU 2 (dblA 1 a) (dblU 1 a u) s
      = dblA 1 a s * (if 2 ≤ s then dblA 1 a (s - 2) * e + dblU 1 a u (s - 2) else e) + dblU 1 a u s :=
    fun s hs e => dbl_act h1 s hs e
  have e1 : ∀ s, s < 8 → ∀ e, dblA 1 a s * e + dblU 1 a u s
      = a s * (if 1 ≤ s then a (s - 1) * e + u (s - 1) else e) + u s :=
    fun s hs e => dbl_act h s hs e
  interval_cases r <;> simp [e2, e1, scan]

end Cert.RglruIdeal.Recur

end
-- ==== Proof.Rglru.Scalars.lean ====
/- The recurrence's gates on one element: the kernel's decay, input scale and gelu, written with `tanh` and `exp2`, are
   the reference's, written with the sigmoid, `exp` and `expm1`; at every extended real. -/
module

public import proofs.«01_k».proof.Proof.Scalars
public import Mathlib.Analysis.SpecialFunctions.Pow.Real

@[expose] public section

noncomputable section

namespace Cert.RglruIdeal.Recur

open Idealize.ShloMosaic

theorem four_f32 : Ideal.ofBits .f32 0x40800000#32 = ((4 : ℝ) : EReal) := by
  simp [Ideal.ofBits, Ideal.ieee, -EReal.coe_mul]
  norm_num

theorem two_f32 : Ideal.ofBits .f32 0x40000000#32 = ((2 : ℝ) : EReal) := by
  simp [Ideal.ofBits, Ideal.ieee, -EReal.coe_mul]
  norm_num

theorem one_f32 : Ideal.ofBits .f32 0x3F800000#32 = ((1 : ℝ) : EReal) := by
  simp [Ideal.ofBits, Ideal.ieee, -EReal.coe_mul]
  norm_num

theorem negEight_f32 : Ideal.ofBits .f32 0xC1000000#32 = ((-8 : ℝ) : EReal) := by
  simp [Ideal.ofBits, Ideal.ieee, -EReal.coe_mul]
  norm_num

theorem c1_f32 : Ideal.ofBits .f32 0x3F4C422A#32 = ((13386282 / 16777216 : ℝ) : EReal) := by
  simp [Ideal.ofBits, Ideal.ieee, -EReal.coe_mul]
  norm_num

theorem c3_f32 : Ideal.ofBits .f32 0x3D372713#32 = ((12003091 / 268435456 : ℝ) : EReal) := by
  simp [Ideal.ofBits, Ideal.ieee, -EReal.coe_mul]
  norm_num

/-- The softplus of `-x`, as the kernel writes it. -/
def softplusNeg (x : EReal) : EReal := max (-x) 0 + Ideal.log1p (Ideal.exp (-(max (-x) (-(-x)))))

theorem exp_nonneg (x : EReal) : 0 ≤ Ideal.exp x := by
  induction x with
  | bot => simp
  | top => simp
  | coe r => rw [Ideal.exp_coe]; exact_mod_cast (Real.exp_pos r).le

theorem log1p_nonneg {x : EReal} (h : 0 ≤ x) : 0 ≤ Ideal.log1p x := by
  induction x with
  | bot => simp at h
  | top =>
    rw [Ideal.log1p, EReal.add_top_of_ne_bot (show (1 : EReal) ≠ ⊥ from EReal.coe_ne_bot 1)]
    simp
  | coe r =>
    have hr : 0 ≤ r := by exact_mod_cast h
    rw [Ideal.log1p, ← EReal.coe_one, ← EReal.coe_add, Ideal.log_coe, if_neg (by linarith)]
    exact_mod_cast Real.log_nonneg (by linarith)

theorem softplusNeg_nonneg (x : EReal) : 0 ≤ softplusNeg x :=
  add_nonneg (le_max_right _ _) (log1p_nonneg (exp_nonneg _))

/-- The sigmoid is a real between 0 and 1. -/
theorem logistic_real (x : EReal) : ∃ ρ : ℝ, 0 ≤ ρ ∧ ρ ≤ 1 ∧ Ideal.logistic x = ρ := by
  induction x with
  | bot => exact ⟨0, le_rfl, zero_le_one, by simp⟩
  | top => exact ⟨1, zero_le_one, le_rfl, by simp⟩
  | coe r =>
    refine ⟨(1 + Real.exp (-r))⁻¹, by positivity, ?_, Ideal.logistic_coe _⟩
    exact inv_le_one_of_one_le₀ (by linarith [Real.exp_pos (-r)])

/-- `tanh` of anything is a real. -/
theorem tanh_real (x : EReal) : ∃ τ : ℝ, Ideal.tanh x = τ := by
  induction x with
  | bot => exact ⟨-1, by simp⟩
  | top => exact ⟨1, by simp⟩
  | coe r => exact ⟨_, Ideal.tanh_coe _⟩

/-- `tanh (z / 2) + 1` is twice the sigmoid of `z`. -/
theorem tanh_half_add_one (z : EReal) :
    Ideal.tanh (Ideal.ofBits .f32 0x3F000000#32 * z) + Ideal.ofBits .f32 0x3F800000#32
      = ((2 : ℝ) : EReal) * Ideal.logistic z := by
  rw [← Scalars.sigmoid z, Scalars.half_f32, one_f32]
  obtain ⟨τ, h⟩ := tanh_real (((1 / 2 : ℝ) : EReal) * z)
  rw [h, ← EReal.coe_one, ← EReal.coe_add, ← EReal.coe_mul, ← EReal.coe_mul]
  congr 1; ring

/-- The kernel's input gate is the sigmoid. -/
theorem half_tanh_half (z : EReal) :
    Ideal.ofBits .f32 0x3F000000#32 * Ideal.tanh (Ideal.ofBits .f32 0x3F000000#32 * z) + Ideal.ofBits .f32 0x3F000000#32
      = Ideal.logistic z := by
  rw [← Scalars.sigmoid z, Scalars.half_f32]
  obtain ⟨τ, h⟩ := tanh_real (((1 / 2 : ℝ) : EReal) * z)
  rw [h, ← EReal.coe_one, ← EReal.coe_add, ← EReal.coe_mul, ← EReal.coe_mul, ← EReal.coe_add]
  congr 1; ring

/-- The rate the decay is the exponential of, as the kernel has it: `8 r softplus`, which is not negative. -/
def rate (z lam : EReal) : EReal :=
  (Ideal.tanh (Ideal.ofBits .f32 0x3F000000#32 * z) + Ideal.ofBits .f32 0x3F800000#32)
    * (Ideal.ofBits .f32 0x40800000#32 * softplusNeg lam)

theorem rate_nonneg (z lam : EReal) : 0 ≤ rate z lam := by
  obtain ⟨ρ, h0, -, h⟩ := logistic_real z
  rw [rate, tanh_half_add_one, h, ← EReal.coe_mul, four_f32]
  exact mul_nonneg (by exact_mod_cast (by positivity : (0 : ℝ) ≤ 2 * ρ))
    (mul_nonneg (by exact_mod_cast (by norm_num : (0 : ℝ) ≤ 4)) (softplusNeg_nonneg _))

/-- The reference's logarithm of the decay is the negated rate. -/
theorem neg_rate (z lam : EReal) :
    (Ideal.ofBits .f32 0xC1000000#32 * Ideal.logistic z) * softplusNeg lam = -rate z lam := by
  obtain ⟨ρ, h0, -, h⟩ := logistic_real z
  rw [rate, tanh_half_add_one, h, negEight_f32, four_f32, ← EReal.coe_mul, ← EReal.coe_mul, ← mul_assoc, ← EReal.coe_mul,
    ← EReal.neg_mul, ← EReal.coe_neg]
  congr 2; ring

/-- The kernel's decay, a power of two, is the exponential of the negated rate. -/
theorem exp2_rate {n : EReal} (h : 0 ≤ n) : Ideal.exp2 (n * ((-((Real.log 2)⁻¹) : ℝ) : EReal)) = Ideal.exp (-n) := by
  have hl : 0 < Real.log 2 := Real.log_pos (by norm_num)
  induction n with
  | bot => simp at h
  | top =>
    rw [EReal.top_mul_coe_of_neg (by rw [neg_lt_zero]; positivity), EReal.neg_top]
    simp
  | coe r =>
    rw [← EReal.coe_mul, Ideal.exp2_coe, ← EReal.coe_neg, Ideal.exp_coe]
    congr 1
    show (2 : ℝ) ^ (r * -(Real.log 2)⁻¹) = _
    rw [Real.rpow_def_of_pos (by norm_num)]
    congr 1
    field_simp

/-- The decay is a real between 0 and 1. -/
theorem exp_neg_real {n : EReal} (h : 0 ≤ n) : ∃ α : ℝ, 0 ≤ α ∧ Ideal.exp (-n) = α := by
  induction n with
  | bot => simp at h
  | top => exact ⟨0, le_rfl, by simp⟩
  | coe r => exact ⟨_, (Real.exp_pos (-r)).le, by rw [← EReal.coe_neg, Ideal.exp_coe]⟩

theorem tanh_mul_exp (r : ℝ) : Real.tanh r * (Real.exp (-r) * Real.exp (-r) + 1) = 1 - Real.exp (2 * -r) := by
  rw [Real.tanh_eq_sinh_div_cosh, Real.sinh_eq, Real.cosh_eq]
  have h1 : Real.exp (2 * -r) = Real.exp (-r) * Real.exp (-r) := by rw [← Real.exp_add]; congr 1; ring
  have h2 : Real.exp r * Real.exp (-r) = 1 := by rw [← Real.exp_add]; simp
  rw [h1]
  have p := Real.exp_pos r
  have q := Real.exp_pos (-r)
  generalize Real.exp r = a at *
  generalize Real.exp (-r) = b at *
  have : a + b ≠ 0 := by positivity
  field_simp
  linear_combination (2 * b : ℝ) * h2

/-- The kernel's scale of the input, `m · rsqrt m` of `m = tanh n · (a² + 1)` where that is positive, is the reference's
    `sqrt (-expm1 (-2 n))`. -/
theorem scale_eq {n : EReal} (h : 0 ≤ n) :
    (if 0 < Ideal.tanh n * (Ideal.exp (-n) * Ideal.exp (-n) + Ideal.ofBits .f32 0x3F800000#32)
      then (Ideal.tanh n * (Ideal.exp (-n) * Ideal.exp (-n) + Ideal.ofBits .f32 0x3F800000#32))
        * Ideal.rsqrt (Ideal.tanh n * (Ideal.exp (-n) * Ideal.exp (-n) + Ideal.ofBits .f32 0x3F800000#32))
      else 0)
      = Ideal.sqrt (-(Ideal.exp (Ideal.ofBits .f32 0x40000000#32 * -n) - 1)) := by
  have key : ∃ μ : ℝ, 0 ≤ μ ∧ Ideal.tanh n * (Ideal.exp (-n) * Ideal.exp (-n) + Ideal.ofBits .f32 0x3F800000#32) = μ
      ∧ -(Ideal.exp (Ideal.ofBits .f32 0x40000000#32 * -n) - 1) = μ := by
    rw [one_f32, two_f32]
    induction n with
    | bot => simp at h
    | top =>
      refine ⟨1, zero_le_one, by simp, ?_⟩
      rw [EReal.neg_top, EReal.coe_mul_bot_of_pos (by norm_num), Ideal.exp_bot]
      simp
    | coe r =>
      have hr : 0 ≤ r := by exact_mod_cast h
      refine ⟨1 - Real.exp (2 * -r), ?_, ?_, ?_⟩
      · have := Real.exp_le_one_iff.mpr (by linarith : 2 * -r ≤ 0)
        linarith
      · rw [Ideal.tanh_coe, ← EReal.coe_neg, Ideal.exp_coe, ← EReal.coe_mul, ← EReal.coe_add, ← EReal.coe_mul, tanh_mul_exp]
      · rw [← EReal.coe_neg, ← EReal.coe_mul, Ideal.exp_coe, ← EReal.coe_one, ← EReal.coe_sub, ← EReal.coe_neg]
        congr 1; ring
  obtain ⟨μ, h0, h1, h2⟩ := key
  rw [h1, h2, Ideal.sqrt_coe, if_neg (not_lt.mpr h0), Ideal.rsqrt_coe, if_neg (not_lt.mpr h0)]
  rcases h0.eq_or_lt with rfl | hp
  · simp
  · rw [if_pos (by exact_mod_cast hp), if_neg hp.ne', ← EReal.coe_mul]
    congr 1
    have := Real.sqrt_pos.mpr hp
    field_simp
    exact (Real.sq_sqrt h0).symm

/-- The cubic in gelu: `x (c₁ + c₂ x²)` with `c₂ = c₁ c₃` is `c₁ (x + c₃ x³)`. -/
theorem cubic (x : EReal) :
    x * (Ideal.ofBits .f32 0x3F4C422A#32 + ((80338380498831 / 2251799813685248 : ℝ) : EReal) * (x * x))
      = Ideal.ofBits .f32 0x3F4C422A#32 * (x + Ideal.ofBits .f32 0x3D372713#32 * ((x * x) * x)) := by
  rw [c1_f32, c3_f32]
  induction x with
  | bot =>
    rw [EReal.bot_mul_bot, EReal.coe_mul_top_of_pos (by norm_num), EReal.coe_add_top, EReal.bot_mul_top, EReal.top_mul_bot,
      EReal.coe_mul_bot_of_pos (by norm_num), EReal.bot_add, EReal.coe_mul_bot_of_pos (by norm_num)]
  | top =>
    rw [EReal.top_mul_top, EReal.coe_mul_top_of_pos (by norm_num), EReal.coe_add_top, EReal.top_mul_top,
      EReal.coe_mul_top_of_pos (by norm_num), EReal.top_add_top, EReal.coe_mul_top_of_pos (by norm_num)]
  | coe r =>
    simp only [← EReal.coe_mul, ← EReal.coe_add]
    congr 1; ring

/-- The kernel's product with gelu is the reference's. -/
theorem gelu_mul (h x : EReal) :
    (h * (Ideal.ofBits .f32 0x3F000000#32 * x))
        * (Ideal.ofBits .f32 0x3F800000#32 + Ideal.tanh (x * (Ideal.ofBits .f32 0x3F4C422A#32
            + ((80338380498831 / 2251799813685248 : ℝ) : EReal) * (x * x))))
      = h * (x * (Ideal.ofBits .f32 0x3F000000#32 * (Ideal.ofBits .f32 0x3F800000#32
          + Ideal.tanh (Ideal.ofBits .f32 0x3F4C422A#32 * (x + Ideal.ofBits .f32 0x3D372713#32 * ((x * x) * x)))))) := by
  rw [cubic]
  ac_rfl

/-- Halving each factor of a sum of products halves the sum. -/
theorem half_sum {ι : Type} (s : Finset ι) (f g : ι → EReal) :
    ∑ i ∈ s, f i * (Ideal.ofBits .f32 0x3F000000#32 * g i)
      = Ideal.ofBits .f32 0x3F000000#32 * ∑ i ∈ s, f i * g i := by
  rw [Scalars.half_f32]
  classical
  induction s using Finset.induction_on with
  | empty => simp
  | insert a s ha ih =>
    rw [Finset.sum_insert ha, Finset.sum_insert ha, ih,
      EReal.left_distrib_of_nonneg_of_ne_top (by exact_mod_cast (by norm_num : (0 : ℝ) ≤ 1 / 2)) (EReal.coe_ne_top _)]
    congr 1
    ac_rfl

theorem half_add (x y : EReal) :
    Ideal.ofBits .f32 0x3F000000#32 * x + Ideal.ofBits .f32 0x3F000000#32 * y
      = Ideal.ofBits .f32 0x3F000000#32 * (x + y) := by
  rw [Scalars.half_f32, EReal.left_distrib_of_nonneg_of_ne_top (by exact_mod_cast (by norm_num : (0 : ℝ) ≤ 1 / 2))
    (EReal.coe_ne_top _)]

end Cert.RglruIdeal.Recur

end
-- ==== Proof.Rglru.Spec.lean ====
/- The layer as mathematics: one batch's convolution, gates, decay, added term and state, by row and channel. -/
module

public import proofs.«01_k».proof.Proof.Rglru.Affine
public import proofs.«01_k».proof.Proof.Rglru.Scalars

@[expose] public section

noncomputable section

namespace Cert.RglruIdeal.Recur

open Idealize.ShloMosaic

/-- One batch's rows and the layer's parameters. -/
structure Net where
  x : ℕ → Fin 2048 → EReal
  cw : Fin 4 → Fin 2048 → EReal
  cb : Fin 2048 → EReal
  ba : Fin 2048 → EReal
  bx : Fin 2048 → EReal
  lam : Fin 2048 → EReal
  wa : Fin 16 → Fin 128 → Fin 128 → EReal
  wx : Fin 16 → Fin 128 → Fin 128 → EReal

namespace Net

variable (N : Net)

/-- The row `d` before row `t`, or zeros. -/
def ago (d t : ℕ) (h : Fin 2048) : EReal := if d ≤ t then N.x (t - d) h else 0

/-- The causal convolution. -/
def conv (t : ℕ) (h : Fin 2048) : EReal :=
  (((N.cb h + N.ago 3 t h * N.cw 0 h) + N.ago 2 t h * N.cw 1 h) + N.ago 1 t h * N.cw 2 h) + N.x t h * N.cw 3 h

/-- The channel `c` of the block of 128 that holds `h`. -/
def mate (h : Fin 2048) (c : Fin 128) : Fin 2048 := ⟨128 * (h.val / 128) + c.val, by have := h.isLt; have := c.isLt; omega⟩

/-- A gate before its sigmoid. -/
def pre (w : Fin 16 → Fin 128 → Fin 128 → EReal) (b : Fin 2048 → EReal) (t : ℕ) (h : Fin 2048) : EReal :=
  ∑ c : Fin 128, N.conv t (mate h c) * w ⟨h.val / 128, by have := h.isLt; omega⟩ c ⟨h.val % 128, Nat.mod_lt _ (by decide)⟩ + b h

/-- The negated logarithm of the decay. -/
def loss (t : ℕ) (h : Fin 2048) : EReal := rate (N.pre N.wa N.ba t h) (N.lam h)

/-- The decay. -/
def dec (h : Fin 2048) (t : ℕ) : EReal := Ideal.exp (-N.loss t h)

/-- What a row adds. -/
def add (h : Fin 2048) (t : ℕ) : EReal :=
  Ideal.sqrt (-(Ideal.exp (Ideal.ofBits .f32 0x40000000#32 * -N.loss t h) - 1)) * (Ideal.logistic (N.pre N.wx N.bx t h) * N.conv t h)

/-- The state after a row. -/
def state (h : Fin 2048) (t : ℕ) : EReal := scan (N.dec h) (N.add h) 0 t

theorem state_next (h : Fin 2048) (n m : ℕ) :
    scan (fun i => N.dec h (n + 1 + i)) (fun i => N.add h (n + 1 + i)) (N.state h n) m = N.state h (n + 1 + m) :=
  (scan_shift _ _ _ n m).symm

end Net

end Cert.RglruIdeal.Recur

end
-- ==== Proof.Rglru.Layer.lean ====
/- The arrays of the call as the layer's parameters and rows: how the argument arrays, as they are passed, hold one
   batch's rows, the convolution, the two gates and the decay's parameter; and the entry the call is to leave. -/
module

public import proofs.«01_k».proof.Defs
public import proofs.«01_k».proof.Proof.Rglru.Spec
public import Idealize.ShloMosaic.PureOps.Ideal
public import Idealize.ShloMosaic.Lib.Pipeline.Value
public import Idealize.ShloMosaic.Lib.Pointwise

@[expose] public section

noncomputable section

namespace Cert.RglruIdeal.Recur

open Cert.RglruIdeal Idealize.ShloMosaic

/-- Batch `b` of the call's arrays. -/
def layer (pf : S16384x4096.Idx → EReal) (cw : S1x4x2048.Idx → EReal) (cb : S1x2048.Idx → EReal) (wa : S1x16x128x128.Idx → EReal)
    (ba : S1x2048.Idx → EReal) (wx : S1x16x128x128.Idx → EReal) (bx lam : S1x2048.Idx → EReal) (b : Fin 8) : Net where
  x t h := pf (ix2 ⟨(2048 * b.val + t) % 16384, Nat.mod_lt _ (by decide)⟩ ⟨h.val, by have := h.isLt; omega⟩)
  cw n h := cw (ix3 (0 : Fin 1) n h)
  cb h := cb (ix2 (0 : Fin 1) h)
  ba h := ba (ix2 (0 : Fin 1) h)
  bx h := bx (ix2 (0 : Fin 1) h)
  lam h := lam (ix2 (0 : Fin 1) h)
  wa n c d := wa (ix4 (0 : Fin 1) n c d)
  wx n c d := wx (ix4 (0 : Fin 1) n c d)

/-- The gate's input at batch `b`, row `t`, channel `h`. -/
def gateAt (pf : S16384x4096.Idx → EReal) (b : Fin 8) (t h : Fin 2048) : EReal :=
  pf (ix2 ⟨2048 * b.val + t.val, by have := b.isLt; have := t.isLt; omega⟩ ⟨2048 + h.val, by have := h.isLt; omega⟩)

/-- The state times the gate's tanh form of the Gaussian error unit. -/
def gated (s g : EReal) : EReal :=
  s * (g * (Ideal.ofBits .f32 0x3F000000#32 * (Ideal.ofBits .f32 0x3F800000#32
    + Ideal.tanh (Ideal.ofBits .f32 0x3F4C422A#32 * (g + Ideal.ofBits .f32 0x3D372713#32 * ((g * g) * g))))))

section
variable {α : Type}

theorem rows_apply (x : S16384x4096.Idx → α) (h : S16384x4096.ShapeCasts S8x2048x4096) (b : Fin 8) (t : Fin 2048) (l : Fin 4096) :
    shapeCast S8x2048x4096 x h (ix3 b t l) = x (ix2 ⟨2048 * b.val + t.val, by have := b.isLt; have := t.isLt; omega⟩ l) := by
  refine shapeCast_apply x h _ _ ?_
  rw [Shape.rowMajor_val_two, Shape.rowMajor_val_three]
  show (2048 * b.val + t.val) * 4096 + l.val = (b.val * 2048 + t.val) * 4096 + l.val
  omega

theorem taps_apply (x : S1x4x2048.Idx → α) (h : S1x4x2048.ShapeCasts S4x2048) (n : Fin 4) (l : Fin 2048) :
    shapeCast S4x2048 x h (ix2 n l) = x (ix3 (0 : Fin 1) n l) := by
  refine shapeCast_apply x h _ _ ?_
  rw [Shape.rowMajor_val_two, Shape.rowMajor_val_three]
  show (0 * 4 + n.val) * 2048 + l.val = n.val * 2048 + l.val
  omega

theorem flat_apply (x : S1x2048.Idx → α) (h : S1x2048.ShapeCasts S2048) (l : Fin 2048) :
    shapeCast S2048 x h (ix1 l) = x (ix2 (0 : Fin 1) l) := by
  refine shapeCast_apply x h _ _ ?_
  rw [Shape.rowMajor_val_two, Shape.rowMajor_val_one]
  show 0 * 2048 + l.val = l.val
  omega

theorem unflat_apply (x : S2048.Idx → α) (h : S2048.ShapeCasts S1x2048) (l : Fin 2048) :
    shapeCast S1x2048 x h (ix2 (0 : Fin 1) l) = x (ix1 l) := by
  refine shapeCast_apply x h _ _ ?_
  rw [Shape.rowMajor_val_two, Shape.rowMajor_val_one]
  show l.val = 0 * 2048 + l.val
  omega

theorem blocks_apply (x : S1x16x128x128.Idx → α) (h : S1x16x128x128.ShapeCasts S16x128x128) (n : Fin 16) (c d : Fin 128) :
    shapeCast S16x128x128 x h (ix3 n c d) = x (ix4 (0 : Fin 1) n c d) := by
  refine shapeCast_apply x h _ _ ?_
  rw [Shape.rowMajor_val_three, Shape.rowMajor_val_four]
  show ((0 * 16 + n.val) * 128 + c.val) * 128 + d.val = (n.val * 128 + c.val) * 128 + d.val
  omega
end

end Cert.RglruIdeal.Recur

end
-- ==== Proof.Rglru.RefValue.lean ====
/- The reference's stages at the extended reals, entry by entry, against the layer. -/
module

public import proofs.«01_k».proof.Proof.Rglru.RefStages
public import proofs.«01_k».proof.Proof.Rglru.Layer
public import Idealize.ShloMosaic.Lib.KernelVsHost
public import Idealize.ShloMosaic.Lib.Scf.Counter

@[expose] public section

noncomputable section

namespace Cert.RglruRefIdeal.Recur

open Cert.RglruRefIdeal Cert.RglruRefIdeal.Gen Idealize.ShloMosaic Idealize.ShloMosaic.TcCoe Idealize.SL.Sem
open Cert.RglruIdeal.Recur (Net rate softplusNeg scan gated)

theorem rowsX_apply (p : FVec Ideal S16384x4096 .f32) (b : Fin 8) (t h : Fin 2048) :
    rowsX (F := Ideal) p (ix3 b t h) = p (ix2 ⟨2048 * b.val + t.val, by have := b.isLt; have := t.isLt; omega⟩ ⟨h.val, by have := h.isLt; omega⟩) := by
  refine Eq.trans (b := shapeCast S8x2048x4096 p shapeCasts_S16384x4096_S8x2048x4096 (ix3 b t ⟨h.val, by have := h.isLt; omega⟩)) ?_ (Cert.RglruIdeal.Recur.rows_apply p _ b t _)
  unfold rowsX
  generalize shapeCast S8x2048x4096 p shapeCasts_S16384x4096_S8x2048x4096 = y
  pointwise

theorem rowsG_apply (p : FVec Ideal S16384x4096 .f32) (b : Fin 8) (t h : Fin 2048) :
    rowsG (F := Ideal) p (ix3 b t h) = Cert.RglruIdeal.Recur.gateAt p b t h := by
  refine Eq.trans (b := shapeCast S8x2048x4096 p shapeCasts_S16384x4096_S8x2048x4096 (ix3 b t ⟨2048 + h.val, by have := h.isLt; omega⟩)) ?_ (Cert.RglruIdeal.Recur.rows_apply p _ b t _)
  unfold rowsG
  generalize shapeCast S8x2048x4096 p shapeCasts_S16384x4096_S8x2048x4096 = y
  pointwise

theorem filler (i : S_.Idx) : (sitofp (F := Ideal) .f32 (constantI S_ 32 0#32) : FVec Ideal S_ .f32) i = 0 := by
  show (((0#32).toInt : ℝ) : EReal) = 0
  simp

theorem padded_apply (x : FVec Ideal S8x2048x2048 .f32) (b : Fin 8) (s : Fin 2051) (h : Fin 2048) :
    padded (F := Ideal) x (ix3 b s h) = if hs : 3 ≤ s.val then x (ix3 b ⟨s.val - 3, by have := s.isLt; omega⟩ h) else 0 := by
  unfold padded
  by_cases hs : 3 ≤ s.val
  · rw [dif_pos hs]
    refine pad_apply_of_inside _ _ _ x _ _ _ _ _ fun a => ?_
    match a with
    | ⟨0, _⟩ => show b.val = 0 + b.val * (0 + 1); omega
    | ⟨1, _⟩ => show s.val = 3 + (s.val - 3) * (0 + 1); omega
    | ⟨2, _⟩ => show h.val = 0 + h.val * (0 + 1); omega
  · rw [dif_neg hs]
    refine (pad_apply_of_not_inside _ _ _ x _ _ _ _ (1 : Fin 3) fun hc => hs hc.1).trans (filler _)

theorem spread_apply (v : FVec Ideal S2048 .f32) (b : Fin 8) (t h : Fin 2048) : spread (F := Ideal) v (ix3 b t h) = v (ix1 h) := by
  pointwise [spread]

theorem every_apply (k : BitVec 32) (b : Fin 8) (t h : Fin 2048) : every (F := Ideal) k (ix3 b t h) = Ideal.ofBits .f32 k := by
  pointwise [every]

theorem tap0_apply (w : FVec Ideal S4x2048 .f32) (h : Fin 2048) : tap0 (F := Ideal) w (ix1 h) = w (ix2 (0 : Fin 4) h) := by
  refine (Cert.RglruIdeal.Recur.flat_apply _ _ h).trans ?_
  pointwise
theorem tap1_apply (w : FVec Ideal S4x2048 .f32) (h : Fin 2048) : tap1 (F := Ideal) w (ix1 h) = w (ix2 (1 : Fin 4) h) := by
  refine (Cert.RglruIdeal.Recur.flat_apply _ _ h).trans ?_
  pointwise
theorem tap2_apply (w : FVec Ideal S4x2048 .f32) (h : Fin 2048) : tap2 (F := Ideal) w (ix1 h) = w (ix2 (2 : Fin 4) h) := by
  refine (Cert.RglruIdeal.Recur.flat_apply _ _ h).trans ?_
  pointwise
theorem tap3_apply (w : FVec Ideal S4x2048 .f32) (h : Fin 2048) : tap3 (F := Ideal) w (ix1 h) = w (ix2 (3 : Fin 4) h) := by
  refine (Cert.RglruIdeal.Recur.flat_apply _ _ h).trans ?_
  pointwise

theorem convOf_apply (p : FVec Ideal S8x2051x2048 .f32) (w0 w1 w2 w3 cb : FVec Ideal S2048 .f32) (b : Fin 8) (t h : Fin 2048) :
    convOf (F := Ideal) p w0 w1 w2 w3 cb (ix3 b t h)
      = (((cb (ix1 h) + p (ix3 b ⟨t.val, by have := t.isLt; omega⟩ h) * w0 (ix1 h)) + p (ix3 b ⟨1 + t.val, by have := t.isLt; omega⟩ h) * w1 (ix1 h))
        + p (ix3 b ⟨2 + t.val, by have := t.isLt; omega⟩ h) * w2 (ix1 h)) + p (ix3 b ⟨3 + t.val, by have := t.isLt; omega⟩ h) * w3 (ix1 h) := by
  rw [← spread_apply cb b t h, ← spread_apply w0 b t h, ← spread_apply w1 b t h, ← spread_apply w2 b t h, ← spread_apply w3 b t h]
  unfold convOf
  generalize spread (F := Ideal) cb = c'
  generalize spread (F := Ideal) w0 = y0
  generalize spread (F := Ideal) w1 = y1
  generalize spread (F := Ideal) w2 = y2
  generalize spread (F := Ideal) w3 = y3
  pointwise

theorem dot_apply (w : FVec Ideal S16x128x128 .f32) (y : FVec Ideal S8x2048x16x128 .f32) (n : Fin 16) (d : Fin 128) (b : Fin 8) (t : Fin 2048) :
    Host.dotGeneral (F := Ideal) (φ₁ := .f32) (φ₂ := .f32) dot_S16x128x128_S8x2048x16x128_S16x128x8x2048_1_3_2_01_0_2 none w y (ix4 n d b t)
      = ∑ k : Fin 128, w (ix3 n k d) * y (ix4 b t n k) := by
  pointwise

theorem split_apply (x : FVec Ideal S8x2048x2048 .f32) (b : Fin 8) (t : Fin 2048) (n : Fin 16) (k : Fin 128) :
    shapeCast S8x2048x16x128 x shapeCasts_S8x2048x2048_S8x2048x16x128 (ix4 b t n k) = x (ix3 b t ⟨128 * n.val + k.val, by have := n.isLt; have := k.isLt; omega⟩) := by
  refine shapeCast_apply x _ _ _ ?_
  rw [Shape.rowMajor_val_three, Shape.rowMajor_val_four]
  show (b.val * 2048 + t.val) * 2048 + (128 * n.val + k.val) = ((b.val * 2048 + t.val) * 16 + n.val) * 128 + k.val
  omega

theorem join_apply (x : FVec Ideal S8x2048x16x128 .f32) (b : Fin 8) (t h : Fin 2048) :
    shapeCast S8x2048x2048 x shapeCasts_S8x2048x16x128_S8x2048x2048 (ix3 b t h)
      = x (ix4 b t ⟨h.val / 128, by have := h.isLt; omega⟩ ⟨h.val % 128, Nat.mod_lt _ (by decide)⟩) := by
  refine shapeCast_apply x _ _ _ ?_
  rw [Shape.rowMajor_val_three, Shape.rowMajor_val_four]
  show ((b.val * 2048 + t.val) * 16 + h.val / 128) * 128 + h.val % 128 = (b.val * 2048 + t.val) * 2048 + h.val
  omega

theorem turn_apply (y : FVec Ideal S16x128x8x2048 .f32) (b : Fin 8) (t : Fin 2048) (n : Fin 16) (d : Fin 128) :
    transpose S8x2048x16x128 [2, 3, 0, 1] y transposes_S16x128x8x2048_S8x2048x16x128_2_3_0_1 (ix4 b t n d) = y (ix4 n d b t) := by
  pointwise

theorem gateOf_apply (w : FVec Ideal S16x128x128 .f32) (bias : FVec Ideal S2048 .f32) (xc : FVec Ideal S8x2048x2048 .f32) (b : Fin 8) (t h : Fin 2048) :
    gateOf (F := Ideal) w bias xc (ix3 b t h)
      = (∑ k : Fin 128, w (ix3 ⟨h.val / 128, by have := h.isLt; omega⟩ k ⟨h.val % 128, Nat.mod_lt _ (by decide)⟩) * xc (ix3 b t (Net.mate h k))) + bias (ix1 h) := by
  have e : shapeCast S8x2048x2048 (transpose S8x2048x16x128 [2, 3, 0, 1] (dotOf (F := Ideal) w xc) transposes_S16x128x8x2048_S8x2048x16x128_2_3_0_1) shapeCasts_S8x2048x16x128_S8x2048x2048 (ix3 b t h)
      = ∑ k : Fin 128, w (ix3 ⟨h.val / 128, by have := h.isLt; omega⟩ k ⟨h.val % 128, Nat.mod_lt _ (by decide)⟩) * xc (ix3 b t (Net.mate h k)) := by
    rw [join_apply, turn_apply]
    refine (dot_apply _ _ _ _ _ _).trans (Finset.sum_congr rfl fun k _ => ?_)
    rw [split_apply]
    rfl
  rw [← e, ← spread_apply bias b t h]
  unfold gateOf
  generalize shapeCast S8x2048x2048 (transpose S8x2048x16x128 [2, 3, 0, 1] (dotOf (F := Ideal) w xc) transposes_S16x128x8x2048_S8x2048x16x128_2_3_0_1) shapeCasts_S8x2048x16x128_S8x2048x2048 = y
  generalize spread (F := Ideal) bias = z
  pointwise

theorem sigm_apply (z : FVec Ideal S8x2048x2048 .f32) (b : Fin 8) (t h : Fin 2048) : sigm (F := Ideal) z (ix3 b t h) = Ideal.logistic (z (ix3 b t h)) := by
  pointwise [sigm, every]
  rfl

theorem soft_apply (z : FVec Ideal S2048 .f32) (h : Fin 2048) : softOf (F := Ideal) (Host.negf (F := Ideal) (φ := .f32) z) (ix1 h) = softplusNeg (z (ix1 h)) := by
  pointwise [softOf, zeros]
  unfold softplusNeg
  simp
  exact congrArg (fun y : EReal => max (-z (ix1 h)) 0 + Ideal.log1p (Ideal.exp (-(max (-z (ix1 h)) y)))) (neg_neg (z (ix1 h)))

theorem logOf_apply (e : FVec Ideal S8x2048x2048 .f32) (s : FVec Ideal S2048 .f32) (b : Fin 8) (t h : Fin 2048) :
    logOf (F := Ideal) (mulf (F := Ideal) (φ := .f32) (every (F := Ideal) 0xC1000000#32) e) s (ix3 b t h) = (Ideal.ofBits .f32 0xC1000000#32 * e (ix3 b t h)) * s (ix1 h) := by
  pointwise [logOf, every, spread]

theorem addOf_apply (l i xc : FVec Ideal S8x2048x2048 .f32) (b : Fin 8) (t h : Fin 2048) :
    addOf (F := Ideal) l i xc (ix3 b t h)
      = Ideal.sqrt (-(Ideal.exp (Ideal.ofBits .f32 0x40000000#32 * l (ix3 b t h)) - 1)) * (i (ix3 b t h) * xc (ix3 b t h)) := by
  pointwise [addOf, every]

theorem exp_apply (l : FVec Ideal S8x2048x2048 .f32) (b : Fin 8) (t h : Fin 2048) : Host.exp (F := Ideal) (φ := .f32) l (ix3 b t h) = Ideal.exp (l (ix3 b t h)) := by
  pointwise

theorem rowsFirst_apply (x : FVec Ideal S8x2048x2048 .f32) (b : Fin 8) (t h : Fin 2048) : rowsFirst (F := Ideal) x (ix3 t b h) = x (ix3 b t h) := by
  pointwise [rowsFirst]

theorem result_apply (y : FVec Ideal S2048x8x2048 .f32) (g : FVec Ideal S8x2048x2048 .f32) (b : Fin 8) (t h : Fin 2048) :
    resultOf (F := Ideal) y g (ix3 b t h) = gated (y (ix3 t b h)) (g (ix3 b t h)) := by
  unfold gated
  rw [← every_apply 0x3F000000#32 b t h, ← every_apply 0x3F800000#32 b t h, ← every_apply 0x3F4C422A#32 b t h, ← every_apply 0x3D372713#32 b t h]
  unfold resultOf
  generalize every (F := Ideal) 0x3F000000#32 = k0
  generalize every (F := Ideal) 0x3F800000#32 = k1
  generalize every (F := Ideal) 0x3F4C422A#32 = k2
  generalize every (F := Ideal) 0x3D372713#32 = k3
  pointwise

theorem iv_toInt (k : ℕ) (hk : k < 2048) : (Scf.iv 0#32 1#32 k).toInt = (k : ℤ) := by
  rw [Scf.toInt_iv (ub := 2048#32) (by decide) (show k ≤ Scf.trips 0#32 2048#32 1#32 from by
    rw [show Scf.trips 0#32 2048#32 1#32 = 2048 from by decide]; omega)]
  simp

theorem clamp_row (k : ℕ) (hk : k < 2048) (a : Fin 3) (u : Shape) (hu : u = S1x8x2048) (hr : u.rank = S2048x8x2048.rank) :
    Host.clampedStart S2048x8x2048 u hr (fun a => (((![fun _ => Scf.iv 0#32 1#32 k, constantI S_ 32 0#32, constantI S_ 32 0#32] : Fin 3 → (⟨S_, .i32⟩ : BufTy).Contents (Elt Ideal))) a (Shape.Idx.first h_S_)).toInt) a
      = if a.val = 0 then k else 0 := by
  subst hu
  match a with
  | ⟨0, _⟩ => exact Host.clampedStart_of_le _ _ _ k (iv_toInt k hk) (show k + 1 ≤ 2048 by omega)
  | ⟨1, _⟩ => exact Host.clampedStart_of_le _ _ _ 0 rfl (show 0 + 8 ≤ 8 by omega)
  | ⟨2, _⟩ => exact Host.clampedStart_of_le _ _ _ 0 rfl (show 0 + 2048 ≤ 2048 by omega)

theorem flatRow_apply (x : FVec Ideal S1x8x2048 .f32) (b : Fin 8) (h : Fin 2048) :
    shapeCast S8x2048 x shapeCasts_S1x8x2048_S8x2048 (ix2 b h) = x (ix3 (0 : Fin 1) b h) := by
  refine shapeCast_apply x _ _ _ ?_
  rw [Shape.rowMajor_val_three, Shape.rowMajor_val_two]
  show (0 * 8 + b.val) * 2048 + h.val = b.val * 2048 + h.val
  omega

theorem rowAt_apply (x : FVec Ideal S2048x8x2048 .f32) (k : Fin 2048) (b : Fin 8) (h : Fin 2048) :
    rowAt (F := Ideal) x (Scf.iv 0#32 1#32 k.val) (ix2 b h) = x (ix3 k b h) := by
  unfold rowAt
  rw [flatRow_apply, Host.dynamicSlice_apply]
  congr 1
  funext a; apply Fin.ext
  match a with
  | ⟨0, _⟩ => exact (congrArg (· + 0) (clamp_row k.val k.isLt ⟨0, by decide⟩ _ rfl _)).trans rfl
  | ⟨1, _⟩ => exact (congrArg (· + b.val) (clamp_row k.val k.isLt ⟨1, by decide⟩ _ rfl _)).trans (Nat.zero_add _)
  | ⟨2, _⟩ => exact (congrArg (· + h.val) (clamp_row k.val k.isLt ⟨2, by decide⟩ _ rfl _)).trans (Nat.zero_add _)

theorem unflatRow_apply (v : FVec Ideal S8x2048 .f32) (a : Fin 1) (b : Fin 8) (h : Fin 2048) :
    broadcastInDim S1x8x2048 ![1, 2] bcast_S8x2048_S1x8x2048_1_2 v (ix3 a b h) = v (ix2 b h) := by
  pointwise

theorem putRow_apply (x : FVec Ideal S2048x8x2048 .f32) (k : Fin 2048) (v : FVec Ideal S8x2048 .f32) (t : Fin 2048) (b : Fin 8) (h : Fin 2048) :
    putRow (F := Ideal) x (Scf.iv 0#32 1#32 k.val) v (ix3 t b h) = if t = k then v (ix2 b h) else x (ix3 t b h) := by
  unfold putRow
  rw [Host.dynamicUpdateSlice_apply]
  simp only [clamp_row k.val k.isLt _ S1x8x2048 rfl]
  by_cases e : t = k
  · rw [if_pos e, dif_pos]
    · refine Eq.trans (congrArg _ ?_) (unflatRow_apply v (0 : Fin 1) b h)
      funext a; apply Fin.ext
      match a with
      | ⟨0, _⟩ => show t.val - k.val = 0; rw [e]; omega
      | ⟨1, _⟩ => show b.val - 0 = b.val; omega
      | ⟨2, _⟩ => show h.val - 0 = h.val; omega
    · intro a
      match a with
      | ⟨0, _⟩ => exact ⟨show k.val ≤ t.val by rw [e], show t.val < k.val + 1 by rw [e]; omega⟩
      | ⟨1, _⟩ => exact ⟨Nat.zero_le _, show b.val < 0 + 8 by have := b.isLt; omega⟩
      | ⟨2, _⟩ => exact ⟨Nat.zero_le _, show h.val < 0 + 2048 by have := h.isLt; omega⟩
  · rw [if_neg e, dif_neg]
    intro hc
    obtain ⟨h1, h2⟩ := hc ⟨0, by decide⟩
    have h1' : k.val ≤ t.val := h1
    have h2' : t.val < k.val + 1 := h2
    exact e (Fin.ext (by omega))

theorem zero_apply (b : Fin 8) (h : Fin 2048) : broadcastInDim S8x2048 ![] bcast_S_S8x2048 (constant (F := Ideal) S_ .f32 0x00000000#32) (ix2 b h) = 0 := by
  pointwise

end Cert.RglruRefIdeal.Recur

end
-- ==== Proof.Rglru.RefRead.lean ====
/- The reference's program read back: what its loop starts from, what the loop does to the two arrays it changes, and what it
   leaves, in the stages of RefStages.lean; and that the arguments are kept. -/
module

public import proofs.«01_k».proof.Proof.Rglru.RefStages
public import proofs.«01_k».proof.Proof.Gen.RglruRefIdeal.Run
public import Idealize.ShloMosaic.Lib.Tactic

@[expose] public section

set_option maxRecDepth 16384

noncomputable section

namespace Cert.RglruRefIdeal.Recur

open Cert.RglruRefIdeal Cert.RglruRefIdeal.Gen Cert.RglruRefIdeal.Value Idealize.ShloMosaic Idealize.ShloMosaic.TcCoe Idealize.SL.Sem
open Idealize.ShloMosaic.StableHlo

variable {F : FTy → Type} [FloatOps F]

section
variable (X : Valuation τ sig (Elt F))

theorem first_x : after hostOps0 X (Proc.devRef .tc main_v1) = rowsX (X (Proc.devRef .tc main_arg0)) := by
  after_results <;> rfl
theorem first_g : after hostOps0 X (Proc.devRef .tc main_v2) = rowsG (X (Proc.devRef .tc main_arg0)) := by
  after_results <;> rfl
theorem first_w : after hostOps0 X (Proc.devRef .tc main_v3) = shapeCast S4x2048 (X (Proc.devRef .tc main_arg1)) shapeCasts_S1x4x2048_S4x2048 := by
  after_results <;> rfl
theorem first_b : after hostOps0 X (Proc.devRef .tc main_v4) = shapeCast S2048 (X (Proc.devRef .tc main_arg2)) shapeCasts_S1x2048_S2048 := by
  after_results <;> rfl
theorem first_c : after hostOps0 X (Proc.devRef .tc main_c) = constantI S_ 32 0#32 := by
  after_results <;> rfl
theorem second_p : after hostOps0_1 X (Proc.devRef .tc main_v5)
    = pad S8x2051x2048 ![0, 3, 0] ![0, 0, 0] ![0, 0, 0] (X (Proc.devRef .tc main_v1) : Vec F S8x2048x2048 .f32) (sitofp (F := F) .f32 (X (Proc.devRef .tc main_c))) pads_S8x2048x2048_S8x2051x2048_000_300_000 h_S_ := by
  after_results <;> rfl

def convAt : Vec F S8x2048x2048 .f32 :=
  convOf (X (Proc.devRef .tc main_v5)) (tap0 (X (Proc.devRef .tc main_v3))) (tap1 (X (Proc.devRef .tc main_v3))) (tap2 (X (Proc.devRef .tc main_v3)))
    (tap3 (X (Proc.devRef .tc main_v3))) (X (Proc.devRef .tc main_v4))

theorem third_xc : after hostOps0_2 X (Proc.devRef .tc main_v35) = convAt X := by
  after_results <;> rfl
theorem third_r : after hostOps0_2 X (Proc.devRef .tc main_v67) = mulf (every 0xC1000000#32) (sigm (gateOf
    (shapeCast S16x128x128 (X (Proc.devRef .tc main_arg3)) shapeCasts_S1x16x128x128_S16x128x128)
    (shapeCast S2048 (X (Proc.devRef .tc main_arg4)) shapeCasts_S1x2048_S2048) (convAt X))) := by
  after_results <;> rfl
theorem third_i : after hostOps0_2 X (Proc.devRef .tc main_v65) = sigm (gateOf
    (shapeCast S16x128x128 (X (Proc.devRef .tc main_arg5)) shapeCasts_S1x16x128x128_S16x128x128)
    (shapeCast S2048 (X (Proc.devRef .tc main_arg6)) shapeCasts_S1x2048_S2048) (convAt X)) := by
  after_results <;> rfl
theorem third_l : after hostOps0_2 X (Proc.devRef .tc main_v68) = Host.negf (F := F) (φ := .f32) (shapeCast S2048 (X (Proc.devRef .tc main_arg7)) shapeCasts_S1x2048_S2048) := by
  after_results <;> rfl
theorem fourth_s : after hostOps0_3 X (Proc.devRef .tc main_v69) = softOf (X (Proc.devRef .tc main_v68)) := by
  after_results <;> rfl
theorem fifth_a : after hostOps0_4 X (Proc.devRef .tc main_v85_0) = rowsFirst (Host.exp (logOf (X (Proc.devRef .tc main_v67)) (X (Proc.devRef .tc main_v69)))) := by
  after_results <;> rfl
theorem fifth_u : after hostOps0_4 X (Proc.devRef .tc main_v85_1) = rowsFirst (addOf (logOf (X (Proc.devRef .tc main_v67)) (X (Proc.devRef .tc main_v69)))
    (X (Proc.devRef .tc main_v65)) (X (Proc.devRef .tc main_v35))) := by
  after_results <;> rfl
theorem fifth_h : after hostOps0_4 X (Proc.devRef .tc main_v85_3) = broadcastInDim S8x2048 ![] bcast_S_S8x2048 (constant (F := F) S_ .f32 0x00000000#32) := by
  after_results <;> rfl
theorem sixth : after hostOps0_5 X (Proc.devRef .tc main_v101) = resultOf (X (Proc.devRef .tc main_v85_4)) (X (Proc.devRef .tc main_v2)) := by
  after_results <;> rfl
end

/-! What is not written is kept. -/

/-- What the operations after the loop write. -/
def lastW : List (Ref sig .tc) := [main_v86, main_v87, main_v88, main_cst_8, main_v89, main_v90, main_v91, main_cst_9, main_v92, main_v93, main_v94,
  main_cst_10, main_v95, main_v96, main_cst_11, main_v97, main_v98, main_v99, main_v100, main_v101]

theorem last_kept (b : Ref sig .tc) (X : Valuation τ sig (Elt F)) (h : b ∉ lastW) : after hostOps0_5 X (Proc.devRef .tc b) = X (Proc.devRef .tc b) :=
  after_of_writes_sub (W := lastW) hostOps0_5 X (StableHlo.forall_writes_sub_of_map rfl) h

/-- What the operations before the loop write, in their parts; and the loop. -/
def beforeW : List (Ref sig .tc) := hostOps0_W ++ (hostOps0_1_W ++ (hostOps0_2_W ++ (hostOps0_3_W ++ hostOps0_4_W)))
def loopW : List (Ref sig .tc) := condOps_W ++ (while0Ops0_W ++ (while0Ops0_1_W ++ (while0Ops0_2_W ++ (while0Ops0_3_W ++ while0Ops0_4_W))))

theorem pre_kept (b : Ref sig .tc) (X : Valuation τ sig (Elt F)) (h : b ∉ beforeW) : afterL preI X (Proc.devRef .tc b) = X (Proc.devRef .tc b) := by
  simp only [beforeW, List.mem_append, not_or] at h
  obtain ⟨h0, h1, h2, h3, h4⟩ := h
  simp only [afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1, after_of_writes_sub hostOps0 _ hostOps0_writes h0]

variable (m : (ℓ : Loc nD τ sig) → Buf (Elt F) ℓ)

theorem loop_kept (b : Ref sig .tc) (c : Dev nD) (h : b ∉ loopW) :
    ∀ k, after condOps (atK m k c) (Proc.devRef .tc b) = entryContents preI m c (Proc.devRef .tc b) := by
  simp only [loopW, List.mem_append, not_or] at h
  obtain ⟨hc, h0, h1, h2, h3, h4⟩ := h
  intro k
  rw [after_of_writes_sub condOps _ condOps_writes hc]
  induction k with
  | zero => rfl
  | succ k ih =>
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact ih

theorem arg_kept (b : Ref sig .tc) (c : Dev nD) (hp : b ∉ beforeW) (hw : b ∉ loopW) (hl : b ∉ lastW) :
    finalContents condOps preI bodyI postI 2048 m c (Proc.devRef .tc b) = m ((c.tc : Thread nD τ).loc b) := by
  show afterL postI (after condOps (atK m 2048 c)) (Proc.devRef .tc b) = _
  simp only [afterL_cons, afterL_nil]
  rw [last_kept b _ hl, loop_kept m b c hw]
  exact pre_kept b _ hp

/-- The reference runs to the end, leaves the fold in its result, and keeps its arguments. -/
theorem run (ρ : Dev nD → PrngReg) : θ_run (defs (F := F)) (onTc (τ := τ) (main (F := F))) ⟨m, fun _ => 0, ρ⟩ fun r => ∀ c : Dev nD,
    r.2.mem ((c.tc : Thread nD τ).loc main_v101) = finalContents condOps preI bodyI postI 2048 m c (Proc.devRef .tc main_v101)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun r h c => by
    have k := fun (b : Ref sig .tc) (hs : (Proc.devRef .tc b : DevRef τ sig).isScoped = false) (hp : b ∉ beforeW) (hw : b ∉ loopW) (hl : b ∉ lastW) =>
      (h c b hs).trans (arg_kept m b c hp hw hl)
    exact ⟨h c main_v101 (by decide), k main_arg0 (by decide) (by decide +kernel) (by decide +kernel) (by decide +kernel),
      k main_arg1 (by decide) (by decide +kernel) (by decide +kernel) (by decide +kernel),
      k main_arg2 (by decide) (by decide +kernel) (by decide +kernel) (by decide +kernel),
      k main_arg3 (by decide) (by decide +kernel) (by decide +kernel) (by decide +kernel),
      k main_arg4 (by decide) (by decide +kernel) (by decide +kernel) (by decide +kernel),
      k main_arg5 (by decide) (by decide +kernel) (by decide +kernel) (by decide +kernel),
      k main_arg6 (by decide) (by decide +kernel) (by decide +kernel) (by decide +kernel),
      k main_arg7 (by decide) (by decide +kernel) (by decide +kernel) (by decide +kernel)⟩) (run_fold m ρ)

/-! What the loop starts from, one step of it, and what it leaves. -/

def convM (c : Dev nD) : Vec F S8x2048x2048 .f32 :=
  convOf (padded (rowsX (m ((c.tc : Thread nD τ).loc main_arg0))))
    (tap0 (shapeCast S4x2048 (m ((c.tc : Thread nD τ).loc main_arg1)) shapeCasts_S1x4x2048_S4x2048))
    (tap1 (shapeCast S4x2048 (m ((c.tc : Thread nD τ).loc main_arg1)) shapeCasts_S1x4x2048_S4x2048))
    (tap2 (shapeCast S4x2048 (m ((c.tc : Thread nD τ).loc main_arg1)) shapeCasts_S1x4x2048_S4x2048))
    (tap3 (shapeCast S4x2048 (m ((c.tc : Thread nD τ).loc main_arg1)) shapeCasts_S1x4x2048_S4x2048))
    (shapeCast S2048 (m ((c.tc : Thread nD τ).loc main_arg2)) shapeCasts_S1x2048_S2048)

def gateRM (c : Dev nD) : Vec F S8x2048x2048 .f32 := sigm (gateOf
  (shapeCast S16x128x128 (m ((c.tc : Thread nD τ).loc main_arg3)) shapeCasts_S1x16x128x128_S16x128x128)
  (shapeCast S2048 (m ((c.tc : Thread nD τ).loc main_arg4)) shapeCasts_S1x2048_S2048) (convM m c))
def gateIM (c : Dev nD) : Vec F S8x2048x2048 .f32 := sigm (gateOf
  (shapeCast S16x128x128 (m ((c.tc : Thread nD τ).loc main_arg5)) shapeCasts_S1x16x128x128_S16x128x128)
  (shapeCast S2048 (m ((c.tc : Thread nD τ).loc main_arg6)) shapeCasts_S1x2048_S2048) (convM m c))
def softM (c : Dev nD) : Vec F S2048 .f32 :=
  softOf (Host.negf (F := F) (φ := .f32) (shapeCast S2048 (m ((c.tc : Thread nD τ).loc main_arg7)) shapeCasts_S1x2048_S2048))
def logM (c : Dev nD) : Vec F S8x2048x2048 .f32 := logOf (mulf (every 0xC1000000#32) (gateRM m c)) (softM m c)

/-- The contents before the third stretch. -/
def mid (c : Dev nD) : Valuation τ sig (Elt F) := after hostOps0_1 (after hostOps0 (launchContents m c))

theorem mid_arg (c : Dev nD) (b : Ref sig .tc) (h0 : b ∉ hostOps0_W) (h1 : b ∉ hostOps0_1_W) : mid m c (Proc.devRef .tc b) = m ((c.tc : Thread nD τ).loc b) := by
  unfold mid
  rw [after_of_writes_sub hostOps0_1 _ hostOps0_1_writes h1, after_of_writes_sub hostOps0 _ hostOps0_writes h0]

theorem mid_conv (c : Dev nD) : convAt (mid m c) = convM m c := by
  unfold convAt mid
  rw [second_p, first_x, first_c]
  rw [after_of_writes_sub hostOps0_1 _ hostOps0_1_writes (r := main_v3) (by decide +kernel), after_of_writes_sub hostOps0_1 _ hostOps0_1_writes (r := main_v4) (by decide +kernel), first_w, first_b]
  rfl

theorem entry_mid (c : Dev nD) : entryContents preI m c = after hostOps0_4 (after hostOps0_3 (after hostOps0_2 (mid m c))) := by
  simp only [entryContents, afterL_cons, afterL_nil]
  rfl

theorem entry_log (c : Dev nD) : logOf (F := F) (after hostOps0_3 (after hostOps0_2 (mid m c)) (Proc.devRef .tc main_v67))
    (after hostOps0_3 (after hostOps0_2 (mid m c)) (Proc.devRef .tc main_v69)) = logM m c := by
  rw [fourth_s, after_of_writes_sub hostOps0_3 _ hostOps0_3_writes (r := main_v67) (by decide +kernel), third_r, third_l, mid_conv,
    mid_arg m c main_arg3 (by decide +kernel) (by decide +kernel), mid_arg m c main_arg4 (by decide +kernel) (by decide +kernel), mid_arg m c main_arg7 (by decide +kernel) (by decide +kernel)]
  rfl

theorem entry_a (c : Dev nD) : entryContents preI m c (Proc.devRef .tc main_v85_0) = rowsFirst (Host.exp (logM m c)) := by
  rw [entry_mid, fifth_a, entry_log]

theorem entry_u (c : Dev nD) : entryContents preI m c (Proc.devRef .tc main_v85_1) = rowsFirst (addOf (logM m c) (gateIM m c) (convM m c)) := by
  rw [entry_mid, fifth_u, entry_log, after_of_writes_sub hostOps0_3 _ hostOps0_3_writes (r := main_v65) (by decide +kernel),
    after_of_writes_sub hostOps0_3 _ hostOps0_3_writes (r := main_v35) (by decide +kernel), third_i, third_xc, mid_conv,
    mid_arg m c main_arg5 (by decide +kernel) (by decide +kernel), mid_arg m c main_arg6 (by decide +kernel) (by decide +kernel)]
  rfl

theorem entry_h (c : Dev nD) : entryContents preI m c (Proc.devRef .tc main_v85_3) = broadcastInDim S8x2048 ![] bcast_S_S8x2048 (constant (F := F) S_ .f32 0x00000000#32) := by
  rw [entry_mid, fifth_h]

theorem entry_g (c : Dev nD) : entryContents preI m c (Proc.devRef .tc main_v2) = rowsG (m ((c.tc : Thread nD τ).loc main_arg0)) := by
  rw [entry_mid, after_of_writes_sub hostOps0_4 _ hostOps0_4_writes (r := main_v2) (by decide +kernel), after_of_writes_sub hostOps0_3 _ hostOps0_3_writes (r := main_v2) (by decide +kernel),
    after_of_writes_sub hostOps0_2 _ hostOps0_2_writes (r := main_v2) (by decide +kernel)]
  unfold mid
  rw [after_of_writes_sub hostOps0_1 _ hostOps0_1_writes (r := main_v2) (by decide +kernel), first_g]

/-- The state and the rows stored after `k` steps. -/
def stateK (k : ℕ) (c : Dev nD) : Vec F S8x2048 .f32 := atK m k c (Proc.devRef .tc main_v85_3)
def storedK (k : ℕ) (c : Dev nD) : Vec F S2048x8x2048 .f32 := atK m k c (Proc.devRef .tc main_v85_4)

theorem stateK_zero (c : Dev nD) : stateK m 0 c = broadcastInDim S8x2048 ![] bcast_S_S8x2048 (constant (F := F) S_ .f32 0x00000000#32) := entry_h m c

theorem atK_a (k : ℕ) (c : Dev nD) : atK m k c (Proc.devRef .tc main_v85_0) = rowsFirst (Host.exp (logM m c)) := by
  rw [← entry_a]
  induction k with
  | zero => rfl
  | succ k ih => exact (trip_agree (atK m k c) main_v85_0 (by decide)).trans ((STEP_main_v85_0 _).trans ih)

theorem atK_u (k : ℕ) (c : Dev nD) : atK m k c (Proc.devRef .tc main_v85_1) = rowsFirst (addOf (logM m c) (gateIM m c) (convM m c)) := by
  rw [← entry_u]
  induction k with
  | zero => rfl
  | succ k ih => exact (trip_agree (atK m k c) main_v85_1 (by decide)).trans ((STEP_main_v85_1 _).trans ih)

theorem res_eq (k : ℕ) (c : Dev nD) : res_main_while0b_v105 (atK m k c)
    = addf (mulf (rowAt (rowsFirst (Host.exp (logM m c))) (Scf.iv 0#32 1#32 k)) (stateK m k c)) (rowAt (rowsFirst (addOf (logM m c) (gateIM m c) (convM m c))) (Scf.iv 0#32 1#32 k)) := by
  unfold res_main_while0b_v105
  rw [atK_a, atK_u, atK_ctr]
  rfl

theorem stateK_succ (k : ℕ) (c : Dev nD) : stateK m (k + 1) c
    = addf (mulf (rowAt (rowsFirst (Host.exp (logM m c))) (Scf.iv 0#32 1#32 k)) (stateK m k c)) (rowAt (rowsFirst (addOf (logM m c) (gateIM m c) (convM m c))) (Scf.iv 0#32 1#32 k)) :=
  (trip_agree (atK m k c) main_v85_3 (by decide)).trans ((STEP_main_v85_3 _).trans (res_eq m k c))

theorem storedK_succ (k : ℕ) (c : Dev nD) : storedK m (k + 1) c = putRow (storedK m k c) (Scf.iv 0#32 1#32 k) (stateK m (k + 1) c) := by
  refine (trip_agree (atK m k c) main_v85_4 (by decide)).trans ((STEP_main_v85_4 _).trans ?_)
  rw [stateK_succ, ← res_eq]
  unfold step_main_v85_4
  rw [atK_ctr]
  rfl

/-- The reference's result. -/
theorem final_eq (c : Dev nD) : finalContents condOps preI bodyI postI 2048 m c (Proc.devRef .tc main_v101)
    = resultOf (storedK m 2048 c) (rowsG (m ((c.tc : Thread nD τ).loc main_arg0))) := by
  show afterL postI (after condOps (atK m 2048 c)) (Proc.devRef .tc main_v101) = _
  simp only [afterL_cons, afterL_nil]
  rw [sixth, loop_kept m main_v2 c (by decide +kernel), entry_g, after_of_writes_sub condOps _ condOps_writes (r := main_v85_4) (by decide +kernel)]
  rfl

end Cert.RglruRefIdeal.Recur

end
-- ==== Proof.Rglru.RefMeaning.lean ====
/- The reference's stages as the layer: its convolution, its two gates, its decay and what it adds are the layer's, and
   its loop stores the layer's state row by row. -/
module

public import proofs.«01_k».proof.Proof.Rglru.RefValue
public import proofs.«01_k».proof.Proof.Rglru.RefRead
public import proofs.«01_k».proof.Proof.Rglru.Scalars

@[expose] public section

noncomputable section

namespace Cert.RglruRefIdeal.Recur

open Cert.RglruRefIdeal Cert.RglruRefIdeal.Gen Idealize.ShloMosaic Idealize.ShloMosaic.TcCoe Idealize.SL.Sem
open Cert.RglruIdeal.Recur (Net rate softplusNeg scan gated layer gateAt)

section
variable (pf : FVec Ideal S16384x4096 .f32) (cw : FVec Ideal S1x4x2048 .f32) (cb : FVec Ideal S1x2048 .f32)
  (wa : FVec Ideal S1x16x128x128 .f32) (ba : FVec Ideal S1x2048 .f32) (wx : FVec Ideal S1x16x128x128 .f32)
  (bx lam : FVec Ideal S1x2048 .f32)

theorem x_eq (b : Fin 8) (s h : Fin 2048) : rowsX (F := Ideal) pf (ix3 b s h) = (layer pf cw cb wa ba wx bx lam b).x s.val h := by
  rw [rowsX_apply]
  show pf _ = pf _
  congr 2
  apply Fin.ext
  show 2048 * b.val + s.val = (2048 * b.val + s.val) % 16384
  have := b.isLt; have := s.isLt; omega

theorem ago_eq (n : ℕ) (hn : n ≤ 3) (b : Fin 8) (t h : Fin 2048) (hlt : n + t.val < 2051) :
    padded (F := Ideal) (rowsX (F := Ideal) pf) (ix3 b ⟨n + t.val, hlt⟩ h) = (layer pf cw cb wa ba wx bx lam b).ago (3 - n) t.val h := by
  have ht := t.isLt
  rw [padded_apply]
  unfold Net.ago
  by_cases hs : 3 ≤ n + t.val
  · rw [dif_pos hs, if_pos (by omega)]
    refine (x_eq pf cw cb wa ba wx bx lam b _ h).trans ?_
    congr 1
    show n + t.val - 3 = t.val - (3 - n)
    omega
  · rw [dif_neg hs, if_neg (by omega)]

theorem conv_eq (b : Fin 8) (t h : Fin 2048) :
    convOf (F := Ideal) (padded (F := Ideal) (rowsX (F := Ideal) pf))
      (tap0 (F := Ideal) (shapeCast S4x2048 cw shapeCasts_S1x4x2048_S4x2048)) (tap1 (F := Ideal) (shapeCast S4x2048 cw shapeCasts_S1x4x2048_S4x2048))
      (tap2 (F := Ideal) (shapeCast S4x2048 cw shapeCasts_S1x4x2048_S4x2048)) (tap3 (F := Ideal) (shapeCast S4x2048 cw shapeCasts_S1x4x2048_S4x2048))
      (shapeCast S2048 cb shapeCasts_S1x2048_S2048) (ix3 b t h) = (layer pf cw cb wa ba wx bx lam b).conv t.val h := by
  rw [convOf_apply, tap0_apply, tap1_apply, tap2_apply, tap3_apply, Cert.RglruIdeal.Recur.taps_apply, Cert.RglruIdeal.Recur.taps_apply,
    Cert.RglruIdeal.Recur.taps_apply, Cert.RglruIdeal.Recur.taps_apply, Cert.RglruIdeal.Recur.flat_apply]
  have e0 := ago_eq pf cw cb wa ba wx bx lam 0 (by decide) b t h (by have := t.isLt; omega)
  rw [show (⟨0 + t.val, by have := t.isLt; omega⟩ : Fin 2051) = ⟨t.val, by have := t.isLt; omega⟩ from Fin.ext (Nat.zero_add _)] at e0
  rw [e0, ago_eq pf cw cb wa ba wx bx lam 1 (by decide), ago_eq pf cw cb wa ba wx bx lam 2 (by decide), ago_eq pf cw cb wa ba wx bx lam 3 (by decide)]
  unfold Net.conv Net.ago
  simp only [Nat.sub_self, Nat.zero_le, if_true, Nat.sub_zero]
  rfl

theorem pre_eq (w : FVec Ideal S1x16x128x128 .f32) (bias : FVec Ideal S1x2048 .f32) (xc : FVec Ideal S8x2048x2048 .f32) (b : Fin 8)
    (hx : ∀ t h, xc (ix3 b t h) = (layer pf cw cb wa ba wx bx lam b).conv t.val h) (t h : Fin 2048) :
    gateOf (F := Ideal) (shapeCast S16x128x128 w shapeCasts_S1x16x128x128_S16x128x128) (shapeCast S2048 bias shapeCasts_S1x2048_S2048) xc (ix3 b t h)
      = (layer pf cw cb wa ba wx bx lam b).pre (fun n c d => w (ix4 (0 : Fin 1) n c d)) (fun h => bias (ix2 (0 : Fin 1) h)) t.val h := by
  rw [gateOf_apply, Cert.RglruIdeal.Recur.flat_apply]
  unfold Net.pre
  congr 1
  refine Finset.sum_congr rfl fun k _ => ?_
  rw [Cert.RglruIdeal.Recur.blocks_apply, hx, mul_comm]

end

variable (m : (ℓ : Loc nD τ sig) → Buf (Elt Ideal) ℓ)

/-- Batch `b` of the reference's arguments. -/
def netAt (c : Dev nD) (b : Fin 8) : Net :=
  layer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b

theorem convM_apply (c : Dev nD) (b : Fin 8) (t h : Fin 2048) : convM (F := Ideal) m c (ix3 b t h) = (netAt m c b).conv t.val h :=
  conv_eq _ _ _ _ _ _ _ _ b t h

theorem gateRM_apply (c : Dev nD) (b : Fin 8) (t h : Fin 2048) :
    gateRM (F := Ideal) m c (ix3 b t h) = Ideal.logistic ((netAt m c b).pre (netAt m c b).wa (netAt m c b).ba t.val h) :=
  (sigm_apply _ b t h).trans (congrArg Ideal.logistic (pre_eq _ _ _ _ _ _ _ _ _ _ _ b (fun t h => convM_apply m c b t h) t h))

theorem gateIM_apply (c : Dev nD) (b : Fin 8) (t h : Fin 2048) :
    gateIM (F := Ideal) m c (ix3 b t h) = Ideal.logistic ((netAt m c b).pre (netAt m c b).wx (netAt m c b).bx t.val h) :=
  (sigm_apply _ b t h).trans (congrArg Ideal.logistic (pre_eq _ _ _ _ _ _ _ _ _ _ _ b (fun t h => convM_apply m c b t h) t h))

theorem softM_apply (c : Dev nD) (b : Fin 8) (h : Fin 2048) : softM (F := Ideal) m c (ix1 h) = softplusNeg ((netAt m c b).lam h) :=
  (soft_apply _ h).trans (congrArg softplusNeg (Cert.RglruIdeal.Recur.flat_apply _ _ h))

theorem logM_apply (c : Dev nD) (b : Fin 8) (t h : Fin 2048) : logM (F := Ideal) m c (ix3 b t h) = -(netAt m c b).loss t.val h := by
  unfold logM
  rw [logOf_apply, gateRM_apply, softM_apply m c b]
  exact Cert.RglruIdeal.Recur.neg_rate _ _

theorem decM_apply (c : Dev nD) (b : Fin 8) (t h : Fin 2048) :
    rowsFirst (F := Ideal) (Host.exp (F := Ideal) (φ := .f32) (logM (F := Ideal) m c)) (ix3 t b h) = (netAt m c b).dec h t.val := by
  rw [rowsFirst_apply, exp_apply, logM_apply]
  rfl

theorem addM_apply (c : Dev nD) (b : Fin 8) (t h : Fin 2048) :
    rowsFirst (F := Ideal) (addOf (F := Ideal) (logM (F := Ideal) m c) (gateIM (F := Ideal) m c) (convM (F := Ideal) m c)) (ix3 t b h) = (netAt m c b).add h t.val := by
  rw [rowsFirst_apply, addOf_apply, logM_apply, gateIM_apply, convM_apply]
  rfl

theorem step_apply (a s u : FVec Ideal S8x2048 .f32) (b : Fin 8) (h : Fin 2048) :
    addf (F := Ideal) (φ := .f32) (mulf (F := Ideal) (φ := .f32) a s) u (ix2 b h) = a (ix2 b h) * s (ix2 b h) + u (ix2 b h) := by
  pointwise

theorem next_apply (c : Dev nD) (k : Fin 2048) (b : Fin 8) (h : Fin 2048) :
    stateK (F := Ideal) m (k.val + 1) c (ix2 b h) = (netAt m c b).dec h k.val * stateK (F := Ideal) m k.val c (ix2 b h) + (netAt m c b).add h k.val := by
  rw [stateK_succ]
  refine (step_apply _ _ _ b h).trans ?_
  rw [rowAt_apply, rowAt_apply, decM_apply, addM_apply]

/-- After `k + 1` steps the loop carries the layer's state at row `k`. -/
theorem state_apply (c : Dev nD) (b : Fin 8) (h : Fin 2048) (k : ℕ) (hk : k < 2048) :
    stateK (F := Ideal) m (k + 1) c (ix2 b h) = (netAt m c b).state h k := by
  induction k with
  | zero =>
    refine (next_apply m c ⟨0, hk⟩ b h).trans ?_
    rw [stateK_zero, zero_apply]
    rfl
  | succ k ih =>
    refine (next_apply m c ⟨k + 1, hk⟩ b h).trans ?_
    rw [ih (by omega)]
    rfl

/-- After `k` steps the first `k` rows stored are the layer's states. -/
theorem stored_apply (c : Dev nD) (b : Fin 8) (h t : Fin 2048) (k : ℕ) (hk : k ≤ 2048) (ht : t.val < k) :
    storedK (F := Ideal) m k c (ix3 t b h) = (netAt m c b).state h t.val := by
  induction k with
  | zero => omega
  | succ k ih =>
    rw [storedK_succ]
    refine (putRow_apply _ ⟨k, by omega⟩ _ t b h).trans ?_
    by_cases e : t = ⟨k, by omega⟩
    · rw [if_pos e, state_apply m c b h k (by omega), e]
    · rw [if_neg e]
      refine ih (by omega) ?_
      have : t.val ≠ k := fun he => e (Fin.ext he)
      omega

/-- The reference's result. -/
theorem final_apply (c : Dev nD) (b : Fin 8) (t h : Fin 2048) :
    resultOf (F := Ideal) (storedK (F := Ideal) m 2048 c) (rowsG (F := Ideal) (m ((c : Thread nD τ).loc main_arg0))) (ix3 b t h)
      = gated ((netAt m c b).state h t.val) (gateAt (m ((c : Thread nD τ).loc main_arg0)) b t h) := by
  rw [result_apply, stored_apply m c b h t 2048 (le_refl _) t.isLt, rowsG_apply]

end Cert.RglruRefIdeal.Recur

end
-- ==== Proof.Rglru.Chain.lean ====
/- The kernel's 64 groups of eight rows as a recursion: group `k` is `b k + a k * carry`, the carry being the last row of the
   group before. -/
module

public import proofs.«01_k».proof.Proof.Gen.RglruIdeal.Value
public import Idealize.ShloMosaic.PureOps.Ideal
public import Idealize.ShloMosaic.Lib.Pointwise

@[expose] public section

noncomputable section

namespace Cert.RglruIdeal.Recur

open Cert.RglruIdeal Cert.RglruIdeal.Gen Idealize.ShloMosaic Idealize.SL.Sem

variable {F : FTy → Type} [FloatOps F]

theorem slices_group (k : ℕ) : S64x8x512.Slices ![k % 64, 0, 0] S1x8x512 := by
  have hk : k % 64 < 64 := Nat.mod_lt _ (by decide)
  refine ⟨rfl, fun a => ?_⟩
  fin_cases a
  · show k % 64 + 1 ≤ 64; omega
  · show 0 + 8 ≤ 8; omega
  · show 0 + 512 ≤ 512; omega

/-- Group `k` of a stack of 64. -/
def slab (v : FVec F S64x8x512 .f32) (k : ℕ) : FVec F S8x512 .f32 :=
  shapeCast S8x512 (extractStridedSlice S1x8x512 ![k % 64, 0, 0] v (slices_group k)) shapeCasts_S1x8x512_S8x512

/-- The last row of a group. -/
def lastRow (v : FVec F S8x512 .f32) : FVec F S1x512 .f32 := extractStridedSlice S1x512 ![7, 0] v slices_S8x512_o7_0_S1x512

/-- Group `k` from the carry. -/
def step (b a : FVec F S64x8x512 .f32) (k : ℕ) (c : FVec F S1x512 .f32) : FVec F S8x512 .f32 :=
  addf (slab b k) (mulf (slab a k) (broadcastTo S8x512 c broadcasts_S1x512_S8x512))

/-- The groups. -/
def group (b a : FVec F S64x8x512 .f32) (c : FVec F S1x512 .f32) : ℕ → FVec F S8x512 .f32
  | 0 => step b a 0 c
  | k + 1 => step b a (k + 1) (lastRow (group b a c k))

/-- `n` of the pieces `f k`, from `k` on, as a concatenation takes them. -/
def tiles {α : Type} (f : ℕ → S8x512.Idx → α) : ℕ → ℕ → List ((s : Shape) × (s.Idx → α))
  | 0, _ => []
  | n + 1, k => ⟨S8x512, f k⟩ :: tiles f n (k + 1)

theorem tiles_at {α : Type} (f : ℕ → S8x512.Idx → α) (j : S512x512.Idx) (n : ℕ) :
    ∀ (k c : ℕ) (hs : ∀ s ∈ (tiles f (n + 1) k).map (·.1), s.FitsOff S512x512 0)
      (hc : c < (axisSizes S512x512 0 (tiles f (n + 1) k)).sum) (hn : c < 8 * (n + 1)),
      concatenateAt S512x512 0 j (tiles f (n + 1) k) hs c hc
        = f (k + c / 8) (ix2 ⟨c % 8, Nat.mod_lt _ (by decide)⟩ ⟨(j 1).val, (j 1).isLt⟩) := by
  induction n with
  | zero =>
    intro k c hs hc hn
    refine (concatenateAt_singleton (s := S8x512) 0 j (f k) hs c hc).trans ?_
    have e : c / 8 = 0 := by omega
    have e' : c % 8 = c := by omega
    refine Eq.trans (b := f k (ix2 ⟨c % 8, Nat.mod_lt _ (by decide)⟩ ⟨(j 1).val, (j 1).isLt⟩)) ?_ (by rw [e, Nat.add_zero])
    congr 1
    funext b
    fin_cases b
    · exact Fin.ext e'.symm
    · rfl
  | succ n ih =>
    intro k c hs hc hn
    refine (concatenateAt_cons (s := S8x512) 0 j (f k) ⟨S8x512, f (k + 1)⟩ (tiles f n (k + 1 + 1)) hs c hc).trans ?_
    split
    · next hlt =>
      have hlt : c < 8 := hlt
      have e : c / 8 = 0 := by omega
      have e' : c % 8 = c := by omega
      refine Eq.trans (b := f k (ix2 ⟨c % 8, Nat.mod_lt _ (by decide)⟩ ⟨(j 1).val, (j 1).isLt⟩)) ?_ (by rw [e, Nat.add_zero])
      congr 1
      funext b
      fin_cases b
      · exact Fin.ext e'.symm
      · rfl
    · next hlt =>
      have hlt : ¬c < 8 := hlt
      refine (ih (k + 1) (c - 8) _ _ (by omega)).trans ?_
      have e : k + 1 + (c - 8) / 8 = k + c / 8 := by omega
      have e' : (c - 8) % 8 = c % 8 := by omega
      simp only [e, e']

theorem tiles_cat : Shape.Concatenates ((tiles (α := F .f32) (fun _ => fun _ => FloatOps.ofBits .f32 0x00000000#32) 64 0).map (·.1)) S512x512 0 :=
  concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S512x512_d0

theorem tiles_map {α : Type} (f g : ℕ → S8x512.Idx → α) (n : ℕ) : ∀ k, (tiles f n k).map (·.1) = (tiles g n k).map (·.1) := by
  induction n with
  | zero => intro k; rfl
  | succ n ih => intro k; simp only [tiles, List.map_cons, ih]

/-- The groups one under another. -/
def stacked (b a : FVec F S64x8x512 .f32) (c : FVec F S1x512 .f32) : FVec F S512x512 .f32 :=
  concatenate S512x512 0 (tiles (group b a c) 64 0) (tiles_map (group b a c) _ 64 0 ▸ tiles_cat (F := F))

theorem stacked_apply (b a : FVec F S64x8x512 .f32) (c : FVec F S1x512 .f32) (r l : Fin 512) :
    stacked b a c (ix2 r l) = group b a c (r.val / 8) (ix2 ⟨r.val % 8, Nat.mod_lt _ (by decide)⟩ l) := by
  unfold stacked
  rw [concatenate_apply]
  refine (tiles_at (group b a c) (ix2 r l) 63 0 r.val _ _ r.isLt).trans ?_
  rw [Nat.zero_add]
  rfl

end Cert.RglruIdeal.Recur

end
-- ==== Proof.Rglru.Runs.lean ====
/- What a grid point leaves, from its input blocks, the last rows of the block before and the carry: the convolution, the
   gates, the doubling steps, the 64 groups and the product with gelu. -/
module

public import proofs.«01_k».proof.Proof.Rglru.Chain
public import Idealize.ShloMosaic.Lib.WritesUnit
public import Idealize.ShloMosaic.Lib.Pipeline.Value
public import Idealize.ShloMosaic.Lib.Pipeline.ReadBack
public import Idealize.ShloMosaic.Lib.Tactic

@[expose] public section

noncomputable section

namespace Cert.RglruIdeal.Recur

open Cert.RglruIdeal Cert.RglruIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- The row number in a group. -/
def rows : IVec S1x8x512 32 := iota .tc S1x8x512 32 [1] iota_S1x8x512_d1_w32

/-- The convolution of a block. -/
def conv (x : Vec F S1x512x512 .f32) (tail : Vec F S8x512 .f32) (cw : Vec F S4x512 .f32) (cb : Vec F S1x512 .f32) : FVec F S512x512 .f32 :=
  k0_pay8 rows (k0_pay4 x) tail (k0_pay6 cw) (k0_pay7 x tail cw cb) 2#32

/-- One lane block's products with its gate weights. -/
def gateDot (xc : FVec F S512x512 .f32) (n : ℕ) (hn : S512x512.Slices ![0, 128 * n] S512x128) (w : Vec F S1x128x256 .bf16) : FVec F S512x256 .f32 :=
  matmul dot_S512x128_S128x256_S512x256_1_0_0_1_n_n none (extractStridedSlice S512x128 ![0, 128 * n] (truncf .bf16 xc bitsLt_bf16_f32) hn)
    (shapeCast S128x256 w shapeCasts_S1x128x256_S128x256) (constant S512x256 .f32 0x00000000#32)

def dot0 (xc : FVec F S512x512 .f32) (w : Vec F S1x128x256 .bf16) : FVec F S512x256 .f32 := gateDot xc 0 slices_S512x512_o0_0_S512x128 w
def dot1 (xc : FVec F S512x512 .f32) (w : Vec F S1x128x256 .bf16) : FVec F S512x256 .f32 := gateDot xc 1 slices_S512x512_o0_128_S512x128 w
def dot2 (xc : FVec F S512x512 .f32) (w : Vec F S1x128x256 .bf16) : FVec F S512x256 .f32 := gateDot xc 2 slices_S512x512_o0_256_S512x128 w
def dot3 (xc : FVec F S512x512 .f32) (w : Vec F S1x128x256 .bf16) : FVec F S512x256 .f32 := gateDot xc 3 slices_S512x512_o0_384_S512x128 w

/-- The input gate's `tanh`: the right halves of the products. -/
def gateI (xc : FVec F S512x512 .f32) (w0 w1 w2 w3 : Vec F S1x128x256 .bf16) (bx : Vec F S1x512 .f32) : FVec F S512x512 .f32 :=
  tanh (addf (concatenate S512x512 1
    [⟨S512x128, extractStridedSlice S512x128 ![0, 128] (dot0 xc w0) slices_S512x256_o0_128_S512x128⟩,
     ⟨S512x128, extractStridedSlice S512x128 ![0, 128] (dot1 xc w1) slices_S512x256_o0_128_S512x128⟩,
     ⟨S512x128, extractStridedSlice S512x128 ![0, 128] (dot2 xc w2) slices_S512x256_o0_128_S512x128⟩,
     ⟨S512x128, extractStridedSlice S512x128 ![0, 128] (dot3 xc w3) slices_S512x256_o0_128_S512x128⟩]
    concatenates_S512x128_S512x128_S512x128_S512x128_S512x512_d1)
    (broadcastTo S512x512 (shapeCast S1x512 bx shapeCasts_S1x512_S1x512) broadcasts_S1x512_S512x512))

/-- The recurrence gate's `tanh`: the left halves. -/
def gateR (xc : FVec F S512x512 .f32) (w0 w1 w2 w3 : Vec F S1x128x256 .bf16) (ba : Vec F S1x512 .f32) : FVec F S512x512 .f32 :=
  tanh (addf (concatenate S512x512 1
    [⟨S512x128, extractStridedSlice S512x128 ![0, 0] (dot0 xc w0) slices_S512x256_o0_0_S512x128⟩,
     ⟨S512x128, extractStridedSlice S512x128 ![0, 0] (dot1 xc w1) slices_S512x256_o0_0_S512x128⟩,
     ⟨S512x128, extractStridedSlice S512x128 ![0, 0] (dot2 xc w2) slices_S512x256_o0_0_S512x128⟩,
     ⟨S512x128, extractStridedSlice S512x128 ![0, 0] (dot3 xc w3) slices_S512x256_o0_0_S512x128⟩]
    concatenates_S512x128_S512x128_S512x128_S512x128_S512x512_d1)
    (broadcastTo S512x512 (shapeCast S1x512 ba shapeCasts_S1x512_S1x512) broadcasts_S1x512_S512x512))

/-- Four times the softplus of the negated parameter. -/
def fourSoft (lam : Vec F S1x512 .f32) : FVec F S1x512 .f32 :=
  have n : FVec F S1x512 .f32 := subf (broadcast S1x512 (Scalar.ofBits .f32 0x00000000#32)) (shapeCast S1x512 lam shapeCasts_S1x512_S1x512)
  mulf (broadcast S1x512 (Scalar.ofBits .f32 0x40800000#32))
    (addf (maximumf n (broadcast S1x512 (Scalar.ofBits .f32 0x00000000#32)))
      (log1p (exp (subf (broadcast S1x512 (Scalar.ofBits .f32 0x00000000#32)) (absf n)))))

/-- The negated logarithm of the decay. -/
def nlog (xc : FVec F S512x512 .f32) (w0 w1 w2 w3 : Vec F S1x128x256 .bf16) (ba lam : Vec F S1x512 .f32) : FVec F S512x512 .f32 :=
  mulf (addf (gateR xc w0 w1 w2 w3 ba) (broadcast S512x512 (Scalar.ofBits .f32 0x3F800000#32))) (broadcastTo S512x512 (fourSoft lam) broadcasts_S1x512_S512x512)

/-- The added terms after the doubling steps, from the convolution, the input gate and the negated logarithm. -/
def addedOf (xc gi n : FVec F S512x512 .f32) : FVec F S64x8x512 .f32 :=
  k0_pay28 rows (k0_pay24 rows xc gi n k0_pay21) (k0_pay25 rows n k0_pay21) (k0_pay26 rows n k0_pay21) 2#32

/-- The factors after the doubling steps. -/
def factorOf (n : FVec F S512x512 .f32) : FVec F S64x8x512 .f32 := k0_pay29 rows (k0_pay25 rows n k0_pay21) (k0_pay26 rows n k0_pay21)

section
variable (x0 : Vec F S1x512x512 .f32) (x2 : Vec F S4x512 .f32) (x3 : Vec F S1x512 .f32) (w0 w1 w2 w3 : Vec F S1x128x256 .bf16)
  (x5 x6 x7 : Vec F S1x512 .f32) (tail : Vec F S8x512 .f32) (carry : Vec F S1x512 .f32)

/-- The added terms of a block. -/
def added : FVec F S64x8x512 .f32 :=
  addedOf (conv x0 tail x2 x3) (gateI (conv x0 tail x2 x3) w0 w1 w2 w3 x6) (nlog (conv x0 tail x2 x3) w0 w1 w2 w3 x5 x7)

/-- The factors of a block. -/
def factor : FVec F S64x8x512 .f32 := factorOf (nlog (conv x0 tail x2 x3) w0 w1 w2 w3 x5 x7)

/-- The states of a block, by rows. -/
def states : FVec F S512x512 .f32 := stacked (added x0 x2 x3 w0 w1 w2 w3 x5 x6 x7 tail) (factor x0 x2 x3 w0 w1 w2 w3 x5 x7 tail) carry

/-- The state after the block's last row. -/
def lastState : FVec F S1x512 .f32 :=
  k0_pay111 (group (added x0 x2 x3 w0 w1 w2 w3 x5 x6 x7 tail) (factor x0 x2 x3 w0 w1 w2 w3 x5 x7 tail) carry 63)
end

/-- A gate's weights for lane block 0, 1, 2 and 3. -/
def wAt0 (w : Vec F S4x128x256 .bf16) : Vec F S1x128x256 .bf16 := View.ld w (Rect.unit (s := S4x128x256) ![0, 0, 0] S1x128x256.size inb_S4x128x256_S1x128x256_0_0_0)
def wAt1 (w : Vec F S4x128x256 .bf16) : Vec F S1x128x256 .bf16 := View.ld w (Rect.unit (s := S4x128x256) ![1, 0, 0] S1x128x256.size inb_S4x128x256_S1x128x256_1_0_0)
def wAt2 (w : Vec F S4x128x256 .bf16) : Vec F S1x128x256 .bf16 := View.ld w (Rect.unit (s := S4x128x256) ![2, 0, 0] S1x128x256.size inb_S4x128x256_S1x128x256_2_0_0)
def wAt3 (w : Vec F S4x128x256 .bf16) : Vec F S1x128x256 .bf16 := View.ld w (Rect.unit (s := S4x128x256) ![3, 0, 0] S1x128x256.size inb_S4x128x256_S1x128x256_3_0_0)

/-- The carry the groups start from: the first row of its scratch. -/
def carryRow (s : Vec F S8x512 .f32) : Vec F S1x512 .f32 := View.ld s (Rect.unit (s := S8x512) ![0, 0] S1x512.size inb_S8x512_S1x512_0_0)

section
variable (c : Dev nD) (i : grid0.Coords)
  (a3 : Memref sig .tc .vmem S1x512x512 .f32) (h3 : a3.IsWhole) (a4 : Memref sig .tc .vmem S1x512x512 .f32) (h4 : a4.IsWhole)
  (a5 : Memref sig .tc .vmem S4x512 .f32) (h5 : a5.IsWhole) (a6 : Memref sig .tc .vmem S1x512 .f32) (h6 : a6.IsWhole)
  (a7 : Memref sig .tc .vmem S4x128x256 .bf16) (h7 : a7.IsWhole) (a8 : Memref sig .tc .vmem S1x512 .f32) (h8 : a8.IsWhole)
  (a9 : Memref sig .tc .vmem S1x512 .f32) (h9 : a9.IsWhole) (a10 : Memref sig .tc .vmem S1x512 .f32) (h10 : a10.IsWhole)
  (a11 : Memref sig .tc .vmem S1x512x512 .bf16) (h11 : a11.IsWhole) (a12 : Memref sig .tc .vmem S8x512 .f32) (h12 : a12.IsWhole)
  (a13 : Memref sig .tc .vmem S8x512 .f32) (h13 : a13.IsWhole)
  (x0 x1 : Vec F S1x512x512 .f32) (x2 : Vec F S4x512 .f32) (x3 : Vec F S1x512 .f32) (x4 : Vec F S4x128x256 .bf16)
  (x5 x6 x7 : Vec F S1x512 .f32) (tail carry : Vec F S8x512 .f32)

section
variable (x0 : Vec F S1x512x512 .f32) (x2 : Vec F S4x512 .f32) (x3 : Vec F S1x512 .f32) (x4 : Vec F S4x128x256 .bf16)
  (x5 x6 x7 : Vec F S1x512 .f32) (tail carry : Vec F S8x512 .f32)

/-- What a later block of rows loads. -/
def in3 : Vec F S1x512x512 .f32 := a3.view.readAt (Elt F) (Rect.unit (s := S1x512x512) ![0, 0, 0] S1x512x512.size inb_S1x512x512_S1x512x512_0_0_0).toLoadRect (h3.unread x0)
def in5 : Vec F S4x512 .f32 := a5.view.readAt (Elt F) (Rect.unit (s := S4x512) ![0, 0] S4x512.size inb_S4x512_S4x512_0_0).toLoadRect (h5.unread x2)
def in6 : Vec F S1x512 .f32 := a6.view.readAt (Elt F) (Rect.unit (s := S1x512) ![0, 0] S1x512.size inb_S1x512_S1x512_0_0).toLoadRect (h6.unread x3)
def in70 : Vec F S1x128x256 .bf16 := a7.view.readAt (Elt F) (Rect.unit (s := S4x128x256) ![0, 0, 0] S1x128x256.size inb_S4x128x256_S1x128x256_0_0_0).toLoadRect (h7.unread x4)
def in71 : Vec F S1x128x256 .bf16 := a7.view.readAt (Elt F) (Rect.unit (s := S4x128x256) ![1, 0, 0] S1x128x256.size inb_S4x128x256_S1x128x256_1_0_0).toLoadRect (h7.unread x4)
def in72 : Vec F S1x128x256 .bf16 := a7.view.readAt (Elt F) (Rect.unit (s := S4x128x256) ![2, 0, 0] S1x128x256.size inb_S4x128x256_S1x128x256_2_0_0).toLoadRect (h7.unread x4)
def in73 : Vec F S1x128x256 .bf16 := a7.view.readAt (Elt F) (Rect.unit (s := S4x128x256) ![3, 0, 0] S1x128x256.size inb_S4x128x256_S1x128x256_3_0_0).toLoadRect (h7.unread x4)
def in8 : Vec F S1x512 .f32 := a8.view.readAt (Elt F) (Rect.unit (s := S1x512) ![0, 0] S1x512.size inb_S1x512_S1x512_0_0).toLoadRect (h8.unread x5)
def in9 : Vec F S1x512 .f32 := a9.view.readAt (Elt F) (Rect.unit (s := S1x512) ![0, 0] S1x512.size inb_S1x512_S1x512_0_0).toLoadRect (h9.unread x6)
def in10 : Vec F S1x512 .f32 := a10.view.readAt (Elt F) (Rect.unit (s := S1x512) ![0, 0] S1x512.size inb_S1x512_S1x512_0_0).toLoadRect (h10.unread x7)
def in12 : Vec F S8x512 .f32 := a12.view.readAt (Elt F) (Rect.unit (s := S8x512) ![0, 0] S8x512.size inb_S8x512_S8x512_0_0).toLoadRect (h12.unread tail)
def in13 : Vec F S1x512 .f32 := a13.view.readAt (Elt F) (Rect.unit (s := S8x512) ![0, 0] S1x512.size inb_S8x512_S1x512_0_0).toLoadRect (h13.unread carry)

theorem in3_eq : in3 a3 h3 x0 = x0 := by unfold in3; rw [View.readAt_eq_ld, h3.read_unread, View.ld_unit_zero (S := S1x512x512) hz3]
theorem in5_eq : in5 a5 h5 x2 = x2 := by unfold in5; rw [View.readAt_eq_ld, h5.read_unread, View.ld_unit_zero (S := S4x512) hz]
theorem in6_eq : in6 a6 h6 x3 = x3 := by unfold in6; rw [View.readAt_eq_ld, h6.read_unread, View.ld_unit_zero (S := S1x512) hz]
theorem in8_eq : in8 a8 h8 x5 = x5 := by unfold in8; rw [View.readAt_eq_ld, h8.read_unread, View.ld_unit_zero (S := S1x512) hz]
theorem in9_eq : in9 a9 h9 x6 = x6 := by unfold in9; rw [View.readAt_eq_ld, h9.read_unread, View.ld_unit_zero (S := S1x512) hz]
theorem in10_eq : in10 a10 h10 x7 = x7 := by unfold in10; rw [View.readAt_eq_ld, h10.read_unread, View.ld_unit_zero (S := S1x512) hz]
theorem in12_eq : in12 a12 h12 tail = tail := by unfold in12; rw [View.readAt_eq_ld, h12.read_unread, View.ld_unit_zero (S := S8x512) hz]
theorem in70_eq : in70 a7 h7 x4 = wAt0 x4 := by unfold in70 wAt0; rw [View.readAt_eq_ld, h7.read_unread]
theorem in71_eq : in71 a7 h7 x4 = wAt1 x4 := by unfold in71 wAt1; rw [View.readAt_eq_ld, h7.read_unread]
theorem in72_eq : in72 a7 h7 x4 = wAt2 x4 := by unfold in72 wAt2; rw [View.readAt_eq_ld, h7.read_unread]
theorem in73_eq : in73 a7 h7 x4 = wAt3 x4 := by unfold in73 wAt3; rw [View.readAt_eq_ld, h7.read_unread]
theorem in13_eq : in13 a13 h13 carry = carryRow carry := by unfold in13 carryRow; rw [View.readAt_eq_ld, h13.read_unread]

set_option maxRecDepth 65536 in
theorem conv_word : kernelRun0_B.sl.v68 c a3 h3 a5 h5 a6 h6 a12 h12 x0 x2 x3 tail
    = conv (in3 a3 h3 x0) (in12 a12 h12 tail) (in5 a5 h5 x2) (in6 a6 h6 x3) := rfl

set_option maxRecDepth 65536 in
set_option maxHeartbeats 4000000 in
theorem states_word : kernelRun0_B.sl.v713 c a3 h3 a5 h5 a6 h6 a7 h7 a8 h8 a9 h9 a10 h10 a12 h12 a13 h13 x0 x2 x3 x4 x5 x6 x7 tail carry
    = states (in3 a3 h3 x0) (in5 a5 h5 x2) (in6 a6 h6 x3) (in70 a7 h7 x4) (in71 a7 h7 x4) (in72 a7 h7 x4) (in73 a7 h7 x4) (in8 a8 h8 x5) (in9 a9 h9 x6) (in10 a10 h10 x7) (in12 a12 h12 tail) (in13 a13 h13 carry) := rfl

set_option maxRecDepth 65536 in
set_option maxHeartbeats 4000000 in
theorem last_word : k0_pay111 (kernelRun0_B.sl.v708 c a3 h3 a5 h5 a6 h6 a7 h7 a8 h8 a9 h9 a10 h10 a12 h12 a13 h13 x0 x2 x3 x4 x5 x6 x7 tail carry)
    = lastState (in3 a3 h3 x0) (in5 a5 h5 x2) (in6 a6 h6 x3) (in70 a7 h7 x4) (in71 a7 h7 x4) (in72 a7 h7 x4) (in73 a7 h7 x4) (in8 a8 h8 x5) (in9 a9 h9 x6) (in10 a10 h10 x7) (in12 a12 h12 tail) (in13 a13 h13 carry) := rfl

/-- What a first block of rows loads of the two scratches it has just filled. -/
def in12z : Vec F S8x512 .f32 := a12.view.readCov (kernelRun0_A.sl.HS0_1 (F := F)) (Rect.unit (s := S8x512) ![0, 0] S8x512.size inb_S8x512_S8x512_0_0).toLoadRect
def in13z : Vec F S1x512 .f32 := a13.view.readCov (kernelRun0_A.sl.HS0_1 (F := F)) (Rect.unit (s := S8x512) ![0, 0] S1x512.size inb_S8x512_S1x512_0_0).toLoadRect

theorem in12z_eq : in12z (F := F) a12 = k0_pay1 := by
  unfold in12z kernelRun0_A.sl.HS0_1
  exact (View.readCov_fill (s := S8x512) (Val := Elt F) a12.view (off := ![0, 0]) _ _ _ _ (fun a => congrFun hz a)).trans (View.ld_unit_zero (S := S8x512) hz _ _)

theorem in13z_eq : in13z (F := F) a13 = carryRow k0_pay2 := by
  unfold in13z kernelRun0_A.sl.HS0_1
  exact View.readCov_fill (s := S8x512) (Val := Elt F) a13.view (off := ![0, 0]) _ _ _ _ (fun a => congrFun hz a)

set_option maxRecDepth 65536 in
set_option maxHeartbeats 4000000 in
theorem states_word_first : kernelRun0_A.sl.v713 c a3 h3 a5 h5 a6 h6 a7 h7 a8 h8 a9 h9 a10 h10 a12 a13 x0 x2 x3 x4 x5 x6 x7
    = states (in3 a3 h3 x0) (in5 a5 h5 x2) (in6 a6 h6 x3) (in70 a7 h7 x4) (in71 a7 h7 x4) (in72 a7 h7 x4) (in73 a7 h7 x4) (in8 a8 h8 x5) (in9 a9 h9 x6) (in10 a10 h10 x7) (in12z a12) (in13z a13) := rfl

set_option maxRecDepth 65536 in
set_option maxHeartbeats 4000000 in
theorem last_word_first : k0_pay111 (kernelRun0_A.sl.v708 c a3 h3 a5 h5 a6 h6 a7 h7 a8 h8 a9 h9 a10 h10 a12 a13 x0 x2 x3 x4 x5 x6 x7)
    = lastState (in3 a3 h3 x0) (in5 a5 h5 x2) (in6 a6 h6 x3) (in70 a7 h7 x4) (in71 a7 h7 x4) (in72 a7 h7 x4) (in73 a7 h7 x4) (in8 a8 h8 x5) (in9 a9 h9 x6) (in10 a10 h10 x7) (in12z a12) (in13z a13) := rfl
end

theorem tail_later (hc : ¬cond0_0 i) :
    sout0_B_0 c i a3 h3 a4 h4 a5 h5 a6 h6 a7 h7 a8 h8 a9 h9 a10 h10 a11 h11 a12 h12 a13 h13 hc x0 x1 x2 x3 x4 x5 x6 x7 tail carry
      = k0_pay5 x0 := by
  unfold sout0_B_0
  rw [View.read_writes_eq_canon _ _ _ (scover0_B_0 c i a3 h3 a4 h4 a5 h5 a6 h6 a7 h7 a8 h8 a9 h9 a10 h10 a11 h11 a12 h12 a13 h13 hc x0 x1 x2 x3 x4 x5 x6 x7 tail carry)]
  unfold kernelRun0_B
  dsimp only
  sl_unfold_words
  rw [View.canon_unit_zero hz]
  simp only [View.readAt_eq_ld, h3.read_unread, View.ld_unit_zero (S := S1x512x512) hz3]
  rfl

set_option maxRecDepth 65536 in
set_option maxHeartbeats 4000000 in
theorem result_later (hc : ¬cond0_0 i) :
    out0_B_8 c i a3 h3 a4 h4 a5 h5 a6 h6 a7 h7 a8 h8 a9 h9 a10 h10 a11 h11 a12 h12 a13 h13 hc x0 x1 x2 x3 x4 x5 x6 x7 tail carry
      = k0_pay112 (states x0 x2 x3 (wAt0 x4) (wAt1 x4) (wAt2 x4) (wAt3 x4) x5 x6 x7 tail (carryRow carry)) x1 := by
  unfold out0_B_8
  rw [View.read_writes_eq_canon _ _ _ (cover0_B_8 c i a3 h3 a4 h4 a5 h5 a6 h6 a7 h7 a8 h8 a9 h9 a10 h10 a11 h11 a12 h12 a13 h13 hc x0 x1 x2 x3 x4 x5 x6 x7 tail carry)]
  unfold kernelRun0_B
  dsimp only
  rw [View.canon_unit_zero hz3, states_word, in3_eq, in5_eq, in6_eq, in70_eq, in71_eq, in72_eq, in73_eq, in8_eq, in9_eq, in10_eq, in12_eq, in13_eq]
  simp only [View.readAt_eq_ld, h4.read_unread, View.ld_unit_zero (S := S1x512x512) hz3]

theorem row_written (s : Vec F S8x512 .f32) (v : FVec F S1x512 .f32) :
    carryRow (a13.view.read (Elt F) (a13.view.writes (Elt F) (h13.unread s) [⟨Rect.unit (s := S8x512) ![0, 0] S1x512.size inb_S8x512_S1x512_0_0, v⟩])) = v := by
  funext x
  show a13.view.read (Elt F) (a13.view.writes (Elt F) (h13.unread s) [⟨Rect.unit (s := S8x512) ![0, 0] S1x512.size inb_S8x512_S1x512_0_0, v⟩]) ((Rect.unit (s := S8x512) ![0, 0] S1x512.size inb_S8x512_S1x512_0_0).emb x) = v x
  exact View.read_writes_cons_emb (Val := Elt F) a13.view (h13.unread s) (Rect.unit (s := S8x512) ![0, 0] S1x512.size inb_S8x512_S1x512_0_0) v [] x

theorem carryRow_apply (s : Vec F S8x512 .f32) (x : S1x512.Idx) : carryRow s x = s ((Rect.unit (s := S8x512) ![0, 0] S1x512.size inb_S8x512_S1x512_0_0).emb x) := rfl

theorem row_written_first (L : List (View.Piece (Elt F) S8x512 .f32)) (v : FVec F S1x512 .f32) (x : S1x512.Idx) :
    View.canon ((⟨Rect.unit (s := S8x512) ![0, 0] S1x512.size inb_S8x512_S1x512_0_0, v⟩ : View.Piece (Elt F) S8x512 .f32) :: L) ((Rect.unit (s := S8x512) ![0, 0] S1x512.size inb_S8x512_S1x512_0_0).emb x) = v x := by
  rw [View.canon_cons]
  exact (Rect.unit (s := S8x512) ![0, 0] S1x512.size inb_S8x512_S1x512_0_0).overlay_emb _ _ x

theorem carry_later (hc : ¬cond0_0 i) :
    carryRow (sout0_B_1 c i a3 h3 a4 h4 a5 h5 a6 h6 a7 h7 a8 h8 a9 h9 a10 h10 a11 h11 a12 h12 a13 h13 hc x0 x1 x2 x3 x4 x5 x6 x7 tail carry)
      = lastState x0 x2 x3 (wAt0 x4) (wAt1 x4) (wAt2 x4) (wAt3 x4) x5 x6 x7 tail (carryRow carry) := by
  unfold sout0_B_1
  unfold kernelRun0_B
  dsimp only
  have e := last_word c a3 h3 a5 h5 a6 h6 a7 h7 a8 h8 a9 h9 a10 h10 a12 h12 a13 h13 x0 x2 x3 x4 x5 x6 x7 tail carry
  rw [in3_eq, in5_eq, in6_eq, in70_eq, in71_eq, in72_eq, in73_eq, in8_eq, in9_eq, in10_eq, in12_eq, in13_eq] at e
  exact (row_written a13 h13 carry _).trans e

theorem tail_first (hc : cond0_0 i) : sout0_A_0 c i a3 h3 a4 h4 a5 h5 a6 h6 a7 h7 a8 h8 a9 h9 a10 h10 a11 h11 a12 h12 a13 h13 hc x0 x1 x2 x3 x4 x5 x6 x7 = k0_pay5 x0 := by
  unfold sout0_A_0
  rw [View.read_writes_eq_canon _ _ _ (scover0_A_0 c i a3 h3 a4 h4 a5 h5 a6 h6 a7 h7 a8 h8 a9 h9 a10 h10 a11 h11 a12 h12 a13 h13 hc x0 x1 x2 x3 x4 x5 x6 x7)]
  unfold kernelRun0_A
  dsimp only
  rw [View.canon_cons_unit_zero hz]
  exact (rfl : _ = k0_pay5 (in3 a3 h3 x0)).trans (by rw [in3_eq])

theorem carry_first (hc : cond0_0 i) :
    carryRow (sout0_A_1 c i a3 h3 a4 h4 a5 h5 a6 h6 a7 h7 a8 h8 a9 h9 a10 h10 a11 h11 a12 h12 a13 h13 hc x0 x1 x2 x3 x4 x5 x6 x7) = lastState x0 x2 x3 (wAt0 x4) (wAt1 x4) (wAt2 x4) (wAt3 x4) x5 x6 x7 k0_pay1 (carryRow k0_pay2) := by
  unfold sout0_A_1
  rw [View.read_writes_eq_canon _ _ _ (scover0_A_1 c i a3 h3 a4 h4 a5 h5 a6 h6 a7 h7 a8 h8 a9 h9 a10 h10 a11 h11 a12 h12 a13 h13 hc x0 x1 x2 x3 x4 x5 x6 x7)]
  unfold kernelRun0_A
  dsimp only
  have e := last_word_first c a3 h3 a5 h5 a6 h6 a7 h7 a8 h8 a9 h9 a10 h10 a12 a13 x0 x2 x3 x4 x5 x6 x7
  rw [in3_eq, in5_eq, in6_eq, in70_eq, in71_eq, in72_eq, in73_eq, in8_eq, in9_eq, in10_eq, in12z_eq, in13z_eq] at e
  refine Eq.trans (funext fun x => ?_) e
  rw [carryRow_apply]
  exact row_written_first _ _ x

theorem result_first (hc : cond0_0 i) :
    out0_A_8 c i a3 h3 a4 h4 a5 h5 a6 h6 a7 h7 a8 h8 a9 h9 a10 h10 a11 h11 a12 h12 a13 h13 hc x0 x1 x2 x3 x4 x5 x6 x7 = k0_pay112 (states x0 x2 x3 (wAt0 x4) (wAt1 x4) (wAt2 x4) (wAt3 x4) x5 x6 x7 k0_pay1 (carryRow k0_pay2)) x1 := by
  unfold out0_A_8
  rw [View.read_writes_eq_canon _ _ _ (cover0_A_8 c i a3 h3 a4 h4 a5 h5 a6 h6 a7 h7 a8 h8 a9 h9 a10 h10 a11 h11 a12 h12 a13 h13 hc x0 x1 x2 x3 x4 x5 x6 x7)]
  unfold kernelRun0_A
  dsimp only
  rw [View.canon_unit_zero hz3, states_word_first, in3_eq, in5_eq, in6_eq, in70_eq, in71_eq, in72_eq, in73_eq, in8_eq, in9_eq, in10_eq, in12z_eq, in13z_eq]
  simp only [View.readAt_eq_ld, h4.read_unread, View.ld_unit_zero (S := S1x512x512) hz3]

end

end Cert.RglruIdeal.Recur

end
-- ==== Proof.Rglru.Block.lean ====
/- A grid point's block at a row and a lane: the convolution, the gates and the recurrence. -/
module

public import proofs.«01_k».proof.Proof.Rglru.Runs
public import proofs.«01_k».proof.Proof.Rglru.Affine
public import proofs.«01_k».proof.Proof.Rglru.Scalars
public import Idealize.ShloMosaic.Lib.Pointwise
public import Idealize.ShloMosaic.Lib.KernelVsHost

@[expose] public section

noncomputable section

namespace Cert.RglruIdeal.Recur

open Cert.RglruIdeal Cert.RglruIdeal.Gen Idealize.ShloMosaic Idealize.ShloMosaic.TcCoe Idealize.SL.Sem

/-- Rows at or after `d` from `x`, the others from `y`. -/
def keepFrom (d : BitVec 32) (x y : FVec Ideal S64x8x512 .f32) : FVec Ideal S64x8x512 .f32 :=
  select (broadcastTo S64x8x512 (shapeCast S1x8x512 (cmpi .sge rows (broadcast S1x8x512 d)) shapeCasts_S1x8x512_S1x8x512) broadcasts_S1x8x512_S64x8x512) x y

theorem keepFrom_apply (D : ℕ) (hd : D < 8) (x y : FVec Ideal S64x8x512 .f32) (k : Fin 64) (s : Fin 8) (l : Fin 512) :
    keepFrom (BitVec.ofNat 32 D) x y (ix3 k s l) = if D ≤ s.val then x (ix3 k s l) else y (ix3 k s l) := by
  pointwise [keepFrom, rows]
  have h : IntOp.cmpi .sge (BitVec.ofNat 32 s.val) (BitVec.ofNat 32 D) = if D ≤ s.val then 1#1 else 0#1 := by
    interval_cases D <;> fin_cases s <;> rfl
  rw [h]
  by_cases hs : D ≤ s.val
  · rw [if_pos hs, if_pos hs]; rfl
  · rw [if_neg hs, if_neg hs]; rfl

theorem rot_apply (D : ℕ) (hd : D < 8) (x : FVec Ideal S64x8x512 .f32) (k : Fin 64) (s : Fin 8) (l : Fin 512) :
    dynamicRotate 1 (BitVec.ofNat 32 D) none x rotates_S64x8x512_d1 (ix3 k s l) = x (ix3 k ⟨(s.val + 8 - D) % 8, Nat.mod_lt _ (by decide)⟩ l) := by
  pointwise
  have h : (BitVec.ofNat 32 D).toNat % 8 = D := by interval_cases D <;> rfl
  simp only [h]

theorem rot2_apply (D : ℕ) (hd : D < 8) (x : FVec Ideal S8x512 .f32) (s : Fin 8) (l : Fin 512) :
    dynamicRotate 0 (BitVec.ofNat 32 D) none x rotates_S8x512_d0 (ix2 s l) = x (ix2 ⟨(s.val + 8 - D) % 8, Nat.mod_lt _ (by decide)⟩ l) := by
  pointwise
  have h : (BitVec.ofNat 32 D).toNat % 8 = D := by interval_cases D <;> rfl
  simp only [h]

/-- A lane of a group, by rows. -/
def col (v : FVec Ideal S64x8x512 .f32) (k : Fin 64) (l : Fin 512) (r : ℕ) : EReal := v (ix3 k ⟨r % 8, Nat.mod_lt _ (by decide)⟩ l)

theorem col_eq (v : FVec Ideal S64x8x512 .f32) (k : Fin 64) (l : Fin 512) (r : ℕ) (s : Fin 8) (h : r % 8 = s.val) : col v k l r = v (ix3 k s l) := by
  unfold col
  congr 2
  exact Fin.ext h

/-- The kernel's doubling steps on the factors and on the added terms. -/
def stepA (d : BitVec 32) (a : FVec Ideal S64x8x512 .f32) : FVec Ideal S64x8x512 .f32 :=
  mulf a (keepFrom d (dynamicRotate 1 d none a rotates_S64x8x512_d1) (broadcast S64x8x512 (Scalar.ofBits .f32 0x3F800000#32)))

def stepU (d : BitVec 32) (a u : FVec Ideal S64x8x512 .f32) : FVec Ideal S64x8x512 .f32 :=
  addf (mulf a (keepFrom d (dynamicRotate 1 d none u rotates_S64x8x512_d1) (broadcast S64x8x512 (Scalar.ofBits .f32 0x00000000#32)))) u

theorem dblA_congr {d : ℕ} {a a' : ℕ → EReal} (r : ℕ) (h : ∀ i, i ≤ r → a i = a' i) : dblA d a r = dblA d a' r := by
  unfold dblA
  rw [h r le_rfl, h (r - d) (Nat.sub_le _ _)]

theorem dblU_congr {d : ℕ} {a a' u u' : ℕ → EReal} (r : ℕ) (h : ∀ i, i ≤ r → a i = a' i) (h' : ∀ i, i ≤ r → u i = u' i) :
    dblU d a u r = dblU d a' u' r := by
  unfold dblU
  rw [h r le_rfl, h' r le_rfl, h' (r - d) (Nat.sub_le _ _)]

theorem stepA_col (D : ℕ) (hd : D < 8) (a : FVec Ideal S64x8x512 .f32) (k : Fin 64) (l : Fin 512) (r : ℕ) (hr : r < 8) :
    col (stepA (BitVec.ofNat 32 D) a) k l r = dblA D (col a k l) r := by
  rw [col_eq _ k l r ⟨r, hr⟩ (Nat.mod_eq_of_lt hr)]
  show a (ix3 k ⟨r, hr⟩ l) * keepFrom _ _ _ (ix3 k ⟨r, hr⟩ l) = _
  rw [keepFrom_apply D hd, rot_apply D hd]
  unfold dblA
  rw [col_eq a k l r ⟨r, hr⟩ (Nat.mod_eq_of_lt hr)]
  by_cases h : D ≤ r
  · rw [if_pos h, if_pos h, col_eq a k l (r - D) ⟨(r + 8 - D) % 8, Nat.mod_lt _ (by decide)⟩ (by show (r - D) % 8 = (r + 8 - D) % 8; omega)]
  · rw [if_neg h, if_neg h]
    congr 1
    exact one_f32

theorem stepU_col (D : ℕ) (hd : D < 8) (a u : FVec Ideal S64x8x512 .f32) (k : Fin 64) (l : Fin 512) (r : ℕ) (hr : r < 8) :
    col (stepU (BitVec.ofNat 32 D) a u) k l r = dblU D (col a k l) (col u k l) r := by
  rw [col_eq _ k l r ⟨r, hr⟩ (Nat.mod_eq_of_lt hr)]
  show a (ix3 k ⟨r, hr⟩ l) * keepFrom _ _ _ (ix3 k ⟨r, hr⟩ l) + u (ix3 k ⟨r, hr⟩ l) = _
  rw [keepFrom_apply D hd, rot_apply D hd]
  unfold dblU
  rw [col_eq a k l r ⟨r, hr⟩ (Nat.mod_eq_of_lt hr), col_eq u k l r ⟨r, hr⟩ (Nat.mod_eq_of_lt hr)]
  by_cases h : D ≤ r
  · rw [if_pos h, if_pos h, col_eq u k l (r - D) ⟨(r + 8 - D) % 8, Nat.mod_lt _ (by decide)⟩ (by show (r - D) % 8 = (r + 8 - D) % 8; omega)]
  · rw [if_neg h, if_neg h]
    congr 2
    show Ideal.ofBits .f32 0x00000000#32 = 0
    simp [Ideal.ofBits, Ideal.ieee]

/-- The decay of a block. -/
def decay (n : FVec Ideal S512x512 .f32) : FVec Ideal S512x512 .f32 := k0_pay22 n k0_pay21

/-- What a block adds at each row. -/
def addend (xc gi n : FVec Ideal S512x512 .f32) : FVec Ideal S512x512 .f32 :=
  have m2 : FVec Ideal S512x512 .f32 := mulf (tanh n) (addf (mulf (decay n) (decay n)) (broadcast S512x512 (Scalar.ofBits .f32 0x3F800000#32)))
  mulf (select (cmpf .ogt m2 (broadcast S512x512 (Scalar.ofBits .f32 0x00000000#32))) (mulf m2 (rsqrt m2)) (broadcast S512x512 (Scalar.ofBits .f32 0x00000000#32)))
    (mulf (addf (mulf (broadcast S512x512 (Scalar.ofBits .f32 0x3F000000#32)) gi) (broadcast S512x512 (Scalar.ofBits .f32 0x3F000000#32))) xc)

def decay3 (n : FVec Ideal S512x512 .f32) : FVec Ideal S64x8x512 .f32 := shapeCast S64x8x512 (decay n) shapeCasts_S512x512_S64x8x512
def addend3 (xc gi n : FVec Ideal S512x512 .f32) : FVec Ideal S64x8x512 .f32 := shapeCast S64x8x512 (addend xc gi n) shapeCasts_S512x512_S64x8x512

theorem addedOf_eq (xc gi n : FVec Ideal S512x512 .f32) :
    addedOf xc gi n = stepU 4#32 (stepA 2#32 (stepA 1#32 (decay3 n))) (stepU 2#32 (stepA 1#32 (decay3 n)) (stepU 1#32 (decay3 n) (addend3 xc gi n))) := rfl

theorem factorOf_eq (n : FVec Ideal S512x512 .f32) : factorOf n = stepA 4#32 (stepA 2#32 (stepA 1#32 (decay3 n))) := rfl

theorem addedOf_col (xc gi n : FVec Ideal S512x512 .f32) (k : Fin 64) (l : Fin 512) (r : ℕ) (hr : r < 8) :
    col (addedOf xc gi n) k l r = dblU 4 (dblA 2 (dblA 1 (col (decay3 n) k l)))
      (dblU 2 (dblA 1 (col (decay3 n) k l)) (dblU 1 (col (decay3 n) k l) (col (addend3 xc gi n) k l))) r := by
  rw [addedOf_eq]
  have a1 : ∀ i, i ≤ r → col (stepA 1#32 (decay3 n)) k l i = dblA 1 (col (decay3 n) k l) i :=
    fun i hi => stepA_col 1 (by decide) _ k l i (by omega)
  have a2 : ∀ i, i ≤ r → col (stepA 2#32 (stepA 1#32 (decay3 n))) k l i = dblA 2 (dblA 1 (col (decay3 n) k l)) i :=
    fun i hi => (stepA_col 2 (by decide) _ k l i (by omega)).trans (dblA_congr i fun j hj => a1 j (by omega))
  have u1 : ∀ i, i ≤ r → col (stepU 1#32 (decay3 n) (addend3 xc gi n)) k l i = dblU 1 (col (decay3 n) k l) (col (addend3 xc gi n) k l) i :=
    fun i hi => stepU_col 1 (by decide) _ _ k l i (by omega)
  refine (stepU_col 4 (by decide) _ _ k l r hr).trans (dblU_congr r a2 fun i hi => ?_)
  exact (stepU_col 2 (by decide) _ _ k l i (by omega)).trans (dblU_congr i (fun j hj => a1 j (by omega)) fun j hj => u1 j (by omega))

theorem factorOf_col (n : FVec Ideal S512x512 .f32) (k : Fin 64) (l : Fin 512) (r : ℕ) (hr : r < 8) :
    col (factorOf n) k l r = dblA 4 (dblA 2 (dblA 1 (col (decay3 n) k l))) r := by
  rw [factorOf_eq]
  have a1 : ∀ i, i ≤ r → col (stepA 1#32 (decay3 n)) k l i = dblA 1 (col (decay3 n) k l) i :=
    fun i hi => stepA_col 1 (by decide) _ k l i (by omega)
  have a2 : ∀ i, i ≤ r → col (stepA 2#32 (stepA 1#32 (decay3 n))) k l i = dblA 2 (dblA 1 (col (decay3 n) k l)) i :=
    fun i hi => (stepA_col 2 (by decide) _ k l i (by omega)).trans (dblA_congr i fun j hj => a1 j (by omega))
  exact (stepA_col 4 (by decide) _ k l r hr).trans (dblA_congr r a2)

/-- A lane of a block, by rows. -/
def lane (v : FVec Ideal S512x512 .f32) (l : Fin 512) (r : ℕ) : EReal := v (ix2 ⟨r % 512, Nat.mod_lt _ (by decide)⟩ l)

theorem groups_at (v : FVec Ideal S512x512 .f32) (k : Fin 64) (l : Fin 512) (r : ℕ) (hr : r < 8) :
    col (shapeCast S64x8x512 v shapeCasts_S512x512_S64x8x512) k l r = lane v l (8 * k.val + r) := by
  unfold col lane
  refine shapeCast_apply v _ _ _ ?_
  rw [Shape.rowMajor_val_two, Shape.rowMajor_val_three]
  show (8 * k.val + r) % 512 * 512 + l.val = (k.val * 8 + r % 8) * 512 + l.val
  have := k.isLt
  omega

/-- A group at a row and a lane. -/
theorem step_apply (b a : FVec Ideal S64x8x512 .f32) (k : ℕ) (hk : k < 64) (c : FVec Ideal S1x512 .f32) (s : Fin 8) (l : Fin 512) :
    step b a k c (ix2 s l) = col b ⟨k, hk⟩ l s.val + col a ⟨k, hk⟩ l s.val * c (ix2 (0 : Fin 1) l) := by
  have e : ∀ v : FVec Ideal S64x8x512 .f32, slab v k (ix2 s l) = col v ⟨k, hk⟩ l s.val := by
    intro v
    rw [col_eq v ⟨k, hk⟩ l s.val s (Nat.mod_eq_of_lt s.isLt)]
    unfold slab
    refine (shapeCast_apply _ _ (ix2 s l) (ix3 (0 : Fin 1) s l) ?_).trans ?_
    · rw [Shape.rowMajor_val_two, Shape.rowMajor_val_three]
      show (0 * 8 + s.val) * 512 + l.val = s.val * 512 + l.val
      omega
    · refine extractStridedSlice_apply _ _ _ _ (ix3 (⟨k, hk⟩ : Fin 64) s l) ?_
      intro x
      fin_cases x
      · show k = k % 64 + 0; omega
      · show s.val = 0 + s.val; omega
      · show l.val = 0 + l.val; omega
  show slab b k (ix2 s l) + slab a k (ix2 s l) * broadcastTo S8x512 c broadcasts_S1x512_S8x512 (ix2 s l) = _
  rw [e, e]
  congr 2
  pointwise

theorem lastRow_apply (v : FVec Ideal S8x512 .f32) (l : Fin 512) : lastRow v (ix2 (0 : Fin 1) l) = v (ix2 (7 : Fin 8) l) := by
  pointwise [lastRow]

/-- The groups' rows are the recurrence. -/
theorem group_apply (xc gi n : FVec Ideal S512x512 .f32) (hf : ∀ r l, ∃ α : ℝ, 0 ≤ α ∧ decay n (ix2 r l) = α)
    (c : FVec Ideal S1x512 .f32) (k : ℕ) (hk : k < 64) (s : Fin 8) (l : Fin 512) :
    group (addedOf xc gi n) (factorOf n) c k (ix2 s l)
      = scan (lane (decay n) l) (lane (addend xc gi n) l) (c (ix2 (0 : Fin 1) l)) (8 * k + s.val) := by
  have one : ∀ (k : ℕ) (hk : k < 64) (c : FVec Ideal S1x512 .f32) (s : Fin 8), step (addedOf xc gi n) (factorOf n) k c (ix2 s l)
      = scan (fun i => lane (decay n) l (8 * k + i)) (fun i => lane (addend xc gi n) l (8 * k + i)) (c (ix2 (0 : Fin 1) l)) s.val := by
    intro k hk c s
    rw [step_apply _ _ k hk, addedOf_col _ _ _ _ _ _ s.isLt, factorOf_col _ _ _ _ s.isLt, dbl_scan ?_ _ _ s.isLt]
    · exact scan_congr rfl _ (fun i hi => groups_at _ ⟨k, hk⟩ l i (by have := s.isLt; omega)) (fun i hi => groups_at _ ⟨k, hk⟩ l i (by have := s.isLt; omega))
    · intro r hr
      rw [decay3, groups_at _ _ _ _ hr]
      exact hf _ _
  induction k generalizing s with
  | zero =>
    refine (one 0 hk c s).trans ?_
    simp only [Nat.mul_zero, Nat.zero_add]
  | succ k ih =>
    refine (one (k + 1) hk _ s).trans ?_
    rw [lastRow_apply, ih (by omega)]
    have e : 8 * (k + 1) + s.val = 8 * k + 7 + 1 + s.val := by omega
    rw [e, scan_shift]
    rfl

theorem stacked_scan (xc gi n : FVec Ideal S512x512 .f32) (hf : ∀ r l, ∃ α : ℝ, 0 ≤ α ∧ decay n (ix2 r l) = α)
    (c : FVec Ideal S1x512 .f32) (r l : Fin 512) :
    stacked (addedOf xc gi n) (factorOf n) c (ix2 r l)
      = scan (lane (decay n) l) (lane (addend xc gi n) l) (c (ix2 (0 : Fin 1) l)) r.val := by
  rw [stacked_apply, group_apply xc gi n hf c _ (by have := r.isLt; omega)]
  congr 1
  show 8 * (r.val / 8) + r.val % 8 = r.val
  omega

theorem last_scan (xc gi n : FVec Ideal S512x512 .f32) (hf : ∀ r l, ∃ α : ℝ, 0 ≤ α ∧ decay n (ix2 r l) = α)
    (c : FVec Ideal S1x512 .f32) (l : Fin 512) :
    k0_pay111 (group (addedOf xc gi n) (factorOf n) c 63) (ix2 (0 : Fin 1) l)
      = scan (lane (decay n) l) (lane (addend xc gi n) l) (c (ix2 (0 : Fin 1) l)) 511 := by
  have e : k0_pay111 (group (addedOf xc gi n) (factorOf n) c 63) (ix2 (0 : Fin 1) l) = group (addedOf xc gi n) (factorOf n) c 63 (ix2 (7 : Fin 8) l) := by
    generalize group (addedOf xc gi n) (factorOf n) c 63 = v
    pointwise [k0_pay111]
  rw [e, group_apply xc gi n hf c 63 (by decide)]
  rfl

end Cert.RglruIdeal.Recur

end
-- ==== Proof.Rglru.ConvRows.lean ====
/- The convolution of a block at a row and a lane: the row and the three before it, those before the block's first row
   being the last rows of the block before. -/
module

public import proofs.«01_k».proof.Proof.Rglru.Block

@[expose] public section

noncomputable section

namespace Cert.RglruIdeal.Recur

open Cert.RglruIdeal Cert.RglruIdeal.Gen Idealize.ShloMosaic Idealize.ShloMosaic.TcCoe Idealize.SL.Sem

/-- The row `d` before row `r`, from the block or from the rows before it. -/
def back (x : FVec Ideal S1x512x512 .f32) (tail : FVec Ideal S8x512 .f32) (d : ℕ) (r : ℕ) (l : Fin 512) : EReal :=
  if d ≤ r then x (ix3 (0 : Fin 1) ⟨(r - d) % 512, Nat.mod_lt _ (by decide)⟩ l) else tail (ix2 ⟨(r + 8 - d) % 8, Nat.mod_lt _ (by decide)⟩ l)

/-- The rows moved back by `d`. -/
def moved (d : BitVec 32) (x : FVec Ideal S64x8x512 .f32) (tail : FVec Ideal S8x512 .f32) : FVec Ideal S64x8x512 .f32 :=
  keepFrom d (dynamicRotate 1 d none x rotates_S64x8x512_d1)
    (concatenate S64x8x512 0 [⟨S1x8x512, shapeCast S1x8x512 (dynamicRotate 0 d none tail rotates_S8x512_d0) shapeCasts_S8x512_S1x8x512⟩,
      ⟨S63x8x512, extractStridedSlice S63x8x512 ![0, 0, 0] (dynamicRotate 1 d none x rotates_S64x8x512_d1) slices_S64x8x512_o0_0_0_S63x8x512⟩]
      concatenates_S1x8x512_S63x8x512_S64x8x512_d0)

theorem cat_apply (p : FVec Ideal S8x512 .f32) (q : FVec Ideal S64x8x512 .f32) (k : Fin 64) (s : Fin 8) (l : Fin 512) :
    concatenate S64x8x512 0 [⟨S1x8x512, shapeCast S1x8x512 p shapeCasts_S8x512_S1x8x512⟩,
      ⟨S63x8x512, extractStridedSlice S63x8x512 ![0, 0, 0] q slices_S64x8x512_o0_0_0_S63x8x512⟩] concatenates_S1x8x512_S63x8x512_S64x8x512_d0 (ix3 k s l)
      = if k.val = 0 then p (ix2 s l) else q (ix3 ⟨k.val - 1, by have := k.isLt; omega⟩ s l) := by
  pointwise
  by_cases h : k.val = 0
  · rw [if_pos h, dif_pos (by omega)]
  · rw [if_neg h, dif_neg (by omega)]

theorem x3_apply (x : FVec Ideal S1x512x512 .f32) (k : Fin 64) (s : Fin 8) (l : Fin 512) :
    k0_pay4 x (ix3 k s l) = x (ix3 (0 : Fin 1) ⟨8 * k.val + s.val, by have := k.isLt; have := s.isLt; omega⟩ l) := by
  show shapeCast S64x8x512 (shapeCast S512x512 x shapeCasts_S1x512x512_S512x512) shapeCasts_S512x512_S64x8x512 (ix3 k s l) = _
  refine (shapeCast_apply _ _ _ (ix2 (⟨8 * k.val + s.val, by have := k.isLt; have := s.isLt; omega⟩ : Fin 512) l) ?_).trans
    (shapeCast_apply _ _ _ _ ?_)
  · rw [Shape.rowMajor_val_two, Shape.rowMajor_val_three]
    show (8 * k.val + s.val) * 512 + l.val = (k.val * 8 + s.val) * 512 + l.val
    omega
  · rw [Shape.rowMajor_val_two, Shape.rowMajor_val_three]
    show (0 * 512 + (8 * k.val + s.val)) * 512 + l.val = (8 * k.val + s.val) * 512 + l.val
    omega

theorem moved_apply (D : ℕ) (h0 : 0 < D) (hd : D < 8) (x : FVec Ideal S1x512x512 .f32) (tail : FVec Ideal S8x512 .f32) (k : Fin 64) (s : Fin 8) (l : Fin 512) :
    moved (BitVec.ofNat 32 D) (k0_pay4 x) tail (ix3 k s l) = back x tail D (8 * k.val + s.val) l := by
  have hk := k.isLt
  have hs := s.isLt
  unfold moved back
  rw [keepFrom_apply D hd, cat_apply, rot_apply D hd, rot2_apply D hd]
  by_cases h : D ≤ s.val
  · rw [if_pos h, if_pos (by omega), x3_apply]
    congr 2
    exact Fin.ext (by show 8 * k.val + (s.val + 8 - D) % 8 = (8 * k.val + s.val - D) % 512; omega)
  · rw [if_neg h]
    by_cases hz : k.val = 0
    · rw [if_pos hz, if_neg (by omega)]
      congr 2
      exact Fin.ext (by show (s.val + 8 - D) % 8 = (8 * k.val + s.val + 8 - D) % 8; omega)
    · rw [if_neg hz, if_pos (by omega), rot_apply D hd, x3_apply]
      congr 2
      exact Fin.ext (by show 8 * (k.val - 1) + (s.val + 8 - D) % 8 = (8 * k.val + s.val - D) % 512; omega)

/-- One tap's weight under every row. -/
def tapRow (cw : FVec Ideal S4x512 .f32) (n : ℕ) (hn : S4x512.Slices ![n, 0] S1x512) : FVec Ideal S64x8x512 .f32 :=
  broadcastTo S64x8x512 (shapeCast S1x1x512 (extractStridedSlice S1x512 ![n, 0] (shapeCast S4x512 cw shapeCasts_S4x512_S4x512) hn) shapeCasts_S1x512_S1x1x512) broadcasts_S1x1x512_S64x8x512

theorem tapRow_apply (cw : FVec Ideal S4x512 .f32) (n : ℕ) (h4 : n < 4) (hn : S4x512.Slices ![n, 0] S1x512) (k : Fin 64) (s : Fin 8) (l : Fin 512) :
    tapRow cw n hn (ix3 k s l) = cw (ix2 ⟨n, h4⟩ l) := by
  unfold tapRow
  pointwise

theorem biasRow_apply (cb : FVec Ideal S1x512 .f32) (k : Fin 64) (s : Fin 8) (l : Fin 512) :
    broadcastTo S64x8x512 (shapeCast S1x1x512 (shapeCast S1x512 cb shapeCasts_S1x512_S1x512) shapeCasts_S1x512_S1x1x512) broadcasts_S1x1x512_S64x8x512 (ix3 k s l)
      = cb (ix2 (0 : Fin 1) l) := by
  pointwise

theorem conv_eq (x : FVec Ideal S1x512x512 .f32) (tail : FVec Ideal S8x512 .f32) (cw : FVec Ideal S4x512 .f32) (cb : FVec Ideal S1x512 .f32) :
    conv (F := Ideal) x tail cw cb = shapeCast S512x512
      (addf (addf (addf (addf
        (broadcastTo S64x8x512 (shapeCast S1x1x512 (shapeCast S1x512 cb shapeCasts_S1x512_S1x512) shapeCasts_S1x512_S1x1x512) broadcasts_S1x1x512_S64x8x512)
        (mulf (k0_pay4 x) (tapRow cw 3 slices_S4x512_o3_0_S1x512)))
        (mulf (moved 1#32 (k0_pay4 x) tail) (tapRow cw 2 slices_S4x512_o2_0_S1x512)))
        (mulf (moved 2#32 (k0_pay4 x) tail) (tapRow cw 1 slices_S4x512_o1_0_S1x512)))
        (mulf (moved 3#32 (k0_pay4 x) tail) (tapRow cw 0 slices_S4x512_o0_0_S1x512)))
      shapeCasts_S64x8x512_S512x512 := rfl

theorem conv_apply (x : FVec Ideal S1x512x512 .f32) (tail : FVec Ideal S8x512 .f32) (cw : FVec Ideal S4x512 .f32) (cb : FVec Ideal S1x512 .f32) (r l : Fin 512) :
    conv (F := Ideal) x tail cw cb (ix2 r l)
      = (((cb (ix2 (0 : Fin 1) l) + x (ix3 (0 : Fin 1) r l) * cw (ix2 (3 : Fin 4) l)) + back x tail 1 r.val l * cw (ix2 (2 : Fin 4) l))
          + back x tail 2 r.val l * cw (ix2 (1 : Fin 4) l)) + back x tail 3 r.val l * cw (ix2 (0 : Fin 4) l) := by
  have hr := r.isLt
  have hk : r.val / 8 < 64 := by omega
  rw [conv_eq]
  refine (shapeCast_apply _ _ _ (ix3 (⟨r.val / 8, hk⟩ : Fin 64) (⟨r.val % 8, Nat.mod_lt _ (by decide)⟩ : Fin 8) l) ?_).trans ?_
  · rw [Shape.rowMajor_val_two, Shape.rowMajor_val_three]
    show (r.val / 8 * 8 + r.val % 8) * 512 + l.val = r.val * 512 + l.val
    omega
  generalize hK : (⟨r.val / 8, hk⟩ : Fin 64) = K
  generalize hS : (⟨r.val % 8, Nat.mod_lt _ (by decide)⟩ : Fin 8) = S
  have hKS : 8 * K.val + S.val = r.val := by rw [← hK, ← hS]; show 8 * (r.val / 8) + r.val % 8 = r.val; omega
  show (((broadcastTo S64x8x512 _ _ (ix3 K S l) + k0_pay4 x (ix3 K S l) * tapRow cw 3 _ (ix3 K S l)) + moved _ _ _ (ix3 K S l) * tapRow cw 2 _ (ix3 K S l))
    + moved _ _ _ (ix3 K S l) * tapRow cw 1 _ (ix3 K S l)) + moved _ _ _ (ix3 K S l) * tapRow cw 0 _ (ix3 K S l) = _
  have hx : (⟨8 * K.val + S.val, by omega⟩ : Fin 512) = r := Fin.ext hKS
  rw [biasRow_apply, tapRow_apply cw 3 (by decide), tapRow_apply cw 2 (by decide), tapRow_apply cw 1 (by decide), tapRow_apply cw 0 (by decide),
    moved_apply 1 (by decide) (by decide), moved_apply 2 (by decide) (by decide), moved_apply 3 (by decide) (by decide), x3_apply]
  simp only [hx, hKS]
  rfl

/-- The rows kept for the next block are the block's last eight. -/
theorem keptTail_apply (x : FVec Ideal S1x512x512 .f32) (s : Fin 8) (l : Fin 512) :
    k0_pay5 (F := Ideal) x (ix2 s l) = x (ix3 (0 : Fin 1) ⟨504 + s.val, by have := s.isLt; omega⟩ l) := by
  pointwise [k0_pay5, k0_pay3]

end Cert.RglruIdeal.Recur

end
-- ==== Proof.Rglru.Gates.lean ====
/- The gates of a block at a row and a lane: a product over the lane's own 128 lanes, plus a bias, under `tanh`. -/
module

public import proofs.«01_k».proof.Proof.Rglru.ConvRows

@[expose] public section

noncomputable section

namespace Cert.RglruIdeal.Recur

open Cert.RglruIdeal Cert.RglruIdeal.Gen Idealize.ShloMosaic Idealize.ShloMosaic.TcCoe Idealize.SL.Sem

theorem gateDot_apply (xc : FVec Ideal S512x512 .f32) (n : ℕ) (hl : n < 4) (hn : S512x512.Slices ![0, 128 * n] S512x128) (w : FVec Ideal S1x128x256 .bf16)
    (r : Fin 512) (j : Fin 256) :
    gateDot (F := Ideal) xc n hn w (ix2 r j) = ∑ c : Fin 128, xc (ix2 r ⟨128 * n + c.val, by have := c.isLt; omega⟩) * w (ix3 (0 : Fin 1) c j) := by
  unfold gateDot
  pointwise

theorem four_apply (p0 p1 p2 p3 : FVec Ideal S512x128 .f32) (r l : Fin 512) :
    concatenate S512x512 1 [⟨S512x128, p0⟩, ⟨S512x128, p1⟩, ⟨S512x128, p2⟩, ⟨S512x128, p3⟩]
      concatenates_S512x128_S512x128_S512x128_S512x128_S512x512_d1 (ix2 r l)
      = (![p0, p1, p2, p3] : Fin 4 → FVec Ideal S512x128 .f32) ⟨l.val / 128, by have := l.isLt; omega⟩ (ix2 r ⟨l.val % 128, Nat.mod_lt _ (by decide)⟩) := by
  pointwise
  have hl := l.isLt
  rcases (by omega : l.val / 128 = 0 ∨ l.val / 128 = 1 ∨ l.val / 128 = 2 ∨ l.val / 128 = 3) with h | h | h | h
  · rw [dif_pos (by omega)]
    have e : l.val % 128 = l.val := by omega
    simp only [h, e]; rfl
  · rw [dif_neg (by omega), dif_pos (by omega)]
    have e : l.val % 128 = l.val - 128 := by omega
    simp only [h, e]; rfl
  · rw [dif_neg (by omega), dif_neg (by omega), dif_pos (by omega)]
    have e : l.val % 128 = l.val - 128 - 128 := by omega
    simp only [h, e]; rfl
  · rw [dif_neg (by omega), dif_neg (by omega), dif_neg (by omega)]
    have e : l.val % 128 = l.val - 128 - 128 - 128 := by omega
    simp only [h, e]; rfl

/-- A half of a gate's products at a lane, from the 128 lanes of its block. -/
theorem half_apply (xc : FVec Ideal S512x512 .f32) (w : FVec Ideal S4x128x256 .bf16) (o : ℕ) (ho : o + 128 ≤ 256) (hs : S512x256.Slices ![0, o] S512x128) (r l : Fin 512) :
    (![extractStridedSlice S512x128 ![0, o] (dot0 (F := Ideal) xc (wAt0 w)) hs, extractStridedSlice S512x128 ![0, o] (dot1 (F := Ideal) xc (wAt1 w)) hs,
       extractStridedSlice S512x128 ![0, o] (dot2 (F := Ideal) xc (wAt2 w)) hs, extractStridedSlice S512x128 ![0, o] (dot3 (F := Ideal) xc (wAt3 w)) hs]
        : Fin 4 → FVec Ideal S512x128 .f32) ⟨l.val / 128, by have := l.isLt; omega⟩ (ix2 r ⟨l.val % 128, Nat.mod_lt _ (by decide)⟩)
      = ∑ c : Fin 128, xc (ix2 r ⟨128 * (l.val / 128) + c.val, by have := l.isLt; have := c.isLt; omega⟩)
          * w (ix3 (⟨l.val / 128, by have := l.isLt; omega⟩ : Fin 4) c (⟨o + l.val % 128, by omega⟩ : Fin 256)) := by
  have hl := l.isLt
  have cut : ∀ p : FVec Ideal S512x256 .f32, extractStridedSlice S512x128 ![0, o] p hs (ix2 r ⟨l.val % 128, Nat.mod_lt _ (by decide)⟩)
      = p (ix2 r ⟨o + l.val % 128, by omega⟩) := by
    intro p
    refine extractStridedSlice_apply _ _ _ _ _ ?_
    intro a
    fin_cases a
    · show r.val = 0 + r.val; omega
    · rfl
  have r0 : ∀ (c : Fin 128) (j : Fin 256), wAt0 (F := Ideal) w (ix3 (0 : Fin 1) c j) = w (ix3 (0 : Fin 4) c j) := by
    intro c j; unfold wAt0; exact congrArg w (funext fun a => Fin.ext (by fin_cases a <;> (show _ + 1 * _ = _) <;> simp))
  have r1 : ∀ (c : Fin 128) (j : Fin 256), wAt1 (F := Ideal) w (ix3 (0 : Fin 1) c j) = w (ix3 (1 : Fin 4) c j) := by
    intro c j; unfold wAt1; exact congrArg w (funext fun a => Fin.ext (by fin_cases a <;> (show _ + 1 * _ = _) <;> simp))
  have r2 : ∀ (c : Fin 128) (j : Fin 256), wAt2 (F := Ideal) w (ix3 (0 : Fin 1) c j) = w (ix3 (2 : Fin 4) c j) := by
    intro c j; unfold wAt2; exact congrArg w (funext fun a => Fin.ext (by fin_cases a <;> (show _ + 1 * _ = _) <;> simp))
  have r3 : ∀ (c : Fin 128) (j : Fin 256), wAt3 (F := Ideal) w (ix3 (0 : Fin 1) c j) = w (ix3 (3 : Fin 4) c j) := by
    intro c j; unfold wAt3; exact congrArg w (funext fun a => Fin.ext (by fin_cases a <;> (show _ + 1 * _ = _) <;> simp))
  rcases (by omega : l.val / 128 = 0 ∨ l.val / 128 = 1 ∨ l.val / 128 = 2 ∨ l.val / 128 = 3) with h | h | h | h
  · simp only [h]
    refine (cut _).trans ((gateDot_apply xc 0 (by decide) _ _ _ _).trans (Finset.sum_congr rfl fun c _ => ?_))
    rw [r0]; rfl
  · simp only [h]
    refine (cut _).trans ((gateDot_apply xc 1 (by decide) _ _ _ _).trans (Finset.sum_congr rfl fun c _ => ?_))
    rw [r1]; rfl
  · simp only [h]
    refine (cut _).trans ((gateDot_apply xc 2 (by decide) _ _ _ _).trans (Finset.sum_congr rfl fun c _ => ?_))
    rw [r2]; rfl
  · simp only [h]
    refine (cut _).trans ((gateDot_apply xc 3 (by decide) _ _ _ _).trans (Finset.sum_congr rfl fun c _ => ?_))
    rw [r3]; rfl

theorem bias_apply (b : FVec Ideal S1x512 .f32) (r l : Fin 512) :
    broadcastTo S512x512 (shapeCast S1x512 b shapeCasts_S1x512_S1x512) broadcasts_S1x512_S512x512 (ix2 r l) = b (ix2 (0 : Fin 1) l) := by
  pointwise

theorem gateI_apply (xc : FVec Ideal S512x512 .f32) (w : FVec Ideal S4x128x256 .bf16) (b : FVec Ideal S1x512 .f32) (r l : Fin 512) :
    gateI (F := Ideal) xc (wAt0 w) (wAt1 w) (wAt2 w) (wAt3 w) b (ix2 r l)
      = Ideal.tanh (∑ c : Fin 128, xc (ix2 r ⟨128 * (l.val / 128) + c.val, by have := l.isLt; have := c.isLt; omega⟩)
          * w (ix3 (⟨l.val / 128, by have := l.isLt; omega⟩ : Fin 4) c (⟨128 + l.val % 128, by omega⟩ : Fin 256)) + b (ix2 (0 : Fin 1) l)) := by
  unfold gateI
  show Ideal.tanh (concatenate S512x512 1 _ _ (ix2 r l) + broadcastTo S512x512 _ _ (ix2 r l)) = _
  rw [four_apply, bias_apply, half_apply xc w 128 (by decide)]

theorem gateR_apply (xc : FVec Ideal S512x512 .f32) (w : FVec Ideal S4x128x256 .bf16) (b : FVec Ideal S1x512 .f32) (r l : Fin 512) :
    gateR (F := Ideal) xc (wAt0 w) (wAt1 w) (wAt2 w) (wAt3 w) b (ix2 r l)
      = Ideal.tanh (∑ c : Fin 128, xc (ix2 r ⟨128 * (l.val / 128) + c.val, by have := l.isLt; have := c.isLt; omega⟩)
          * w (ix3 (⟨l.val / 128, by have := l.isLt; omega⟩ : Fin 4) c (⟨0 + l.val % 128, by omega⟩ : Fin 256)) + b (ix2 (0 : Fin 1) l)) := by
  unfold gateR
  show Ideal.tanh (concatenate S512x512 1 _ _ (ix2 r l) + broadcastTo S512x512 _ _ (ix2 r l)) = _
  rw [four_apply, bias_apply, half_apply xc w 0 (by decide)]

theorem fourSoft_apply (lam : FVec Ideal S1x512 .f32) (l : Fin 512) :
    fourSoft (F := Ideal) lam (ix2 (0 : Fin 1) l) = Ideal.ofBits .f32 0x40800000#32 * softplusNeg (lam (ix2 (0 : Fin 1) l)) := by
  pointwise [fourSoft]
  unfold softplusNeg
  rw [zero_sub, zero_sub]
  rfl

theorem decay_apply (n : FVec Ideal S512x512 .f32) (r l : Fin 512) :
    decay n (ix2 r l) = Ideal.exp2 (n (ix2 r l) * ((-((Real.log 2)⁻¹) : ℝ) : EReal)) := by
  unfold decay k0_pay22 k0_pay21
  pointwise
  rfl

theorem addend_apply (xc gi n : FVec Ideal S512x512 .f32) (r l : Fin 512) (m d : EReal) (hd : decay n (ix2 r l) = d)
    (hm : Ideal.tanh (n (ix2 r l)) * (d * d + Ideal.ofBits .f32 0x3F800000#32) = m) :
    addend xc gi n (ix2 r l) = (if 0 < m then m * Ideal.rsqrt m else 0)
      * ((Ideal.ofBits .f32 0x3F000000#32 * gi (ix2 r l) + Ideal.ofBits .f32 0x3F000000#32) * xc (ix2 r l)) := by
  subst hd
  unfold addend
  generalize decay n = dv at hm ⊢
  pointwise
  have one : Ideal.ofBits .f32 0x3F800000#32 = 1 := one_f32
  rw [one] at hm
  rw [hm]

end Cert.RglruIdeal.Recur

end
-- ==== Proof.Rglru.Tile.lean ====
/- A grid point's block against the layer: from the rows of its block, the rows before and the state before, the states of
   its rows and the state it leaves. -/
module

public import proofs.«01_k».proof.Proof.Rglru.Gates
public import proofs.«01_k».proof.Proof.Rglru.Spec

@[expose] public section

noncomputable section

namespace Cert.RglruIdeal.Recur

open Cert.RglruIdeal Cert.RglruIdeal.Gen Idealize.ShloMosaic Idealize.ShloMosaic.TcCoe Idealize.SL.Sem

/-- The channel of lane `l` of lane tile `q`. -/
def chan (q : Fin 4) (l : Fin 512) : Fin 2048 := ⟨512 * q.val + l.val, by have := q.isLt; have := l.isLt; omega⟩

/-- The parameters a block of lane tile `q` reads are the layer's, the gates' at half their size. -/
structure Params (N : Net) (q : Fin 4) (cw : FVec Ideal S4x512 .f32) (cb : FVec Ideal S1x512 .f32) (w : FVec Ideal S4x128x256 .bf16)
    (ba bx lam : FVec Ideal S1x512 .f32) : Prop where
  cw : ∀ n l, cw (ix2 n l) = N.cw n (chan q l)
  cb : ∀ l, cb (ix2 (0 : Fin 1) l) = N.cb (chan q l)
  wa : ∀ (n : Fin 4) (c : Fin 128) (j : Fin 256) (d : Fin 128), j.val = 0 + d.val → w (ix3 n c j)
    = Ideal.ofBits .f32 0x3F000000#32 * N.wa ⟨4 * q.val + n.val, by have := q.isLt; have := n.isLt; omega⟩ c d
  wx : ∀ (n : Fin 4) (c : Fin 128) (j : Fin 256) (d : Fin 128), j.val = 128 + d.val → w (ix3 n c j)
    = Ideal.ofBits .f32 0x3F000000#32 * N.wx ⟨4 * q.val + n.val, by have := q.isLt; have := n.isLt; omega⟩ c d
  ba : ∀ l, ba (ix2 (0 : Fin 1) l) = Ideal.ofBits .f32 0x3F000000#32 * N.ba (chan q l)
  bx : ∀ l, bx (ix2 (0 : Fin 1) l) = Ideal.ofBits .f32 0x3F000000#32 * N.bx (chan q l)
  lam : ∀ l, lam (ix2 (0 : Fin 1) l) = N.lam (chan q l)

section
variable {N : Net} {q : Fin 4} {t : ℕ} {x : FVec Ideal S1x512x512 .f32} {tail : FVec Ideal S8x512 .f32} {cw : FVec Ideal S4x512 .f32}
  {cb : FVec Ideal S1x512 .f32} {w : FVec Ideal S4x128x256 .bf16} {ba bx lam carry : FVec Ideal S1x512 .f32}

theorem back_eq (hx : ∀ r l, x (ix3 (0 : Fin 1) r l) = N.x (512 * t + r.val) (chan q l))
    (ht : ∀ s l, tail (ix2 s l) = if t = 0 then 0 else N.x (512 * t + s.val - 8) (chan q l)) (D : ℕ) (h0 : 0 < D) (h8 : D ≤ 8) (r l : Fin 512) :
    back x tail D r.val l = N.ago D (512 * t + r.val) (chan q l) := by
  have hr := r.isLt
  unfold back Net.ago
  by_cases h : D ≤ r.val
  · rw [if_pos h, if_pos (by omega), hx]
    congr 1
    show 512 * t + (r.val - D) % 512 = _
    omega
  · rw [if_neg h, ht]
    by_cases hz : t = 0
    · rw [if_pos hz, if_neg (by omega)]
    · rw [if_neg hz, if_pos (by omega)]
      congr 1
      show 512 * t + (r.val + 8 - D) % 8 - 8 = _
      omega

theorem conv_net (P : Params N q cw cb w ba bx lam) (hx : ∀ r l, x (ix3 (0 : Fin 1) r l) = N.x (512 * t + r.val) (chan q l))
    (ht : ∀ s l, tail (ix2 s l) = if t = 0 then 0 else N.x (512 * t + s.val - 8) (chan q l)) (r l : Fin 512) :
    conv (F := Ideal) x tail cw cb (ix2 r l) = N.conv (512 * t + r.val) (chan q l) := by
  rw [conv_apply, back_eq hx ht 1 (by decide) (by decide), back_eq hx ht 2 (by decide) (by decide), back_eq hx ht 3 (by decide) (by decide), hx,
    P.cb, P.cw, P.cw, P.cw, P.cw]
  unfold Net.conv
  ac_rfl

theorem mate_chan (l : Fin 512) (c : Fin 128) :
    chan q ⟨128 * (l.val / 128) + c.val, by have := l.isLt; have := c.isLt; omega⟩ = Net.mate (chan q l) c := by
  apply Fin.ext
  show 512 * q.val + (128 * (l.val / 128) + c.val) = 128 * ((512 * q.val + l.val) / 128) + c.val
  omega

theorem pre_net {xc : FVec Ideal S512x512 .f32} (hxc : ∀ r l, xc (ix2 r l) = N.conv (512 * t + r.val) (chan q l))
    (W : Fin 16 → Fin 128 → Fin 128 → EReal) (B : Fin 2048 → EReal) (b : FVec Ideal S1x512 .f32) (o : ℕ) (ho : o + 128 ≤ 256)
    (hw : ∀ (n : Fin 4) (c : Fin 128) (j : Fin 256) (d : Fin 128), j.val = o + d.val → w (ix3 n c j)
      = Ideal.ofBits .f32 0x3F000000#32 * W ⟨4 * q.val + n.val, by have := q.isLt; have := n.isLt; omega⟩ c d)
    (hb : ∀ l, b (ix2 (0 : Fin 1) l) = Ideal.ofBits .f32 0x3F000000#32 * B (chan q l)) (r l : Fin 512) :
    ∑ c : Fin 128, xc (ix2 r ⟨128 * (l.val / 128) + c.val, by have := l.isLt; have := c.isLt; omega⟩)
          * w (ix3 (⟨l.val / 128, by have := l.isLt; omega⟩ : Fin 4) c (⟨o + l.val % 128, by omega⟩ : Fin 256)) + b (ix2 (0 : Fin 1) l)
      = Ideal.ofBits .f32 0x3F000000#32 * N.pre W B (512 * t + r.val) (chan q l) := by
  unfold Net.pre
  rw [← half_add, ← half_sum, hb]
  congr 1
  refine Finset.sum_congr rfl fun c _ => ?_
  rw [hxc, mate_chan, hw _ _ _ ⟨l.val % 128, Nat.mod_lt _ (by decide)⟩ rfl]
  congr 3
  · apply Fin.ext
    show 4 * q.val + l.val / 128 = (512 * q.val + l.val) / 128
    omega
  · apply Fin.ext
    show l.val % 128 = (512 * q.val + l.val) % 128
    omega

theorem nlog_net (P : Params N q cw cb w ba bx lam) {xc : FVec Ideal S512x512 .f32}
    (hxc : ∀ r l, xc (ix2 r l) = N.conv (512 * t + r.val) (chan q l)) (r l : Fin 512) :
    nlog (F := Ideal) xc (wAt0 w) (wAt1 w) (wAt2 w) (wAt3 w) ba lam (ix2 r l) = N.loss (512 * t + r.val) (chan q l) := by
  unfold nlog Net.loss rate
  show (gateR (F := Ideal) xc (wAt0 w) (wAt1 w) (wAt2 w) (wAt3 w) ba (ix2 r l) + Ideal.ofBits .f32 0x3F800000#32)
    * broadcastTo S512x512 (fourSoft (F := Ideal) lam) broadcasts_S1x512_S512x512 (ix2 r l) = _
  have hb : broadcastTo S512x512 (fourSoft (F := Ideal) lam) broadcasts_S1x512_S512x512 (ix2 r l) = fourSoft (F := Ideal) lam (ix2 (0 : Fin 1) l) := by
    generalize fourSoft (F := Ideal) lam = v
    pointwise
  rw [hb, gateR_apply, pre_net hxc N.wa N.ba ba 0 (by decide) P.wa P.ba, fourSoft_apply, P.lam]

theorem decay_net (P : Params N q cw cb w ba bx lam) {xc : FVec Ideal S512x512 .f32}
    (hxc : ∀ r l, xc (ix2 r l) = N.conv (512 * t + r.val) (chan q l)) (r l : Fin 512) :
    decay (nlog (F := Ideal) xc (wAt0 w) (wAt1 w) (wAt2 w) (wAt3 w) ba lam) (ix2 r l) = N.dec (chan q l) (512 * t + r.val) := by
  rw [decay_apply, nlog_net P hxc, exp2_rate (show 0 ≤ N.loss (512 * t + r.val) (chan q l) from rate_nonneg _ _)]
  rfl

theorem addend_net (P : Params N q cw cb w ba bx lam) {xc : FVec Ideal S512x512 .f32}
    (hxc : ∀ r l, xc (ix2 r l) = N.conv (512 * t + r.val) (chan q l)) (r l : Fin 512) :
    addend xc (gateI (F := Ideal) xc (wAt0 w) (wAt1 w) (wAt2 w) (wAt3 w) bx) (nlog (F := Ideal) xc (wAt0 w) (wAt1 w) (wAt2 w) (wAt3 w) ba lam) (ix2 r l)
      = N.add (chan q l) (512 * t + r.val) := by
  rw [addend_apply _ _ _ r l _ _ (decay_net P hxc r l) rfl, nlog_net P hxc, gateI_apply, pre_net hxc N.wx N.bx bx 128 (by decide) P.wx P.bx,
    half_tanh_half, hxc]
  unfold Net.add Net.dec
  congr 1
  exact scale_eq (rate_nonneg _ _)

theorem states_net (P : Params N q cw cb w ba bx lam) (hx : ∀ r l, x (ix3 (0 : Fin 1) r l) = N.x (512 * t + r.val) (chan q l))
    (ht : ∀ s l, tail (ix2 s l) = if t = 0 then 0 else N.x (512 * t + s.val - 8) (chan q l))
    (hc : ∀ l, carry (ix2 (0 : Fin 1) l) = if t = 0 then 0 else N.state (chan q l) (512 * t - 1)) (r l : Fin 512) :
    states (F := Ideal) x cw cb (wAt0 w) (wAt1 w) (wAt2 w) (wAt3 w) ba bx lam tail carry (ix2 r l) = N.state (chan q l) (512 * t + r.val)
    ∧ lastState (F := Ideal) x cw cb (wAt0 w) (wAt1 w) (wAt2 w) (wAt3 w) ba bx lam tail carry (ix2 (0 : Fin 1) l) = N.state (chan q l) (512 * t + 511) := by
  have hxc := conv_net P hx ht
  unfold states lastState added factor
  generalize conv (F := Ideal) x tail cw cb = xc at hxc
  have hf : ∀ r l, ∃ α : ℝ, 0 ≤ α ∧ decay (nlog (F := Ideal) xc (wAt0 w) (wAt1 w) (wAt2 w) (wAt3 w) ba lam) (ix2 r l) = α := by
    intro r l
    rw [decay_net P hxc]
    exact exp_neg_real (rate_nonneg _ _)
  have key : ∀ n, n < 512 → scan (lane (decay (nlog (F := Ideal) xc (wAt0 w) (wAt1 w) (wAt2 w) (wAt3 w) ba lam)) l)
      (lane (addend xc (gateI (F := Ideal) xc (wAt0 w) (wAt1 w) (wAt2 w) (wAt3 w) bx) (nlog (F := Ideal) xc (wAt0 w) (wAt1 w) (wAt2 w) (wAt3 w) ba lam)) l)
      (carry (ix2 (0 : Fin 1) l)) n = N.state (chan q l) (512 * t + n) := by
    intro n hn
    have h1 : scan (lane (decay (nlog (F := Ideal) xc (wAt0 w) (wAt1 w) (wAt2 w) (wAt3 w) ba lam)) l)
      (lane (addend xc (gateI (F := Ideal) xc (wAt0 w) (wAt1 w) (wAt2 w) (wAt3 w) bx) (nlog (F := Ideal) xc (wAt0 w) (wAt1 w) (wAt2 w) (wAt3 w) ba lam)) l)
      (carry (ix2 (0 : Fin 1) l)) n = scan (fun i => N.dec (chan q l) (512 * t + i)) (fun i => N.add (chan q l) (512 * t + i))
        (if t = 0 then 0 else N.state (chan q l) (512 * t - 1)) n := by
      refine scan_congr (hc l) n (fun i hi => ?_) fun i hi => ?_
      · refine (decay_net P hxc ⟨i % 512, Nat.mod_lt _ (by decide)⟩ l).trans ?_
        show N.dec (chan q l) (512 * t + i % 512) = _
        rw [Nat.mod_eq_of_lt (by omega : i < 512)]
      · refine (addend_net P hxc ⟨i % 512, Nat.mod_lt _ (by decide)⟩ l).trans ?_
        show N.add (chan q l) (512 * t + i % 512) = _
        rw [Nat.mod_eq_of_lt (by omega : i < 512)]
    rw [h1]
    by_cases hz : t = 0
    · subst hz
      rw [if_pos rfl]
      unfold Net.state
      simp only [Nat.mul_zero, Nat.zero_add]
    · rw [if_neg hz]
      have e : 512 * t = (512 * t - 1) + 1 := by omega
      have e2 : ∀ i, 512 * t + i = (512 * t - 1) + 1 + i := fun i => by omega
      simp only [e2]
      generalize 512 * t - 1 = m
      exact N.state_next _ m n
  exact ⟨(stacked_scan _ _ _ hf carry r l).trans (key _ r.isLt), (last_scan _ _ _ hf carry l).trans (key 511 (by decide))⟩

/-- The stored block: the state times the gate's gelu. -/
theorem stored_apply (h : FVec Ideal S512x512 .f32) (g : FVec Ideal S1x512x512 .f32) (r l : Fin 512) :
    k0_pay112 (F := Ideal) h g (ix3 (0 : Fin 1) r l)
      = h (ix2 r l) * (g (ix3 (0 : Fin 1) r l) * (Ideal.ofBits .f32 0x3F000000#32 * (Ideal.ofBits .f32 0x3F800000#32
          + Ideal.tanh (Ideal.ofBits .f32 0x3F4C422A#32 * (g (ix3 (0 : Fin 1) r l) + Ideal.ofBits .f32 0x3D372713#32
            * ((g (ix3 (0 : Fin 1) r l) * g (ix3 (0 : Fin 1) r l)) * g (ix3 (0 : Fin 1) r l))))))) := by
  rw [← gelu_mul]
  pointwise [k0_pay112]
  rfl
end

end Cert.RglruIdeal.Recur

end
-- ==== Proof.Rglru.Launch.lean ====
/- What a grid point reads: its nine blocks as entries of the argument arrays, and the parameters of its lane tile. -/
module

public import proofs.«01_k».proof.Proof.Rglru.Layer
public import proofs.«01_k».proof.Proof.Rglru.Tile
public import proofs.«01_k».proof.Proof.Gen.RglruIdeal.Value
public import Idealize.ShloMosaic.Lib.Tactic

@[expose] public section

noncomputable section

namespace Cert.RglruIdeal.Recur

open Cert.RglruIdeal Cert.RglruIdeal.Gen Idealize.ShloMosaic Idealize.ShloMosaic.TcCoe Idealize.SL.Sem

section
variable {F : FTy → Type} [FloatOps F] [Named F]
variable (m : (ℓ : Loc nD τ sig) → Buf (Elt F) ℓ)

theorem index_facts : ∀ t : Fin cfg0.N,
    (win0_0.index t (0 : Fin 3) = t.val / 16 ∧ win0_0.index t (1 : Fin 3) = t.val % 4 ∧ win0_0.index t (2 : Fin 3) = t.val / 4 % 4)
    ∧ (win0_1.index t (0 : Fin 3) = t.val / 16 ∧ win0_1.index t (1 : Fin 3) = t.val % 4 ∧ win0_1.index t (2 : Fin 3) = 4 + t.val / 4 % 4)
    ∧ (win0_2.index t (0 : Fin 2) = 0 ∧ win0_2.index t (1 : Fin 2) = t.val / 4 % 4)
    ∧ (win0_3.index t (0 : Fin 2) = 0 ∧ win0_3.index t (1 : Fin 2) = t.val / 4 % 4)
    ∧ (win0_4.index t (0 : Fin 3) = t.val / 4 % 4 ∧ win0_4.index t (1 : Fin 3) = 0 ∧ win0_4.index t (2 : Fin 3) = 0)
    ∧ (win0_5.index t (0 : Fin 2) = 0 ∧ win0_5.index t (1 : Fin 2) = t.val / 4 % 4)
    ∧ (win0_6.index t (0 : Fin 2) = 0 ∧ win0_6.index t (1 : Fin 2) = t.val / 4 % 4)
    ∧ (win0_7.index t (0 : Fin 2) = 0 ∧ win0_7.index t (1 : Fin 2) = t.val / 4 % 4)
    ∧ (win0_8.index t (0 : Fin 3) = t.val / 16 ∧ win0_8.index t (1 : Fin 3) = t.val % 4 ∧ win0_8.index t (2 : Fin 3) = t.val / 4 % 4) :=
  (by decide +kernel : ∀ t : Fin grid0.N, _)

/-- The batch, the lane tile and the row tile of a point. -/
def batchOf (t : Fin cfg0.N) : Fin 8 := ⟨t.val / 16, by have hN : t.val < 128 := lt_of_lt_of_eq t.isLt N_0; omega⟩
def laneOf (t : Fin cfg0.N) : Fin 4 := ⟨t.val / 4 % 4, by omega⟩
def rowOf (t : Fin cfg0.N) (r : Fin 512) : Fin 2048 := ⟨512 * (t.val % 4) + r.val, by have := r.isLt; omega⟩

/-- The input windows' blocks at a point. -/
def xb (c : Dev nD) (t : Fin cfg0.N) : Vec F S1x512x512 .f32 := iblk m c 0 t
def gb (c : Dev nD) (t : Fin cfg0.N) : Vec F S1x512x512 .f32 := iblk m c 1 t
def cwb (c : Dev nD) (t : Fin cfg0.N) : Vec F S4x512 .f32 := iblk m c 2 t
def cbb (c : Dev nD) (t : Fin cfg0.N) : Vec F S1x512 .f32 := iblk m c 3 t
def wb (c : Dev nD) (t : Fin cfg0.N) : Vec F S4x128x256 .bf16 := iblk m c 4 t
def bab (c : Dev nD) (t : Fin cfg0.N) : Vec F S1x512 .f32 := iblk m c 5 t
def bxb (c : Dev nD) (t : Fin cfg0.N) : Vec F S1x512 .f32 := iblk m c 6 t
def lamb (c : Dev nD) (t : Fin cfg0.N) : Vec F S1x512 .f32 := iblk m c 7 t

theorem xb_apply (c : Dev nD) (t : Fin cfg0.N) (r l : Fin 512) :
    xb m c t (ix3 (0 : Fin 1) r l) = V m c main_v6 (ix3 (batchOf t) (rowOf t r) ⟨(chan (laneOf t) l).val, by have := (chan (laneOf t) l).isLt; omega⟩) := by
  obtain ⟨⟨e0, e1, e2⟩, -⟩ := index_facts t
  show V m c main_v6 (((cfg0.win 0).blk t).view.emb _) = _
  congr 1
  funext k; apply Fin.ext
  match k with
  | ⟨0, _⟩ => show win0_0.index t (0 : Fin 3) * 1 + 1 * 0 = t.val / 16; rw [e0]; omega
  | ⟨1, _⟩ => show win0_0.index t (1 : Fin 3) * 512 + 1 * r.val = 512 * (t.val % 4) + r.val; rw [e1]; omega
  | ⟨2, _⟩ => show win0_0.index t (2 : Fin 3) * 512 + 1 * l.val = 512 * (t.val / 4 % 4) + l.val; rw [e2]; omega

theorem gb_apply (c : Dev nD) (t : Fin cfg0.N) (r l : Fin 512) :
    gb m c t (ix3 (0 : Fin 1) r l) = V m c main_v6 (ix3 (batchOf t) (rowOf t r) ⟨2048 + (chan (laneOf t) l).val, by have := (chan (laneOf t) l).isLt; omega⟩) := by
  obtain ⟨-, ⟨e0, e1, e2⟩, -⟩ := index_facts t
  show V m c main_v6 (((cfg0.win 1).blk t).view.emb _) = _
  congr 1
  funext k; apply Fin.ext
  match k with
  | ⟨0, _⟩ => show win0_1.index t (0 : Fin 3) * 1 + 1 * 0 = t.val / 16; rw [e0]; omega
  | ⟨1, _⟩ => show win0_1.index t (1 : Fin 3) * 512 + 1 * r.val = 512 * (t.val % 4) + r.val; rw [e1]; omega
  | ⟨2, _⟩ => show win0_1.index t (2 : Fin 3) * 512 + 1 * l.val = 2048 + (512 * (t.val / 4 % 4) + l.val); rw [e2]; omega

theorem cwb_apply (c : Dev nD) (t : Fin cfg0.N) (n : Fin 4) (l : Fin 512) :
    cwb m c t (ix2 n l) = V m c main_v7 (ix2 n (chan (laneOf t) l)) := by
  obtain ⟨-, -, ⟨e0, e1⟩, -⟩ := index_facts t
  show V m c main_v7 (((cfg0.win 2).blk t).view.emb _) = _
  congr 1
  funext k; apply Fin.ext
  match k with
  | ⟨0, _⟩ => show win0_2.index t (0 : Fin 2) * 4 + 1 * n.val = n.val; rw [e0]; omega
  | ⟨1, _⟩ => show win0_2.index t (1 : Fin 2) * 512 + 1 * l.val = 512 * (t.val / 4 % 4) + l.val; rw [e1]; omega

theorem cbb_apply (c : Dev nD) (t : Fin cfg0.N) (l : Fin 512) :
    cbb m c t (ix2 (0 : Fin 1) l) = V m c main_v9 (ix2 (0 : Fin 1) (chan (laneOf t) l)) := by
  obtain ⟨-, -, -, ⟨e0, e1⟩, -⟩ := index_facts t
  show V m c main_v9 (((cfg0.win 3).blk t).view.emb _) = _
  congr 1
  funext k; apply Fin.ext
  match k with
  | ⟨0, _⟩ => show win0_3.index t (0 : Fin 2) * 1 + 1 * 0 = 0; rw [e0]
  | ⟨1, _⟩ => show win0_3.index t (1 : Fin 2) * 512 + 1 * l.val = 512 * (t.val / 4 % 4) + l.val; rw [e1]; omega

theorem wb_apply (c : Dev nD) (t : Fin cfg0.N) (n : Fin 4) (k : Fin 128) (j : Fin 256) :
    wb m c t (ix3 n k j) = V m c main_v5 (ix3 ⟨4 * (laneOf t).val + n.val, by have := (laneOf t).isLt; have := n.isLt; omega⟩ k j) := by
  obtain ⟨-, -, -, -, ⟨e0, e1, e2⟩, -⟩ := index_facts t
  show V m c main_v5 (((cfg0.win 4).blk t).view.emb _) = _
  congr 1
  funext a; apply Fin.ext
  match a with
  | ⟨0, _⟩ => show win0_4.index t (0 : Fin 3) * 4 + 1 * n.val = 4 * (t.val / 4 % 4) + n.val; rw [e0]; omega
  | ⟨1, _⟩ => show win0_4.index t (1 : Fin 3) * 128 + 1 * k.val = k.val; rw [e1]; omega
  | ⟨2, _⟩ => show win0_4.index t (2 : Fin 3) * 256 + 1 * j.val = j.val; rw [e2]; omega

theorem bab_apply (c : Dev nD) (t : Fin cfg0.N) (l : Fin 512) :
    bab m c t (ix2 (0 : Fin 1) l) = V m c main_v13 (ix2 (0 : Fin 1) (chan (laneOf t) l)) := by
  obtain ⟨-, -, -, -, -, ⟨e0, e1⟩, -⟩ := index_facts t
  show V m c main_v13 (((cfg0.win 5).blk t).view.emb _) = _
  congr 1
  funext k; apply Fin.ext
  match k with
  | ⟨0, _⟩ => show win0_5.index t (0 : Fin 2) * 1 + 1 * 0 = 0; rw [e0]
  | ⟨1, _⟩ => show win0_5.index t (1 : Fin 2) * 512 + 1 * l.val = 512 * (t.val / 4 % 4) + l.val; rw [e1]; omega

theorem bxb_apply (c : Dev nD) (t : Fin cfg0.N) (l : Fin 512) :
    bxb m c t (ix2 (0 : Fin 1) l) = V m c main_v17 (ix2 (0 : Fin 1) (chan (laneOf t) l)) := by
  obtain ⟨-, -, -, -, -, -, ⟨e0, e1⟩, -⟩ := index_facts t
  show V m c main_v17 (((cfg0.win 6).blk t).view.emb _) = _
  congr 1
  funext k; apply Fin.ext
  match k with
  | ⟨0, _⟩ => show win0_6.index t (0 : Fin 2) * 1 + 1 * 0 = 0; rw [e0]
  | ⟨1, _⟩ => show win0_6.index t (1 : Fin 2) * 512 + 1 * l.val = 512 * (t.val / 4 % 4) + l.val; rw [e1]; omega

theorem lamb_apply (c : Dev nD) (t : Fin cfg0.N) (l : Fin 512) :
    lamb m c t (ix2 (0 : Fin 1) l) = V m c main_v19 (ix2 (0 : Fin 1) (chan (laneOf t) l)) := by
  obtain ⟨-, -, -, -, -, -, -, ⟨e0, e1⟩, -⟩ := index_facts t
  show V m c main_v19 (((cfg0.win 7).blk t).view.emb _) = _
  congr 1
  funext k; apply Fin.ext
  match k with
  | ⟨0, _⟩ => show win0_7.index t (0 : Fin 2) * 1 + 1 * 0 = 0; rw [e0]
  | ⟨1, _⟩ => show win0_7.index t (1 : Fin 2) * 512 + 1 * l.val = 512 * (t.val / 4 % 4) + l.val; rw [e1]; omega

/-! The arrays the launch is entered with. -/

theorem V_rows (c : Dev nD) : V m c main_v6 = shapeCast S8x2048x4096 (m ((c : Thread nD τ).loc main_arg0)) shapeCasts_S16384x4096_S8x2048x4096 := by
  unfold V
  after_results <;> rfl
theorem V_taps (c : Dev nD) : V m c main_v7 = shapeCast S4x2048 (m ((c : Thread nD τ).loc main_arg1)) shapeCasts_S1x4x2048_S4x2048 := by
  unfold V
  after_results <;> rfl
theorem V_cb (c : Dev nD) : V m c main_v9 = shapeCast S1x2048 (shapeCast S2048 (m ((c : Thread nD τ).loc main_arg2)) shapeCasts_S1x2048_S2048) shapeCasts_S2048_S1x2048 := by
  unfold V
  after_results <;> rfl
theorem V_lam (c : Dev nD) : V m c main_v19 = shapeCast S1x2048 (shapeCast S2048 (m ((c : Thread nD τ).loc main_arg7)) shapeCasts_S1x2048_S2048) shapeCasts_S2048_S1x2048 := by
  unfold V
  after_results <;> rfl
theorem V_ba (c : Dev nD) : V m c main_v13 = shapeCast S1x2048 (mulf (broadcastInDim S2048 ![] bcast_S_S2048 (constant (F := F) S_ .f32 0x3F000000#32))
    (shapeCast S2048 (m ((c : Thread nD τ).loc main_arg4)) shapeCasts_S1x2048_S2048)) shapeCasts_S2048_S1x2048 := by
  unfold V
  after_results <;> rfl
theorem V_bx (c : Dev nD) : V m c main_v17 = shapeCast S1x2048 (mulf (broadcastInDim S2048 ![] bcast_S_S2048 (constant (F := F) S_ .f32 0x3F000000#32))
    (shapeCast S2048 (m ((c : Thread nD τ).loc main_arg6)) shapeCasts_S1x2048_S2048)) shapeCasts_S2048_S1x2048 := by
  unfold V
  after_results <;> rfl
theorem V_w (c : Dev nD) : V m c main_v5 = truncf .bf16 (mulf (broadcastInDim S16x128x256 ![] bcast_S_S16x128x256 (constant (F := F) S_ .f32 0x3F000000#32))
    (concatenate S16x128x256 2 [⟨S16x128x128, shapeCast S16x128x128 (m ((c : Thread nD τ).loc main_arg3)) shapeCasts_S1x16x128x128_S16x128x128⟩,
      ⟨S16x128x128, shapeCast S16x128x128 (m ((c : Thread nD τ).loc main_arg5)) shapeCasts_S1x16x128x128_S16x128x128⟩] concatenates_S16x128x128_S16x128x128_S16x128x256_d2)) bitsLt_bf16_f32 := by
  unfold V
  after_results <;> rfl
end

/-! Their entries at the extended reals. -/

theorem halved_apply (b : FVec Ideal S2048 .f32) (l : Fin 2048) :
    mulf (F := Ideal) (φ := .f32) (broadcastInDim S2048 ![] bcast_S_S2048 (constant (F := Ideal) S_ .f32 0x3F000000#32)) b (ix1 l) = Ideal.ofBits .f32 0x3F000000#32 * b (ix1 l) := by
  pointwise

theorem pair_apply (a b : FVec Ideal S16x128x128 .f32) (n : Fin 16) (k : Fin 128) (j : Fin 256) :
    (truncf (F := Ideal) .bf16 (mulf (F := Ideal) (φ := .f32) (broadcastInDim S16x128x256 ![] bcast_S_S16x128x256 (constant (F := Ideal) S_ .f32 0x3F000000#32))
      (concatenate S16x128x256 2 [⟨S16x128x128, a⟩, ⟨S16x128x128, b⟩] concatenates_S16x128x128_S16x128x128_S16x128x256_d2)) bitsLt_bf16_f32 : FVec Ideal S16x128x256 .bf16) (ix3 n k j)
    = Ideal.ofBits .f32 0x3F000000#32 * (if h : j.val < 128 then a (ix3 n k ⟨j.val, h⟩) else b (ix3 n k ⟨j.val - 128, by have := j.isLt; omega⟩)) := by
  pointwise

end Cert.RglruIdeal.Recur

end
-- ==== Proof.Rglru.Points.lean ====
/- The grid's points in order: what a point leaves in the two carried arrays is the end of its rows and the state after
   its last row, so that what it stores is the layer's state at its rows and channels times the gate; and the whole result. -/
module

public import proofs.«01_k».proof.Proof.Rglru.Launch
public import proofs.«01_k».proof.Proof.Rglru.Runs

@[expose] public section

noncomputable section

namespace Cert.RglruIdeal.Recur

open Cert.RglruIdeal Cert.RglruIdeal.Gen Idealize.ShloMosaic Idealize.ShloMosaic.TcCoe Idealize.SL.Sem

section
variable {F : FTy → Type} [FloatOps F] [Named F]
variable (m : (ℓ : Loc nD τ sig) → Buf (Elt F) ℓ)

/-- What the carried arrays hold after a point. -/
def tailAt (c : Dev nD) (n : ℕ) (h : n < cfg0.N) : Vec F S8x512 .f32 := (outsAt0 m c n h).2.1
def carryAt (c : Dev nD) (n : ℕ) (h : n < cfg0.N) : Vec F S1x512 .f32 := carryRow (outsAt0 m c n h).2.2
/-- What a point stores. -/
def outAt (c : Dev nD) (n : ℕ) (h : n < cfg0.N) : Vec F S1x512x512 .bf16 := (outsAt0 m c n h).1

theorem tailAt_congr (c : Dev nD) {a b : ℕ} (e : a = b) (ha : a < cfg0.N) (hb : b < cfg0.N) : tailAt m c a ha = tailAt m c b hb := by
  subst e; rfl
theorem carryAt_congr (c : Dev nD) {a b : ℕ} (e : a = b) (ha : a < cfg0.N) (hb : b < cfg0.N) : carryAt m c a ha = carryAt m c b hb := by
  subst e; rfl

/-- The states of a point's block, and the state it leaves, from what is carried into it. -/
def rowsOf (c : Dev nD) (t : Fin cfg0.N) (tail : Vec F S8x512 .f32) (carry : Vec F S1x512 .f32) : Vec F S512x512 .f32 :=
  states (xb m c t) (cwb m c t) (cbb m c t) (wAt0 (wb m c t)) (wAt1 (wb m c t)) (wAt2 (wb m c t)) (wAt3 (wb m c t)) (bab m c t) (bxb m c t) (lamb m c t) tail carry
def endOf (c : Dev nD) (t : Fin cfg0.N) (tail : Vec F S8x512 .f32) (carry : Vec F S1x512 .f32) : Vec F S1x512 .f32 :=
  lastState (xb m c t) (cwb m c t) (cbb m c t) (wAt0 (wb m c t)) (wAt1 (wb m c t)) (wAt2 (wb m c t)) (wAt3 (wb m c t)) (bab m c t) (bxb m c t) (lamb m c t) tail carry

theorem tail_at (c : Dev nD) (t : Fin cfg0.N) : tailAt m c t.val t.isLt = k0_pay5 (xb m c t) := by
  by_cases h0 : t.val % 4 = 0
  · refine Eq.trans (congrArg (fun z : Vec F S1x512x512 .bf16 × Vec F S8x512 .f32 × Vec F S8x512 .f32 => z.2.1) (outsAt0_A m c t h0)) ?_
    dsimp only
    exact tail_first (F := F) _ _ _ _ _ _ _ _ _ _ _ _ _ _ _ _ _ _ _ _ _ _ _ _ _ _ _ _ _ _ _ _ _
  · refine Eq.trans (congrArg (fun z : Vec F S1x512x512 .bf16 × Vec F S8x512 .f32 × Vec F S8x512 .f32 => z.2.1) (outsAt0_B m c t h0)) ?_
    dsimp only
    exact tail_later (F := F) _ _ _ _ _ _ _ _ _ _ _ _ _ _ _ _ _ _ _ _ _ _ _ _ _ _ _ _ _ _ _ _ _ _ _

theorem carry_at_first (c : Dev nD) (t : Fin cfg0.N) (h0 : t.val % 4 = 0) :
    carryAt m c t.val t.isLt = endOf m c t k0_pay1 (carryRow k0_pay2) := by
  refine Eq.trans (congrArg (fun z : Vec F S1x512x512 .bf16 × Vec F S8x512 .f32 × Vec F S8x512 .f32 => carryRow z.2.2) (outsAt0_A m c t h0)) ?_
  dsimp only
  exact carry_first (F := F) _ _ _ _ _ _ _ _ _ _ _ _ _ _ _ _ _ _ _ _ _ _ _ _ _ _ _ _ _ _ _ _ _

theorem carry_at_later (c : Dev nD) (t : Fin cfg0.N) (h0 : ¬t.val % 4 = 0) (h : t.val - 1 < cfg0.N) :
    carryAt m c t.val t.isLt = endOf m c t (tailAt m c (t.val - 1) h) (carryAt m c (t.val - 1) h) := by
  refine Eq.trans (congrArg (fun z : Vec F S1x512x512 .bf16 × Vec F S8x512 .f32 × Vec F S8x512 .f32 => carryRow z.2.2) (outsAt0_B m c t h0)) ?_
  dsimp only
  exact carry_later (F := F) _ _ _ _ _ _ _ _ _ _ _ _ _ _ _ _ _ _ _ _ _ _ _ _ _ _ _ _ _ _ _ _ _ _ _

theorem out_at_first (c : Dev nD) (t : Fin cfg0.N) (h0 : t.val % 4 = 0) :
    outAt m c t.val t.isLt = k0_pay112 (rowsOf m c t k0_pay1 (carryRow k0_pay2)) (gb m c t) := by
  refine Eq.trans (congrArg (fun z : Vec F S1x512x512 .bf16 × Vec F S8x512 .f32 × Vec F S8x512 .f32 => z.1) (outsAt0_A m c t h0)) ?_
  dsimp only
  exact result_first (F := F) _ _ _ _ _ _ _ _ _ _ _ _ _ _ _ _ _ _ _ _ _ _ _ _ _ _ _ _ _ _ _ _ _

theorem out_at_later (c : Dev nD) (t : Fin cfg0.N) (h0 : ¬t.val % 4 = 0) (h : t.val - 1 < cfg0.N) :
    outAt m c t.val t.isLt = k0_pay112 (rowsOf m c t (tailAt m c (t.val - 1) h) (carryAt m c (t.val - 1) h)) (gb m c t) := by
  refine Eq.trans (congrArg (fun z : Vec F S1x512x512 .bf16 × Vec F S8x512 .f32 × Vec F S8x512 .f32 => z.1) (outsAt0_B m c t h0)) ?_
  dsimp only
  exact result_later (F := F) _ _ _ _ _ _ _ _ _ _ _ _ _ _ _ _ _ _ _ _ _ _ _ _ _ _ _ _ _ _ _ _ _ _ _

/-- The result array where a point wrote it. -/
theorem final_apply (c : Dev nD) (t : Fin cfg0.N) (r l : Fin 512) :
    (dats m 0 c).arrAt 8 cfg0.N (ix3 (batchOf t) (rowOf t r) (chan (laneOf t) l)) = outAt m c t.val t.isLt (ix3 (0 : Fin 1) r l) := by
  obtain ⟨-, -, -, -, -, -, -, -, e0, e1, e2⟩ := index_facts t
  refine .trans ?_ ((congrFun (Value.blocks8 m c t (flush0_8 t)) (ix3 (0 : Fin 1) r l)).trans ?_)
  · show _ = (dats m 0 c).arrAt 8 cfg0.N (((cfg0.win 8).blk t).view.emb _)
    congr 1
    funext k; apply Fin.ext
    match k with
    | ⟨0, _⟩ => show t.val / 16 = win0_8.index t (0 : Fin 3) * 1 + 1 * 0; rw [e0]; omega
    | ⟨1, _⟩ => show 512 * (t.val % 4) + r.val = win0_8.index t (1 : Fin 3) * 512 + 1 * r.val; rw [e1]; omega
    | ⟨2, _⟩ => show 512 * (t.val / 4 % 4) + l.val = win0_8.index t (2 : Fin 3) * 512 + 1 * l.val; rw [e2]; omega
  · rw [Value.flushed8]
    rfl
end

variable (m : (ℓ : Loc nD τ sig) → Buf (Elt Ideal) ℓ)

/-- The layer of a device's arrays. -/
def netAt (c : Dev nD) (b : Fin 8) : Net := layer (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) b

theorem params_at (c : Dev nD) (t : Fin cfg0.N) :
    Params (netAt m c (batchOf t)) (laneOf t) (cwb m c t) (cbb m c t) (wb m c t) (bab m c t) (bxb m c t) (lamb m c t) where
  cw n l := by rw [cwb_apply, V_taps, taps_apply]; rfl
  cb l := by rw [cbb_apply, V_cb, unflat_apply, flat_apply]; rfl
  wa n k j d hj := by
    rw [wb_apply, V_w, pair_apply, dif_pos (by have := d.isLt; omega), blocks_apply]
    refine congrArg (fun e => Ideal.ofBits .f32 0x3F000000#32 * m ((c : Thread nD τ).loc main_arg3) e) ?_
    congr 1
    exact Fin.ext (by dsimp only; omega)
  wx n k j d hj := by
    rw [wb_apply, V_w, pair_apply, dif_neg (by have := d.isLt; omega), blocks_apply]
    refine congrArg (fun e => Ideal.ofBits .f32 0x3F000000#32 * m ((c : Thread nD τ).loc main_arg5) e) ?_
    congr 1
    exact Fin.ext (by dsimp only; omega)
  ba l := by rw [bab_apply, V_ba, unflat_apply, halved_apply, flat_apply]; rfl
  bx l := by rw [bxb_apply, V_bx, unflat_apply, halved_apply, flat_apply]; rfl
  lam l := by rw [lamb_apply, V_lam, unflat_apply, flat_apply]; rfl

theorem x_at (c : Dev nD) (t : Fin cfg0.N) (r l : Fin 512) :
    xb m c t (ix3 (0 : Fin 1) r l) = (netAt m c (batchOf t)).x (512 * (t.val % 4) + r.val) (chan (laneOf t) l) := by
  rw [xb_apply, V_rows, rows_apply]
  refine congrArg (m ((c : Thread nD τ).loc main_arg0)) ?_
  have := (batchOf t).isLt
  have := r.isLt
  congr 1
  apply Fin.ext
  show 2048 * (batchOf t).val + (512 * (t.val % 4) + r.val) = (2048 * (batchOf t).val + (512 * (t.val % 4) + r.val)) % 16384
  omega

theorem g_at (c : Dev nD) (t : Fin cfg0.N) (r l : Fin 512) :
    gb m c t (ix3 (0 : Fin 1) r l) = gateAt (m ((c : Thread nD τ).loc main_arg0)) (batchOf t) (rowOf t r) (chan (laneOf t) l) := by
  rw [gb_apply, V_rows, rows_apply]
  rfl

theorem zero_tail (s : Fin 8) (l : Fin 512) : k0_pay1 (F := Ideal) (ix2 s l) = 0 := by
  pointwise [k0_pay1]

theorem zero_carry (l : Fin 512) : carryRow (F := Ideal) (k0_pay2 (F := Ideal)) (ix2 (0 : Fin 1) l) = 0 := by
  rw [carryRow_apply]
  generalize (Rect.unit (s := S8x512) ![0, 0] S1x512.size inb_S8x512_S1x512_0_0).emb (ix2 (0 : Fin 1) l) = e
  obtain ⟨a, b, rfl⟩ : ∃ a b, e = ix2 a b := ⟨_, _, eq_ix2 e⟩
  pointwise [k0_pay2]

/-- What is carried into a point, and what it then leaves and stores. -/
structure Into (c : Dev nD) (t : Fin cfg0.N) (tail : FVec Ideal S8x512 .f32) (carry : FVec Ideal S1x512 .f32) : Prop where
  held : ∀ s l, tail (ix2 s l) = if t.val % 4 = 0 then 0 else (netAt m c (batchOf t)).x (512 * (t.val % 4) + s.val - 8) (chan (laneOf t) l)
  state : ∀ l, carry (ix2 (0 : Fin 1) l) = if t.val % 4 = 0 then 0 else (netAt m c (batchOf t)).state (chan (laneOf t) l) (512 * (t.val % 4) - 1)
  ends : carryAt m c t.val t.isLt = endOf (F := Ideal) m c t tail carry
  stores : outAt m c t.val t.isLt = k0_pay112 (F := Ideal) (rowsOf (F := Ideal) m c t tail carry) (gb m c t)

theorem into_first (c : Dev nD) (t : Fin cfg0.N) (h0 : t.val % 4 = 0) :
    Into m c t (k0_pay1 (F := Ideal)) (carryRow (F := Ideal) (k0_pay2 (F := Ideal))) where
  held s l := by rw [zero_tail, if_pos h0]
  state l := by rw [zero_carry, if_pos h0]
  ends := carry_at_first m c t h0
  stores := out_at_first m c t h0

theorem into_later (c : Dev nD) (t p : Fin cfg0.N) (h0 : ¬t.val % 4 = 0) (hp : p.val = t.val - 1) (tail : FVec Ideal S8x512 .f32)
    (carry : FVec Ideal S1x512 .f32) (I : Into m c p tail carry) :
    Into m c t (tailAt m c (t.val - 1) (hp ▸ p.isLt)) (carryAt m c (t.val - 1) (hp ▸ p.isLt)) where
  held s l := by
    have eb : batchOf p = batchOf t := Fin.ext (by show p.val / 16 = t.val / 16; omega)
    have el : laneOf p = laneOf t := Fin.ext (by show p.val / 4 % 4 = t.val / 4 % 4; omega)
    have e := (tailAt_congr m c hp.symm (hp ▸ p.isLt) p.isLt).trans (tail_at m c p)
    rw [if_neg h0, e, keptTail_apply, x_at, eb, el]
    congr 1
    have := s.isLt
    show 512 * (p.val % 4) + (504 + s.val) = 512 * (t.val % 4) + s.val - 8
    omega
  state l := by
    have eb : batchOf p = batchOf t := Fin.ext (by show p.val / 16 = t.val / 16; omega)
    have el : laneOf p = laneOf t := Fin.ext (by show p.val / 4 % 4 = t.val / 4 % 4; omega)
    have e := (carryAt_congr m c hp.symm (hp ▸ p.isLt) p.isLt).trans I.ends
    have h := (states_net (params_at m c p) (x_at m c p) I.held I.state ⟨0, by decide⟩ l).2
    rw [if_neg h0]
    refine (congrFun e _).trans (h.trans ?_)
    rw [eb, el]
    congr 1
    omega
  ends := carry_at_later m c t h0 _
  stores := out_at_later m c t h0 _

theorem into_at (c : Dev nD) : ∀ (n : ℕ) (hn : n < cfg0.N), ∃ tail carry, Into m c ⟨n, hn⟩ tail carry
  | 0, hn => ⟨_, _, into_first m c ⟨0, hn⟩ rfl⟩
  | n + 1, hn => by
    by_cases h0 : (n + 1) % 4 = 0
    · exact ⟨_, _, into_first m c ⟨n + 1, hn⟩ h0⟩
    · obtain ⟨tail, carry, I⟩ := into_at c n (by omega)
      exact ⟨_, _, into_later m c ⟨n + 1, hn⟩ ⟨n, by omega⟩ h0 rfl tail carry I⟩

/-- The kernel's result at batch `b`, row `t`, channel `h`. -/
theorem result_apply (c : Dev nD) (b : Fin 8) (t h : Fin 2048) :
    (dats m 0 c).arrAt 8 cfg0.N (ix3 b t h) = gated ((netAt m c b).state h t.val) (gateAt (m ((c : Thread nD τ).loc main_arg0)) b t h) := by
  have hb := b.isLt
  have ht := t.isLt
  have hh := h.isLt
  have hN : cfg0.N = 128 := N_0
  have hp : 16 * b.val + 4 * (h.val / 512) + t.val / 512 < cfg0.N := by omega
  have eb : batchOf ⟨16 * b.val + 4 * (h.val / 512) + t.val / 512, hp⟩ = b := Fin.ext (by
    show (16 * b.val + 4 * (h.val / 512) + t.val / 512) / 16 = b.val; omega)
  have er : rowOf ⟨16 * b.val + 4 * (h.val / 512) + t.val / 512, hp⟩ ⟨t.val % 512, by omega⟩ = t := Fin.ext (by
    show 512 * ((16 * b.val + 4 * (h.val / 512) + t.val / 512) % 4) + t.val % 512 = t.val; omega)
  have eh : chan (laneOf ⟨16 * b.val + 4 * (h.val / 512) + t.val / 512, hp⟩) ⟨h.val % 512, by omega⟩ = h := Fin.ext (by
    show 512 * ((16 * b.val + 4 * (h.val / 512) + t.val / 512) / 4 % 4) + h.val % 512 = h.val; omega)
  obtain ⟨tail, carry, I⟩ := into_at m c (16 * b.val + 4 * (h.val / 512) + t.val / 512) hp
  have e := I.stores
  have hs := (states_net (params_at m c _) (x_at m c _) I.held I.state ⟨t.val % 512, by omega⟩ ⟨h.val % 512, by omega⟩).1
  have hf := final_apply m c ⟨16 * b.val + 4 * (h.val / 512) + t.val / 512, hp⟩ ⟨t.val % 512, by omega⟩ ⟨h.val % 512, by omega⟩
  rw [eb, er, eh] at hf
  rw [hf, e, stored_apply, g_at, eb, er, eh]
  unfold gated rowsOf
  rw [hs, eb, eh]
  congr 2
  show 512 * ((16 * b.val + 4 * (h.val / 512) + t.val / 512) % 4) + t.val % 512 = t.val
  omega

end Cert.RglruIdeal.Recur

end
-- ==== Proof.Rglru.Claim.lean ====
/- The recurrent call: the kernel and the reference leave the same array, and idealization names the two constants whose
   words stand for the reciprocal of a logarithm and for a product of two constants of the reference. -/
module

public import proofs.«01_k».proof.Proof.Rglru.RefMeaning
public import proofs.«01_k».proof.Proof.Rglru.Points

@[expose] public section

noncomputable section

namespace Cert.RglruIdeal.Recur

open Idealize.ShloMosaic Idealize.SL.Sem Cert.RglruIdeal.Gen

/-- The named constants are the words the kernel holds. -/
theorem preserves : Cert.preserves_Rglru_RglruIdeal :=
  ⟨IdealRules.named_const.statement Cert.RglruIdeal.κ "neg_log2e" .f32 0xBFB8AA3B#32 _ rfl,
    IdealRules.named_const.statement Cert.RglruIdeal.κ "c2" .f32 0x3D122279#32 _ rfl⟩

/-- The kernel and the reference leave the same array. -/
theorem algebraic : Cert.algebraic_RglruIdeal_RglruRefIdeal := by
  intro m g m' g' _ hargs
  refine ⟨fun c => (dats m 0 c).arrAt 8 cfg0.N, Value.run_blocks m g, ?_⟩
  refine (θ_run Cert.RglruRefIdeal.defs _ _).mono (fun r h c => ?_) (Cert.RglruRefIdeal.Recur.run (F := Ideal) m' g')
  obtain ⟨h0, h1⟩ := h c
  refine ⟨(h0.trans (Cert.RglruRefIdeal.Recur.final_eq m' c)).trans ?_, h1⟩
  obtain ⟨e0, e1, e2, e3, e4, e5, e6, e7⟩ := hargs c
  funext i
  rw [eq_ix3 i]
  refine (Cert.RglruRefIdeal.Recur.final_apply m' c _ _ _).trans (Eq.trans ?_ (result_apply m c _ _ _).symm)
  unfold Cert.RglruRefIdeal.Recur.netAt netAt
  rw [e0, e1, e2, e3, e4, e5, e6, e7]

end Cert.RglruIdeal.Recur

end
-- ==== Proof.Ffn.ResidStream.lean ====
/- The weights of the last feed-forward call, streamed by the body's own transfers: the gate and up matrices by blocks of
   512 columns, the down matrix by blocks of 512 rows, each through three slots of a scratch buffer, two blocks ahead.
   Of the eleven grid points of a row block the first ten wait a block each, so before point `t` there were `t - t / 11`
   steps. Here are the names of the slots, blocks and semaphore cells, what is held of them between two points, and the
   body's own spellings of them. -/
module

public import proofs.«01_k».proof.Proof.Gen.FfnResidIdeal.Frame
public import proofs.«01_k».proof.Proof.Gen.FfnResidIdeal.Skeleton
public import proofs.«01_k».proof.Proof.Gen.FfnResidIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnResidIdeal.Stream

open Cert.FfnResidIdeal Cert.FfnResidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The grid -/

/-- The steps taken before point `t`. -/
def step (t : ℕ) : ℕ := t - t / 11

theorem step_spec (t : ℕ) : 11 * step t = 10 * t + t % 11 := by unfold step; omega

theorem step_succ (t : ℕ) (h : t % 11 ≤ 9) : step (t + 1) = step t + 1 := by
  have := step_spec t; have := step_spec (t + 1); omega

theorem step_rest (t : ℕ) (h : t % 11 = 10) : step (t + 1) = step t := by
  have := step_spec t; have := step_spec (t + 1); omega

theorem first_iff : ∀ t : Fin cfg0.N, k0_cond1 (grid0.coords t) = 1#1 ↔ t.val = 0 :=
  (by decide +kernel : ∀ t : Fin grid0.N, k0_cond1 (grid0.coords t) = 1#1 ↔ t.val = 0)
theorem start_iff : ∀ t : Fin cfg0.N, k0_cond2 (grid0.coords t) = 1#1 ↔ t.val % 11 = 0 :=
  (by decide +kernel : ∀ t : Fin grid0.N, k0_cond2 (grid0.coords t) = 1#1 ↔ t.val % 11 = 0)
theorem wait_iff : ∀ t : Fin cfg0.N, k0_cond3 (grid0.coords t) = 1#1 ↔ t.val % 11 ≤ 9 :=
  (by decide +kernel : ∀ t : Fin grid0.N, k0_cond3 (grid0.coords t) = 1#1 ↔ t.val % 11 ≤ 9)
theorem ahead_iff : ∀ t : Fin cfg0.N, k0_cond4 (grid0.coords t) = 1#1 ↔ t.val < 349 :=
  (by decide +kernel : ∀ t : Fin grid0.N, k0_cond4 (grid0.coords t) = 1#1 ↔ t.val < 349)
theorem last_iff : ∀ t : Fin cfg0.N, k0_cond5 (grid0.coords t) = 1#1 ↔ t.val % 11 = 10 :=
  (by decide +kernel : ∀ t : Fin grid0.N, k0_cond5 (grid0.coords t) = 1#1 ↔ t.val % 11 = 10)

/-! ## Slots, blocks, cells -/

theorem colSlot_inb (s : Fin 3) : ∀ a, (![s.val, 0, 0] : Fin 3 → Nat) a + S1x2048x512.size a ≤ S3x2048x512.size a := by
  have := s.isLt; intro a; fin_cases a <;> simp <;> omega
theorem rowSlot_inb (s : Fin 3) : ∀ a, (![s.val, 0, 0] : Fin 3 → Nat) a + S1x512x2048.size a ≤ S3x512x2048.size a := by
  have := s.isLt; intro a; fin_cases a <;> simp <;> omega
theorem colBlk_inb (b : Fin 320) : ∀ a, (![0, 512 * (b.val % 10)] : Fin 2 → Nat) a + S2048x512.size a ≤ S2048x5504.size a := by
  have := b.isLt; intro a; fin_cases a <;> simp <;> omega
theorem rowBlk_inb (b : Fin 320) : ∀ a, (![512 * (b.val % 10), 0] : Fin 2 → Nat) a + S512x2048.size a ≤ S5504x2048.size a := by
  have := b.isLt; intro a; fin_cases a <;> simp <;> omega
theorem cell_inb (r s : Fin 3) : ∀ a, (![r.val, s.val] : Fin 2 → Nat) a + S1x1.size a ≤ S3x3.size a := by
  have := r.isLt; have := s.isLt; intro a; fin_cases a <;> simp <;> omega

/-- Slot `s` of a buffer of three column blocks, and of three row blocks. -/
def colSlot (R : Memref sig .tc .vmem S3x2048x512 .bf16) (s : Fin 3) : Memref sig .tc .vmem S2048x512 .bf16 :=
  (R.slice (Rect.unit (s := S3x2048x512) ![s.val, 0, 0] S1x2048x512.size (colSlot_inb s)) (fun _ => rfl)).squeeze S2048x512 squeezes_S1x2048x512_S2048x512
def rowSlot (R : Memref sig .tc .vmem S3x512x2048 .bf16) (s : Fin 3) : Memref sig .tc .vmem S512x2048 .bf16 :=
  (R.slice (Rect.unit (s := S3x512x2048) ![s.val, 0, 0] S1x512x2048.size (rowSlot_inb s)) (fun _ => rfl)).squeeze S512x2048 squeezes_S1x512x2048_S512x2048
/-- What step `b` waits for: block `b % 10` of the columns, and of the rows, of a matrix. -/
def colBlk (H : Memref sig .tc .hbm S2048x5504 .bf16) (b : Fin 320) : Memref sig .tc .hbm S2048x512 .bf16 :=
  H.slice (Rect.unit (s := S2048x5504) ![0, 512 * (b.val % 10)] S2048x512.size (colBlk_inb b)) (fun _ => rfl)
def rowBlk (H : Memref sig .tc .hbm S5504x2048 .bf16) (b : Fin 320) : Memref sig .tc .hbm S512x2048 .bf16 :=
  H.slice (Rect.unit (s := S5504x2048) ![512 * (b.val % 10), 0] S512x2048.size (rowBlk_inb b)) (fun _ => rfl)
/-- Cell `s` of stream `r`. -/
def cell (r s : Fin 3) : DmaSems sig S_ :=
  (cc0_scratch4.slice (Rect.unit (s := S3x3) ![r.val, s.val] S1x1.size (cell_inb r s))).squeeze S_ squeezes_S1x1_S_
abbrev cellSem (r s : Fin 3) : SemLoc sig := SemLoc.dma (cell r s).sem

abbrev gBuf : Memref sig .tc .vmem S3x2048x512 .bf16 := Memref.whole cc0_scratch1
abbrev uBuf : Memref sig .tc .vmem S3x2048x512 .bf16 := Memref.whole cc0_scratch2
abbrev dBuf : Memref sig .tc .vmem S3x512x2048 .bf16 := Memref.whole cc0_scratch3
abbrev gMat : Memref sig .tc .hbm S2048x5504 .bf16 := Memref.whole main_v4
abbrev uMat : Memref sig .tc .hbm S2048x5504 .bf16 := Memref.whole main_v6
abbrev dMat : Memref sig .tc .hbm S5504x2048 .bf16 := Memref.whole main_v8

/-- What memref `M`'s buffer on core `c` may hold. -/
abbrev Held (F : FTy → Type) (c : Dev nD) {sp : Space} {S : Shape} {e : EltTy} (M : Memref sig .tc sp S e) : Type :=
  Buf (Elt F) (M.view.loc (c : Thread nD τ))

/-! ## What is held of a stream -/

section Pieces
variable (c : Dev nD)

/-- Each slot has a share of its own of the streamed matrix, out of which its transfers borrow. -/
abbrev part (s : Fin 3) : PosShare TreeShare :=
  if s.val = 0 then fullShare.left else if s.val = 1 then fullShare.right.left else fullShare.right.right

/-- A memref's own elements, held at `f`; the elements of a block lent out of share `q`; the other elements of the
    matrix at that share. -/
abbrev slotAt {S : Shape} (D : Memref sig .tc .vmem S .bf16) (f : Held F c D) : sProp 𝕄 :=
  D.view.loc (c : Thread nD τ) ↦[D.view.set]{fullShare} f
abbrev lent {S : Shape} (M : Memref sig .tc .hbm S .bf16) (q : PosShare TreeShare) (W : Held F c M) : sProp 𝕄 :=
  M.view.loc (c : Thread nD τ) ↦[M.view.set]{q} W
def kept {S : Shape} (M : Memref sig .tc .hbm S .bf16) (q : PosShare TreeShare) (W : Held F c M) : sProp 𝕄 :=
  M.view.loc (c : Thread nD τ) ↦[Finset.univ \ M.view.set]{q} W
/-- A slot once block `M` landed in it over `f`, and the transfer that will have it land. -/
abbrev landed {S : Shape} (D : Memref sig .tc .vmem S .bf16) (M : Memref sig .tc .hbm S .bf16) (W : Held F c M) (f : Held F c D) : Held F c D :=
  D.view.writes (Elt F) f [⟨Rect.whole S, ReadAs.same.apply (M.view.read (Elt F) W)⟩]
abbrev moving {S : Shape} (D : Memref sig .tc .vmem S .bf16) (M : Memref sig .tc .hbm S .bf16) (a : SemLoc sig) (q : PosShare TreeShare)
    (W : Held F c M) (f : Held F c D) : sProp 𝕄 :=
  Transfers.Flight countersEmb (c : Thread nD τ) a default (D.view.amount a) iprop(slotAt c D (landed c D M W f) ∗ lent c M q W)

/-- A matrix whole, at a slot's share. -/
abbrev whole {S : Shape} (H : Memref sig .tc .hbm S .bf16) (q : PosShare TreeShare) (W : Held F c H) : sProp 𝕄 :=
  H.view.loc (c : Thread nD τ) ↦[Finset.univ]{q} W

theorem colBlk_split (H : Memref sig .tc .hbm S2048x5504 .bf16) (q) (W : Held F c H) (b : Fin 320) :
    whole c H q W ⊣⊢ iprop(lent c (colBlk H b) q W ∗ kept c (colBlk H b) q W) := by
  unfold kept; exact pointsTo_split_subset (Finset.subset_univ _)
theorem rowBlk_split (H : Memref sig .tc .hbm S5504x2048 .bf16) (q) (W : Held F c H) (b : Fin 320) :
    whole c H q W ⊣⊢ iprop(lent c (rowBlk H b) q W ∗ kept c (rowBlk H b) q W) := by
  unfold kept; exact pointsTo_split_subset (Finset.subset_univ _)

/-- The slot of step `b`, free; and with the transfer of step `b` under way. -/
abbrev colFree (r : Fin 3) (R : Memref sig .tc .vmem S3x2048x512 .bf16) (H : Memref sig .tc .hbm S2048x5504 .bf16) (W : Held F c H) (b : ℕ) : sProp 𝕄 :=
  iprop(semVal ((c : Thread nD τ), cellSem r (Ring.sl 3 b)) 0 ∗ (∃ f, slotAt c (colSlot R (Ring.sl 3 b)) f) ∗ whole c H (part (Ring.sl 3 b)) W)
abbrev colFly (r : Fin 3) (R : Memref sig .tc .vmem S3x2048x512 .bf16) (H : Memref sig .tc .hbm S2048x5504 .bf16) (W : Held F c H) (b : ℕ) : sProp 𝕄 :=
  iprop(∃ f, moving c (colSlot R (Ring.sl 3 b)) (colBlk H (Ring.bk 320 b)) (cellSem r (Ring.sl 3 b)) (part (Ring.sl 3 b)) W f
    ∗ kept c (colBlk H (Ring.bk 320 b)) (part (Ring.sl 3 b)) W)
abbrev rowFree (r : Fin 3) (R : Memref sig .tc .vmem S3x512x2048 .bf16) (H : Memref sig .tc .hbm S5504x2048 .bf16) (W : Held F c H) (b : ℕ) : sProp 𝕄 :=
  iprop(semVal ((c : Thread nD τ), cellSem r (Ring.sl 3 b)) 0 ∗ (∃ f, slotAt c (rowSlot R (Ring.sl 3 b)) f) ∗ whole c H (part (Ring.sl 3 b)) W)
abbrev rowFly (r : Fin 3) (R : Memref sig .tc .vmem S3x512x2048 .bf16) (H : Memref sig .tc .hbm S5504x2048 .bf16) (W : Held F c H) (b : ℕ) : sProp 𝕄 :=
  iprop(∃ f, moving c (rowSlot R (Ring.sl 3 b)) (rowBlk H (Ring.bk 320 b)) (cellSem r (Ring.sl 3 b)) (part (Ring.sl 3 b)) W f
    ∗ kept c (rowBlk H (Ring.bk 320 b)) (part (Ring.sl 3 b)) W)

/-- A waited slot is free again: the transfer gave the cell, the slot and the lent block back. -/
theorem colFree_of (r : Fin 3) (R : Memref sig .tc .vmem S3x2048x512 .bf16) (H : Memref sig .tc .hbm S2048x5504 .bf16) (W : Held F c H) (b : ℕ) (f) :
    iprop(semVal ((c : Thread nD τ), cellSem r (Ring.sl 3 b)) 0 ∗ slotAt c (colSlot R (Ring.sl 3 b)) f
      ∗ lent c (colBlk H (Ring.bk 320 b)) (part (Ring.sl 3 b)) W ∗ kept c (colBlk H (Ring.bk 320 b)) (part (Ring.sl 3 b)) W)
      ⊢ colFree c r R H W b := by
  iintro ⟨Hc, Hs, Hl, Hk⟩
  isplitl [Hc]; · iexact Hc
  isplitl [Hs]; · iexists f; iexact Hs
  iapply (colBlk_split c H (part (Ring.sl 3 b)) W (Ring.bk 320 b)).2
  isplitl [Hl]; · iexact Hl
  iexact Hk
theorem rowFree_of (r : Fin 3) (R : Memref sig .tc .vmem S3x512x2048 .bf16) (H : Memref sig .tc .hbm S5504x2048 .bf16) (W : Held F c H) (b : ℕ) (f) :
    iprop(semVal ((c : Thread nD τ), cellSem r (Ring.sl 3 b)) 0 ∗ slotAt c (rowSlot R (Ring.sl 3 b)) f
      ∗ lent c (rowBlk H (Ring.bk 320 b)) (part (Ring.sl 3 b)) W ∗ kept c (rowBlk H (Ring.bk 320 b)) (part (Ring.sl 3 b)) W)
      ⊢ rowFree c r R H W b := by
  iintro ⟨Hc, Hs, Hl, Hk⟩
  isplitl [Hc]; · iexact Hc
  isplitl [Hs]; · iexists f; iexact Hs
  iapply (rowBlk_split c H (part (Ring.sl 3 b)) W (Ring.bk 320 b)).2
  isplitl [Hl]; · iexact Hl
  iexact Hk

variable (W3 : Held F c gMat) (W5 : Held F c uMat) (W7 : Held F c dMat)

/-- The three streams' slots of step `b`, free, and under way. -/
def free (b : ℕ) : sProp 𝕄 := iprop(colFree c 0 gBuf gMat W3 b ∗ colFree c 1 uBuf uMat W5 b ∗ rowFree c 2 dBuf dMat W7 b)
def fly (b : ℕ) : sProp 𝕄 := iprop(colFly c 0 gBuf gMat W3 b ∗ colFly c 1 uBuf uMat W5 b ∗ rowFly c 2 dBuf dMat W7 b)

/-- A slot serves every third step. -/
theorem free_add (b : ℕ) : free c W3 W5 W7 (b + 3) = free c W3 W5 W7 b := by
  have e : Ring.sl 3 (b + 3) = Ring.sl 3 b := Ring.sl_add 3 b
  unfold free colFree rowFree; rw [e]

/-- Step `b`'s block is under way when there is one. -/
def due (b : ℕ) : sProp 𝕄 := if b < 320 then fly c W3 W5 W7 b else free c W3 W5 W7 b
/-- What is held before step `k`: nothing under way before the first; then the blocks of steps `k` and `k + 1`. -/
def lanes (k : ℕ) : sProp 𝕄 :=
  if k = 0 then iprop(free c W3 W5 W7 0 ∗ free c W3 W5 W7 1 ∗ free c W3 W5 W7 2)
  else iprop(due c W3 W5 W7 k ∗ due c W3 W5 W7 (k + 1) ∗ free c W3 W5 W7 (k + 2))

end Pieces

/-! ## The body's spellings -/

section Spellings
variable (t : Fin grid0.N)

theorem off1_eq : ∀ t : Fin grid0.N, k0_off1 (grid0.coords t) = ![((0 : Fin 3) : ℕ), (Ring.sl 3 (step t.val)).val] := by decide +kernel
theorem off4_eq : ∀ t : Fin grid0.N, k0_off4 (grid0.coords t) = ![((1 : Fin 3) : ℕ), (Ring.sl 3 (step t.val)).val] := by decide +kernel
theorem off5_eq : ∀ t : Fin grid0.N, k0_off5 (grid0.coords t) = ![((2 : Fin 3) : ℕ), (Ring.sl 3 (step t.val)).val] := by decide +kernel
theorem off8_eq : ∀ t : Fin grid0.N, k0_off8 (grid0.coords t) = ![((0 : Fin 3) : ℕ), (Ring.sl 3 (step t.val + 2)).val] := by decide +kernel
theorem off11_eq : ∀ t : Fin grid0.N, k0_off11 (grid0.coords t) = ![((1 : Fin 3) : ℕ), (Ring.sl 3 (step t.val + 2)).val] := by decide +kernel
theorem off12_eq : ∀ t : Fin grid0.N, k0_off12 (grid0.coords t) = ![((2 : Fin 3) : ℕ), (Ring.sl 3 (step t.val + 2)).val] := by decide +kernel
theorem off2_eq : ∀ t : Fin grid0.N, k0_off2 (grid0.coords t) = ![(Ring.sl 3 (step t.val)).val, 0, 0] := by decide +kernel
theorem off6_eq : ∀ t : Fin grid0.N, k0_off6 (grid0.coords t) = ![(Ring.sl 3 (step t.val)).val, 0, 0] := by decide +kernel
theorem off15_eq : ∀ t : Fin grid0.N, k0_off15 (grid0.coords t) = ![(Ring.sl 3 (step t.val)).val, 0, 0] := by decide +kernel
theorem off16_eq : ∀ t : Fin grid0.N, k0_off16 (grid0.coords t) = ![(Ring.sl 3 (step t.val)).val, 0, 0] := by decide +kernel
theorem off9_eq : ∀ t : Fin grid0.N, k0_off9 (grid0.coords t) = ![(Ring.sl 3 (step t.val + 2)).val, 0, 0] := by decide +kernel
theorem off13_eq : ∀ t : Fin grid0.N, k0_off13 (grid0.coords t) = ![(Ring.sl 3 (step t.val + 2)).val, 0, 0] := by decide +kernel
theorem off10_eq : ∀ t : Fin grid0.N, k0_cond3 (grid0.coords t) = 1#1 → k0_cond4 (grid0.coords t) = 1#1 →
    k0_off10 (grid0.coords t) = ![0, 512 * ((Ring.bk 320 (step t.val + 2)).val % 10)] := by decide +kernel
theorem off14_eq : ∀ t : Fin grid0.N, k0_cond3 (grid0.coords t) = 1#1 → k0_cond4 (grid0.coords t) = 1#1 →
    k0_off14 (grid0.coords t) = ![512 * ((Ring.bk 320 (step t.val + 2)).val % 10), 0] := by decide +kernel

theorem off3_eq : ∀ t : Fin grid0.N, k0_cond3 (grid0.coords t) = 1#1 →
    k0_off3 (grid0.coords t) = ![0, 512 * ((Ring.bk 320 (step t.val)).val % 10)] := by decide +kernel
theorem off7_eq : ∀ t : Fin grid0.N, k0_cond3 (grid0.coords t) = 1#1 →
    k0_off7 (grid0.coords t) = ![512 * ((Ring.bk 320 (step t.val)).val % 10), 0] := by decide +kernel

theorem colSlot_named (R : Memref sig .tc .vmem S3x2048x512 .bf16) {off : Fin 3 → Nat} {s : Fin 3} (e : off = ![s.val, 0, 0]) (inb) :
    (R.slice (Rect.unit (s := S3x2048x512) off S1x2048x512.size inb) (fun _ => rfl)).squeeze S2048x512 squeezes_S1x2048x512_S2048x512 = colSlot R s := by
  subst e; rfl
theorem rowSlot_named (R : Memref sig .tc .vmem S3x512x2048 .bf16) {off : Fin 3 → Nat} {s : Fin 3} (e : off = ![s.val, 0, 0]) (inb) :
    (R.slice (Rect.unit (s := S3x512x2048) off S1x512x2048.size inb) (fun _ => rfl)).squeeze S512x2048 squeezes_S1x512x2048_S512x2048 = rowSlot R s := by
  subst e; rfl
theorem colBlk_named (H : Memref sig .tc .hbm S2048x5504 .bf16) {off : Fin 2 → Nat} {b : Fin 320} (e : off = ![0, 512 * (b.val % 10)]) (inb) :
    H.slice (Rect.unit (s := S2048x5504) off S2048x512.size inb) (fun _ => rfl) = colBlk H b := by
  subst e; rfl
theorem rowBlk_named (H : Memref sig .tc .hbm S5504x2048 .bf16) {off : Fin 2 → Nat} {b : Fin 320} (e : off = ![512 * (b.val % 10), 0]) (inb) :
    H.slice (Rect.unit (s := S5504x2048) off S512x2048.size inb) (fun _ => rfl) = rowBlk H b := by
  subst e; rfl
theorem cell_named {r s : Fin 3} {off : Fin 2 → Nat} (e : off = ![r.val, s.val]) (inb) :
    (cc0_scratch4.slice (Rect.unit (s := S3x3) off S1x1.size inb)).squeeze S_ squeezes_S1x1_S_ = cell r s := by
  subst e; rfl

variable (R : Memref sig .tc .vmem S3x2048x512 .bf16) (RD : Memref sig .tc .vmem S3x512x2048 .bf16)
  (H : Memref sig .tc .hbm S2048x5504 .bf16) (HD : Memref sig .tc .hbm S5504x2048 .bf16)

@[sl_canon] theorem slot_here (h : k0_cond3 (grid0.coords t) = 1#1) :
    (R.slice (Rect.unit (s := S3x2048x512) (k0_off2 (grid0.coords t)) S1x2048x512.size (k0_off2_inb (grid0.coords t) h)) (fun _ => rfl)).squeeze S2048x512 squeezes_S1x2048x512_S2048x512
      = colSlot R (Ring.sl 3 (step t.val)) := colSlot_named R (off2_eq t) _
@[sl_canon] theorem slot_here' (h : k0_cond3 (grid0.coords t) = 1#1) :
    (RD.slice (Rect.unit (s := S3x512x2048) (k0_off6 (grid0.coords t)) S1x512x2048.size (k0_off6_inb (grid0.coords t) h)) (fun _ => rfl)).squeeze S512x2048 squeezes_S1x512x2048_S512x2048
      = rowSlot RD (Ring.sl 3 (step t.val)) := rowSlot_named RD (off6_eq t) _
@[sl_canon] theorem slot_next (h : k0_cond3 (grid0.coords t) = 1#1) (h' : k0_cond4 (grid0.coords t) = 1#1) :
    (R.slice (Rect.unit (s := S3x2048x512) (k0_off9 (grid0.coords t)) S1x2048x512.size (k0_off9_inb (grid0.coords t) h h')) (fun _ => rfl)).squeeze S2048x512 squeezes_S1x2048x512_S2048x512
      = colSlot R (Ring.sl 3 (step t.val + 2)) := colSlot_named R (off9_eq t) _
@[sl_canon] theorem slot_next' (h : k0_cond3 (grid0.coords t) = 1#1) (h' : k0_cond4 (grid0.coords t) = 1#1) :
    (RD.slice (Rect.unit (s := S3x512x2048) (k0_off13 (grid0.coords t)) S1x512x2048.size (k0_off13_inb (grid0.coords t) h h')) (fun _ => rfl)).squeeze S512x2048 squeezes_S1x512x2048_S512x2048
      = rowSlot RD (Ring.sl 3 (step t.val + 2)) := rowSlot_named RD (off13_eq t) _
@[sl_canon] theorem blk_here (h : k0_cond3 (grid0.coords t) = 1#1) :
    H.slice (Rect.unit (s := S2048x5504) (k0_off3 (grid0.coords t)) S2048x512.size (k0_off3_inb (grid0.coords t) h)) (fun _ => rfl)
      = colBlk H (Ring.bk 320 (step t.val)) := colBlk_named H (off3_eq t h) _
@[sl_canon] theorem blk_here' (h : k0_cond3 (grid0.coords t) = 1#1) :
    HD.slice (Rect.unit (s := S5504x2048) (k0_off7 (grid0.coords t)) S512x2048.size (k0_off7_inb (grid0.coords t) h)) (fun _ => rfl)
      = rowBlk HD (Ring.bk 320 (step t.val)) := rowBlk_named HD (off7_eq t h) _
@[sl_canon] theorem blk_next (h : k0_cond3 (grid0.coords t) = 1#1) (h' : k0_cond4 (grid0.coords t) = 1#1) :
    H.slice (Rect.unit (s := S2048x5504) (k0_off10 (grid0.coords t)) S2048x512.size (k0_off10_inb (grid0.coords t) h h')) (fun _ => rfl)
      = colBlk H (Ring.bk 320 (step t.val + 2)) := colBlk_named H (off10_eq t h h') _
@[sl_canon] theorem blk_next' (h : k0_cond3 (grid0.coords t) = 1#1) (h' : k0_cond4 (grid0.coords t) = 1#1) :
    HD.slice (Rect.unit (s := S5504x2048) (k0_off14 (grid0.coords t)) S512x2048.size (k0_off14_inb (grid0.coords t) h h')) (fun _ => rfl)
      = rowBlk HD (Ring.bk 320 (step t.val + 2)) := rowBlk_named HD (off14_eq t h h') _
@[sl_canon] theorem cell_here0 (h : k0_cond3 (grid0.coords t) = 1#1) :
    (cc0_scratch4.slice (Rect.unit (s := S3x3) (k0_off1 (grid0.coords t)) S1x1.size (k0_off1_inb (grid0.coords t) h))).squeeze S_ squeezes_S1x1_S_
      = cell 0 (Ring.sl 3 (step t.val)) := cell_named (off1_eq t) _
@[sl_canon] theorem cell_here1 (h : k0_cond3 (grid0.coords t) = 1#1) :
    (cc0_scratch4.slice (Rect.unit (s := S3x3) (k0_off4 (grid0.coords t)) S1x1.size (k0_off4_inb (grid0.coords t) h))).squeeze S_ squeezes_S1x1_S_
      = cell 1 (Ring.sl 3 (step t.val)) := cell_named (off4_eq t) _
@[sl_canon] theorem cell_here2 (h : k0_cond3 (grid0.coords t) = 1#1) :
    (cc0_scratch4.slice (Rect.unit (s := S3x3) (k0_off5 (grid0.coords t)) S1x1.size (k0_off5_inb (grid0.coords t) h))).squeeze S_ squeezes_S1x1_S_
      = cell 2 (Ring.sl 3 (step t.val)) := cell_named (off5_eq t) _
@[sl_canon] theorem cell_next0 (h : k0_cond3 (grid0.coords t) = 1#1) (h' : k0_cond4 (grid0.coords t) = 1#1) :
    (cc0_scratch4.slice (Rect.unit (s := S3x3) (k0_off8 (grid0.coords t)) S1x1.size (k0_off8_inb (grid0.coords t) h h'))).squeeze S_ squeezes_S1x1_S_
      = cell 0 (Ring.sl 3 (step t.val + 2)) := cell_named (off8_eq t) _
@[sl_canon] theorem cell_next1 (h : k0_cond3 (grid0.coords t) = 1#1) (h' : k0_cond4 (grid0.coords t) = 1#1) :
    (cc0_scratch4.slice (Rect.unit (s := S3x3) (k0_off11 (grid0.coords t)) S1x1.size (k0_off11_inb (grid0.coords t) h h'))).squeeze S_ squeezes_S1x1_S_
      = cell 1 (Ring.sl 3 (step t.val + 2)) := cell_named (off11_eq t) _
@[sl_canon] theorem cell_next2 (h : k0_cond3 (grid0.coords t) = 1#1) (h' : k0_cond4 (grid0.coords t) = 1#1) :
    (cc0_scratch4.slice (Rect.unit (s := S3x3) (k0_off12 (grid0.coords t)) S1x1.size (k0_off12_inb (grid0.coords t) h h'))).squeeze S_ squeezes_S1x1_S_
      = cell 2 (Ring.sl 3 (step t.val + 2)) := cell_named (off12_eq t) _

instance (priority := high) off15_closed : ClosedOff (k0_off15 (grid0.coords t)) := ⟨![(Ring.sl 3 (step t.val)).val, 0, 0], off15_eq t⟩
instance (priority := high) off16_closed : ClosedOff (k0_off16 (grid0.coords t)) := ⟨![(Ring.sl 3 (step t.val)).val, 0, 0], off16_eq t⟩

end Spellings

end Cert.FfnResidIdeal.Stream

end
-- ==== Proof.Ffn.ResidRuns.lean ====
/- The second feed-forward call at one grid point: the five courses its body takes over the points, each run with what it leaves named. A point
   waits the blocks of its own step, starts those two steps on, and adds one product to the accumulator; the first point of a row block also
   normalises its rows, and the last one takes the remaining columns, the residual and the closing norm. -/
module

public import proofs.«01_k».proof.Proof.Ffn.ResidStream
public import Idealize.ShloMosaic.Lib.WritesUnit

@[expose] public section

set_option maxRecDepth 16384

noncomputable section

namespace Cert.FfnResidIdeal.Stream

open Cert.FfnResidIdeal Cert.FfnResidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What the body's loads and stores leave -/

theorem hz : (![0, 0] : Fin 2 → Nat) = fun _ => 0 := funext fun a => by fin_cases a <;> rfl

/-- A load of a whole memref reads it, and a store of a whole memref is what is read of it after. -/
theorem load_all {S : Shape} {e : EltTy} {sp : Space} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  subst h
  funext x
  rw [View.readAt_apply]
  exact congrArg _ (funext fun a => Fin.ext (by simp [LoadRect.idx, Rect.emb, Rect.unit]))
theorem store_all {S : Shape} {e : EltTy} {sp : Space} (v : View sig .tc sp S e) {off : Fin S.rank → Nat} (h : off = fun _ => 0)
    (inb : ∀ a, off a + S.size a ≤ S.size a) (f : v.ty.Contents (Elt F)) (w : S.Idx → Elt F e) (L) :
    v.read (Elt F) (v.writes (Elt F) f ((⟨Rect.unit off S.size inb, w⟩ : View.Piece (Elt F) S e) :: L)) = w := by
  funext y
  exact View.read_writes_cons_unit_of_mem v f inb w L y y h (fun a => by simp)

/-- A block as the body loads it out of its slot, with a leading axis of one. -/
def colRaised (B : Vec F S2048x512 .bf16) : Vec F S1x2048x512 .bf16 := shapeCast S1x2048x512 B squeezes_S1x2048x512_S2048x512.numel_eq.symm
def rowRaised (B : Vec F S512x2048 .bf16) : Vec F S1x512x2048 .bf16 := shapeCast S1x512x2048 B squeezes_S1x512x2048_S512x2048.numel_eq.symm

theorem round_trip {s s' : Shape} (h : s'.numel = s.numel) (h' : s.numel = s'.numel) (x : s.Idx) :
    Shape.reshapeEquiv h (Shape.reshapeEquiv h' x) = x :=
  s.rowMajor.injective (Fin.ext (by rw [Shape.rowMajor_reshapeEquiv, Shape.rowMajor_reshapeEquiv]))
theorem read_raised {S T : Shape} {e : EltTy} {sp : Space} (v : View sig .tc sp S e) (h : T.numel = S.numel) (g : v.ty.Contents (Elt F)) :
    v.read (Elt F) g = shapeCast S ((v.reshape T h).read (Elt F) g) h.symm :=
  funext fun x => (congrArg (v.read (Elt F) g) (round_trip h h.symm x)).symm
theorem col_load (R : Memref sig .tc .vmem S3x2048x512 .bf16) {off : Fin 3 → Nat} {s : Fin 3} (h : off = ![s.val, 0, 0]) (inb)
    (f : (colSlot R s).view.ty.Contents (Elt F)) (B : Vec F S2048x512 .bf16) :
    R.view.readAt (Elt F) (Rect.unit (s := S3x2048x512) off S1x2048x512.size inb).toLoadRect
      ((colSlot R s).view.writes (Elt F) f [⟨Rect.whole S2048x512, B⟩]) = colRaised B := by
  subst h
  have hw : (colSlot R s).view.read (Elt F) ((colSlot R s).view.writes (Elt F) f [⟨Rect.whole S2048x512, B⟩]) = B :=
    store_all (colSlot R s).view (off := fun _ => 0) rfl (fun a => by simp) f B []
  refine Eq.trans ?_ (congrArg colRaised hw)
  generalize (colSlot R s).view.writes (Elt F) f [⟨Rect.whole S2048x512, B⟩] = g
  exact read_raised (R.view.slice (Rect.unit (s := S3x2048x512) ![s.val, 0, 0] S1x2048x512.size inb)) squeezes_S1x2048x512_S2048x512.numel_eq g
theorem row_load (R : Memref sig .tc .vmem S3x512x2048 .bf16) {off : Fin 3 → Nat} {s : Fin 3} (h : off = ![s.val, 0, 0]) (inb)
    (f : (rowSlot R s).view.ty.Contents (Elt F)) (B : Vec F S512x2048 .bf16) :
    R.view.readAt (Elt F) (Rect.unit (s := S3x512x2048) off S1x512x2048.size inb).toLoadRect
      ((rowSlot R s).view.writes (Elt F) f [⟨Rect.whole S512x2048, B⟩]) = rowRaised B := by
  subst h
  have hw : (rowSlot R s).view.read (Elt F) ((rowSlot R s).view.writes (Elt F) f [⟨Rect.whole S512x2048, B⟩]) = B :=
    store_all (rowSlot R s).view (off := fun _ => 0) rfl (fun a => by simp) f B []
  refine Eq.trans ?_ (congrArg rowRaised hw)
  generalize (rowSlot R s).view.writes (Elt F) f [⟨Rect.whole S512x2048, B⟩] = g
  exact read_raised (R.view.slice (Rect.unit (s := S3x512x2048) ![s.val, 0, 0] S1x512x2048.size inb)) squeezes_S1x512x2048_S512x2048.numel_eq g

/-- Block `b` of each of the three matrices. -/
def gAt {c : Dev nD} (W : Held F c gMat) (b : ℕ) : Vec F S2048x512 .bf16 := (colBlk gMat (Ring.bk 320 b)).view.read (Elt F) W
def uAt {c : Dev nD} (W : Held F c uMat) (b : ℕ) : Vec F S2048x512 .bf16 := (colBlk uMat (Ring.bk 320 b)).view.read (Elt F) W
def dAt {c : Dev nD} (W : Held F c dMat) (b : ℕ) : Vec F S512x2048 .bf16 := (rowBlk dMat (Ring.bk 320 b)).view.read (Elt F) W

/-- The accumulator `acc` after a step over the blocks `g`, `u`, `d`, the normalised rows being `xn`. -/
def mixed (xn : Vec F S512x2048 .bf16) (g u : Vec F S2048x512 .bf16) (d : Vec F S512x2048 .bf16) (acc : Vec F S512x2048 .f32) : Vec F S512x2048 .f32 :=
  k0_pay3 (k0_pay5 (rowRaised d)) (k0_pay6 (colRaised g) xn) (k0_pay7 (colRaised u) xn) (k0_pay8 (colRaised g) xn) k0_pay9 acc

/-- What a row block's last point stores of the summed product `a`: the rows with half of it added. -/
theorem summed_of {x x' : Vec F S512x2048 .f32} {a a' : Vec F S512x2048 .f32} (hx : x' = x) (ha : a' = a) : k0_pay11 x' a' = k0_pay11 x a := by
  subst hx ha; rfl
theorem next_of {x x' : Vec F S512x2048 .f32} {gn gn' : Vec F S1x2048 .f32} {a a' : Vec F S512x2048 .f32} (hx : x' = x) (hg : gn' = gn) (ha : a' = a) :
    k0_pay4 (k0_pay11 x' a') gn' = k0_pay4 (k0_pay11 x a) gn := by
  subst hx hg ha; rfl
theorem tail_of {tg tg' tu tu' : Vec F S2048x384 .bf16} {td td' : Vec F S384x2048 .bf16} {xn xn' : Vec F S512x2048 .bf16} {acc acc' : Vec F S512x2048 .f32}
    (hg : tg' = tg) (hu : tu' = tu) (hd : td' = td) (hx : xn' = xn) (ha : acc' = acc) : k0_pay10 tg' tu' td' xn' acc' = k0_pay10 tg tu td xn acc := by
  subst hg hu hd hx ha; rfl
theorem mixed_of {xn x' : Vec F S512x2048 .bf16} {g u : Vec F S2048x512 .bf16} {d : Vec F S512x2048 .bf16} {acc a' : Vec F S512x2048 .f32}
    {g' u' : Vec F S1x2048x512 .bf16} {d' : Vec F S1x512x2048 .bf16} (hd : d' = rowRaised d) (hg : g' = colRaised g) (hu : u' = colRaised u)
    (hx : x' = xn) (ha : a' = acc) :
    k0_pay3 (k0_pay5 d') (k0_pay6 g' x') (k0_pay7 u' x') (k0_pay8 g' x') k0_pay9 a' = mixed xn g u d acc := by
  subst hd hg hu hx ha; rfl

section Runs
variable (c : Dev nD) (t : Fin cfg0.N)
  (arg2 : Memref sig .tc .vmem S512x2048 .f32) (harg2 : arg2.IsWhole)
  (arg3 : Memref sig .tc .vmem S1x2048 .f32) (harg3 : arg3.IsWhole)
  (arg7 : Memref sig .tc .vmem S2048x384 .bf16) (harg7 : arg7.IsWhole)
  (arg8 : Memref sig .tc .vmem S2048x384 .bf16) (harg8 : arg8.IsWhole)
  (arg9 : Memref sig .tc .vmem S384x2048 .bf16) (harg9 : arg9.IsWhole)
  (arg10 : Memref sig .tc .vmem S1x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S512x2048 .bf16) (harg13 : arg13.IsWhole)
  (W3 : Held F c gMat) (W5 : Held F c uMat) (W7 : Held F c dMat)

abbrev theBody : Prog (TpuEff nD τ sig (Elt F) Λ₀ .tc) PUnit :=
  cc0_ffn_resid (grid0.coords t) arg2 harg2 arg3 harg3 gMat (Memref.isWhole_whole _) uMat (Memref.isWhole_whole _) dMat (Memref.isWhole_whole _)
    arg7 harg7 arg8 harg8 arg9 harg9 arg10 harg10 arg11 harg11 arg12 harg12 arg13 harg13
    gBuf (Memref.isWhole_whole _) uBuf (Memref.isWhole_whole _) dBuf (Memref.isWhole_whole _) cc0_scratch4

set_option maxHeartbeats 1000000 in
/-- A point between the first and the last of its row block, with a block still to start: it waits step `step t`'s blocks, starts those two
    steps on into the free slots, and adds to the accumulator. -/
theorem run_middle (h1 : ¬k0_cond1 (grid0.coords t) = 1#1) (h2 : ¬k0_cond2 (grid0.coords t) = 1#1) (h3 : k0_cond3 (grid0.coords t) = 1#1) (h4 : k0_cond4 (grid0.coords t) = 1#1) (h5 : ¬k0_cond5 (grid0.coords t) = 1#1)
    (acc : Vec F S512x2048 .f32) (xn : Vec F S512x2048 .bf16) (W : Waits sig Unit) (K : PUnit → sProp 𝕄) :
    iprop(owns (c : Thread nD τ) arg11 fullShare acc ∗ owns (c : Thread nD τ) arg13 fullShare xn ∗ fly c W3 W5 W7 (step t.val) ∗ free c W3 W5 W7 (step t.val + 2) ∗ owes (c : Thread nD τ) 0 W
        ∗ (iprop(owns (c : Thread nD τ) arg11 fullShare (mixed xn (gAt W3 (step t.val)) (uAt W5 (step t.val)) (dAt W7 (step t.val)) acc) ∗ owns (c : Thread nD τ) arg13 fullShare xn ∗ free c W3 W5 W7 (step t.val) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12 arg13 harg13) K := by
  unfold theBody
  simp only [cc0_ffn_resid_eq_skeleton]; unfold cc0_ffn_resid_skel
  simp only [k0_part3_eq_skeleton, k0_part4_eq_skeleton, k0_part2_eq_skeleton]
  unfold owns fly free
  iintro ⟨⟨%fa, %ha, Ha⟩, ⟨%fx, %hx, Hx⟩, ⟨⟨%fg, Hg, Hgk⟩, ⟨%fu, Hu, Huk⟩, %fd, Hd, Hdk⟩, ⟨⟨Hgc', ⟨%fg', Hgs'⟩, Hgw'⟩, ⟨Huc', ⟨%fu', Hus'⟩, Huw'⟩, Hdc', ⟨%fd', Hds'⟩, Hdw'⟩, HW, Hk⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg11.eq_unread ha; obtain rfl := harg13.eq_unread hx
  sl_exec (disch := first | sl_exact h1 | sl_exact h2 | sl_exact h3 | sl_exact h4 | sl_exact h5)
  sl_step
  iapply Hk
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans (harg13.read_unread _)) ((load_all _ hz _ _).trans (harg11.read_unread _)))
  isplitl [Hx]
  · iexists _; isplitr; swap; · iexact Hx
    ipureintro
    exact harg13.read_unread _
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- One of the last two points that wait: nothing is left to start. -/
theorem run_tail (h1 : ¬k0_cond1 (grid0.coords t) = 1#1) (h2 : ¬k0_cond2 (grid0.coords t) = 1#1) (h3 : k0_cond3 (grid0.coords t) = 1#1) (h4 : ¬k0_cond4 (grid0.coords t) = 1#1) (h5 : ¬k0_cond5 (grid0.coords t) = 1#1)
    (acc : Vec F S512x2048 .f32) (xn : Vec F S512x2048 .bf16) (W : Waits sig Unit) (K : PUnit → sProp 𝕄) :
    iprop(owns (c : Thread nD τ) arg11 fullShare acc ∗ owns (c : Thread nD τ) arg13 fullShare xn ∗ fly c W3 W5 W7 (step t.val) ∗ owes (c : Thread nD τ) 0 W
        ∗ (iprop(owns (c : Thread nD τ) arg11 fullShare (mixed xn (gAt W3 (step t.val)) (uAt W5 (step t.val)) (dAt W7 (step t.val)) acc) ∗ owns (c : Thread nD τ) arg13 fullShare xn ∗ free c W3 W5 W7 (step t.val) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12 arg13 harg13) K := by
  unfold theBody
  simp only [cc0_ffn_resid_eq_skeleton]; unfold cc0_ffn_resid_skel
  simp only [k0_part3_eq_skeleton, k0_part4_eq_skeleton, k0_part2_eq_skeleton]
  unfold owns fly free
  iintro ⟨⟨%fa, %ha, Ha⟩, ⟨%fx, %hx, Hx⟩, ⟨⟨%fg, Hg, Hgk⟩, ⟨%fu, Hu, Huk⟩, %fd, Hd, Hdk⟩, HW, Hk⟩
  obtain rfl := harg11.eq_unread ha; obtain rfl := harg13.eq_unread hx
  sl_exec (disch := first | sl_exact h1 | sl_exact h2 | sl_exact h3 | sl_exact h4 | sl_exact h5)
  sl_step
  iapply Hk
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans (harg13.read_unread _)) ((load_all _ hz _ _).trans (harg11.read_unread _)))
  isplitl [Hx]
  · iexists _; isplitr; swap; · iexact Hx
    ipureintro
    exact harg13.read_unread _
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  iexists _; iexact HW

set_option maxHeartbeats 1000000 in
/-- The first point of a later row block: it normalises the rows and clears the accumulator before its step. -/
theorem run_start (h1 : ¬k0_cond1 (grid0.coords t) = 1#1) (h2 : k0_cond2 (grid0.coords t) = 1#1) (h3 : k0_cond3 (grid0.coords t) = 1#1) (h4 : k0_cond4 (grid0.coords t) = 1#1) (h5 : ¬k0_cond5 (grid0.coords t) = 1#1)
    (x : Vec F S512x2048 .f32) (g : Vec F S1x2048 .f32) (W : Waits sig Unit) (K : PUnit → sProp 𝕄) :
    iprop(owns (c : Thread nD τ) arg2 fullShare x ∗ owns (c : Thread nD τ) arg3 fullShare g ∗ (∃ d, owns (c : Thread nD τ) arg11 fullShare d) ∗ (∃ d, owns (c : Thread nD τ) arg13 fullShare d) ∗ fly c W3 W5 W7 (step t.val) ∗ free c W3 W5 W7 (step t.val + 2) ∗ owes (c : Thread nD τ) 0 W
        ∗ (iprop(owns (c : Thread nD τ) arg2 fullShare x ∗ owns (c : Thread nD τ) arg3 fullShare g ∗ owns (c : Thread nD τ) arg11 fullShare (mixed (k0_pay1 x g) (gAt W3 (step t.val)) (uAt W5 (step t.val)) (dAt W7 (step t.val)) k0_pay2) ∗ owns (c : Thread nD τ) arg13 fullShare (k0_pay1 x g) ∗ free c W3 W5 W7 (step t.val) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12 arg13 harg13) K := by
  unfold theBody
  simp only [cc0_ffn_resid_eq_skeleton]; unfold cc0_ffn_resid_skel
  simp only [k0_part3_eq_skeleton, k0_part4_eq_skeleton, k0_part2_eq_skeleton]
  unfold owns fly free
  iintro ⟨⟨%fx, %hx, Hx⟩, ⟨%fn, %hn, Hn⟩, ⟨%da, %fa, -, Ha⟩, ⟨%ds, %fs, -, Hs⟩, ⟨⟨%fg, Hg, Hgk⟩, ⟨%fu, Hu, Huk⟩, %fd, Hd, Hdk⟩, ⟨⟨Hgc', ⟨%fg', Hgs'⟩, Hgw'⟩, ⟨Huc', ⟨%fu', Hus'⟩, Huw'⟩, Hdc', ⟨%fd', Hds'⟩, Hdw'⟩, HW, Hk⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg2.eq_unread hx; obtain rfl := harg3.eq_unread hn
  sl_exec (disch := first | sl_exact h1 | sl_exact h2 | sl_exact h3 | sl_exact h4 | sl_exact h5)
  sl_step
  iapply Hk
  isplitl [Hx]
  · iexists _; isplitr; swap; · iexact Hx
    ipureintro
    exact harg2.read_unread _
  isplitl [Hn]
  · iexists _; isplitr; swap; · iexact Hn
    ipureintro
    exact harg3.read_unread _
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans ((store_all _ hz _ _ _ _).trans (congrArg₂ k0_pay1 ((load_all _ hz _ _).trans (harg2.read_unread _)) ((load_all _ hz _ _).trans (harg3.read_unread _))))) ((load_all _ hz _ _).trans (store_all _ hz _ _ _ _)))
  isplitl [Hs]
  · iexists _; isplitr; swap; · iexact Hs
    ipureintro
    exact (store_all _ hz _ _ _ _).trans (congrArg₂ k0_pay1 ((load_all _ hz _ _).trans (harg2.read_unread _)) ((load_all _ hz _ _).trans (harg3.read_unread _)))
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- The first point of all: it starts the blocks of the first three steps, waits the first, and starts its row block. -/
theorem run_first (h1 : k0_cond1 (grid0.coords t) = 1#1) (h2 : k0_cond2 (grid0.coords t) = 1#1) (h3 : k0_cond3 (grid0.coords t) = 1#1) (h4 : k0_cond4 (grid0.coords t) = 1#1) (h5 : ¬k0_cond5 (grid0.coords t) = 1#1)
    (e0 : step t.val = 0) (x : Vec F S512x2048 .f32) (g : Vec F S1x2048 .f32) (W : Waits sig Unit) (K : PUnit → sProp 𝕄) :
    iprop(owns (c : Thread nD τ) arg2 fullShare x ∗ owns (c : Thread nD τ) arg3 fullShare g ∗ (∃ d, owns (c : Thread nD τ) arg11 fullShare d) ∗ (∃ d, owns (c : Thread nD τ) arg13 fullShare d) ∗ free c W3 W5 W7 (step t.val) ∗ free c W3 W5 W7 (step t.val + 1) ∗ free c W3 W5 W7 (step t.val + 2) ∗ owes (c : Thread nD τ) 0 W
        ∗ (iprop(owns (c : Thread nD τ) arg2 fullShare x ∗ owns (c : Thread nD τ) arg3 fullShare g ∗ owns (c : Thread nD τ) arg11 fullShare (mixed (k0_pay1 x g) (gAt W3 (step t.val)) (uAt W5 (step t.val)) (dAt W7 (step t.val)) k0_pay2) ∗ owns (c : Thread nD τ) arg13 fullShare (k0_pay1 x g) ∗ free c W3 W5 W7 (step t.val) ∗ fly c W3 W5 W7 (step t.val + 1) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12 arg13 harg13) K := by
  unfold theBody
  simp only [cc0_ffn_resid_eq_skeleton]; unfold cc0_ffn_resid_skel
  simp only [k0_part1_eq_skeleton, k0_part3_eq_skeleton, k0_part4_eq_skeleton, k0_part2_eq_skeleton]
  unfold owns fly free
  iintro ⟨⟨%fx, %hx, Hx⟩, ⟨%fn, %hn, Hn⟩, ⟨%da, %fa, -, Ha⟩, ⟨%ds, %fs, -, Hs⟩, ⟨⟨Hgc₀, ⟨%fg₀, Hgs₀⟩, Hgw₀⟩, ⟨Huc₀, ⟨%fu₀, Hus₀⟩, Huw₀⟩, Hdc₀, ⟨%fd₀, Hds₀⟩, Hdw₀⟩, ⟨⟨Hgc₁, ⟨%fg₁, Hgs₁⟩, Hgw₁⟩, ⟨Huc₁, ⟨%fu₁, Hus₁⟩, Huw₁⟩, Hdc₁, ⟨%fd₁, Hds₁⟩, Hdw₁⟩, ⟨⟨Hgc', ⟨%fg', Hgs'⟩, Hgw'⟩, ⟨Huc', ⟨%fu', Hus'⟩, Huw'⟩, Hdc', ⟨%fd', Hds'⟩, Hdw'⟩, HW, Hk⟩
  have hcanong0s := colSlot_named (off := ![0, 0, 0]) (s := Ring.sl 3 (step t.val)) gBuf (by rw [e0]; rfl) inb_S3x2048x512_S1x2048x512_0_0_0
  have hcanong0b := colBlk_named (off := ![0, 0]) (b := Ring.bk 320 (step t.val)) gMat (by rw [e0]; rfl) inb_S2048x5504_S2048x512_0_0
  have hcanong0c := cell_named (r := 0) (s := Ring.sl 3 (step t.val)) (off := ![0, 0]) (by rw [e0]; rfl) inb_S3x3_S1x1_0_0
  have hcanonu0s := colSlot_named (off := ![0, 0, 0]) (s := Ring.sl 3 (step t.val)) uBuf (by rw [e0]; rfl) inb_S3x2048x512_S1x2048x512_0_0_0
  have hcanonu0b := colBlk_named (off := ![0, 0]) (b := Ring.bk 320 (step t.val)) uMat (by rw [e0]; rfl) inb_S2048x5504_S2048x512_0_0
  have hcanonu0c := cell_named (r := 1) (s := Ring.sl 3 (step t.val)) (off := ![1, 0]) (by rw [e0]; rfl) inb_S3x3_S1x1_1_0
  have hcanond0s := rowSlot_named (off := ![0, 0, 0]) (s := Ring.sl 3 (step t.val)) dBuf (by rw [e0]; rfl) inb_S3x512x2048_S1x512x2048_0_0_0
  have hcanond0b := rowBlk_named (off := ![0, 0]) (b := Ring.bk 320 (step t.val)) dMat (by rw [e0]; rfl) inb_S5504x2048_S512x2048_0_0
  have hcanond0c := cell_named (r := 2) (s := Ring.sl 3 (step t.val)) (off := ![2, 0]) (by rw [e0]; rfl) inb_S3x3_S1x1_2_0
  have hcanong1s := colSlot_named (off := ![1, 0, 0]) (s := Ring.sl 3 (step t.val + 1)) gBuf (by rw [e0]; rfl) inb_S3x2048x512_S1x2048x512_1_0_0
  have hcanong1b := colBlk_named (off := ![0, 512]) (b := Ring.bk 320 (step t.val + 1)) gMat (by rw [e0]; rfl) inb_S2048x5504_S2048x512_0_512
  have hcanong1c := cell_named (r := 0) (s := Ring.sl 3 (step t.val + 1)) (off := ![0, 1]) (by rw [e0]; rfl) inb_S3x3_S1x1_0_1
  have hcanonu1s := colSlot_named (off := ![1, 0, 0]) (s := Ring.sl 3 (step t.val + 1)) uBuf (by rw [e0]; rfl) inb_S3x2048x512_S1x2048x512_1_0_0
  have hcanonu1b := colBlk_named (off := ![0, 512]) (b := Ring.bk 320 (step t.val + 1)) uMat (by rw [e0]; rfl) inb_S2048x5504_S2048x512_0_512
  have hcanonu1c := cell_named (r := 1) (s := Ring.sl 3 (step t.val + 1)) (off := ![1, 1]) (by rw [e0]; rfl) inb_S3x3_S1x1_1_1
  have hcanond1s := rowSlot_named (off := ![1, 0, 0]) (s := Ring.sl 3 (step t.val + 1)) dBuf (by rw [e0]; rfl) inb_S3x512x2048_S1x512x2048_1_0_0
  have hcanond1b := rowBlk_named (off := ![512, 0]) (b := Ring.bk 320 (step t.val + 1)) dMat (by rw [e0]; rfl) inb_S5504x2048_S512x2048_512_0
  have hcanond1c := cell_named (r := 2) (s := Ring.sl 3 (step t.val + 1)) (off := ![2, 1]) (by rw [e0]; rfl) inb_S3x3_S1x1_2_1
  ihave Hg₀b := (colBlk_split c gMat (part (Ring.sl 3 (step t.val))) W3 (Ring.bk 320 (step t.val))).1 $$ Hgw₀
  icases Hg₀b with ⟨Hgl₀, Hgr₀⟩
  ihave Hu₀b := (colBlk_split c uMat (part (Ring.sl 3 (step t.val))) W5 (Ring.bk 320 (step t.val))).1 $$ Huw₀
  icases Hu₀b with ⟨Hul₀, Hur₀⟩
  ihave Hd₀b := (rowBlk_split c dMat (part (Ring.sl 3 (step t.val))) W7 (Ring.bk 320 (step t.val))).1 $$ Hdw₀
  icases Hd₀b with ⟨Hdl₀, Hdr₀⟩
  ihave Hg₁b := (colBlk_split c gMat (part (Ring.sl 3 (step t.val + 1))) W3 (Ring.bk 320 (step t.val + 1))).1 $$ Hgw₁
  icases Hg₁b with ⟨Hgl₁, Hgr₁⟩
  ihave Hu₁b := (colBlk_split c uMat (part (Ring.sl 3 (step t.val + 1))) W5 (Ring.bk 320 (step t.val + 1))).1 $$ Huw₁
  icases Hu₁b with ⟨Hul₁, Hur₁⟩
  ihave Hd₁b := (rowBlk_split c dMat (part (Ring.sl 3 (step t.val + 1))) W7 (Ring.bk 320 (step t.val + 1))).1 $$ Hdw₁
  icases Hd₁b with ⟨Hdl₁, Hdr₁⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg2.eq_unread hx; obtain rfl := harg3.eq_unread hn
  sl_exec (disch := first | sl_exact h1 | sl_exact h2 | sl_exact h3 | sl_exact h4 | sl_exact h5)
  sl_step
  iapply Hk
  isplitl [Hx]
  · iexists _; isplitr; swap; · iexact Hx
    ipureintro
    exact harg2.read_unread _
  isplitl [Hn]
  · iexists _; isplitr; swap; · iexact Hn
    ipureintro
    exact harg3.read_unread _
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans ((store_all _ hz _ _ _ _).trans (congrArg₂ k0_pay1 ((load_all _ hz _ _).trans (harg2.read_unread _)) ((load_all _ hz _ _).trans (harg3.read_unread _))))) ((load_all _ hz _ _).trans (store_all _ hz _ _ _ _)))
  isplitl [Hs]
  · iexists _; isplitr; swap; · iexact Hs
    ipureintro
    exact (store_all _ hz _ _ _ _).trans (congrArg₂ k0_pay1 ((load_all _ hz _ _).trans (harg2.read_unread _)) ((load_all _ hz _ _).trans (harg3.read_unread _)))
  isplitl [Hgc₀ Hgs₀ Hgl₀ Hgr₀ Huc₀ Hus₀ Hul₀ Hur₀ Hdc₀ Hds₀ Hdl₀ Hdr₀]
  · isplitl [Hgc₀ Hgs₀ Hgl₀ Hgr₀]
    · iapply (colFree_of c 0 gBuf gMat W3 (step t.val) _)
      isplitl [Hgc₀]; · iexact Hgc₀
      isplitl [Hgs₀]; · iexact Hgs₀
      isplitl [Hgl₀]; · iexact Hgl₀
      iexact Hgr₀
    isplitl [Huc₀ Hus₀ Hul₀ Hur₀]
    · iapply (colFree_of c 1 uBuf uMat W5 (step t.val) _)
      isplitl [Huc₀]; · iexact Huc₀
      isplitl [Hus₀]; · iexact Hus₀
      isplitl [Hul₀]; · iexact Hul₀
      iexact Hur₀
    iapply (rowFree_of c 2 dBuf dMat W7 (step t.val) _)
    isplitl [Hdc₀]; · iexact Hdc₀
    isplitl [Hds₀]; · iexact Hds₀
    isplitl [Hdl₀]; · iexact Hdl₀
    iexact Hdr₀
  isplitl [Hgc₁ Hgr₁ Huc₁ Hur₁ Hdc₁ Hdr₁]
  · isplitl [Hgc₁ Hgr₁]
    · iexists fg₁; isplitl [Hgc₁]; · iexact Hgc₁
      iexact Hgr₁
    isplitl [Huc₁ Hur₁]
    · iexists fu₁; isplitl [Huc₁]; · iexact Huc₁
      iexact Hur₁
    iexists fd₁; isplitl [Hdc₁]; · iexact Hdc₁
    iexact Hdr₁
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- The last point of a row block: the remaining 384 columns, the rows they are added to, and the norm of the sum. -/
theorem run_last (h1 : ¬k0_cond1 (grid0.coords t) = 1#1) (h2 : ¬k0_cond2 (grid0.coords t) = 1#1) (h3 : ¬k0_cond3 (grid0.coords t) = 1#1) (h5 : k0_cond5 (grid0.coords t) = 1#1)
    (x : Vec F S512x2048 .f32) (tg tu : Vec F S2048x384 .bf16) (td : Vec F S384x2048 .bf16) (gn : Vec F S1x2048 .f32) (acc : Vec F S512x2048 .f32) (xn : Vec F S512x2048 .bf16) (W : Waits sig Unit) (K : PUnit → sProp 𝕄) :
    iprop(owns (c : Thread nD τ) arg2 fullShare x ∗ owns (c : Thread nD τ) arg7 fullShare tg ∗ owns (c : Thread nD τ) arg8 fullShare tu ∗ owns (c : Thread nD τ) arg9 fullShare td ∗ owns (c : Thread nD τ) arg10 fullShare gn ∗ owns (c : Thread nD τ) arg11 fullShare acc ∗ (∃ d, owns (c : Thread nD τ) arg12 fullShare d) ∗ owns (c : Thread nD τ) arg13 fullShare xn ∗ owes (c : Thread nD τ) 0 W
        ∗ (iprop(owns (c : Thread nD τ) arg2 fullShare x ∗ owns (c : Thread nD τ) arg7 fullShare tg ∗ owns (c : Thread nD τ) arg8 fullShare tu ∗ owns (c : Thread nD τ) arg9 fullShare td ∗ owns (c : Thread nD τ) arg10 fullShare gn ∗ owns (c : Thread nD τ) arg11 fullShare (k0_pay11 x (k0_pay10 tg tu td xn acc)) ∗ owns (c : Thread nD τ) arg12 fullShare (k0_pay4 (k0_pay11 x (k0_pay10 tg tu td xn acc)) gn) ∗ owns (c : Thread nD τ) arg13 fullShare xn ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12 arg13 harg13) K := by
  unfold theBody
  simp only [cc0_ffn_resid_eq_skeleton]; unfold cc0_ffn_resid_skel
  simp only [k0_part3_eq_skeleton, k0_part4_eq_skeleton, k0_part2_eq_skeleton, k0_part5_eq_skeleton]
  unfold owns
  iintro ⟨⟨%fx, %hx, Hx⟩, ⟨%fg, %hg, Hg⟩, ⟨%fu, %hu, Hu⟩, ⟨%fd, %hd, Hd⟩, ⟨%fn, %hn, Hn⟩, ⟨%fa, %ha, Ha⟩, ⟨%db, %fb, -, Hb⟩, ⟨%fs, %hs, Hs⟩, HW, Hk⟩
  obtain rfl := harg2.eq_unread hx; obtain rfl := harg7.eq_unread hg; obtain rfl := harg8.eq_unread hu; obtain rfl := harg9.eq_unread hd; obtain rfl := harg10.eq_unread hn; obtain rfl := harg11.eq_unread ha; obtain rfl := harg13.eq_unread hs
  sl_exec (disch := first | sl_exact h1 | sl_exact h2 | sl_exact h3 | sl_exact h5)
  sl_step
  iapply Hk
  isplitl [Hx]
  · iexists _; isplitr; swap; · iexact Hx
    ipureintro
    exact harg2.read_unread _
  isplitl [Hg]
  · iexists _; isplitr; swap; · iexact Hg
    ipureintro
    exact harg7.read_unread _
  isplitl [Hu]
  · iexists _; isplitr; swap; · iexact Hu
    ipureintro
    exact harg8.read_unread _
  isplitl [Hd]
  · iexists _; isplitr; swap; · iexact Hd
    ipureintro
    exact harg9.read_unread _
  isplitl [Hn]
  · iexists _; isplitr; swap; · iexact Hn
    ipureintro
    exact harg10.read_unread _
  isplitl [Ha]
  · iexists _; isplitr; swap; · iexact Ha
    ipureintro
    exact (store_all _ hz _ _ _ _).trans (summed_of ((load_all _ hz _ _).trans (harg2.read_unread _)) ((load_all _ hz _ _).trans ((store_all _ hz _ _ _ _).trans
      (tail_of ((load_all _ hz _ _).trans (harg7.read_unread _)) ((load_all _ hz _ _).trans (harg8.read_unread _)) ((load_all _ hz _ _).trans (harg9.read_unread _)) ((load_all _ hz _ _).trans (harg13.read_unread _)) ((load_all _ hz _ _).trans (harg11.read_unread _))))))
  isplitl [Hb]
  · iexists _; isplitr; swap; · iexact Hb
    ipureintro
    exact (store_all _ hz _ _ _ _).trans (next_of ((load_all _ hz _ _).trans (harg2.read_unread _)) ((load_all _ hz _ _).trans (harg10.read_unread _)) ((load_all _ hz _ _).trans ((store_all _ hz _ _ _ _).trans
      (tail_of ((load_all _ hz _ _).trans (harg7.read_unread _)) ((load_all _ hz _ _).trans (harg8.read_unread _)) ((load_all _ hz _ _).trans (harg9.read_unread _)) ((load_all _ hz _ _).trans (harg13.read_unread _)) ((load_all _ hz _ _).trans (harg11.read_unread _))))))
  isplitl [Hs]
  · iexists _; isplitr; swap; · iexact Hs
    ipureintro
    exact harg13.read_unread _
  iexists _; iexact HW

end Runs
end Cert.FfnResidIdeal.Stream
end
-- ==== Proof.Ffn.ResidFrame.lean ====
/- The run of the first feed-forward call: the pipeline's proof data with the accumulator named at every point, the body at every point from the
   five runs of ResidRuns.lean, and the launch. Stated at any values, so that one run gives the frame of the program as printed, the frame of
   the program at the extended reals, and what its result array holds. -/
module

public import proofs.«01_k».proof.Proof.Ffn.ResidRuns
public import proofs.«01_k».proof.Proof.Gen.FfnResidIdeal.Frame
public import Idealize.ShloMosaic.Lib.Pipeline.FrameBody
public import Idealize.ShloMosaic.Lib.Ring

@[expose] public section

set_option maxRecDepth 16384

noncomputable section

namespace Cert.FfnResidIdeal.Stream

open Cert.FfnResidIdeal Cert.FfnResidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The lanes around a step -/

section Lanes
variable (c : Dev nD) (W3 : Held F c gMat) (W5 : Held F c uMat) (W7 : Held F c dMat)

theorem lanes_zero : lanes c W3 W5 W7 0 = iprop(free c W3 W5 W7 0 ∗ free c W3 W5 W7 1 ∗ free c W3 W5 W7 2) := rfl
theorem lanes_take {k : ℕ} (h0 : k ≠ 0) (h : k < 320) :
    lanes c W3 W5 W7 k = iprop(fly c W3 W5 W7 k ∗ due c W3 W5 W7 (k + 1) ∗ free c W3 W5 W7 (k + 2)) := by
  unfold lanes; rw [if_neg h0]; conv_lhs => arg 1; unfold due; rw [if_pos h]
theorem lanes_put {k : ℕ} (h : k + 2 < 320) :
    lanes c W3 W5 W7 (k + 1) = iprop(due c W3 W5 W7 (k + 1) ∗ fly c W3 W5 W7 (k + 2) ∗ free c W3 W5 W7 k) := by
  unfold lanes; rw [if_neg (by omega), show k + 1 + 2 = k + 3 from rfl, free_add]
  conv_lhs => arg 2; arg 1; unfold due; rw [if_pos (show k + 1 + 1 < 320 from h)]
theorem lanes_put_tail {k : ℕ} (h : 320 ≤ k + 2) :
    lanes c W3 W5 W7 (k + 1) = iprop(due c W3 W5 W7 (k + 1) ∗ free c W3 W5 W7 (k + 2) ∗ free c W3 W5 W7 k) := by
  unfold lanes; rw [if_neg (by omega), show k + 1 + 2 = k + 3 from rfl, free_add]
  conv_lhs => arg 2; arg 1; unfold due; rw [if_neg (show ¬k + 1 + 1 < 320 by omega)]
theorem due_fly {k : ℕ} (h : k < 320) : due c W3 W5 W7 k = fly c W3 W5 W7 k := by unfold due; rw [if_pos h]
/-- After the last step the three slots are free, in another order. -/
theorem lanes_end : lanes c W3 W5 W7 320 = iprop(free c W3 W5 W7 2 ∗ free c W3 W5 W7 0 ∗ free c W3 W5 W7 1) := by
  have h2 : free c W3 W5 W7 320 = free c W3 W5 W7 2 := by unfold free colFree rowFree; rw [show Ring.sl 3 320 = Ring.sl 3 2 from rfl]
  have h0 : free c W3 W5 W7 321 = free c W3 W5 W7 0 := by unfold free colFree rowFree; rw [show Ring.sl 3 321 = Ring.sl 3 0 from rfl]
  have h1 : free c W3 W5 W7 322 = free c W3 W5 W7 1 := by unfold free colFree rowFree; rw [show Ring.sl 3 322 = Ring.sl 3 1 from rfl]
  unfold lanes due; rw [if_neg (by omega), if_neg (by omega), if_neg (by omega), h2, h0, h1]
end Lanes

/-! ## What each point leaves -/

variable (m : (ℓ : Loc nD τ sig) → Buf (Elt F) ℓ) (ρ : Dev nD → PrngReg)

section Values
variable (c : Dev nD)

/-- Grid point `n`. -/
def pt (n : ℕ) : Fin cfg0.N := ⟨n % 352, Nat.mod_lt _ (by decide)⟩
theorem pt_val (t : Fin cfg0.N) : pt t.val = t := Fin.ext (Nat.mod_eq_of_lt (show t.val < 352 from t.isLt))

/-- The staged blocks at a point: the rows, the norm's weights, the three tails, the closing norm's weights. -/
def blkX (t : Fin cfg0.N) : Vec F S512x2048 .f32 := iblk m c 0 t
def blkN (t : Fin cfg0.N) : Vec F S1x2048 .f32 := iblk m c 1 t
def blkTg (t : Fin cfg0.N) : Vec F S2048x384 .bf16 := iblk m c 2 t
def blkTu (t : Fin cfg0.N) : Vec F S2048x384 .bf16 := iblk m c 3 t
def blkTd (t : Fin cfg0.N) : Vec F S384x2048 .bf16 := iblk m c 4 t
def blkF (t : Fin cfg0.N) : Vec F S1x2048 .f32 := iblk m c 5 t

/-- The normalised rows of row block `i`. -/
def rowsOf (i : ℕ) : Vec F S512x2048 .bf16 := k0_pay1 (blkX m c (pt (11 * i))) (blkN m c (pt (11 * i)))

/-- The accumulator of row block `i` after its steps `0 … j`. -/
def accTo (i : ℕ) : ℕ → Vec F S512x2048 .f32
  | 0 => mixed (rowsOf m c i) (gAt (V m c main_v4) (10 * i)) (uAt (V m c main_v6) (10 * i)) (dAt (V m c main_v8) (10 * i)) k0_pay2
  | j + 1 => mixed (rowsOf m c i) (gAt (V m c main_v4) (10 * i + (j + 1))) (uAt (V m c main_v6) (10 * i + (j + 1)))
      (dAt (V m c main_v8) (10 * i + (j + 1))) (accTo i j)

/-- What row block `i`'s last point, `t`, stores: the rows with half the product added, and that normalised. -/
def outOf (i : ℕ) (t : Fin cfg0.N) : Vec F S512x2048 .f32 :=
  k0_pay11 (blkX m c t) (k0_pay10 (blkTg m c t) (blkTu m c t) (blkTd m c t) (rowsOf m c i) (accTo m c i 9))
def nextOf (i : ℕ) (t : Fin cfg0.N) : Vec F S512x2048 .bf16 := k0_pay4 (outOf m c i t) (blkF m c t)

/-- The result's staging buffer after point `t`. -/
def resAt (t : Fin cfg0.N) : Vec F S512x2048 .f32 := if t.val % 11 = 10 then outOf m c (t.val / 11) t else accTo m c (t.val / 11) (t.val % 11)

/-- The scratch before point `k`: the row block's normalised rows, but anything before its first point. -/
def scratchAt (k : ℕ) : sProp 𝕄 :=
  if k % 11 = 0 then iprop(∃ d, owns (c : Thread nD τ) (Memref.whole cc0_scratch0) fullShare d)
  else owns (c : Thread nD τ) (Memref.whole cc0_scratch0) fullShare (rowsOf m c (k / 11))

/-- The invariant before point `k`. -/
def Phi (k : ℕ) : sProp 𝕄 :=
  iprop(scratchAt m c k ∗ (∃ r, prngReg c r) ∗ lanes c (V m c main_v4) (V m c main_v6) (V m c main_v8) (step k))
end Values

def dats (_ : Fin 1) (c : Dev nD) : Dat τ (Elt F) Unit ℕ (Pipeline.UD sig nD τ) ℕ cfg0 c where
  A w := V m c (Pipeline.arrRef spec0 w)
  after w t := match w with
    | ⟨0, _⟩ => blkX m c t
    | ⟨1, _⟩ => blkN m c t
    | ⟨2, _⟩ => blkTg m c t
    | ⟨3, _⟩ => blkTu m c t
    | ⟨4, _⟩ => blkTd m c t
    | ⟨5, _⟩ => blkF m c t
    | ⟨6, _⟩ => resAt m c t
    | ⟨7, _⟩ => nextOf m c (t.val / 11) t
  Φ t := Phi m c t.val
  q _ := fullShare
  owed _ := 0

theorem A_eq (c : Dev nD) (w : Fin cfg0.W) : (dats m 0 c).A w = V m c (Pipeline.arrRef spec0 w) := by dsimp only [dats]

section Staged
variable (c : Dev nD) (t : Fin cfg0.N)
theorem after0 : (dats m 0 c).after 0 t = blkX m c t := by dsimp only [dats]
theorem after1 : (dats m 0 c).after 1 t = blkN m c t := by dsimp only [dats]
theorem after2 : (dats m 0 c).after 2 t = blkTg m c t := by dsimp only [dats]
theorem after3 : (dats m 0 c).after 3 t = blkTu m c t := by dsimp only [dats]
theorem after4 : (dats m 0 c).after 4 t = blkTd m c t := by dsimp only [dats]
theorem after5 : (dats m 0 c).after 5 t = blkF m c t := by dsimp only [dats]
theorem after6 : (dats m 0 c).after 6 t = resAt m c t := by dsimp only [dats]
theorem after7 : (dats m 0 c).after 7 t = nextOf m c (t.val / 11) t := by dsimp only [dats]

/-- An input's buffer holds its block at every point: fetched there, or left in place since. -/
theorem before0 (d) : (dats m 0 c).before 0 t d = blkX m c t :=
  ((dats m 0 c).before_in_eq_fetched 0 rfl (fun _ => rfl) (fun _ _ _ => rfl) (fun t => by rw [after0]; unfold blkX Dat.blockOf iblk; rw [A_eq]) t d).trans
    (by unfold blkX Dat.fetched Dat.blockOf iblk; rw [A_eq]; rfl)
theorem before1 (d) : (dats m 0 c).before 1 t d = blkN m c t :=
  ((dats m 0 c).before_in_eq_fetched 1 rfl (fun _ => rfl) (fun _ _ _ => rfl) (fun t => by rw [after1]; unfold blkN Dat.blockOf iblk; rw [A_eq]) t d).trans
    (by unfold blkN Dat.fetched Dat.blockOf iblk; rw [A_eq]; rfl)
theorem before2 (d) : (dats m 0 c).before 2 t d = blkTg m c t :=
  ((dats m 0 c).before_in_eq_fetched 2 rfl (fun _ => rfl) (fun _ _ _ => rfl) (fun t => by rw [after2]; unfold blkTg Dat.blockOf iblk; rw [A_eq]) t d).trans
    (by unfold blkTg Dat.fetched Dat.blockOf iblk; rw [A_eq]; rfl)
theorem before3 (d) : (dats m 0 c).before 3 t d = blkTu m c t :=
  ((dats m 0 c).before_in_eq_fetched 3 rfl (fun _ => rfl) (fun _ _ _ => rfl) (fun t => by rw [after3]; unfold blkTu Dat.blockOf iblk; rw [A_eq]) t d).trans
    (by unfold blkTu Dat.fetched Dat.blockOf iblk; rw [A_eq]; rfl)
theorem before4 (d) : (dats m 0 c).before 4 t d = blkTd m c t :=
  ((dats m 0 c).before_in_eq_fetched 4 rfl (fun _ => rfl) (fun _ _ _ => rfl) (fun t => by rw [after4]; unfold blkTd Dat.blockOf iblk; rw [A_eq]) t d).trans
    (by unfold blkTd Dat.fetched Dat.blockOf iblk; rw [A_eq]; rfl)
theorem before5 (d) : (dats m 0 c).before 5 t d = blkF m c t :=
  ((dats m 0 c).before_in_eq_fetched 5 rfl (fun _ => rfl) (fun _ _ _ => rfl) (fun t => by rw [after5]; unfold blkF Dat.blockOf iblk; rw [A_eq]) t d).trans
    (by unfold blkF Dat.fetched Dat.blockOf iblk; rw [A_eq]; rfl)

theorem never_idle6 : ∀ t : Fin cfg0.N, cfg0.idle 6 (cfg0.grid.coords t) = false :=
  (by decide +kernel : ∀ t : Fin grid0.N, idle0 6 (grid0.coords t) = false)
theorem idle7 : ∀ t : Fin cfg0.N, cfg0.idle 7 (cfg0.grid.coords t) = !decide (t.val % 11 = 10) :=
  (by decide +kernel : ∀ t : Fin grid0.N, idle0 7 (grid0.coords t) = !decide (t.val % 11 = 10))
theorem never_fetched6 : (cfg0.win 6).fetch t = false := rfl

/-- Inside a row block the result's buffer holds what the point before left. -/
theorem before6 (h : t.val % 11 ≠ 0) (d) : (dats m 0 c).before 6 t d = accTo m c (t.val / 11) (t.val % 11 - 1) := by
  have ht : t.val ≠ 0 := fun e => h (by rw [e])
  rw [(dats m 0 c).before_of_pos 6 t ht rfl d]
  have hf : ¬(cfg0.win 6).flush ⟨t.val - 1, Nat.lt_of_le_of_lt (Nat.sub_le _ _) t.isLt⟩ = true := fun e => by
    have := (flush0_6 _).1 e; simp only at this; omega
  rw [if_neg hf]
  unfold Dat.left
  rw [never_idle6]
  show (dats m 0 c).kept 6 _ d = _
  unfold Dat.kept
  show (dats m 0 c).after 6 _ = _
  rw [after6]
  unfold resAt
  rw [if_neg (by simp only; omega)]
  simp only
  rw [show (t.val - 1) / 11 = t.val / 11 by omega, show (t.val - 1) % 11 = t.val % 11 - 1 by omega]
end Staged

/-! ## The body at a point -/

section Body
variable (c : Dev nD) (t : Fin cfg0.N)

abbrev stage0 := win0_0.stage (cfg0.slots t 0)
abbrev stage1 := win0_1.stage (cfg0.slots t 1)
abbrev stage2 := win0_2.stage (cfg0.slots t 2)
abbrev stage3 := win0_3.stage (cfg0.slots t 3)
abbrev stage4 := win0_4.stage (cfg0.slots t 4)
abbrev stage5 := win0_5.stage (cfg0.slots t 5)
abbrev stage6 := win0_6.stage (cfg0.slots t 6)
abbrev stage7 := win0_7.stage (cfg0.slots t 7)

/-- What a point is given, and what it gives back. -/
def given : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d)))
def returned : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ (dats m 0 c).leavesExact 6 t ∗ (dats m 0 c).leavesExact 7 t)

/-- The same with the values named; the result's buffer at `A` before and `B` after, the scratch and the lanes left to the case. -/
def held (P : sProp 𝕄) (A : sProp 𝕄) : sProp 𝕄 :=
  iprop(P ∗ (∃ r, prngReg c r) ∗ (∃ W, owes (c : Thread nD τ) 0 W)
    ∗ owns (c : Thread nD τ) (stage0 t) fullShare (blkX m c t) ∗ owns (c : Thread nD τ) (stage1 t) fullShare (blkN m c t)
    ∗ owns (c : Thread nD τ) (stage2 t) fullShare (blkTg m c t) ∗ owns (c : Thread nD τ) (stage3 t) fullShare (blkTu m c t)
    ∗ owns (c : Thread nD τ) (stage4 t) fullShare (blkTd m c t) ∗ owns (c : Thread nD τ) (stage5 t) fullShare (blkF m c t) ∗ A)

theorem owes_in (k) : (dats m 0 c).owesAt () k ⊢ (iprop(∃ W, owes (c : Thread nD τ) 0 W) : sProp 𝕄) := by
  unfold Dat.owesAt Pipeline.owesWithin; rw [show (dats m 0 c).owed k = 0 from rfl]
  iintro ⟨%W, -, HW⟩; iexists W; iexact HW
theorem owes_out (k) : (iprop(∃ W, owes (c : Thread nD τ) 0 W) : sProp 𝕄) ⊢ (dats m 0 c).owesAt () k := by
  unfold Dat.owesAt Pipeline.owesWithin; rw [show (dats m 0 c).owed k = 0 from rfl]
  iintro ⟨%W, HW⟩; iexists W; isplitr; · ipureintro; exact fun _ _ => Or.inl trivial
  iexact HW

theorem given_held : given m c t ⊢ held m c t
    iprop(scratchAt m c t.val ∗ lanes c (V m c main_v4) (V m c main_v6) (V m c main_v8) (step t.val))
    iprop((∃ d, owns (c : Thread nD τ) (stage6 t) fullShare ((dats m 0 c).before 6 t d))
      ∗ ∃ d, owns (c : Thread nD τ) (stage7 t) fullShare ((dats m 0 c).before 7 t d)) := by
  unfold given held
  rw [show (dats m 0 c).Φ t.castSucc = Phi m c t.val from rfl]
  unfold Phi
  simp only [before0, before1, before2, before3, before4, before5]
  iintro ⟨⟨Hs, Hg, Hl⟩, HW, ⟨%d0, H0⟩, ⟨%d1, H1⟩, ⟨%d2, H2⟩, ⟨%d3, H3⟩, ⟨%d4, H4⟩, ⟨%d5, H5⟩, H6, H7⟩
  isplitl [Hs Hl]
  · isplitl [Hs]; · iexact Hs
    iexact Hl
  isplitl [Hg]; · iexact Hg
  isplitl [HW]; · iapply (owes_in m c t.castSucc); iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem held_returned (A : sProp 𝕄) (hA : A ⊢ (dats m 0 c).leavesExact 7 t) : held m c t
    iprop(scratchAt m c (t.val + 1) ∗ lanes c (V m c main_v4) (V m c main_v6) (V m c main_v8) (step (t.val + 1)))
    iprop(owns (c : Thread nD τ) (stage6 t) fullShare (resAt m c t) ∗ A) ⊢ returned m c t := by
  unfold returned held
  rw [show (dats m 0 c).Φ t.succ = Phi m c (t.val + 1) from rfl, after0, after1, after2, after3, after4, after5,
    show (dats m 0 c).leavesExact 6 t = owns (c : Thread nD τ) (stage6 t) fullShare (resAt m c t) from by
      unfold Dat.leavesExact; rw [never_idle6 t, after6]]
  unfold Phi
  iintro ⟨⟨Hs, Hl⟩, Hg, HW, H0, H1, H2, H3, H4, H5, H6, H7⟩
  isplitl [Hs Hl Hg]
  · isplitl [Hs]; · iexact Hs
    isplitl [Hg]; · iexact Hg
    iexact Hl
  isplitl [HW]; · iapply (owes_out m c t.succ); iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hA; iexact H7

/-- The second result's buffer is stored at a row block's last point, and handed on as found at the others. -/
theorem leaves_found (h : t.val % 11 ≠ 10) : (iprop(∃ d, owns (c : Thread nD τ) (stage7 t) fullShare ((dats m 0 c).before 7 t d)) : sProp 𝕄) ⊢ (dats m 0 c).leavesExact 7 t := by
  have e : cfg0.idle 7 (cfg0.grid.coords t) = true := by rw [idle7, decide_eq_false h]; rfl
  have f : (cfg0.win 7).flush t = false := by
    rw [← Bool.not_eq_true]; exact fun e => h ((flush0_7 t).1 e)
  unfold Dat.leavesExact; rw [e, f]
theorem leaves_stored (h : t.val % 11 = 10) : owns (c : Thread nD τ) (stage7 t) fullShare (nextOf m c (t.val / 11) t) ⊢ (dats m 0 c).leavesExact 7 t := by
  have e : cfg0.idle 7 (cfg0.grid.coords t) = false := by rw [idle7, decide_eq_true h]; rfl
  unfold Dat.leavesExact; rw [e, after7]

/-- The invariant's scratch at a row block's first point, and after it. -/
theorem scratchAt_start {k : ℕ} (h : k % 11 = 0) :
    scratchAt m c k = iprop(∃ d, owns (c : Thread nD τ) (Memref.whole cc0_scratch0) fullShare d) := by unfold scratchAt; rw [if_pos h]
theorem scratchAt_in {k : ℕ} (h : k % 11 ≠ 0) :
    scratchAt m c k = owns (c : Thread nD τ) (Memref.whole cc0_scratch0) fullShare (rowsOf m c (k / 11)) := by unfold scratchAt; rw [if_neg h]

theorem step_val (t : ℕ) : step t = 10 * (t / 11) + t % 11 := by unfold step; omega
end Body

/-- A step inside a row block adds to the accumulator, and the first one starts it. -/
theorem resAt_next (c : Dev nD) (t : Fin cfg0.N) (h : t.val % 11 ≠ 0) (h' : t.val % 11 ≤ 9) :
    mixed (rowsOf m c (t.val / 11)) (gAt (V m c main_v4) (step t.val)) (uAt (V m c main_v6) (step t.val)) (dAt (V m c main_v8) (step t.val))
      (accTo m c (t.val / 11) (t.val % 11 - 1)) = resAt m c t := by
  unfold resAt
  rw [if_neg (by omega), step_val]
  obtain ⟨j, hj⟩ : ∃ j, t.val % 11 = j + 1 := ⟨t.val % 11 - 1, by omega⟩
  rw [hj]; rfl
theorem rows_start (c : Dev nD) (t : Fin cfg0.N) (h : t.val % 11 = 0) : rowsOf m c (t.val / 11) = k0_pay1 (blkX m c t) (blkN m c t) := by
  unfold rowsOf; rw [show 11 * (t.val / 11) = t.val by omega, pt_val]
theorem resAt_start (c : Dev nD) (t : Fin cfg0.N) (h : t.val % 11 = 0) :
    mixed (k0_pay1 (blkX m c t) (blkN m c t)) (gAt (V m c main_v4) (step t.val)) (uAt (V m c main_v6) (step t.val)) (dAt (V m c main_v8) (step t.val))
      k0_pay2 = resAt m c t := by
  unfold resAt
  rw [if_neg (by omega), step_val, h, ← rows_start m c t h]; rfl
theorem resAt_last (c : Dev nD) (t : Fin cfg0.N) (h : t.val % 11 = 10) :
    k0_pay11 (blkX m c t) (k0_pay10 (blkTg m c t) (blkTu m c t) (blkTd m c t) (rowsOf m c (t.val / 11)) (accTo m c (t.val / 11) (t.val % 11 - 1)))
      = resAt m c t := by
  unfold resAt; rw [if_pos h, h]; rfl
theorem nextAt_last (c : Dev nD) (t : Fin cfg0.N) (h : t.val % 11 = 10) :
    k0_pay4 (resAt m c t) (blkF m c t) = nextOf m c (t.val / 11) t := by
  unfold resAt nextOf; rw [if_pos h]

section Cases
variable (c : Dev nD) (t : Fin cfg0.N)

theorem at_middle (h0 : t.val % 11 ≠ 0) (h9 : t.val % 11 ≤ 9) (hl : t.val < 349) :
    given m c t ⊢ wp frame (wpE (defs₀ (F := F)) Variants.none c none) Set.univ (bodyAt0 t) (fun _ => returned m c t) := by
  refine (given_held m c t).trans ?_
  have e1 : step t.val ≠ 0 := by rw [step_val]; omega
  have e2 : step t.val < 320 := by rw [step_val]; omega
  have e3 : step t.val + 2 < 320 := by rw [step_val]; omega
  unfold held
  rw [scratchAt_in m c h0, lanes_take _ _ _ _ e1 e2]
  simp only [before6 m c t h0]
  iintro ⟨⟨Hs, Hf, Hd, Hn⟩, Hg, ⟨%W, HW⟩, H0, H1, H2, H3, H4, H5, ⟨%d6, H6⟩, H7⟩
  iapply (run_middle c t _ _ _ _ _ _ _ _ _ _ _ _ _ _ _ _ _ _ (V m c main_v4) (V m c main_v6) (V m c main_v8)
    (fun e => by have := (first_iff t).1 e; omega) (fun e => h0 ((start_iff t).1 e)) ((wait_iff t).2 h9) ((ahead_iff t).2 hl)
    (fun e => by have := (last_iff t).1 e; omega) _ _ W _)
  isplitl [H6]; · iexact H6
  isplitl [Hs]; · iexact Hs
  isplitl [Hf]; · iexact Hf
  isplitl [Hn]; · iexact Hn
  isplitl [HW]; · iexact HW
  rw [resAt_next m c t h0 h9]
  iintro ⟨H6, Hs, Hn, Hf, HW⟩
  iapply (held_returned m c t _ (leaves_found m c t (by omega)))
  rw [scratchAt_in m c (show (t.val + 1) % 11 ≠ 0 by omega), step_succ _ h9, lanes_put _ _ _ _ e3, show (t.val + 1) / 11 = t.val / 11 by omega]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_tail (h0 : t.val % 11 ≠ 0) (h9 : t.val % 11 ≤ 9) (hl : ¬t.val < 349) :
    given m c t ⊢ wp frame (wpE (defs₀ (F := F)) Variants.none c none) Set.univ (bodyAt0 t) (fun _ => returned m c t) := by
  refine (given_held m c t).trans ?_
  have hN : t.val < 352 := t.isLt
  have e1 : step t.val ≠ 0 := by rw [step_val]; omega
  have e2 : step t.val < 320 := by rw [step_val]; omega
  have e3 : 320 ≤ step t.val + 2 := by rw [step_val]; omega
  unfold held
  rw [scratchAt_in m c h0, lanes_take _ _ _ _ e1 e2]
  simp only [before6 m c t h0]
  iintro ⟨⟨Hs, Hf, Hd, Hn⟩, Hg, ⟨%W, HW⟩, H0, H1, H2, H3, H4, H5, ⟨%d6, H6⟩, H7⟩
  iapply (run_tail c t _ _ _ _ _ _ _ _ _ _ _ _ _ _ _ _ _ _ (V m c main_v4) (V m c main_v6) (V m c main_v8)
    (fun e => by have := (first_iff t).1 e; omega) (fun e => h0 ((start_iff t).1 e)) ((wait_iff t).2 h9) (fun e => hl ((ahead_iff t).1 e))
    (fun e => by have := (last_iff t).1 e; omega) _ _ W _)
  isplitl [H6]; · iexact H6
  isplitl [Hs]; · iexact Hs
  isplitl [Hf]; · iexact Hf
  isplitl [HW]; · iexact HW
  rw [resAt_next m c t h0 h9]
  iintro ⟨H6, Hs, Hf, HW⟩
  iapply (held_returned m c t _ (leaves_found m c t (by omega)))
  rw [scratchAt_in m c (show (t.val + 1) % 11 ≠ 0 by omega), step_succ _ h9, lanes_put_tail _ _ _ _ e3, show (t.val + 1) / 11 = t.val / 11 by omega]
  unfold held
  isplitl [Hs Hf Hd Hn]
  · isplitl [Hs]; · iexact Hs
    isplitl [Hd]; · iexact Hd
    isplitl [Hn]; · iexact Hn
    iexact Hf
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_start (h0 : t.val % 11 = 0) (hp : t.val ≠ 0) :
    given m c t ⊢ wp frame (wpE (defs₀ (F := F)) Variants.none c none) Set.univ (bodyAt0 t) (fun _ => returned m c t) := by
  refine (given_held m c t).trans ?_
  have hN : t.val < 352 := t.isLt
  have h9 : t.val % 11 ≤ 9 := by omega
  have hl : t.val < 349 := by omega
  have e1 : step t.val ≠ 0 := by rw [step_val]; omega
  have e2 : step t.val < 320 := by rw [step_val]; omega
  have e3 : step t.val + 2 < 320 := by rw [step_val]; omega
  unfold held
  rw [scratchAt_start m c h0, lanes_take _ _ _ _ e1 e2]
  iintro ⟨⟨Hs, Hf, Hd, Hn⟩, Hg, ⟨%W, HW⟩, H0, H1, H2, H3, H4, H5, ⟨%d6, H6⟩, H7⟩
  iapply (run_start c t _ _ _ _ _ _ _ _ _ _ _ _ _ _ _ _ _ _ (V m c main_v4) (V m c main_v6) (V m c main_v8)
    (fun e => hp ((first_iff t).1 e)) ((start_iff t).2 h0) ((wait_iff t).2 h9) ((ahead_iff t).2 hl)
    (fun e => by have := (last_iff t).1 e; omega) _ _ W _)
  isplitl [H0]; · iexact H0
  isplitl [H1]; · iexact H1
  isplitl [H6]; · iexists _; iexact H6
  isplitl [Hs]; · iexact Hs
  isplitl [Hf]; · iexact Hf
  isplitl [Hn]; · iexact Hn
  isplitl [HW]; · iexact HW
  rw [resAt_start m c t h0]
  iintro ⟨H0, H1, H6, Hs, Hn, Hf, HW⟩
  iapply (held_returned m c t _ (leaves_found m c t (by omega)))
  rw [scratchAt_in m c (show (t.val + 1) % 11 ≠ 0 by omega), step_succ _ h9, lanes_put _ _ _ _ e3, show (t.val + 1) / 11 = t.val / 11 by omega, rows_start m c t h0]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_first (hp : t.val = 0) :
    given m c t ⊢ wp frame (wpE (defs₀ (F := F)) Variants.none c none) Set.univ (bodyAt0 t) (fun _ => returned m c t) := by
  refine (given_held m c t).trans ?_
  have h0 : t.val % 11 = 0 := by omega
  have h9 : t.val % 11 ≤ 9 := by omega
  have hl : t.val < 349 := by omega
  have e0 : step t.val = 0 := by rw [step_val]; omega
  unfold held
  rw [scratchAt_start m c h0, show lanes c (V m c main_v4) (V m c main_v6) (V m c main_v8) (step t.val)
    = iprop(free c (V m c main_v4) (V m c main_v6) (V m c main_v8) (step t.val) ∗ free c (V m c main_v4) (V m c main_v6) (V m c main_v8) (step t.val + 1)
      ∗ free c (V m c main_v4) (V m c main_v6) (V m c main_v8) (step t.val + 2)) by rw [e0, lanes_zero]]
  iintro ⟨⟨Hs, Hf, Hd, Hn⟩, Hg, ⟨%W, HW⟩, H0, H1, H2, H3, H4, H5, ⟨%d6, H6⟩, H7⟩
  iapply (run_first c t _ _ _ _ _ _ _ _ _ _ _ _ _ _ _ _ _ _ (V m c main_v4) (V m c main_v6) (V m c main_v8)
    ((first_iff t).2 hp) ((start_iff t).2 h0) ((wait_iff t).2 h9) ((ahead_iff t).2 hl)
    (fun e => by have := (last_iff t).1 e; omega) e0 _ _ W _)
  isplitl [H0]; · iexact H0
  isplitl [H1]; · iexact H1
  isplitl [H6]; · iexists _; iexact H6
  isplitl [Hs]; · iexact Hs
  isplitl [Hf]; · iexact Hf
  isplitl [Hd]; · iexact Hd
  isplitl [Hn]; · iexact Hn
  isplitl [HW]; · iexact HW
  rw [resAt_start m c t h0]
  iintro ⟨H0, H1, H6, Hs, Hn, Hd, Hf, HW⟩
  iapply (held_returned m c t _ (leaves_found m c t (by omega)))
  rw [scratchAt_in m c (show (t.val + 1) % 11 ≠ 0 by omega), step_succ _ h9, lanes_put _ _ _ _ (show step t.val + 2 < 320 by omega), due_fly _ _ _ _ (show step t.val + 1 < 320 by omega), show (t.val + 1) / 11 = t.val / 11 by omega, rows_start m c t h0]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_last (h : t.val % 11 = 10) :
    given m c t ⊢ wp frame (wpE (defs₀ (F := F)) Variants.none c none) Set.univ (bodyAt0 t) (fun _ => returned m c t) := by
  refine (given_held m c t).trans ?_
  have h0 : t.val % 11 ≠ 0 := by omega
  unfold held
  rw [scratchAt_in m c h0]
  simp only [before6 m c t h0]
  iintro ⟨⟨Hs, Hl⟩, Hg, ⟨%W, HW⟩, H0, H1, H2, H3, H4, H5, ⟨%d6, H6⟩, H7⟩
  iapply (run_last c t _ _ _ _ _ _ _ _ _ _ _ _ _ _ _ _ _ _
    (fun e => by have := (first_iff t).1 e; omega) (fun e => h0 ((start_iff t).1 e)) (fun e => by have := (wait_iff t).1 e; omega) ((last_iff t).2 h)
    _ _ _ _ _ _ _ W _)
  isplitl [H0]; · iexact H0
  isplitl [H2]; · iexact H2
  isplitl [H3]; · iexact H3
  isplitl [H4]; · iexact H4
  isplitl [H5]; · iexact H5
  isplitl [H6]; · iexact H6
  isplitl [H7]; · icases H7 with ⟨%d7, H7⟩; iexists _; iexact H7
  isplitl [Hs]; · iexact Hs
  isplitl [HW]; · iexact HW
  rw [resAt_last m c t h, nextAt_last m c t h]
  iintro ⟨H0, H2, H3, H4, H5, H6, H7, Hs, HW⟩
  iapply (held_returned m c t _ (leaves_stored m c t h))
  rw [scratchAt_start m c (show (t.val + 1) % 11 = 0 by omega), step_rest _ h]
  unfold held
  isplitl [Hs Hl]
  · isplitl [Hs]; · iexists _; iexact Hs
    iexact Hl
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_any : given m c t ⊢ wp frame (wpE (defs₀ (F := F)) Variants.none c none) Set.univ (bodyAt0 t) (fun _ => returned m c t) := by
  by_cases hp : t.val = 0
  · exact at_first m c t hp
  by_cases h0 : t.val % 11 = 0
  · exact at_start m c t h0 hp
  by_cases h : t.val % 11 = 10
  · exact at_last m c t h
  by_cases hl : t.val < 349
  · exact at_middle m c t h0 (by omega) hl
  · exact at_tail m c t h0 (by omega) hl

end Cases

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (at_any m c t) rfl .rfl fun _ => .rfl

/-! ## What the region is handed, and hands back -/

section Handed
variable (c : Dev nD)

abbrev colSet (s : Fin 3) : Finset S3x2048x512.Idx := (Rect.unit (s := S3x2048x512) ![s.val, 0, 0] S1x2048x512.size (colSlot_inb s)).set
abbrev rowSet (s : Fin 3) : Finset S3x512x2048.Idx := (Rect.unit (s := S3x512x2048) ![s.val, 0, 0] S1x512x2048.size (rowSlot_inb s)).set
theorem colSet_disjoint (s s' : Fin 3) (h : s ≠ s') : Disjoint (colSet s) (colSet s') :=
  Ring.lead_disjoint (s := S3x2048x512) (0 : Fin 3) 1 (fun s : Fin 3 => (![s.val, 0, 0] : Fin 3 → Nat)) S1x2048x512.size colSlot_inb (fun s => by simp) rfl s s' h
theorem colSet_cover : Finset.univ.biUnion colSet = Finset.univ :=
  Ring.lead_cover (s := S3x2048x512) (0 : Fin 3) 1 (fun s : Fin 3 => (![s.val, 0, 0] : Fin 3 → Nat)) S1x2048x512.size colSlot_inb (fun s => by simp)
    (fun s a ha => by fin_cases a <;> first | exact absurd rfl ha | rfl) rfl (fun a ha => by fin_cases a <;> first | exact absurd rfl ha | rfl) rfl
theorem rowSet_disjoint (s s' : Fin 3) (h : s ≠ s') : Disjoint (rowSet s) (rowSet s') :=
  Ring.lead_disjoint (s := S3x512x2048) (0 : Fin 3) 1 (fun s : Fin 3 => (![s.val, 0, 0] : Fin 3 → Nat)) S1x512x2048.size rowSlot_inb (fun s => by simp) rfl s s' h
theorem rowSet_cover : Finset.univ.biUnion rowSet = Finset.univ :=
  Ring.lead_cover (s := S3x512x2048) (0 : Fin 3) 1 (fun s : Fin 3 => (![s.val, 0, 0] : Fin 3 → Nat)) S1x512x2048.size rowSlot_inb (fun s => by simp)
    (fun s a ha => by fin_cases a <;> first | exact absurd rfl ha | rfl) rfl (fun a ha => by fin_cases a <;> first | exact absurd rfl ha | rfl) rfl

theorem gSlot_eq (s : Fin 3) (f) : slotAt (F := F) c (colSlot gBuf s) f = (((c : Thread nD τ).loc cc0_scratch1) ↦[colSet s]{fullShare} f : sProp 𝕄) := by
  unfold slotAt; rw [show (colSlot gBuf s).view.set = colSet s by simp only [colSlot, Memref.view_squeeze, View.set_reshape]; exact View.set_slice_whole _ _]; rfl
theorem uSlot_eq (s : Fin 3) (f) : slotAt (F := F) c (colSlot uBuf s) f = (((c : Thread nD τ).loc cc0_scratch2) ↦[colSet s]{fullShare} f : sProp 𝕄) := by
  unfold slotAt; rw [show (colSlot uBuf s).view.set = colSet s by simp only [colSlot, Memref.view_squeeze, View.set_reshape]; exact View.set_slice_whole _ _]; rfl
theorem dSlot_eq (s : Fin 3) (f) : slotAt (F := F) c (rowSlot dBuf s) f = (((c : Thread nD τ).loc cc0_scratch3) ↦[rowSet s]{fullShare} f : sProp 𝕄) := by
  unfold slotAt; rw [show (rowSlot dBuf s).view.set = rowSet s by simp only [rowSlot, Memref.view_squeeze, View.set_reshape]; exact View.set_slice_whole _ _]; rfl

/-- A scratch buffer at anything is its three slots at something each. -/
theorem gSlots : (iprop(∃ f : Buf (Elt F) ((c : Thread nD τ).loc cc0_scratch1), ((c : Thread nD τ).loc cc0_scratch1) ↦{fullShare} f) : sProp 𝕄)
    ⊣⊢ iprop((∃ f, slotAt (F := F) c (colSlot gBuf 0) f) ∗ (∃ f, slotAt (F := F) c (colSlot gBuf 1) f) ∗ ∃ f, slotAt (F := F) c (colSlot gBuf 2) f) :=
  ⟨Ring.slots3_split (U := Pipeline.UD sig nD τ) (ℓ := (c : Thread nD τ).loc cc0_scratch1) (q := fullShare) colSet colSet_disjoint colSet_cover
      _ _ _ (gSlot_eq c 0) (gSlot_eq c 1) (gSlot_eq c 2),
    Ring.slots3_join (U := Pipeline.UD sig nD τ) (ℓ := (c : Thread nD τ).loc cc0_scratch1) (q := fullShare) colSet colSet_disjoint colSet_cover
      _ _ _ (gSlot_eq c 0) (gSlot_eq c 1) (gSlot_eq c 2)⟩
theorem uSlots : (iprop(∃ f : Buf (Elt F) ((c : Thread nD τ).loc cc0_scratch2), ((c : Thread nD τ).loc cc0_scratch2) ↦{fullShare} f) : sProp 𝕄)
    ⊣⊢ iprop((∃ f, slotAt (F := F) c (colSlot uBuf 0) f) ∗ (∃ f, slotAt (F := F) c (colSlot uBuf 1) f) ∗ ∃ f, slotAt (F := F) c (colSlot uBuf 2) f) :=
  ⟨Ring.slots3_split (U := Pipeline.UD sig nD τ) (ℓ := (c : Thread nD τ).loc cc0_scratch2) (q := fullShare) colSet colSet_disjoint colSet_cover
      _ _ _ (uSlot_eq c 0) (uSlot_eq c 1) (uSlot_eq c 2),
    Ring.slots3_join (U := Pipeline.UD sig nD τ) (ℓ := (c : Thread nD τ).loc cc0_scratch2) (q := fullShare) colSet colSet_disjoint colSet_cover
      _ _ _ (uSlot_eq c 0) (uSlot_eq c 1) (uSlot_eq c 2)⟩
theorem dSlots : (iprop(∃ f : Buf (Elt F) ((c : Thread nD τ).loc cc0_scratch3), ((c : Thread nD τ).loc cc0_scratch3) ↦{fullShare} f) : sProp 𝕄)
    ⊣⊢ iprop((∃ f, slotAt (F := F) c (rowSlot dBuf 0) f) ∗ (∃ f, slotAt (F := F) c (rowSlot dBuf 1) f) ∗ ∃ f, slotAt (F := F) c (rowSlot dBuf 2) f) :=
  ⟨Ring.slots3_split (U := Pipeline.UD sig nD τ) (ℓ := (c : Thread nD τ).loc cc0_scratch3) (q := fullShare) rowSet rowSet_disjoint rowSet_cover
      _ _ _ (dSlot_eq c 0) (dSlot_eq c 1) (dSlot_eq c 2),
    Ring.slots3_join (U := Pipeline.UD sig nD τ) (ℓ := (c : Thread nD τ).loc cc0_scratch3) (q := fullShare) rowSet rowSet_disjoint rowSet_cover
      _ _ _ (dSlot_eq c 0) (dSlot_eq c 1) (dSlot_eq c 2)⟩

/-- A matrix held whole is its three slots' shares of it. -/
theorem whole_parts {S : Shape} (H : Memref sig .tc .hbm S .bf16) (W : Held F c H) :
    whole (F := F) c H fullShare W ⊣⊢ iprop(whole c H (part 0) W ∗ whole c H (part 1) W ∗ whole c H (part 2) W) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- The cells of the body's own transfers, and the matrices it reads by them. -/
def ownCells : Fin 9 → SemLoc sig := fun j =>
  (![SemLoc.dma 11, SemLoc.dma 12, SemLoc.dma 13, SemLoc.dma 14, SemLoc.dma 15, SemLoc.dma 16, SemLoc.dma 17, SemLoc.dma 18, SemLoc.dma 19] : Fin 9 → SemLoc sig) j
theorem ownCells_facts : Pipeline.OwnSemFacts spec0 ownCells := by decide
def streamed : Finset (Ref sig .tc) := {main_v4, main_v6, main_v8}
theorem streamed_sub : streamed ⊆ Pipeline.restRefs sig spec0 := by decide
theorem ownCells_eq (c : Dev nD) : (Pipeline.ownSems0 ownCells c : sProp 𝕄)
    = iprop((semVal ((c : Thread nD τ), cellSem 0 0) 0 ∗ semVal ((c : Thread nD τ), cellSem 0 1) 0 ∗ semVal ((c : Thread nD τ), cellSem 0 2) 0
      ∗ semVal ((c : Thread nD τ), cellSem 1 0) 0 ∗ semVal ((c : Thread nD τ), cellSem 1 1) 0 ∗ semVal ((c : Thread nD τ), cellSem 1 2) 0
      ∗ semVal ((c : Thread nD τ), cellSem 2 0) 0 ∗ semVal ((c : Thread nD τ), cellSem 2 1) 0 ∗ semVal ((c : Thread nD τ), cellSem 2 2) 0)) := by
  rw [Pipeline.ownSems0_eq_of_list c ownCells [0, 1, 2, 3, 4, 5, 6, 7, 8] (by decide) (by decide)]; rfl

theorem handed_eq : Pipeline.ΦD ownCells spec0 streamed (V m) c
    = iprop(((∃ d, owns (c : Thread nD τ) (Memref.whole cc0_scratch0) fullShare d)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r) ∗ Pipeline.ownSems0 ownCells c
      ∗ (whole c gMat fullShare (V m c main_v4) ∗ whole c uMat fullShare (V m c main_v6) ∗ whole c dMat fullShare (V m c main_v8))) := by
  rw [Pipeline.ΦD_eq, scopedRest0_eq, BI.bigSep_eq_bigSepL_of_eq [main_v4, main_v6, main_v8] (by decide) (by decide)]
  simp only [owns_whole]; try rfl
end Handed

theorem hin (c : Dev nD) : Pipeline.ΦD ownCells spec0 streamed (V m) c ⊢ (dats m 0 c).Φ 0 := by
  rw [handed_eq, ownCells_eq, show (dats m 0 c).Φ 0 = Phi m c 0 from rfl]
  unfold Phi
  rw [show step 0 = 0 from rfl, scratchAt_start m c (show 0 % 11 = 0 from rfl), lanes_zero]
  iintro ⟨⟨Hs, Hg, Hu, Hd⟩, Hr, ⟨C00, C01, C02, C10, C11, C12, C20, C21, C22⟩, Wg, Wu, Wd⟩
  isplitl [Hs]; · iexact Hs
  isplitl [Hr]; · iexact Hr
  ihave Hg := (gSlots c).1 $$ Hg
  ihave Hu := (uSlots c).1 $$ Hu
  ihave Hd := (dSlots c).1 $$ Hd
  ihave Wg := (whole_parts c gMat _).1 $$ Wg
  ihave Wu := (whole_parts c uMat _).1 $$ Wu
  ihave Wd := (whole_parts c dMat _).1 $$ Wd
  icases Hg with ⟨G0, G1, G2⟩
  icases Hu with ⟨U0, U1, U2⟩
  icases Hd with ⟨D0, D1, D2⟩
  icases Wg with ⟨WG0, WG1, WG2⟩
  icases Wu with ⟨WU0, WU1, WU2⟩
  icases Wd with ⟨WD0, WD1, WD2⟩
  unfold free
  isplitl [C00 G0 WG0 C10 U0 WU0 C20 D0 WD0]
  · isplitl [C00 G0 WG0]
    · isplitl [C00]; · iexact C00
      isplitl [G0]; · iexact G0
      iexact WG0
    isplitl [C10 U0 WU0]
    · isplitl [C10]; · iexact C10
      isplitl [U0]; · iexact U0
      iexact WU0
    isplitl [C20]; · iexact C20
    isplitl [D0]; · iexact D0
    iexact WD0
  isplitl [C01 G1 WG1 C11 U1 WU1 C21 D1 WD1]
  · isplitl [C01 G1 WG1]
    · isplitl [C01]; · iexact C01
      isplitl [G1]; · iexact G1
      iexact WG1
    isplitl [C11 U1 WU1]
    · isplitl [C11]; · iexact C11
      isplitl [U1]; · iexact U1
      iexact WU1
    isplitl [C21]; · iexact C21
    isplitl [D1]; · iexact D1
    iexact WD1
  isplitl [C02 G2 WG2]
  · isplitl [C02]; · iexact C02
    isplitl [G2]; · iexact G2
    iexact WG2
  isplitl [C12 U2 WU2]
  · isplitl [C12]; · iexact C12
    isplitl [U2]; · iexact U2
    iexact WU2
  isplitl [C22]; · iexact C22
  isplitl [D2]; · iexact D2
  iexact WD2

theorem hout (c : Dev nD) : (dats m 0 c).Φ (Fin.last cfg0.N) ⊢ Pipeline.ΦD ownCells spec0 streamed (V m) c := by
  rw [handed_eq, ownCells_eq, show (dats m 0 c).Φ (Fin.last cfg0.N) = Phi m c 352 from rfl]
  unfold Phi
  rw [show step 352 = 320 from rfl, scratchAt_start m c (show 352 % 11 = 0 from rfl), lanes_end]
  unfold free
  iintro ⟨Hs, Hr, ⟨⟨C02, G2, WG2⟩, ⟨C12, U2, WU2⟩, C22, D2, WD2⟩, ⟨⟨C00, G0, WG0⟩, ⟨C10, U0, WU0⟩, C20, D0, WD0⟩, ⟨C01, G1, WG1⟩, ⟨C11, U1, WU1⟩, C21, D1, WD1⟩
  isplitl [Hs G0 G1 G2 U0 U1 U2 D0 D1 D2]
  · isplitl [Hs]; · iexact Hs
    isplitl [G0 G1 G2]
    · iapply (gSlots c).2
      isplitl [G0]; · iexact G0
      isplitl [G1]; · iexact G1
      iexact G2
    isplitl [U0 U1 U2]
    · iapply (uSlots c).2
      isplitl [U0]; · iexact U0
      isplitl [U1]; · iexact U1
      iexact U2
    iapply (dSlots c).2
    isplitl [D0]; · iexact D0
    isplitl [D1]; · iexact D1
    iexact D2
  isplitl [Hr]; · iexact Hr
  isplitl [C00 C01 C02 C10 C11 C12 C20 C21 C22]
  · isplitl [C00]; · iexact C00
    isplitl [C01]; · iexact C01
    isplitl [C02]; · iexact C02
    isplitl [C10]; · iexact C10
    isplitl [C11]; · iexact C11
    isplitl [C12]; · iexact C12
    isplitl [C20]; · iexact C20
    isplitl [C21]; · iexact C21
    iexact C22
  isplitl [WG0 WG1 WG2]
  · iapply (whole_parts c gMat _).2
    isplitl [WG0]; · iexact WG0
    isplitl [WG1]; · iexact WG1
    iexact WG2
  isplitl [WU0 WU1 WU2]
  · iapply (whole_parts c uMat _).2
    isplitl [WU0]; · iexact WU0
    isplitl [WU1]; · iexact WU1
    iexact WU2
  iapply (whole_parts c dMat _).2
  isplitl [WD0]; · iexact WD0
  isplitl [WD1]; · iexact WD1
  iexact WD2

/-! ## The run -/

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every array of the pipeline ends as the proof data says, every other argument as it was, and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownCells defs₀ Variants.none ownCells_facts streamed streamed_sub m ρ main
    (hbody := fun c => (body_obligation m c).loose) (hshare := fun c => (dats m 0 c).share_full fun _ => rfl)
    (howed := fun _ _ => rfl) (V := V m) (hmain := hmain m) (hA := A_eq m) (hin := hin m) (hout := hout m)

/-- The arguments' part of that, and the result's array. -/
theorem run_named : θ_run defs (onTc (τ := τ) (main (F := F))) ⟨m, fun _ => 0, ρ⟩ (fun r => (∀ c : Dev nD,
      r.2.mem ((c.tc : Thread nD τ).loc main_v14_0) = (dats m 0 c).arrAt 6 cfg0.N
      ∧ r.2.mem ((c.tc : Thread nD τ).loc main_v14_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6, (h.1 c).1 7,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

/-- The frame: the arguments unchanged, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (run_named m ρ)

end Cert.FfnResidIdeal.Stream
end
-- ==== Proof.Ffn.Net.lean ====
/- The feed-forward network of one row, over the extended reals, and its sum over the 5504 hidden columns taken in parts. -/
module

public import proofs.«01_k».proof.Proof.Scalars
public import Idealize.ShloMosaic.PureOps.Ideal
public import Idealize.ShloMosaic.Lib.Pipeline.Value
public import Idealize.ShloMosaic.Lib.Pointwise
public import Idealize.ShloMosaic.Lib.Tactic

@[expose] public section

noncomputable section

namespace Cert.Swiglu

open Idealize.ShloMosaic

/-- Entry `k` of row `x` divided by the row's root mean square, times weight `k` of `g`. -/
def unitRow (x g : Fin 2048 → EReal) (k : Fin 2048) : EReal :=
  x k * Ideal.rsqrt (Ideal.div (∑ j, x j * x j) (Ideal.ofBits .f32 0x45000000#32) + Ideal.ofBits .f32 0x358637BD#32) * g k

/-- Row `x` times column `q` of a matrix. -/
def hidden (x : Fin 2048 → EReal) (w : Fin 2048 → Fin 5504 → EReal) (q : Fin 5504) : EReal := ∑ k, x k * w k q

/-- What hidden column `q` adds to output column `n`. -/
def share (x : Fin 2048 → EReal) (wg wu : Fin 2048 → Fin 5504 → EReal) (wd : Fin 5504 → Fin 2048 → EReal) (n : Fin 2048) (q : Fin 5504) : EReal :=
  hidden x wg q * Ideal.logistic (hidden x wg q) * hidden x wu q * wd q n

/-- The row with half of the network's output added. -/
def outRow (x g : Fin 2048 → EReal) (wg wu : Fin 2048 → Fin 5504 → EReal) (wd : Fin 5504 → Fin 2048 → EReal) (n : Fin 2048) : EReal :=
  x n + Ideal.ofBits .f32 0x3F000000#32 * ∑ q, share (unitRow x g) wg wu wd n q

/-- The sum of the first `n` of the 5504 values. -/
def firsts (f : Fin 5504 → EReal) (n : ℕ) : EReal := ∑ q ∈ Finset.range n, if h : q < 5504 then f ⟨q, h⟩ else 0

theorem firsts_zero (f : Fin 5504 → EReal) : firsts f 0 = 0 := rfl

theorem firsts_add (f : Fin 5504 → EReal) (n k : ℕ) (h : n + k ≤ 5504) :
    firsts f (n + k) = firsts f n + ∑ l : Fin k, f ⟨n + l.val, by omega⟩ := by
  unfold firsts
  rw [Finset.sum_range_add]
  congr 1
  rw [Finset.sum_range]
  exact Finset.sum_congr rfl fun l _ => dif_pos _

theorem firsts_all (f : Fin 5504 → EReal) : firsts f 5504 = ∑ q, f q := by
  unfold firsts
  rw [Finset.sum_range]
  exact Finset.sum_congr rfl fun l _ => dif_pos _

section Shapes
variable {α : Type}

/-- A leading axis of length one dropped from a matrix. -/
theorem drop_apply {a b : ℕ} (w : (⟨3, ![1, a, b]⟩ : Shape).Idx → α) (h : (⟨3, ![1, a, b]⟩ : Shape).ShapeCasts ⟨2, ![a, b]⟩) (k : Fin a) (q : Fin b) :
    shapeCast ⟨2, ![a, b]⟩ w h (ix2 k q) = w (ix3 0 k q) := by
  refine (shapeCast_dropUnit_apply ![a, b] w h (ix2 k q)).trans (congrArg w ?_)
  funext i
  match i with
  | ⟨0, _⟩ => rfl
  | ⟨1, _⟩ => rfl
  | ⟨2, _⟩ => rfl

/-- A vector kept as one row: as a vector, and back. -/
theorem flat_apply {a : ℕ} (w : (⟨2, ![1, a]⟩ : Shape).Idx → α) (h : (⟨2, ![1, a]⟩ : Shape).ShapeCasts ⟨1, ![a]⟩) (k : Fin a) :
    shapeCast ⟨1, ![a]⟩ w h (ix1 k) = w (ix2 0 k) := by
  refine (shapeCast_dropUnit_apply ![a] w h (ix1 k)).trans (congrArg w ?_)
  funext i
  match i with
  | ⟨0, _⟩ => rfl
  | ⟨1, _⟩ => rfl
theorem raise_apply {a : ℕ} (w : (⟨1, ![a]⟩ : Shape).Idx → α) (h : (⟨1, ![a]⟩ : Shape).ShapeCasts ⟨2, ![1, a]⟩) (k : Fin a) :
    shapeCast ⟨2, ![1, a]⟩ w h (ix2 0 k) = w (ix1 k) := by
  refine (shapeCast_addUnit_apply ![a] w h (ix2 0 k)).trans (congrArg w ?_)
  funext i
  match i with
  | ⟨0, _⟩ => rfl

end Shapes

end Cert.Swiglu

end
-- ==== Proof.Ffn.Resid.lean ====
/- The first feed-forward call: its two results hold, at row `r` and column `n`, the row with half of the network's output added, and
   that row divided by its root mean square and weighed; and so do the reference's. The kernel sums the hidden columns by blocks of 512
   and a tail of 384. -/
module

public import proofs.«01_k».proof.Defs
public import proofs.«01_k».proof.Proof.Ffn.ResidFrame
public import proofs.«01_k».proof.Proof.Ffn.Net
public import proofs.«01_k».proof.Proof.Gen.FfnResidRefIdeal.Run

@[expose] public section

set_option maxRecDepth 16384

noncomputable section

namespace Cert.FfnResidIdeal.Net

open Cert.FfnResidIdeal Cert.FfnResidIdeal.Gen Cert.FfnResidIdeal.Stream Idealize.ShloMosaic Idealize.ShloMosaic.TcCoe Idealize.SL.Sem
open Idealize.ShloMosaic.Pipeline (Dat)

section Blocks
variable {F : FTy → Type} [FloatOps F]
variable (m : (ℓ : Loc nD τ sig) → Buf (Elt F) ℓ) (ρ : Dev nD → PrngReg)

theorem index_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 11 ∧ win0_6.index t (1 : Fin 2) = 0
    ∧ win0_7.index t (0 : Fin 2) = t.val / 11 ∧ win0_7.index t (1 : Fin 2) = 0 :=
  (by decide +kernel : ∀ t : Fin grid0.N, _)

theorem row_lt (t : Fin cfg0.N) (a : Fin 512) : 512 * (t.val / 11) + a.val < 16384 := by
  have h : t.val < 352 := t.isLt
  omega

theorem blkX_eq (c : Dev nD) (t : Fin cfg0.N) (a : Fin 512) (b : Fin 2048) :
    blkX m c t (ix2 a b) = V m c main_v0 (ix2 ⟨512 * (t.val / 11) + a.val, row_lt t a⟩ b) := by
  obtain ⟨e0, e1, -⟩ := index_facts t
  show V m c main_v0 (((cfg0.win 0).blk t).view.emb _) = _
  congr 1
  funext k; apply Fin.ext
  match k with
  | ⟨0, _⟩ => show win0_0.index t (0 : Fin 2) * 512 + 1 * a.val = 512 * (t.val / 11) + a.val; rw [e0]; omega
  | ⟨1, _⟩ => show win0_0.index t (1 : Fin 2) * 2048 + 1 * b.val = b.val; rw [e1]; omega

theorem blkN_eq (c : Dev nD) (t : Fin cfg0.N) (b : Fin 2048) : blkN m c t (ix2 0 b) = V m c main_v2 (ix2 0 b) := by
  obtain ⟨-, -, e0, e1, -⟩ := index_facts t
  show V m c main_v2 (((cfg0.win 1).blk t).view.emb _) = _
  congr 1
  funext k; apply Fin.ext
  match k with
  | ⟨0, _⟩ => show win0_1.index t (0 : Fin 2) * 1 + 1 * 0 = 0; rw [e0]
  | ⟨1, _⟩ => show win0_1.index t (1 : Fin 2) * 2048 + 1 * b.val = b.val; rw [e1]; omega

theorem blkTg_eq (c : Dev nD) (t : Fin cfg0.N) (a : Fin 2048) (b : Fin 384) : blkTg m c t (ix2 a b) = V m c main_v11 (ix2 a b) := by
  obtain ⟨-, -, -, -, e0, e1, -⟩ := index_facts t
  show V m c main_v11 (((cfg0.win 2).blk t).view.emb _) = _
  congr 1
  funext k; apply Fin.ext
  match k with
  | ⟨0, _⟩ => show win0_2.index t (0 : Fin 2) * 2048 + 1 * a.val = a.val; rw [e0]; omega
  | ⟨1, _⟩ => show win0_2.index t (1 : Fin 2) * 384 + 1 * b.val = b.val; rw [e1]; omega

theorem blkTu_eq (c : Dev nD) (t : Fin cfg0.N) (a : Fin 2048) (b : Fin 384) : blkTu m c t (ix2 a b) = V m c main_v12 (ix2 a b) := by
  obtain ⟨-, -, -, -, -, -, e0, e1, -⟩ := index_facts t
  show V m c main_v12 (((cfg0.win 3).blk t).view.emb _) = _
  congr 1
  funext k; apply Fin.ext
  match k with
  | ⟨0, _⟩ => show win0_3.index t (0 : Fin 2) * 2048 + 1 * a.val = a.val; rw [e0]; omega
  | ⟨1, _⟩ => show win0_3.index t (1 : Fin 2) * 384 + 1 * b.val = b.val; rw [e1]; omega

theorem blkTd_eq (c : Dev nD) (t : Fin cfg0.N) (a : Fin 384) (b : Fin 2048) : blkTd m c t (ix2 a b) = V m c main_v13 (ix2 a b) := by
  obtain ⟨-, -, -, -, -, -, -, -, e0, e1, -⟩ := index_facts t
  show V m c main_v13 (((cfg0.win 4).blk t).view.emb _) = _
  congr 1
  funext k; apply Fin.ext
  match k with
  | ⟨0, _⟩ => show win0_4.index t (0 : Fin 2) * 384 + 1 * a.val = a.val; rw [e0]; omega
  | ⟨1, _⟩ => show win0_4.index t (1 : Fin 2) * 2048 + 1 * b.val = b.val; rw [e1]; omega

theorem blkF_eq (c : Dev nD) (t : Fin cfg0.N) (b : Fin 2048) : blkF m c t (ix2 0 b) = V m c main_v10 (ix2 0 b) := by
  obtain ⟨-, -, -, -, -, -, -, -, -, -, e0, e1, -⟩ := index_facts t
  show V m c main_v10 (((cfg0.win 5).blk t).view.emb _) = _
  congr 1
  funext k; apply Fin.ext
  match k with
  | ⟨0, _⟩ => show win0_5.index t (0 : Fin 2) * 1 + 1 * 0 = 0; rw [e0]
  | ⟨1, _⟩ => show win0_5.index t (1 : Fin 2) * 2048 + 1 * b.val = b.val; rw [e1]; omega

/-! The arrays the host prepares: the two norms' weights as rows, the matrices rounded, and their last 384 columns or rows. -/

theorem V_rows (c : Dev nD) : V m c main_v0 = shapeCast S16384x2048 (m ((c : Thread nD τ).loc main_arg0)) shapeCasts_S8x2048x2048_S16384x2048 := by
  unfold V
  after_results <;> rfl
theorem V_norm (c : Dev nD) : V m c main_v2 = shapeCast S1x2048
    (shapeCast S2048 (m ((c : Thread nD τ).loc main_arg1)) shapeCasts_S1x2048_S2048) shapeCasts_S2048_S1x2048 := by
  unfold V
  after_results <;> rfl
theorem V_closing (c : Dev nD) : V m c main_v10 = shapeCast S1x2048
    (shapeCast S2048 (m ((c : Thread nD τ).loc main_arg5)) shapeCasts_S1x2048_S2048) shapeCasts_S2048_S1x2048 := by
  unfold V
  after_results <;> rfl
theorem V_gate (c : Dev nD) : V m c main_v4 = truncf .bf16
    (shapeCast S2048x5504 (m ((c : Thread nD τ).loc main_arg2)) shapeCasts_S1x2048x5504_S2048x5504) bitsLt_bf16_f32 := by
  unfold V
  after_results <;> rfl
theorem V_up (c : Dev nD) : V m c main_v6 = truncf .bf16
    (shapeCast S2048x5504 (m ((c : Thread nD τ).loc main_arg3)) shapeCasts_S1x2048x5504_S2048x5504) bitsLt_bf16_f32 := by
  unfold V
  after_results <;> rfl
theorem V_down (c : Dev nD) : V m c main_v8 = truncf .bf16
    (shapeCast S5504x2048 (m ((c : Thread nD τ).loc main_arg4)) shapeCasts_S1x5504x2048_S5504x2048) bitsLt_bf16_f32 := by
  unfold V
  after_results <;> rfl
theorem V_gateTail (c : Dev nD) : V m c main_v11 = extractStridedSlice S2048x384 ![0, 5120] (V m c main_v4) slices_S2048x5504_S2048x384_0_5120 := by
  rw [V_gate]
  unfold V
  after_results <;> rfl
theorem V_upTail (c : Dev nD) : V m c main_v12 = extractStridedSlice S2048x384 ![0, 5120] (V m c main_v6) slices_S2048x5504_S2048x384_0_5120 := by
  rw [V_up]
  unfold V
  after_results <;> rfl
theorem V_downTail (c : Dev nD) : V m c main_v13 = extractStridedSlice S384x2048 ![5120, 0] (V m c main_v8) slices_S5504x2048_S384x2048_5120_0 := by
  rw [V_down]
  unfold V
  after_results <;> rfl

/-! The streamed blocks: step `10 i + j` brings the columns, and the rows, from `512 j` on. -/

theorem col_lt {j : ℕ} (h : j ≤ 9) (l : Fin 512) : 512 * j + l.val < 5504 := by omega

theorem gAt_apply (c : Dev nD) (W : Vec F S2048x5504 .bf16) (i j : ℕ) (hi : i < 32) (hj : j ≤ 9) (k : Fin 2048) (l : Fin 512) :
    gAt (c := c) W (10 * i + j) (ix2 k l) = W (ix2 k ⟨512 * j + l.val, col_lt hj l⟩) := by
  show W ((colBlk gMat (Ring.bk 320 (10 * i + j))).view.emb _) = _
  congr 1
  funext x; apply Fin.ext
  match x with
  | ⟨0, _⟩ => show 0 + 1 * k.val = k.val; omega
  | ⟨1, _⟩ => show 512 * (((10 * i + j) % 320) % 10) + 1 * l.val = 512 * j + l.val; omega
theorem uAt_apply (c : Dev nD) (W : Vec F S2048x5504 .bf16) (i j : ℕ) (hi : i < 32) (hj : j ≤ 9) (k : Fin 2048) (l : Fin 512) :
    uAt (c := c) W (10 * i + j) (ix2 k l) = W (ix2 k ⟨512 * j + l.val, col_lt hj l⟩) := by
  show W ((colBlk uMat (Ring.bk 320 (10 * i + j))).view.emb _) = _
  congr 1
  funext x; apply Fin.ext
  match x with
  | ⟨0, _⟩ => show 0 + 1 * k.val = k.val; omega
  | ⟨1, _⟩ => show 512 * (((10 * i + j) % 320) % 10) + 1 * l.val = 512 * j + l.val; omega
theorem dAt_apply (c : Dev nD) (W : Vec F S5504x2048 .bf16) (i j : ℕ) (hi : i < 32) (hj : j ≤ 9) (l : Fin 512) (n : Fin 2048) :
    dAt (c := c) W (10 * i + j) (ix2 l n) = W (ix2 ⟨512 * j + l.val, col_lt hj l⟩ n) := by
  show W ((rowBlk dMat (Ring.bk 320 (10 * i + j))).view.emb _) = _
  congr 1
  funext x; apply Fin.ext
  match x with
  | ⟨0, _⟩ => show 512 * (((10 * i + j) % 320) % 10) + 1 * l.val = 512 * j + l.val; omega
  | ⟨1, _⟩ => show 0 + 1 * n.val = n.val; omega

/-! The result arrays, where a row block's last point wrote them. -/

theorem same_block : ∀ t t' : Fin cfg0.N, (cfg0.win 6).flush t = true → (cfg0.win 6).flush t' = true → (cfg0.win 6).index t = (cfg0.win 6).index t' → t = t' := by
  intro t t' h h' e
  have e0 : t.val / 11 = t'.val / 11 := by
    have := congrFun e (0 : Fin 2)
    obtain ⟨-, -, -, -, -, -, -, -, -, -, -, -, a, -⟩ := index_facts t
    obtain ⟨-, -, -, -, -, -, -, -, -, -, -, -, b, -⟩ := index_facts t'
    exact a.symm.trans (this.trans b)
  rw [flush0_6] at h h'
  exact Fin.ext (by omega)

theorem final_apply (c : Dev nD) (t : Fin cfg0.N) (ht : t.val % 11 = 10) (a : Fin 512) (b : Fin 2048) :
    (dats m 0 c).arrAt 6 cfg0.N (ix2 ⟨512 * (t.val / 11) + a.val, row_lt t a⟩ b) = outOf m c (t.val / 11) t (ix2 a b) := by
  obtain ⟨-, -, -, -, -, -, -, -, -, -, -, -, e0, e1, -⟩ := index_facts t
  refine .trans ?_ ((congrFun ((dats m 0 c).read_blk_arrAt_eq_flushed 6 (fun t t' h h' hne => (cfg0.win 6).disjoint_blk fun e => hne (same_block t t' h h' e)) cfg0.N t t.isLt
    ((flush0_6 t).2 ht)) (ix2 a b)).trans ?_)
  · show _ = (dats m 0 c).arrAt 6 cfg0.N (((cfg0.win 6).blk t).view.emb _)
    congr 1
    funext k; apply Fin.ext
    match k with
    | ⟨0, _⟩ => show 512 * (t.val / 11) + a.val = win0_6.index t (0 : Fin 2) * 512 + 1 * a.val; rw [e0]; omega
    | ⟨1, _⟩ => show b.val = win0_6.index t (1 : Fin 2) * 2048 + 1 * b.val; rw [e1]; omega
  · show (cfg0.win 6).cut (grid0.coords t) ((dats m 0 c).after 6 t) (ix2 a b) = _
    rw [after6]
    unfold resAt
    rw [if_pos ht]
    rfl

theorem same_block_next : ∀ t t' : Fin cfg0.N, (cfg0.win 7).flush t = true → (cfg0.win 7).flush t' = true → (cfg0.win 7).index t = (cfg0.win 7).index t' → t = t' := by
  intro t t' h h' e
  have e0 : t.val / 11 = t'.val / 11 := by
    have := congrFun e (0 : Fin 2)
    obtain ⟨-, -, -, -, -, -, -, -, -, -, -, -, -, -, a, -⟩ := index_facts t
    obtain ⟨-, -, -, -, -, -, -, -, -, -, -, -, -, -, b, -⟩ := index_facts t'
    exact a.symm.trans (this.trans b)
  rw [flush0_7] at h h'
  exact Fin.ext (by omega)

theorem next_apply (c : Dev nD) (t : Fin cfg0.N) (ht : t.val % 11 = 10) (a : Fin 512) (b : Fin 2048) :
    (dats m 0 c).arrAt 7 cfg0.N (ix2 ⟨512 * (t.val / 11) + a.val, row_lt t a⟩ b) = nextOf m c (t.val / 11) t (ix2 a b) := by
  obtain ⟨-, -, -, -, -, -, -, -, -, -, -, -, -, -, e0, e1⟩ := index_facts t
  refine .trans ?_ ((congrFun ((dats m 0 c).read_blk_arrAt_eq_flushed 7 (fun t t' h h' hne => (cfg0.win 7).disjoint_blk fun e => hne (same_block_next t t' h h' e)) cfg0.N t t.isLt
    ((flush0_7 t).2 ht)) (ix2 a b)).trans ?_)
  · show _ = (dats m 0 c).arrAt 7 cfg0.N (((cfg0.win 7).blk t).view.emb _)
    congr 1
    funext k; apply Fin.ext
    match k with
    | ⟨0, _⟩ => show 512 * (t.val / 11) + a.val = win0_7.index t (0 : Fin 2) * 512 + 1 * a.val; rw [e0]; omega
    | ⟨1, _⟩ => show b.val = win0_7.index t (1 : Fin 2) * 2048 + 1 * b.val; rw [e1]; omega
  · show (cfg0.win 7).cut (grid0.coords t) ((dats m 0 c).after 7 t) (ix2 a b) = _
    rw [after7]
    rfl

end Blocks

/-! ## At the extended reals -/

theorem rows_apply (x : Vec Ideal S512x2048 .f32) (g : Vec Ideal S1x2048 .f32) (a : Fin 512) (k : Fin 2048) :
    k0_pay1 (F := Ideal) x g (ix2 a k) = Swiglu.unitRow (fun j => x (ix2 a j)) (fun j => g (ix2 0 j)) k := by
  unfold Swiglu.unitRow
  pointwise [k0_pay1]

theorem hid_apply (B : Vec Ideal S2048x512 .bf16) (xn : Vec Ideal S512x2048 .bf16) (a l : Fin 512) :
    k0_pay6 (F := Ideal) (colRaised B) xn (ix2 a l) = ∑ k : Fin 2048, (xn (ix2 a k) * B (ix2 k l) : EReal) := by
  have h : shapeCast S2048x512 (colRaised B) shapeCasts_S1x2048x512_S2048x512 = B := shapeCast_shapeCast _ _ _
  unfold k0_pay6
  rw [h]
  pointwise

theorem up_apply (B : Vec Ideal S2048x512 .bf16) (xn : Vec Ideal S512x2048 .bf16) (a l : Fin 512) :
    k0_pay7 (F := Ideal) (colRaised B) xn (ix2 a l) = ∑ k : Fin 2048, (xn (ix2 a k) * B (ix2 k l) : EReal) := by
  have h : shapeCast S2048x512 (colRaised B) shapeCasts_S1x2048x512_S2048x512 = B := shapeCast_shapeCast _ _ _
  unfold k0_pay7
  rw [h]
  pointwise

theorem mixed_apply (xn : Vec Ideal S512x2048 .bf16) (g u : Vec Ideal S2048x512 .bf16) (d : Vec Ideal S512x2048 .bf16)
    (acc : Vec Ideal S512x2048 .f32) (a : Fin 512) (n : Fin 2048) :
    mixed (F := Ideal) xn g u d acc (ix2 a n) = acc (ix2 a n) + ∑ l : Fin 512,
      ((∑ k : Fin 2048, (xn (ix2 a k) * g (ix2 k l) : EReal)) * Ideal.logistic (∑ k : Fin 2048, (xn (ix2 a k) * g (ix2 k l) : EReal))
        * (∑ k : Fin 2048, (xn (ix2 a k) * u (ix2 k l) : EReal)) * d (ix2 l n) : EReal) := by
  have h : k0_pay5 (rowRaised d) = d := by unfold k0_pay5 rowRaised; exact shapeCast_shapeCast _ _ _
  unfold mixed
  rw [h]
  refine Eq.trans (b := acc (ix2 a n) + ∑ l : Fin 512, ((k0_pay6 (F := Ideal) (colRaised g) xn (ix2 a l)
    * Ideal.logistic (k0_pay6 (F := Ideal) (colRaised g) xn (ix2 a l)) * k0_pay7 (F := Ideal) (colRaised u) xn (ix2 a l)) * d (ix2 l n) : EReal)) ?_ ?_
  · unfold k0_pay8
    generalize k0_pay6 (F := Ideal) (colRaised g) xn = hg
    generalize k0_pay7 (F := Ideal) (colRaised u) xn = hu
    pointwise [k0_pay3, k0_pay9]
    simp only [Scalars.sigmoid]
  · simp only [hid_apply, up_apply]

theorem tail_apply (tg tu : Vec Ideal S2048x384 .bf16) (td : Vec Ideal S384x2048 .bf16) (xn : Vec Ideal S512x2048 .bf16)
    (acc : Vec Ideal S512x2048 .f32) (a : Fin 512) (n : Fin 2048) :
    k0_pay10 (F := Ideal) tg tu td xn acc (ix2 a n) = acc (ix2 a n) + ∑ l : Fin 384,
      ((∑ k : Fin 2048, (xn (ix2 a k) * tg (ix2 k l) : EReal)) * Ideal.logistic (∑ k : Fin 2048, (xn (ix2 a k) * tg (ix2 k l) : EReal))
        * (∑ k : Fin 2048, (xn (ix2 a k) * tu (ix2 k l) : EReal)) * td (ix2 l n) : EReal) := by
  pointwise [k0_pay10]
  simp only [Scalars.sigmoid]

theorem summed_apply (x : Vec Ideal S512x2048 .f32) (acc : Vec Ideal S512x2048 .f32) (a : Fin 512) (n : Fin 2048) :
    k0_pay11 (F := Ideal) x acc (ix2 a n) = x (ix2 a n) + Ideal.ofBits .f32 0x3F000000#32 * acc (ix2 a n) := by
  pointwise [k0_pay11]

theorem next_rows_apply (x : Vec Ideal S512x2048 .f32) (g : Vec Ideal S1x2048 .f32) (a : Fin 512) (n : Fin 2048) :
    k0_pay4 (F := Ideal) x g (ix2 a n) = Swiglu.unitRow (fun j => x (ix2 a j)) (fun j => g (ix2 0 j)) n := by
  unfold Swiglu.unitRow
  pointwise [k0_pay4]

/-- Token `r` of the batch, by sequence and position. -/
def token (r : Fin 16384) (k : Fin 2048) : S8x2048x2048.Idx := ix3 ⟨r.val / 2048, by omega⟩ ⟨r.val % 2048, by omega⟩ k

theorem token_apply {α : Type} (x : S8x2048x2048.Idx → α) (r : Fin 16384) (k : Fin 2048) :
    shapeCast S16384x2048 x shapeCasts_S8x2048x2048_S16384x2048 (ix2 r k) = x (token r k) :=
  shapeCast_apply x _ _ _ (by
    rw [Shape.rowMajor_val_three, Shape.rowMajor_val_two]
    show (r.val / 2048 * 2048 + r.val % 2048) * 2048 + k.val = r.val * 2048 + k.val
    omega)

section Sums
variable (m : (ℓ : Loc nD τ sig) → Buf (Elt Ideal) ℓ) (c : Dev nD)

/-- The arguments, by row and column. -/
def rowX (r : Fin 16384) (k : Fin 2048) : EReal := m ((c : Thread nD τ).loc main_arg0) (token r k)
def wN (k : Fin 2048) : EReal := m ((c : Thread nD τ).loc main_arg1) (ix2 0 k)
def wG (k : Fin 2048) (q : Fin 5504) : EReal := m ((c : Thread nD τ).loc main_arg2) (ix3 0 k q)
def wU (k : Fin 2048) (q : Fin 5504) : EReal := m ((c : Thread nD τ).loc main_arg3) (ix3 0 k q)
def wD (q : Fin 5504) (n : Fin 2048) : EReal := m ((c : Thread nD τ).loc main_arg4) (ix3 0 q n)
def wF (n : Fin 2048) : EReal := m ((c : Thread nD τ).loc main_arg5) (ix2 0 n)

theorem gate_apply (k : Fin 2048) (q : Fin 5504) : V m c main_v4 (ix2 k q) = wG m c k q := by
  rw [V_gate]; exact Swiglu.drop_apply _ _ _ _
theorem upm_apply (k : Fin 2048) (q : Fin 5504) : V m c main_v6 (ix2 k q) = wU m c k q := by
  rw [V_up]; exact Swiglu.drop_apply _ _ _ _
theorem down_apply (q : Fin 5504) (n : Fin 2048) : V m c main_v8 (ix2 q n) = wD m c q n := by
  rw [V_down]; exact Swiglu.drop_apply _ _ _ _

theorem colTail_apply (W : Vec Ideal S2048x5504 .bf16) (k : Fin 2048) (l : Fin 384) :
    extractStridedSlice S2048x384 ![0, 5120] W slices_S2048x5504_S2048x384_0_5120 (ix2 k l) = W (ix2 k ⟨5120 + l.val, by omega⟩) := by
  pointwise
theorem rowTail_apply (W : Vec Ideal S5504x2048 .bf16) (l : Fin 384) (n : Fin 2048) :
    extractStridedSlice S384x2048 ![5120, 0] W slices_S5504x2048_S384x2048_5120_0 (ix2 l n) = W (ix2 ⟨5120 + l.val, by omega⟩ n) := by
  pointwise

theorem gTail_apply (t : Fin cfg0.N) (k : Fin 2048) (l : Fin 384) : blkTg m c t (ix2 k l) = wG m c k ⟨5120 + l.val, by omega⟩ := by
  rw [blkTg_eq, V_gateTail]; exact (colTail_apply _ _ _).trans (gate_apply m c _ _)
theorem uTail_apply (t : Fin cfg0.N) (k : Fin 2048) (l : Fin 384) : blkTu m c t (ix2 k l) = wU m c k ⟨5120 + l.val, by omega⟩ := by
  rw [blkTu_eq, V_upTail]; exact (colTail_apply _ _ _).trans (upm_apply m c _ _)
theorem dTail_apply (t : Fin cfg0.N) (l : Fin 384) (n : Fin 2048) : blkTd m c t (ix2 l n) = wD m c ⟨5120 + l.val, by omega⟩ n := by
  rw [blkTd_eq, V_downTail]; exact (rowTail_apply _ _ _).trans (down_apply m c _ _)

variable (i : ℕ) (hi : i < 32) (a : Fin 512)

include hi in
theorem gBlock_apply (j : ℕ) (hj : j ≤ 9) (k : Fin 2048) (l : Fin 512) :
    gAt (c := c) (V m c main_v4) (10 * i + j) (ix2 k l) = wG m c k ⟨512 * j + l.val, col_lt hj l⟩ :=
  (gAt_apply c _ i j hi hj k l).trans (gate_apply m c _ _)
include hi in
theorem uBlock_apply (j : ℕ) (hj : j ≤ 9) (k : Fin 2048) (l : Fin 512) :
    uAt (c := c) (V m c main_v6) (10 * i + j) (ix2 k l) = wU m c k ⟨512 * j + l.val, col_lt hj l⟩ :=
  (uAt_apply c _ i j hi hj k l).trans (upm_apply m c _ _)
include hi in
theorem dBlock_apply (j : ℕ) (hj : j ≤ 9) (l : Fin 512) (n : Fin 2048) :
    dAt (c := c) (V m c main_v8) (10 * i + j) (ix2 l n) = wD m c ⟨512 * j + l.val, col_lt hj l⟩ n :=
  (dAt_apply c _ i j hi hj l n).trans (down_apply m c _ _)

/-- Row `a` of row block `i`. -/
def rowNo : Fin 16384 := ⟨512 * i + a.val, by omega⟩

include hi in
theorem pt_div : ((pt (11 * i)).val : ℕ) / 11 = i := by
  show (11 * i) % 352 / 11 = i; omega

theorem rowsOf_apply (k : Fin 2048) : rowsOf m c i (ix2 a k) = Swiglu.unitRow (rowX m c (rowNo i hi a)) (wN m c) k := by
  unfold rowsOf
  rw [rows_apply]
  refine congrArg₂ (fun p q => Swiglu.unitRow p q k) (funext fun j => ?_) (funext fun j => ?_)
  · rw [blkX_eq, V_rows]
    exact (token_apply _ _ _).trans (congrArg (fun r => m ((c : Thread nD τ).loc main_arg0) (token r j)) (Fin.ext (by
      show 512 * ((pt (11 * i)).val / 11) + a.val = 512 * i + a.val; rw [pt_div i hi])))
  · rw [blkN_eq, V_norm]
    exact (Swiglu.raise_apply _ _ _).trans (Swiglu.flat_apply _ _ _)

/-- What hidden column `q` adds to output column `n` in that row. -/
abbrev part (n : Fin 2048) : Fin 5504 → EReal := Swiglu.share (Swiglu.unitRow (rowX m c (rowNo i hi a)) (wN m c)) (wG m c) (wU m c) (wD m c) n

theorem block_sum (n : Fin 2048) (j : ℕ) (hj : j ≤ 9) (acc : Vec Ideal S512x2048 .f32) :
    mixed (F := Ideal) (rowsOf m c i) (gAt (c := c) (V m c main_v4) (10 * i + j)) (uAt (c := c) (V m c main_v6) (10 * i + j))
      (dAt (c := c) (V m c main_v8) (10 * i + j)) acc (ix2 a n)
      = acc (ix2 a n) + ∑ l : Fin 512, part m c i hi a n ⟨512 * j + l.val, col_lt hj l⟩ := by
  rw [mixed_apply]
  refine congrArg (fun s : EReal => acc (ix2 a n) + s) (Finset.sum_congr rfl fun l _ => ?_)
  unfold part Swiglu.share Swiglu.hidden
  simp only [gBlock_apply m c i hi j hj, uBlock_apply m c i hi j hj, dBlock_apply m c i hi j hj, rowsOf_apply m c i hi a]

theorem accTo_apply (n : Fin 2048) (j : ℕ) (hj : j ≤ 9) : accTo m c i j (ix2 a n) = Swiglu.firsts (part m c i hi a n) (512 * (j + 1)) := by
  induction j with
  | zero =>
    refine (block_sum m c i hi a n 0 hj _).trans ?_
    have e := Swiglu.firsts_add (part m c i hi a n) 0 512 (by omega)
    rw [Swiglu.firsts_zero] at e
    refine Eq.trans ?_ e.symm
    refine congrArg₂ (· + · : EReal → EReal → EReal) ?_ (Finset.sum_congr rfl fun l _ => ?_)
    · pointwise [k0_pay2]
    · exact congrArg _ (Fin.ext (by show 512 * 0 + l.val = 0 + l.val; omega))
  | succ j ih =>
    refine (block_sum m c i hi a n (j + 1) hj _).trans ?_
    rw [ih (by omega), show 512 * (j + 1 + 1) = 512 * (j + 1) + 512 by ring, Swiglu.firsts_add _ _ _ (by omega)]

theorem total_apply (t : Fin cfg0.N) (n : Fin 2048) :
    k0_pay10 (F := Ideal) (blkTg m c t) (blkTu m c t) (blkTd m c t) (rowsOf m c i) (accTo m c i 9) (ix2 a n) = ∑ q, part m c i hi a n q := by
  rw [tail_apply, accTo_apply m c i hi a n 9 le_rfl, ← Swiglu.firsts_all]
  show _ = Swiglu.firsts _ (5120 + 384)
  rw [Swiglu.firsts_add _ 5120 384 (by omega)]
  refine congrArg (fun s : EReal => Swiglu.firsts (part m c i hi a n) 5120 + s) (Finset.sum_congr rfl fun l _ => ?_)
  unfold part Swiglu.share Swiglu.hidden
  simp only [gTail_apply, uTail_apply, dTail_apply, rowsOf_apply m c i hi a]

end Sums

/-- The row with half of the network's output added, and the same normalised. -/
def entry (x : S8x2048x2048.Idx → EReal) (g : S1x2048.Idx → EReal) (wg wu : S1x2048x5504.Idx → EReal) (wd : S1x5504x2048.Idx → EReal)
    (r : Fin 16384) (n : Fin 2048) : EReal :=
  Swiglu.outRow (fun k => x (token r k)) (fun k => g (ix2 0 k)) (fun k q => wg (ix3 0 k q)) (fun k q => wu (ix3 0 k q)) (fun q n => wd (ix3 0 q n)) n
def nextEntry (x : S8x2048x2048.Idx → EReal) (g : S1x2048.Idx → EReal) (wg wu : S1x2048x5504.Idx → EReal) (wd : S1x5504x2048.Idx → EReal)
    (f : S1x2048.Idx → EReal) (r : Fin 16384) (n : Fin 2048) : EReal :=
  Swiglu.unitRow (entry x g wg wu wd r) (fun k => f (ix2 0 k)) n

section Results
variable (m : (ℓ : Loc nD τ sig) → Buf (Elt Ideal) ℓ) (c : Dev nD) (r : Fin 16384) (n : Fin 2048)

/-- The last point of the row block that row `r` lies in, and the row's place in it. -/
def lastPt : Fin cfg0.N := ⟨11 * (r.val / 512) + 10, by have := r.isLt; show _ < 352; omega⟩
def place : Fin 512 := ⟨r.val % 512, by omega⟩
theorem lastPt_mod : (lastPt r).val % 11 = 10 := by show (11 * (r.val / 512) + 10) % 11 = 10; omega
theorem lastPt_div : (lastPt r).val / 11 = r.val / 512 := by show (11 * (r.val / 512) + 10) / 11 = _; omega
theorem row_eq (p) : (⟨512 * ((lastPt r).val / 11) + (place r).val, p⟩ : Fin 16384) = r :=
  Fin.ext (by dsimp only; rw [lastPt_div]; show 512 * (r.val / 512) + r.val % 512 = r.val; omega)
theorem rowNo_eq (hi : r.val / 512 < 32) : rowNo (r.val / 512) hi (place r) = r :=
  Fin.ext (by show 512 * (r.val / 512) + r.val % 512 = r.val; omega)

/-- What row `r`'s last point stores in the row's place. -/
theorem outOf_apply : outOf m c (r.val / 512) (lastPt r) (ix2 (place r) n) = entry (m ((c : Thread nD τ).loc main_arg0)) (m ((c : Thread nD τ).loc main_arg1))
      (m ((c : Thread nD τ).loc main_arg2)) (m ((c : Thread nD τ).loc main_arg3)) (m ((c : Thread nD τ).loc main_arg4)) r n := by
  have hi : r.val / 512 < 32 := by omega
  unfold outOf entry Swiglu.outRow
  rw [summed_apply, total_apply m c _ hi, blkX_eq, row_eq, V_rows]
  unfold part
  rw [rowNo_eq]
  exact congrArg₂ (fun p q : EReal => p + Ideal.ofBits .f32 0x3F000000#32 * q) (token_apply _ _ _) rfl

/-- The kernel's results at row `r` and column `n`. -/
theorem result_apply :
    (dats m 0 c).arrAt 6 cfg0.N (ix2 r n) = entry (m ((c : Thread nD τ).loc main_arg0)) (m ((c : Thread nD τ).loc main_arg1))
      (m ((c : Thread nD τ).loc main_arg2)) (m ((c : Thread nD τ).loc main_arg3)) (m ((c : Thread nD τ).loc main_arg4)) r n := by
  have h := final_apply m c (lastPt r) (lastPt_mod r) (place r) n
  rw [row_eq, lastPt_div] at h
  exact h.trans (outOf_apply m c r n)

theorem next_result_apply :
    (dats m 0 c).arrAt 7 cfg0.N (ix2 r n) = nextEntry (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) r n := by
  have h := next_apply m c (lastPt r) (lastPt_mod r) (place r) n
  rw [row_eq, lastPt_div] at h
  refine h.trans ?_
  unfold nextOf nextEntry
  rw [next_rows_apply]
  refine congrArg₂ (fun p q => Swiglu.unitRow p q n) (funext fun k => outOf_apply m c r k) (funext fun k => ?_)
  rw [blkF_eq, V_closing]
  exact (Swiglu.raise_apply _ _ _).trans (Swiglu.flat_apply _ _ _)

end Results

end Cert.FfnResidIdeal.Net

namespace Cert.FfnResidRefIdeal.Net

open Cert.FfnResidRefIdeal Cert.FfnResidRefIdeal.Gen Idealize.ShloMosaic Idealize.ShloMosaic.TcCoe

/-- The rows divided by their root mean square and weighed. -/
def normed (x : Vec Ideal S8x2048x2048 .f32) (g : Vec Ideal S2048 .f32) : FVec Ideal S8x2048x2048 .f32 :=
  mulf (mulf x (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf x x) (constant S_ .f32 0x00000000#32) reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

theorem normed_apply (x : Vec Ideal S8x2048x2048 .f32) (g : Vec Ideal S2048 .f32) (b : Fin 8) (s k : Fin 2048) :
    normed x g (ix3 b s k) = Swiglu.unitRow (fun j => x (ix3 b s j)) (fun j => g (ix1 j)) k := by
  unfold Swiglu.unitRow
  pointwise [normed]

/-- The hidden columns of the rows `x`, gated. -/
def gated (x : Vec Ideal S8x2048x2048 .f32) (wg wu : Vec Ideal S2048x5504 .f32) : FVec Ideal S8x2048x5504 .f32 :=
  mulf (mulf (Host.dotGeneral (F := Ideal) (φ₁ := .f32) (φ₂ := .f32) dot_S8x2048x2048_S2048x5504_S8x2048x5504_2_0_01_1_n_n none x wg)
    (Host.divf (broadcastInDim S8x2048x5504 ![] bcast_S_S8x2048x5504 (constant S_ .f32 0x3F800000#32))
      (addf (broadcastInDim S8x2048x5504 ![] bcast_S_S8x2048x5504 (constant S_ .f32 0x3F800000#32)) (Host.exp (Host.negf
        (Host.dotGeneral (F := Ideal) (φ₁ := .f32) (φ₂ := .f32) dot_S8x2048x2048_S2048x5504_S8x2048x5504_2_0_01_1_n_n none x wg))))))
    (Host.dotGeneral (F := Ideal) (φ₁ := .f32) (φ₂ := .f32) dot_S8x2048x2048_S2048x5504_S8x2048x5504_2_0_01_1_n_n none x wu)

theorem gated_apply (x : Vec Ideal S8x2048x2048 .f32) (wg wu : Vec Ideal S2048x5504 .f32) (b : Fin 8) (s : Fin 2048) (q : Fin 5504) :
    gated x wg wu (ix3 b s q) = Swiglu.hidden (fun j => x (ix3 b s j)) (fun k q => wg (ix2 k q)) q
      * Ideal.logistic (Swiglu.hidden (fun j => x (ix3 b s j)) (fun k q => wg (ix2 k q)) q)
      * Swiglu.hidden (fun j => x (ix3 b s j)) (fun k q => wu (ix2 k q)) q := by
  unfold Swiglu.hidden
  pointwise [gated]
  rfl

/-- The rows `x` with half of the network's output on the rows `y` added. -/
def added (x y : Vec Ideal S8x2048x2048 .f32) (wg wu : Vec Ideal S2048x5504 .f32) (wd : Vec Ideal S5504x2048 .f32) : FVec Ideal S8x2048x2048 .f32 :=
  addf x (mulf (broadcastInDim S8x2048x2048 ![] bcast_S_S8x2048x2048 (constant S_ .f32 0x3F000000#32))
    (Host.dotGeneral (F := Ideal) (φ₁ := .f32) (φ₂ := .f32) dot_S8x2048x5504_S5504x2048_S8x2048x2048_2_0_01_1_n_n none (gated y wg wu) wd))

theorem added_apply (x y : Vec Ideal S8x2048x2048 .f32) (wg wu : Vec Ideal S2048x5504 .f32) (wd : Vec Ideal S5504x2048 .f32) (b : Fin 8)
    (s n : Fin 2048) : added x y wg wu wd (ix3 b s n) = x (ix3 b s n) + Ideal.ofBits .f32 0x3F000000#32 * ∑ q, Swiglu.share (fun j => y (ix3 b s j))
      (fun k q => wg (ix2 k q)) (fun k q => wu (ix2 k q)) (fun q n => wd (ix2 q n)) n q := by
  unfold Swiglu.share
  simp only [← gated_apply]
  unfold added
  generalize gated y wg wu = h
  pointwise

/-- The same with the leading axes of length one dropped: the reference's sum. -/
def summed (x : Vec Ideal S8x2048x2048 .f32) (g : Vec Ideal S1x2048 .f32) (wg wu : Vec Ideal S1x2048x5504 .f32) (wd : Vec Ideal S1x5504x2048 .f32) :
    FVec Ideal S8x2048x2048 .f32 :=
  added x (normed x (shapeCast S2048 g shapeCasts_S1x2048_S2048)) (shapeCast S2048x5504 wg shapeCasts_S1x2048x5504_S2048x5504)
    (shapeCast S2048x5504 wu shapeCasts_S1x2048x5504_S2048x5504) (shapeCast S5504x2048 wd shapeCasts_S1x5504x2048_S5504x2048)

theorem summed_apply (x : Vec Ideal S8x2048x2048 .f32) (g : Vec Ideal S1x2048 .f32) (wg wu : Vec Ideal S1x2048x5504 .f32)
    (wd : Vec Ideal S1x5504x2048 .f32) (r : Fin 16384) (n : Fin 2048) :
    summed x g wg wu wd (FfnResidIdeal.Net.token r n) = FfnResidIdeal.Net.entry x g wg wu wd r n := by
  unfold summed FfnResidIdeal.Net.entry Swiglu.outRow FfnResidIdeal.Net.token
  simp only [added_apply, normed_apply, Swiglu.flat_apply, Swiglu.drop_apply]

theorem next_apply (x : Vec Ideal S8x2048x2048 .f32) (f : Vec Ideal S1x2048 .f32) (r : Fin 16384) (n : Fin 2048) :
    normed x (shapeCast S2048 f shapeCasts_S1x2048_S2048) (FfnResidIdeal.Net.token r n)
      = Swiglu.unitRow (fun k => x (FfnResidIdeal.Net.token r k)) (fun k => f (ix2 0 k)) n := by
  unfold FfnResidIdeal.Net.token
  simp only [normed_apply, Swiglu.flat_apply]

/-- The reference's second result, spelled by its stages. -/
theorem next_eq (m : (ℓ : Loc nD τ sig) → Buf (Elt Ideal) ℓ) (c : Dev nD) :
    Value.res_main_v41 (F := Ideal) m c = truncf .bf16 (shapeCast S16384x2048 (normed (summed (m ((c : Thread nD τ).loc main_arg0)) (m ((c : Thread nD τ).loc main_arg1))
      (m ((c : Thread nD τ).loc main_arg2)) (m ((c : Thread nD τ).loc main_arg3)) (m ((c : Thread nD τ).loc main_arg4)))
      (shapeCast S2048 (m ((c : Thread nD τ).loc main_arg5)) shapeCasts_S1x2048_S2048)) shapeCasts_S8x2048x2048_S16384x2048) bitsLt_bf16_f32 := by
  unfold Value.res_main_v41
  generalize m ((c : Thread nD τ).loc main_arg0) = x
  generalize m ((c : Thread nD τ).loc main_arg1) = g
  generalize m ((c : Thread nD τ).loc main_arg2) = wg
  generalize m ((c : Thread nD τ).loc main_arg3) = wu
  generalize m ((c : Thread nD τ).loc main_arg4) = wd
  generalize m ((c : Thread nD τ).loc main_arg5) = f
  rfl

end Cert.FfnResidRefIdeal.Net

namespace Cert.FfnResidIdeal.Net

open Idealize.ShloMosaic Idealize.ShloMosaic.TcCoe Idealize.SL.Sem Cert.FfnResidIdeal.Gen Cert.FfnResidIdeal.Stream

/-- The kernel and the reference leave the same two arrays. -/
theorem algebraic : Cert.algebraic_FfnResidIdeal_FfnResidRefIdeal := by
  intro m g m' g' _ hargs
  refine ⟨fun c => (dats m 0 c).arrAt 6 cfg0.N, fun c => (dats m 0 c).arrAt 7 cfg0.N,
    (θ_run Cert.FfnResidIdeal.defs _ _).mono (fun r h => h.1) (run_named m g), ?_⟩
  refine (θ_run Cert.FfnResidRefIdeal.defs _ _).mono (fun r h c => ?_) (Cert.FfnResidRefIdeal.Value.run m' g')
  obtain ⟨h0, h1, h2⟩ := h c
  obtain ⟨e0, e1, e2, e3, e4, e5⟩ := hargs c
  refine ⟨h0.trans ?_, h1.trans ?_, h2⟩
  · refine Eq.trans (b := shapeCast Cert.FfnResidRefIdeal.S16384x2048 (FfnResidRefIdeal.Net.summed
      (m' ((c.tc : Thread Cert.FfnResidRefIdeal.nD Cert.FfnResidRefIdeal.τ).loc Cert.FfnResidRefIdeal.main_arg0))
      (m' ((c.tc : Thread Cert.FfnResidRefIdeal.nD Cert.FfnResidRefIdeal.τ).loc Cert.FfnResidRefIdeal.main_arg1))
      (m' ((c.tc : Thread Cert.FfnResidRefIdeal.nD Cert.FfnResidRefIdeal.τ).loc Cert.FfnResidRefIdeal.main_arg2))
      (m' ((c.tc : Thread Cert.FfnResidRefIdeal.nD Cert.FfnResidRefIdeal.τ).loc Cert.FfnResidRefIdeal.main_arg3))
      (m' ((c.tc : Thread Cert.FfnResidRefIdeal.nD Cert.FfnResidRefIdeal.τ).loc Cert.FfnResidRefIdeal.main_arg4)))
      Cert.FfnResidRefIdeal.Gen.shapeCasts_S8x2048x2048_S16384x2048) rfl ?_
    funext i
    rw [eq_ix2 i]
    refine (token_apply _ _ _).trans ((FfnResidRefIdeal.Net.summed_apply _ _ _ _ _ _ _).trans (.trans ?_ (result_apply m c _ _).symm))
    rw [e0, e1, e2, e3, e4]
  · rw [FfnResidRefIdeal.Net.next_eq]
    funext i
    rw [eq_ix2 i]
    refine (token_apply _ _ _).trans ((FfnResidRefIdeal.Net.next_apply _ _ _ _).trans (.trans ?_ (next_result_apply m c _ _).symm))
    unfold nextEntry
    rw [e0, e1, e2, e3, e4, e5]
    exact congrArg (fun p => Swiglu.unitRow p _ _) (funext fun k => FfnResidRefIdeal.Net.summed_apply _ _ _ _ _ _ k)

end Cert.FfnResidIdeal.Net

end
-- ==== Proof.Ffn.ResidPrinted.lean ====
/- The frame of the first feed-forward call as printed: its text is that of the program at the extended reals, and the run is stated at any
   values. -/
module

public import proofs.«01_k».proof.Proof.Ffn.ResidFrame
public import proofs.«01_k».proof.Proof.Gen.FfnResid.Frame
public import Idealize.ShloMosaic.PureOps.BitExact

@[expose] public section

noncomputable section

namespace Cert.FfnResid.Stream

open Cert.FfnResid
open Idealize.ShloMosaic Idealize.ShloMosaic.TcCoe Idealize.SL.Sem

/-- The two body tables are one. -/
theorem bodies_eq {F : FTy → Type} [FloatOps F] : defs₀ (F := F) = Cert.FfnResidIdeal.defs₀ (F := F) := by
  unfold defs₀ Cert.FfnResidIdeal.defs₀
  refine congrArg (Defs.onTc (nD := Cert.FfnResidIdeal.nD) (τ := Cert.FfnResidIdeal.τ) (sig := Cert.FfnResidIdeal.sig)
    (Val := Elt F) (Λ := Cert.FfnResidIdeal.Λ₀)) ?_
  funext l a
  match l, a with
  | 0, (t, s) => rfl
  | ⟨_ + 1, h⟩, _ => exact absurd h (Nat.not_lt.2 (Nat.le_add_left _ _))

theorem tables_eq {F : FTy → Type} [FloatOps F] : defs (F := F) = Cert.FfnResidIdeal.defs (F := F) :=
  congrArg (Pipeline.defs _) bodies_eq

/-- The arguments unchanged, the counters at zero. -/
theorem quiescent (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [tables_eq]
  exact (θ_run Cert.FfnResidIdeal.defs _ _).mono (fun _ h => h) (Cert.FfnResidIdeal.Stream.quiescent (F := Bits) m ρ)

end Cert.FfnResid.Stream

end
-- ==== Proof.Ffn.FinalStream.lean ====
/- The weights of the last feed-forward call, streamed by the body's own transfers: the gate and up matrices by blocks of
   512 columns, the down matrix by blocks of 512 rows, each through three slots of a scratch buffer, two blocks ahead.
   Of the eleven grid points of a row block the first ten wait a block each, so before point `t` there were `t - t / 11`
   steps. Here are the names of the slots, blocks and semaphore cells, what is held of them between two points, and the
   body's own spellings of them. -/
module

public import proofs.«01_k».proof.Proof.Gen.FfnFinalIdeal.Frame
public import proofs.«01_k».proof.Proof.Gen.FfnFinalIdeal.Skeleton
public import proofs.«01_k».proof.Proof.Gen.FfnFinalIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnFinalIdeal.Stream

open Cert.FfnFinalIdeal Cert.FfnFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The grid -/

/-- The steps taken before point `t`. -/
def step (t : ℕ) : ℕ := t - t / 11

theorem step_spec (t : ℕ) : 11 * step t = 10 * t + t % 11 := by unfold step; omega

theorem step_succ (t : ℕ) (h : t % 11 ≤ 9) : step (t + 1) = step t + 1 := by
  have := step_spec t; have := step_spec (t + 1); omega

theorem step_rest (t : ℕ) (h : t % 11 = 10) : step (t + 1) = step t := by
  have := step_spec t; have := step_spec (t + 1); omega

theorem first_iff : ∀ t : Fin cfg0.N, k0_cond1 (grid0.coords t) = 1#1 ↔ t.val = 0 :=
  (by decide +kernel : ∀ t : Fin grid0.N, k0_cond1 (grid0.coords t) = 1#1 ↔ t.val = 0)
theorem start_iff : ∀ t : Fin cfg0.N, k0_cond2 (grid0.coords t) = 1#1 ↔ t.val % 11 = 0 :=
  (by decide +kernel : ∀ t : Fin grid0.N, k0_cond2 (grid0.coords t) = 1#1 ↔ t.val % 11 = 0)
theorem wait_iff : ∀ t : Fin cfg0.N, k0_cond3 (grid0.coords t) = 1#1 ↔ t.val % 11 ≤ 9 :=
  (by decide +kernel : ∀ t : Fin grid0.N, k0_cond3 (grid0.coords t) = 1#1 ↔ t.val % 11 ≤ 9)
theorem ahead_iff : ∀ t : Fin cfg0.N, k0_cond4 (grid0.coords t) = 1#1 ↔ t.val < 349 :=
  (by decide +kernel : ∀ t : Fin grid0.N, k0_cond4 (grid0.coords t) = 1#1 ↔ t.val < 349)
theorem last_iff : ∀ t : Fin cfg0.N, k0_cond5 (grid0.coords t) = 1#1 ↔ t.val % 11 = 10 :=
  (by decide +kernel : ∀ t : Fin grid0.N, k0_cond5 (grid0.coords t) = 1#1 ↔ t.val % 11 = 10)

/-! ## Slots, blocks, cells -/

theorem colSlot_inb (s : Fin 3) : ∀ a, (![s.val, 0, 0] : Fin 3 → Nat) a + S1x2048x512.size a ≤ S3x2048x512.size a := by
  have := s.isLt; intro a; fin_cases a <;> simp <;> omega
theorem rowSlot_inb (s : Fin 3) : ∀ a, (![s.val, 0, 0] : Fin 3 → Nat) a + S1x512x2048.size a ≤ S3x512x2048.size a := by
  have := s.isLt; intro a; fin_cases a <;> simp <;> omega
theorem colBlk_inb (b : Fin 320) : ∀ a, (![0, 512 * (b.val % 10)] : Fin 2 → Nat) a + S2048x512.size a ≤ S2048x5504.size a := by
  have := b.isLt; intro a; fin_cases a <;> simp <;> omega
theorem rowBlk_inb (b : Fin 320) : ∀ a, (![512 * (b.val % 10), 0] : Fin 2 → Nat) a + S512x2048.size a ≤ S5504x2048.size a := by
  have := b.isLt; intro a; fin_cases a <;> simp <;> omega
theorem cell_inb (r s : Fin 3) : ∀ a, (![r.val, s.val] : Fin 2 → Nat) a + S1x1.size a ≤ S3x3.size a := by
  have := r.isLt; have := s.isLt; intro a; fin_cases a <;> simp <;> omega

/-- Slot `s` of a buffer of three column blocks, and of three row blocks. -/
def colSlot (R : Memref sig .tc .vmem S3x2048x512 .bf16) (s : Fin 3) : Memref sig .tc .vmem S2048x512 .bf16 :=
  (R.slice (Rect.unit (s := S3x2048x512) ![s.val, 0, 0] S1x2048x512.size (colSlot_inb s)) (fun _ => rfl)).squeeze S2048x512 squeezes_S1x2048x512_S2048x512
def rowSlot (R : Memref sig .tc .vmem S3x512x2048 .bf16) (s : Fin 3) : Memref sig .tc .vmem S512x2048 .bf16 :=
  (R.slice (Rect.unit (s := S3x512x2048) ![s.val, 0, 0] S1x512x2048.size (rowSlot_inb s)) (fun _ => rfl)).squeeze S512x2048 squeezes_S1x512x2048_S512x2048
/-- What step `b` waits for: block `b % 10` of the columns, and of the rows, of a matrix. -/
def colBlk (H : Memref sig .tc .hbm S2048x5504 .bf16) (b : Fin 320) : Memref sig .tc .hbm S2048x512 .bf16 :=
  H.slice (Rect.unit (s := S2048x5504) ![0, 512 * (b.val % 10)] S2048x512.size (colBlk_inb b)) (fun _ => rfl)
def rowBlk (H : Memref sig .tc .hbm S5504x2048 .bf16) (b : Fin 320) : Memref sig .tc .hbm S512x2048 .bf16 :=
  H.slice (Rect.unit (s := S5504x2048) ![512 * (b.val % 10), 0] S512x2048.size (rowBlk_inb b)) (fun _ => rfl)
/-- Cell `s` of stream `r`. -/
def cell (r s : Fin 3) : DmaSems sig S_ :=
  (cc0_scratch4.slice (Rect.unit (s := S3x3) ![r.val, s.val] S1x1.size (cell_inb r s))).squeeze S_ squeezes_S1x1_S_
abbrev cellSem (r s : Fin 3) : SemLoc sig := SemLoc.dma (cell r s).sem

abbrev gBuf : Memref sig .tc .vmem S3x2048x512 .bf16 := Memref.whole cc0_scratch1
abbrev uBuf : Memref sig .tc .vmem S3x2048x512 .bf16 := Memref.whole cc0_scratch2
abbrev dBuf : Memref sig .tc .vmem S3x512x2048 .bf16 := Memref.whole cc0_scratch3
abbrev gMat : Memref sig .tc .hbm S2048x5504 .bf16 := Memref.whole main_v3
abbrev uMat : Memref sig .tc .hbm S2048x5504 .bf16 := Memref.whole main_v5
abbrev dMat : Memref sig .tc .hbm S5504x2048 .bf16 := Memref.whole main_v7

/-- What memref `M`'s buffer on core `c` may hold. -/
abbrev Held (F : FTy → Type) (c : Dev nD) {sp : Space} {S : Shape} {e : EltTy} (M : Memref sig .tc sp S e) : Type :=
  Buf (Elt F) (M.view.loc (c : Thread nD τ))

/-! ## What is held of a stream -/

section Pieces
variable (c : Dev nD)

/-- Each slot has a share of its own of the streamed matrix, out of which its transfers borrow. -/
abbrev part (s : Fin 3) : PosShare TreeShare :=
  if s.val = 0 then fullShare.left else if s.val = 1 then fullShare.right.left else fullShare.right.right

/-- A memref's own elements, held at `f`; the elements of a block lent out of share `q`; the other elements of the
    matrix at that share. -/
abbrev slotAt {S : Shape} (D : Memref sig .tc .vmem S .bf16) (f : Held F c D) : sProp 𝕄 :=
  D.view.loc (c : Thread nD τ) ↦[D.view.set]{fullShare} f
abbrev lent {S : Shape} (M : Memref sig .tc .hbm S .bf16) (q : PosShare TreeShare) (W : Held F c M) : sProp 𝕄 :=
  M.view.loc (c : Thread nD τ) ↦[M.view.set]{q} W
def kept {S : Shape} (M : Memref sig .tc .hbm S .bf16) (q : PosShare TreeShare) (W : Held F c M) : sProp 𝕄 :=
  M.view.loc (c : Thread nD τ) ↦[Finset.univ \ M.view.set]{q} W
/-- A slot once block `M` landed in it over `f`, and the transfer that will have it land. -/
abbrev landed {S : Shape} (D : Memref sig .tc .vmem S .bf16) (M : Memref sig .tc .hbm S .bf16) (W : Held F c M) (f : Held F c D) : Held F c D :=
  D.view.writes (Elt F) f [⟨Rect.whole S, ReadAs.same.apply (M.view.read (Elt F) W)⟩]
abbrev moving {S : Shape} (D : Memref sig .tc .vmem S .bf16) (M : Memref sig .tc .hbm S .bf16) (a : SemLoc sig) (q : PosShare TreeShare)
    (W : Held F c M) (f : Held F c D) : sProp 𝕄 :=
  Transfers.Flight countersEmb (c : Thread nD τ) a default (D.view.amount a) iprop(slotAt c D (landed c D M W f) ∗ lent c M q W)

/-- A matrix whole, at a slot's share. -/
abbrev whole {S : Shape} (H : Memref sig .tc .hbm S .bf16) (q : PosShare TreeShare) (W : Held F c H) : sProp 𝕄 :=
  H.view.loc (c : Thread nD τ) ↦[Finset.univ]{q} W

theorem colBlk_split (H : Memref sig .tc .hbm S2048x5504 .bf16) (q) (W : Held F c H) (b : Fin 320) :
    whole c H q W ⊣⊢ iprop(lent c (colBlk H b) q W ∗ kept c (colBlk H b) q W) := by
  unfold kept; exact pointsTo_split_subset (Finset.subset_univ _)
theorem rowBlk_split (H : Memref sig .tc .hbm S5504x2048 .bf16) (q) (W : Held F c H) (b : Fin 320) :
    whole c H q W ⊣⊢ iprop(lent c (rowBlk H b) q W ∗ kept c (rowBlk H b) q W) := by
  unfold kept; exact pointsTo_split_subset (Finset.subset_univ _)

/-- The slot of step `b`, free; and with the transfer of step `b` under way. -/
abbrev colFree (r : Fin 3) (R : Memref sig .tc .vmem S3x2048x512 .bf16) (H : Memref sig .tc .hbm S2048x5504 .bf16) (W : Held F c H) (b : ℕ) : sProp 𝕄 :=
  iprop(semVal ((c : Thread nD τ), cellSem r (Ring.sl 3 b)) 0 ∗ (∃ f, slotAt c (colSlot R (Ring.sl 3 b)) f) ∗ whole c H (part (Ring.sl 3 b)) W)
abbrev colFly (r : Fin 3) (R : Memref sig .tc .vmem S3x2048x512 .bf16) (H : Memref sig .tc .hbm S2048x5504 .bf16) (W : Held F c H) (b : ℕ) : sProp 𝕄 :=
  iprop(∃ f, moving c (colSlot R (Ring.sl 3 b)) (colBlk H (Ring.bk 320 b)) (cellSem r (Ring.sl 3 b)) (part (Ring.sl 3 b)) W f
    ∗ kept c (colBlk H (Ring.bk 320 b)) (part (Ring.sl 3 b)) W)
abbrev rowFree (r : Fin 3) (R : Memref sig .tc .vmem S3x512x2048 .bf16) (H : Memref sig .tc .hbm S5504x2048 .bf16) (W : Held F c H) (b : ℕ) : sProp 𝕄 :=
  iprop(semVal ((c : Thread nD τ), cellSem r (Ring.sl 3 b)) 0 ∗ (∃ f, slotAt c (rowSlot R (Ring.sl 3 b)) f) ∗ whole c H (part (Ring.sl 3 b)) W)
abbrev rowFly (r : Fin 3) (R : Memref sig .tc .vmem S3x512x2048 .bf16) (H : Memref sig .tc .hbm S5504x2048 .bf16) (W : Held F c H) (b : ℕ) : sProp 𝕄 :=
  iprop(∃ f, moving c (rowSlot R (Ring.sl 3 b)) (rowBlk H (Ring.bk 320 b)) (cellSem r (Ring.sl 3 b)) (part (Ring.sl 3 b)) W f
    ∗ kept c (rowBlk H (Ring.bk 320 b)) (part (Ring.sl 3 b)) W)

/-- A waited slot is free again: the transfer gave the cell, the slot and the lent block back. -/
theorem colFree_of (r : Fin 3) (R : Memref sig .tc .vmem S3x2048x512 .bf16) (H : Memref sig .tc .hbm S2048x5504 .bf16) (W : Held F c H) (b : ℕ) (f) :
    iprop(semVal ((c : Thread nD τ), cellSem r (Ring.sl 3 b)) 0 ∗ slotAt c (colSlot R (Ring.sl 3 b)) f
      ∗ lent c (colBlk H (Ring.bk 320 b)) (part (Ring.sl 3 b)) W ∗ kept c (colBlk H (Ring.bk 320 b)) (part (Ring.sl 3 b)) W)
      ⊢ colFree c r R H W b := by
  iintro ⟨Hc, Hs, Hl, Hk⟩
  isplitl [Hc]; · iexact Hc
  isplitl [Hs]; · iexists f; iexact Hs
  iapply (colBlk_split c H (part (Ring.sl 3 b)) W (Ring.bk 320 b)).2
  isplitl [Hl]; · iexact Hl
  iexact Hk
theorem rowFree_of (r : Fin 3) (R : Memref sig .tc .vmem S3x512x2048 .bf16) (H : Memref sig .tc .hbm S5504x2048 .bf16) (W : Held F c H) (b : ℕ) (f) :
    iprop(semVal ((c : Thread nD τ), cellSem r (Ring.sl 3 b)) 0 ∗ slotAt c (rowSlot R (Ring.sl 3 b)) f
      ∗ lent c (rowBlk H (Ring.bk 320 b)) (part (Ring.sl 3 b)) W ∗ kept c (rowBlk H (Ring.bk 320 b)) (part (Ring.sl 3 b)) W)
      ⊢ rowFree c r R H W b := by
  iintro ⟨Hc, Hs, Hl, Hk⟩
  isplitl [Hc]; · iexact Hc
  isplitl [Hs]; · iexists f; iexact Hs
  iapply (rowBlk_split c H (part (Ring.sl 3 b)) W (Ring.bk 320 b)).2
  isplitl [Hl]; · iexact Hl
  iexact Hk

variable (W3 : Held F c gMat) (W5 : Held F c uMat) (W7 : Held F c dMat)

/-- The three streams' slots of step `b`, free, and under way. -/
def free (b : ℕ) : sProp 𝕄 := iprop(colFree c 0 gBuf gMat W3 b ∗ colFree c 1 uBuf uMat W5 b ∗ rowFree c 2 dBuf dMat W7 b)
def fly (b : ℕ) : sProp 𝕄 := iprop(colFly c 0 gBuf gMat W3 b ∗ colFly c 1 uBuf uMat W5 b ∗ rowFly c 2 dBuf dMat W7 b)

/-- A slot serves every third step. -/
theorem free_add (b : ℕ) : free c W3 W5 W7 (b + 3) = free c W3 W5 W7 b := by
  have e : Ring.sl 3 (b + 3) = Ring.sl 3 b := Ring.sl_add 3 b
  unfold free colFree rowFree; rw [e]

/-- Step `b`'s block is under way when there is one. -/
def due (b : ℕ) : sProp 𝕄 := if b < 320 then fly c W3 W5 W7 b else free c W3 W5 W7 b
/-- What is held before step `k`: nothing under way before the first; then the blocks of steps `k` and `k + 1`. -/
def lanes (k : ℕ) : sProp 𝕄 :=
  if k = 0 then iprop(free c W3 W5 W7 0 ∗ free c W3 W5 W7 1 ∗ free c W3 W5 W7 2)
  else iprop(due c W3 W5 W7 k ∗ due c W3 W5 W7 (k + 1) ∗ free c W3 W5 W7 (k + 2))

end Pieces

/-! ## The body's spellings -/

section Spellings
variable (t : Fin grid0.N)

theorem off1_eq : ∀ t : Fin grid0.N, k0_off1 (grid0.coords t) = ![((0 : Fin 3) : ℕ), (Ring.sl 3 (step t.val)).val] := by decide +kernel
theorem off4_eq : ∀ t : Fin grid0.N, k0_off4 (grid0.coords t) = ![((1 : Fin 3) : ℕ), (Ring.sl 3 (step t.val)).val] := by decide +kernel
theorem off5_eq : ∀ t : Fin grid0.N, k0_off5 (grid0.coords t) = ![((2 : Fin 3) : ℕ), (Ring.sl 3 (step t.val)).val] := by decide +kernel
theorem off8_eq : ∀ t : Fin grid0.N, k0_off8 (grid0.coords t) = ![((0 : Fin 3) : ℕ), (Ring.sl 3 (step t.val + 2)).val] := by decide +kernel
theorem off11_eq : ∀ t : Fin grid0.N, k0_off11 (grid0.coords t) = ![((1 : Fin 3) : ℕ), (Ring.sl 3 (step t.val + 2)).val] := by decide +kernel
theorem off12_eq : ∀ t : Fin grid0.N, k0_off12 (grid0.coords t) = ![((2 : Fin 3) : ℕ), (Ring.sl 3 (step t.val + 2)).val] := by decide +kernel
theorem off2_eq : ∀ t : Fin grid0.N, k0_off2 (grid0.coords t) = ![(Ring.sl 3 (step t.val)).val, 0, 0] := by decide +kernel
theorem off6_eq : ∀ t : Fin grid0.N, k0_off6 (grid0.coords t) = ![(Ring.sl 3 (step t.val)).val, 0, 0] := by decide +kernel
theorem off15_eq : ∀ t : Fin grid0.N, k0_off15 (grid0.coords t) = ![(Ring.sl 3 (step t.val)).val, 0, 0] := by decide +kernel
theorem off16_eq : ∀ t : Fin grid0.N, k0_off16 (grid0.coords t) = ![(Ring.sl 3 (step t.val)).val, 0, 0] := by decide +kernel
theorem off9_eq : ∀ t : Fin grid0.N, k0_off9 (grid0.coords t) = ![(Ring.sl 3 (step t.val + 2)).val, 0, 0] := by decide +kernel
theorem off13_eq : ∀ t : Fin grid0.N, k0_off13 (grid0.coords t) = ![(Ring.sl 3 (step t.val + 2)).val, 0, 0] := by decide +kernel
theorem off10_eq : ∀ t : Fin grid0.N, k0_cond3 (grid0.coords t) = 1#1 → k0_cond4 (grid0.coords t) = 1#1 →
    k0_off10 (grid0.coords t) = ![0, 512 * ((Ring.bk 320 (step t.val + 2)).val % 10)] := by decide +kernel
theorem off14_eq : ∀ t : Fin grid0.N, k0_cond3 (grid0.coords t) = 1#1 → k0_cond4 (grid0.coords t) = 1#1 →
    k0_off14 (grid0.coords t) = ![512 * ((Ring.bk 320 (step t.val + 2)).val % 10), 0] := by decide +kernel

theorem off3_eq : ∀ t : Fin grid0.N, k0_cond3 (grid0.coords t) = 1#1 →
    k0_off3 (grid0.coords t) = ![0, 512 * ((Ring.bk 320 (step t.val)).val % 10)] := by decide +kernel
theorem off7_eq : ∀ t : Fin grid0.N, k0_cond3 (grid0.coords t) = 1#1 →
    k0_off7 (grid0.coords t) = ![512 * ((Ring.bk 320 (step t.val)).val % 10), 0] := by decide +kernel

theorem colSlot_named (R : Memref sig .tc .vmem S3x2048x512 .bf16) {off : Fin 3 → Nat} {s : Fin 3} (e : off = ![s.val, 0, 0]) (inb) :
    (R.slice (Rect.unit (s := S3x2048x512) off S1x2048x512.size inb) (fun _ => rfl)).squeeze S2048x512 squeezes_S1x2048x512_S2048x512 = colSlot R s := by
  subst e; rfl
theorem rowSlot_named (R : Memref sig .tc .vmem S3x512x2048 .bf16) {off : Fin 3 → Nat} {s : Fin 3} (e : off = ![s.val, 0, 0]) (inb) :
    (R.slice (Rect.unit (s := S3x512x2048) off S1x512x2048.size inb) (fun _ => rfl)).squeeze S512x2048 squeezes_S1x512x2048_S512x2048 = rowSlot R s := by
  subst e; rfl
theorem colBlk_named (H : Memref sig .tc .hbm S2048x5504 .bf16) {off : Fin 2 → Nat} {b : Fin 320} (e : off = ![0, 512 * (b.val % 10)]) (inb) :
    H.slice (Rect.unit (s := S2048x5504) off S2048x512.size inb) (fun _ => rfl) = colBlk H b := by
  subst e; rfl
theorem rowBlk_named (H : Memref sig .tc .hbm S5504x2048 .bf16) {off : Fin 2 → Nat} {b : Fin 320} (e : off = ![512 * (b.val % 10), 0]) (inb) :
    H.slice (Rect.unit (s := S5504x2048) off S512x2048.size inb) (fun _ => rfl) = rowBlk H b := by
  subst e; rfl
theorem cell_named {r s : Fin 3} {off : Fin 2 → Nat} (e : off = ![r.val, s.val]) (inb) :
    (cc0_scratch4.slice (Rect.unit (s := S3x3) off S1x1.size inb)).squeeze S_ squeezes_S1x1_S_ = cell r s := by
  subst e; rfl

variable (R : Memref sig .tc .vmem S3x2048x512 .bf16) (RD : Memref sig .tc .vmem S3x512x2048 .bf16)
  (H : Memref sig .tc .hbm S2048x5504 .bf16) (HD : Memref sig .tc .hbm S5504x2048 .bf16)

@[sl_canon] theorem slot_here (h : k0_cond3 (grid0.coords t) = 1#1) :
    (R.slice (Rect.unit (s := S3x2048x512) (k0_off2 (grid0.coords t)) S1x2048x512.size (k0_off2_inb (grid0.coords t) h)) (fun _ => rfl)).squeeze S2048x512 squeezes_S1x2048x512_S2048x512
      = colSlot R (Ring.sl 3 (step t.val)) := colSlot_named R (off2_eq t) _
@[sl_canon] theorem slot_here' (h : k0_cond3 (grid0.coords t) = 1#1) :
    (RD.slice (Rect.unit (s := S3x512x2048) (k0_off6 (grid0.coords t)) S1x512x2048.size (k0_off6_inb (grid0.coords t) h)) (fun _ => rfl)).squeeze S512x2048 squeezes_S1x512x2048_S512x2048
      = rowSlot RD (Ring.sl 3 (step t.val)) := rowSlot_named RD (off6_eq t) _
@[sl_canon] theorem slot_next (h : k0_cond3 (grid0.coords t) = 1#1) (h' : k0_cond4 (grid0.coords t) = 1#1) :
    (R.slice (Rect.unit (s := S3x2048x512) (k0_off9 (grid0.coords t)) S1x2048x512.size (k0_off9_inb (grid0.coords t) h h')) (fun _ => rfl)).squeeze S2048x512 squeezes_S1x2048x512_S2048x512
      = colSlot R (Ring.sl 3 (step t.val + 2)) := colSlot_named R (off9_eq t) _
@[sl_canon] theorem slot_next' (h : k0_cond3 (grid0.coords t) = 1#1) (h' : k0_cond4 (grid0.coords t) = 1#1) :
    (RD.slice (Rect.unit (s := S3x512x2048) (k0_off13 (grid0.coords t)) S1x512x2048.size (k0_off13_inb (grid0.coords t) h h')) (fun _ => rfl)).squeeze S512x2048 squeezes_S1x512x2048_S512x2048
      = rowSlot RD (Ring.sl 3 (step t.val + 2)) := rowSlot_named RD (off13_eq t) _
@[sl_canon] theorem blk_here (h : k0_cond3 (grid0.coords t) = 1#1) :
    H.slice (Rect.unit (s := S2048x5504) (k0_off3 (grid0.coords t)) S2048x512.size (k0_off3_inb (grid0.coords t) h)) (fun _ => rfl)
      = colBlk H (Ring.bk 320 (step t.val)) := colBlk_named H (off3_eq t h) _
@[sl_canon] theorem blk_here' (h : k0_cond3 (grid0.coords t) = 1#1) :
    HD.slice (Rect.unit (s := S5504x2048) (k0_off7 (grid0.coords t)) S512x2048.size (k0_off7_inb (grid0.coords t) h)) (fun _ => rfl)
      = rowBlk HD (Ring.bk 320 (step t.val)) := rowBlk_named HD (off7_eq t h) _
@[sl_canon] theorem blk_next (h : k0_cond3 (grid0.coords t) = 1#1) (h' : k0_cond4 (grid0.coords t) = 1#1) :
    H.slice (Rect.unit (s := S2048x5504) (k0_off10 (grid0.coords t)) S2048x512.size (k0_off10_inb (grid0.coords t) h h')) (fun _ => rfl)
      = colBlk H (Ring.bk 320 (step t.val + 2)) := colBlk_named H (off10_eq t h h') _
@[sl_canon] theorem blk_next' (h : k0_cond3 (grid0.coords t) = 1#1) (h' : k0_cond4 (grid0.coords t) = 1#1) :
    HD.slice (Rect.unit (s := S5504x2048) (k0_off14 (grid0.coords t)) S512x2048.size (k0_off14_inb (grid0.coords t) h h')) (fun _ => rfl)
      = rowBlk HD (Ring.bk 320 (step t.val + 2)) := rowBlk_named HD (off14_eq t h h') _
@[sl_canon] theorem cell_here0 (h : k0_cond3 (grid0.coords t) = 1#1) :
    (cc0_scratch4.slice (Rect.unit (s := S3x3) (k0_off1 (grid0.coords t)) S1x1.size (k0_off1_inb (grid0.coords t) h))).squeeze S_ squeezes_S1x1_S_
      = cell 0 (Ring.sl 3 (step t.val)) := cell_named (off1_eq t) _
@[sl_canon] theorem cell_here1 (h : k0_cond3 (grid0.coords t) = 1#1) :
    (cc0_scratch4.slice (Rect.unit (s := S3x3) (k0_off4 (grid0.coords t)) S1x1.size (k0_off4_inb (grid0.coords t) h))).squeeze S_ squeezes_S1x1_S_
      = cell 1 (Ring.sl 3 (step t.val)) := cell_named (off4_eq t) _
@[sl_canon] theorem cell_here2 (h : k0_cond3 (grid0.coords t) = 1#1) :
    (cc0_scratch4.slice (Rect.unit (s := S3x3) (k0_off5 (grid0.coords t)) S1x1.size (k0_off5_inb (grid0.coords t) h))).squeeze S_ squeezes_S1x1_S_
      = cell 2 (Ring.sl 3 (step t.val)) := cell_named (off5_eq t) _
@[sl_canon] theorem cell_next0 (h : k0_cond3 (grid0.coords t) = 1#1) (h' : k0_cond4 (grid0.coords t) = 1#1) :
    (cc0_scratch4.slice (Rect.unit (s := S3x3) (k0_off8 (grid0.coords t)) S1x1.size (k0_off8_inb (grid0.coords t) h h'))).squeeze S_ squeezes_S1x1_S_
      = cell 0 (Ring.sl 3 (step t.val + 2)) := cell_named (off8_eq t) _
@[sl_canon] theorem cell_next1 (h : k0_cond3 (grid0.coords t) = 1#1) (h' : k0_cond4 (grid0.coords t) = 1#1) :
    (cc0_scratch4.slice (Rect.unit (s := S3x3) (k0_off11 (grid0.coords t)) S1x1.size (k0_off11_inb (grid0.coords t) h h'))).squeeze S_ squeezes_S1x1_S_
      = cell 1 (Ring.sl 3 (step t.val + 2)) := cell_named (off11_eq t) _
@[sl_canon] theorem cell_next2 (h : k0_cond3 (grid0.coords t) = 1#1) (h' : k0_cond4 (grid0.coords t) = 1#1) :
    (cc0_scratch4.slice (Rect.unit (s := S3x3) (k0_off12 (grid0.coords t)) S1x1.size (k0_off12_inb (grid0.coords t) h h'))).squeeze S_ squeezes_S1x1_S_
      = cell 2 (Ring.sl 3 (step t.val + 2)) := cell_named (off12_eq t) _

instance (priority := high) off15_closed : ClosedOff (k0_off15 (grid0.coords t)) := ⟨![(Ring.sl 3 (step t.val)).val, 0, 0], off15_eq t⟩
instance (priority := high) off16_closed : ClosedOff (k0_off16 (grid0.coords t)) := ⟨![(Ring.sl 3 (step t.val)).val, 0, 0], off16_eq t⟩

end Spellings

end Cert.FfnFinalIdeal.Stream

end
-- ==== Proof.Ffn.FinalRuns.lean ====
/- The second feed-forward call at one grid point: the five courses its body takes over the points, each run with what it leaves named. A point
   waits the blocks of its own step, starts those two steps on, and adds one product to the accumulator; the first point of a row block also
   normalises its rows, and the last one takes the remaining columns, the residual and the closing norm. -/
module

public import proofs.«01_k».proof.Proof.Ffn.FinalStream
public import Idealize.ShloMosaic.Lib.WritesUnit

@[expose] public section

set_option maxRecDepth 16384

noncomputable section

namespace Cert.FfnFinalIdeal.Stream

open Cert.FfnFinalIdeal Cert.FfnFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What the body's loads and stores leave -/

theorem hz : (![0, 0] : Fin 2 → Nat) = fun _ => 0 := funext fun a => by fin_cases a <;> rfl

/-- A load of a whole memref reads it, and a store of a whole memref is what is read of it after. -/
theorem load_all {S : Shape} {e : EltTy} {sp : Space} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  subst h
  funext x
  rw [View.readAt_apply]
  exact congrArg _ (funext fun a => Fin.ext (by simp [LoadRect.idx, Rect.emb, Rect.unit]))
theorem store_all {S : Shape} {e : EltTy} {sp : Space} (v : View sig .tc sp S e) {off : Fin S.rank → Nat} (h : off = fun _ => 0)
    (inb : ∀ a, off a + S.size a ≤ S.size a) (f : v.ty.Contents (Elt F)) (w : S.Idx → Elt F e) (L) :
    v.read (Elt F) (v.writes (Elt F) f ((⟨Rect.unit off S.size inb, w⟩ : View.Piece (Elt F) S e) :: L)) = w := by
  funext y
  exact View.read_writes_cons_unit_of_mem v f inb w L y y h (fun a => by simp)

/-- A block as the body loads it out of its slot, with a leading axis of one. -/
def colRaised (B : Vec F S2048x512 .bf16) : Vec F S1x2048x512 .bf16 := shapeCast S1x2048x512 B squeezes_S1x2048x512_S2048x512.numel_eq.symm
def rowRaised (B : Vec F S512x2048 .bf16) : Vec F S1x512x2048 .bf16 := shapeCast S1x512x2048 B squeezes_S1x512x2048_S512x2048.numel_eq.symm

theorem round_trip {s s' : Shape} (h : s'.numel = s.numel) (h' : s.numel = s'.numel) (x : s.Idx) :
    Shape.reshapeEquiv h (Shape.reshapeEquiv h' x) = x :=
  s.rowMajor.injective (Fin.ext (by rw [Shape.rowMajor_reshapeEquiv, Shape.rowMajor_reshapeEquiv]))
theorem read_raised {S T : Shape} {e : EltTy} {sp : Space} (v : View sig .tc sp S e) (h : T.numel = S.numel) (g : v.ty.Contents (Elt F)) :
    v.read (Elt F) g = shapeCast S ((v.reshape T h).read (Elt F) g) h.symm :=
  funext fun x => (congrArg (v.read (Elt F) g) (round_trip h h.symm x)).symm
theorem col_load (R : Memref sig .tc .vmem S3x2048x512 .bf16) {off : Fin 3 → Nat} {s : Fin 3} (h : off = ![s.val, 0, 0]) (inb)
    (f : (colSlot R s).view.ty.Contents (Elt F)) (B : Vec F S2048x512 .bf16) :
    R.view.readAt (Elt F) (Rect.unit (s := S3x2048x512) off S1x2048x512.size inb).toLoadRect
      ((colSlot R s).view.writes (Elt F) f [⟨Rect.whole S2048x512, B⟩]) = colRaised B := by
  subst h
  have hw : (colSlot R s).view.read (Elt F) ((colSlot R s).view.writes (Elt F) f [⟨Rect.whole S2048x512, B⟩]) = B :=
    store_all (colSlot R s).view (off := fun _ => 0) rfl (fun a => by simp) f B []
  refine Eq.trans ?_ (congrArg colRaised hw)
  generalize (colSlot R s).view.writes (Elt F) f [⟨Rect.whole S2048x512, B⟩] = g
  exact read_raised (R.view.slice (Rect.unit (s := S3x2048x512) ![s.val, 0, 0] S1x2048x512.size inb)) squeezes_S1x2048x512_S2048x512.numel_eq g
theorem row_load (R : Memref sig .tc .vmem S3x512x2048 .bf16) {off : Fin 3 → Nat} {s : Fin 3} (h : off = ![s.val, 0, 0]) (inb)
    (f : (rowSlot R s).view.ty.Contents (Elt F)) (B : Vec F S512x2048 .bf16) :
    R.view.readAt (Elt F) (Rect.unit (s := S3x512x2048) off S1x512x2048.size inb).toLoadRect
      ((rowSlot R s).view.writes (Elt F) f [⟨Rect.whole S512x2048, B⟩]) = rowRaised B := by
  subst h
  have hw : (rowSlot R s).view.read (Elt F) ((rowSlot R s).view.writes (Elt F) f [⟨Rect.whole S512x2048, B⟩]) = B :=
    store_all (rowSlot R s).view (off := fun _ => 0) rfl (fun a => by simp) f B []
  refine Eq.trans ?_ (congrArg rowRaised hw)
  generalize (rowSlot R s).view.writes (Elt F) f [⟨Rect.whole S512x2048, B⟩] = g
  exact read_raised (R.view.slice (Rect.unit (s := S3x512x2048) ![s.val, 0, 0] S1x512x2048.size inb)) squeezes_S1x512x2048_S512x2048.numel_eq g

/-- Block `b` of each of the three matrices. -/
def gAt {c : Dev nD} (W : Held F c gMat) (b : ℕ) : Vec F S2048x512 .bf16 := (colBlk gMat (Ring.bk 320 b)).view.read (Elt F) W
def uAt {c : Dev nD} (W : Held F c uMat) (b : ℕ) : Vec F S2048x512 .bf16 := (colBlk uMat (Ring.bk 320 b)).view.read (Elt F) W
def dAt {c : Dev nD} (W : Held F c dMat) (b : ℕ) : Vec F S512x2048 .bf16 := (rowBlk dMat (Ring.bk 320 b)).view.read (Elt F) W

/-- The accumulator `acc` after a step over the blocks `g`, `u`, `d`, the normalised rows being `xn`. -/
def mixed (xn : Vec F S512x2048 .bf16) (g u : Vec F S2048x512 .bf16) (d : Vec F S512x2048 .bf16) (acc : Vec F S512x2048 .f32) : Vec F S512x2048 .f32 :=
  k0_pay3 (k0_pay5 (rowRaised d)) (k0_pay6 (colRaised g) xn) (k0_pay7 (colRaised u) xn) (k0_pay8 (colRaised g) xn) k0_pay9 acc

/-- What a row block's last point stores of the summed product `a`. -/
def closed (x : Vec F S512x2048 .f32) (gn : Vec F S1x2048 .f32) (a : Vec F S512x2048 .f32) : Vec F S512x2048 .f32 :=
  k0_pay4 (k0_pay11 x a) (k0_pay12 gn) (k0_pay13 x a)

theorem closed_of {x x' : Vec F S512x2048 .f32} {gn gn' : Vec F S1x2048 .f32} {a a' : Vec F S512x2048 .f32} (hx : x' = x) (hg : gn' = gn) (ha : a' = a) :
    k0_pay4 (k0_pay11 x' a') (k0_pay12 gn') (k0_pay13 x' a') = closed x gn a := by
  subst hx hg ha; rfl
theorem tail_of {tg tg' tu tu' : Vec F S2048x384 .bf16} {td td' : Vec F S384x2048 .bf16} {xn xn' : Vec F S512x2048 .bf16} {acc acc' : Vec F S512x2048 .f32}
    (hg : tg' = tg) (hu : tu' = tu) (hd : td' = td) (hx : xn' = xn) (ha : acc' = acc) : k0_pay10 tg' tu' td' xn' acc' = k0_pay10 tg tu td xn acc := by
  subst hg hu hd hx ha; rfl
theorem mixed_of {xn x' : Vec F S512x2048 .bf16} {g u : Vec F S2048x512 .bf16} {d : Vec F S512x2048 .bf16} {acc a' : Vec F S512x2048 .f32}
    {g' u' : Vec F S1x2048x512 .bf16} {d' : Vec F S1x512x2048 .bf16} (hd : d' = rowRaised d) (hg : g' = colRaised g) (hu : u' = colRaised u)
    (hx : x' = xn) (ha : a' = acc) :
    k0_pay3 (k0_pay5 d') (k0_pay6 g' x') (k0_pay7 u' x') (k0_pay8 g' x') k0_pay9 a' = mixed xn g u d acc := by
  subst hd hg hu hx ha; rfl

section Runs
variable (c : Dev nD) (t : Fin cfg0.N)
  (arg2 : Memref sig .tc .vmem S512x2048 .f32) (harg2 : arg2.IsWhole)
  (arg3 : Memref sig .tc .vmem S1x2048 .f32) (harg3 : arg3.IsWhole)
  (arg7 : Memref sig .tc .vmem S2048x384 .bf16) (harg7 : arg7.IsWhole)
  (arg8 : Memref sig .tc .vmem S2048x384 .bf16) (harg8 : arg8.IsWhole)
  (arg9 : Memref sig .tc .vmem S384x2048 .bf16) (harg9 : arg9.IsWhole)
  (arg10 : Memref sig .tc .vmem S1x2048 .f32) (harg10 : arg10.IsWhole)
  (arg11 : Memref sig .tc .vmem S512x2048 .f32) (harg11 : arg11.IsWhole)
  (arg12 : Memref sig .tc .vmem S512x2048 .bf16) (harg12 : arg12.IsWhole)
  (W3 : Held F c gMat) (W5 : Held F c uMat) (W7 : Held F c dMat)

abbrev theBody : Prog (TpuEff nD τ sig (Elt F) Λ₀ .tc) PUnit :=
  cc0_ffn_final (grid0.coords t) arg2 harg2 arg3 harg3 gMat (Memref.isWhole_whole _) uMat (Memref.isWhole_whole _) dMat (Memref.isWhole_whole _)
    arg7 harg7 arg8 harg8 arg9 harg9 arg10 harg10 arg11 harg11 arg12 harg12
    gBuf (Memref.isWhole_whole _) uBuf (Memref.isWhole_whole _) dBuf (Memref.isWhole_whole _) cc0_scratch4

set_option maxHeartbeats 1000000 in
/-- A point between the first and the last of its row block, with a block still to start: it waits step `step t`'s blocks, starts those two
    steps on into the free slots, and adds to the accumulator. -/
theorem run_middle (h1 : ¬k0_cond1 (grid0.coords t) = 1#1) (h2 : ¬k0_cond2 (grid0.coords t) = 1#1) (h3 : k0_cond3 (grid0.coords t) = 1#1) (h4 : k0_cond4 (grid0.coords t) = 1#1) (h5 : ¬k0_cond5 (grid0.coords t) = 1#1)
    (acc : Vec F S512x2048 .f32) (xn : Vec F S512x2048 .bf16) (W : Waits sig Unit) (K : PUnit → sProp 𝕄) :
    iprop(owns (c : Thread nD τ) arg11 fullShare acc ∗ owns (c : Thread nD τ) arg12 fullShare xn ∗ fly c W3 W5 W7 (step t.val) ∗ free c W3 W5 W7 (step t.val + 2) ∗ owes (c : Thread nD τ) 0 W
        ∗ (iprop(owns (c : Thread nD τ) arg11 fullShare (mixed xn (gAt W3 (step t.val)) (uAt W5 (step t.val)) (dAt W7 (step t.val)) acc) ∗ owns (c : Thread nD τ) arg12 fullShare xn ∗ free c W3 W5 W7 (step t.val) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12) K := by
  unfold theBody
  simp only [cc0_ffn_final_eq_skeleton]; unfold cc0_ffn_final_skel
  simp only [k0_part3_eq_skeleton, k0_part4_eq_skeleton, k0_part2_eq_skeleton]
  unfold owns fly free
  iintro ⟨⟨%fa, %ha, Ha⟩, ⟨%fx, %hx, Hx⟩, ⟨⟨%fg, Hg, Hgk⟩, ⟨%fu, Hu, Huk⟩, %fd, Hd, Hdk⟩, ⟨⟨Hgc', ⟨%fg', Hgs'⟩, Hgw'⟩, ⟨Huc', ⟨%fu', Hus'⟩, Huw'⟩, Hdc', ⟨%fd', Hds'⟩, Hdw'⟩, HW, Hk⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg11.eq_unread ha; obtain rfl := harg12.eq_unread hx
  sl_exec (disch := first | sl_exact h1 | sl_exact h2 | sl_exact h3 | sl_exact h4 | sl_exact h5)
  sl_step
  iapply Hk
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans (harg12.read_unread _)) ((load_all _ hz _ _).trans (harg11.read_unread _)))
  isplitl [Hx]
  · iexists _; isplitr; swap; · iexact Hx
    ipureintro
    exact harg12.read_unread _
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- One of the last two points that wait: nothing is left to start. -/
theorem run_tail (h1 : ¬k0_cond1 (grid0.coords t) = 1#1) (h2 : ¬k0_cond2 (grid0.coords t) = 1#1) (h3 : k0_cond3 (grid0.coords t) = 1#1) (h4 : ¬k0_cond4 (grid0.coords t) = 1#1) (h5 : ¬k0_cond5 (grid0.coords t) = 1#1)
    (acc : Vec F S512x2048 .f32) (xn : Vec F S512x2048 .bf16) (W : Waits sig Unit) (K : PUnit → sProp 𝕄) :
    iprop(owns (c : Thread nD τ) arg11 fullShare acc ∗ owns (c : Thread nD τ) arg12 fullShare xn ∗ fly c W3 W5 W7 (step t.val) ∗ owes (c : Thread nD τ) 0 W
        ∗ (iprop(owns (c : Thread nD τ) arg11 fullShare (mixed xn (gAt W3 (step t.val)) (uAt W5 (step t.val)) (dAt W7 (step t.val)) acc) ∗ owns (c : Thread nD τ) arg12 fullShare xn ∗ free c W3 W5 W7 (step t.val) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12) K := by
  unfold theBody
  simp only [cc0_ffn_final_eq_skeleton]; unfold cc0_ffn_final_skel
  simp only [k0_part3_eq_skeleton, k0_part4_eq_skeleton, k0_part2_eq_skeleton]
  unfold owns fly free
  iintro ⟨⟨%fa, %ha, Ha⟩, ⟨%fx, %hx, Hx⟩, ⟨⟨%fg, Hg, Hgk⟩, ⟨%fu, Hu, Huk⟩, %fd, Hd, Hdk⟩, HW, Hk⟩
  obtain rfl := harg11.eq_unread ha; obtain rfl := harg12.eq_unread hx
  sl_exec (disch := first | sl_exact h1 | sl_exact h2 | sl_exact h3 | sl_exact h4 | sl_exact h5)
  sl_step
  iapply Hk
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans (harg12.read_unread _)) ((load_all _ hz _ _).trans (harg11.read_unread _)))
  isplitl [Hx]
  · iexists _; isplitr; swap; · iexact Hx
    ipureintro
    exact harg12.read_unread _
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  iexists _; iexact HW

set_option maxHeartbeats 1000000 in
/-- The first point of a later row block: it normalises the rows and clears the accumulator before its step. -/
theorem run_start (h1 : ¬k0_cond1 (grid0.coords t) = 1#1) (h2 : k0_cond2 (grid0.coords t) = 1#1) (h3 : k0_cond3 (grid0.coords t) = 1#1) (h4 : k0_cond4 (grid0.coords t) = 1#1) (h5 : ¬k0_cond5 (grid0.coords t) = 1#1)
    (x : Vec F S512x2048 .f32) (g : Vec F S1x2048 .f32) (W : Waits sig Unit) (K : PUnit → sProp 𝕄) :
    iprop(owns (c : Thread nD τ) arg2 fullShare x ∗ owns (c : Thread nD τ) arg3 fullShare g ∗ (∃ d, owns (c : Thread nD τ) arg11 fullShare d) ∗ (∃ d, owns (c : Thread nD τ) arg12 fullShare d) ∗ fly c W3 W5 W7 (step t.val) ∗ free c W3 W5 W7 (step t.val + 2) ∗ owes (c : Thread nD τ) 0 W
        ∗ (iprop(owns (c : Thread nD τ) arg2 fullShare x ∗ owns (c : Thread nD τ) arg3 fullShare g ∗ owns (c : Thread nD τ) arg11 fullShare (mixed (k0_pay1 x g) (gAt W3 (step t.val)) (uAt W5 (step t.val)) (dAt W7 (step t.val)) k0_pay2) ∗ owns (c : Thread nD τ) arg12 fullShare (k0_pay1 x g) ∗ free c W3 W5 W7 (step t.val) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12) K := by
  unfold theBody
  simp only [cc0_ffn_final_eq_skeleton]; unfold cc0_ffn_final_skel
  simp only [k0_part3_eq_skeleton, k0_part4_eq_skeleton, k0_part2_eq_skeleton]
  unfold owns fly free
  iintro ⟨⟨%fx, %hx, Hx⟩, ⟨%fn, %hn, Hn⟩, ⟨%da, %fa, -, Ha⟩, ⟨%ds, %fs, -, Hs⟩, ⟨⟨%fg, Hg, Hgk⟩, ⟨%fu, Hu, Huk⟩, %fd, Hd, Hdk⟩, ⟨⟨Hgc', ⟨%fg', Hgs'⟩, Hgw'⟩, ⟨Huc', ⟨%fu', Hus'⟩, Huw'⟩, Hdc', ⟨%fd', Hds'⟩, Hdw'⟩, HW, Hk⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg2.eq_unread hx; obtain rfl := harg3.eq_unread hn
  sl_exec (disch := first | sl_exact h1 | sl_exact h2 | sl_exact h3 | sl_exact h4 | sl_exact h5)
  sl_step
  iapply Hk
  isplitl [Hx]
  · iexists _; isplitr; swap; · iexact Hx
    ipureintro
    exact harg2.read_unread _
  isplitl [Hn]
  · iexists _; isplitr; swap; · iexact Hn
    ipureintro
    exact harg3.read_unread _
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans ((store_all _ hz _ _ _ _).trans (congrArg₂ k0_pay1 ((load_all _ hz _ _).trans (harg2.read_unread _)) ((load_all _ hz _ _).trans (harg3.read_unread _))))) ((load_all _ hz _ _).trans (store_all _ hz _ _ _ _)))
  isplitl [Hs]
  · iexists _; isplitr; swap; · iexact Hs
    ipureintro
    exact (store_all _ hz _ _ _ _).trans (congrArg₂ k0_pay1 ((load_all _ hz _ _).trans (harg2.read_unread _)) ((load_all _ hz _ _).trans (harg3.read_unread _)))
  isplitl [Hg Hg_dst Hg_src Hgk Hu Hu_dst Hu_src Huk Hd Hd_dst Hd_src Hdk]
  · isplitl [Hg Hg_dst Hg_src Hgk]
    · iapply (colFree_of c 0 gBuf gMat W3 (step t.val) _)
      isplitl [Hg]; · iexact Hg
      isplitl [Hg_dst]; · iexact Hg_dst
      isplitl [Hg_src]; · iexact Hg_src
      iexact Hgk
    isplitl [Hu Hu_dst Hu_src Huk]
    · iapply (colFree_of c 1 uBuf uMat W5 (step t.val) _)
      isplitl [Hu]; · iexact Hu
      isplitl [Hu_dst]; · iexact Hu_dst
      isplitl [Hu_src]; · iexact Hu_src
      iexact Huk
    iapply (rowFree_of c 2 dBuf dMat W7 (step t.val) _)
    isplitl [Hd]; · iexact Hd
    isplitl [Hd_dst]; · iexact Hd_dst
    isplitl [Hd_src]; · iexact Hd_src
    iexact Hdk
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- The first point of all: it starts the blocks of the first three steps, waits the first, and starts its row block. -/
theorem run_first (h1 : k0_cond1 (grid0.coords t) = 1#1) (h2 : k0_cond2 (grid0.coords t) = 1#1) (h3 : k0_cond3 (grid0.coords t) = 1#1) (h4 : k0_cond4 (grid0.coords t) = 1#1) (h5 : ¬k0_cond5 (grid0.coords t) = 1#1)
    (e0 : step t.val = 0) (x : Vec F S512x2048 .f32) (g : Vec F S1x2048 .f32) (W : Waits sig Unit) (K : PUnit → sProp 𝕄) :
    iprop(owns (c : Thread nD τ) arg2 fullShare x ∗ owns (c : Thread nD τ) arg3 fullShare g ∗ (∃ d, owns (c : Thread nD τ) arg11 fullShare d) ∗ (∃ d, owns (c : Thread nD τ) arg12 fullShare d) ∗ free c W3 W5 W7 (step t.val) ∗ free c W3 W5 W7 (step t.val + 1) ∗ free c W3 W5 W7 (step t.val + 2) ∗ owes (c : Thread nD τ) 0 W
        ∗ (iprop(owns (c : Thread nD τ) arg2 fullShare x ∗ owns (c : Thread nD τ) arg3 fullShare g ∗ owns (c : Thread nD τ) arg11 fullShare (mixed (k0_pay1 x g) (gAt W3 (step t.val)) (uAt W5 (step t.val)) (dAt W7 (step t.val)) k0_pay2) ∗ owns (c : Thread nD τ) arg12 fullShare (k0_pay1 x g) ∗ free c W3 W5 W7 (step t.val) ∗ fly c W3 W5 W7 (step t.val + 1) ∗ fly c W3 W5 W7 (step t.val + 2) ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12) K := by
  unfold theBody
  simp only [cc0_ffn_final_eq_skeleton]; unfold cc0_ffn_final_skel
  simp only [k0_part1_eq_skeleton, k0_part3_eq_skeleton, k0_part4_eq_skeleton, k0_part2_eq_skeleton]
  unfold owns fly free
  iintro ⟨⟨%fx, %hx, Hx⟩, ⟨%fn, %hn, Hn⟩, ⟨%da, %fa, -, Ha⟩, ⟨%ds, %fs, -, Hs⟩, ⟨⟨Hgc₀, ⟨%fg₀, Hgs₀⟩, Hgw₀⟩, ⟨Huc₀, ⟨%fu₀, Hus₀⟩, Huw₀⟩, Hdc₀, ⟨%fd₀, Hds₀⟩, Hdw₀⟩, ⟨⟨Hgc₁, ⟨%fg₁, Hgs₁⟩, Hgw₁⟩, ⟨Huc₁, ⟨%fu₁, Hus₁⟩, Huw₁⟩, Hdc₁, ⟨%fd₁, Hds₁⟩, Hdw₁⟩, ⟨⟨Hgc', ⟨%fg', Hgs'⟩, Hgw'⟩, ⟨Huc', ⟨%fu', Hus'⟩, Huw'⟩, Hdc', ⟨%fd', Hds'⟩, Hdw'⟩, HW, Hk⟩
  have hcanong0s := colSlot_named (off := ![0, 0, 0]) (s := Ring.sl 3 (step t.val)) gBuf (by rw [e0]; rfl) inb_S3x2048x512_S1x2048x512_0_0_0
  have hcanong0b := colBlk_named (off := ![0, 0]) (b := Ring.bk 320 (step t.val)) gMat (by rw [e0]; rfl) inb_S2048x5504_S2048x512_0_0
  have hcanong0c := cell_named (r := 0) (s := Ring.sl 3 (step t.val)) (off := ![0, 0]) (by rw [e0]; rfl) inb_S3x3_S1x1_0_0
  have hcanonu0s := colSlot_named (off := ![0, 0, 0]) (s := Ring.sl 3 (step t.val)) uBuf (by rw [e0]; rfl) inb_S3x2048x512_S1x2048x512_0_0_0
  have hcanonu0b := colBlk_named (off := ![0, 0]) (b := Ring.bk 320 (step t.val)) uMat (by rw [e0]; rfl) inb_S2048x5504_S2048x512_0_0
  have hcanonu0c := cell_named (r := 1) (s := Ring.sl 3 (step t.val)) (off := ![1, 0]) (by rw [e0]; rfl) inb_S3x3_S1x1_1_0
  have hcanond0s := rowSlot_named (off := ![0, 0, 0]) (s := Ring.sl 3 (step t.val)) dBuf (by rw [e0]; rfl) inb_S3x512x2048_S1x512x2048_0_0_0
  have hcanond0b := rowBlk_named (off := ![0, 0]) (b := Ring.bk 320 (step t.val)) dMat (by rw [e0]; rfl) inb_S5504x2048_S512x2048_0_0
  have hcanond0c := cell_named (r := 2) (s := Ring.sl 3 (step t.val)) (off := ![2, 0]) (by rw [e0]; rfl) inb_S3x3_S1x1_2_0
  have hcanong1s := colSlot_named (off := ![1, 0, 0]) (s := Ring.sl 3 (step t.val + 1)) gBuf (by rw [e0]; rfl) inb_S3x2048x512_S1x2048x512_1_0_0
  have hcanong1b := colBlk_named (off := ![0, 512]) (b := Ring.bk 320 (step t.val + 1)) gMat (by rw [e0]; rfl) inb_S2048x5504_S2048x512_0_512
  have hcanong1c := cell_named (r := 0) (s := Ring.sl 3 (step t.val + 1)) (off := ![0, 1]) (by rw [e0]; rfl) inb_S3x3_S1x1_0_1
  have hcanonu1s := colSlot_named (off := ![1, 0, 0]) (s := Ring.sl 3 (step t.val + 1)) uBuf (by rw [e0]; rfl) inb_S3x2048x512_S1x2048x512_1_0_0
  have hcanonu1b := colBlk_named (off := ![0, 512]) (b := Ring.bk 320 (step t.val + 1)) uMat (by rw [e0]; rfl) inb_S2048x5504_S2048x512_0_512
  have hcanonu1c := cell_named (r := 1) (s := Ring.sl 3 (step t.val + 1)) (off := ![1, 1]) (by rw [e0]; rfl) inb_S3x3_S1x1_1_1
  have hcanond1s := rowSlot_named (off := ![1, 0, 0]) (s := Ring.sl 3 (step t.val + 1)) dBuf (by rw [e0]; rfl) inb_S3x512x2048_S1x512x2048_1_0_0
  have hcanond1b := rowBlk_named (off := ![512, 0]) (b := Ring.bk 320 (step t.val + 1)) dMat (by rw [e0]; rfl) inb_S5504x2048_S512x2048_512_0
  have hcanond1c := cell_named (r := 2) (s := Ring.sl 3 (step t.val + 1)) (off := ![2, 1]) (by rw [e0]; rfl) inb_S3x3_S1x1_2_1
  ihave Hg₀b := (colBlk_split c gMat (part (Ring.sl 3 (step t.val))) W3 (Ring.bk 320 (step t.val))).1 $$ Hgw₀
  icases Hg₀b with ⟨Hgl₀, Hgr₀⟩
  ihave Hu₀b := (colBlk_split c uMat (part (Ring.sl 3 (step t.val))) W5 (Ring.bk 320 (step t.val))).1 $$ Huw₀
  icases Hu₀b with ⟨Hul₀, Hur₀⟩
  ihave Hd₀b := (rowBlk_split c dMat (part (Ring.sl 3 (step t.val))) W7 (Ring.bk 320 (step t.val))).1 $$ Hdw₀
  icases Hd₀b with ⟨Hdl₀, Hdr₀⟩
  ihave Hg₁b := (colBlk_split c gMat (part (Ring.sl 3 (step t.val + 1))) W3 (Ring.bk 320 (step t.val + 1))).1 $$ Hgw₁
  icases Hg₁b with ⟨Hgl₁, Hgr₁⟩
  ihave Hu₁b := (colBlk_split c uMat (part (Ring.sl 3 (step t.val + 1))) W5 (Ring.bk 320 (step t.val + 1))).1 $$ Huw₁
  icases Hu₁b with ⟨Hul₁, Hur₁⟩
  ihave Hd₁b := (rowBlk_split c dMat (part (Ring.sl 3 (step t.val + 1))) W7 (Ring.bk 320 (step t.val + 1))).1 $$ Hdw₁
  icases Hd₁b with ⟨Hdl₁, Hdr₁⟩
  ihave Hg'b := (colBlk_split c gMat (part (Ring.sl 3 (step t.val + 2))) W3 (Ring.bk 320 (step t.val + 2))).1 $$ Hgw'
  icases Hg'b with ⟨Hgl', Hgr'⟩
  ihave Hu'b := (colBlk_split c uMat (part (Ring.sl 3 (step t.val + 2))) W5 (Ring.bk 320 (step t.val + 2))).1 $$ Huw'
  icases Hu'b with ⟨Hul', Hur'⟩
  ihave Hd'b := (rowBlk_split c dMat (part (Ring.sl 3 (step t.val + 2))) W7 (Ring.bk 320 (step t.val + 2))).1 $$ Hdw'
  icases Hd'b with ⟨Hdl', Hdr'⟩
  obtain rfl := harg2.eq_unread hx; obtain rfl := harg3.eq_unread hn
  sl_exec (disch := first | sl_exact h1 | sl_exact h2 | sl_exact h3 | sl_exact h4 | sl_exact h5)
  sl_step
  iapply Hk
  isplitl [Hx]
  · iexists _; isplitr; swap; · iexact Hx
    ipureintro
    exact harg2.read_unread _
  isplitl [Hn]
  · iexists _; isplitr; swap; · iexact Hn
    ipureintro
    exact harg3.read_unread _
  isplitl [Ha]
  · iexists _; isplitr; swap; · iexact Ha
    ipureintro
    exact (store_all _ hz _ _ _ _).trans (mixed_of (row_load _ (off16_eq t) _ _ _) (col_load _ (off15_eq t) _ _ _) (col_load _ (off15_eq t) _ _ _)
      ((load_all _ hz _ _).trans ((store_all _ hz _ _ _ _).trans (congrArg₂ k0_pay1 ((load_all _ hz _ _).trans (harg2.read_unread _)) ((load_all _ hz _ _).trans (harg3.read_unread _))))) ((load_all _ hz _ _).trans (store_all _ hz _ _ _ _)))
  isplitl [Hs]
  · iexists _; isplitr; swap; · iexact Hs
    ipureintro
    exact (store_all _ hz _ _ _ _).trans (congrArg₂ k0_pay1 ((load_all _ hz _ _).trans (harg2.read_unread _)) ((load_all _ hz _ _).trans (harg3.read_unread _)))
  isplitl [Hgc₀ Hgs₀ Hgl₀ Hgr₀ Huc₀ Hus₀ Hul₀ Hur₀ Hdc₀ Hds₀ Hdl₀ Hdr₀]
  · isplitl [Hgc₀ Hgs₀ Hgl₀ Hgr₀]
    · iapply (colFree_of c 0 gBuf gMat W3 (step t.val) _)
      isplitl [Hgc₀]; · iexact Hgc₀
      isplitl [Hgs₀]; · iexact Hgs₀
      isplitl [Hgl₀]; · iexact Hgl₀
      iexact Hgr₀
    isplitl [Huc₀ Hus₀ Hul₀ Hur₀]
    · iapply (colFree_of c 1 uBuf uMat W5 (step t.val) _)
      isplitl [Huc₀]; · iexact Huc₀
      isplitl [Hus₀]; · iexact Hus₀
      isplitl [Hul₀]; · iexact Hul₀
      iexact Hur₀
    iapply (rowFree_of c 2 dBuf dMat W7 (step t.val) _)
    isplitl [Hdc₀]; · iexact Hdc₀
    isplitl [Hds₀]; · iexact Hds₀
    isplitl [Hdl₀]; · iexact Hdl₀
    iexact Hdr₀
  isplitl [Hgc₁ Hgr₁ Huc₁ Hur₁ Hdc₁ Hdr₁]
  · isplitl [Hgc₁ Hgr₁]
    · iexists fg₁; isplitl [Hgc₁]; · iexact Hgc₁
      iexact Hgr₁
    isplitl [Huc₁ Hur₁]
    · iexists fu₁; isplitl [Huc₁]; · iexact Huc₁
      iexact Hur₁
    iexists fd₁; isplitl [Hdc₁]; · iexact Hdc₁
    iexact Hdr₁
  isplitl [Hgc' Hgr' Huc' Hur' Hdc' Hdr']
  · isplitl [Hgc' Hgr']
    · iexists fg'; isplitl [Hgc']; · iexact Hgc'
      iexact Hgr'
    isplitl [Huc' Hur']
    · iexists fu'; isplitl [Huc']; · iexact Huc'
      iexact Hur'
    iexists fd'; isplitl [Hdc']; · iexact Hdc'
    iexact Hdr'
  iexists _; iexact HW

set_option maxHeartbeats 1000000 in
/-- The last point of a row block: the remaining 384 columns, the residual, and the closing norm. -/
theorem run_last (h1 : ¬k0_cond1 (grid0.coords t) = 1#1) (h2 : ¬k0_cond2 (grid0.coords t) = 1#1) (h3 : ¬k0_cond3 (grid0.coords t) = 1#1) (h5 : k0_cond5 (grid0.coords t) = 1#1)
    (x : Vec F S512x2048 .f32) (tg tu : Vec F S2048x384 .bf16) (td : Vec F S384x2048 .bf16) (gn : Vec F S1x2048 .f32) (acc : Vec F S512x2048 .f32) (xn : Vec F S512x2048 .bf16) (W : Waits sig Unit) (K : PUnit → sProp 𝕄) :
    iprop(owns (c : Thread nD τ) arg2 fullShare x ∗ owns (c : Thread nD τ) arg7 fullShare tg ∗ owns (c : Thread nD τ) arg8 fullShare tu ∗ owns (c : Thread nD τ) arg9 fullShare td ∗ owns (c : Thread nD τ) arg10 fullShare gn ∗ owns (c : Thread nD τ) arg11 fullShare acc ∗ owns (c : Thread nD τ) arg12 fullShare xn ∗ owes (c : Thread nD τ) 0 W
        ∗ (iprop(owns (c : Thread nD τ) arg2 fullShare x ∗ owns (c : Thread nD τ) arg7 fullShare tg ∗ owns (c : Thread nD τ) arg8 fullShare tu ∗ owns (c : Thread nD τ) arg9 fullShare td ∗ owns (c : Thread nD τ) arg10 fullShare gn ∗ owns (c : Thread nD τ) arg11 fullShare (closed x gn (k0_pay10 tg tu td xn acc)) ∗ owns (c : Thread nD τ) arg12 fullShare xn ∗ ∃ W', owes (c : Thread nD τ) 0 W') -∗ K ⟨⟩))
      ⊢ wp frame (wpE (defs₀ (F := F)) Variants.none c none) Set.univ
          (theBody t arg2 harg2 arg3 harg3 arg7 harg7 arg8 harg8 arg9 harg9 arg10 harg10 arg11 harg11 arg12 harg12) K := by
  unfold theBody
  simp only [cc0_ffn_final_eq_skeleton]; unfold cc0_ffn_final_skel
  simp only [k0_part3_eq_skeleton, k0_part4_eq_skeleton, k0_part2_eq_skeleton, k0_part5_eq_skeleton]
  unfold owns
  iintro ⟨⟨%fx, %hx, Hx⟩, ⟨%fg, %hg, Hg⟩, ⟨%fu, %hu, Hu⟩, ⟨%fd, %hd, Hd⟩, ⟨%fn, %hn, Hn⟩, ⟨%fa, %ha, Ha⟩, ⟨%fs, %hs, Hs⟩, HW, Hk⟩
  obtain rfl := harg2.eq_unread hx; obtain rfl := harg7.eq_unread hg; obtain rfl := harg8.eq_unread hu; obtain rfl := harg9.eq_unread hd; obtain rfl := harg10.eq_unread hn; obtain rfl := harg11.eq_unread ha; obtain rfl := harg12.eq_unread hs
  sl_exec (disch := first | sl_exact h1 | sl_exact h2 | sl_exact h3 | sl_exact h5)
  sl_step
  iapply Hk
  isplitl [Hx]
  · iexists _; isplitr; swap; · iexact Hx
    ipureintro
    exact harg2.read_unread _
  isplitl [Hg]
  · iexists _; isplitr; swap; · iexact Hg
    ipureintro
    exact harg7.read_unread _
  isplitl [Hu]
  · iexists _; isplitr; swap; · iexact Hu
    ipureintro
    exact harg8.read_unread _
  isplitl [Hd]
  · iexists _; isplitr; swap; · iexact Hd
    ipureintro
    exact harg9.read_unread _
  isplitl [Hn]
  · iexists _; isplitr; swap; · iexact Hn
    ipureintro
    exact harg10.read_unread _
  isplitl [Ha]
  · iexists _; isplitr; swap; · iexact Ha
    ipureintro
    exact (store_all _ hz _ _ _ _).trans (closed_of ((load_all _ hz _ _).trans (harg2.read_unread _)) ((load_all _ hz _ _).trans (harg10.read_unread _)) ((load_all _ hz _ _).trans ((store_all _ hz _ _ _ _).trans
      (tail_of ((load_all _ hz _ _).trans (harg7.read_unread _)) ((load_all _ hz _ _).trans (harg8.read_unread _)) ((load_all _ hz _ _).trans (harg9.read_unread _)) ((load_all _ hz _ _).trans (harg12.read_unread _)) ((load_all _ hz _ _).trans (harg11.read_unread _))))))
  isplitl [Hs]
  · iexists _; isplitr; swap; · iexact Hs
    ipureintro
    exact harg12.read_unread _
  iexists _; iexact HW

end Runs
end Cert.FfnFinalIdeal.Stream
end
-- ==== Proof.Ffn.FinalFrame.lean ====
/- The run of the second feed-forward call: the pipeline's proof data with the accumulator named at every point, the body at every point from the
   five runs of FinalRuns.lean, and the launch. Stated at any values, so that one run gives the frame of the program as printed, the frame of
   the program at the extended reals, and what its result array holds. -/
module

public import proofs.«01_k».proof.Proof.Ffn.FinalRuns
public import proofs.«01_k».proof.Proof.Gen.FfnFinalIdeal.Frame
public import Idealize.ShloMosaic.Lib.Pipeline.FrameBody
public import Idealize.ShloMosaic.Lib.Ring

@[expose] public section

set_option maxRecDepth 16384

noncomputable section

namespace Cert.FfnFinalIdeal.Stream

open Cert.FfnFinalIdeal Cert.FfnFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The lanes around a step -/

section Lanes
variable (c : Dev nD) (W3 : Held F c gMat) (W5 : Held F c uMat) (W7 : Held F c dMat)

theorem lanes_zero : lanes c W3 W5 W7 0 = iprop(free c W3 W5 W7 0 ∗ free c W3 W5 W7 1 ∗ free c W3 W5 W7 2) := rfl
theorem lanes_take {k : ℕ} (h0 : k ≠ 0) (h : k < 320) :
    lanes c W3 W5 W7 k = iprop(fly c W3 W5 W7 k ∗ due c W3 W5 W7 (k + 1) ∗ free c W3 W5 W7 (k + 2)) := by
  unfold lanes; rw [if_neg h0]; conv_lhs => arg 1; unfold due; rw [if_pos h]
theorem lanes_put {k : ℕ} (h : k + 2 < 320) :
    lanes c W3 W5 W7 (k + 1) = iprop(due c W3 W5 W7 (k + 1) ∗ fly c W3 W5 W7 (k + 2) ∗ free c W3 W5 W7 k) := by
  unfold lanes; rw [if_neg (by omega), show k + 1 + 2 = k + 3 from rfl, free_add]
  conv_lhs => arg 2; arg 1; unfold due; rw [if_pos (show k + 1 + 1 < 320 from h)]
theorem lanes_put_tail {k : ℕ} (h : 320 ≤ k + 2) :
    lanes c W3 W5 W7 (k + 1) = iprop(due c W3 W5 W7 (k + 1) ∗ free c W3 W5 W7 (k + 2) ∗ free c W3 W5 W7 k) := by
  unfold lanes; rw [if_neg (by omega), show k + 1 + 2 = k + 3 from rfl, free_add]
  conv_lhs => arg 2; arg 1; unfold due; rw [if_neg (show ¬k + 1 + 1 < 320 by omega)]
theorem due_fly {k : ℕ} (h : k < 320) : due c W3 W5 W7 k = fly c W3 W5 W7 k := by unfold due; rw [if_pos h]
/-- After the last step the three slots are free, in another order. -/
theorem lanes_end : lanes c W3 W5 W7 320 = iprop(free c W3 W5 W7 2 ∗ free c W3 W5 W7 0 ∗ free c W3 W5 W7 1) := by
  have h2 : free c W3 W5 W7 320 = free c W3 W5 W7 2 := by unfold free colFree rowFree; rw [show Ring.sl 3 320 = Ring.sl 3 2 from rfl]
  have h0 : free c W3 W5 W7 321 = free c W3 W5 W7 0 := by unfold free colFree rowFree; rw [show Ring.sl 3 321 = Ring.sl 3 0 from rfl]
  have h1 : free c W3 W5 W7 322 = free c W3 W5 W7 1 := by unfold free colFree rowFree; rw [show Ring.sl 3 322 = Ring.sl 3 1 from rfl]
  unfold lanes due; rw [if_neg (by omega), if_neg (by omega), if_neg (by omega), h2, h0, h1]
end Lanes

/-! ## What each point leaves -/

variable (m : (ℓ : Loc nD τ sig) → Buf (Elt F) ℓ) (ρ : Dev nD → PrngReg)

section Values
variable (c : Dev nD)

/-- Grid point `n`. -/
def pt (n : ℕ) : Fin cfg0.N := ⟨n % 352, Nat.mod_lt _ (by decide)⟩
theorem pt_val (t : Fin cfg0.N) : pt t.val = t := Fin.ext (Nat.mod_eq_of_lt (show t.val < 352 from t.isLt))

/-- The staged blocks at a point: the rows, the norm's weights, the three tails, the closing norm's weights. -/
def blkX (t : Fin cfg0.N) : Vec F S512x2048 .f32 := iblk m c 0 t
def blkN (t : Fin cfg0.N) : Vec F S1x2048 .f32 := iblk m c 1 t
def blkTg (t : Fin cfg0.N) : Vec F S2048x384 .bf16 := iblk m c 2 t
def blkTu (t : Fin cfg0.N) : Vec F S2048x384 .bf16 := iblk m c 3 t
def blkTd (t : Fin cfg0.N) : Vec F S384x2048 .bf16 := iblk m c 4 t
def blkF (t : Fin cfg0.N) : Vec F S1x2048 .f32 := iblk m c 5 t

/-- The normalised rows of row block `i`. -/
def rowsOf (i : ℕ) : Vec F S512x2048 .bf16 := k0_pay1 (blkX m c (pt (11 * i))) (blkN m c (pt (11 * i)))

/-- The accumulator of row block `i` after its steps `0 … j`. -/
def accTo (i : ℕ) : ℕ → Vec F S512x2048 .f32
  | 0 => mixed (rowsOf m c i) (gAt (V m c main_v3) (10 * i)) (uAt (V m c main_v5) (10 * i)) (dAt (V m c main_v7) (10 * i)) k0_pay2
  | j + 1 => mixed (rowsOf m c i) (gAt (V m c main_v3) (10 * i + (j + 1))) (uAt (V m c main_v5) (10 * i + (j + 1)))
      (dAt (V m c main_v7) (10 * i + (j + 1))) (accTo i j)

/-- What row block `i`'s last point, `t`, stores. -/
def outOf (i : ℕ) (t : Fin cfg0.N) : Vec F S512x2048 .f32 :=
  closed (blkX m c t) (blkF m c t) (k0_pay10 (blkTg m c t) (blkTu m c t) (blkTd m c t) (rowsOf m c i) (accTo m c i 9))

/-- The result's staging buffer after point `t`. -/
def resAt (t : Fin cfg0.N) : Vec F S512x2048 .f32 := if t.val % 11 = 10 then outOf m c (t.val / 11) t else accTo m c (t.val / 11) (t.val % 11)

/-- The scratch before point `k`: the row block's normalised rows, but anything before its first point. -/
def scratchAt (k : ℕ) : sProp 𝕄 :=
  if k % 11 = 0 then iprop(∃ d, owns (c : Thread nD τ) (Memref.whole cc0_scratch0) fullShare d)
  else owns (c : Thread nD τ) (Memref.whole cc0_scratch0) fullShare (rowsOf m c (k / 11))

/-- The invariant before point `k`. -/
def Phi (k : ℕ) : sProp 𝕄 :=
  iprop(scratchAt m c k ∗ (∃ r, prngReg c r) ∗ lanes c (V m c main_v3) (V m c main_v5) (V m c main_v7) (step k))
end Values

def dats (_ : Fin 1) (c : Dev nD) : Dat τ (Elt F) Unit ℕ (Pipeline.UD sig nD τ) ℕ cfg0 c where
  A w := V m c (Pipeline.arrRef spec0 w)
  after w t := match w with
    | ⟨0, _⟩ => blkX m c t
    | ⟨1, _⟩ => blkN m c t
    | ⟨2, _⟩ => blkTg m c t
    | ⟨3, _⟩ => blkTu m c t
    | ⟨4, _⟩ => blkTd m c t
    | ⟨5, _⟩ => blkF m c t
    | ⟨6, _⟩ => resAt m c t
  Φ t := Phi m c t.val
  q _ := fullShare
  owed _ := 0

theorem A_eq (c : Dev nD) (w : Fin cfg0.W) : (dats m 0 c).A w = V m c (Pipeline.arrRef spec0 w) := by dsimp only [dats]

section Staged
variable (c : Dev nD) (t : Fin cfg0.N)
theorem after0 : (dats m 0 c).after 0 t = blkX m c t := by dsimp only [dats]
theorem after1 : (dats m 0 c).after 1 t = blkN m c t := by dsimp only [dats]
theorem after2 : (dats m 0 c).after 2 t = blkTg m c t := by dsimp only [dats]
theorem after3 : (dats m 0 c).after 3 t = blkTu m c t := by dsimp only [dats]
theorem after4 : (dats m 0 c).after 4 t = blkTd m c t := by dsimp only [dats]
theorem after5 : (dats m 0 c).after 5 t = blkF m c t := by dsimp only [dats]
theorem after6 : (dats m 0 c).after 6 t = resAt m c t := by dsimp only [dats]

/-- An input's buffer holds its block at every point: fetched there, or left in place since. -/
theorem before0 (d) : (dats m 0 c).before 0 t d = blkX m c t :=
  ((dats m 0 c).before_in_eq_fetched 0 rfl (fun _ => rfl) (fun _ _ _ => rfl) (fun t => by rw [after0]; unfold blkX Dat.blockOf iblk; rw [A_eq]) t d).trans
    (by unfold blkX Dat.fetched Dat.blockOf iblk; rw [A_eq]; rfl)
theorem before1 (d) : (dats m 0 c).before 1 t d = blkN m c t :=
  ((dats m 0 c).before_in_eq_fetched 1 rfl (fun _ => rfl) (fun _ _ _ => rfl) (fun t => by rw [after1]; unfold blkN Dat.blockOf iblk; rw [A_eq]) t d).trans
    (by unfold blkN Dat.fetched Dat.blockOf iblk; rw [A_eq]; rfl)
theorem before2 (d) : (dats m 0 c).before 2 t d = blkTg m c t :=
  ((dats m 0 c).before_in_eq_fetched 2 rfl (fun _ => rfl) (fun _ _ _ => rfl) (fun t => by rw [after2]; unfold blkTg Dat.blockOf iblk; rw [A_eq]) t d).trans
    (by unfold blkTg Dat.fetched Dat.blockOf iblk; rw [A_eq]; rfl)
theorem before3 (d) : (dats m 0 c).before 3 t d = blkTu m c t :=
  ((dats m 0 c).before_in_eq_fetched 3 rfl (fun _ => rfl) (fun _ _ _ => rfl) (fun t => by rw [after3]; unfold blkTu Dat.blockOf iblk; rw [A_eq]) t d).trans
    (by unfold blkTu Dat.fetched Dat.blockOf iblk; rw [A_eq]; rfl)
theorem before4 (d) : (dats m 0 c).before 4 t d = blkTd m c t :=
  ((dats m 0 c).before_in_eq_fetched 4 rfl (fun _ => rfl) (fun _ _ _ => rfl) (fun t => by rw [after4]; unfold blkTd Dat.blockOf iblk; rw [A_eq]) t d).trans
    (by unfold blkTd Dat.fetched Dat.blockOf iblk; rw [A_eq]; rfl)
theorem before5 (d) : (dats m 0 c).before 5 t d = blkF m c t :=
  ((dats m 0 c).before_in_eq_fetched 5 rfl (fun _ => rfl) (fun _ _ _ => rfl) (fun t => by rw [after5]; unfold blkF Dat.blockOf iblk; rw [A_eq]) t d).trans
    (by unfold blkF Dat.fetched Dat.blockOf iblk; rw [A_eq]; rfl)

theorem never_idle6 : ∀ t : Fin cfg0.N, cfg0.idle 6 (cfg0.grid.coords t) = false :=
  (by decide +kernel : ∀ t : Fin grid0.N, idle0 6 (grid0.coords t) = false)
theorem never_fetched6 : (cfg0.win 6).fetch t = false := rfl

/-- Inside a row block the result's buffer holds what the point before left. -/
theorem before6 (h : t.val % 11 ≠ 0) (d) : (dats m 0 c).before 6 t d = accTo m c (t.val / 11) (t.val % 11 - 1) := by
  have ht : t.val ≠ 0 := fun e => h (by rw [e])
  rw [(dats m 0 c).before_of_pos 6 t ht rfl d]
  have hf : ¬(cfg0.win 6).flush ⟨t.val - 1, Nat.lt_of_le_of_lt (Nat.sub_le _ _) t.isLt⟩ = true := fun e => by
    have := (flush0_6 _).1 e; simp only at this; omega
  rw [if_neg hf]
  unfold Dat.left
  rw [never_idle6]
  show (dats m 0 c).kept 6 _ d = _
  unfold Dat.kept
  show (dats m 0 c).after 6 _ = _
  rw [after6]
  unfold resAt
  rw [if_neg (by simp only; omega)]
  simp only
  rw [show (t.val - 1) / 11 = t.val / 11 by omega, show (t.val - 1) % 11 = t.val % 11 - 1 by omega]
end Staged

/-! ## The body at a point -/

section Body
variable (c : Dev nD) (t : Fin cfg0.N)

abbrev stage0 := win0_0.stage (cfg0.slots t 0)
abbrev stage1 := win0_1.stage (cfg0.slots t 1)
abbrev stage2 := win0_2.stage (cfg0.slots t 2)
abbrev stage3 := win0_3.stage (cfg0.slots t 3)
abbrev stage4 := win0_4.stage (cfg0.slots t 4)
abbrev stage5 := win0_5.stage (cfg0.slots t 5)
abbrev stage6 := win0_6.stage (cfg0.slots t 6)

/-- What a point is given, and what it gives back. -/
def given : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d)))
def returned : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ (dats m 0 c).leavesExact 6 t)

/-- The same with the values named; the result's buffer at `A` before and `B` after, the scratch and the lanes left to the case. -/
def held (P : sProp 𝕄) (A : sProp 𝕄) : sProp 𝕄 :=
  iprop(P ∗ (∃ r, prngReg c r) ∗ (∃ W, owes (c : Thread nD τ) 0 W)
    ∗ owns (c : Thread nD τ) (stage0 t) fullShare (blkX m c t) ∗ owns (c : Thread nD τ) (stage1 t) fullShare (blkN m c t)
    ∗ owns (c : Thread nD τ) (stage2 t) fullShare (blkTg m c t) ∗ owns (c : Thread nD τ) (stage3 t) fullShare (blkTu m c t)
    ∗ owns (c : Thread nD τ) (stage4 t) fullShare (blkTd m c t) ∗ owns (c : Thread nD τ) (stage5 t) fullShare (blkF m c t) ∗ A)

theorem owes_in (k) : (dats m 0 c).owesAt () k ⊢ (iprop(∃ W, owes (c : Thread nD τ) 0 W) : sProp 𝕄) := by
  unfold Dat.owesAt Pipeline.owesWithin; rw [show (dats m 0 c).owed k = 0 from rfl]
  iintro ⟨%W, -, HW⟩; iexists W; iexact HW
theorem owes_out (k) : (iprop(∃ W, owes (c : Thread nD τ) 0 W) : sProp 𝕄) ⊢ (dats m 0 c).owesAt () k := by
  unfold Dat.owesAt Pipeline.owesWithin; rw [show (dats m 0 c).owed k = 0 from rfl]
  iintro ⟨%W, HW⟩; iexists W; isplitr; · ipureintro; exact fun _ _ => Or.inl trivial
  iexact HW

theorem given_held : given m c t ⊢ held m c t
    iprop(scratchAt m c t.val ∗ lanes c (V m c main_v3) (V m c main_v5) (V m c main_v7) (step t.val))
    iprop(∃ d, owns (c : Thread nD τ) (stage6 t) fullShare ((dats m 0 c).before 6 t d)) := by
  unfold given held
  rw [show (dats m 0 c).Φ t.castSucc = Phi m c t.val from rfl]
  unfold Phi
  simp only [before0, before1, before2, before3, before4, before5]
  iintro ⟨⟨Hs, Hg, Hl⟩, HW, ⟨%d0, H0⟩, ⟨%d1, H1⟩, ⟨%d2, H2⟩, ⟨%d3, H3⟩, ⟨%d4, H4⟩, ⟨%d5, H5⟩, H6⟩
  isplitl [Hs Hl]
  · isplitl [Hs]; · iexact Hs
    iexact Hl
  isplitl [Hg]; · iexact Hg
  isplitl [HW]; · iapply (owes_in m c t.castSucc); iexact HW
  isplitl [H0]; · iexact H0
  isplitl [H1]; · iexact H1
  isplitl [H2]; · iexact H2
  isplitl [H3]; · iexact H3
  isplitl [H4]; · iexact H4
  isplitl [H5]; · iexact H5
  iexact H6

theorem held_returned : held m c t
    iprop(scratchAt m c (t.val + 1) ∗ lanes c (V m c main_v3) (V m c main_v5) (V m c main_v7) (step (t.val + 1)))
    iprop(owns (c : Thread nD τ) (stage6 t) fullShare (resAt m c t)) ⊢ returned m c t := by
  unfold returned held
  rw [show (dats m 0 c).Φ t.succ = Phi m c (t.val + 1) from rfl, after0, after1, after2, after3, after4, after5,
    show (dats m 0 c).leavesExact 6 t = owns (c : Thread nD τ) (stage6 t) fullShare (resAt m c t) from by
      unfold Dat.leavesExact; rw [never_idle6 t, after6]]
  unfold Phi
  iintro ⟨⟨Hs, Hl⟩, Hg, HW, H0, H1, H2, H3, H4, H5, H6⟩
  isplitl [Hs Hl Hg]
  · isplitl [Hs]; · iexact Hs
    isplitl [Hg]; · iexact Hg
    iexact Hl
  isplitl [HW]; · iapply (owes_out m c t.succ); iexact HW
  isplitl [H0]; · iexact H0
  isplitl [H1]; · iexact H1
  isplitl [H2]; · iexact H2
  isplitl [H3]; · iexact H3
  isplitl [H4]; · iexact H4
  isplitl [H5]; · iexact H5
  iexact H6

/-- The invariant's scratch at a row block's first point, and after it. -/
theorem scratchAt_start {k : ℕ} (h : k % 11 = 0) :
    scratchAt m c k = iprop(∃ d, owns (c : Thread nD τ) (Memref.whole cc0_scratch0) fullShare d) := by unfold scratchAt; rw [if_pos h]
theorem scratchAt_in {k : ℕ} (h : k % 11 ≠ 0) :
    scratchAt m c k = owns (c : Thread nD τ) (Memref.whole cc0_scratch0) fullShare (rowsOf m c (k / 11)) := by unfold scratchAt; rw [if_neg h]

theorem step_val (t : ℕ) : step t = 10 * (t / 11) + t % 11 := by unfold step; omega
end Body

/-- A step inside a row block adds to the accumulator, and the first one starts it. -/
theorem resAt_next (c : Dev nD) (t : Fin cfg0.N) (h : t.val % 11 ≠ 0) (h' : t.val % 11 ≤ 9) :
    mixed (rowsOf m c (t.val / 11)) (gAt (V m c main_v3) (step t.val)) (uAt (V m c main_v5) (step t.val)) (dAt (V m c main_v7) (step t.val))
      (accTo m c (t.val / 11) (t.val % 11 - 1)) = resAt m c t := by
  unfold resAt
  rw [if_neg (by omega), step_val]
  obtain ⟨j, hj⟩ : ∃ j, t.val % 11 = j + 1 := ⟨t.val % 11 - 1, by omega⟩
  rw [hj]; rfl
theorem rows_start (c : Dev nD) (t : Fin cfg0.N) (h : t.val % 11 = 0) : rowsOf m c (t.val / 11) = k0_pay1 (blkX m c t) (blkN m c t) := by
  unfold rowsOf; rw [show 11 * (t.val / 11) = t.val by omega, pt_val]
theorem resAt_start (c : Dev nD) (t : Fin cfg0.N) (h : t.val % 11 = 0) :
    mixed (k0_pay1 (blkX m c t) (blkN m c t)) (gAt (V m c main_v3) (step t.val)) (uAt (V m c main_v5) (step t.val)) (dAt (V m c main_v7) (step t.val))
      k0_pay2 = resAt m c t := by
  unfold resAt
  rw [if_neg (by omega), step_val, h, ← rows_start m c t h]; rfl
theorem resAt_last (c : Dev nD) (t : Fin cfg0.N) (h : t.val % 11 = 10) :
    closed (blkX m c t) (blkF m c t) (k0_pay10 (blkTg m c t) (blkTu m c t) (blkTd m c t) (rowsOf m c (t.val / 11)) (accTo m c (t.val / 11) (t.val % 11 - 1)))
      = resAt m c t := by
  unfold resAt; rw [if_pos h, h]; rfl

section Cases
variable (c : Dev nD) (t : Fin cfg0.N)

theorem at_middle (h0 : t.val % 11 ≠ 0) (h9 : t.val % 11 ≤ 9) (hl : t.val < 349) :
    given m c t ⊢ wp frame (wpE (defs₀ (F := F)) Variants.none c none) Set.univ (bodyAt0 t) (fun _ => returned m c t) := by
  refine (given_held m c t).trans ?_
  have e1 : step t.val ≠ 0 := by rw [step_val]; omega
  have e2 : step t.val < 320 := by rw [step_val]; omega
  have e3 : step t.val + 2 < 320 := by rw [step_val]; omega
  unfold held
  rw [scratchAt_in m c h0, lanes_take _ _ _ _ e1 e2]
  simp only [before6 m c t h0]
  iintro ⟨⟨Hs, Hf, Hd, Hn⟩, Hg, ⟨%W, HW⟩, H0, H1, H2, H3, H4, H5, ⟨%d6, H6⟩⟩
  iapply (run_middle c t _ _ _ _ _ _ _ _ _ _ _ _ _ _ _ _ (V m c main_v3) (V m c main_v5) (V m c main_v7)
    (fun e => by have := (first_iff t).1 e; omega) (fun e => h0 ((start_iff t).1 e)) ((wait_iff t).2 h9) ((ahead_iff t).2 hl)
    (fun e => by have := (last_iff t).1 e; omega) _ _ W _)
  isplitl [H6]; · iexact H6
  isplitl [Hs]; · iexact Hs
  isplitl [Hf]; · iexact Hf
  isplitl [Hn]; · iexact Hn
  isplitl [HW]; · iexact HW
  rw [resAt_next m c t h0 h9]
  iintro ⟨H6, Hs, Hn, Hf, HW⟩
  iapply (held_returned m c t)
  rw [scratchAt_in m c (show (t.val + 1) % 11 ≠ 0 by omega), step_succ _ h9, lanes_put _ _ _ _ e3, show (t.val + 1) / 11 = t.val / 11 by omega]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem at_tail (h0 : t.val % 11 ≠ 0) (h9 : t.val % 11 ≤ 9) (hl : ¬t.val < 349) :
    given m c t ⊢ wp frame (wpE (defs₀ (F := F)) Variants.none c none) Set.univ (bodyAt0 t) (fun _ => returned m c t) := by
  refine (given_held m c t).trans ?_
  have hN : t.val < 352 := t.isLt
  have e1 : step t.val ≠ 0 := by rw [step_val]; omega
  have e2 : step t.val < 320 := by rw [step_val]; omega
  have e3 : 320 ≤ step t.val + 2 := by rw [step_val]; omega
  unfold held
  rw [scratchAt_in m c h0, lanes_take _ _ _ _ e1 e2]
  simp only [before6 m c t h0]
  iintro ⟨⟨Hs, Hf, Hd, Hn⟩, Hg, ⟨%W, HW⟩, H0, H1, H2, H3, H4, H5, ⟨%d6, H6⟩⟩
  iapply (run_tail c t _ _ _ _ _ _ _ _ _ _ _ _ _ _ _ _ (V m c main_v3) (V m c main_v5) (V m c main_v7)
    (fun e => by have := (first_iff t).1 e; omega) (fun e => h0 ((start_iff t).1 e)) ((wait_iff t).2 h9) (fun e => hl ((ahead_iff t).1 e))
    (fun e => by have := (last_iff t).1 e; omega) _ _ W _)
  isplitl [H6]; · iexact H6
  isplitl [Hs]; · iexact Hs
  isplitl [Hf]; · iexact Hf
  isplitl [HW]; · iexact HW
  rw [resAt_next m c t h0 h9]
  iintro ⟨H6, Hs, Hf, HW⟩
  iapply (held_returned m c t)
  rw [scratchAt_in m c (show (t.val + 1) % 11 ≠ 0 by omega), step_succ _ h9, lanes_put_tail _ _ _ _ e3, show (t.val + 1) / 11 = t.val / 11 by omega]
  unfold held
  isplitl [Hs Hf Hd Hn]
  · isplitl [Hs]; · iexact Hs
    isplitl [Hd]; · iexact Hd
    isplitl [Hn]; · iexact Hn
    iexact Hf
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem at_start (h0 : t.val % 11 = 0) (hp : t.val ≠ 0) :
    given m c t ⊢ wp frame (wpE (defs₀ (F := F)) Variants.none c none) Set.univ (bodyAt0 t) (fun _ => returned m c t) := by
  refine (given_held m c t).trans ?_
  have hN : t.val < 352 := t.isLt
  have h9 : t.val % 11 ≤ 9 := by omega
  have hl : t.val < 349 := by omega
  have e1 : step t.val ≠ 0 := by rw [step_val]; omega
  have e2 : step t.val < 320 := by rw [step_val]; omega
  have e3 : step t.val + 2 < 320 := by rw [step_val]; omega
  unfold held
  rw [scratchAt_start m c h0, lanes_take _ _ _ _ e1 e2]
  iintro ⟨⟨Hs, Hf, Hd, Hn⟩, Hg, ⟨%W, HW⟩, H0, H1, H2, H3, H4, H5, ⟨%d6, H6⟩⟩
  iapply (run_start c t _ _ _ _ _ _ _ _ _ _ _ _ _ _ _ _ (V m c main_v3) (V m c main_v5) (V m c main_v7)
    (fun e => hp ((first_iff t).1 e)) ((start_iff t).2 h0) ((wait_iff t).2 h9) ((ahead_iff t).2 hl)
    (fun e => by have := (last_iff t).1 e; omega) _ _ W _)
  isplitl [H0]; · iexact H0
  isplitl [H1]; · iexact H1
  isplitl [H6]; · iexists _; iexact H6
  isplitl [Hs]; · iexact Hs
  isplitl [Hf]; · iexact Hf
  isplitl [Hn]; · iexact Hn
  isplitl [HW]; · iexact HW
  rw [resAt_start m c t h0]
  iintro ⟨H0, H1, H6, Hs, Hn, Hf, HW⟩
  iapply (held_returned m c t)
  rw [scratchAt_in m c (show (t.val + 1) % 11 ≠ 0 by omega), step_succ _ h9, lanes_put _ _ _ _ e3, show (t.val + 1) / 11 = t.val / 11 by omega, rows_start m c t h0]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem at_first (hp : t.val = 0) :
    given m c t ⊢ wp frame (wpE (defs₀ (F := F)) Variants.none c none) Set.univ (bodyAt0 t) (fun _ => returned m c t) := by
  refine (given_held m c t).trans ?_
  have h0 : t.val % 11 = 0 := by omega
  have h9 : t.val % 11 ≤ 9 := by omega
  have hl : t.val < 349 := by omega
  have e0 : step t.val = 0 := by rw [step_val]; omega
  unfold held
  rw [scratchAt_start m c h0, show lanes c (V m c main_v3) (V m c main_v5) (V m c main_v7) (step t.val)
    = iprop(free c (V m c main_v3) (V m c main_v5) (V m c main_v7) (step t.val) ∗ free c (V m c main_v3) (V m c main_v5) (V m c main_v7) (step t.val + 1)
      ∗ free c (V m c main_v3) (V m c main_v5) (V m c main_v7) (step t.val + 2)) by rw [e0, lanes_zero]]
  iintro ⟨⟨Hs, Hf, Hd, Hn⟩, Hg, ⟨%W, HW⟩, H0, H1, H2, H3, H4, H5, ⟨%d6, H6⟩⟩
  iapply (run_first c t _ _ _ _ _ _ _ _ _ _ _ _ _ _ _ _ (V m c main_v3) (V m c main_v5) (V m c main_v7)
    ((first_iff t).2 hp) ((start_iff t).2 h0) ((wait_iff t).2 h9) ((ahead_iff t).2 hl)
    (fun e => by have := (last_iff t).1 e; omega) e0 _ _ W _)
  isplitl [H0]; · iexact H0
  isplitl [H1]; · iexact H1
  isplitl [H6]; · iexists _; iexact H6
  isplitl [Hs]; · iexact Hs
  isplitl [Hf]; · iexact Hf
  isplitl [Hd]; · iexact Hd
  isplitl [Hn]; · iexact Hn
  isplitl [HW]; · iexact HW
  rw [resAt_start m c t h0]
  iintro ⟨H0, H1, H6, Hs, Hn, Hd, Hf, HW⟩
  iapply (held_returned m c t)
  rw [scratchAt_in m c (show (t.val + 1) % 11 ≠ 0 by omega), step_succ _ h9, lanes_put _ _ _ _ (show step t.val + 2 < 320 by omega), due_fly _ _ _ _ (show step t.val + 1 < 320 by omega), show (t.val + 1) / 11 = t.val / 11 by omega, rows_start m c t h0]
  unfold held
  isplitl [Hs Hf Hd Hn]
  · isplitl [Hs]; · iexact Hs
    isplitl [Hd]; · iexact Hd
    isplitl [Hf]; · iexact Hf
    iexact Hn
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem at_last (h : t.val % 11 = 10) :
    given m c t ⊢ wp frame (wpE (defs₀ (F := F)) Variants.none c none) Set.univ (bodyAt0 t) (fun _ => returned m c t) := by
  refine (given_held m c t).trans ?_
  have h0 : t.val % 11 ≠ 0 := by omega
  unfold held
  rw [scratchAt_in m c h0]
  simp only [before6 m c t h0]
  iintro ⟨⟨Hs, Hl⟩, Hg, ⟨%W, HW⟩, H0, H1, H2, H3, H4, H5, ⟨%d6, H6⟩⟩
  iapply (run_last c t _ _ _ _ _ _ _ _ _ _ _ _ _ _ _ _
    (fun e => by have := (first_iff t).1 e; omega) (fun e => h0 ((start_iff t).1 e)) (fun e => by have := (wait_iff t).1 e; omega) ((last_iff t).2 h)
    _ _ _ _ _ _ _ W _)
  isplitl [H0]; · iexact H0
  isplitl [H2]; · iexact H2
  isplitl [H3]; · iexact H3
  isplitl [H4]; · iexact H4
  isplitl [H5]; · iexact H5
  isplitl [H6]; · iexact H6
  isplitl [Hs]; · iexact Hs
  isplitl [HW]; · iexact HW
  rw [resAt_last m c t h]
  iintro ⟨H0, H2, H3, H4, H5, H6, Hs, HW⟩
  iapply (held_returned m c t)
  rw [scratchAt_start m c (show (t.val + 1) % 11 = 0 by omega), step_rest _ h]
  unfold held
  isplitl [Hs Hl]
  · isplitl [Hs]; · iexists _; iexact Hs
    iexact Hl
  isplitl [Hg]; · iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem at_any : given m c t ⊢ wp frame (wpE (defs₀ (F := F)) Variants.none c none) Set.univ (bodyAt0 t) (fun _ => returned m c t) := by
  by_cases hp : t.val = 0
  · exact at_first m c t hp
  by_cases h0 : t.val % 11 = 0
  · exact at_start m c t h0 hp
  by_cases h : t.val % 11 = 10
  · exact at_last m c t h
  by_cases hl : t.val < 349
  · exact at_middle m c t h0 (by omega) hl
  · exact at_tail m c t h0 (by omega) hl

end Cases

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (at_any m c t) rfl .rfl fun _ => .rfl

/-! ## What the region is handed, and hands back -/

section Handed
variable (c : Dev nD)

abbrev colSet (s : Fin 3) : Finset S3x2048x512.Idx := (Rect.unit (s := S3x2048x512) ![s.val, 0, 0] S1x2048x512.size (colSlot_inb s)).set
abbrev rowSet (s : Fin 3) : Finset S3x512x2048.Idx := (Rect.unit (s := S3x512x2048) ![s.val, 0, 0] S1x512x2048.size (rowSlot_inb s)).set
theorem colSet_disjoint (s s' : Fin 3) (h : s ≠ s') : Disjoint (colSet s) (colSet s') :=
  Ring.lead_disjoint (s := S3x2048x512) (0 : Fin 3) 1 (fun s : Fin 3 => (![s.val, 0, 0] : Fin 3 → Nat)) S1x2048x512.size colSlot_inb (fun s => by simp) rfl s s' h
theorem colSet_cover : Finset.univ.biUnion colSet = Finset.univ :=
  Ring.lead_cover (s := S3x2048x512) (0 : Fin 3) 1 (fun s : Fin 3 => (![s.val, 0, 0] : Fin 3 → Nat)) S1x2048x512.size colSlot_inb (fun s => by simp)
    (fun s a ha => by fin_cases a <;> first | exact absurd rfl ha | rfl) rfl (fun a ha => by fin_cases a <;> first | exact absurd rfl ha | rfl) rfl
theorem rowSet_disjoint (s s' : Fin 3) (h : s ≠ s') : Disjoint (rowSet s) (rowSet s') :=
  Ring.lead_disjoint (s := S3x512x2048) (0 : Fin 3) 1 (fun s : Fin 3 => (![s.val, 0, 0] : Fin 3 → Nat)) S1x512x2048.size rowSlot_inb (fun s => by simp) rfl s s' h
theorem rowSet_cover : Finset.univ.biUnion rowSet = Finset.univ :=
  Ring.lead_cover (s := S3x512x2048) (0 : Fin 3) 1 (fun s : Fin 3 => (![s.val, 0, 0] : Fin 3 → Nat)) S1x512x2048.size rowSlot_inb (fun s => by simp)
    (fun s a ha => by fin_cases a <;> first | exact absurd rfl ha | rfl) rfl (fun a ha => by fin_cases a <;> first | exact absurd rfl ha | rfl) rfl

theorem gSlot_eq (s : Fin 3) (f) : slotAt (F := F) c (colSlot gBuf s) f = (((c : Thread nD τ).loc cc0_scratch1) ↦[colSet s]{fullShare} f : sProp 𝕄) := by
  unfold slotAt; rw [show (colSlot gBuf s).view.set = colSet s by simp only [colSlot, Memref.view_squeeze, View.set_reshape]; exact View.set_slice_whole _ _]; rfl
theorem uSlot_eq (s : Fin 3) (f) : slotAt (F := F) c (colSlot uBuf s) f = (((c : Thread nD τ).loc cc0_scratch2) ↦[colSet s]{fullShare} f : sProp 𝕄) := by
  unfold slotAt; rw [show (colSlot uBuf s).view.set = colSet s by simp only [colSlot, Memref.view_squeeze, View.set_reshape]; exact View.set_slice_whole _ _]; rfl
theorem dSlot_eq (s : Fin 3) (f) : slotAt (F := F) c (rowSlot dBuf s) f = (((c : Thread nD τ).loc cc0_scratch3) ↦[rowSet s]{fullShare} f : sProp 𝕄) := by
  unfold slotAt; rw [show (rowSlot dBuf s).view.set = rowSet s by simp only [rowSlot, Memref.view_squeeze, View.set_reshape]; exact View.set_slice_whole _ _]; rfl

/-- A scratch buffer at anything is its three slots at something each. -/
theorem gSlots : (iprop(∃ f : Buf (Elt F) ((c : Thread nD τ).loc cc0_scratch1), ((c : Thread nD τ).loc cc0_scratch1) ↦{fullShare} f) : sProp 𝕄)
    ⊣⊢ iprop((∃ f, slotAt (F := F) c (colSlot gBuf 0) f) ∗ (∃ f, slotAt (F := F) c (colSlot gBuf 1) f) ∗ ∃ f, slotAt (F := F) c (colSlot gBuf 2) f) :=
  ⟨Ring.slots3_split (U := Pipeline.UD sig nD τ) (ℓ := (c : Thread nD τ).loc cc0_scratch1) (q := fullShare) colSet colSet_disjoint colSet_cover
      _ _ _ (gSlot_eq c 0) (gSlot_eq c 1) (gSlot_eq c 2),
    Ring.slots3_join (U := Pipeline.UD sig nD τ) (ℓ := (c : Thread nD τ).loc cc0_scratch1) (q := fullShare) colSet colSet_disjoint colSet_cover
      _ _ _ (gSlot_eq c 0) (gSlot_eq c 1) (gSlot_eq c 2)⟩
theorem uSlots : (iprop(∃ f : Buf (Elt F) ((c : Thread nD τ).loc cc0_scratch2), ((c : Thread nD τ).loc cc0_scratch2) ↦{fullShare} f) : sProp 𝕄)
    ⊣⊢ iprop((∃ f, slotAt (F := F) c (colSlot uBuf 0) f) ∗ (∃ f, slotAt (F := F) c (colSlot uBuf 1) f) ∗ ∃ f, slotAt (F := F) c (colSlot uBuf 2) f) :=
  ⟨Ring.slots3_split (U := Pipeline.UD sig nD τ) (ℓ := (c : Thread nD τ).loc cc0_scratch2) (q := fullShare) colSet colSet_disjoint colSet_cover
      _ _ _ (uSlot_eq c 0) (uSlot_eq c 1) (uSlot_eq c 2),
    Ring.slots3_join (U := Pipeline.UD sig nD τ) (ℓ := (c : Thread nD τ).loc cc0_scratch2) (q := fullShare) colSet colSet_disjoint colSet_cover
      _ _ _ (uSlot_eq c 0) (uSlot_eq c 1) (uSlot_eq c 2)⟩
theorem dSlots : (iprop(∃ f : Buf (Elt F) ((c : Thread nD τ).loc cc0_scratch3), ((c : Thread nD τ).loc cc0_scratch3) ↦{fullShare} f) : sProp 𝕄)
    ⊣⊢ iprop((∃ f, slotAt (F := F) c (rowSlot dBuf 0) f) ∗ (∃ f, slotAt (F := F) c (rowSlot dBuf 1) f) ∗ ∃ f, slotAt (F := F) c (rowSlot dBuf 2) f) :=
  ⟨Ring.slots3_split (U := Pipeline.UD sig nD τ) (ℓ := (c : Thread nD τ).loc cc0_scratch3) (q := fullShare) rowSet rowSet_disjoint rowSet_cover
      _ _ _ (dSlot_eq c 0) (dSlot_eq c 1) (dSlot_eq c 2),
    Ring.slots3_join (U := Pipeline.UD sig nD τ) (ℓ := (c : Thread nD τ).loc cc0_scratch3) (q := fullShare) rowSet rowSet_disjoint rowSet_cover
      _ _ _ (dSlot_eq c 0) (dSlot_eq c 1) (dSlot_eq c 2)⟩

/-- A matrix held whole is its three slots' shares of it. -/
theorem whole_parts {S : Shape} (H : Memref sig .tc .hbm S .bf16) (W : Held F c H) :
    whole (F := F) c H fullShare W ⊣⊢ iprop(whole c H (part 0) W ∗ whole c H (part 1) W ∗ whole c H (part 2) W) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- The cells of the body's own transfers, and the matrices it reads by them. -/
def ownCells : Fin 9 → SemLoc sig := fun j =>
  (![SemLoc.dma 9, SemLoc.dma 10, SemLoc.dma 11, SemLoc.dma 12, SemLoc.dma 13, SemLoc.dma 14, SemLoc.dma 15, SemLoc.dma 16, SemLoc.dma 17] : Fin 9 → SemLoc sig) j
theorem ownCells_facts : Pipeline.OwnSemFacts spec0 ownCells := by decide
def streamed : Finset (Ref sig .tc) := {main_v3, main_v5, main_v7}
theorem streamed_sub : streamed ⊆ Pipeline.restRefs sig spec0 := by decide
theorem ownCells_eq (c : Dev nD) : (Pipeline.ownSems0 ownCells c : sProp 𝕄)
    = iprop((semVal ((c : Thread nD τ), cellSem 0 0) 0 ∗ semVal ((c : Thread nD τ), cellSem 0 1) 0 ∗ semVal ((c : Thread nD τ), cellSem 0 2) 0
      ∗ semVal ((c : Thread nD τ), cellSem 1 0) 0 ∗ semVal ((c : Thread nD τ), cellSem 1 1) 0 ∗ semVal ((c : Thread nD τ), cellSem 1 2) 0
      ∗ semVal ((c : Thread nD τ), cellSem 2 0) 0 ∗ semVal ((c : Thread nD τ), cellSem 2 1) 0 ∗ semVal ((c : Thread nD τ), cellSem 2 2) 0)) := by
  rw [Pipeline.ownSems0_eq_of_list c ownCells [0, 1, 2, 3, 4, 5, 6, 7, 8] (by decide) (by decide)]; rfl

theorem handed_eq : Pipeline.ΦD ownCells spec0 streamed (V m) c
    = iprop(((∃ d, owns (c : Thread nD τ) (Memref.whole cc0_scratch0) fullShare d)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r) ∗ Pipeline.ownSems0 ownCells c
      ∗ (whole c gMat fullShare (V m c main_v3) ∗ whole c uMat fullShare (V m c main_v5) ∗ whole c dMat fullShare (V m c main_v7))) := by
  rw [Pipeline.ΦD_eq, scopedRest0_eq, BI.bigSep_eq_bigSepL_of_eq [main_v3, main_v5, main_v7] (by decide) (by decide)]
  simp only [owns_whole]; try rfl
end Handed

theorem hin (c : Dev nD) : Pipeline.ΦD ownCells spec0 streamed (V m) c ⊢ (dats m 0 c).Φ 0 := by
  rw [handed_eq, ownCells_eq, show (dats m 0 c).Φ 0 = Phi m c 0 from rfl]
  unfold Phi
  rw [show step 0 = 0 from rfl, scratchAt_start m c (show 0 % 11 = 0 from rfl), lanes_zero]
  iintro ⟨⟨Hs, Hg, Hu, Hd⟩, Hr, ⟨C00, C01, C02, C10, C11, C12, C20, C21, C22⟩, Wg, Wu, Wd⟩
  isplitl [Hs]; · iexact Hs
  isplitl [Hr]; · iexact Hr
  ihave Hg := (gSlots c).1 $$ Hg
  ihave Hu := (uSlots c).1 $$ Hu
  ihave Hd := (dSlots c).1 $$ Hd
  ihave Wg := (whole_parts c gMat _).1 $$ Wg
  ihave Wu := (whole_parts c uMat _).1 $$ Wu
  ihave Wd := (whole_parts c dMat _).1 $$ Wd
  icases Hg with ⟨G0, G1, G2⟩
  icases Hu with ⟨U0, U1, U2⟩
  icases Hd with ⟨D0, D1, D2⟩
  icases Wg with ⟨WG0, WG1, WG2⟩
  icases Wu with ⟨WU0, WU1, WU2⟩
  icases Wd with ⟨WD0, WD1, WD2⟩
  unfold free
  isplitl [C00 G0 WG0 C10 U0 WU0 C20 D0 WD0]
  · isplitl [C00 G0 WG0]
    · isplitl [C00]; · iexact C00
      isplitl [G0]; · iexact G0
      iexact WG0
    isplitl [C10 U0 WU0]
    · isplitl [C10]; · iexact C10
      isplitl [U0]; · iexact U0
      iexact WU0
    isplitl [C20]; · iexact C20
    isplitl [D0]; · iexact D0
    iexact WD0
  isplitl [C01 G1 WG1 C11 U1 WU1 C21 D1 WD1]
  · isplitl [C01 G1 WG1]
    · isplitl [C01]; · iexact C01
      isplitl [G1]; · iexact G1
      iexact WG1
    isplitl [C11 U1 WU1]
    · isplitl [C11]; · iexact C11
      isplitl [U1]; · iexact U1
      iexact WU1
    isplitl [C21]; · iexact C21
    isplitl [D1]; · iexact D1
    iexact WD1
  isplitl [C02 G2 WG2]
  · isplitl [C02]; · iexact C02
    isplitl [G2]; · iexact G2
    iexact WG2
  isplitl [C12 U2 WU2]
  · isplitl [C12]; · iexact C12
    isplitl [U2]; · iexact U2
    iexact WU2
  isplitl [C22]; · iexact C22
  isplitl [D2]; · iexact D2
  iexact WD2

theorem hout (c : Dev nD) : (dats m 0 c).Φ (Fin.last cfg0.N) ⊢ Pipeline.ΦD ownCells spec0 streamed (V m) c := by
  rw [handed_eq, ownCells_eq, show (dats m 0 c).Φ (Fin.last cfg0.N) = Phi m c 352 from rfl]
  unfold Phi
  rw [show step 352 = 320 from rfl, scratchAt_start m c (show 352 % 11 = 0 from rfl), lanes_end]
  unfold free
  iintro ⟨Hs, Hr, ⟨⟨C02, G2, WG2⟩, ⟨C12, U2, WU2⟩, C22, D2, WD2⟩, ⟨⟨C00, G0, WG0⟩, ⟨C10, U0, WU0⟩, C20, D0, WD0⟩, ⟨C01, G1, WG1⟩, ⟨C11, U1, WU1⟩, C21, D1, WD1⟩
  isplitl [Hs G0 G1 G2 U0 U1 U2 D0 D1 D2]
  · isplitl [Hs]; · iexact Hs
    isplitl [G0 G1 G2]
    · iapply (gSlots c).2
      isplitl [G0]; · iexact G0
      isplitl [G1]; · iexact G1
      iexact G2
    isplitl [U0 U1 U2]
    · iapply (uSlots c).2
      isplitl [U0]; · iexact U0
      isplitl [U1]; · iexact U1
      iexact U2
    iapply (dSlots c).2
    isplitl [D0]; · iexact D0
    isplitl [D1]; · iexact D1
    iexact D2
  isplitl [Hr]; · iexact Hr
  isplitl [C00 C01 C02 C10 C11 C12 C20 C21 C22]
  · isplitl [C00]; · iexact C00
    isplitl [C01]; · iexact C01
    isplitl [C02]; · iexact C02
    isplitl [C10]; · iexact C10
    isplitl [C11]; · iexact C11
    isplitl [C12]; · iexact C12
    isplitl [C20]; · iexact C20
    isplitl [C21]; · iexact C21
    iexact C22
  isplitl [WG0 WG1 WG2]
  · iapply (whole_parts c gMat _).2
    isplitl [WG0]; · iexact WG0
    isplitl [WG1]; · iexact WG1
    iexact WG2
  isplitl [WU0 WU1 WU2]
  · iapply (whole_parts c uMat _).2
    isplitl [WU0]; · iexact WU0
    isplitl [WU1]; · iexact WU1
    iexact WU2
  iapply (whole_parts c dMat _).2
  isplitl [WD0]; · iexact WD0
  isplitl [WD1]; · iexact WD1
  iexact WD2

/-! ## The run -/

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every array of the pipeline ends as the proof data says, every other argument as it was, and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownCells defs₀ Variants.none ownCells_facts streamed streamed_sub m ρ main
    (hbody := fun c => (body_obligation m c).loose) (hshare := fun c => (dats m 0 c).share_full fun _ => rfl)
    (howed := fun _ _ => rfl) (V := V m) (hmain := hmain m) (hA := A_eq m) (hin := hin m) (hout := hout m)

/-- The arguments' part of that, and the result's array. -/
theorem run_named : θ_run defs (onTc (τ := τ) (main (F := F))) ⟨m, fun _ => 0, ρ⟩ (fun r => (∀ c : Dev nD,
      r.2.mem ((c.tc : Thread nD τ).loc main_v12) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

/-- The frame: the arguments unchanged, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_named m ρ)

end Cert.FfnFinalIdeal.Stream
end
-- ==== Proof.Ffn.Final.lean ====
/- The second feed-forward call: what the kernel leaves in its result array is, at row `r` and column `n`, the row with half of the
   network's output added, divided by its root mean square and weighed; and so is what the reference leaves. The kernel sums the hidden
   columns by blocks of 512 and a tail of 384. -/
module

public import proofs.«01_k».proof.Defs
public import proofs.«01_k».proof.Proof.Ffn.FinalFrame
public import proofs.«01_k».proof.Proof.Ffn.Net
public import proofs.«01_k».proof.Proof.Gen.FfnFinalRefIdeal.Run

@[expose] public section

set_option maxRecDepth 16384

noncomputable section

namespace Cert.FfnFinalIdeal.Net

open Cert.FfnFinalIdeal Cert.FfnFinalIdeal.Gen Cert.FfnFinalIdeal.Stream Idealize.ShloMosaic Idealize.ShloMosaic.TcCoe Idealize.SL.Sem
open Idealize.ShloMosaic.Pipeline (Dat)

section Blocks
variable {F : FTy → Type} [FloatOps F]
variable (m : (ℓ : Loc nD τ sig) → Buf (Elt F) ℓ) (ρ : Dev nD → PrngReg)

theorem index_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 11 ∧ win0_6.index t (1 : Fin 2) = 0 :=
  (by decide +kernel : ∀ t : Fin grid0.N, _)

theorem row_lt (t : Fin cfg0.N) (a : Fin 512) : 512 * (t.val / 11) + a.val < 16384 := by
  have h : t.val < 352 := t.isLt
  omega

theorem blkX_apply (c : Dev nD) (t : Fin cfg0.N) (a : Fin 512) (b : Fin 2048) :
    blkX m c t (ix2 a b) = m ((c : Thread nD τ).loc main_arg0) (ix2 ⟨512 * (t.val / 11) + a.val, row_lt t a⟩ b) := by
  obtain ⟨e0, e1, -⟩ := index_facts t
  rw [← V_main_arg0 m c]
  show V m c main_arg0 (((cfg0.win 0).blk t).view.emb _) = _
  congr 1
  funext k; apply Fin.ext
  match k with
  | ⟨0, _⟩ => show win0_0.index t (0 : Fin 2) * 512 + 1 * a.val = 512 * (t.val / 11) + a.val; rw [e0]; omega
  | ⟨1, _⟩ => show win0_0.index t (1 : Fin 2) * 2048 + 1 * b.val = b.val; rw [e1]; omega

theorem blkN_eq (c : Dev nD) (t : Fin cfg0.N) (b : Fin 2048) : blkN m c t (ix2 0 b) = V m c main_v1 (ix2 0 b) := by
  obtain ⟨-, -, e0, e1, -⟩ := index_facts t
  show V m c main_v1 (((cfg0.win 1).blk t).view.emb _) = _
  congr 1
  funext k; apply Fin.ext
  match k with
  | ⟨0, _⟩ => show win0_1.index t (0 : Fin 2) * 1 + 1 * 0 = 0; rw [e0]
  | ⟨1, _⟩ => show win0_1.index t (1 : Fin 2) * 2048 + 1 * b.val = b.val; rw [e1]; omega

theorem blkTg_eq (c : Dev nD) (t : Fin cfg0.N) (a : Fin 2048) (b : Fin 384) : blkTg m c t (ix2 a b) = V m c main_v9 (ix2 a b) := by
  obtain ⟨-, -, -, -, e0, e1, -⟩ := index_facts t
  show V m c main_v9 (((cfg0.win 2).blk t).view.emb _) = _
  congr 1
  funext k; apply Fin.ext
  match k with
  | ⟨0, _⟩ => show win0_2.index t (0 : Fin 2) * 2048 + 1 * a.val = a.val; rw [e0]; omega
  | ⟨1, _⟩ => show win0_2.index t (1 : Fin 2) * 384 + 1 * b.val = b.val; rw [e1]; omega

theorem blkTu_eq (c : Dev nD) (t : Fin cfg0.N) (a : Fin 2048) (b : Fin 384) : blkTu m c t (ix2 a b) = V m c main_v10 (ix2 a b) := by
  obtain ⟨-, -, -, -, -, -, e0, e1, -⟩ := index_facts t
  show V m c main_v10 (((cfg0.win 3).blk t).view.emb _) = _
  congr 1
  funext k; apply Fin.ext
  match k with
  | ⟨0, _⟩ => show win0_3.index t (0 : Fin 2) * 2048 + 1 * a.val = a.val; rw [e0]; omega
  | ⟨1, _⟩ => show win0_3.index t (1 : Fin 2) * 384 + 1 * b.val = b.val; rw [e1]; omega

theorem blkTd_eq (c : Dev nD) (t : Fin cfg0.N) (a : Fin 384) (b : Fin 2048) : blkTd m c t (ix2 a b) = V m c main_v11 (ix2 a b) := by
  obtain ⟨-, -, -, -, -, -, -, -, e0, e1, -⟩ := index_facts t
  show V m c main_v11 (((cfg0.win 4).blk t).view.emb _) = _
  congr 1
  funext k; apply Fin.ext
  match k with
  | ⟨0, _⟩ => show win0_4.index t (0 : Fin 2) * 384 + 1 * a.val = a.val; rw [e0]; omega
  | ⟨1, _⟩ => show win0_4.index t (1 : Fin 2) * 2048 + 1 * b.val = b.val; rw [e1]; omega

theorem blkF_eq (c : Dev nD) (t : Fin cfg0.N) (b : Fin 2048) : blkF m c t (ix2 0 b) = V m c main_v8 (ix2 0 b) := by
  obtain ⟨-, -, -, -, -, -, -, -, -, -, e0, e1, -⟩ := index_facts t
  show V m c main_v8 (((cfg0.win 5).blk t).view.emb _) = _
  congr 1
  funext k; apply Fin.ext
  match k with
  | ⟨0, _⟩ => show win0_5.index t (0 : Fin 2) * 1 + 1 * 0 = 0; rw [e0]
  | ⟨1, _⟩ => show win0_5.index t (1 : Fin 2) * 2048 + 1 * b.val = b.val; rw [e1]; omega

/-! The arrays the host prepares: the two norms' weights as rows, the matrices rounded, and their last 384 columns or rows. -/

theorem V_norm (c : Dev nD) : V m c main_v1 = shapeCast S1x2048
    (shapeCast S2048 (m ((c : Thread nD τ).loc main_arg1)) shapeCasts_S1x2048_S2048) shapeCasts_S2048_S1x2048 := by
  unfold V
  after_results <;> rfl
theorem V_closing (c : Dev nD) : V m c main_v8 = shapeCast S1x2048 (m ((c : Thread nD τ).loc main_arg5)) shapeCasts_S2048_S1x2048 := by
  unfold V
  after_results <;> rfl
theorem V_gate (c : Dev nD) : V m c main_v3 = truncf .bf16
    (shapeCast S2048x5504 (m ((c : Thread nD τ).loc main_arg2)) shapeCasts_S1x2048x5504_S2048x5504) bitsLt_bf16_f32 := by
  unfold V
  after_results <;> rfl
theorem V_up (c : Dev nD) : V m c main_v5 = truncf .bf16
    (shapeCast S2048x5504 (m ((c : Thread nD τ).loc main_arg3)) shapeCasts_S1x2048x5504_S2048x5504) bitsLt_bf16_f32 := by
  unfold V
  after_results <;> rfl
theorem V_down (c : Dev nD) : V m c main_v7 = truncf .bf16
    (shapeCast S5504x2048 (m ((c : Thread nD τ).loc main_arg4)) shapeCasts_S1x5504x2048_S5504x2048) bitsLt_bf16_f32 := by
  unfold V
  after_results <;> rfl
theorem V_gateTail (c : Dev nD) : V m c main_v9 = extractStridedSlice S2048x384 ![0, 5120] (V m c main_v3) slices_S2048x5504_S2048x384_0_5120 := by
  rw [V_gate]
  unfold V
  after_results <;> rfl
theorem V_upTail (c : Dev nD) : V m c main_v10 = extractStridedSlice S2048x384 ![0, 5120] (V m c main_v5) slices_S2048x5504_S2048x384_0_5120 := by
  rw [V_up]
  unfold V
  after_results <;> rfl
theorem V_downTail (c : Dev nD) : V m c main_v11 = extractStridedSlice S384x2048 ![5120, 0] (V m c main_v7) slices_S5504x2048_S384x2048_5120_0 := by
  rw [V_down]
  unfold V
  after_results <;> rfl

/-! The streamed blocks: step `10 i + j` brings the columns, and the rows, from `512 j` on. -/

theorem col_lt {j : ℕ} (h : j ≤ 9) (l : Fin 512) : 512 * j + l.val < 5504 := by omega

theorem gAt_apply (c : Dev nD) (W : Vec F S2048x5504 .bf16) (i j : ℕ) (hi : i < 32) (hj : j ≤ 9) (k : Fin 2048) (l : Fin 512) :
    gAt (c := c) W (10 * i + j) (ix2 k l) = W (ix2 k ⟨512 * j + l.val, col_lt hj l⟩) := by
  show W ((colBlk gMat (Ring.bk 320 (10 * i + j))).view.emb _) = _
  congr 1
  funext x; apply Fin.ext
  match x with
  | ⟨0, _⟩ => show 0 + 1 * k.val = k.val; omega
  | ⟨1, _⟩ => show 512 * (((10 * i + j) % 320) % 10) + 1 * l.val = 512 * j + l.val; omega
theorem uAt_apply (c : Dev nD) (W : Vec F S2048x5504 .bf16) (i j : ℕ) (hi : i < 32) (hj : j ≤ 9) (k : Fin 2048) (l : Fin 512) :
    uAt (c := c) W (10 * i + j) (ix2 k l) = W (ix2 k ⟨512 * j + l.val, col_lt hj l⟩) := by
  show W ((colBlk uMat (Ring.bk 320 (10 * i + j))).view.emb _) = _
  congr 1
  funext x; apply Fin.ext
  match x with
  | ⟨0, _⟩ => show 0 + 1 * k.val = k.val; omega
  | ⟨1, _⟩ => show 512 * (((10 * i + j) % 320) % 10) + 1 * l.val = 512 * j + l.val; omega
theorem dAt_apply (c : Dev nD) (W : Vec F S5504x2048 .bf16) (i j : ℕ) (hi : i < 32) (hj : j ≤ 9) (l : Fin 512) (n : Fin 2048) :
    dAt (c := c) W (10 * i + j) (ix2 l n) = W (ix2 ⟨512 * j + l.val, col_lt hj l⟩ n) := by
  show W ((rowBlk dMat (Ring.bk 320 (10 * i + j))).view.emb _) = _
  congr 1
  funext x; apply Fin.ext
  match x with
  | ⟨0, _⟩ => show 512 * (((10 * i + j) % 320) % 10) + 1 * l.val = 512 * j + l.val; omega
  | ⟨1, _⟩ => show 0 + 1 * n.val = n.val; omega

/-! The result array, where a row block's last point wrote it. -/

theorem same_block : ∀ t t' : Fin cfg0.N, (cfg0.win 6).flush t = true → (cfg0.win 6).flush t' = true → (cfg0.win 6).index t = (cfg0.win 6).index t' → t = t' := by
  intro t t' h h' e
  have e0 : t.val / 11 = t'.val / 11 := by
    have := congrFun e (0 : Fin 2)
    obtain ⟨-, -, -, -, -, -, -, -, -, -, -, -, a, -⟩ := index_facts t
    obtain ⟨-, -, -, -, -, -, -, -, -, -, -, -, b, -⟩ := index_facts t'
    exact a.symm.trans (this.trans b)
  rw [flush0_6] at h h'
  exact Fin.ext (by omega)

theorem final_apply (c : Dev nD) (t : Fin cfg0.N) (ht : t.val % 11 = 10) (a : Fin 512) (b : Fin 2048) :
    (dats m 0 c).arrAt 6 cfg0.N (ix2 ⟨512 * (t.val / 11) + a.val, row_lt t a⟩ b) = outOf m c (t.val / 11) t (ix2 a b) := by
  obtain ⟨-, -, -, -, -, -, -, -, -, -, -, -, e0, e1⟩ := index_facts t
  refine .trans ?_ ((congrFun ((dats m 0 c).read_blk_arrAt_eq_flushed 6 (fun t t' h h' hne => (cfg0.win 6).disjoint_blk fun e => hne (same_block t t' h h' e)) cfg0.N t t.isLt
    ((flush0_6 t).2 ht)) (ix2 a b)).trans ?_)
  · show _ = (dats m 0 c).arrAt 6 cfg0.N (((cfg0.win 6).blk t).view.emb _)
    congr 1
    funext k; apply Fin.ext
    match k with
    | ⟨0, _⟩ => show 512 * (t.val / 11) + a.val = win0_6.index t (0 : Fin 2) * 512 + 1 * a.val; rw [e0]; omega
    | ⟨1, _⟩ => show b.val = win0_6.index t (1 : Fin 2) * 2048 + 1 * b.val; rw [e1]; omega
  · show (cfg0.win 6).cut (grid0.coords t) ((dats m 0 c).after 6 t) (ix2 a b) = _
    rw [after6]
    unfold resAt
    rw [if_pos ht]
    rfl

end Blocks

/-! ## At the extended reals -/

theorem rows_apply (x : Vec Ideal S512x2048 .f32) (g : Vec Ideal S1x2048 .f32) (a : Fin 512) (k : Fin 2048) :
    k0_pay1 (F := Ideal) x g (ix2 a k) = Swiglu.unitRow (fun j => x (ix2 a j)) (fun j => g (ix2 0 j)) k := by
  unfold Swiglu.unitRow
  pointwise [k0_pay1]

theorem hid_apply (B : Vec Ideal S2048x512 .bf16) (xn : Vec Ideal S512x2048 .bf16) (a l : Fin 512) :
    k0_pay6 (F := Ideal) (colRaised B) xn (ix2 a l) = ∑ k : Fin 2048, (xn (ix2 a k) * B (ix2 k l) : EReal) := by
  have h : shapeCast S2048x512 (colRaised B) shapeCasts_S1x2048x512_S2048x512 = B := shapeCast_shapeCast _ _ _
  unfold k0_pay6
  rw [h]
  pointwise

theorem up_apply (B : Vec Ideal S2048x512 .bf16) (xn : Vec Ideal S512x2048 .bf16) (a l : Fin 512) :
    k0_pay7 (F := Ideal) (colRaised B) xn (ix2 a l) = ∑ k : Fin 2048, (xn (ix2 a k) * B (ix2 k l) : EReal) := by
  have h : shapeCast S2048x512 (colRaised B) shapeCasts_S1x2048x512_S2048x512 = B := shapeCast_shapeCast _ _ _
  unfold k0_pay7
  rw [h]
  pointwise

theorem mixed_apply (xn : Vec Ideal S512x2048 .bf16) (g u : Vec Ideal S2048x512 .bf16) (d : Vec Ideal S512x2048 .bf16)
    (acc : Vec Ideal S512x2048 .f32) (a : Fin 512) (n : Fin 2048) :
    mixed (F := Ideal) xn g u d acc (ix2 a n) = acc (ix2 a n) + ∑ l : Fin 512,
      ((∑ k : Fin 2048, (xn (ix2 a k) * g (ix2 k l) : EReal)) * Ideal.logistic (∑ k : Fin 2048, (xn (ix2 a k) * g (ix2 k l) : EReal))
        * (∑ k : Fin 2048, (xn (ix2 a k) * u (ix2 k l) : EReal)) * d (ix2 l n) : EReal) := by
  have h : k0_pay5 (rowRaised d) = d := by unfold k0_pay5 rowRaised; exact shapeCast_shapeCast _ _ _
  unfold mixed
  rw [h]
  refine Eq.trans (b := acc (ix2 a n) + ∑ l : Fin 512, ((k0_pay6 (F := Ideal) (colRaised g) xn (ix2 a l)
    * Ideal.logistic (k0_pay6 (F := Ideal) (colRaised g) xn (ix2 a l)) * k0_pay7 (F := Ideal) (colRaised u) xn (ix2 a l)) * d (ix2 l n) : EReal)) ?_ ?_
  · unfold k0_pay8
    generalize k0_pay6 (F := Ideal) (colRaised g) xn = hg
    generalize k0_pay7 (F := Ideal) (colRaised u) xn = hu
    pointwise [k0_pay3, k0_pay9]
    simp only [Scalars.sigmoid]
  · simp only [hid_apply, up_apply]

theorem tail_apply (tg tu : Vec Ideal S2048x384 .bf16) (td : Vec Ideal S384x2048 .bf16) (xn : Vec Ideal S512x2048 .bf16)
    (acc : Vec Ideal S512x2048 .f32) (a : Fin 512) (n : Fin 2048) :
    k0_pay10 (F := Ideal) tg tu td xn acc (ix2 a n) = acc (ix2 a n) + ∑ l : Fin 384,
      ((∑ k : Fin 2048, (xn (ix2 a k) * tg (ix2 k l) : EReal)) * Ideal.logistic (∑ k : Fin 2048, (xn (ix2 a k) * tg (ix2 k l) : EReal))
        * (∑ k : Fin 2048, (xn (ix2 a k) * tu (ix2 k l) : EReal)) * td (ix2 l n) : EReal) := by
  pointwise [k0_pay10]
  simp only [Scalars.sigmoid]

theorem closed_apply (x : Vec Ideal S512x2048 .f32) (g : Vec Ideal S1x2048 .f32) (acc : Vec Ideal S512x2048 .f32) (a : Fin 512) (n : Fin 2048) :
    closed (F := Ideal) x g acc (ix2 a n)
      = Swiglu.unitRow (fun j => x (ix2 a j) + Ideal.ofBits .f32 0x3F000000#32 * acc (ix2 a j)) (fun j => g (ix2 0 j)) n := by
  unfold Swiglu.unitRow closed
  pointwise [k0_pay4, k0_pay11, k0_pay12, k0_pay13]

section Sums
variable (m : (ℓ : Loc nD τ sig) → Buf (Elt Ideal) ℓ) (c : Dev nD)

/-- The arguments, by row and column. -/
def rowX (r : Fin 16384) (k : Fin 2048) : EReal := m ((c : Thread nD τ).loc main_arg0) (ix2 r k)
def wN (k : Fin 2048) : EReal := m ((c : Thread nD τ).loc main_arg1) (ix2 0 k)
def wG (k : Fin 2048) (q : Fin 5504) : EReal := m ((c : Thread nD τ).loc main_arg2) (ix3 0 k q)
def wU (k : Fin 2048) (q : Fin 5504) : EReal := m ((c : Thread nD τ).loc main_arg3) (ix3 0 k q)
def wD (q : Fin 5504) (n : Fin 2048) : EReal := m ((c : Thread nD τ).loc main_arg4) (ix3 0 q n)
def wF (n : Fin 2048) : EReal := m ((c : Thread nD τ).loc main_arg5) (ix1 n)

theorem gate_apply (k : Fin 2048) (q : Fin 5504) : V m c main_v3 (ix2 k q) = wG m c k q := by
  rw [V_gate]; exact Swiglu.drop_apply _ _ _ _
theorem upm_apply (k : Fin 2048) (q : Fin 5504) : V m c main_v5 (ix2 k q) = wU m c k q := by
  rw [V_up]; exact Swiglu.drop_apply _ _ _ _
theorem down_apply (q : Fin 5504) (n : Fin 2048) : V m c main_v7 (ix2 q n) = wD m c q n := by
  rw [V_down]; exact Swiglu.drop_apply _ _ _ _

theorem colTail_apply (W : Vec Ideal S2048x5504 .bf16) (k : Fin 2048) (l : Fin 384) :
    extractStridedSlice S2048x384 ![0, 5120] W slices_S2048x5504_S2048x384_0_5120 (ix2 k l) = W (ix2 k ⟨5120 + l.val, by omega⟩) := by
  pointwise
theorem rowTail_apply (W : Vec Ideal S5504x2048 .bf16) (l : Fin 384) (n : Fin 2048) :
    extractStridedSlice S384x2048 ![5120, 0] W slices_S5504x2048_S384x2048_5120_0 (ix2 l n) = W (ix2 ⟨5120 + l.val, by omega⟩ n) := by
  pointwise

theorem gTail_apply (t : Fin cfg0.N) (k : Fin 2048) (l : Fin 384) : blkTg m c t (ix2 k l) = wG m c k ⟨5120 + l.val, by omega⟩ := by
  rw [blkTg_eq, V_gateTail]; exact (colTail_apply _ _ _).trans (gate_apply m c _ _)
theorem uTail_apply (t : Fin cfg0.N) (k : Fin 2048) (l : Fin 384) : blkTu m c t (ix2 k l) = wU m c k ⟨5120 + l.val, by omega⟩ := by
  rw [blkTu_eq, V_upTail]; exact (colTail_apply _ _ _).trans (upm_apply m c _ _)
theorem dTail_apply (t : Fin cfg0.N) (l : Fin 384) (n : Fin 2048) : blkTd m c t (ix2 l n) = wD m c ⟨5120 + l.val, by omega⟩ n := by
  rw [blkTd_eq, V_downTail]; exact (rowTail_apply _ _ _).trans (down_apply m c _ _)

variable (i : ℕ) (hi : i < 32) (a : Fin 512)

include hi in
theorem gBlock_apply (j : ℕ) (hj : j ≤ 9) (k : Fin 2048) (l : Fin 512) :
    gAt (c := c) (V m c main_v3) (10 * i + j) (ix2 k l) = wG m c k ⟨512 * j + l.val, col_lt hj l⟩ :=
  (gAt_apply c _ i j hi hj k l).trans (gate_apply m c _ _)
include hi in
theorem uBlock_apply (j : ℕ) (hj : j ≤ 9) (k : Fin 2048) (l : Fin 512) :
    uAt (c := c) (V m c main_v5) (10 * i + j) (ix2 k l) = wU m c k ⟨512 * j + l.val, col_lt hj l⟩ :=
  (uAt_apply c _ i j hi hj k l).trans (upm_apply m c _ _)
include hi in
theorem dBlock_apply (j : ℕ) (hj : j ≤ 9) (l : Fin 512) (n : Fin 2048) :
    dAt (c := c) (V m c main_v7) (10 * i + j) (ix2 l n) = wD m c ⟨512 * j + l.val, col_lt hj l⟩ n :=
  (dAt_apply c _ i j hi hj l n).trans (down_apply m c _ _)

/-- Row `a` of row block `i`. -/
def rowNo : Fin 16384 := ⟨512 * i + a.val, by omega⟩

include hi in
theorem pt_div : ((pt (11 * i)).val : ℕ) / 11 = i := by
  show (11 * i) % 352 / 11 = i; omega

theorem rowsOf_apply (k : Fin 2048) : rowsOf m c i (ix2 a k) = Swiglu.unitRow (rowX m c (rowNo i hi a)) (wN m c) k := by
  unfold rowsOf
  rw [rows_apply]
  refine congrArg₂ (fun p q => Swiglu.unitRow p q k) (funext fun j => ?_) (funext fun j => ?_)
  · rw [blkX_apply]
    exact congrArg (fun r => m ((c : Thread nD τ).loc main_arg0) (ix2 r j)) (Fin.ext (by
      show 512 * ((pt (11 * i)).val / 11) + a.val = 512 * i + a.val; rw [pt_div i hi]))
  · rw [blkN_eq, V_norm]
    exact (Swiglu.raise_apply _ _ _).trans (Swiglu.flat_apply _ _ _)

/-- What hidden column `q` adds to output column `n` in that row. -/
abbrev part (n : Fin 2048) : Fin 5504 → EReal := Swiglu.share (Swiglu.unitRow (rowX m c (rowNo i hi a)) (wN m c)) (wG m c) (wU m c) (wD m c) n

theorem block_sum (n : Fin 2048) (j : ℕ) (hj : j ≤ 9) (acc : Vec Ideal S512x2048 .f32) :
    mixed (F := Ideal) (rowsOf m c i) (gAt (c := c) (V m c main_v3) (10 * i + j)) (uAt (c := c) (V m c main_v5) (10 * i + j))
      (dAt (c := c) (V m c main_v7) (10 * i + j)) acc (ix2 a n)
      = acc (ix2 a n) + ∑ l : Fin 512, part m c i hi a n ⟨512 * j + l.val, col_lt hj l⟩ := by
  rw [mixed_apply]
  refine congrArg (fun s : EReal => acc (ix2 a n) + s) (Finset.sum_congr rfl fun l _ => ?_)
  unfold part Swiglu.share Swiglu.hidden
  simp only [gBlock_apply m c i hi j hj, uBlock_apply m c i hi j hj, dBlock_apply m c i hi j hj, rowsOf_apply m c i hi a]

theorem accTo_apply (n : Fin 2048) (j : ℕ) (hj : j ≤ 9) : accTo m c i j (ix2 a n) = Swiglu.firsts (part m c i hi a n) (512 * (j + 1)) := by
  induction j with
  | zero =>
    refine (block_sum m c i hi a n 0 hj _).trans ?_
    have e := Swiglu.firsts_add (part m c i hi a n) 0 512 (by omega)
    rw [Swiglu.firsts_zero] at e
    refine Eq.trans ?_ e.symm
    refine congrArg₂ (· + · : EReal → EReal → EReal) ?_ (Finset.sum_congr rfl fun l _ => ?_)
    · pointwise [k0_pay2]
    · exact congrArg _ (Fin.ext (by show 512 * 0 + l.val = 0 + l.val; omega))
  | succ j ih =>
    refine (block_sum m c i hi a n (j + 1) hj _).trans ?_
    rw [ih (by omega), show 512 * (j + 1 + 1) = 512 * (j + 1) + 512 by ring, Swiglu.firsts_add _ _ _ (by omega)]

theorem total_apply (t : Fin cfg0.N) (n : Fin 2048) :
    k0_pay10 (F := Ideal) (blkTg m c t) (blkTu m c t) (blkTd m c t) (rowsOf m c i) (accTo m c i 9) (ix2 a n) = ∑ q, part m c i hi a n q := by
  rw [tail_apply, accTo_apply m c i hi a n 9 le_rfl, ← Swiglu.firsts_all]
  show _ = Swiglu.firsts _ (5120 + 384)
  rw [Swiglu.firsts_add _ 5120 384 (by omega)]
  refine congrArg (fun s : EReal => Swiglu.firsts (part m c i hi a n) 5120 + s) (Finset.sum_congr rfl fun l _ => ?_)
  unfold part Swiglu.share Swiglu.hidden
  simp only [gTail_apply, uTail_apply, dTail_apply, rowsOf_apply m c i hi a]

end Sums

/-- The network's row, and the closing norm. -/
def entry (x : S16384x2048.Idx → EReal) (g : S1x2048.Idx → EReal) (wg wu : S1x2048x5504.Idx → EReal) (wd : S1x5504x2048.Idx → EReal)
    (f : S2048.Idx → EReal) (r : Fin 16384) (n : Fin 2048) : EReal :=
  Swiglu.unitRow (Swiglu.outRow (fun k => x (ix2 r k)) (fun k => g (ix2 0 k)) (fun k q => wg (ix3 0 k q)) (fun k q => wu (ix3 0 k q))
    (fun q n => wd (ix3 0 q n))) (fun k => f (ix1 k)) n

/-- The kernel's result at row `r` and column `n`. -/
theorem result_apply (m : (ℓ : Loc nD τ sig) → Buf (Elt Ideal) ℓ) (c : Dev nD) (r : Fin 16384) (n : Fin 2048) :
    (dats m 0 c).arrAt 6 cfg0.N (ix2 r n) = entry (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) r n := by
  have hi : r.val / 512 < 32 := by omega
  have ht : 11 * (r.val / 512) + 10 < 352 := by omega
  have h := final_apply m c ⟨11 * (r.val / 512) + 10, ht⟩ (by show (11 * (r.val / 512) + 10) % 11 = 10; omega) ⟨r.val % 512, by omega⟩ n
  have ed : (11 * (r.val / 512) + 10) / 11 = r.val / 512 := by omega
  have er : ∀ p, (⟨512 * ((11 * (r.val / 512) + 10) / 11) + r.val % 512, p⟩ : Fin 16384) = r := fun _ => Fin.ext (by dsimp only; omega)
  have en : rowNo (r.val / 512) hi ⟨r.val % 512, by omega⟩ = r := Fin.ext (by show 512 * (r.val / 512) + r.val % 512 = r.val; omega)
  dsimp only at h
  rw [er, ed] at h
  refine h.trans ?_
  unfold outOf entry
  rw [closed_apply]
  refine congrArg₂ (fun p q => Swiglu.unitRow p q n) (funext fun k => ?_) (funext fun k => ?_)
  · rw [total_apply m c _ hi, blkX_apply]
    unfold part
    rw [en]
    dsimp only
    rw [er]
    rfl
  · rw [blkF_eq, V_closing]
    exact Swiglu.raise_apply _ _ _

end Cert.FfnFinalIdeal.Net

namespace Cert.FfnFinalRefIdeal.Net

open Cert.FfnFinalRefIdeal Cert.FfnFinalRefIdeal.Gen Idealize.ShloMosaic Idealize.ShloMosaic.TcCoe

/-- The rows divided by their root mean square and weighed. -/
def normed (x : Vec Ideal S16384x2048 .f32) (g : Vec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32) reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

theorem normed_apply (x : Vec Ideal S16384x2048 .f32) (g : Vec Ideal S2048 .f32) (r : Fin 16384) (k : Fin 2048) :
    normed x g (ix2 r k) = Swiglu.unitRow (fun j => x (ix2 r j)) (fun j => g (ix1 j)) k := by
  unfold Swiglu.unitRow
  pointwise [normed]

/-- The hidden columns of the rows `x`, gated. -/
def gated (x : Vec Ideal S16384x2048 .f32) (wg wu : Vec Ideal S2048x5504 .f32) : FVec Ideal S16384x5504 .f32 :=
  mulf (mulf (Host.dotGeneral (F := Ideal) (φ₁ := .f32) (φ₂ := .f32) dot_S16384x2048_S2048x5504_S16384x5504_1_0_0_1_n_n none x wg)
    (Host.divf (broadcastInDim S16384x5504 ![] bcast_S_S16384x5504 (constant S_ .f32 0x3F800000#32))
      (addf (broadcastInDim S16384x5504 ![] bcast_S_S16384x5504 (constant S_ .f32 0x3F800000#32)) (Host.exp (Host.negf
        (Host.dotGeneral (F := Ideal) (φ₁ := .f32) (φ₂ := .f32) dot_S16384x2048_S2048x5504_S16384x5504_1_0_0_1_n_n none x wg))))))
    (Host.dotGeneral (F := Ideal) (φ₁ := .f32) (φ₂ := .f32) dot_S16384x2048_S2048x5504_S16384x5504_1_0_0_1_n_n none x wu)

theorem gated_apply (x : Vec Ideal S16384x2048 .f32) (wg wu : Vec Ideal S2048x5504 .f32) (r : Fin 16384) (q : Fin 5504) :
    gated x wg wu (ix2 r q) = Swiglu.hidden (fun j => x (ix2 r j)) (fun k q => wg (ix2 k q)) q
      * Ideal.logistic (Swiglu.hidden (fun j => x (ix2 r j)) (fun k q => wg (ix2 k q)) q)
      * Swiglu.hidden (fun j => x (ix2 r j)) (fun k q => wu (ix2 k q)) q := by
  unfold Swiglu.hidden
  pointwise [gated]
  rfl

/-- The rows `x` with half of the network's output on the rows `y` added. -/
def added (x y : Vec Ideal S16384x2048 .f32) (wg wu : Vec Ideal S2048x5504 .f32) (wd : Vec Ideal S5504x2048 .f32) : FVec Ideal S16384x2048 .f32 :=
  addf x (mulf (broadcastInDim S16384x2048 ![] bcast_S_S16384x2048 (constant S_ .f32 0x3F000000#32))
    (Host.dotGeneral (F := Ideal) (φ₁ := .f32) (φ₂ := .f32) dot_S16384x5504_S5504x2048_S16384x2048_1_0_0_1_n_n none (gated y wg wu) wd))

theorem added_apply (x y : Vec Ideal S16384x2048 .f32) (wg wu : Vec Ideal S2048x5504 .f32) (wd : Vec Ideal S5504x2048 .f32) (r : Fin 16384)
    (n : Fin 2048) : added x y wg wu wd (ix2 r n) = x (ix2 r n) + Ideal.ofBits .f32 0x3F000000#32 * ∑ q, Swiglu.share (fun j => y (ix2 r j))
      (fun k q => wg (ix2 k q)) (fun k q => wu (ix2 k q)) (fun q n => wd (ix2 q n)) n q := by
  unfold Swiglu.share
  simp only [← gated_apply]
  unfold added
  generalize gated y wg wu = h
  pointwise

/-- The reference's result at row `r` and column `n`. -/
theorem ref_apply (m : (ℓ : Loc nD τ sig) → Buf (Elt Ideal) ℓ) (c : Dev nD) (r : Fin 16384) (n : Fin 2048) :
    Value.res_main_v37 (F := Ideal) m c (ix2 r n) = FfnFinalIdeal.Net.entry (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) r n := by
  unfold Value.res_main_v37
  generalize m ((c : Thread nD τ).loc main_arg0) = x
  generalize m ((c : Thread nD τ).loc main_arg1) = g
  generalize m ((c : Thread nD τ).loc main_arg2) = wg
  generalize m ((c : Thread nD τ).loc main_arg3) = wu
  generalize m ((c : Thread nD τ).loc main_arg4) = wd
  generalize m ((c : Thread nD τ).loc main_arg5) = f
  refine (normed_apply (added x (normed x (shapeCast S2048 g shapeCasts_S1x2048_S2048)) (shapeCast S2048x5504 wg shapeCasts_S1x2048x5504_S2048x5504)
    (shapeCast S2048x5504 wu shapeCasts_S1x2048x5504_S2048x5504) (shapeCast S5504x2048 wd shapeCasts_S1x5504x2048_S5504x2048)) f r n).trans ?_
  unfold FfnFinalIdeal.Net.entry Swiglu.outRow
  simp only [added_apply, normed_apply, Swiglu.flat_apply, Swiglu.drop_apply]

end Cert.FfnFinalRefIdeal.Net

namespace Cert.FfnFinalIdeal.Net

open Idealize.ShloMosaic Idealize.SL.Sem Cert.FfnFinalIdeal.Gen Cert.FfnFinalIdeal.Stream

/-- The kernel and the reference leave the same array. -/
theorem algebraic : Cert.algebraic_FfnFinalIdeal_FfnFinalRefIdeal := by
  intro m g m' g' _ hargs
  refine ⟨fun c => (dats m 0 c).arrAt 6 cfg0.N, (θ_run Cert.FfnFinalIdeal.defs _ _).mono (fun r h => h.1) (run_named m g), ?_⟩
  refine (θ_run Cert.FfnFinalRefIdeal.defs _ _).mono (fun r h c => ?_) (Cert.FfnFinalRefIdeal.Value.run m' g')
  obtain ⟨h0, h1⟩ := h c
  refine ⟨h0.trans ?_, h1⟩
  obtain ⟨e0, e1, e2, e3, e4, e5⟩ := hargs c
  funext i
  rw [eq_ix2 i]
  refine (FfnFinalRefIdeal.Net.ref_apply _ _ _ _).trans (.trans ?_ (result_apply m c _ _).symm)
  rw [e0, e1, e2, e3, e4, e5]

end Cert.FfnFinalIdeal.Net

end
-- ==== Proof.Ffn.FinalPrinted.lean ====
/- The frame of the second feed-forward call as printed: its text is that of the program at the extended reals, and the run is stated at any
   values. -/
module

public import proofs.«01_k».proof.Proof.Ffn.FinalFrame
public import proofs.«01_k».proof.Proof.Gen.FfnFinal.Frame
public import Idealize.ShloMosaic.PureOps.BitExact

@[expose] public section

noncomputable section

namespace Cert.FfnFinal.Stream

open Cert.FfnFinal
open Idealize.ShloMosaic Idealize.ShloMosaic.TcCoe Idealize.SL.Sem

/-- The two body tables are one. -/
theorem bodies_eq {F : FTy → Type} [FloatOps F] : defs₀ (F := F) = Cert.FfnFinalIdeal.defs₀ (F := F) := by
  unfold defs₀ Cert.FfnFinalIdeal.defs₀
  refine congrArg (Defs.onTc (nD := Cert.FfnFinalIdeal.nD) (τ := Cert.FfnFinalIdeal.τ) (sig := Cert.FfnFinalIdeal.sig)
    (Val := Elt F) (Λ := Cert.FfnFinalIdeal.Λ₀)) ?_
  funext l a
  match l, a with
  | 0, (t, s) => rfl
  | ⟨_ + 1, h⟩, _ => exact absurd h (Nat.not_lt.2 (Nat.le_add_left _ _))

theorem tables_eq {F : FTy → Type} [FloatOps F] : defs (F := F) = Cert.FfnFinalIdeal.defs (F := F) :=
  congrArg (Pipeline.defs _) bodies_eq

/-- The arguments unchanged, the counters at zero. -/
theorem quiescent (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [tables_eq]
  exact (θ_run Cert.FfnFinalIdeal.defs _ _).mono (fun _ h => h) (Cert.FfnFinalIdeal.Stream.quiescent (F := Bits) m ρ)

end Cert.FfnFinal.Stream

end
-- ==== Proof.lean ====
/- The claim of the certificate, put together from the modules under `Proof/`: the programs' stated facts, then the
frames, then for each call that idealization changes nothing but the constants it names and that the ideal kernel
computes what the ideal reference computes. -/
module

public import proofs.«01_k».proof.Defs
public import proofs.«01_k».proof.Proof.InProj.Rnn
public import proofs.«01_k».proof.Proof.Gen.InRnn.Frame
public import proofs.«01_k».proof.Proof.InProj.Attn
public import proofs.«01_k».proof.Proof.Gen.InAttn.Frame
public import proofs.«01_k».proof.Proof.InProj.Idx
public import proofs.«01_k».proof.Proof.Gen.InIdx.Frame
public import proofs.«01_k».proof.Proof.InProj.Gates
public import proofs.«01_k».proof.Proof.Gen.InGates.Frame
public import proofs.«01_k».proof.Proof.Attn.Launch
public import proofs.«01_k».proof.Proof.Gen.Bias.Frame
public import proofs.«01_k».proof.Proof.Merge
public import proofs.«01_k».proof.Proof.Gen.Merge.Frame
public import proofs.«01_k».proof.Proof.OutProj
public import proofs.«01_k».proof.Proof.Gen.OutProj.Frame
public import proofs.«01_k».proof.Proof.Rglru.Claim
public import proofs.«01_k».proof.Proof.Gen.Rglru.Frame
public import proofs.«01_k».proof.Proof.Ffn.Resid
public import proofs.«01_k».proof.Proof.Ffn.ResidPrinted
public import proofs.«01_k».proof.Proof.Ffn.Final
public import proofs.«01_k».proof.Proof.Ffn.FinalPrinted

@[expose] public section

open Idealize.ShloMosaic Idealize.SL.Sem

/-- The reference of `InRnn` runs to the end, keeps its arguments, and has no semaphore. -/
theorem Cert.InRnnRefIdeal.Proof.frame : Cert.quiescent_InRnnRefIdeal := fun m ρ _ =>
  (θ_run Cert.InRnnRefIdeal.defs _ _).mono (fun r h => ⟨fun c => (h c).2, sem_eq_zero_of_no_sems (by decide) r.2⟩)
    (Cert.InRnnRefIdeal.Value.run (F := Ideal) m ρ)

/-- The reference of `InAttn` runs to the end, keeps its arguments, and has no semaphore. -/
theorem Cert.InAttnRefIdeal.Proof.frame : Cert.quiescent_InAttnRefIdeal := fun m ρ _ =>
  (θ_run Cert.InAttnRefIdeal.defs _ _).mono (fun r h => ⟨fun c => (h c).2, sem_eq_zero_of_no_sems (by decide) r.2⟩)
    (Cert.InAttnRefIdeal.Value.run (F := Ideal) m ρ)

/-- The reference of `InIdx` runs to the end, keeps its arguments, and has no semaphore. -/
theorem Cert.InIdxRefIdeal.Proof.frame : Cert.quiescent_InIdxRefIdeal := fun m ρ _ =>
  (θ_run Cert.InIdxRefIdeal.defs _ _).mono (fun r h => ⟨fun c => (h c).2, sem_eq_zero_of_no_sems (by decide) r.2⟩)
    (Cert.InIdxRefIdeal.Value.run (F := Ideal) m ρ)

/-- The reference of `InGates` runs to the end, keeps its arguments, and has no semaphore. -/
theorem Cert.InGatesRefIdeal.Proof.frame : Cert.quiescent_InGatesRefIdeal := fun m ρ _ =>
  (θ_run Cert.InGatesRefIdeal.defs _ _).mono (fun r h => ⟨fun c => (h c).2, sem_eq_zero_of_no_sems (by decide) r.2⟩)
    (Cert.InGatesRefIdeal.Value.run (F := Ideal) m ρ)

/-- The reference of `Merge` runs to the end, keeps its arguments, and has no semaphore. -/
theorem Cert.MergeRefIdeal.Proof.frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference of `OutProj` runs to the end, keeps its arguments, and has no semaphore. -/
theorem Cert.OutProjRefIdeal.Proof.frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The reference of `Rglru` runs to the end, keeps its arguments, and has no semaphore. -/
theorem Cert.RglruRefIdeal.Proof.frame : Cert.quiescent_RglruRefIdeal := fun m ρ _ =>
  (θ_run Cert.RglruRefIdeal.defs _ _).mono (fun r h => ⟨fun c => (h c).2, sem_eq_zero_of_no_sems (by decide) r.2⟩)
    (Cert.RglruRefIdeal.Recur.run (F := Ideal) m ρ)

/-- The reference of `FfnResid` runs to the end, keeps its arguments, and has no semaphore. -/
theorem Cert.FfnResidRefIdeal.Proof.frame : Cert.quiescent_FfnResidRefIdeal := fun m ρ _ =>
  (θ_run Cert.FfnResidRefIdeal.defs _ _).mono (fun r h => ⟨fun c => (h c).2.2, sem_eq_zero_of_no_sems (by decide) r.2⟩)
    (Cert.FfnResidRefIdeal.Value.run (F := Ideal) m ρ)

/-- The reference of `FfnFinal` runs to the end, keeps its arguments, and has no semaphore. -/
theorem Cert.FfnFinalRefIdeal.Proof.frame : Cert.quiescent_FfnFinalRefIdeal := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

theorem Cert.Proof.claim : Cert.Claim :=
  ⟨Cert.InRnn.Gen.facts,
    Cert.InRnnIdeal.Gen.facts,
    Cert.InRnnRefIdeal.Gen.facts,
    Cert.InAttn.Gen.facts,
    Cert.InAttnIdeal.Gen.facts,
    Cert.InAttnRefIdeal.Gen.facts,
    Cert.InIdx.Gen.facts,
    Cert.InIdxIdeal.Gen.facts,
    Cert.InIdxRefIdeal.Gen.facts,
    Cert.InGates.Gen.facts,
    Cert.InGatesIdeal.Gen.facts,
    Cert.InGatesRefIdeal.Gen.facts,
    Cert.Attn.Gen.facts,
    Cert.Bias.Gen.facts,
    Cert.Merge.Gen.facts,
    Cert.MergeIdeal.Gen.facts,
    Cert.MergeRefIdeal.Gen.facts,
    Cert.OutProj.Gen.facts,
    Cert.OutProjIdeal.Gen.facts,
    Cert.OutProjRefIdeal.Gen.facts,
    Cert.Rglru.Gen.facts,
    Cert.RglruIdeal.Gen.facts,
    Cert.RglruRefIdeal.Gen.facts,
    Cert.FfnResid.Gen.facts,
    Cert.FfnResidIdeal.Gen.facts,
    Cert.FfnResidRefIdeal.Gen.facts,
    Cert.FfnFinal.Gen.facts,
    Cert.FfnFinalIdeal.Gen.facts,
    Cert.FfnFinalRefIdeal.Gen.facts,
    fun m ρ _ => Cert.InRnn.Gen.frame m ρ,
    fun m ρ _ => Cert.InRnnIdeal.Gen.frame m ρ,
    Cert.InRnnRefIdeal.Proof.frame,
    fun m ρ _ => Cert.InAttn.Gen.frame m ρ,
    fun m ρ _ => Cert.InAttnIdeal.Gen.frame m ρ,
    Cert.InAttnRefIdeal.Proof.frame,
    fun m ρ _ => Cert.InIdx.Gen.frame m ρ,
    fun m ρ _ => Cert.InIdxIdeal.Gen.frame m ρ,
    Cert.InIdxRefIdeal.Proof.frame,
    fun m ρ _ => Cert.InGates.Gen.frame m ρ,
    fun m ρ _ => Cert.InGatesIdeal.Gen.frame m ρ,
    Cert.InGatesRefIdeal.Proof.frame,
    fun m ρ _ => Cert.Attn.frame m ρ,
    fun m ρ _ => Cert.Bias.Gen.frame m ρ,
    fun m ρ _ => Cert.Merge.Gen.frame m ρ,
    fun m ρ _ => Cert.MergeIdeal.Gen.frame m ρ,
    Cert.MergeRefIdeal.Proof.frame,
    fun m ρ _ => Cert.OutProj.Gen.frame m ρ,
    fun m ρ _ => Cert.OutProjIdeal.Gen.frame m ρ,
    Cert.OutProjRefIdeal.Proof.frame,
    fun m ρ _ => Cert.Rglru.Gen.frame m ρ,
    fun m ρ _ => Cert.RglruIdeal.Gen.frame m ρ,
    Cert.RglruRefIdeal.Proof.frame,
    fun m ρ _ => Cert.FfnResid.Stream.quiescent m ρ,
    fun m ρ _ => Cert.FfnResidIdeal.Stream.quiescent m ρ,
    Cert.FfnResidRefIdeal.Proof.frame,
    fun m ρ _ => Cert.FfnFinal.Stream.quiescent m ρ,
    fun m ρ _ => Cert.FfnFinalIdeal.Stream.quiescent m ρ,
    Cert.FfnFinalRefIdeal.Proof.frame,
    trivial,
    Cert.InRnnIdeal.Product.algebraic,
    trivial,
    Cert.InAttnIdeal.Product.algebraic,
    trivial,
    Cert.InIdxIdeal.Product.algebraic,
    trivial,
    Cert.InGatesIdeal.Product.algebraic,
    trivial,
    Cert.MergeIdeal.Product.algebraic,
    trivial,
    Cert.OutProjIdeal.Product.algebraic,
    Cert.RglruIdeal.Recur.preserves,
    Cert.RglruIdeal.Recur.algebraic,
    trivial,
    Cert.FfnResidIdeal.Net.algebraic,
    trivial,
    Cert.FfnFinalIdeal.Net.algebraic⟩

end
